-- ==== Defs.lean ====
def Pre_PreBwd (m : (ℓ : Loc Cert.PreBwd.nD Cert.PreBwd.τ Cert.PreBwd.sig) → Buf (Elt Bits) ℓ) : Prop :=
  True

def Pre_PreBwdIdeal (m : (ℓ : Loc Cert.PreBwdIdeal.nD Cert.PreBwdIdeal.τ Cert.PreBwdIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_conv_finite [hPre_conv_finite : Cert.Pre_conv_finite.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).1 = (fun _ => 1#1)
    ∧ (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.1 = (fun _ => 1#1)
    ∧ (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.2.1 = (fun _ => 1#1)
    ∧ (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.2.2.1 = (fun _ => 1#1)
    ∧ (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.2.2.2.1 = (fun _ => 1#1)
    ∧ (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.2.2.2.2 = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.2.2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.2.2.2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.2.2.2.2 = (fun _ => 1#1)

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MmBwd (m : (ℓ : Loc Cert.MmBwd.nD Cert.MmBwd.τ Cert.MmBwd.sig) → Buf (Elt Bits) ℓ) : Prop :=
  True

def Pre_MmBwdIdeal (m : (ℓ : Loc Cert.MmBwdIdeal.nD Cert.MmBwdIdeal.τ Cert.MmBwdIdeal.sig) → Buf (Elt Ideal) ℓ) : Prop :=
  True

def Pre_MmRefIdeal (m : (ℓ : Loc Cert.MmRefIdeal.nD Cert.MmRefIdeal.τ Cert.MmRefIdeal.sig) → Buf (Elt Ideal) ℓ) : Prop :=
  True

def Pre_MultiBwd (m : (ℓ : Loc Cert.MultiBwd.nD Cert.MultiBwd.τ Cert.MultiBwd.sig) → Buf (Elt Bits) ℓ) : Prop :=
  True

def Pre_MultiBwdIdeal (m : (ℓ : Loc Cert.MultiBwdIdeal.nD Cert.MultiBwdIdeal.τ Cert.MultiBwdIdeal.sig) → Buf (Elt Ideal) ℓ) : Prop :=
  True

def Pre_MultiRefIdeal (m : (ℓ : Loc Cert.MultiRefIdeal.nD Cert.MultiRefIdeal.τ Cert.MultiRefIdeal.sig) → Buf (Elt Ideal) ℓ) : Prop :=
  True

def Pre_ColsBwd (m : (ℓ : Loc Cert.ColsBwd.nD Cert.ColsBwd.τ Cert.ColsBwd.sig) → Buf (Elt Bits) ℓ) : Prop :=
  True

def Pre_ColsBwdIdeal (m : (ℓ : Loc Cert.ColsBwdIdeal.nD Cert.ColsBwdIdeal.τ Cert.ColsBwdIdeal.sig) → Buf (Elt Ideal) ℓ) : Prop :=
  True

def Pre_ColsRefIdeal (m : (ℓ : Loc Cert.ColsRefIdeal.nD Cert.ColsRefIdeal.τ Cert.ColsRefIdeal.sig) → Buf (Elt Ideal) ℓ) : Prop :=
  True

def Pre_AdamBwd (m : (ℓ : Loc Cert.AdamBwd.nD Cert.AdamBwd.τ Cert.AdamBwd.sig) → Buf (Elt Bits) ℓ) : Prop :=
  True

def Pre_AdamBwdIdeal (m : (ℓ : Loc Cert.AdamBwdIdeal.nD Cert.AdamBwdIdeal.τ Cert.AdamBwdIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_PackBwd (m : (ℓ : Loc Cert.PackBwd.nD Cert.PackBwd.τ Cert.PackBwd.sig) → Buf (Elt Bits) ℓ) : Prop :=
  True

def Pre_PackBwdIdeal (m : (ℓ : Loc Cert.PackBwdIdeal.nD Cert.PackBwdIdeal.τ Cert.PackBwdIdeal.sig) → Buf (Elt Ideal) ℓ) : Prop :=
  True

def Pre_PackRefIdeal (m : (ℓ : Loc Cert.PackRefIdeal.nD Cert.PackRefIdeal.τ Cert.PackRefIdeal.sig) → Buf (Elt Ideal) ℓ) : Prop :=
  True

def Pre_PairBwd (m : (ℓ : Loc Cert.PairBwd.nD Cert.PairBwd.τ Cert.PairBwd.sig) → Buf (Elt Bits) ℓ) : Prop :=
  True

def Pre_PairBwdIdeal (m : (ℓ : Loc Cert.PairBwdIdeal.nD Cert.PairBwdIdeal.τ Cert.PairBwdIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def Pre_ReduceBwd (m : (ℓ : Loc Cert.ReduceBwd.nD Cert.ReduceBwd.τ Cert.ReduceBwd.sig) → Buf (Elt Bits) ℓ) : Prop :=
  True

def Pre_ReduceBwdIdeal (m : (ℓ : Loc Cert.ReduceBwdIdeal.nD Cert.ReduceBwdIdeal.τ Cert.ReduceBwdIdeal.sig) → Buf (Elt Ideal) ℓ) : Prop :=
  True

def Pre_ReduceRefIdeal (m : (ℓ : Loc Cert.ReduceRefIdeal.nD Cert.ReduceRefIdeal.τ Cert.ReduceRefIdeal.sig) → Buf (Elt Ideal) ℓ) : Prop :=
  True

def Pre_GatherBwd (m : (ℓ : Loc Cert.GatherBwd.nD Cert.GatherBwd.τ Cert.GatherBwd.sig) → Buf (Elt Bits) ℓ) : Prop :=
  True

def Pre_GatherBwdIdeal (m : (ℓ : Loc Cert.GatherBwdIdeal.nD Cert.GatherBwdIdeal.τ Cert.GatherBwdIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_WeightsFwd (m : (ℓ : Loc Cert.WeightsFwd.nD Cert.WeightsFwd.τ Cert.WeightsFwd.sig) → Buf (Elt Bits) ℓ) : Prop :=
  True

def Pre_WeightsFwdIdeal (m : (ℓ : Loc Cert.WeightsFwdIdeal.nD Cert.WeightsFwdIdeal.τ Cert.WeightsFwdIdeal.sig) → Buf (Elt Ideal) ℓ) : Prop :=
  True

def Pre_WeightsRefIdeal (m : (ℓ : Loc Cert.WeightsRefIdeal.nD Cert.WeightsRefIdeal.τ Cert.WeightsRefIdeal.sig) → Buf (Elt Ideal) ℓ) : Prop :=
  True

def quiescent_PreBwd [hPreBwd : Cert.PreBwd.Facts] : Prop :=
  ∀ (m : (ℓ : Loc Cert.PreBwd.nD Cert.PreBwd.τ Cert.PreBwd.sig) → Buf (Elt Bits) ℓ) (g : Dev Cert.PreBwd.nD → PrngReg), Pre_PreBwd m →
    θ_run (Cert.PreBwd.defs (F := Bits)) (onTc (τ := Cert.PreBwd.τ) (Cert.PreBwd.main (F := Bits))) ⟨m, fun _ => 0, g⟩ (fun r => (∀ c : Dev Cert.PreBwd.nD,
      r.2.mem ((c.tc : Thread Cert.PreBwd.nD Cert.PreBwd.τ).loc Cert.PreBwd.main_arg0) = m ((c.tc : Thread Cert.PreBwd.nD Cert.PreBwd.τ).loc Cert.PreBwd.main_arg0)
      ∧ r.2.mem ((c.tc : Thread Cert.PreBwd.nD Cert.PreBwd.τ).loc Cert.PreBwd.main_arg1) = m ((c.tc : Thread Cert.PreBwd.nD Cert.PreBwd.τ).loc Cert.PreBwd.main_arg1)
      ∧ r.2.mem ((c.tc : Thread Cert.PreBwd.nD Cert.PreBwd.τ).loc Cert.PreBwd.main_arg2) = m ((c.tc : Thread Cert.PreBwd.nD Cert.PreBwd.τ).loc Cert.PreBwd.main_arg2)
      ∧ r.2.mem ((c.tc : Thread Cert.PreBwd.nD Cert.PreBwd.τ).loc Cert.PreBwd.main_arg3) = m ((c.tc : Thread Cert.PreBwd.nD Cert.PreBwd.τ).loc Cert.PreBwd.main_arg3)
      ∧ r.2.mem ((c.tc : Thread Cert.PreBwd.nD Cert.PreBwd.τ).loc Cert.PreBwd.main_arg4) = m ((c.tc : Thread Cert.PreBwd.nD Cert.PreBwd.τ).loc Cert.PreBwd.main_arg4))
      ∧ r.2.sem = fun _ => 0)

def quiescent_PreBwdIdeal [hPreBwdIdeal : Cert.PreBwdIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
      ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
      ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3)
      ∧ r.2.mem ((c.tc : Thread Cert.PostBwd.nD Cert.PostBwd.τ).loc Cert.PostBwd.main_arg4) = m ((c.tc : Thread Cert.PostBwd.nD Cert.PostBwd.τ).loc Cert.PostBwd.main_arg4)
      ∧ r.2.mem ((c.tc : Thread Cert.PostBwd.nD Cert.PostBwd.τ).loc Cert.PostBwd.main_arg5) = m ((c.tc : Thread Cert.PostBwd.nD Cert.PostBwd.τ).loc Cert.PostBwd.main_arg5)
      ∧ r.2.mem ((c.tc : Thread Cert.PostBwd.nD Cert.PostBwd.τ).loc Cert.PostBwd.main_arg6) = m ((c.tc : Thread Cert.PostBwd.nD Cert.PostBwd.τ).loc Cert.PostBwd.main_arg6))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
      ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
      ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvBwdIdeal_pre_conv_finite [hConvBwdIdeal : Cert.ConvBwdIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_conv_finite m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5)
      ∧ r.2.mem ((c.tc : Thread Cert.OutFwd.nD Cert.OutFwd.τ).loc Cert.OutFwd.main_arg6) = m ((c.tc : Thread Cert.OutFwd.nD Cert.OutFwd.τ).loc Cert.OutFwd.main_arg6)
      ∧ r.2.mem ((c.tc : Thread Cert.OutFwd.nD Cert.OutFwd.τ).loc Cert.OutFwd.main_arg7) = m ((c.tc : Thread Cert.OutFwd.nD Cert.OutFwd.τ).loc Cert.OutFwd.main_arg7)
      ∧ r.2.mem ((c.tc : Thread Cert.OutFwd.nD Cert.OutFwd.τ).loc Cert.OutFwd.main_arg8) = m ((c.tc : Thread Cert.OutFwd.nD Cert.OutFwd.τ).loc Cert.OutFwd.main_arg8))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
      ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6)
      ∧ r.2.mem ((c.tc : Thread Cert.OutFwdIdeal.nD Cert.OutFwdIdeal.τ).loc Cert.OutFwdIdeal.main_arg7) = m ((c.tc : Thread Cert.OutFwdIdeal.nD Cert.OutFwdIdeal.τ).loc Cert.OutFwdIdeal.main_arg7)
      ∧ r.2.mem ((c.tc : Thread Cert.OutFwdIdeal.nD Cert.OutFwdIdeal.τ).loc Cert.OutFwdIdeal.main_arg8) = m ((c.tc : Thread Cert.OutFwdIdeal.nD Cert.OutFwdIdeal.τ).loc Cert.OutFwdIdeal.main_arg8))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2)
      ∧ r.2.mem ((c.tc : Thread Cert.UpFwd.nD Cert.UpFwd.τ).loc Cert.UpFwd.main_arg3) = m ((c.tc : Thread Cert.UpFwd.nD Cert.UpFwd.τ).loc Cert.UpFwd.main_arg3))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2)
      ∧ r.2.mem ((c.tc : Thread Cert.UpFwdIdeal.nD Cert.UpFwdIdeal.τ).loc Cert.UpFwdIdeal.main_arg3) = m ((c.tc : Thread Cert.UpFwdIdeal.nD Cert.UpFwdIdeal.τ).loc Cert.UpFwdIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10)
      ∧ r.2.mem ((c.tc : Thread Cert.MixFwd.nD Cert.MixFwd.τ).loc Cert.MixFwd.main_arg11) = m ((c.tc : Thread Cert.MixFwd.nD Cert.MixFwd.τ).loc Cert.MixFwd.main_arg11)
      ∧ r.2.mem ((c.tc : Thread Cert.MixFwd.nD Cert.MixFwd.τ).loc Cert.MixFwd.main_arg12) = m ((c.tc : Thread Cert.MixFwd.nD Cert.MixFwd.τ).loc Cert.MixFwd.main_arg12)
      ∧ r.2.mem ((c.tc : Thread Cert.MixFwd.nD Cert.MixFwd.τ).loc Cert.MixFwd.main_arg13) = m ((c.tc : Thread Cert.MixFwd.nD Cert.MixFwd.τ).loc Cert.MixFwd.main_arg13))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
      ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
      ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13))
      ∧ r.2.sem = fun _ => 0)

def quiescent_MmBwd [hMmBwd : Cert.MmBwd.Facts] : Prop :=
  ∀ (m : (ℓ : Loc Cert.MmBwd.nD Cert.MmBwd.τ Cert.MmBwd.sig) → Buf (Elt Bits) ℓ) (g : Dev Cert.MmBwd.nD → PrngReg), Pre_MmBwd m →
    θ_run (Cert.MmBwd.defs (F := Bits)) (onTc (τ := Cert.MmBwd.τ) (Cert.MmBwd.main (F := Bits))) ⟨m, fun _ => 0, g⟩ (fun r => (∀ c : Dev Cert.MmBwd.nD,
      r.2.mem ((c.tc : Thread Cert.MmBwd.nD Cert.MmBwd.τ).loc Cert.MmBwd.main_arg0) = m ((c.tc : Thread Cert.MmBwd.nD Cert.MmBwd.τ).loc Cert.MmBwd.main_arg0)
      ∧ r.2.mem ((c.tc : Thread Cert.MmBwd.nD Cert.MmBwd.τ).loc Cert.MmBwd.main_arg1) = m ((c.tc : Thread Cert.MmBwd.nD Cert.MmBwd.τ).loc Cert.MmBwd.main_arg1)
      ∧ r.2.mem ((c.tc : Thread Cert.MmBwd.nD Cert.MmBwd.τ).loc Cert.MmBwd.main_arg2) = m ((c.tc : Thread Cert.MmBwd.nD Cert.MmBwd.τ).loc Cert.MmBwd.main_arg2))
      ∧ r.2.sem = fun _ => 0)

def quiescent_MmBwdIdeal [hMmBwdIdeal : Cert.MmBwdIdeal.Facts] : Prop :=
  ∀ (m : (ℓ : Loc Cert.MmBwdIdeal.nD Cert.MmBwdIdeal.τ Cert.MmBwdIdeal.sig) → Buf (Elt Ideal) ℓ) (g : Dev Cert.MmBwdIdeal.nD → PrngReg), Pre_MmBwdIdeal m →
    θ_run (Cert.MmBwdIdeal.defs (F := Ideal)) (onTc (τ := Cert.MmBwdIdeal.τ) (Cert.MmBwdIdeal.main (F := Ideal))) ⟨m, fun _ => 0, g⟩ (fun r => (∀ c : Dev Cert.MmBwdIdeal.nD,
      r.2.mem ((c.tc : Thread Cert.MmBwdIdeal.nD Cert.MmBwdIdeal.τ).loc Cert.MmBwdIdeal.main_arg0) = m ((c.tc : Thread Cert.MmBwdIdeal.nD Cert.MmBwdIdeal.τ).loc Cert.MmBwdIdeal.main_arg0)
      ∧ r.2.mem ((c.tc : Thread Cert.MmBwdIdeal.nD Cert.MmBwdIdeal.τ).loc Cert.MmBwdIdeal.main_arg1) = m ((c.tc : Thread Cert.MmBwdIdeal.nD Cert.MmBwdIdeal.τ).loc Cert.MmBwdIdeal.main_arg1)
      ∧ r.2.mem ((c.tc : Thread Cert.MmBwdIdeal.nD Cert.MmBwdIdeal.τ).loc Cert.MmBwdIdeal.main_arg2) = m ((c.tc : Thread Cert.MmBwdIdeal.nD Cert.MmBwdIdeal.τ).loc Cert.MmBwdIdeal.main_arg2))
      ∧ r.2.sem = fun _ => 0)

def quiescent_MmRefIdeal [hMmRefIdeal : Cert.MmRefIdeal.Facts] : Prop :=
  ∀ (m : (ℓ : Loc Cert.MmRefIdeal.nD Cert.MmRefIdeal.τ Cert.MmRefIdeal.sig) → Buf (Elt Ideal) ℓ) (g : Dev Cert.MmRefIdeal.nD → PrngReg), Pre_MmRefIdeal m →
    θ_run (Cert.MmRefIdeal.defs (F := Ideal)) (onTc (τ := Cert.MmRefIdeal.τ) (Cert.MmRefIdeal.main (F := Ideal))) ⟨m, fun _ => 0, g⟩ (fun r => (∀ c : Dev Cert.MmRefIdeal.nD,
      r.2.mem ((c.tc : Thread Cert.MmRefIdeal.nD Cert.MmRefIdeal.τ).loc Cert.MmRefIdeal.main_arg0) = m ((c.tc : Thread Cert.MmRefIdeal.nD Cert.MmRefIdeal.τ).loc Cert.MmRefIdeal.main_arg0)
      ∧ r.2.mem ((c.tc : Thread Cert.MmRefIdeal.nD Cert.MmRefIdeal.τ).loc Cert.MmRefIdeal.main_arg1) = m ((c.tc : Thread Cert.MmRefIdeal.nD Cert.MmRefIdeal.τ).loc Cert.MmRefIdeal.main_arg1)
      ∧ r.2.mem ((c.tc : Thread Cert.MmRefIdeal.nD Cert.MmRefIdeal.τ).loc Cert.MmRefIdeal.main_arg2) = m ((c.tc : Thread Cert.MmRefIdeal.nD Cert.MmRefIdeal.τ).loc Cert.MmRefIdeal.main_arg2))
      ∧ r.2.sem = fun _ => 0)

def quiescent_MultiBwd [hMultiBwd : Cert.MultiBwd.Facts] : Prop :=
  ∀ (m : (ℓ : Loc Cert.MultiBwd.nD Cert.MultiBwd.τ Cert.MultiBwd.sig) → Buf (Elt Bits) ℓ) (g : Dev Cert.MultiBwd.nD → PrngReg), Pre_MultiBwd m →
    θ_run (Cert.MultiBwd.defs (F := Bits)) (onTc (τ := Cert.MultiBwd.τ) (Cert.MultiBwd.main (F := Bits))) ⟨m, fun _ => 0, g⟩ (fun r => (∀ c : Dev Cert.MultiBwd.nD,
      r.2.mem ((c.tc : Thread Cert.MultiBwd.nD Cert.MultiBwd.τ).loc Cert.MultiBwd.main_arg0) = m ((c.tc : Thread Cert.MultiBwd.nD Cert.MultiBwd.τ).loc Cert.MultiBwd.main_arg0)
      ∧ r.2.mem ((c.tc : Thread Cert.MultiBwd.nD Cert.MultiBwd.τ).loc Cert.MultiBwd.main_arg1) = m ((c.tc : Thread Cert.MultiBwd.nD Cert.MultiBwd.τ).loc Cert.MultiBwd.main_arg1)
      ∧ r.2.mem ((c.tc : Thread Cert.MultiBwd.nD Cert.MultiBwd.τ).loc Cert.MultiBwd.main_arg2) = m ((c.tc : Thread Cert.MultiBwd.nD Cert.MultiBwd.τ).loc Cert.MultiBwd.main_arg2)
      ∧ r.2.mem ((c.tc : Thread Cert.MultiBwd.nD Cert.MultiBwd.τ).loc Cert.MultiBwd.main_arg3) = m ((c.tc : Thread Cert.MultiBwd.nD Cert.MultiBwd.τ).loc Cert.MultiBwd.main_arg3)
      ∧ r.2.mem ((c.tc : Thread Cert.MultiBwd.nD Cert.MultiBwd.τ).loc Cert.MultiBwd.main_arg4) = m ((c.tc : Thread Cert.MultiBwd.nD Cert.MultiBwd.τ).loc Cert.MultiBwd.main_arg4)
      ∧ r.2.mem ((c.tc : Thread Cert.MultiBwd.nD Cert.MultiBwd.τ).loc Cert.MultiBwd.main_arg5) = m ((c.tc : Thread Cert.MultiBwd.nD Cert.MultiBwd.τ).loc Cert.MultiBwd.main_arg5)
      ∧ r.2.mem ((c.tc : Thread Cert.MultiBwd.nD Cert.MultiBwd.τ).loc Cert.MultiBwd.main_arg6) = m ((c.tc : Thread Cert.MultiBwd.nD Cert.MultiBwd.τ).loc Cert.MultiBwd.main_arg6)
      ∧ r.2.mem ((c.tc : Thread Cert.MultiBwd.nD Cert.MultiBwd.τ).loc Cert.MultiBwd.main_arg7) = m ((c.tc : Thread Cert.MultiBwd.nD Cert.MultiBwd.τ).loc Cert.MultiBwd.main_arg7)
      ∧ r.2.mem ((c.tc : Thread Cert.MultiBwd.nD Cert.MultiBwd.τ).loc Cert.MultiBwd.main_arg8) = m ((c.tc : Thread Cert.MultiBwd.nD Cert.MultiBwd.τ).loc Cert.MultiBwd.main_arg8))
      ∧ r.2.sem = fun _ => 0)

def quiescent_MultiBwdIdeal [hMultiBwdIdeal : Cert.MultiBwdIdeal.Facts] : Prop :=
  ∀ (m : (ℓ : Loc Cert.MultiBwdIdeal.nD Cert.MultiBwdIdeal.τ Cert.MultiBwdIdeal.sig) → Buf (Elt Ideal) ℓ) (g : Dev Cert.MultiBwdIdeal.nD → PrngReg), Pre_MultiBwdIdeal m →
    θ_run (Cert.MultiBwdIdeal.defs (F := Ideal)) (onTc (τ := Cert.MultiBwdIdeal.τ) (Cert.MultiBwdIdeal.main (F := Ideal))) ⟨m, fun _ => 0, g⟩ (fun r => (∀ c : Dev Cert.MultiBwdIdeal.nD,
      r.2.mem ((c.tc : Thread Cert.MultiBwdIdeal.nD Cert.MultiBwdIdeal.τ).loc Cert.MultiBwdIdeal.main_arg0) = m ((c.tc : Thread Cert.MultiBwdIdeal.nD Cert.MultiBwdIdeal.τ).loc Cert.MultiBwdIdeal.main_arg0)
      ∧ r.2.mem ((c.tc : Thread Cert.MultiBwdIdeal.nD Cert.MultiBwdIdeal.τ).loc Cert.MultiBwdIdeal.main_arg1) = m ((c.tc : Thread Cert.MultiBwdIdeal.nD Cert.MultiBwdIdeal.τ).loc Cert.MultiBwdIdeal.main_arg1)
      ∧ r.2.mem ((c.tc : Thread Cert.MultiBwdIdeal.nD Cert.MultiBwdIdeal.τ).loc Cert.MultiBwdIdeal.main_arg2) = m ((c.tc : Thread Cert.MultiBwdIdeal.nD Cert.MultiBwdIdeal.τ).loc Cert.MultiBwdIdeal.main_arg2)
      ∧ r.2.mem ((c.tc : Thread Cert.MultiBwdIdeal.nD Cert.MultiBwdIdeal.τ).loc Cert.MultiBwdIdeal.main_arg3) = m ((c.tc : Thread Cert.MultiBwdIdeal.nD Cert.MultiBwdIdeal.τ).loc Cert.MultiBwdIdeal.main_arg3)
      ∧ r.2.mem ((c.tc : Thread Cert.MultiBwdIdeal.nD Cert.MultiBwdIdeal.τ).loc Cert.MultiBwdIdeal.main_arg4) = m ((c.tc : Thread Cert.MultiBwdIdeal.nD Cert.MultiBwdIdeal.τ).loc Cert.MultiBwdIdeal.main_arg4)
      ∧ r.2.mem ((c.tc : Thread Cert.MultiBwdIdeal.nD Cert.MultiBwdIdeal.τ).loc Cert.MultiBwdIdeal.main_arg5) = m ((c.tc : Thread Cert.MultiBwdIdeal.nD Cert.MultiBwdIdeal.τ).loc Cert.MultiBwdIdeal.main_arg5)
      ∧ r.2.mem ((c.tc : Thread Cert.MultiBwdIdeal.nD Cert.MultiBwdIdeal.τ).loc Cert.MultiBwdIdeal.main_arg6) = m ((c.tc : Thread Cert.MultiBwdIdeal.nD Cert.MultiBwdIdeal.τ).loc Cert.MultiBwdIdeal.main_arg6)
      ∧ r.2.mem ((c.tc : Thread Cert.MultiBwdIdeal.nD Cert.MultiBwdIdeal.τ).loc Cert.MultiBwdIdeal.main_arg7) = m ((c.tc : Thread Cert.MultiBwdIdeal.nD Cert.MultiBwdIdeal.τ).loc Cert.MultiBwdIdeal.main_arg7)
      ∧ r.2.mem ((c.tc : Thread Cert.MultiBwdIdeal.nD Cert.MultiBwdIdeal.τ).loc Cert.MultiBwdIdeal.main_arg8) = m ((c.tc : Thread Cert.MultiBwdIdeal.nD Cert.MultiBwdIdeal.τ).loc Cert.MultiBwdIdeal.main_arg8))
      ∧ r.2.sem = fun _ => 0)

def quiescent_MultiRefIdeal [hMultiRefIdeal : Cert.MultiRefIdeal.Facts] : Prop :=
  ∀ (m : (ℓ : Loc Cert.MultiRefIdeal.nD Cert.MultiRefIdeal.τ Cert.MultiRefIdeal.sig) → Buf (Elt Ideal) ℓ) (g : Dev Cert.MultiRefIdeal.nD → PrngReg), Pre_MultiRefIdeal m →
    θ_run (Cert.MultiRefIdeal.defs (F := Ideal)) (onTc (τ := Cert.MultiRefIdeal.τ) (Cert.MultiRefIdeal.main (F := Ideal))) ⟨m, fun _ => 0, g⟩ (fun r => (∀ c : Dev Cert.MultiRefIdeal.nD,
      r.2.mem ((c.tc : Thread Cert.MultiRefIdeal.nD Cert.MultiRefIdeal.τ).loc Cert.MultiRefIdeal.main_arg0) = m ((c.tc : Thread Cert.MultiRefIdeal.nD Cert.MultiRefIdeal.τ).loc Cert.MultiRefIdeal.main_arg0)
      ∧ r.2.mem ((c.tc : Thread Cert.MultiRefIdeal.nD Cert.MultiRefIdeal.τ).loc Cert.MultiRefIdeal.main_arg1) = m ((c.tc : Thread Cert.MultiRefIdeal.nD Cert.MultiRefIdeal.τ).loc Cert.MultiRefIdeal.main_arg1)
      ∧ r.2.mem ((c.tc : Thread Cert.MultiRefIdeal.nD Cert.MultiRefIdeal.τ).loc Cert.MultiRefIdeal.main_arg2) = m ((c.tc : Thread Cert.MultiRefIdeal.nD Cert.MultiRefIdeal.τ).loc Cert.MultiRefIdeal.main_arg2)
      ∧ r.2.mem ((c.tc : Thread Cert.MultiRefIdeal.nD Cert.MultiRefIdeal.τ).loc Cert.MultiRefIdeal.main_arg3) = m ((c.tc : Thread Cert.MultiRefIdeal.nD Cert.MultiRefIdeal.τ).loc Cert.MultiRefIdeal.main_arg3)
      ∧ r.2.mem ((c.tc : Thread Cert.MultiRefIdeal.nD Cert.MultiRefIdeal.τ).loc Cert.MultiRefIdeal.main_arg4) = m ((c.tc : Thread Cert.MultiRefIdeal.nD Cert.MultiRefIdeal.τ).loc Cert.MultiRefIdeal.main_arg4)
      ∧ r.2.mem ((c.tc : Thread Cert.MultiRefIdeal.nD Cert.MultiRefIdeal.τ).loc Cert.MultiRefIdeal.main_arg5) = m ((c.tc : Thread Cert.MultiRefIdeal.nD Cert.MultiRefIdeal.τ).loc Cert.MultiRefIdeal.main_arg5)
      ∧ r.2.mem ((c.tc : Thread Cert.MultiRefIdeal.nD Cert.MultiRefIdeal.τ).loc Cert.MultiRefIdeal.main_arg6) = m ((c.tc : Thread Cert.MultiRefIdeal.nD Cert.MultiRefIdeal.τ).loc Cert.MultiRefIdeal.main_arg6)
      ∧ r.2.mem ((c.tc : Thread Cert.MultiRefIdeal.nD Cert.MultiRefIdeal.τ).loc Cert.MultiRefIdeal.main_arg7) = m ((c.tc : Thread Cert.MultiRefIdeal.nD Cert.MultiRefIdeal.τ).loc Cert.MultiRefIdeal.main_arg7)
      ∧ r.2.mem ((c.tc : Thread Cert.MultiRefIdeal.nD Cert.MultiRefIdeal.τ).loc Cert.MultiRefIdeal.main_arg8) = m ((c.tc : Thread Cert.MultiRefIdeal.nD Cert.MultiRefIdeal.τ).loc Cert.MultiRefIdeal.main_arg8))
      ∧ r.2.sem = fun _ => 0)

def quiescent_ColsBwd [hColsBwd : Cert.ColsBwd.Facts] : Prop :=
  ∀ (m : (ℓ : Loc Cert.ColsBwd.nD Cert.ColsBwd.τ Cert.ColsBwd.sig) → Buf (Elt Bits) ℓ) (g : Dev Cert.ColsBwd.nD → PrngReg), Pre_ColsBwd m →
    θ_run (Cert.ColsBwd.defs (F := Bits)) (onTc (τ := Cert.ColsBwd.τ) (Cert.ColsBwd.main (F := Bits))) ⟨m, fun _ => 0, g⟩ (fun r => (∀ c : Dev Cert.ColsBwd.nD,
      r.2.mem ((c.tc : Thread Cert.ColsBwd.nD Cert.ColsBwd.τ).loc Cert.ColsBwd.main_arg0) = m ((c.tc : Thread Cert.ColsBwd.nD Cert.ColsBwd.τ).loc Cert.ColsBwd.main_arg0)
      ∧ r.2.mem ((c.tc : Thread Cert.ColsBwd.nD Cert.ColsBwd.τ).loc Cert.ColsBwd.main_arg1) = m ((c.tc : Thread Cert.ColsBwd.nD Cert.ColsBwd.τ).loc Cert.ColsBwd.main_arg1)
      ∧ r.2.mem ((c.tc : Thread Cert.ColsBwd.nD Cert.ColsBwd.τ).loc Cert.ColsBwd.main_arg2) = m ((c.tc : Thread Cert.ColsBwd.nD Cert.ColsBwd.τ).loc Cert.ColsBwd.main_arg2)
      ∧ r.2.mem ((c.tc : Thread Cert.ColsBwd.nD Cert.ColsBwd.τ).loc Cert.ColsBwd.main_arg3) = m ((c.tc : Thread Cert.ColsBwd.nD Cert.ColsBwd.τ).loc Cert.ColsBwd.main_arg3)
      ∧ r.2.mem ((c.tc : Thread Cert.ColsBwd.nD Cert.ColsBwd.τ).loc Cert.ColsBwd.main_arg4) = m ((c.tc : Thread Cert.ColsBwd.nD Cert.ColsBwd.τ).loc Cert.ColsBwd.main_arg4))
      ∧ r.2.sem = fun _ => 0)

def quiescent_ColsBwdIdeal [hColsBwdIdeal : Cert.ColsBwdIdeal.Facts] : Prop :=
  ∀ (m : (ℓ : Loc Cert.ColsBwdIdeal.nD Cert.ColsBwdIdeal.τ Cert.ColsBwdIdeal.sig) → Buf (Elt Ideal) ℓ) (g : Dev Cert.ColsBwdIdeal.nD → PrngReg), Pre_ColsBwdIdeal m →
    θ_run (Cert.ColsBwdIdeal.defs (F := Ideal)) (onTc (τ := Cert.ColsBwdIdeal.τ) (Cert.ColsBwdIdeal.main (F := Ideal))) ⟨m, fun _ => 0, g⟩ (fun r => (∀ c : Dev Cert.ColsBwdIdeal.nD,
      r.2.mem ((c.tc : Thread Cert.ColsBwdIdeal.nD Cert.ColsBwdIdeal.τ).loc Cert.ColsBwdIdeal.main_arg0) = m ((c.tc : Thread Cert.ColsBwdIdeal.nD Cert.ColsBwdIdeal.τ).loc Cert.ColsBwdIdeal.main_arg0)
      ∧ r.2.mem ((c.tc : Thread Cert.ColsBwdIdeal.nD Cert.ColsBwdIdeal.τ).loc Cert.ColsBwdIdeal.main_arg1) = m ((c.tc : Thread Cert.ColsBwdIdeal.nD Cert.ColsBwdIdeal.τ).loc Cert.ColsBwdIdeal.main_arg1)
      ∧ r.2.mem ((c.tc : Thread Cert.ColsBwdIdeal.nD Cert.ColsBwdIdeal.τ).loc Cert.ColsBwdIdeal.main_arg2) = m ((c.tc : Thread Cert.ColsBwdIdeal.nD Cert.ColsBwdIdeal.τ).loc Cert.ColsBwdIdeal.main_arg2)
      ∧ r.2.mem ((c.tc : Thread Cert.ColsBwdIdeal.nD Cert.ColsBwdIdeal.τ).loc Cert.ColsBwdIdeal.main_arg3) = m ((c.tc : Thread Cert.ColsBwdIdeal.nD Cert.ColsBwdIdeal.τ).loc Cert.ColsBwdIdeal.main_arg3)
      ∧ r.2.mem ((c.tc : Thread Cert.ColsBwdIdeal.nD Cert.ColsBwdIdeal.τ).loc Cert.ColsBwdIdeal.main_arg4) = m ((c.tc : Thread Cert.ColsBwdIdeal.nD Cert.ColsBwdIdeal.τ).loc Cert.ColsBwdIdeal.main_arg4))
      ∧ r.2.sem = fun _ => 0)

def quiescent_ColsRefIdeal [hColsRefIdeal : Cert.ColsRefIdeal.Facts] : Prop :=
  ∀ (m : (ℓ : Loc Cert.ColsRefIdeal.nD Cert.ColsRefIdeal.τ Cert.ColsRefIdeal.sig) → Buf (Elt Ideal) ℓ) (g : Dev Cert.ColsRefIdeal.nD → PrngReg), Pre_ColsRefIdeal m →
    θ_run (Cert.ColsRefIdeal.defs (F := Ideal)) (onTc (τ := Cert.ColsRefIdeal.τ) (Cert.ColsRefIdeal.main (F := Ideal))) ⟨m, fun _ => 0, g⟩ (fun r => (∀ c : Dev Cert.ColsRefIdeal.nD,
      r.2.mem ((c.tc : Thread Cert.ColsRefIdeal.nD Cert.ColsRefIdeal.τ).loc Cert.ColsRefIdeal.main_arg0) = m ((c.tc : Thread Cert.ColsRefIdeal.nD Cert.ColsRefIdeal.τ).loc Cert.ColsRefIdeal.main_arg0)
      ∧ r.2.mem ((c.tc : Thread Cert.ColsRefIdeal.nD Cert.ColsRefIdeal.τ).loc Cert.ColsRefIdeal.main_arg1) = m ((c.tc : Thread Cert.ColsRefIdeal.nD Cert.ColsRefIdeal.τ).loc Cert.ColsRefIdeal.main_arg1)
      ∧ r.2.mem ((c.tc : Thread Cert.ColsRefIdeal.nD Cert.ColsRefIdeal.τ).loc Cert.ColsRefIdeal.main_arg2) = m ((c.tc : Thread Cert.ColsRefIdeal.nD Cert.ColsRefIdeal.τ).loc Cert.ColsRefIdeal.main_arg2)
      ∧ r.2.mem ((c.tc : Thread Cert.ColsRefIdeal.nD Cert.ColsRefIdeal.τ).loc Cert.ColsRefIdeal.main_arg3) = m ((c.tc : Thread Cert.ColsRefIdeal.nD Cert.ColsRefIdeal.τ).loc Cert.ColsRefIdeal.main_arg3)
      ∧ r.2.mem ((c.tc : Thread Cert.ColsRefIdeal.nD Cert.ColsRefIdeal.τ).loc Cert.ColsRefIdeal.main_arg4) = m ((c.tc : Thread Cert.ColsRefIdeal.nD Cert.ColsRefIdeal.τ).loc Cert.ColsRefIdeal.main_arg4))
      ∧ r.2.sem = fun _ => 0)

def quiescent_AdamBwd [hAdamBwd : Cert.AdamBwd.Facts] : Prop :=
  ∀ (m : (ℓ : Loc Cert.AdamBwd.nD Cert.AdamBwd.τ Cert.AdamBwd.sig) → Buf (Elt Bits) ℓ) (g : Dev Cert.AdamBwd.nD → PrngReg), Pre_AdamBwd m →
    θ_run (Cert.AdamBwd.defs (F := Bits)) (onTc (τ := Cert.AdamBwd.τ) (Cert.AdamBwd.main (F := Bits))) ⟨m, fun _ => 0, g⟩ (fun r => (∀ c : Dev Cert.AdamBwd.nD,
      r.2.mem ((c.tc : Thread Cert.AdamBwd.nD Cert.AdamBwd.τ).loc Cert.AdamBwd.main_arg0) = m ((c.tc : Thread Cert.AdamBwd.nD Cert.AdamBwd.τ).loc Cert.AdamBwd.main_arg0)
      ∧ r.2.mem ((c.tc : Thread Cert.AdamBwd.nD Cert.AdamBwd.τ).loc Cert.AdamBwd.main_arg1) = m ((c.tc : Thread Cert.AdamBwd.nD Cert.AdamBwd.τ).loc Cert.AdamBwd.main_arg1)
      ∧ r.2.mem ((c.tc : Thread Cert.AdamBwd.nD Cert.AdamBwd.τ).loc Cert.AdamBwd.main_arg2) = m ((c.tc : Thread Cert.AdamBwd.nD Cert.AdamBwd.τ).loc Cert.AdamBwd.main_arg2)
      ∧ r.2.mem ((c.tc : Thread Cert.AdamBwd.nD Cert.AdamBwd.τ).loc Cert.AdamBwd.main_arg3) = m ((c.tc : Thread Cert.AdamBwd.nD Cert.AdamBwd.τ).loc Cert.AdamBwd.main_arg3)
      ∧ r.2.mem ((c.tc : Thread Cert.AdamBwd.nD Cert.AdamBwd.τ).loc Cert.AdamBwd.main_arg4) = m ((c.tc : Thread Cert.AdamBwd.nD Cert.AdamBwd.τ).loc Cert.AdamBwd.main_arg4))
      ∧ r.2.sem = fun _ => 0)

def quiescent_AdamBwdIdeal [hAdamBwdIdeal : Cert.AdamBwdIdeal.Facts] : Prop :=
  ∀ (m : (ℓ : Loc Cert.AdamBwdIdeal.nD Cert.AdamBwdIdeal.τ Cert.AdamBwdIdeal.sig) → Buf (Elt Ideal) ℓ) (g : Dev Cert.AdamBwdIdeal.nD → PrngReg), Pre_AdamBwdIdeal m →
    θ_run (Cert.AdamBwdIdeal.defs (F := Ideal)) (onTc (τ := Cert.AdamBwdIdeal.τ) (Cert.AdamBwdIdeal.main (F := Ideal))) ⟨m, fun _ => 0, g⟩ (fun r => (∀ c : Dev Cert.AdamBwdIdeal.nD,
      r.2.mem ((c.tc : Thread Cert.AdamBwdIdeal.nD Cert.AdamBwdIdeal.τ).loc Cert.AdamBwdIdeal.main_arg0) = m ((c.tc : Thread Cert.AdamBwdIdeal.nD Cert.AdamBwdIdeal.τ).loc Cert.AdamBwdIdeal.main_arg0)
      ∧ r.2.mem ((c.tc : Thread Cert.AdamBwdIdeal.nD Cert.AdamBwdIdeal.τ).loc Cert.AdamBwdIdeal.main_arg1) = m ((c.tc : Thread Cert.AdamBwdIdeal.nD Cert.AdamBwdIdeal.τ).loc Cert.AdamBwdIdeal.main_arg1)
      ∧ r.2.mem ((c.tc : Thread Cert.AdamBwdIdeal.nD Cert.AdamBwdIdeal.τ).loc Cert.AdamBwdIdeal.main_arg2) = m ((c.tc : Thread Cert.AdamBwdIdeal.nD Cert.AdamBwdIdeal.τ).loc Cert.AdamBwdIdeal.main_arg2)
      ∧ r.2.mem ((c.tc : Thread Cert.AdamBwdIdeal.nD Cert.AdamBwdIdeal.τ).loc Cert.AdamBwdIdeal.main_arg3) = m ((c.tc : Thread Cert.AdamBwdIdeal.nD Cert.AdamBwdIdeal.τ).loc Cert.AdamBwdIdeal.main_arg3)
      ∧ r.2.mem ((c.tc : Thread Cert.AdamBwdIdeal.nD Cert.AdamBwdIdeal.τ).loc Cert.AdamBwdIdeal.main_arg4) = m ((c.tc : Thread Cert.AdamBwdIdeal.nD Cert.AdamBwdIdeal.τ).loc Cert.AdamBwdIdeal.main_arg4))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4))
      ∧ r.2.sem = fun _ => 0)

def quiescent_PackBwd [hPackBwd : Cert.PackBwd.Facts] : Prop :=
  ∀ (m : (ℓ : Loc Cert.PackBwd.nD Cert.PackBwd.τ Cert.PackBwd.sig) → Buf (Elt Bits) ℓ) (g : Dev Cert.PackBwd.nD → PrngReg), Pre_PackBwd m →
    θ_run (Cert.PackBwd.defs (F := Bits)) (onTc (τ := Cert.PackBwd.τ) (Cert.PackBwd.main (F := Bits))) ⟨m, fun _ => 0, g⟩ (fun r => (∀ c : Dev Cert.PackBwd.nD,
      r.2.mem ((c.tc : Thread Cert.PackBwd.nD Cert.PackBwd.τ).loc Cert.PackBwd.main_arg0) = m ((c.tc : Thread Cert.PackBwd.nD Cert.PackBwd.τ).loc Cert.PackBwd.main_arg0)
      ∧ r.2.mem ((c.tc : Thread Cert.PackBwd.nD Cert.PackBwd.τ).loc Cert.PackBwd.main_arg1) = m ((c.tc : Thread Cert.PackBwd.nD Cert.PackBwd.τ).loc Cert.PackBwd.main_arg1)
      ∧ r.2.mem ((c.tc : Thread Cert.PackBwd.nD Cert.PackBwd.τ).loc Cert.PackBwd.main_arg2) = m ((c.tc : Thread Cert.PackBwd.nD Cert.PackBwd.τ).loc Cert.PackBwd.main_arg2)
      ∧ r.2.mem ((c.tc : Thread Cert.PackBwd.nD Cert.PackBwd.τ).loc Cert.PackBwd.main_arg3) = m ((c.tc : Thread Cert.PackBwd.nD Cert.PackBwd.τ).loc Cert.PackBwd.main_arg3)
      ∧ r.2.mem ((c.tc : Thread Cert.PackBwd.nD Cert.PackBwd.τ).loc Cert.PackBwd.main_arg4) = m ((c.tc : Thread Cert.PackBwd.nD Cert.PackBwd.τ).loc Cert.PackBwd.main_arg4)
      ∧ r.2.mem ((c.tc : Thread Cert.PackBwd.nD Cert.PackBwd.τ).loc Cert.PackBwd.main_arg5) = m ((c.tc : Thread Cert.PackBwd.nD Cert.PackBwd.τ).loc Cert.PackBwd.main_arg5)
      ∧ r.2.mem ((c.tc : Thread Cert.PackBwd.nD Cert.PackBwd.τ).loc Cert.PackBwd.main_arg6) = m ((c.tc : Thread Cert.PackBwd.nD Cert.PackBwd.τ).loc Cert.PackBwd.main_arg6)
      ∧ r.2.mem ((c.tc : Thread Cert.PackBwd.nD Cert.PackBwd.τ).loc Cert.PackBwd.main_arg7) = m ((c.tc : Thread Cert.PackBwd.nD Cert.PackBwd.τ).loc Cert.PackBwd.main_arg7)
      ∧ r.2.mem ((c.tc : Thread Cert.PackBwd.nD Cert.PackBwd.τ).loc Cert.PackBwd.main_arg8) = m ((c.tc : Thread Cert.PackBwd.nD Cert.PackBwd.τ).loc Cert.PackBwd.main_arg8)
      ∧ r.2.mem ((c.tc : Thread Cert.PackBwd.nD Cert.PackBwd.τ).loc Cert.PackBwd.main_arg9) = m ((c.tc : Thread Cert.PackBwd.nD Cert.PackBwd.τ).loc Cert.PackBwd.main_arg9)
      ∧ r.2.mem ((c.tc : Thread Cert.PackBwd.nD Cert.PackBwd.τ).loc Cert.PackBwd.main_arg10) = m ((c.tc : Thread Cert.PackBwd.nD Cert.PackBwd.τ).loc Cert.PackBwd.main_arg10)
      ∧ r.2.mem ((c.tc : Thread Cert.PackBwd.nD Cert.PackBwd.τ).loc Cert.PackBwd.main_arg11) = m ((c.tc : Thread Cert.PackBwd.nD Cert.PackBwd.τ).loc Cert.PackBwd.main_arg11)
      ∧ r.2.mem ((c.tc : Thread Cert.PackBwd.nD Cert.PackBwd.τ).loc Cert.PackBwd.main_arg12) = m ((c.tc : Thread Cert.PackBwd.nD Cert.PackBwd.τ).loc Cert.PackBwd.main_arg12)
      ∧ r.2.mem ((c.tc : Thread Cert.PackBwd.nD Cert.PackBwd.τ).loc Cert.PackBwd.main_arg13) = m ((c.tc : Thread Cert.PackBwd.nD Cert.PackBwd.τ).loc Cert.PackBwd.main_arg13)
      ∧ r.2.mem ((c.tc : Thread Cert.PackBwd.nD Cert.PackBwd.τ).loc Cert.PackBwd.main_arg14) = m ((c.tc : Thread Cert.PackBwd.nD Cert.PackBwd.τ).loc Cert.PackBwd.main_arg14)
      ∧ r.2.mem ((c.tc : Thread Cert.PackBwd.nD Cert.PackBwd.τ).loc Cert.PackBwd.main_arg15) = m ((c.tc : Thread Cert.PackBwd.nD Cert.PackBwd.τ).loc Cert.PackBwd.main_arg15))
      ∧ r.2.sem = fun _ => 0)

def quiescent_PackBwdIdeal [hPackBwdIdeal : Cert.PackBwdIdeal.Facts] : Prop :=
  ∀ (m : (ℓ : Loc Cert.PackBwdIdeal.nD Cert.PackBwdIdeal.τ Cert.PackBwdIdeal.sig) → Buf (Elt Ideal) ℓ) (g : Dev Cert.PackBwdIdeal.nD → PrngReg), Pre_PackBwdIdeal m →
    θ_run (Cert.PackBwdIdeal.defs (F := Ideal)) (onTc (τ := Cert.PackBwdIdeal.τ) (Cert.PackBwdIdeal.main (F := Ideal))) ⟨m, fun _ => 0, g⟩ (fun r => (∀ c : Dev Cert.PackBwdIdeal.nD,
      r.2.mem ((c.tc : Thread Cert.PackBwdIdeal.nD Cert.PackBwdIdeal.τ).loc Cert.PackBwdIdeal.main_arg0) = m ((c.tc : Thread Cert.PackBwdIdeal.nD Cert.PackBwdIdeal.τ).loc Cert.PackBwdIdeal.main_arg0)
      ∧ r.2.mem ((c.tc : Thread Cert.PackBwdIdeal.nD Cert.PackBwdIdeal.τ).loc Cert.PackBwdIdeal.main_arg1) = m ((c.tc : Thread Cert.PackBwdIdeal.nD Cert.PackBwdIdeal.τ).loc Cert.PackBwdIdeal.main_arg1)
      ∧ r.2.mem ((c.tc : Thread Cert.PackBwdIdeal.nD Cert.PackBwdIdeal.τ).loc Cert.PackBwdIdeal.main_arg2) = m ((c.tc : Thread Cert.PackBwdIdeal.nD Cert.PackBwdIdeal.τ).loc Cert.PackBwdIdeal.main_arg2)
      ∧ r.2.mem ((c.tc : Thread Cert.PackBwdIdeal.nD Cert.PackBwdIdeal.τ).loc Cert.PackBwdIdeal.main_arg3) = m ((c.tc : Thread Cert.PackBwdIdeal.nD Cert.PackBwdIdeal.τ).loc Cert.PackBwdIdeal.main_arg3)
      ∧ r.2.mem ((c.tc : Thread Cert.PackBwdIdeal.nD Cert.PackBwdIdeal.τ).loc Cert.PackBwdIdeal.main_arg4) = m ((c.tc : Thread Cert.PackBwdIdeal.nD Cert.PackBwdIdeal.τ).loc Cert.PackBwdIdeal.main_arg4)
      ∧ r.2.mem ((c.tc : Thread Cert.PackBwdIdeal.nD Cert.PackBwdIdeal.τ).loc Cert.PackBwdIdeal.main_arg5) = m ((c.tc : Thread Cert.PackBwdIdeal.nD Cert.PackBwdIdeal.τ).loc Cert.PackBwdIdeal.main_arg5)
      ∧ r.2.mem ((c.tc : Thread Cert.PackBwdIdeal.nD Cert.PackBwdIdeal.τ).loc Cert.PackBwdIdeal.main_arg6) = m ((c.tc : Thread Cert.PackBwdIdeal.nD Cert.PackBwdIdeal.τ).loc Cert.PackBwdIdeal.main_arg6)
      ∧ r.2.mem ((c.tc : Thread Cert.PackBwdIdeal.nD Cert.PackBwdIdeal.τ).loc Cert.PackBwdIdeal.main_arg7) = m ((c.tc : Thread Cert.PackBwdIdeal.nD Cert.PackBwdIdeal.τ).loc Cert.PackBwdIdeal.main_arg7)
      ∧ r.2.mem ((c.tc : Thread Cert.PackBwdIdeal.nD Cert.PackBwdIdeal.τ).loc Cert.PackBwdIdeal.main_arg8) = m ((c.tc : Thread Cert.PackBwdIdeal.nD Cert.PackBwdIdeal.τ).loc Cert.PackBwdIdeal.main_arg8)
      ∧ r.2.mem ((c.tc : Thread Cert.PackBwdIdeal.nD Cert.PackBwdIdeal.τ).loc Cert.PackBwdIdeal.main_arg9) = m ((c.tc : Thread Cert.PackBwdIdeal.nD Cert.PackBwdIdeal.τ).loc Cert.PackBwdIdeal.main_arg9)
      ∧ r.2.mem ((c.tc : Thread Cert.PackBwdIdeal.nD Cert.PackBwdIdeal.τ).loc Cert.PackBwdIdeal.main_arg10) = m ((c.tc : Thread Cert.PackBwdIdeal.nD Cert.PackBwdIdeal.τ).loc Cert.PackBwdIdeal.main_arg10)
      ∧ r.2.mem ((c.tc : Thread Cert.PackBwdIdeal.nD Cert.PackBwdIdeal.τ).loc Cert.PackBwdIdeal.main_arg11) = m ((c.tc : Thread Cert.PackBwdIdeal.nD Cert.PackBwdIdeal.τ).loc Cert.PackBwdIdeal.main_arg11)
      ∧ r.2.mem ((c.tc : Thread Cert.PackBwdIdeal.nD Cert.PackBwdIdeal.τ).loc Cert.PackBwdIdeal.main_arg12) = m ((c.tc : Thread Cert.PackBwdIdeal.nD Cert.PackBwdIdeal.τ).loc Cert.PackBwdIdeal.main_arg12)
      ∧ r.2.mem ((c.tc : Thread Cert.PackBwdIdeal.nD Cert.PackBwdIdeal.τ).loc Cert.PackBwdIdeal.main_arg13) = m ((c.tc : Thread Cert.PackBwdIdeal.nD Cert.PackBwdIdeal.τ).loc Cert.PackBwdIdeal.main_arg13)
      ∧ r.2.mem ((c.tc : Thread Cert.PackBwdIdeal.nD Cert.PackBwdIdeal.τ).loc Cert.PackBwdIdeal.main_arg14) = m ((c.tc : Thread Cert.PackBwdIdeal.nD Cert.PackBwdIdeal.τ).loc Cert.PackBwdIdeal.main_arg14)
      ∧ r.2.mem ((c.tc : Thread Cert.PackBwdIdeal.nD Cert.PackBwdIdeal.τ).loc Cert.PackBwdIdeal.main_arg15) = m ((c.tc : Thread Cert.PackBwdIdeal.nD Cert.PackBwdIdeal.τ).loc Cert.PackBwdIdeal.main_arg15))
      ∧ r.2.sem = fun _ => 0)

def quiescent_PackRefIdeal [hPackRefIdeal : Cert.PackRefIdeal.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0)
      ∧ r.2.mem ((c.tc : Thread Cert.PackRefIdeal.nD Cert.PackRefIdeal.τ).loc Cert.PackRefIdeal.main_arg1) = m ((c.tc : Thread Cert.PackRefIdeal.nD Cert.PackRefIdeal.τ).loc Cert.PackRefIdeal.main_arg1)
      ∧ r.2.mem ((c.tc : Thread Cert.PackRefIdeal.nD Cert.PackRefIdeal.τ).loc Cert.PackRefIdeal.main_arg2) = m ((c.tc : Thread Cert.PackRefIdeal.nD Cert.PackRefIdeal.τ).loc Cert.PackRefIdeal.main_arg2)
      ∧ r.2.mem ((c.tc : Thread Cert.PackRefIdeal.nD Cert.PackRefIdeal.τ).loc Cert.PackRefIdeal.main_arg3) = m ((c.tc : Thread Cert.PackRefIdeal.nD Cert.PackRefIdeal.τ).loc Cert.PackRefIdeal.main_arg3)
      ∧ r.2.mem ((c.tc : Thread Cert.PackRefIdeal.nD Cert.PackRefIdeal.τ).loc Cert.PackRefIdeal.main_arg4) = m ((c.tc : Thread Cert.PackRefIdeal.nD Cert.PackRefIdeal.τ).loc Cert.PackRefIdeal.main_arg4)
      ∧ r.2.mem ((c.tc : Thread Cert.PackRefIdeal.nD Cert.PackRefIdeal.τ).loc Cert.PackRefIdeal.main_arg5) = m ((c.tc : Thread Cert.PackRefIdeal.nD Cert.PackRefIdeal.τ).loc Cert.PackRefIdeal.main_arg5)
      ∧ r.2.mem ((c.tc : Thread Cert.PackRefIdeal.nD Cert.PackRefIdeal.τ).loc Cert.PackRefIdeal.main_arg6) = m ((c.tc : Thread Cert.PackRefIdeal.nD Cert.PackRefIdeal.τ).loc Cert.PackRefIdeal.main_arg6)
      ∧ r.2.mem ((c.tc : Thread Cert.PackRefIdeal.nD Cert.PackRefIdeal.τ).loc Cert.PackRefIdeal.main_arg7) = m ((c.tc : Thread Cert.PackRefIdeal.nD Cert.PackRefIdeal.τ).loc Cert.PackRefIdeal.main_arg7)
      ∧ r.2.mem ((c.tc : Thread Cert.PackRefIdeal.nD Cert.PackRefIdeal.τ).loc Cert.PackRefIdeal.main_arg8) = m ((c.tc : Thread Cert.PackRefIdeal.nD Cert.PackRefIdeal.τ).loc Cert.PackRefIdeal.main_arg8)
      ∧ r.2.mem ((c.tc : Thread Cert.PackRefIdeal.nD Cert.PackRefIdeal.τ).loc Cert.PackRefIdeal.main_arg9) = m ((c.tc : Thread Cert.PackRefIdeal.nD Cert.PackRefIdeal.τ).loc Cert.PackRefIdeal.main_arg9)
      ∧ r.2.mem ((c.tc : Thread Cert.PackRefIdeal.nD Cert.PackRefIdeal.τ).loc Cert.PackRefIdeal.main_arg10) = m ((c.tc : Thread Cert.PackRefIdeal.nD Cert.PackRefIdeal.τ).loc Cert.PackRefIdeal.main_arg10)
      ∧ r.2.mem ((c.tc : Thread Cert.PackRefIdeal.nD Cert.PackRefIdeal.τ).loc Cert.PackRefIdeal.main_arg11) = m ((c.tc : Thread Cert.PackRefIdeal.nD Cert.PackRefIdeal.τ).loc Cert.PackRefIdeal.main_arg11)
      ∧ r.2.mem ((c.tc : Thread Cert.PackRefIdeal.nD Cert.PackRefIdeal.τ).loc Cert.PackRefIdeal.main_arg12) = m ((c.tc : Thread Cert.PackRefIdeal.nD Cert.PackRefIdeal.τ).loc Cert.PackRefIdeal.main_arg12)
      ∧ r.2.mem ((c.tc : Thread Cert.PackRefIdeal.nD Cert.PackRefIdeal.τ).loc Cert.PackRefIdeal.main_arg13) = m ((c.tc : Thread Cert.PackRefIdeal.nD Cert.PackRefIdeal.τ).loc Cert.PackRefIdeal.main_arg13)
      ∧ r.2.mem ((c.tc : Thread Cert.PackRefIdeal.nD Cert.PackRefIdeal.τ).loc Cert.PackRefIdeal.main_arg14) = m ((c.tc : Thread Cert.PackRefIdeal.nD Cert.PackRefIdeal.τ).loc Cert.PackRefIdeal.main_arg14)
      ∧ r.2.mem ((c.tc : Thread Cert.PackRefIdeal.nD Cert.PackRefIdeal.τ).loc Cert.PackRefIdeal.main_arg15) = m ((c.tc : Thread Cert.PackRefIdeal.nD Cert.PackRefIdeal.τ).loc Cert.PackRefIdeal.main_arg15))
      ∧ r.2.sem = fun _ => 0)

def quiescent_PairBwd [hPairBwd : Cert.PairBwd.Facts] : Prop :=
  ∀ (m : (ℓ : Loc Cert.PairBwd.nD Cert.PairBwd.τ Cert.PairBwd.sig) → Buf (Elt Bits) ℓ) (g : Dev Cert.PairBwd.nD → PrngReg), Pre_PairBwd m →
    θ_run (Cert.PairBwd.defs (F := Bits)) (onTc (τ := Cert.PairBwd.τ) (Cert.PairBwd.main (F := Bits))) ⟨m, fun _ => 0, g⟩ (fun r => (∀ c : Dev Cert.PairBwd.nD,
      r.2.mem ((c.tc : Thread Cert.PairBwd.nD Cert.PairBwd.τ).loc Cert.PairBwd.main_arg0) = m ((c.tc : Thread Cert.PairBwd.nD Cert.PairBwd.τ).loc Cert.PairBwd.main_arg0)
      ∧ r.2.mem ((c.tc : Thread Cert.PairBwd.nD Cert.PairBwd.τ).loc Cert.PairBwd.main_arg1) = m ((c.tc : Thread Cert.PairBwd.nD Cert.PairBwd.τ).loc Cert.PairBwd.main_arg1))
      ∧ r.2.sem = fun _ => 0)

def quiescent_PairBwdIdeal [hPairBwdIdeal : Cert.PairBwdIdeal.Facts] : Prop :=
  ∀ (m : (ℓ : Loc Cert.PairBwdIdeal.nD Cert.PairBwdIdeal.τ Cert.PairBwdIdeal.sig) → Buf (Elt Ideal) ℓ) (g : Dev Cert.PairBwdIdeal.nD → PrngReg), Pre_PairBwdIdeal m →
    θ_run (Cert.PairBwdIdeal.defs (F := Ideal)) (onTc (τ := Cert.PairBwdIdeal.τ) (Cert.PairBwdIdeal.main (F := Ideal))) ⟨m, fun _ => 0, g⟩ (fun r => (∀ c : Dev Cert.PairBwdIdeal.nD,
      r.2.mem ((c.tc : Thread Cert.PairBwdIdeal.nD Cert.PairBwdIdeal.τ).loc Cert.PairBwdIdeal.main_arg0) = m ((c.tc : Thread Cert.PairBwdIdeal.nD Cert.PairBwdIdeal.τ).loc Cert.PairBwdIdeal.main_arg0)
      ∧ r.2.mem ((c.tc : Thread Cert.PairBwdIdeal.nD Cert.PairBwdIdeal.τ).loc Cert.PairBwdIdeal.main_arg1) = m ((c.tc : Thread Cert.PairBwdIdeal.nD Cert.PairBwdIdeal.τ).loc Cert.PairBwdIdeal.main_arg1))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0)
      ∧ r.2.mem ((c.tc : Thread Cert.PairRefIdeal.nD Cert.PairRefIdeal.τ).loc Cert.PairRefIdeal.main_arg1) = m ((c.tc : Thread Cert.PairRefIdeal.nD Cert.PairRefIdeal.τ).loc Cert.PairRefIdeal.main_arg1))
      ∧ r.2.sem = fun _ => 0)

def quiescent_ReduceBwd [hReduceBwd : Cert.ReduceBwd.Facts] : Prop :=
  ∀ (m : (ℓ : Loc Cert.ReduceBwd.nD Cert.ReduceBwd.τ Cert.ReduceBwd.sig) → Buf (Elt Bits) ℓ) (g : Dev Cert.ReduceBwd.nD → PrngReg), Pre_ReduceBwd m →
    θ_run (Cert.ReduceBwd.defs (F := Bits)) (onTc (τ := Cert.ReduceBwd.τ) (Cert.ReduceBwd.main (F := Bits))) ⟨m, fun _ => 0, g⟩ (fun r => (∀ c : Dev Cert.ReduceBwd.nD,
      r.2.mem ((c.tc : Thread Cert.ReduceBwd.nD Cert.ReduceBwd.τ).loc Cert.ReduceBwd.main_arg0) = m ((c.tc : Thread Cert.ReduceBwd.nD Cert.ReduceBwd.τ).loc Cert.ReduceBwd.main_arg0))
      ∧ r.2.sem = fun _ => 0)

def quiescent_ReduceBwdIdeal [hReduceBwdIdeal : Cert.ReduceBwdIdeal.Facts] : Prop :=
  ∀ (m : (ℓ : Loc Cert.ReduceBwdIdeal.nD Cert.ReduceBwdIdeal.τ Cert.ReduceBwdIdeal.sig) → Buf (Elt Ideal) ℓ) (g : Dev Cert.ReduceBwdIdeal.nD → PrngReg), Pre_ReduceBwdIdeal m →
    θ_run (Cert.ReduceBwdIdeal.defs (F := Ideal)) (onTc (τ := Cert.ReduceBwdIdeal.τ) (Cert.ReduceBwdIdeal.main (F := Ideal))) ⟨m, fun _ => 0, g⟩ (fun r => (∀ c : Dev Cert.ReduceBwdIdeal.nD,
      r.2.mem ((c.tc : Thread Cert.ReduceBwdIdeal.nD Cert.ReduceBwdIdeal.τ).loc Cert.ReduceBwdIdeal.main_arg0) = m ((c.tc : Thread Cert.ReduceBwdIdeal.nD Cert.ReduceBwdIdeal.τ).loc Cert.ReduceBwdIdeal.main_arg0))
      ∧ r.2.sem = fun _ => 0)

def quiescent_ReduceRefIdeal [hReduceRefIdeal : Cert.ReduceRefIdeal.Facts] : Prop :=
  ∀ (m : (ℓ : Loc Cert.ReduceRefIdeal.nD Cert.ReduceRefIdeal.τ Cert.ReduceRefIdeal.sig) → Buf (Elt Ideal) ℓ) (g : Dev Cert.ReduceRefIdeal.nD → PrngReg), Pre_ReduceRefIdeal m →
    θ_run (Cert.ReduceRefIdeal.defs (F := Ideal)) (onTc (τ := Cert.ReduceRefIdeal.τ) (Cert.ReduceRefIdeal.main (F := Ideal))) ⟨m, fun _ => 0, g⟩ (fun r => (∀ c : Dev Cert.ReduceRefIdeal.nD,
      r.2.mem ((c.tc : Thread Cert.ReduceRefIdeal.nD Cert.ReduceRefIdeal.τ).loc Cert.ReduceRefIdeal.main_arg0) = m ((c.tc : Thread Cert.ReduceRefIdeal.nD Cert.ReduceRefIdeal.τ).loc Cert.ReduceRefIdeal.main_arg0))
      ∧ r.2.sem = fun _ => 0)

def quiescent_GatherBwd [hGatherBwd : Cert.GatherBwd.Facts] : Prop :=
  ∀ (m : (ℓ : Loc Cert.GatherBwd.nD Cert.GatherBwd.τ Cert.GatherBwd.sig) → Buf (Elt Bits) ℓ) (g : Dev Cert.GatherBwd.nD → PrngReg), Pre_GatherBwd m →
    θ_run (Cert.GatherBwd.defs (F := Bits)) (onTc (τ := Cert.GatherBwd.τ) (Cert.GatherBwd.main (F := Bits))) ⟨m, fun _ => 0, g⟩ (fun r => (∀ c : Dev Cert.GatherBwd.nD,
      r.2.mem ((c.tc : Thread Cert.GatherBwd.nD Cert.GatherBwd.τ).loc Cert.GatherBwd.main_arg0) = m ((c.tc : Thread Cert.GatherBwd.nD Cert.GatherBwd.τ).loc Cert.GatherBwd.main_arg0))
      ∧ r.2.sem = fun _ => 0)

def quiescent_GatherBwdIdeal [hGatherBwdIdeal : Cert.GatherBwdIdeal.Facts] : Prop :=
  ∀ (m : (ℓ : Loc Cert.GatherBwdIdeal.nD Cert.GatherBwdIdeal.τ Cert.GatherBwdIdeal.sig) → Buf (Elt Ideal) ℓ) (g : Dev Cert.GatherBwdIdeal.nD → PrngReg), Pre_GatherBwdIdeal m →
    θ_run (Cert.GatherBwdIdeal.defs (F := Ideal)) (onTc (τ := Cert.GatherBwdIdeal.τ) (Cert.GatherBwdIdeal.main (F := Ideal))) ⟨m, fun _ => 0, g⟩ (fun r => (∀ c : Dev Cert.GatherBwdIdeal.nD,
      r.2.mem ((c.tc : Thread Cert.GatherBwdIdeal.nD Cert.GatherBwdIdeal.τ).loc Cert.GatherBwdIdeal.main_arg0) = m ((c.tc : Thread Cert.GatherBwdIdeal.nD Cert.GatherBwdIdeal.τ).loc Cert.GatherBwdIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_WeightsFwd [hWeightsFwd : Cert.WeightsFwd.Facts] : Prop :=
  ∀ (m : (ℓ : Loc Cert.WeightsFwd.nD Cert.WeightsFwd.τ Cert.WeightsFwd.sig) → Buf (Elt Bits) ℓ) (g : Dev Cert.WeightsFwd.nD → PrngReg), Pre_WeightsFwd m →
    θ_run (Cert.WeightsFwd.defs (F := Bits)) (onTc (τ := Cert.WeightsFwd.τ) (Cert.WeightsFwd.main (F := Bits))) ⟨m, fun _ => 0, g⟩ (fun r => (∀ c : Dev Cert.WeightsFwd.nD,
      r.2.mem ((c.tc : Thread Cert.WeightsFwd.nD Cert.WeightsFwd.τ).loc Cert.WeightsFwd.main_arg0) = m ((c.tc : Thread Cert.WeightsFwd.nD Cert.WeightsFwd.τ).loc Cert.WeightsFwd.main_arg0))
      ∧ r.2.sem = fun _ => 0)

def quiescent_WeightsFwdIdeal [hWeightsFwdIdeal : Cert.WeightsFwdIdeal.Facts] : Prop :=
  ∀ (m : (ℓ : Loc Cert.WeightsFwdIdeal.nD Cert.WeightsFwdIdeal.τ Cert.WeightsFwdIdeal.sig) → Buf (Elt Ideal) ℓ) (g : Dev Cert.WeightsFwdIdeal.nD → PrngReg), Pre_WeightsFwdIdeal m →
    θ_run (Cert.WeightsFwdIdeal.defs (F := Ideal)) (onTc (τ := Cert.WeightsFwdIdeal.τ) (Cert.WeightsFwdIdeal.main (F := Ideal))) ⟨m, fun _ => 0, g⟩ (fun r => (∀ c : Dev Cert.WeightsFwdIdeal.nD,
      r.2.mem ((c.tc : Thread Cert.WeightsFwdIdeal.nD Cert.WeightsFwdIdeal.τ).loc Cert.WeightsFwdIdeal.main_arg0) = m ((c.tc : Thread Cert.WeightsFwdIdeal.nD Cert.WeightsFwdIdeal.τ).loc Cert.WeightsFwdIdeal.main_arg0))
      ∧ r.2.sem = fun _ => 0)

def quiescent_WeightsRefIdeal [hWeightsRefIdeal : Cert.WeightsRefIdeal.Facts] : Prop :=
  ∀ (m : (ℓ : Loc Cert.WeightsRefIdeal.nD Cert.WeightsRefIdeal.τ Cert.WeightsRefIdeal.sig) → Buf (Elt Ideal) ℓ) (g : Dev Cert.WeightsRefIdeal.nD → PrngReg), Pre_WeightsRefIdeal m →
    θ_run (Cert.WeightsRefIdeal.defs (F := Ideal)) (onTc (τ := Cert.WeightsRefIdeal.τ) (Cert.WeightsRefIdeal.main (F := Ideal))) ⟨m, fun _ => 0, g⟩ (fun r => (∀ c : Dev Cert.WeightsRefIdeal.nD,
      r.2.mem ((c.tc : Thread Cert.WeightsRefIdeal.nD Cert.WeightsRefIdeal.τ).loc Cert.WeightsRefIdeal.main_arg0) = m ((c.tc : Thread Cert.WeightsRefIdeal.nD Cert.WeightsRefIdeal.τ).loc Cert.WeightsRefIdeal.main_arg0))
      ∧ r.2.sem = fun _ => 0)

def preserves_PreBwd_PreBwdIdeal : Prop :=
  True

def algebraic_PreBwdIdeal_PreRefIdeal [hPreBwdIdeal : Cert.PreBwdIdeal.Facts] [hPreRefIdeal : Cert.PreRefIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreBwdIdeal m →
    (∀ c : Dev Cert.PreBwdIdeal.nD,
      m' ((c.tc : Thread Cert.PreRefIdeal.nD Cert.PreRefIdeal.τ).loc Cert.PreRefIdeal.main_arg0) = m ((c.tc : Thread Cert.PreBwdIdeal.nD Cert.PreBwdIdeal.τ).loc Cert.PreBwdIdeal.main_arg0)
      ∧ m' ((c.tc : Thread Cert.PreRefIdeal.nD Cert.PreRefIdeal.τ).loc Cert.PreRefIdeal.main_arg1) = m ((c.tc : Thread Cert.PreBwdIdeal.nD Cert.PreBwdIdeal.τ).loc Cert.PreBwdIdeal.main_arg1)
      ∧ m' ((c.tc : Thread Cert.PreRefIdeal.nD Cert.PreRefIdeal.τ).loc Cert.PreRefIdeal.main_arg2) = m ((c.tc : Thread Cert.PreBwdIdeal.nD Cert.PreBwdIdeal.τ).loc Cert.PreBwdIdeal.main_arg2)
      ∧ m' ((c.tc : Thread Cert.PreRefIdeal.nD Cert.PreRefIdeal.τ).loc Cert.PreRefIdeal.main_arg3) = m ((c.tc : Thread Cert.PreBwdIdeal.nD Cert.PreBwdIdeal.τ).loc Cert.PreBwdIdeal.main_arg3)
      ∧ m' ((c.tc : Thread Cert.PreRefIdeal.nD Cert.PreRefIdeal.τ).loc Cert.PreRefIdeal.main_arg4) = m ((c.tc : Thread Cert.PreBwdIdeal.nD Cert.PreBwdIdeal.τ).loc Cert.PreBwdIdeal.main_arg4)) →
    ∃ (v0 : (c : Dev Cert.PreBwdIdeal.nD) → Buf (Elt Ideal) ((c.tc : Thread Cert.PreBwdIdeal.nD Cert.PreBwdIdeal.τ).loc Cert.PreBwdIdeal.main_v11_0)) (v1 : (c : Dev Cert.PreBwdIdeal.nD) → Buf (Elt Ideal) ((c.tc : Thread Cert.PreBwdIdeal.nD Cert.PreBwdIdeal.τ).loc Cert.PreBwdIdeal.main_v11_1)),
      θ_run (Cert.PreBwdIdeal.defs (F := Ideal)) (onTc (τ := Cert.PreBwdIdeal.τ) (Cert.PreBwdIdeal.main (F := Ideal))) ⟨m, fun _ => 0, g⟩ (fun r => ∀ c : Dev Cert.PreBwdIdeal.nD,
          r.2.mem ((c.tc : Thread Cert.PreBwdIdeal.nD Cert.PreBwdIdeal.τ).loc Cert.PreBwdIdeal.main_v11_0) = v0 c
          ∧ r.2.mem ((c.tc : Thread Cert.PreBwdIdeal.nD Cert.PreBwdIdeal.τ).loc Cert.PreBwdIdeal.main_v11_1) = v1 c
          ∧ r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
          ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
          ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
          ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
          ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v23) = v0 c
          ∧ r.2.mem ((c.tc : Thread Cert.PreRefIdeal.nD Cert.PreRefIdeal.τ).loc Cert.PreRefIdeal.main_v40) = v1 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4))

def preserves_PostBwd_PostBwdIdeal : Prop :=
  True

def algebraic_PostBwdIdeal_PostRefIdeal [hPostBwdIdeal : Cert.PostBwdIdeal.Facts] [hPostRefIdeal : Cert.PostRefIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostBwdIdeal m →
    (∀ c : Dev Cert.PostBwdIdeal.nD,
      m' ((c.tc : Thread Cert.PostRefIdeal.nD Cert.PostRefIdeal.τ).loc Cert.PostRefIdeal.main_arg0) = m ((c.tc : Thread Cert.PostBwdIdeal.nD Cert.PostBwdIdeal.τ).loc Cert.PostBwdIdeal.main_arg0)
      ∧ m' ((c.tc : Thread Cert.PostRefIdeal.nD Cert.PostRefIdeal.τ).loc Cert.PostRefIdeal.main_arg1) = m ((c.tc : Thread Cert.PostBwdIdeal.nD Cert.PostBwdIdeal.τ).loc Cert.PostBwdIdeal.main_arg1)
      ∧ m' ((c.tc : Thread Cert.PostRefIdeal.nD Cert.PostRefIdeal.τ).loc Cert.PostRefIdeal.main_arg2) = m ((c.tc : Thread Cert.PostBwdIdeal.nD Cert.PostBwdIdeal.τ).loc Cert.PostBwdIdeal.main_arg2)
      ∧ m' ((c.tc : Thread Cert.PostRefIdeal.nD Cert.PostRefIdeal.τ).loc Cert.PostRefIdeal.main_arg3) = m ((c.tc : Thread Cert.PostBwdIdeal.nD Cert.PostBwdIdeal.τ).loc Cert.PostBwdIdeal.main_arg3)
      ∧ m' ((c.tc : Thread Cert.PostRefIdeal.nD Cert.PostRefIdeal.τ).loc Cert.PostRefIdeal.main_arg4) = m ((c.tc : Thread Cert.PostBwdIdeal.nD Cert.PostBwdIdeal.τ).loc Cert.PostBwdIdeal.main_arg4)
      ∧ m' ((c.tc : Thread Cert.PostRefIdeal.nD Cert.PostRefIdeal.τ).loc Cert.PostRefIdeal.main_arg5) = m ((c.tc : Thread Cert.PostBwdIdeal.nD Cert.PostBwdIdeal.τ).loc Cert.PostBwdIdeal.main_arg5)
      ∧ m' ((c.tc : Thread Cert.PostRefIdeal.nD Cert.PostRefIdeal.τ).loc Cert.PostRefIdeal.main_arg6) = m ((c.tc : Thread Cert.PostBwdIdeal.nD Cert.PostBwdIdeal.τ).loc Cert.PostBwdIdeal.main_arg6)) →
    ∃ (v0 : (c : Dev Cert.PostBwdIdeal.nD) → Buf (Elt Ideal) ((c.tc : Thread Cert.PostBwdIdeal.nD Cert.PostBwdIdeal.τ).loc Cert.PostBwdIdeal.main_v12_0)) (v1 : (c : Dev Cert.PostBwdIdeal.nD) → Buf (Elt Ideal) ((c.tc : Thread Cert.PostBwdIdeal.nD Cert.PostBwdIdeal.τ).loc Cert.PostBwdIdeal.main_v12_1)) (v2 : (c : Dev Cert.PostBwdIdeal.nD) → Buf (Elt Ideal) ((c.tc : Thread Cert.PostBwdIdeal.nD Cert.PostBwdIdeal.τ).loc Cert.PostBwdIdeal.main_v12_2)) (v3 : (c : Dev Cert.PostBwdIdeal.nD) → Buf (Elt Ideal) ((c.tc : Thread Cert.PostBwdIdeal.nD Cert.PostBwdIdeal.τ).loc Cert.PostBwdIdeal.main_v12_3)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v12_0) = v0 c
          ∧ r.2.mem ((c.tc : Thread Cert.PostBwdIdeal.nD Cert.PostBwdIdeal.τ).loc Cert.PostBwdIdeal.main_v12_1) = v1 c
          ∧ r.2.mem ((c.tc : Thread Cert.PostBwdIdeal.nD Cert.PostBwdIdeal.τ).loc Cert.PostBwdIdeal.main_v12_2) = v2 c
          ∧ r.2.mem ((c.tc : Thread Cert.PostBwdIdeal.nD Cert.PostBwdIdeal.τ).loc Cert.PostBwdIdeal.main_v12_3) = v3 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
          ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
          ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
          ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v60) = v0 c
          ∧ r.2.mem ((c.tc : Thread Cert.PostRefIdeal.nD Cert.PostRefIdeal.τ).loc Cert.PostRefIdeal.main_v40) = v1 c
          ∧ r.2.mem ((c.tc : Thread Cert.PostRefIdeal.nD Cert.PostRefIdeal.τ).loc Cert.PostRefIdeal.main_v57) = v2 c
          ∧ r.2.mem ((c.tc : Thread Cert.PostRefIdeal.nD Cert.PostRefIdeal.τ).loc Cert.PostRefIdeal.main_v77) = v3 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6))

def preserves_LossBwd_LossBwdIdeal : Prop :=
  True

def algebraic_LossBwdIdeal_LossRefIdeal [hLossBwdIdeal : Cert.LossBwdIdeal.Facts] [hLossRefIdeal : Cert.LossRefIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBwdIdeal m →
    (∀ c : Dev Cert.LossBwdIdeal.nD,
      m' ((c.tc : Thread Cert.LossRefIdeal.nD Cert.LossRefIdeal.τ).loc Cert.LossRefIdeal.main_arg0) = m ((c.tc : Thread Cert.LossBwdIdeal.nD Cert.LossBwdIdeal.τ).loc Cert.LossBwdIdeal.main_arg0)
      ∧ m' ((c.tc : Thread Cert.LossRefIdeal.nD Cert.LossRefIdeal.τ).loc Cert.LossRefIdeal.main_arg1) = m ((c.tc : Thread Cert.LossBwdIdeal.nD Cert.LossBwdIdeal.τ).loc Cert.LossBwdIdeal.main_arg1)
      ∧ m' ((c.tc : Thread Cert.LossRefIdeal.nD Cert.LossRefIdeal.τ).loc Cert.LossRefIdeal.main_arg2) = m ((c.tc : Thread Cert.LossBwdIdeal.nD Cert.LossBwdIdeal.τ).loc Cert.LossBwdIdeal.main_arg2)
      ∧ m' ((c.tc : Thread Cert.LossRefIdeal.nD Cert.LossRefIdeal.τ).loc Cert.LossRefIdeal.main_arg3) = m ((c.tc : Thread Cert.LossBwdIdeal.nD Cert.LossBwdIdeal.τ).loc Cert.LossBwdIdeal.main_arg3)
      ∧ m' ((c.tc : Thread Cert.LossRefIdeal.nD Cert.LossRefIdeal.τ).loc Cert.LossRefIdeal.main_arg4) = m ((c.tc : Thread Cert.LossBwdIdeal.nD Cert.LossBwdIdeal.τ).loc Cert.LossBwdIdeal.main_arg4)) →
    ∃ (v0 : (c : Dev Cert.LossBwdIdeal.nD) → Buf (Elt Ideal) ((c.tc : Thread Cert.LossBwdIdeal.nD Cert.LossBwdIdeal.τ).loc Cert.LossBwdIdeal.main_v6_0)) (v1 : (c : Dev Cert.LossBwdIdeal.nD) → Buf (Elt Ideal) ((c.tc : Thread Cert.LossBwdIdeal.nD Cert.LossBwdIdeal.τ).loc Cert.LossBwdIdeal.main_v6_1)) (v2 : (c : Dev Cert.LossBwdIdeal.nD) → Buf (Elt Ideal) ((c.tc : Thread Cert.LossBwdIdeal.nD Cert.LossBwdIdeal.τ).loc Cert.LossBwdIdeal.main_v6_2)) (v3 : (c : Dev Cert.LossBwdIdeal.nD) → Buf (Elt Ideal) ((c.tc : Thread Cert.LossBwdIdeal.nD Cert.LossBwdIdeal.τ).loc Cert.LossBwdIdeal.main_v6_3)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v6_0) = v0 c
          ∧ r.2.mem ((c.tc : Thread Cert.LossBwdIdeal.nD Cert.LossBwdIdeal.τ).loc Cert.LossBwdIdeal.main_v6_1) = v1 c
          ∧ r.2.mem ((c.tc : Thread Cert.LossBwdIdeal.nD Cert.LossBwdIdeal.τ).loc Cert.LossBwdIdeal.main_v6_2) = v2 c
          ∧ r.2.mem ((c.tc : Thread Cert.LossBwdIdeal.nD Cert.LossBwdIdeal.τ).loc Cert.LossBwdIdeal.main_v6_3) = v3 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v55) = v0 c
          ∧ r.2.mem ((c.tc : Thread Cert.LossRefIdeal.nD Cert.LossRefIdeal.τ).loc Cert.LossRefIdeal.main_v38) = v1 c
          ∧ r.2.mem ((c.tc : Thread Cert.LossRefIdeal.nD Cert.LossRefIdeal.τ).loc Cert.LossRefIdeal.main_v35) = v2 c
          ∧ r.2.mem ((c.tc : Thread Cert.LossRefIdeal.nD Cert.LossRefIdeal.τ).loc Cert.LossRefIdeal.main_v56) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_MergeBwd_MergeBwdIdeal : Prop :=
  True

def algebraic_MergeBwdIdeal_MergeRefIdeal [hMergeBwdIdeal : Cert.MergeBwdIdeal.Facts] [hMergeRefIdeal : Cert.MergeRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeBwdIdeal m →
    (∀ c : Dev Cert.MergeBwdIdeal.nD,
      m' ((c.tc : Thread Cert.MergeRefIdeal.nD Cert.MergeRefIdeal.τ).loc Cert.MergeRefIdeal.main_arg0) = m ((c.tc : Thread Cert.MergeBwdIdeal.nD Cert.MergeBwdIdeal.τ).loc Cert.MergeBwdIdeal.main_arg0)
      ∧ m' ((c.tc : Thread Cert.MergeRefIdeal.nD Cert.MergeRefIdeal.τ).loc Cert.MergeRefIdeal.main_arg1) = m ((c.tc : Thread Cert.MergeBwdIdeal.nD Cert.MergeBwdIdeal.τ).loc Cert.MergeBwdIdeal.main_arg1)
      ∧ m' ((c.tc : Thread Cert.MergeRefIdeal.nD Cert.MergeRefIdeal.τ).loc Cert.MergeRefIdeal.main_arg2) = m ((c.tc : Thread Cert.MergeBwdIdeal.nD Cert.MergeBwdIdeal.τ).loc Cert.MergeBwdIdeal.main_arg2)
      ∧ m' ((c.tc : Thread Cert.MergeRefIdeal.nD Cert.MergeRefIdeal.τ).loc Cert.MergeRefIdeal.main_arg3) = m ((c.tc : Thread Cert.MergeBwdIdeal.nD Cert.MergeBwdIdeal.τ).loc Cert.MergeBwdIdeal.main_arg3)
      ∧ m' ((c.tc : Thread Cert.MergeRefIdeal.nD Cert.MergeRefIdeal.τ).loc Cert.MergeRefIdeal.main_arg4) = m ((c.tc : Thread Cert.MergeBwdIdeal.nD Cert.MergeBwdIdeal.τ).loc Cert.MergeBwdIdeal.main_arg4)
      ∧ m' ((c.tc : Thread Cert.MergeRefIdeal.nD Cert.MergeRefIdeal.τ).loc Cert.MergeRefIdeal.main_arg5) = m ((c.tc : Thread Cert.MergeBwdIdeal.nD Cert.MergeBwdIdeal.τ).loc Cert.MergeBwdIdeal.main_arg5)
      ∧ m' ((c.tc : Thread Cert.MergeRefIdeal.nD Cert.MergeRefIdeal.τ).loc Cert.MergeRefIdeal.main_arg6) = m ((c.tc : Thread Cert.MergeBwdIdeal.nD Cert.MergeBwdIdeal.τ).loc Cert.MergeBwdIdeal.main_arg6)) →
    ∃ (v0 : (c : Dev Cert.MergeBwdIdeal.nD) → Buf (Elt Ideal) ((c.tc : Thread Cert.MergeBwdIdeal.nD Cert.MergeBwdIdeal.τ).loc Cert.MergeBwdIdeal.main_v17_0)) (v1 : (c : Dev Cert.MergeBwdIdeal.nD) → Buf (Elt Ideal) ((c.tc : Thread Cert.MergeBwdIdeal.nD Cert.MergeBwdIdeal.τ).loc Cert.MergeBwdIdeal.main_v17_1)) (v2 : (c : Dev Cert.MergeBwdIdeal.nD) → Buf (Elt Ideal) ((c.tc : Thread Cert.MergeBwdIdeal.nD Cert.MergeBwdIdeal.τ).loc Cert.MergeBwdIdeal.main_v17_2)) (v3 : (c : Dev Cert.MergeBwdIdeal.nD) → Buf (Elt Ideal) ((c.tc : Thread Cert.MergeBwdIdeal.nD Cert.MergeBwdIdeal.τ).loc Cert.MergeBwdIdeal.main_v17_3)) (v4 : (c : Dev Cert.MergeBwdIdeal.nD) → Buf (Elt Ideal) ((c.tc : Thread Cert.MergeBwdIdeal.nD Cert.MergeBwdIdeal.τ).loc Cert.MergeBwdIdeal.main_v17_4)) (v5 : (c : Dev Cert.MergeBwdIdeal.nD) → Buf (Elt Ideal) ((c.tc : Thread Cert.MergeBwdIdeal.nD Cert.MergeBwdIdeal.τ).loc Cert.MergeBwdIdeal.main_v17_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v17_0) = v0 c
          ∧ r.2.mem ((c.tc : Thread Cert.MergeBwdIdeal.nD Cert.MergeBwdIdeal.τ).loc Cert.MergeBwdIdeal.main_v17_1) = v1 c
          ∧ r.2.mem ((c.tc : Thread Cert.MergeBwdIdeal.nD Cert.MergeBwdIdeal.τ).loc Cert.MergeBwdIdeal.main_v17_2) = v2 c
          ∧ r.2.mem ((c.tc : Thread Cert.MergeBwdIdeal.nD Cert.MergeBwdIdeal.τ).loc Cert.MergeBwdIdeal.main_v17_3) = v3 c
          ∧ r.2.mem ((c.tc : Thread Cert.MergeBwdIdeal.nD Cert.MergeBwdIdeal.τ).loc Cert.MergeBwdIdeal.main_v17_4) = v4 c
          ∧ r.2.mem ((c.tc : Thread Cert.MergeBwdIdeal.nD Cert.MergeBwdIdeal.τ).loc Cert.MergeBwdIdeal.main_v17_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v43) = v0 c
          ∧ r.2.mem ((c.tc : Thread Cert.MergeRefIdeal.nD Cert.MergeRefIdeal.τ).loc Cert.MergeRefIdeal.main_v44) = v1 c
          ∧ r.2.mem ((c.tc : Thread Cert.MergeRefIdeal.nD Cert.MergeRefIdeal.τ).loc Cert.MergeRefIdeal.main_v45) = v2 c
          ∧ r.2.mem ((c.tc : Thread Cert.MergeRefIdeal.nD Cert.MergeRefIdeal.τ).loc Cert.MergeRefIdeal.main_v46) = v3 c
          ∧ r.2.mem ((c.tc : Thread Cert.MergeRefIdeal.nD Cert.MergeRefIdeal.τ).loc Cert.MergeRefIdeal.main_v47) = v4 c
          ∧ r.2.mem ((c.tc : Thread Cert.MergeRefIdeal.nD Cert.MergeRefIdeal.τ).loc Cert.MergeRefIdeal.main_v48) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_ConvBwd_ConvBwdIdeal : Prop :=
  True

def algebraic_ConvBwdIdeal_ConvRefIdeal_pre_conv_finite [hConvBwdIdeal : Cert.ConvBwdIdeal.Facts] [hConvRefIdeal : Cert.ConvRefIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal_conv_finite m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)
      ∧ m' ((c.tc : Thread Cert.ConvRefIdeal.nD Cert.ConvRefIdeal.τ).loc Cert.ConvRefIdeal.main_arg4) = m ((c.tc : Thread Cert.ConvBwdIdeal.nD Cert.ConvBwdIdeal.τ).loc Cert.ConvBwdIdeal.main_arg4)
      ∧ m' ((c.tc : Thread Cert.ConvRefIdeal.nD Cert.ConvRefIdeal.τ).loc Cert.ConvRefIdeal.main_arg5) = m ((c.tc : Thread Cert.ConvBwdIdeal.nD Cert.ConvBwdIdeal.τ).loc Cert.ConvBwdIdeal.main_arg5)) →
    ∃ (v0 : (c : Dev Cert.ConvBwdIdeal.nD) → Buf (Elt Ideal) ((c.tc : Thread Cert.ConvBwdIdeal.nD Cert.ConvBwdIdeal.τ).loc Cert.ConvBwdIdeal.main_v39_0)) (v1 : (c : Dev Cert.ConvBwdIdeal.nD) → Buf (Elt Ideal) ((c.tc : Thread Cert.ConvBwdIdeal.nD Cert.ConvBwdIdeal.τ).loc Cert.ConvBwdIdeal.main_v39_1)) (v2 : (c : Dev Cert.ConvBwdIdeal.nD) → Buf (Elt Ideal) ((c.tc : Thread Cert.ConvBwdIdeal.nD Cert.ConvBwdIdeal.τ).loc Cert.ConvBwdIdeal.main_v39_2)) (v3 : (c : Dev Cert.ConvBwdIdeal.nD) → Buf (Elt Ideal) ((c.tc : Thread Cert.ConvBwdIdeal.nD Cert.ConvBwdIdeal.τ).loc Cert.ConvBwdIdeal.main_v39_3)) (v4 : (c : Dev Cert.ConvBwdIdeal.nD) → Buf (Elt Ideal) ((c.tc : Thread Cert.ConvBwdIdeal.nD Cert.ConvBwdIdeal.τ).loc Cert.ConvBwdIdeal.main_v39_4)) (v5 : (c : Dev Cert.ConvBwdIdeal.nD) → Buf (Elt Ideal) ((c.tc : Thread Cert.ConvBwdIdeal.nD Cert.ConvBwdIdeal.τ).loc Cert.ConvBwdIdeal.main_v39_5)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v39_0) = v0 c
          ∧ r.2.mem ((c.tc : Thread Cert.ConvBwdIdeal.nD Cert.ConvBwdIdeal.τ).loc Cert.ConvBwdIdeal.main_v39_1) = v1 c
          ∧ r.2.mem ((c.tc : Thread Cert.ConvBwdIdeal.nD Cert.ConvBwdIdeal.τ).loc Cert.ConvBwdIdeal.main_v39_2) = v2 c
          ∧ r.2.mem ((c.tc : Thread Cert.ConvBwdIdeal.nD Cert.ConvBwdIdeal.τ).loc Cert.ConvBwdIdeal.main_v39_3) = v3 c
          ∧ r.2.mem ((c.tc : Thread Cert.ConvBwdIdeal.nD Cert.ConvBwdIdeal.τ).loc Cert.ConvBwdIdeal.main_v39_4) = v4 c
          ∧ r.2.mem ((c.tc : Thread Cert.ConvBwdIdeal.nD Cert.ConvBwdIdeal.τ).loc Cert.ConvBwdIdeal.main_v39_5) = v5 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
          ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v81) = v0 c
          ∧ r.2.mem ((c.tc : Thread Cert.ConvRefIdeal.nD Cert.ConvRefIdeal.τ).loc Cert.ConvRefIdeal.main_v82) = v1 c
          ∧ r.2.mem ((c.tc : Thread Cert.ConvRefIdeal.nD Cert.ConvRefIdeal.τ).loc Cert.ConvRefIdeal.main_v84) = v2 c
          ∧ r.2.mem ((c.tc : Thread Cert.ConvRefIdeal.nD Cert.ConvRefIdeal.τ).loc Cert.ConvRefIdeal.main_v86) = v3 c
          ∧ r.2.mem ((c.tc : Thread Cert.ConvRefIdeal.nD Cert.ConvRefIdeal.τ).loc Cert.ConvRefIdeal.main_v88) = v4 c
          ∧ r.2.mem ((c.tc : Thread Cert.ConvRefIdeal.nD Cert.ConvRefIdeal.τ).loc Cert.ConvRefIdeal.main_v90) = v5 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_InFwd_InFwdIdeal : Prop :=
  True

def algebraic_InFwdIdeal_InRefIdeal [hInFwdIdeal : Cert.InFwdIdeal.Facts] [hInRefIdeal : Cert.InRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InFwdIdeal m →
    (∀ c : Dev Cert.InFwdIdeal.nD,
      m' ((c.tc : Thread Cert.InRefIdeal.nD Cert.InRefIdeal.τ).loc Cert.InRefIdeal.main_arg0) = m ((c.tc : Thread Cert.InFwdIdeal.nD Cert.InFwdIdeal.τ).loc Cert.InFwdIdeal.main_arg0)
      ∧ m' ((c.tc : Thread Cert.InRefIdeal.nD Cert.InRefIdeal.τ).loc Cert.InRefIdeal.main_arg1) = m ((c.tc : Thread Cert.InFwdIdeal.nD Cert.InFwdIdeal.τ).loc Cert.InFwdIdeal.main_arg1)
      ∧ m' ((c.tc : Thread Cert.InRefIdeal.nD Cert.InRefIdeal.τ).loc Cert.InRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v4_0)) (v1 : (c : Dev Cert.InFwdIdeal.nD) → Buf (Elt Ideal) ((c.tc : Thread Cert.InFwdIdeal.nD Cert.InFwdIdeal.τ).loc Cert.InFwdIdeal.main_v4_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v4_0) = v0 c
          ∧ r.2.mem ((c.tc : Thread Cert.InFwdIdeal.nD Cert.InFwdIdeal.τ).loc Cert.InFwdIdeal.main_v4_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v16) = v0 c
          ∧ r.2.mem ((c.tc : Thread Cert.InRefIdeal.nD Cert.InRefIdeal.τ).loc Cert.InRefIdeal.main_v18) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_OutFwd_OutFwdIdeal : Prop :=
  True

def algebraic_OutFwdIdeal_OutRefIdeal [hOutFwdIdeal : Cert.OutFwdIdeal.Facts] [hOutRefIdeal : Cert.OutRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutFwdIdeal m →
    (∀ c : Dev Cert.OutFwdIdeal.nD,
      m' ((c.tc : Thread Cert.OutRefIdeal.nD Cert.OutRefIdeal.τ).loc Cert.OutRefIdeal.main_arg0) = m ((c.tc : Thread Cert.OutFwdIdeal.nD Cert.OutFwdIdeal.τ).loc Cert.OutFwdIdeal.main_arg0)
      ∧ m' ((c.tc : Thread Cert.OutRefIdeal.nD Cert.OutRefIdeal.τ).loc Cert.OutRefIdeal.main_arg1) = m ((c.tc : Thread Cert.OutFwdIdeal.nD Cert.OutFwdIdeal.τ).loc Cert.OutFwdIdeal.main_arg1)
      ∧ m' ((c.tc : Thread Cert.OutRefIdeal.nD Cert.OutRefIdeal.τ).loc Cert.OutRefIdeal.main_arg2) = m ((c.tc : Thread Cert.OutFwdIdeal.nD Cert.OutFwdIdeal.τ).loc Cert.OutFwdIdeal.main_arg2)
      ∧ m' ((c.tc : Thread Cert.OutRefIdeal.nD Cert.OutRefIdeal.τ).loc Cert.OutRefIdeal.main_arg3) = m ((c.tc : Thread Cert.OutFwdIdeal.nD Cert.OutFwdIdeal.τ).loc Cert.OutFwdIdeal.main_arg3)
      ∧ m' ((c.tc : Thread Cert.OutRefIdeal.nD Cert.OutRefIdeal.τ).loc Cert.OutRefIdeal.main_arg4) = m ((c.tc : Thread Cert.OutFwdIdeal.nD Cert.OutFwdIdeal.τ).loc Cert.OutFwdIdeal.main_arg4)
      ∧ m' ((c.tc : Thread Cert.OutRefIdeal.nD Cert.OutRefIdeal.τ).loc Cert.OutRefIdeal.main_arg5) = m ((c.tc : Thread Cert.OutFwdIdeal.nD Cert.OutFwdIdeal.τ).loc Cert.OutFwdIdeal.main_arg5)
      ∧ m' ((c.tc : Thread Cert.OutRefIdeal.nD Cert.OutRefIdeal.τ).loc Cert.OutRefIdeal.main_arg6) = m ((c.tc : Thread Cert.OutFwdIdeal.nD Cert.OutFwdIdeal.τ).loc Cert.OutFwdIdeal.main_arg6)
      ∧ m' ((c.tc : Thread Cert.OutRefIdeal.nD Cert.OutRefIdeal.τ).loc Cert.OutRefIdeal.main_arg7) = m ((c.tc : Thread Cert.OutFwdIdeal.nD Cert.OutFwdIdeal.τ).loc Cert.OutFwdIdeal.main_arg7)
      ∧ m' ((c.tc : Thread Cert.OutRefIdeal.nD Cert.OutRefIdeal.τ).loc Cert.OutRefIdeal.main_arg8) = m ((c.tc : Thread Cert.OutFwdIdeal.nD Cert.OutFwdIdeal.τ).loc Cert.OutFwdIdeal.main_arg8)) →
    ∃ (v0 : (c : Dev Cert.OutFwdIdeal.nD) → Buf (Elt Ideal) ((c.tc : Thread Cert.OutFwdIdeal.nD Cert.OutFwdIdeal.τ).loc Cert.OutFwdIdeal.main_v12_0)) (v1 : (c : Dev Cert.OutFwdIdeal.nD) → Buf (Elt Ideal) ((c.tc : Thread Cert.OutFwdIdeal.nD Cert.OutFwdIdeal.τ).loc Cert.OutFwdIdeal.main_v12_1)) (v2 : (c : Dev Cert.OutFwdIdeal.nD) → Buf (Elt Ideal) ((c.tc : Thread Cert.OutFwdIdeal.nD Cert.OutFwdIdeal.τ).loc Cert.OutFwdIdeal.main_v12_2)) (v3 : (c : Dev Cert.OutFwdIdeal.nD) → Buf (Elt Ideal) ((c.tc : Thread Cert.OutFwdIdeal.nD Cert.OutFwdIdeal.τ).loc Cert.OutFwdIdeal.main_v12_3)) (v4 : (c : Dev Cert.OutFwdIdeal.nD) → Buf (Elt Ideal) ((c.tc : Thread Cert.OutFwdIdeal.nD Cert.OutFwdIdeal.τ).loc Cert.OutFwdIdeal.main_v12_4)) (v5 : (c : Dev Cert.OutFwdIdeal.nD) → Buf (Elt Ideal) ((c.tc : Thread Cert.OutFwdIdeal.nD Cert.OutFwdIdeal.τ).loc Cert.OutFwdIdeal.main_v12_5)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v12_0) = v0 c
          ∧ r.2.mem ((c.tc : Thread Cert.OutFwdIdeal.nD Cert.OutFwdIdeal.τ).loc Cert.OutFwdIdeal.main_v12_1) = v1 c
          ∧ r.2.mem ((c.tc : Thread Cert.OutFwdIdeal.nD Cert.OutFwdIdeal.τ).loc Cert.OutFwdIdeal.main_v12_2) = v2 c
          ∧ r.2.mem ((c.tc : Thread Cert.OutFwdIdeal.nD Cert.OutFwdIdeal.τ).loc Cert.OutFwdIdeal.main_v12_3) = v3 c
          ∧ r.2.mem ((c.tc : Thread Cert.OutFwdIdeal.nD Cert.OutFwdIdeal.τ).loc Cert.OutFwdIdeal.main_v12_4) = v4 c
          ∧ r.2.mem ((c.tc : Thread Cert.OutFwdIdeal.nD Cert.OutFwdIdeal.τ).loc Cert.OutFwdIdeal.main_v12_5) = v5 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
          ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6)
          ∧ r.2.mem ((c.tc : Thread Cert.OutFwdIdeal.nD Cert.OutFwdIdeal.τ).loc Cert.OutFwdIdeal.main_arg7) = m ((c.tc : Thread Cert.OutFwdIdeal.nD Cert.OutFwdIdeal.τ).loc Cert.OutFwdIdeal.main_arg7)
          ∧ r.2.mem ((c.tc : Thread Cert.OutFwdIdeal.nD Cert.OutFwdIdeal.τ).loc Cert.OutFwdIdeal.main_arg8) = m ((c.tc : Thread Cert.OutFwdIdeal.nD Cert.OutFwdIdeal.τ).loc Cert.OutFwdIdeal.main_arg8))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v41) = v0 c
          ∧ r.2.mem ((c.tc : Thread Cert.OutRefIdeal.nD Cert.OutRefIdeal.τ).loc Cert.OutRefIdeal.main_v42) = v1 c
          ∧ r.2.mem ((c.tc : Thread Cert.OutRefIdeal.nD Cert.OutRefIdeal.τ).loc Cert.OutRefIdeal.main_v43) = v2 c
          ∧ r.2.mem ((c.tc : Thread Cert.OutRefIdeal.nD Cert.OutRefIdeal.τ).loc Cert.OutRefIdeal.main_v26) = v3 c
          ∧ r.2.mem ((c.tc : Thread Cert.OutRefIdeal.nD Cert.OutRefIdeal.τ).loc Cert.OutRefIdeal.main_v40) = v4 c
          ∧ r.2.mem ((c.tc : Thread Cert.OutRefIdeal.nD Cert.OutRefIdeal.τ).loc Cert.OutRefIdeal.main_v56) = v5 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8))

def preserves_UpFwd_UpFwdIdeal : Prop :=
  True

def algebraic_UpFwdIdeal_UpRefIdeal [hUpFwdIdeal : Cert.UpFwdIdeal.Facts] [hUpRefIdeal : Cert.UpRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpFwdIdeal m →
    (∀ c : Dev Cert.UpFwdIdeal.nD,
      m' ((c.tc : Thread Cert.UpRefIdeal.nD Cert.UpRefIdeal.τ).loc Cert.UpRefIdeal.main_arg0) = m ((c.tc : Thread Cert.UpFwdIdeal.nD Cert.UpFwdIdeal.τ).loc Cert.UpFwdIdeal.main_arg0)
      ∧ m' ((c.tc : Thread Cert.UpRefIdeal.nD Cert.UpRefIdeal.τ).loc Cert.UpRefIdeal.main_arg1) = m ((c.tc : Thread Cert.UpFwdIdeal.nD Cert.UpFwdIdeal.τ).loc Cert.UpFwdIdeal.main_arg1)
      ∧ m' ((c.tc : Thread Cert.UpRefIdeal.nD Cert.UpRefIdeal.τ).loc Cert.UpRefIdeal.main_arg2) = m ((c.tc : Thread Cert.UpFwdIdeal.nD Cert.UpFwdIdeal.τ).loc Cert.UpFwdIdeal.main_arg2)
      ∧ m' ((c.tc : Thread Cert.UpRefIdeal.nD Cert.UpRefIdeal.τ).loc Cert.UpRefIdeal.main_arg3) = m ((c.tc : Thread Cert.UpFwdIdeal.nD Cert.UpFwdIdeal.τ).loc Cert.UpFwdIdeal.main_arg3)) →
    ∃ (v0 : (c : Dev Cert.UpFwdIdeal.nD) → Buf (Elt Ideal) ((c.tc : Thread Cert.UpFwdIdeal.nD Cert.UpFwdIdeal.τ).loc Cert.UpFwdIdeal.main_v6_0)) (v1 : (c : Dev Cert.UpFwdIdeal.nD) → Buf (Elt Ideal) ((c.tc : Thread Cert.UpFwdIdeal.nD Cert.UpFwdIdeal.τ).loc Cert.UpFwdIdeal.main_v6_1)) (v2 : (c : Dev Cert.UpFwdIdeal.nD) → Buf (Elt Ideal) ((c.tc : Thread Cert.UpFwdIdeal.nD Cert.UpFwdIdeal.τ).loc Cert.UpFwdIdeal.main_v6_2)) (v3 : (c : Dev Cert.UpFwdIdeal.nD) → Buf (Elt Ideal) ((c.tc : Thread Cert.UpFwdIdeal.nD Cert.UpFwdIdeal.τ).loc Cert.UpFwdIdeal.main_v6_3)) (v4 : (c : Dev Cert.UpFwdIdeal.nD) → Buf (Elt Ideal) ((c.tc : Thread Cert.UpFwdIdeal.nD Cert.UpFwdIdeal.τ).loc Cert.UpFwdIdeal.main_v6_4)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v6_0) = v0 c
          ∧ r.2.mem ((c.tc : Thread Cert.UpFwdIdeal.nD Cert.UpFwdIdeal.τ).loc Cert.UpFwdIdeal.main_v6_1) = v1 c
          ∧ r.2.mem ((c.tc : Thread Cert.UpFwdIdeal.nD Cert.UpFwdIdeal.τ).loc Cert.UpFwdIdeal.main_v6_2) = v2 c
          ∧ r.2.mem ((c.tc : Thread Cert.UpFwdIdeal.nD Cert.UpFwdIdeal.τ).loc Cert.UpFwdIdeal.main_v6_3) = v3 c
          ∧ r.2.mem ((c.tc : Thread Cert.UpFwdIdeal.nD Cert.UpFwdIdeal.τ).loc Cert.UpFwdIdeal.main_v6_4) = v4 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2)
          ∧ r.2.mem ((c.tc : Thread Cert.UpFwdIdeal.nD Cert.UpFwdIdeal.τ).loc Cert.UpFwdIdeal.main_arg3) = m ((c.tc : Thread Cert.UpFwdIdeal.nD Cert.UpFwdIdeal.τ).loc Cert.UpFwdIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v34) = v0 c
          ∧ r.2.mem ((c.tc : Thread Cert.UpRefIdeal.nD Cert.UpRefIdeal.τ).loc Cert.UpRefIdeal.main_v35) = v1 c
          ∧ r.2.mem ((c.tc : Thread Cert.UpRefIdeal.nD Cert.UpRefIdeal.τ).loc Cert.UpRefIdeal.main_v36) = v2 c
          ∧ r.2.mem ((c.tc : Thread Cert.UpRefIdeal.nD Cert.UpRefIdeal.τ).loc Cert.UpRefIdeal.main_v37) = v3 c
          ∧ r.2.mem ((c.tc : Thread Cert.UpRefIdeal.nD Cert.UpRefIdeal.τ).loc Cert.UpRefIdeal.main_v38) = v4 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_MixFwd_MixFwdIdeal : Prop :=
  True

def algebraic_MixFwdIdeal_MixRefIdeal [hMixFwdIdeal : Cert.MixFwdIdeal.Facts] [hMixRefIdeal : Cert.MixRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixFwdIdeal m →
    (∀ c : Dev Cert.MixFwdIdeal.nD,
      m' ((c.tc : Thread Cert.MixRefIdeal.nD Cert.MixRefIdeal.τ).loc Cert.MixRefIdeal.main_arg0) = m ((c.tc : Thread Cert.MixFwdIdeal.nD Cert.MixFwdIdeal.τ).loc Cert.MixFwdIdeal.main_arg0)
      ∧ m' ((c.tc : Thread Cert.MixRefIdeal.nD Cert.MixRefIdeal.τ).loc Cert.MixRefIdeal.main_arg1) = m ((c.tc : Thread Cert.MixFwdIdeal.nD Cert.MixFwdIdeal.τ).loc Cert.MixFwdIdeal.main_arg1)
      ∧ m' ((c.tc : Thread Cert.MixRefIdeal.nD Cert.MixRefIdeal.τ).loc Cert.MixRefIdeal.main_arg2) = m ((c.tc : Thread Cert.MixFwdIdeal.nD Cert.MixFwdIdeal.τ).loc Cert.MixFwdIdeal.main_arg2)
      ∧ m' ((c.tc : Thread Cert.MixRefIdeal.nD Cert.MixRefIdeal.τ).loc Cert.MixRefIdeal.main_arg3) = m ((c.tc : Thread Cert.MixFwdIdeal.nD Cert.MixFwdIdeal.τ).loc Cert.MixFwdIdeal.main_arg3)
      ∧ m' ((c.tc : Thread Cert.MixRefIdeal.nD Cert.MixRefIdeal.τ).loc Cert.MixRefIdeal.main_arg4) = m ((c.tc : Thread Cert.MixFwdIdeal.nD Cert.MixFwdIdeal.τ).loc Cert.MixFwdIdeal.main_arg4)
      ∧ m' ((c.tc : Thread Cert.MixRefIdeal.nD Cert.MixRefIdeal.τ).loc Cert.MixRefIdeal.main_arg5) = m ((c.tc : Thread Cert.MixFwdIdeal.nD Cert.MixFwdIdeal.τ).loc Cert.MixFwdIdeal.main_arg5)
      ∧ m' ((c.tc : Thread Cert.MixRefIdeal.nD Cert.MixRefIdeal.τ).loc Cert.MixRefIdeal.main_arg6) = m ((c.tc : Thread Cert.MixFwdIdeal.nD Cert.MixFwdIdeal.τ).loc Cert.MixFwdIdeal.main_arg6)
      ∧ m' ((c.tc : Thread Cert.MixRefIdeal.nD Cert.MixRefIdeal.τ).loc Cert.MixRefIdeal.main_arg7) = m ((c.tc : Thread Cert.MixFwdIdeal.nD Cert.MixFwdIdeal.τ).loc Cert.MixFwdIdeal.main_arg7)
      ∧ m' ((c.tc : Thread Cert.MixRefIdeal.nD Cert.MixRefIdeal.τ).loc Cert.MixRefIdeal.main_arg8) = m ((c.tc : Thread Cert.MixFwdIdeal.nD Cert.MixFwdIdeal.τ).loc Cert.MixFwdIdeal.main_arg8)
      ∧ m' ((c.tc : Thread Cert.MixRefIdeal.nD Cert.MixRefIdeal.τ).loc Cert.MixRefIdeal.main_arg9) = m ((c.tc : Thread Cert.MixFwdIdeal.nD Cert.MixFwdIdeal.τ).loc Cert.MixFwdIdeal.main_arg9)
      ∧ m' ((c.tc : Thread Cert.MixRefIdeal.nD Cert.MixRefIdeal.τ).loc Cert.MixRefIdeal.main_arg10) = m ((c.tc : Thread Cert.MixFwdIdeal.nD Cert.MixFwdIdeal.τ).loc Cert.MixFwdIdeal.main_arg10)
      ∧ m' ((c.tc : Thread Cert.MixRefIdeal.nD Cert.MixRefIdeal.τ).loc Cert.MixRefIdeal.main_arg11) = m ((c.tc : Thread Cert.MixFwdIdeal.nD Cert.MixFwdIdeal.τ).loc Cert.MixFwdIdeal.main_arg11)
      ∧ m' ((c.tc : Thread Cert.MixRefIdeal.nD Cert.MixRefIdeal.τ).loc Cert.MixRefIdeal.main_arg12) = m ((c.tc : Thread Cert.MixFwdIdeal.nD Cert.MixFwdIdeal.τ).loc Cert.MixFwdIdeal.main_arg12)
      ∧ m' ((c.tc : Thread Cert.MixRefIdeal.nD Cert.MixRefIdeal.τ).loc Cert.MixRefIdeal.main_arg13) = m ((c.tc : Thread Cert.MixFwdIdeal.nD Cert.MixFwdIdeal.τ).loc Cert.MixFwdIdeal.main_arg13)) →
    ∃ (v0 : (c : Dev Cert.MixFwdIdeal.nD) → Buf (Elt Ideal) ((c.tc : Thread Cert.MixFwdIdeal.nD Cert.MixFwdIdeal.τ).loc Cert.MixFwdIdeal.main_v11_0)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v11_0) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
          ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
          ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
          ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v105) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13))

def preserves_MmBwd_MmBwdIdeal : Prop :=
  True

def algebraic_MmBwdIdeal_MmRefIdeal [hMmBwdIdeal : Cert.MmBwdIdeal.Facts] [hMmRefIdeal : Cert.MmRefIdeal.Facts] : Prop :=
  ∀ (m : (ℓ : Loc Cert.MmBwdIdeal.nD Cert.MmBwdIdeal.τ Cert.MmBwdIdeal.sig) → Buf (Elt Ideal) ℓ) (g : Dev Cert.MmBwdIdeal.nD → PrngReg)
    (m' : (ℓ : Loc Cert.MmRefIdeal.nD Cert.MmRefIdeal.τ Cert.MmRefIdeal.sig) → Buf (Elt Ideal) ℓ) (g' : Dev Cert.MmRefIdeal.nD → PrngReg), Pre_MmBwdIdeal m →
    (∀ c : Dev Cert.MmBwdIdeal.nD,
      m' ((c.tc : Thread Cert.MmRefIdeal.nD Cert.MmRefIdeal.τ).loc Cert.MmRefIdeal.main_arg0) = m ((c.tc : Thread Cert.MmBwdIdeal.nD Cert.MmBwdIdeal.τ).loc Cert.MmBwdIdeal.main_arg0)
      ∧ m' ((c.tc : Thread Cert.MmRefIdeal.nD Cert.MmRefIdeal.τ).loc Cert.MmRefIdeal.main_arg1) = m ((c.tc : Thread Cert.MmBwdIdeal.nD Cert.MmBwdIdeal.τ).loc Cert.MmBwdIdeal.main_arg1)
      ∧ m' ((c.tc : Thread Cert.MmRefIdeal.nD Cert.MmRefIdeal.τ).loc Cert.MmRefIdeal.main_arg2) = m ((c.tc : Thread Cert.MmBwdIdeal.nD Cert.MmBwdIdeal.τ).loc Cert.MmBwdIdeal.main_arg2)) →
    ∃ (v0 : (c : Dev Cert.MmBwdIdeal.nD) → Buf (Elt Ideal) ((c.tc : Thread Cert.MmBwdIdeal.nD Cert.MmBwdIdeal.τ).loc Cert.MmBwdIdeal.main_v4)),
      θ_run (Cert.MmBwdIdeal.defs (F := Ideal)) (onTc (τ := Cert.MmBwdIdeal.τ) (Cert.MmBwdIdeal.main (F := Ideal))) ⟨m, fun _ => 0, g⟩ (fun r => ∀ c : Dev Cert.MmBwdIdeal.nD,
          r.2.mem ((c.tc : Thread Cert.MmBwdIdeal.nD Cert.MmBwdIdeal.τ).loc Cert.MmBwdIdeal.main_v4) = v0 c
          ∧ r.2.mem ((c.tc : Thread Cert.MmBwdIdeal.nD Cert.MmBwdIdeal.τ).loc Cert.MmBwdIdeal.main_arg0) = m ((c.tc : Thread Cert.MmBwdIdeal.nD Cert.MmBwdIdeal.τ).loc Cert.MmBwdIdeal.main_arg0)
          ∧ r.2.mem ((c.tc : Thread Cert.MmBwdIdeal.nD Cert.MmBwdIdeal.τ).loc Cert.MmBwdIdeal.main_arg1) = m ((c.tc : Thread Cert.MmBwdIdeal.nD Cert.MmBwdIdeal.τ).loc Cert.MmBwdIdeal.main_arg1)
          ∧ r.2.mem ((c.tc : Thread Cert.MmBwdIdeal.nD Cert.MmBwdIdeal.τ).loc Cert.MmBwdIdeal.main_arg2) = m ((c.tc : Thread Cert.MmBwdIdeal.nD Cert.MmBwdIdeal.τ).loc Cert.MmBwdIdeal.main_arg2))
      ∧ θ_run (Cert.MmRefIdeal.defs (F := Ideal)) (onTc (τ := Cert.MmRefIdeal.τ) (Cert.MmRefIdeal.main (F := Ideal))) ⟨m', fun _ => 0, g'⟩ (fun r => ∀ c : Dev Cert.MmRefIdeal.nD,
          r.2.mem ((c.tc : Thread Cert.MmRefIdeal.nD Cert.MmRefIdeal.τ).loc Cert.MmRefIdeal.main_v6) = v0 c
          ∧ r.2.mem ((c.tc : Thread Cert.MmRefIdeal.nD Cert.MmRefIdeal.τ).loc Cert.MmRefIdeal.main_arg0) = m' ((c.tc : Thread Cert.MmRefIdeal.nD Cert.MmRefIdeal.τ).loc Cert.MmRefIdeal.main_arg0)
          ∧ r.2.mem ((c.tc : Thread Cert.MmRefIdeal.nD Cert.MmRefIdeal.τ).loc Cert.MmRefIdeal.main_arg1) = m' ((c.tc : Thread Cert.MmRefIdeal.nD Cert.MmRefIdeal.τ).loc Cert.MmRefIdeal.main_arg1)
          ∧ r.2.mem ((c.tc : Thread Cert.MmRefIdeal.nD Cert.MmRefIdeal.τ).loc Cert.MmRefIdeal.main_arg2) = m' ((c.tc : Thread Cert.MmRefIdeal.nD Cert.MmRefIdeal.τ).loc Cert.MmRefIdeal.main_arg2))

def preserves_MultiBwd_MultiBwdIdeal : Prop :=
  True

def algebraic_MultiBwdIdeal_MultiRefIdeal [hMultiBwdIdeal : Cert.MultiBwdIdeal.Facts] [hMultiRefIdeal : Cert.MultiRefIdeal.Facts] : Prop :=
  ∀ (m : (ℓ : Loc Cert.MultiBwdIdeal.nD Cert.MultiBwdIdeal.τ Cert.MultiBwdIdeal.sig) → Buf (Elt Ideal) ℓ) (g : Dev Cert.MultiBwdIdeal.nD → PrngReg)
    (m' : (ℓ : Loc Cert.MultiRefIdeal.nD Cert.MultiRefIdeal.τ Cert.MultiRefIdeal.sig) → Buf (Elt Ideal) ℓ) (g' : Dev Cert.MultiRefIdeal.nD → PrngReg), Pre_MultiBwdIdeal m →
    (∀ c : Dev Cert.MultiBwdIdeal.nD,
      m' ((c.tc : Thread Cert.MultiRefIdeal.nD Cert.MultiRefIdeal.τ).loc Cert.MultiRefIdeal.main_arg0) = m ((c.tc : Thread Cert.MultiBwdIdeal.nD Cert.MultiBwdIdeal.τ).loc Cert.MultiBwdIdeal.main_arg0)
      ∧ m' ((c.tc : Thread Cert.MultiRefIdeal.nD Cert.MultiRefIdeal.τ).loc Cert.MultiRefIdeal.main_arg1) = m ((c.tc : Thread Cert.MultiBwdIdeal.nD Cert.MultiBwdIdeal.τ).loc Cert.MultiBwdIdeal.main_arg1)
      ∧ m' ((c.tc : Thread Cert.MultiRefIdeal.nD Cert.MultiRefIdeal.τ).loc Cert.MultiRefIdeal.main_arg2) = m ((c.tc : Thread Cert.MultiBwdIdeal.nD Cert.MultiBwdIdeal.τ).loc Cert.MultiBwdIdeal.main_arg2)
      ∧ m' ((c.tc : Thread Cert.MultiRefIdeal.nD Cert.MultiRefIdeal.τ).loc Cert.MultiRefIdeal.main_arg3) = m ((c.tc : Thread Cert.MultiBwdIdeal.nD Cert.MultiBwdIdeal.τ).loc Cert.MultiBwdIdeal.main_arg3)
      ∧ m' ((c.tc : Thread Cert.MultiRefIdeal.nD Cert.MultiRefIdeal.τ).loc Cert.MultiRefIdeal.main_arg4) = m ((c.tc : Thread Cert.MultiBwdIdeal.nD Cert.MultiBwdIdeal.τ).loc Cert.MultiBwdIdeal.main_arg4)
      ∧ m' ((c.tc : Thread Cert.MultiRefIdeal.nD Cert.MultiRefIdeal.τ).loc Cert.MultiRefIdeal.main_arg5) = m ((c.tc : Thread Cert.MultiBwdIdeal.nD Cert.MultiBwdIdeal.τ).loc Cert.MultiBwdIdeal.main_arg5)
      ∧ m' ((c.tc : Thread Cert.MultiRefIdeal.nD Cert.MultiRefIdeal.τ).loc Cert.MultiRefIdeal.main_arg6) = m ((c.tc : Thread Cert.MultiBwdIdeal.nD Cert.MultiBwdIdeal.τ).loc Cert.MultiBwdIdeal.main_arg6)
      ∧ m' ((c.tc : Thread Cert.MultiRefIdeal.nD Cert.MultiRefIdeal.τ).loc Cert.MultiRefIdeal.main_arg7) = m ((c.tc : Thread Cert.MultiBwdIdeal.nD Cert.MultiBwdIdeal.τ).loc Cert.MultiBwdIdeal.main_arg7)
      ∧ m' ((c.tc : Thread Cert.MultiRefIdeal.nD Cert.MultiRefIdeal.τ).loc Cert.MultiRefIdeal.main_arg8) = m ((c.tc : Thread Cert.MultiBwdIdeal.nD Cert.MultiBwdIdeal.τ).loc Cert.MultiBwdIdeal.main_arg8)) →
    ∃ (v0 : (c : Dev Cert.MultiBwdIdeal.nD) → Buf (Elt Ideal) ((c.tc : Thread Cert.MultiBwdIdeal.nD Cert.MultiBwdIdeal.τ).loc Cert.MultiBwdIdeal.main_v12_0)) (v1 : (c : Dev Cert.MultiBwdIdeal.nD) → Buf (Elt Ideal) ((c.tc : Thread Cert.MultiBwdIdeal.nD Cert.MultiBwdIdeal.τ).loc Cert.MultiBwdIdeal.main_v12_1)) (v2 : (c : Dev Cert.MultiBwdIdeal.nD) → Buf (Elt Ideal) ((c.tc : Thread Cert.MultiBwdIdeal.nD Cert.MultiBwdIdeal.τ).loc Cert.MultiBwdIdeal.main_v12_2)),
      θ_run (Cert.MultiBwdIdeal.defs (F := Ideal)) (onTc (τ := Cert.MultiBwdIdeal.τ) (Cert.MultiBwdIdeal.main (F := Ideal))) ⟨m, fun _ => 0, g⟩ (fun r => ∀ c : Dev Cert.MultiBwdIdeal.nD,
          r.2.mem ((c.tc : Thread Cert.MultiBwdIdeal.nD Cert.MultiBwdIdeal.τ).loc Cert.MultiBwdIdeal.main_v12_0) = v0 c
          ∧ r.2.mem ((c.tc : Thread Cert.MultiBwdIdeal.nD Cert.MultiBwdIdeal.τ).loc Cert.MultiBwdIdeal.main_v12_1) = v1 c
          ∧ r.2.mem ((c.tc : Thread Cert.MultiBwdIdeal.nD Cert.MultiBwdIdeal.τ).loc Cert.MultiBwdIdeal.main_v12_2) = v2 c
          ∧ r.2.mem ((c.tc : Thread Cert.MultiBwdIdeal.nD Cert.MultiBwdIdeal.τ).loc Cert.MultiBwdIdeal.main_arg0) = m ((c.tc : Thread Cert.MultiBwdIdeal.nD Cert.MultiBwdIdeal.τ).loc Cert.MultiBwdIdeal.main_arg0)
          ∧ r.2.mem ((c.tc : Thread Cert.MultiBwdIdeal.nD Cert.MultiBwdIdeal.τ).loc Cert.MultiBwdIdeal.main_arg1) = m ((c.tc : Thread Cert.MultiBwdIdeal.nD Cert.MultiBwdIdeal.τ).loc Cert.MultiBwdIdeal.main_arg1)
          ∧ r.2.mem ((c.tc : Thread Cert.MultiBwdIdeal.nD Cert.MultiBwdIdeal.τ).loc Cert.MultiBwdIdeal.main_arg2) = m ((c.tc : Thread Cert.MultiBwdIdeal.nD Cert.MultiBwdIdeal.τ).loc Cert.MultiBwdIdeal.main_arg2)
          ∧ r.2.mem ((c.tc : Thread Cert.MultiBwdIdeal.nD Cert.MultiBwdIdeal.τ).loc Cert.MultiBwdIdeal.main_arg3) = m ((c.tc : Thread Cert.MultiBwdIdeal.nD Cert.MultiBwdIdeal.τ).loc Cert.MultiBwdIdeal.main_arg3)
          ∧ r.2.mem ((c.tc : Thread Cert.MultiBwdIdeal.nD Cert.MultiBwdIdeal.τ).loc Cert.MultiBwdIdeal.main_arg4) = m ((c.tc : Thread Cert.MultiBwdIdeal.nD Cert.MultiBwdIdeal.τ).loc Cert.MultiBwdIdeal.main_arg4)
          ∧ r.2.mem ((c.tc : Thread Cert.MultiBwdIdeal.nD Cert.MultiBwdIdeal.τ).loc Cert.MultiBwdIdeal.main_arg5) = m ((c.tc : Thread Cert.MultiBwdIdeal.nD Cert.MultiBwdIdeal.τ).loc Cert.MultiBwdIdeal.main_arg5)
          ∧ r.2.mem ((c.tc : Thread Cert.MultiBwdIdeal.nD Cert.MultiBwdIdeal.τ).loc Cert.MultiBwdIdeal.main_arg6) = m ((c.tc : Thread Cert.MultiBwdIdeal.nD Cert.MultiBwdIdeal.τ).loc Cert.MultiBwdIdeal.main_arg6)
          ∧ r.2.mem ((c.tc : Thread Cert.MultiBwdIdeal.nD Cert.MultiBwdIdeal.τ).loc Cert.MultiBwdIdeal.main_arg7) = m ((c.tc : Thread Cert.MultiBwdIdeal.nD Cert.MultiBwdIdeal.τ).loc Cert.MultiBwdIdeal.main_arg7)
          ∧ r.2.mem ((c.tc : Thread Cert.MultiBwdIdeal.nD Cert.MultiBwdIdeal.τ).loc Cert.MultiBwdIdeal.main_arg8) = m ((c.tc : Thread Cert.MultiBwdIdeal.nD Cert.MultiBwdIdeal.τ).loc Cert.MultiBwdIdeal.main_arg8))
      ∧ θ_run (Cert.MultiRefIdeal.defs (F := Ideal)) (onTc (τ := Cert.MultiRefIdeal.τ) (Cert.MultiRefIdeal.main (F := Ideal))) ⟨m', fun _ => 0, g'⟩ (fun r => ∀ c : Dev Cert.MultiRefIdeal.nD,
          r.2.mem ((c.tc : Thread Cert.MultiRefIdeal.nD Cert.MultiRefIdeal.τ).loc Cert.MultiRefIdeal.main_v18) = v0 c
          ∧ r.2.mem ((c.tc : Thread Cert.MultiRefIdeal.nD Cert.MultiRefIdeal.τ).loc Cert.MultiRefIdeal.main_v19) = v1 c
          ∧ r.2.mem ((c.tc : Thread Cert.MultiRefIdeal.nD Cert.MultiRefIdeal.τ).loc Cert.MultiRefIdeal.main_v20) = v2 c
          ∧ r.2.mem ((c.tc : Thread Cert.MultiRefIdeal.nD Cert.MultiRefIdeal.τ).loc Cert.MultiRefIdeal.main_arg0) = m' ((c.tc : Thread Cert.MultiRefIdeal.nD Cert.MultiRefIdeal.τ).loc Cert.MultiRefIdeal.main_arg0)
          ∧ r.2.mem ((c.tc : Thread Cert.MultiRefIdeal.nD Cert.MultiRefIdeal.τ).loc Cert.MultiRefIdeal.main_arg1) = m' ((c.tc : Thread Cert.MultiRefIdeal.nD Cert.MultiRefIdeal.τ).loc Cert.MultiRefIdeal.main_arg1)
          ∧ r.2.mem ((c.tc : Thread Cert.MultiRefIdeal.nD Cert.MultiRefIdeal.τ).loc Cert.MultiRefIdeal.main_arg2) = m' ((c.tc : Thread Cert.MultiRefIdeal.nD Cert.MultiRefIdeal.τ).loc Cert.MultiRefIdeal.main_arg2)
          ∧ r.2.mem ((c.tc : Thread Cert.MultiRefIdeal.nD Cert.MultiRefIdeal.τ).loc Cert.MultiRefIdeal.main_arg3) = m' ((c.tc : Thread Cert.MultiRefIdeal.nD Cert.MultiRefIdeal.τ).loc Cert.MultiRefIdeal.main_arg3)
          ∧ r.2.mem ((c.tc : Thread Cert.MultiRefIdeal.nD Cert.MultiRefIdeal.τ).loc Cert.MultiRefIdeal.main_arg4) = m' ((c.tc : Thread Cert.MultiRefIdeal.nD Cert.MultiRefIdeal.τ).loc Cert.MultiRefIdeal.main_arg4)
          ∧ r.2.mem ((c.tc : Thread Cert.MultiRefIdeal.nD Cert.MultiRefIdeal.τ).loc Cert.MultiRefIdeal.main_arg5) = m' ((c.tc : Thread Cert.MultiRefIdeal.nD Cert.MultiRefIdeal.τ).loc Cert.MultiRefIdeal.main_arg5)
          ∧ r.2.mem ((c.tc : Thread Cert.MultiRefIdeal.nD Cert.MultiRefIdeal.τ).loc Cert.MultiRefIdeal.main_arg6) = m' ((c.tc : Thread Cert.MultiRefIdeal.nD Cert.MultiRefIdeal.τ).loc Cert.MultiRefIdeal.main_arg6)
          ∧ r.2.mem ((c.tc : Thread Cert.MultiRefIdeal.nD Cert.MultiRefIdeal.τ).loc Cert.MultiRefIdeal.main_arg7) = m' ((c.tc : Thread Cert.MultiRefIdeal.nD Cert.MultiRefIdeal.τ).loc Cert.MultiRefIdeal.main_arg7)
          ∧ r.2.mem ((c.tc : Thread Cert.MultiRefIdeal.nD Cert.MultiRefIdeal.τ).loc Cert.MultiRefIdeal.main_arg8) = m' ((c.tc : Thread Cert.MultiRefIdeal.nD Cert.MultiRefIdeal.τ).loc Cert.MultiRefIdeal.main_arg8))

def preserves_ColsBwd_ColsBwdIdeal : Prop :=
  True

def algebraic_ColsBwdIdeal_ColsRefIdeal [hColsBwdIdeal : Cert.ColsBwdIdeal.Facts] [hColsRefIdeal : Cert.ColsRefIdeal.Facts] : Prop :=
  ∀ (m : (ℓ : Loc Cert.ColsBwdIdeal.nD Cert.ColsBwdIdeal.τ Cert.ColsBwdIdeal.sig) → Buf (Elt Ideal) ℓ) (g : Dev Cert.ColsBwdIdeal.nD → PrngReg)
    (m' : (ℓ : Loc Cert.ColsRefIdeal.nD Cert.ColsRefIdeal.τ Cert.ColsRefIdeal.sig) → Buf (Elt Ideal) ℓ) (g' : Dev Cert.ColsRefIdeal.nD → PrngReg), Pre_ColsBwdIdeal m →
    (∀ c : Dev Cert.ColsBwdIdeal.nD,
      m' ((c.tc : Thread Cert.ColsRefIdeal.nD Cert.ColsRefIdeal.τ).loc Cert.ColsRefIdeal.main_arg0) = m ((c.tc : Thread Cert.ColsBwdIdeal.nD Cert.ColsBwdIdeal.τ).loc Cert.ColsBwdIdeal.main_arg0)
      ∧ m' ((c.tc : Thread Cert.ColsRefIdeal.nD Cert.ColsRefIdeal.τ).loc Cert.ColsRefIdeal.main_arg1) = m ((c.tc : Thread Cert.ColsBwdIdeal.nD Cert.ColsBwdIdeal.τ).loc Cert.ColsBwdIdeal.main_arg1)
      ∧ m' ((c.tc : Thread Cert.ColsRefIdeal.nD Cert.ColsRefIdeal.τ).loc Cert.ColsRefIdeal.main_arg2) = m ((c.tc : Thread Cert.ColsBwdIdeal.nD Cert.ColsBwdIdeal.τ).loc Cert.ColsBwdIdeal.main_arg2)
      ∧ m' ((c.tc : Thread Cert.ColsRefIdeal.nD Cert.ColsRefIdeal.τ).loc Cert.ColsRefIdeal.main_arg3) = m ((c.tc : Thread Cert.ColsBwdIdeal.nD Cert.ColsBwdIdeal.τ).loc Cert.ColsBwdIdeal.main_arg3)
      ∧ m' ((c.tc : Thread Cert.ColsRefIdeal.nD Cert.ColsRefIdeal.τ).loc Cert.ColsRefIdeal.main_arg4) = m ((c.tc : Thread Cert.ColsBwdIdeal.nD Cert.ColsBwdIdeal.τ).loc Cert.ColsBwdIdeal.main_arg4)) →
    ∃ (v0 : (c : Dev Cert.ColsBwdIdeal.nD) → Buf (Elt Ideal) ((c.tc : Thread Cert.ColsBwdIdeal.nD Cert.ColsBwdIdeal.τ).loc Cert.ColsBwdIdeal.main_v8)),
      θ_run (Cert.ColsBwdIdeal.defs (F := Ideal)) (onTc (τ := Cert.ColsBwdIdeal.τ) (Cert.ColsBwdIdeal.main (F := Ideal))) ⟨m, fun _ => 0, g⟩ (fun r => ∀ c : Dev Cert.ColsBwdIdeal.nD,
          r.2.mem ((c.tc : Thread Cert.ColsBwdIdeal.nD Cert.ColsBwdIdeal.τ).loc Cert.ColsBwdIdeal.main_v8) = v0 c
          ∧ r.2.mem ((c.tc : Thread Cert.ColsBwdIdeal.nD Cert.ColsBwdIdeal.τ).loc Cert.ColsBwdIdeal.main_arg0) = m ((c.tc : Thread Cert.ColsBwdIdeal.nD Cert.ColsBwdIdeal.τ).loc Cert.ColsBwdIdeal.main_arg0)
          ∧ r.2.mem ((c.tc : Thread Cert.ColsBwdIdeal.nD Cert.ColsBwdIdeal.τ).loc Cert.ColsBwdIdeal.main_arg1) = m ((c.tc : Thread Cert.ColsBwdIdeal.nD Cert.ColsBwdIdeal.τ).loc Cert.ColsBwdIdeal.main_arg1)
          ∧ r.2.mem ((c.tc : Thread Cert.ColsBwdIdeal.nD Cert.ColsBwdIdeal.τ).loc Cert.ColsBwdIdeal.main_arg2) = m ((c.tc : Thread Cert.ColsBwdIdeal.nD Cert.ColsBwdIdeal.τ).loc Cert.ColsBwdIdeal.main_arg2)
          ∧ r.2.mem ((c.tc : Thread Cert.ColsBwdIdeal.nD Cert.ColsBwdIdeal.τ).loc Cert.ColsBwdIdeal.main_arg3) = m ((c.tc : Thread Cert.ColsBwdIdeal.nD Cert.ColsBwdIdeal.τ).loc Cert.ColsBwdIdeal.main_arg3)
          ∧ r.2.mem ((c.tc : Thread Cert.ColsBwdIdeal.nD Cert.ColsBwdIdeal.τ).loc Cert.ColsBwdIdeal.main_arg4) = m ((c.tc : Thread Cert.ColsBwdIdeal.nD Cert.ColsBwdIdeal.τ).loc Cert.ColsBwdIdeal.main_arg4))
      ∧ θ_run (Cert.ColsRefIdeal.defs (F := Ideal)) (onTc (τ := Cert.ColsRefIdeal.τ) (Cert.ColsRefIdeal.main (F := Ideal))) ⟨m', fun _ => 0, g'⟩ (fun r => ∀ c : Dev Cert.ColsRefIdeal.nD,
          r.2.mem ((c.tc : Thread Cert.ColsRefIdeal.nD Cert.ColsRefIdeal.τ).loc Cert.ColsRefIdeal.main_v10) = v0 c
          ∧ r.2.mem ((c.tc : Thread Cert.ColsRefIdeal.nD Cert.ColsRefIdeal.τ).loc Cert.ColsRefIdeal.main_arg0) = m' ((c.tc : Thread Cert.ColsRefIdeal.nD Cert.ColsRefIdeal.τ).loc Cert.ColsRefIdeal.main_arg0)
          ∧ r.2.mem ((c.tc : Thread Cert.ColsRefIdeal.nD Cert.ColsRefIdeal.τ).loc Cert.ColsRefIdeal.main_arg1) = m' ((c.tc : Thread Cert.ColsRefIdeal.nD Cert.ColsRefIdeal.τ).loc Cert.ColsRefIdeal.main_arg1)
          ∧ r.2.mem ((c.tc : Thread Cert.ColsRefIdeal.nD Cert.ColsRefIdeal.τ).loc Cert.ColsRefIdeal.main_arg2) = m' ((c.tc : Thread Cert.ColsRefIdeal.nD Cert.ColsRefIdeal.τ).loc Cert.ColsRefIdeal.main_arg2)
          ∧ r.2.mem ((c.tc : Thread Cert.ColsRefIdeal.nD Cert.ColsRefIdeal.τ).loc Cert.ColsRefIdeal.main_arg3) = m' ((c.tc : Thread Cert.ColsRefIdeal.nD Cert.ColsRefIdeal.τ).loc Cert.ColsRefIdeal.main_arg3)
          ∧ r.2.mem ((c.tc : Thread Cert.ColsRefIdeal.nD Cert.ColsRefIdeal.τ).loc Cert.ColsRefIdeal.main_arg4) = m' ((c.tc : Thread Cert.ColsRefIdeal.nD Cert.ColsRefIdeal.τ).loc Cert.ColsRefIdeal.main_arg4))

def preserves_AdamBwd_AdamBwdIdeal : Prop :=
  True

def algebraic_AdamBwdIdeal_AdamRefIdeal [hAdamBwdIdeal : Cert.AdamBwdIdeal.Facts] [hAdamRefIdeal : Cert.AdamRefIdeal.Facts] : Prop :=
  ∀ (m : (ℓ : Loc Cert.AdamBwdIdeal.nD Cert.AdamBwdIdeal.τ Cert.AdamBwdIdeal.sig) → Buf (Elt Ideal) ℓ) (g : Dev Cert.AdamBwdIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamBwdIdeal m →
    (∀ c : Dev Cert.AdamBwdIdeal.nD,
      m' ((c.tc : Thread Cert.AdamRefIdeal.nD Cert.AdamRefIdeal.τ).loc Cert.AdamRefIdeal.main_arg0) = m ((c.tc : Thread Cert.AdamBwdIdeal.nD Cert.AdamBwdIdeal.τ).loc Cert.AdamBwdIdeal.main_arg0)
      ∧ m' ((c.tc : Thread Cert.AdamRefIdeal.nD Cert.AdamRefIdeal.τ).loc Cert.AdamRefIdeal.main_arg1) = m ((c.tc : Thread Cert.AdamBwdIdeal.nD Cert.AdamBwdIdeal.τ).loc Cert.AdamBwdIdeal.main_arg1)
      ∧ m' ((c.tc : Thread Cert.AdamRefIdeal.nD Cert.AdamRefIdeal.τ).loc Cert.AdamRefIdeal.main_arg2) = m ((c.tc : Thread Cert.AdamBwdIdeal.nD Cert.AdamBwdIdeal.τ).loc Cert.AdamBwdIdeal.main_arg2)
      ∧ m' ((c.tc : Thread Cert.AdamRefIdeal.nD Cert.AdamRefIdeal.τ).loc Cert.AdamRefIdeal.main_arg3) = m ((c.tc : Thread Cert.AdamBwdIdeal.nD Cert.AdamBwdIdeal.τ).loc Cert.AdamBwdIdeal.main_arg3)
      ∧ m' ((c.tc : Thread Cert.AdamRefIdeal.nD Cert.AdamRefIdeal.τ).loc Cert.AdamRefIdeal.main_arg4) = m ((c.tc : Thread Cert.AdamBwdIdeal.nD Cert.AdamBwdIdeal.τ).loc Cert.AdamBwdIdeal.main_arg4)) →
    ∃ (v0 : (c : Dev Cert.AdamBwdIdeal.nD) → Buf (Elt Ideal) ((c.tc : Thread Cert.AdamBwdIdeal.nD Cert.AdamBwdIdeal.τ).loc Cert.AdamBwdIdeal.main_v9_0)) (v1 : (c : Dev Cert.AdamBwdIdeal.nD) → Buf (Elt Ideal) ((c.tc : Thread Cert.AdamBwdIdeal.nD Cert.AdamBwdIdeal.τ).loc Cert.AdamBwdIdeal.main_v9_1)) (v2 : (c : Dev Cert.AdamBwdIdeal.nD) → Buf (Elt Ideal) ((c.tc : Thread Cert.AdamBwdIdeal.nD Cert.AdamBwdIdeal.τ).loc Cert.AdamBwdIdeal.main_v9_2)) (v3 : (c : Dev Cert.AdamBwdIdeal.nD) → Buf (Elt Ideal) ((c.tc : Thread Cert.AdamBwdIdeal.nD Cert.AdamBwdIdeal.τ).loc Cert.AdamBwdIdeal.main_v9_3)),
      θ_run (Cert.AdamBwdIdeal.defs (F := Ideal)) (onTc (τ := Cert.AdamBwdIdeal.τ) (Cert.AdamBwdIdeal.main (F := Ideal))) ⟨m, fun _ => 0, g⟩ (fun r => ∀ c : Dev Cert.AdamBwdIdeal.nD,
          r.2.mem ((c.tc : Thread Cert.AdamBwdIdeal.nD Cert.AdamBwdIdeal.τ).loc Cert.AdamBwdIdeal.main_v9_0) = v0 c
          ∧ r.2.mem ((c.tc : Thread Cert.AdamBwdIdeal.nD Cert.AdamBwdIdeal.τ).loc Cert.AdamBwdIdeal.main_v9_1) = v1 c
          ∧ r.2.mem ((c.tc : Thread Cert.AdamBwdIdeal.nD Cert.AdamBwdIdeal.τ).loc Cert.AdamBwdIdeal.main_v9_2) = v2 c
          ∧ r.2.mem ((c.tc : Thread Cert.AdamBwdIdeal.nD Cert.AdamBwdIdeal.τ).loc Cert.AdamBwdIdeal.main_v9_3) = v3 c
          ∧ r.2.mem ((c.tc : Thread Cert.AdamBwdIdeal.nD Cert.AdamBwdIdeal.τ).loc Cert.AdamBwdIdeal.main_arg0) = m ((c.tc : Thread Cert.AdamBwdIdeal.nD Cert.AdamBwdIdeal.τ).loc Cert.AdamBwdIdeal.main_arg0)
          ∧ r.2.mem ((c.tc : Thread Cert.AdamBwdIdeal.nD Cert.AdamBwdIdeal.τ).loc Cert.AdamBwdIdeal.main_arg1) = m ((c.tc : Thread Cert.AdamBwdIdeal.nD Cert.AdamBwdIdeal.τ).loc Cert.AdamBwdIdeal.main_arg1)
          ∧ r.2.mem ((c.tc : Thread Cert.AdamBwdIdeal.nD Cert.AdamBwdIdeal.τ).loc Cert.AdamBwdIdeal.main_arg2) = m ((c.tc : Thread Cert.AdamBwdIdeal.nD Cert.AdamBwdIdeal.τ).loc Cert.AdamBwdIdeal.main_arg2)
          ∧ r.2.mem ((c.tc : Thread Cert.AdamBwdIdeal.nD Cert.AdamBwdIdeal.τ).loc Cert.AdamBwdIdeal.main_arg3) = m ((c.tc : Thread Cert.AdamBwdIdeal.nD Cert.AdamBwdIdeal.τ).loc Cert.AdamBwdIdeal.main_arg3)
          ∧ r.2.mem ((c.tc : Thread Cert.AdamBwdIdeal.nD Cert.AdamBwdIdeal.τ).loc Cert.AdamBwdIdeal.main_arg4) = m ((c.tc : Thread Cert.AdamBwdIdeal.nD Cert.AdamBwdIdeal.τ).loc Cert.AdamBwdIdeal.main_arg4))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v8) = v0 c
          ∧ r.2.mem ((c.tc : Thread Cert.AdamRefIdeal.nD Cert.AdamRefIdeal.τ).loc Cert.AdamRefIdeal.main_v37) = v1 c
          ∧ r.2.mem ((c.tc : Thread Cert.AdamRefIdeal.nD Cert.AdamRefIdeal.τ).loc Cert.AdamRefIdeal.main_v38) = v2 c
          ∧ r.2.mem ((c.tc : Thread Cert.AdamRefIdeal.nD Cert.AdamRefIdeal.τ).loc Cert.AdamRefIdeal.main_v39) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4))

def preserves_PackBwd_PackBwdIdeal : Prop :=
  True

def algebraic_PackBwdIdeal_PackRefIdeal [hPackBwdIdeal : Cert.PackBwdIdeal.Facts] [hPackRefIdeal : Cert.PackRefIdeal.Facts] : Prop :=
  ∀ (m : (ℓ : Loc Cert.PackBwdIdeal.nD Cert.PackBwdIdeal.τ Cert.PackBwdIdeal.sig) → Buf (Elt Ideal) ℓ) (g : Dev Cert.PackBwdIdeal.nD → PrngReg)
    (m' : (ℓ : Loc Cert.PackRefIdeal.nD Cert.PackRefIdeal.τ Cert.PackRefIdeal.sig) → Buf (Elt Ideal) ℓ) (g' : Dev Cert.PackRefIdeal.nD → PrngReg), Pre_PackBwdIdeal m →
    (∀ c : Dev Cert.PackBwdIdeal.nD,
      m' ((c.tc : Thread Cert.PackRefIdeal.nD Cert.PackRefIdeal.τ).loc Cert.PackRefIdeal.main_arg0) = m ((c.tc : Thread Cert.PackBwdIdeal.nD Cert.PackBwdIdeal.τ).loc Cert.PackBwdIdeal.main_arg0)
      ∧ m' ((c.tc : Thread Cert.PackRefIdeal.nD Cert.PackRefIdeal.τ).loc Cert.PackRefIdeal.main_arg1) = m ((c.tc : Thread Cert.PackBwdIdeal.nD Cert.PackBwdIdeal.τ).loc Cert.PackBwdIdeal.main_arg1)
      ∧ m' ((c.tc : Thread Cert.PackRefIdeal.nD Cert.PackRefIdeal.τ).loc Cert.PackRefIdeal.main_arg2) = m ((c.tc : Thread Cert.PackBwdIdeal.nD Cert.PackBwdIdeal.τ).loc Cert.PackBwdIdeal.main_arg2)
      ∧ m' ((c.tc : Thread Cert.PackRefIdeal.nD Cert.PackRefIdeal.τ).loc Cert.PackRefIdeal.main_arg3) = m ((c.tc : Thread Cert.PackBwdIdeal.nD Cert.PackBwdIdeal.τ).loc Cert.PackBwdIdeal.main_arg3)
      ∧ m' ((c.tc : Thread Cert.PackRefIdeal.nD Cert.PackRefIdeal.τ).loc Cert.PackRefIdeal.main_arg4) = m ((c.tc : Thread Cert.PackBwdIdeal.nD Cert.PackBwdIdeal.τ).loc Cert.PackBwdIdeal.main_arg4)
      ∧ m' ((c.tc : Thread Cert.PackRefIdeal.nD Cert.PackRefIdeal.τ).loc Cert.PackRefIdeal.main_arg5) = m ((c.tc : Thread Cert.PackBwdIdeal.nD Cert.PackBwdIdeal.τ).loc Cert.PackBwdIdeal.main_arg5)
      ∧ m' ((c.tc : Thread Cert.PackRefIdeal.nD Cert.PackRefIdeal.τ).loc Cert.PackRefIdeal.main_arg6) = m ((c.tc : Thread Cert.PackBwdIdeal.nD Cert.PackBwdIdeal.τ).loc Cert.PackBwdIdeal.main_arg6)
      ∧ m' ((c.tc : Thread Cert.PackRefIdeal.nD Cert.PackRefIdeal.τ).loc Cert.PackRefIdeal.main_arg7) = m ((c.tc : Thread Cert.PackBwdIdeal.nD Cert.PackBwdIdeal.τ).loc Cert.PackBwdIdeal.main_arg7)
      ∧ m' ((c.tc : Thread Cert.PackRefIdeal.nD Cert.PackRefIdeal.τ).loc Cert.PackRefIdeal.main_arg8) = m ((c.tc : Thread Cert.PackBwdIdeal.nD Cert.PackBwdIdeal.τ).loc Cert.PackBwdIdeal.main_arg8)
      ∧ m' ((c.tc : Thread Cert.PackRefIdeal.nD Cert.PackRefIdeal.τ).loc Cert.PackRefIdeal.main_arg9) = m ((c.tc : Thread Cert.PackBwdIdeal.nD Cert.PackBwdIdeal.τ).loc Cert.PackBwdIdeal.main_arg9)
      ∧ m' ((c.tc : Thread Cert.PackRefIdeal.nD Cert.PackRefIdeal.τ).loc Cert.PackRefIdeal.main_arg10) = m ((c.tc : Thread Cert.PackBwdIdeal.nD Cert.PackBwdIdeal.τ).loc Cert.PackBwdIdeal.main_arg10)
      ∧ m' ((c.tc : Thread Cert.PackRefIdeal.nD Cert.PackRefIdeal.τ).loc Cert.PackRefIdeal.main_arg11) = m ((c.tc : Thread Cert.PackBwdIdeal.nD Cert.PackBwdIdeal.τ).loc Cert.PackBwdIdeal.main_arg11)
      ∧ m' ((c.tc : Thread Cert.PackRefIdeal.nD Cert.PackRefIdeal.τ).loc Cert.PackRefIdeal.main_arg12) = m ((c.tc : Thread Cert.PackBwdIdeal.nD Cert.PackBwdIdeal.τ).loc Cert.PackBwdIdeal.main_arg12)
      ∧ m' ((c.tc : Thread Cert.PackRefIdeal.nD Cert.PackRefIdeal.τ).loc Cert.PackRefIdeal.main_arg13) = m ((c.tc : Thread Cert.PackBwdIdeal.nD Cert.PackBwdIdeal.τ).loc Cert.PackBwdIdeal.main_arg13)
      ∧ m' ((c.tc : Thread Cert.PackRefIdeal.nD Cert.PackRefIdeal.τ).loc Cert.PackRefIdeal.main_arg14) = m ((c.tc : Thread Cert.PackBwdIdeal.nD Cert.PackBwdIdeal.τ).loc Cert.PackBwdIdeal.main_arg14)
      ∧ m' ((c.tc : Thread Cert.PackRefIdeal.nD Cert.PackRefIdeal.τ).loc Cert.PackRefIdeal.main_arg15) = m ((c.tc : Thread Cert.PackBwdIdeal.nD Cert.PackBwdIdeal.τ).loc Cert.PackBwdIdeal.main_arg15)) →
    ∃ (v0 : (c : Dev Cert.PackBwdIdeal.nD) → Buf (Elt Ideal) ((c.tc : Thread Cert.PackBwdIdeal.nD Cert.PackBwdIdeal.τ).loc Cert.PackBwdIdeal.main_v0)),
      θ_run (Cert.PackBwdIdeal.defs (F := Ideal)) (onTc (τ := Cert.PackBwdIdeal.τ) (Cert.PackBwdIdeal.main (F := Ideal))) ⟨m, fun _ => 0, g⟩ (fun r => ∀ c : Dev Cert.PackBwdIdeal.nD,
          r.2.mem ((c.tc : Thread Cert.PackBwdIdeal.nD Cert.PackBwdIdeal.τ).loc Cert.PackBwdIdeal.main_v0) = v0 c
          ∧ r.2.mem ((c.tc : Thread Cert.PackBwdIdeal.nD Cert.PackBwdIdeal.τ).loc Cert.PackBwdIdeal.main_arg0) = m ((c.tc : Thread Cert.PackBwdIdeal.nD Cert.PackBwdIdeal.τ).loc Cert.PackBwdIdeal.main_arg0)
          ∧ r.2.mem ((c.tc : Thread Cert.PackBwdIdeal.nD Cert.PackBwdIdeal.τ).loc Cert.PackBwdIdeal.main_arg1) = m ((c.tc : Thread Cert.PackBwdIdeal.nD Cert.PackBwdIdeal.τ).loc Cert.PackBwdIdeal.main_arg1)
          ∧ r.2.mem ((c.tc : Thread Cert.PackBwdIdeal.nD Cert.PackBwdIdeal.τ).loc Cert.PackBwdIdeal.main_arg2) = m ((c.tc : Thread Cert.PackBwdIdeal.nD Cert.PackBwdIdeal.τ).loc Cert.PackBwdIdeal.main_arg2)
          ∧ r.2.mem ((c.tc : Thread Cert.PackBwdIdeal.nD Cert.PackBwdIdeal.τ).loc Cert.PackBwdIdeal.main_arg3) = m ((c.tc : Thread Cert.PackBwdIdeal.nD Cert.PackBwdIdeal.τ).loc Cert.PackBwdIdeal.main_arg3)
          ∧ r.2.mem ((c.tc : Thread Cert.PackBwdIdeal.nD Cert.PackBwdIdeal.τ).loc Cert.PackBwdIdeal.main_arg4) = m ((c.tc : Thread Cert.PackBwdIdeal.nD Cert.PackBwdIdeal.τ).loc Cert.PackBwdIdeal.main_arg4)
          ∧ r.2.mem ((c.tc : Thread Cert.PackBwdIdeal.nD Cert.PackBwdIdeal.τ).loc Cert.PackBwdIdeal.main_arg5) = m ((c.tc : Thread Cert.PackBwdIdeal.nD Cert.PackBwdIdeal.τ).loc Cert.PackBwdIdeal.main_arg5)
          ∧ r.2.mem ((c.tc : Thread Cert.PackBwdIdeal.nD Cert.PackBwdIdeal.τ).loc Cert.PackBwdIdeal.main_arg6) = m ((c.tc : Thread Cert.PackBwdIdeal.nD Cert.PackBwdIdeal.τ).loc Cert.PackBwdIdeal.main_arg6)
          ∧ r.2.mem ((c.tc : Thread Cert.PackBwdIdeal.nD Cert.PackBwdIdeal.τ).loc Cert.PackBwdIdeal.main_arg7) = m ((c.tc : Thread Cert.PackBwdIdeal.nD Cert.PackBwdIdeal.τ).loc Cert.PackBwdIdeal.main_arg7)
          ∧ r.2.mem ((c.tc : Thread Cert.PackBwdIdeal.nD Cert.PackBwdIdeal.τ).loc Cert.PackBwdIdeal.main_arg8) = m ((c.tc : Thread Cert.PackBwdIdeal.nD Cert.PackBwdIdeal.τ).loc Cert.PackBwdIdeal.main_arg8)
          ∧ r.2.mem ((c.tc : Thread Cert.PackBwdIdeal.nD Cert.PackBwdIdeal.τ).loc Cert.PackBwdIdeal.main_arg9) = m ((c.tc : Thread Cert.PackBwdIdeal.nD Cert.PackBwdIdeal.τ).loc Cert.PackBwdIdeal.main_arg9)
          ∧ r.2.mem ((c.tc : Thread Cert.PackBwdIdeal.nD Cert.PackBwdIdeal.τ).loc Cert.PackBwdIdeal.main_arg10) = m ((c.tc : Thread Cert.PackBwdIdeal.nD Cert.PackBwdIdeal.τ).loc Cert.PackBwdIdeal.main_arg10)
          ∧ r.2.mem ((c.tc : Thread Cert.PackBwdIdeal.nD Cert.PackBwdIdeal.τ).loc Cert.PackBwdIdeal.main_arg11) = m ((c.tc : Thread Cert.PackBwdIdeal.nD Cert.PackBwdIdeal.τ).loc Cert.PackBwdIdeal.main_arg11)
          ∧ r.2.mem ((c.tc : Thread Cert.PackBwdIdeal.nD Cert.PackBwdIdeal.τ).loc Cert.PackBwdIdeal.main_arg12) = m ((c.tc : Thread Cert.PackBwdIdeal.nD Cert.PackBwdIdeal.τ).loc Cert.PackBwdIdeal.main_arg12)
          ∧ r.2.mem ((c.tc : Thread Cert.PackBwdIdeal.nD Cert.PackBwdIdeal.τ).loc Cert.PackBwdIdeal.main_arg13) = m ((c.tc : Thread Cert.PackBwdIdeal.nD Cert.PackBwdIdeal.τ).loc Cert.PackBwdIdeal.main_arg13)
          ∧ r.2.mem ((c.tc : Thread Cert.PackBwdIdeal.nD Cert.PackBwdIdeal.τ).loc Cert.PackBwdIdeal.main_arg14) = m ((c.tc : Thread Cert.PackBwdIdeal.nD Cert.PackBwdIdeal.τ).loc Cert.PackBwdIdeal.main_arg14)
          ∧ r.2.mem ((c.tc : Thread Cert.PackBwdIdeal.nD Cert.PackBwdIdeal.τ).loc Cert.PackBwdIdeal.main_arg15) = m ((c.tc : Thread Cert.PackBwdIdeal.nD Cert.PackBwdIdeal.τ).loc Cert.PackBwdIdeal.main_arg15))
      ∧ θ_run (Cert.PackRefIdeal.defs (F := Ideal)) (onTc (τ := Cert.PackRefIdeal.τ) (Cert.PackRefIdeal.main (F := Ideal))) ⟨m', fun _ => 0, g'⟩ (fun r => ∀ c : Dev Cert.PackRefIdeal.nD,
          r.2.mem ((c.tc : Thread Cert.PackRefIdeal.nD Cert.PackRefIdeal.τ).loc Cert.PackRefIdeal.main_v10) = v0 c
          ∧ r.2.mem ((c.tc : Thread Cert.PackRefIdeal.nD Cert.PackRefIdeal.τ).loc Cert.PackRefIdeal.main_arg0) = m' ((c.tc : Thread Cert.PackRefIdeal.nD Cert.PackRefIdeal.τ).loc Cert.PackRefIdeal.main_arg0)
          ∧ r.2.mem ((c.tc : Thread Cert.PackRefIdeal.nD Cert.PackRefIdeal.τ).loc Cert.PackRefIdeal.main_arg1) = m' ((c.tc : Thread Cert.PackRefIdeal.nD Cert.PackRefIdeal.τ).loc Cert.PackRefIdeal.main_arg1)
          ∧ r.2.mem ((c.tc : Thread Cert.PackRefIdeal.nD Cert.PackRefIdeal.τ).loc Cert.PackRefIdeal.main_arg2) = m' ((c.tc : Thread Cert.PackRefIdeal.nD Cert.PackRefIdeal.τ).loc Cert.PackRefIdeal.main_arg2)
          ∧ r.2.mem ((c.tc : Thread Cert.PackRefIdeal.nD Cert.PackRefIdeal.τ).loc Cert.PackRefIdeal.main_arg3) = m' ((c.tc : Thread Cert.PackRefIdeal.nD Cert.PackRefIdeal.τ).loc Cert.PackRefIdeal.main_arg3)
          ∧ r.2.mem ((c.tc : Thread Cert.PackRefIdeal.nD Cert.PackRefIdeal.τ).loc Cert.PackRefIdeal.main_arg4) = m' ((c.tc : Thread Cert.PackRefIdeal.nD Cert.PackRefIdeal.τ).loc Cert.PackRefIdeal.main_arg4)
          ∧ r.2.mem ((c.tc : Thread Cert.PackRefIdeal.nD Cert.PackRefIdeal.τ).loc Cert.PackRefIdeal.main_arg5) = m' ((c.tc : Thread Cert.PackRefIdeal.nD Cert.PackRefIdeal.τ).loc Cert.PackRefIdeal.main_arg5)
          ∧ r.2.mem ((c.tc : Thread Cert.PackRefIdeal.nD Cert.PackRefIdeal.τ).loc Cert.PackRefIdeal.main_arg6) = m' ((c.tc : Thread Cert.PackRefIdeal.nD Cert.PackRefIdeal.τ).loc Cert.PackRefIdeal.main_arg6)
          ∧ r.2.mem ((c.tc : Thread Cert.PackRefIdeal.nD Cert.PackRefIdeal.τ).loc Cert.PackRefIdeal.main_arg7) = m' ((c.tc : Thread Cert.PackRefIdeal.nD Cert.PackRefIdeal.τ).loc Cert.PackRefIdeal.main_arg7)
          ∧ r.2.mem ((c.tc : Thread Cert.PackRefIdeal.nD Cert.PackRefIdeal.τ).loc Cert.PackRefIdeal.main_arg8) = m' ((c.tc : Thread Cert.PackRefIdeal.nD Cert.PackRefIdeal.τ).loc Cert.PackRefIdeal.main_arg8)
          ∧ r.2.mem ((c.tc : Thread Cert.PackRefIdeal.nD Cert.PackRefIdeal.τ).loc Cert.PackRefIdeal.main_arg9) = m' ((c.tc : Thread Cert.PackRefIdeal.nD Cert.PackRefIdeal.τ).loc Cert.PackRefIdeal.main_arg9)
          ∧ r.2.mem ((c.tc : Thread Cert.PackRefIdeal.nD Cert.PackRefIdeal.τ).loc Cert.PackRefIdeal.main_arg10) = m' ((c.tc : Thread Cert.PackRefIdeal.nD Cert.PackRefIdeal.τ).loc Cert.PackRefIdeal.main_arg10)
          ∧ r.2.mem ((c.tc : Thread Cert.PackRefIdeal.nD Cert.PackRefIdeal.τ).loc Cert.PackRefIdeal.main_arg11) = m' ((c.tc : Thread Cert.PackRefIdeal.nD Cert.PackRefIdeal.τ).loc Cert.PackRefIdeal.main_arg11)
          ∧ r.2.mem ((c.tc : Thread Cert.PackRefIdeal.nD Cert.PackRefIdeal.τ).loc Cert.PackRefIdeal.main_arg12) = m' ((c.tc : Thread Cert.PackRefIdeal.nD Cert.PackRefIdeal.τ).loc Cert.PackRefIdeal.main_arg12)
          ∧ r.2.mem ((c.tc : Thread Cert.PackRefIdeal.nD Cert.PackRefIdeal.τ).loc Cert.PackRefIdeal.main_arg13) = m' ((c.tc : Thread Cert.PackRefIdeal.nD Cert.PackRefIdeal.τ).loc Cert.PackRefIdeal.main_arg13)
          ∧ r.2.mem ((c.tc : Thread Cert.PackRefIdeal.nD Cert.PackRefIdeal.τ).loc Cert.PackRefIdeal.main_arg14) = m' ((c.tc : Thread Cert.PackRefIdeal.nD Cert.PackRefIdeal.τ).loc Cert.PackRefIdeal.main_arg14)
          ∧ r.2.mem ((c.tc : Thread Cert.PackRefIdeal.nD Cert.PackRefIdeal.τ).loc Cert.PackRefIdeal.main_arg15) = m' ((c.tc : Thread Cert.PackRefIdeal.nD Cert.PackRefIdeal.τ).loc Cert.PackRefIdeal.main_arg15))

def preserves_PairBwd_PairBwdIdeal : Prop :=
  True

def algebraic_PairBwdIdeal_PairRefIdeal [hPairBwdIdeal : Cert.PairBwdIdeal.Facts] [hPairRefIdeal : Cert.PairRefIdeal.Facts] : Prop :=
  ∀ (m : (ℓ : Loc Cert.PairBwdIdeal.nD Cert.PairBwdIdeal.τ Cert.PairBwdIdeal.sig) → Buf (Elt Ideal) ℓ) (g : Dev Cert.PairBwdIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairBwdIdeal m →
    (∀ c : Dev Cert.PairBwdIdeal.nD,
      m' ((c.tc : Thread Cert.PairRefIdeal.nD Cert.PairRefIdeal.τ).loc Cert.PairRefIdeal.main_arg0) = m ((c.tc : Thread Cert.PairBwdIdeal.nD Cert.PairBwdIdeal.τ).loc Cert.PairBwdIdeal.main_arg0)
      ∧ m' ((c.tc : Thread Cert.PairRefIdeal.nD Cert.PairRefIdeal.τ).loc Cert.PairRefIdeal.main_arg1) = m ((c.tc : Thread Cert.PairBwdIdeal.nD Cert.PairBwdIdeal.τ).loc Cert.PairBwdIdeal.main_arg1)) →
    ∃ (v0 : (c : Dev Cert.PairBwdIdeal.nD) → Buf (Elt Ideal) ((c.tc : Thread Cert.PairBwdIdeal.nD Cert.PairBwdIdeal.τ).loc Cert.PairBwdIdeal.main_v2_0)) (v1 : (c : Dev Cert.PairBwdIdeal.nD) → Buf (Elt Ideal) ((c.tc : Thread Cert.PairBwdIdeal.nD Cert.PairBwdIdeal.τ).loc Cert.PairBwdIdeal.main_v2_1)),
      θ_run (Cert.PairBwdIdeal.defs (F := Ideal)) (onTc (τ := Cert.PairBwdIdeal.τ) (Cert.PairBwdIdeal.main (F := Ideal))) ⟨m, fun _ => 0, g⟩ (fun r => ∀ c : Dev Cert.PairBwdIdeal.nD,
          r.2.mem ((c.tc : Thread Cert.PairBwdIdeal.nD Cert.PairBwdIdeal.τ).loc Cert.PairBwdIdeal.main_v2_0) = v0 c
          ∧ r.2.mem ((c.tc : Thread Cert.PairBwdIdeal.nD Cert.PairBwdIdeal.τ).loc Cert.PairBwdIdeal.main_v2_1) = v1 c
          ∧ r.2.mem ((c.tc : Thread Cert.PairBwdIdeal.nD Cert.PairBwdIdeal.τ).loc Cert.PairBwdIdeal.main_arg0) = m ((c.tc : Thread Cert.PairBwdIdeal.nD Cert.PairBwdIdeal.τ).loc Cert.PairBwdIdeal.main_arg0)
          ∧ r.2.mem ((c.tc : Thread Cert.PairBwdIdeal.nD Cert.PairBwdIdeal.τ).loc Cert.PairBwdIdeal.main_arg1) = m ((c.tc : Thread Cert.PairBwdIdeal.nD Cert.PairBwdIdeal.τ).loc Cert.PairBwdIdeal.main_arg1))
      ∧ θ_run (Cert.PairRefIdeal.defs (F := Ideal)) (onTc (τ := Cert.PairRefIdeal.τ) (Cert.PairRefIdeal.main (F := Ideal))) ⟨m', fun _ => 0, g'⟩ (fun r => ∀ c : Dev Cert.PairRefIdeal.nD,
          r.2.mem ((c.tc : Thread Cert.PairRefIdeal.nD Cert.PairRefIdeal.τ).loc Cert.PairRefIdeal.main_v4) = v0 c
          ∧ r.2.mem ((c.tc : Thread Cert.PairRefIdeal.nD Cert.PairRefIdeal.τ).loc Cert.PairRefIdeal.main_v24) = v1 c
          ∧ r.2.mem ((c.tc : Thread Cert.PairRefIdeal.nD Cert.PairRefIdeal.τ).loc Cert.PairRefIdeal.main_arg0) = m' ((c.tc : Thread Cert.PairRefIdeal.nD Cert.PairRefIdeal.τ).loc Cert.PairRefIdeal.main_arg0)
          ∧ r.2.mem ((c.tc : Thread Cert.PairRefIdeal.nD Cert.PairRefIdeal.τ).loc Cert.PairRefIdeal.main_arg1) = m' ((c.tc : Thread Cert.PairRefIdeal.nD Cert.PairRefIdeal.τ).loc Cert.PairRefIdeal.main_arg1))

def preserves_ReduceBwd_ReduceBwdIdeal : Prop :=
  True

def algebraic_ReduceBwdIdeal_ReduceRefIdeal [hReduceBwdIdeal : Cert.ReduceBwdIdeal.Facts] [hReduceRefIdeal : Cert.ReduceRefIdeal.Facts] : Prop :=
  ∀ (m : (ℓ : Loc Cert.ReduceBwdIdeal.nD Cert.ReduceBwdIdeal.τ Cert.ReduceBwdIdeal.sig) → Buf (Elt Ideal) ℓ) (g : Dev Cert.ReduceBwdIdeal.nD → PrngReg)
    (m' : (ℓ : Loc Cert.ReduceRefIdeal.nD Cert.ReduceRefIdeal.τ Cert.ReduceRefIdeal.sig) → Buf (Elt Ideal) ℓ) (g' : Dev Cert.ReduceRefIdeal.nD → PrngReg), Pre_ReduceBwdIdeal m →
    (∀ c : Dev Cert.ReduceBwdIdeal.nD,
      m ((c.tc : Thread Cert.ReduceBwdIdeal.nD Cert.ReduceBwdIdeal.τ).loc Cert.ReduceBwdIdeal.main_arg0) = Layout.blockN ⟨3, ![8, 1184, 1024]⟩ ⟨3, ![16, 1184, 1024]⟩ (Layout.meshBlock [1, 1, 2] ![[2], [], []] c) (m' (((0 : Dev Cert.ReduceRefIdeal.nD).tc : Thread Cert.ReduceRefIdeal.nD Cert.ReduceRefIdeal.τ).loc Cert.ReduceRefIdeal.main_arg0))) →
    ∃ (v0 : Buf (Elt Ideal) (((0 : Dev Cert.ReduceRefIdeal.nD).tc : Thread Cert.ReduceRefIdeal.nD Cert.ReduceRefIdeal.τ).loc Cert.ReduceRefIdeal.main_v10)),
      θ_run (Cert.ReduceBwdIdeal.defs (F := Ideal)) (onTc (τ := Cert.ReduceBwdIdeal.τ) (Cert.ReduceBwdIdeal.main (F := Ideal))) ⟨m, fun _ => 0, g⟩ (fun r => ∀ c : Dev Cert.ReduceBwdIdeal.nD,
          r.2.mem ((c.tc : Thread Cert.ReduceBwdIdeal.nD Cert.ReduceBwdIdeal.τ).loc Cert.ReduceBwdIdeal.main_v1) = Layout.blockN ⟨3, ![4, 1184, 1024]⟩ ⟨3, ![8, 1184, 1024]⟩ (Layout.meshBlock [1, 1, 2] ![[2], [], []] c) v0
          ∧ r.2.mem ((c.tc : Thread Cert.ReduceBwdIdeal.nD Cert.ReduceBwdIdeal.τ).loc Cert.ReduceBwdIdeal.main_arg0) = m ((c.tc : Thread Cert.ReduceBwdIdeal.nD Cert.ReduceBwdIdeal.τ).loc Cert.ReduceBwdIdeal.main_arg0))
      ∧ θ_run (Cert.ReduceRefIdeal.defs (F := Ideal)) (onTc (τ := Cert.ReduceRefIdeal.τ) (Cert.ReduceRefIdeal.main (F := Ideal))) ⟨m', fun _ => 0, g'⟩ (fun r =>
          r.2.mem (((0 : Dev Cert.ReduceRefIdeal.nD).tc : Thread Cert.ReduceRefIdeal.nD Cert.ReduceRefIdeal.τ).loc Cert.ReduceRefIdeal.main_v10) = v0
          ∧ r.2.mem (((0 : Dev Cert.ReduceRefIdeal.nD).tc : Thread Cert.ReduceRefIdeal.nD Cert.ReduceRefIdeal.τ).loc Cert.ReduceRefIdeal.main_arg0) = m' (((0 : Dev Cert.ReduceRefIdeal.nD).tc : Thread Cert.ReduceRefIdeal.nD Cert.ReduceRefIdeal.τ).loc Cert.ReduceRefIdeal.main_arg0))

def preserves_GatherBwd_GatherBwdIdeal : Prop :=
  True

def algebraic_GatherBwdIdeal_GatherRefIdeal [hGatherBwdIdeal : Cert.GatherBwdIdeal.Facts] [hGatherRefIdeal : Cert.GatherRefIdeal.Facts] : Prop :=
  ∀ (m : (ℓ : Loc Cert.GatherBwdIdeal.nD Cert.GatherBwdIdeal.τ Cert.GatherBwdIdeal.sig) → Buf (Elt Ideal) ℓ) (g : Dev Cert.GatherBwdIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherBwdIdeal m →
    (∀ c : Dev Cert.GatherBwdIdeal.nD,
      m ((c.tc : Thread Cert.GatherBwdIdeal.nD Cert.GatherBwdIdeal.τ).loc Cert.GatherBwdIdeal.main_arg0) = Layout.block ⟨2, ![32, 1024]⟩ ⟨2, ![256, 1024]⟩ 0 8 c (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherBwdIdeal.defs (F := Ideal)) (onTc (τ := Cert.GatherBwdIdeal.τ) (Cert.GatherBwdIdeal.main (F := Ideal))) ⟨m, fun _ => 0, g⟩ (fun r => ∀ c : Dev Cert.GatherBwdIdeal.nD,
          r.2.mem ((c.tc : Thread Cert.GatherBwdIdeal.nD Cert.GatherBwdIdeal.τ).loc Cert.GatherBwdIdeal.main_v1) = v0
          ∧ r.2.mem ((c.tc : Thread Cert.GatherBwdIdeal.nD Cert.GatherBwdIdeal.τ).loc Cert.GatherBwdIdeal.main_arg0) = m ((c.tc : Thread Cert.GatherBwdIdeal.nD Cert.GatherBwdIdeal.τ).loc Cert.GatherBwdIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def preserves_WeightsFwd_WeightsFwdIdeal : Prop :=
  True

def algebraic_WeightsFwdIdeal_WeightsRefIdeal [hWeightsFwdIdeal : Cert.WeightsFwdIdeal.Facts] [hWeightsRefIdeal : Cert.WeightsRefIdeal.Facts] : Prop :=
  ∀ (m : (ℓ : Loc Cert.WeightsFwdIdeal.nD Cert.WeightsFwdIdeal.τ Cert.WeightsFwdIdeal.sig) → Buf (Elt Ideal) ℓ) (g : Dev Cert.WeightsFwdIdeal.nD → PrngReg)
    (m' : (ℓ : Loc Cert.WeightsRefIdeal.nD Cert.WeightsRefIdeal.τ Cert.WeightsRefIdeal.sig) → Buf (Elt Ideal) ℓ) (g' : Dev Cert.WeightsRefIdeal.nD → PrngReg), Pre_WeightsFwdIdeal m →
    (∀ c : Dev Cert.WeightsFwdIdeal.nD,
      m ((c.tc : Thread Cert.WeightsFwdIdeal.nD Cert.WeightsFwdIdeal.τ).loc Cert.WeightsFwdIdeal.main_arg0) = Layout.block ⟨2, ![1184, 1024]⟩ ⟨2, ![9472, 1024]⟩ 0 8 c (m' (((0 : Dev Cert.WeightsRefIdeal.nD).tc : Thread Cert.WeightsRefIdeal.nD Cert.WeightsRefIdeal.τ).loc Cert.WeightsRefIdeal.main_arg0))) →
    ∃ (v0 : Buf (Elt Ideal) (((0 : Dev Cert.WeightsRefIdeal.nD).tc : Thread Cert.WeightsRefIdeal.nD Cert.WeightsRefIdeal.τ).loc Cert.WeightsRefIdeal.main_v0)),
      θ_run (Cert.WeightsFwdIdeal.defs (F := Ideal)) (onTc (τ := Cert.WeightsFwdIdeal.τ) (Cert.WeightsFwdIdeal.main (F := Ideal))) ⟨m, fun _ => 0, g⟩ (fun r => ∀ c : Dev Cert.WeightsFwdIdeal.nD,
          r.2.mem ((c.tc : Thread Cert.WeightsFwdIdeal.nD Cert.WeightsFwdIdeal.τ).loc Cert.WeightsFwdIdeal.main_v1) = v0
          ∧ r.2.mem ((c.tc : Thread Cert.WeightsFwdIdeal.nD Cert.WeightsFwdIdeal.τ).loc Cert.WeightsFwdIdeal.main_arg0) = m ((c.tc : Thread Cert.WeightsFwdIdeal.nD Cert.WeightsFwdIdeal.τ).loc Cert.WeightsFwdIdeal.main_arg0))
      ∧ θ_run (Cert.WeightsRefIdeal.defs (F := Ideal)) (onTc (τ := Cert.WeightsRefIdeal.τ) (Cert.WeightsRefIdeal.main (F := Ideal))) ⟨m', fun _ => 0, g'⟩ (fun r =>
          r.2.mem (((0 : Dev Cert.WeightsRefIdeal.nD).tc : Thread Cert.WeightsRefIdeal.nD Cert.WeightsRefIdeal.τ).loc Cert.WeightsRefIdeal.main_v0) = v0
          ∧ r.2.mem (((0 : Dev Cert.WeightsRefIdeal.nD).tc : Thread Cert.WeightsRefIdeal.nD Cert.WeightsRefIdeal.τ).loc Cert.WeightsRefIdeal.main_arg0) = m' (((0 : Dev Cert.WeightsRefIdeal.nD).tc : Thread Cert.WeightsRefIdeal.nD Cert.WeightsRefIdeal.τ).loc Cert.WeightsRefIdeal.main_arg0))

def Claim : Prop :=
  ∃ (hPreBwd : Cert.PreBwd.Facts) (hPreBwdIdeal : Cert.PreBwdIdeal.Facts) (hPreRefIdeal : Cert.PreRefIdeal.Facts) (hPostBwd : Cert.PostBwd.Facts) (hPostBwdIdeal : Cert.PostBwdIdeal.Facts) (hPostRefIdeal : Cert.PostRefIdeal.Facts) (hLossBwd : Cert.LossBwd.Facts) (hLossBwdIdeal : Cert.LossBwdIdeal.Facts) (hLossRefIdeal : Cert.LossRefIdeal.Facts) (hMergeBwd : Cert.MergeBwd.Facts) (hMergeBwdIdeal : Cert.MergeBwdIdeal.Facts) (hMergeRefIdeal : Cert.MergeRefIdeal.Facts) (hConvBwd : Cert.ConvBwd.Facts) (hConvBwdIdeal : Cert.ConvBwdIdeal.Facts) (hConvRefIdeal : Cert.ConvRefIdeal.Facts) (hInFwd : Cert.InFwd.Facts) (hInFwdIdeal : Cert.InFwdIdeal.Facts) (hInRefIdeal : Cert.InRefIdeal.Facts) (hOutFwd : Cert.OutFwd.Facts) (hOutFwdIdeal : Cert.OutFwdIdeal.Facts) (hOutRefIdeal : Cert.OutRefIdeal.Facts) (hUpFwd : Cert.UpFwd.Facts) (hUpFwdIdeal : Cert.UpFwdIdeal.Facts) (hUpRefIdeal : Cert.UpRefIdeal.Facts) (hMixFwd : Cert.MixFwd.Facts) (hMixFwdIdeal : Cert.MixFwdIdeal.Facts) (hMixRefIdeal : Cert.MixRefIdeal.Facts) (hMmBwd : Cert.MmBwd.Facts) (hMmBwdIdeal : Cert.MmBwdIdeal.Facts) (hMmRefIdeal : Cert.MmRefIdeal.Facts) (hMultiBwd : Cert.MultiBwd.Facts) (hMultiBwdIdeal : Cert.MultiBwdIdeal.Facts) (hMultiRefIdeal : Cert.MultiRefIdeal.Facts) (hColsBwd : Cert.ColsBwd.Facts) (hColsBwdIdeal : Cert.ColsBwdIdeal.Facts) (hColsRefIdeal : Cert.ColsRefIdeal.Facts) (hAdamBwd : Cert.AdamBwd.Facts) (hAdamBwdIdeal : Cert.AdamBwdIdeal.Facts) (hAdamRefIdeal : Cert.AdamRefIdeal.Facts) (hPackBwd : Cert.PackBwd.Facts) (hPackBwdIdeal : Cert.PackBwdIdeal.Facts) (hPackRefIdeal : Cert.PackRefIdeal.Facts) (hPairBwd : Cert.PairBwd.Facts) (hPairBwdIdeal : Cert.PairBwdIdeal.Facts) (hPairRefIdeal : Cert.PairRefIdeal.Facts) (hReduceBwd : Cert.ReduceBwd.Facts) (hReduceBwdIdeal : Cert.ReduceBwdIdeal.Facts) (hReduceRefIdeal : Cert.ReduceRefIdeal.Facts) (hGatherBwd : Cert.GatherBwd.Facts) (hGatherBwdIdeal : Cert.GatherBwdIdeal.Facts) (hGatherRefIdeal : Cert.GatherRefIdeal.Facts) (hWeightsFwd : Cert.WeightsFwd.Facts) (hWeightsFwdIdeal : Cert.WeightsFwdIdeal.Facts) (hWeightsRefIdeal : Cert.WeightsRefIdeal.Facts) (hPre_conv_finite : Cert.Pre_conv_finite.Facts),
    quiescent_PreBwd (hPreBwd := hPreBwd)
    ∧ quiescent_PreBwdIdeal (hPreBwdIdeal := hPreBwdIdeal)
    ∧ quiescent_PreRefIdeal (hPreRefIdeal := hPreRefIdeal)
    ∧ quiescent_PostBwd (hPostBwd := hPostBwd)
    ∧ quiescent_PostBwdIdeal (hPostBwdIdeal := hPostBwdIdeal)
    ∧ quiescent_PostRefIdeal (hPostRefIdeal := hPostRefIdeal)
    ∧ quiescent_LossBwd (hLossBwd := hLossBwd)
    ∧ quiescent_LossBwdIdeal (hLossBwdIdeal := hLossBwdIdeal)
    ∧ quiescent_LossRefIdeal (hLossRefIdeal := hLossRefIdeal)
    ∧ quiescent_MergeBwd (hMergeBwd := hMergeBwd)
    ∧ quiescent_MergeBwdIdeal (hMergeBwdIdeal := hMergeBwdIdeal)
    ∧ quiescent_MergeRefIdeal (hMergeRefIdeal := hMergeRefIdeal)
    ∧ quiescent_ConvBwd (hConvBwd := hConvBwd)
    ∧ quiescent_ConvBwdIdeal (hConvBwdIdeal := hConvBwdIdeal)
    ∧ quiescent_ConvBwdIdeal_pre_conv_finite (hConvBwdIdeal := hConvBwdIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_InFwd (hInFwd := hInFwd)
    ∧ quiescent_InFwdIdeal (hInFwdIdeal := hInFwdIdeal)
    ∧ quiescent_InRefIdeal (hInRefIdeal := hInRefIdeal)
    ∧ quiescent_OutFwd (hOutFwd := hOutFwd)
    ∧ quiescent_OutFwdIdeal (hOutFwdIdeal := hOutFwdIdeal)
    ∧ quiescent_OutRefIdeal (hOutRefIdeal := hOutRefIdeal)
    ∧ quiescent_UpFwd (hUpFwd := hUpFwd)
    ∧ quiescent_UpFwdIdeal (hUpFwdIdeal := hUpFwdIdeal)
    ∧ quiescent_UpRefIdeal (hUpRefIdeal := hUpRefIdeal)
    ∧ quiescent_MixFwd (hMixFwd := hMixFwd)
    ∧ quiescent_MixFwdIdeal (hMixFwdIdeal := hMixFwdIdeal)
    ∧ quiescent_MixRefIdeal (hMixRefIdeal := hMixRefIdeal)
    ∧ quiescent_MmBwd (hMmBwd := hMmBwd)
    ∧ quiescent_MmBwdIdeal (hMmBwdIdeal := hMmBwdIdeal)
    ∧ quiescent_MmRefIdeal (hMmRefIdeal := hMmRefIdeal)
    ∧ quiescent_MultiBwd (hMultiBwd := hMultiBwd)
    ∧ quiescent_MultiBwdIdeal (hMultiBwdIdeal := hMultiBwdIdeal)
    ∧ quiescent_MultiRefIdeal (hMultiRefIdeal := hMultiRefIdeal)
    ∧ quiescent_ColsBwd (hColsBwd := hColsBwd)
    ∧ quiescent_ColsBwdIdeal (hColsBwdIdeal := hColsBwdIdeal)
    ∧ quiescent_ColsRefIdeal (hColsRefIdeal := hColsRefIdeal)
    ∧ quiescent_AdamBwd (hAdamBwd := hAdamBwd)
    ∧ quiescent_AdamBwdIdeal (hAdamBwdIdeal := hAdamBwdIdeal)
    ∧ quiescent_AdamRefIdeal (hAdamRefIdeal := hAdamRefIdeal)
    ∧ quiescent_PackBwd (hPackBwd := hPackBwd)
    ∧ quiescent_PackBwdIdeal (hPackBwdIdeal := hPackBwdIdeal)
    ∧ quiescent_PackRefIdeal (hPackRefIdeal := hPackRefIdeal)
    ∧ quiescent_PairBwd (hPairBwd := hPairBwd)
    ∧ quiescent_PairBwdIdeal (hPairBwdIdeal := hPairBwdIdeal)
    ∧ quiescent_PairRefIdeal (hPairRefIdeal := hPairRefIdeal)
    ∧ quiescent_ReduceBwd (hReduceBwd := hReduceBwd)
    ∧ quiescent_ReduceBwdIdeal (hReduceBwdIdeal := hReduceBwdIdeal)
    ∧ quiescent_ReduceRefIdeal (hReduceRefIdeal := hReduceRefIdeal)
    ∧ quiescent_GatherBwd (hGatherBwd := hGatherBwd)
    ∧ quiescent_GatherBwdIdeal (hGatherBwdIdeal := hGatherBwdIdeal)
    ∧ quiescent_GatherRefIdeal (hGatherRefIdeal := hGatherRefIdeal)
    ∧ quiescent_WeightsFwd (hWeightsFwd := hWeightsFwd)
    ∧ quiescent_WeightsFwdIdeal (hWeightsFwdIdeal := hWeightsFwdIdeal)
    ∧ quiescent_WeightsRefIdeal (hWeightsRefIdeal := hWeightsRefIdeal)
    ∧ preserves_PreBwd_PreBwdIdeal
    ∧ algebraic_PreBwdIdeal_PreRefIdeal (hPreBwdIdeal := hPreBwdIdeal) (hPreRefIdeal := hPreRefIdeal)
    ∧ preserves_PostBwd_PostBwdIdeal
    ∧ algebraic_PostBwdIdeal_PostRefIdeal (hPostBwdIdeal := hPostBwdIdeal) (hPostRefIdeal := hPostRefIdeal)
    ∧ preserves_LossBwd_LossBwdIdeal
    ∧ algebraic_LossBwdIdeal_LossRefIdeal (hLossBwdIdeal := hLossBwdIdeal) (hLossRefIdeal := hLossRefIdeal)
    ∧ preserves_MergeBwd_MergeBwdIdeal
    ∧ algebraic_MergeBwdIdeal_MergeRefIdeal (hMergeBwdIdeal := hMergeBwdIdeal) (hMergeRefIdeal := hMergeRefIdeal)
    ∧ preserves_ConvBwd_ConvBwdIdeal
    ∧ algebraic_ConvBwdIdeal_ConvRefIdeal_pre_conv_finite (hConvBwdIdeal := hConvBwdIdeal) (hConvRefIdeal := hConvRefIdeal) (hPre_conv_finite := hPre_conv_finite)
    ∧ preserves_InFwd_InFwdIdeal
    ∧ algebraic_InFwdIdeal_InRefIdeal (hInFwdIdeal := hInFwdIdeal) (hInRefIdeal := hInRefIdeal)
    ∧ preserves_OutFwd_OutFwdIdeal
    ∧ algebraic_OutFwdIdeal_OutRefIdeal (hOutFwdIdeal := hOutFwdIdeal) (hOutRefIdeal := hOutRefIdeal)
    ∧ preserves_UpFwd_UpFwdIdeal
    ∧ algebraic_UpFwdIdeal_UpRefIdeal (hUpFwdIdeal := hUpFwdIdeal) (hUpRefIdeal := hUpRefIdeal)
    ∧ preserves_MixFwd_MixFwdIdeal
    ∧ algebraic_MixFwdIdeal_MixRefIdeal (hMixFwdIdeal := hMixFwdIdeal) (hMixRefIdeal := hMixRefIdeal)
    ∧ preserves_MmBwd_MmBwdIdeal
    ∧ algebraic_MmBwdIdeal_MmRefIdeal (hMmBwdIdeal := hMmBwdIdeal) (hMmRefIdeal := hMmRefIdeal)
    ∧ preserves_MultiBwd_MultiBwdIdeal
    ∧ algebraic_MultiBwdIdeal_MultiRefIdeal (hMultiBwdIdeal := hMultiBwdIdeal) (hMultiRefIdeal := hMultiRefIdeal)
    ∧ preserves_ColsBwd_ColsBwdIdeal
    ∧ algebraic_ColsBwdIdeal_ColsRefIdeal (hColsBwdIdeal := hColsBwdIdeal) (hColsRefIdeal := hColsRefIdeal)
    ∧ preserves_AdamBwd_AdamBwdIdeal
    ∧ algebraic_AdamBwdIdeal_AdamRefIdeal (hAdamBwdIdeal := hAdamBwdIdeal) (hAdamRefIdeal := hAdamRefIdeal)
    ∧ preserves_PackBwd_PackBwdIdeal
    ∧ algebraic_PackBwdIdeal_PackRefIdeal (hPackBwdIdeal := hPackBwdIdeal) (hPackRefIdeal := hPackRefIdeal)
    ∧ preserves_PairBwd_PairBwdIdeal
    ∧ algebraic_PairBwdIdeal_PairRefIdeal (hPairBwdIdeal := hPairBwdIdeal) (hPairRefIdeal := hPairRefIdeal)
    ∧ preserves_ReduceBwd_ReduceBwdIdeal
    ∧ algebraic_ReduceBwdIdeal_ReduceRefIdeal (hReduceBwdIdeal := hReduceBwdIdeal) (hReduceRefIdeal := hReduceRefIdeal)
    ∧ preserves_GatherBwd_GatherBwdIdeal
    ∧ algebraic_GatherBwdIdeal_GatherRefIdeal (hGatherBwdIdeal := hGatherBwdIdeal) (hGatherRefIdeal := hGatherRefIdeal)
    ∧ preserves_WeightsFwd_WeightsFwdIdeal
    ∧ algebraic_WeightsFwdIdeal_WeightsRefIdeal (hWeightsFwdIdeal := hWeightsFwdIdeal) (hWeightsRefIdeal := hWeightsRefIdeal)
-- ==== Pre_conv_finite.lean ====
abbrev S1x2048x1024 : Shape := ⟨3, ![1, 2048, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S_ : Shape := ⟨0, ![]⟩

class Facts : Prop where
  bcast_S_S1x2048x1024 : S_.BroadcastsInDim S1x2048x1024 (![] : Fin 0 → Fin S1x2048x1024.rank)
  bcast_S_S1x1024x5632 : S_.BroadcastsInDim S1x1024x5632 (![] : Fin 0 → Fin S1x1024x5632.rank)
  bcast_S_S1x3x5632 : S_.BroadcastsInDim S1x3x5632 (![] : Fin 0 → Fin S1x3x5632.rank)
  bcast_S_S1x5632 : S_.BroadcastsInDim S1x5632 (![] : Fin 0 → Fin S1x5632.rank)
  bcast_S_S1x2816x1024 : S_.BroadcastsInDim S1x2816x1024 (![] : Fin 0 → Fin S1x2816x1024.rank)

variable [Facts]

def fn {F : FTy → Type} [FloatOps F] (main_arg0 : FVec F S1x2048x1024 .f32) (main_arg1 : FVec F S1x1024x5632 .f32) (main_arg2 : FVec F S1x3x5632 .f32) (main_arg3 : FVec F S1x5632 .f32) (main_arg4 : FVec F S1x2816x1024 .f32) (main_arg5 : FVec F S1x2048x1024 .f32) : IVec S1x2048x1024 1 × IVec S1x1024x5632 1 × IVec S1x3x5632 1 × IVec S1x5632 1 × IVec S1x2816x1024 1 × IVec S1x2048x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024x5632 .f32 := Host.absf main_arg1
  let main_cst_0 : FVec F S_ .f32 := constant S_ .f32 0x7F800000#32
  let main_v4 : FVec F S1x1024x5632 .f32 := broadcastInDim S1x1024x5632 ![] bcast_S_S1x1024x5632 main_cst_0
  let main_v5 : IVec S1x1024x5632 1 := cmpf .olt main_v3 main_v4
  let main_v6 : FVec F S1x3x5632 .f32 := Host.absf main_arg2
  let main_cst_1 : FVec F S_ .f32 := constant S_ .f32 0x7F800000#32
  let main_v7 : FVec F S1x3x5632 .f32 := broadcastInDim S1x3x5632 ![] bcast_S_S1x3x5632 main_cst_1
  let main_v8 : IVec S1x3x5632 1 := cmpf .olt main_v6 main_v7
  let main_v9 : FVec F S1x5632 .f32 := Host.absf main_arg3
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  let main_v12 : FVec F S1x2816x1024 .f32 := Host.absf main_arg4
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  let main_v15 : FVec F S1x2048x1024 .f32 := Host.absf main_arg5
  let main_cst_4 : FVec F S_ .f32 := constant S_ .f32 0x7F800000#32
  let main_v16 : FVec F S1x2048x1024 .f32 := broadcastInDim S1x2048x1024 ![] bcast_S_S1x2048x1024 main_cst_4
  let main_v17 : IVec S1x2048x1024 1 := cmpf .olt main_v15 main_v16
  (main_v2, main_v5, main_v8, main_v11, main_v14, main_v17)
-- ==== PreBwd.lean ====
abbrev S1x2048x1024 : Shape := ⟨3, ![1, 2048, 1024]⟩
abbrev S1x1024 : Shape := ⟨2, ![1, 1024]⟩
abbrev S1x1024x9472 : Shape := ⟨3, ![1, 1024, 9472]⟩
abbrev S1x2048x9472 : Shape := ⟨3, ![1, 2048, 9472]⟩
abbrev S1024x9472 : Shape := ⟨2, ![1024, 9472]⟩
abbrev S9472x1024 : Shape := ⟨2, ![9472, 1024]⟩
abbrev S2048x9472 : Shape := ⟨2, ![2048, 9472]⟩
abbrev S2048x7424 : Shape := ⟨2, ![2048, 7424]⟩
abbrev S2048x1024 : Shape := ⟨2, ![2048, 1024]⟩
abbrev S_ : Shape := ⟨0, ![]⟩
abbrev S8x128 : Shape := ⟨2, ![8, 128]⟩
abbrev S256x7424 : Shape := ⟨2, ![256, 7424]⟩
abbrev S256x1024 : Shape := ⟨2, ![256, 1024]⟩
abbrev S7424x1024 : Shape := ⟨2, ![7424, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 19
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x9472, .f32⟩
  | .hbm, ⟨3, _⟩ => ⟨S1x2048x9472, .f32⟩
  | .hbm, ⟨4, _⟩ => ⟨S1x2048x1024, .f32⟩
  | .hbm, ⟨5, _⟩ => ⟨S1024x9472, .f32⟩
  | .hbm, ⟨6, _⟩ => ⟨S9472x1024, .f32⟩
  | .hbm, ⟨7, _⟩ => ⟨S9472x1024, .bf16⟩
  | .hbm, ⟨8, _⟩ => ⟨S2048x9472, .f32⟩
  | .hbm, ⟨9, _⟩ => ⟨S2048x9472, .bf16⟩
  | .hbm, ⟨10, _⟩ => ⟨S2048x7424, .bf16⟩
  | .hbm, ⟨11, _⟩ => ⟨S2048x1024, .bf16⟩
  | .hbm, ⟨12, _⟩ => ⟨S2048x1024, .bf16⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S8x128, .f32⟩
  | .hbm, ⟨17, _⟩ => ⟨S1x1024, .f32⟩
  | .hbm, ⟨18, _⟩ => ⟨S2048x1024, .f32⟩
  | .local _ .vmem, ⟨0, _⟩ => ⟨S256x7424, .bf16⟩
  | .local _ .vmem, ⟨1, _⟩ => ⟨S256x7424, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S9472x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S8x128, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7424 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9472x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PreRefIdeal.lean ====
abbrev S1x2048x1024 : Shape := ⟨3, ![1, 2048, 1024]⟩
abbrev S1x1024 : Shape := ⟨2, ![1, 1024]⟩
abbrev S1x1024x9472 : Shape := ⟨3, ![1, 1024, 9472]⟩
abbrev S1x2048x9472 : Shape := ⟨3, ![1, 2048, 9472]⟩
abbrev S2048x1024 : Shape := ⟨2, ![2048, 1024]⟩
abbrev S1024x9472 : Shape := ⟨2, ![1024, 9472]⟩
abbrev S_ : Shape := ⟨0, ![]⟩
abbrev S2048 : Shape := ⟨1, ![2048]⟩
abbrev S2048x1 : Shape := ⟨2, ![2048, 1]⟩
abbrev S2048x9472 : Shape := ⟨2, ![2048, 9472]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x9472, .f32⟩
  | .hbm, ⟨3, _⟩ => ⟨S1x2048x9472, .f32⟩
  | .hbm, ⟨4, _⟩ => ⟨S1x2048x1024, .f32⟩
  | .hbm, ⟨5, _⟩ => ⟨S2048x1024, .f32⟩
  | .hbm, ⟨6, _⟩ => ⟨S1024x9472, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x9472, .f32⟩
  | .hbm, ⟨27, _⟩ => ⟨S2048x9472, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== PostBwd.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2048x5632 : Shape := ⟨3, ![1, 2048, 5632]⟩
abbrev S1024x5632 : Shape := ⟨2, ![1024, 5632]⟩
abbrev S5632x1024 : Shape := ⟨2, ![5632, 1024]⟩
abbrev S1x2048x2816 : Shape := ⟨3, ![1, 2048, 2816]⟩
abbrev S2048x2816 : Shape := ⟨2, ![2048, 2816]⟩
abbrev S2048x1024 : Shape := ⟨2, ![2048, 1024]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩
abbrev S1024 : Shape := ⟨1, ![1024]⟩

abbrev nBuf : Space → Nat
  | .hbm => 23
  | .vmem => 19
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1024, .f32⟩
  | .hbm, ⟨3, _⟩ => ⟨S1x1024, .f32⟩
  | .hbm, ⟨4, _⟩ => ⟨S1x1024x5632, .f32⟩
  | .hbm, ⟨5, _⟩ => ⟨S1x2048x1024, .f32⟩
  | .hbm, ⟨6, _⟩ => ⟨S1x2048x5632, .f32⟩
  | .hbm, ⟨7, _⟩ => ⟨S1024x5632, .f32⟩
  | .hbm, ⟨8, _⟩ => ⟨S5632x1024, .f32⟩
  | .hbm, ⟨9, _⟩ => ⟨S5632x1024, .bf16⟩
  | .hbm, ⟨10, _⟩ => ⟨S1x2048x2816, .f32⟩
  | .hbm, ⟨11, _⟩ => ⟨S2048x2816, .f32⟩
  | .hbm, ⟨12, _⟩ => ⟨S2048x2816, .bf16⟩
  | .hbm, ⟨13, _⟩ => ⟨S1x2048x2816, .f32⟩
  | .hbm, ⟨14, _⟩ => ⟨S2048x2816, .f32⟩
  | .hbm, ⟨15, _⟩ => ⟨S2048x2816, .bf16⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S1x1024, .f32⟩
  | .hbm, ⟨21, _⟩ => ⟨S2048x1024, .f32⟩
  | .hbm, ⟨22, _⟩ => ⟨S2048x1024, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PostRefIdeal.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2048x5632 : Shape := ⟨3, ![1, 2048, 5632]⟩
abbrev S2048x1024 : Shape := ⟨2, ![2048, 1024]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S1024 : Shape := ⟨1, ![1024]⟩

abbrev nBuf : Space → Nat
  | .hbm => 101
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1024, .f32⟩
  | .hbm, ⟨3, _⟩ => ⟨S1x1024, .f32⟩
  | .hbm, ⟨4, _⟩ => ⟨S1x1024x5632, .f32⟩
  | .hbm, ⟨5, _⟩ => ⟨S1x2048x1024, .f32⟩
  | .hbm, ⟨6, _⟩ => ⟨S1x2048x5632, .f32⟩
  | .hbm, ⟨7, _⟩ => ⟨S2048x1024, .f32⟩
  | .hbm, ⟨8, _⟩ => ⟨S2048x1024, .f32⟩
  | .hbm, ⟨9, _⟩ => ⟨S1024x5632, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x5632, .f32⟩
  | .hbm, ⟨50, _⟩ => ⟨S2048x1024, .f32⟩
  | .hbm, ⟨51, _⟩ => ⟨S2048x5632, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S_, .f32⟩
  | .hbm, ⟨85, _⟩ => ⟨S2048, .f32⟩
  | .hbm, ⟨86, _⟩ => ⟨S2048x1, .f32⟩
  | .hbm, ⟨87, _⟩ => ⟨S2048x1024, .f32⟩
  | .hbm, ⟨88, _⟩ => ⟨S2048x1024, .f32⟩
  | .hbm, ⟨89, _⟩ => ⟨S2048x1, .f32⟩
  | .hbm, ⟨90, _⟩ => ⟨S_, .f32⟩
  | .hbm, ⟨91, _⟩ => ⟨S2048x1, .f32⟩
  | .hbm, ⟨92, _⟩ => ⟨S2048x1, .f32⟩
  | .hbm, ⟨93, _⟩ => ⟨S_, .f32⟩
  | .hbm, ⟨94, _⟩ => ⟨S2048, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩

abbrev nD : Nat := 1
abbrev τ : Topo := Topo.v7x

variable {F : FTy → Type} [FloatOps F]
-- ==== LossBwd.lean ====
abbrev S1x2048x2816 : Shape := ⟨3, ![1, 2048, 2816]⟩
abbrev S1x2816x1024 : Shape := ⟨3, ![1, 2816, 1024]⟩
abbrev S1x1024 : Shape := ⟨2, ![1, 1024]⟩
abbrev S1x2048x1024 : Shape := ⟨3, ![1, 2048, 1024]⟩
abbrev S2048x2816 : Shape := ⟨2, ![2048, 2816]⟩
abbrev S2816x1024 : Shape := ⟨2, ![2816, 1024]⟩
abbrev S2048x1024 : Shape := ⟨2, ![2048, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S1x2048x2816, .f32⟩
  | .hbm, ⟨1, _⟩ => ⟨S1x2816x1024, .f32⟩
  | .hbm, ⟨2, _⟩ => ⟨S1x1024, .f32⟩
  | .hbm, ⟨3, _⟩ => ⟨S1x2048x1024, .f32⟩
  | .hbm, ⟨4, _⟩ => ⟨S1x2048x1024, .f32⟩
  | .hbm, ⟨5, _⟩ => ⟨S2048x2816, .f32⟩
  | .hbm, ⟨6, _⟩ => ⟨S2048x2816, .bf16⟩
  | .hbm, ⟨7, _⟩ => ⟨S2816x1024, .f32⟩
  | .hbm, ⟨8, _⟩ => ⟨S2816x1024, .bf16⟩
  | .hbm, ⟨9, _⟩ => ⟨S2048x1024, .f32⟩
  | .hbm, ⟨10, _⟩ => ⟨S2048x1024, .f32⟩
  | .hbm, ⟨11, _⟩ => ⟨S1x128, .f32⟩
  | .hbm, ⟨12, _⟩ => ⟨S1x1024, .f32⟩
  | .hbm, ⟨13, _⟩ => ⟨S2048x1024, .f32⟩
  | .hbm, ⟨14, _⟩ => ⟨S2048x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S1x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LossRefIdeal.lean ====
abbrev S1x2048x2816 : Shape := ⟨3, ![1, 2048, 2816]⟩
abbrev S1x2816x1024 : Shape := ⟨3, ![1, 2816, 1024]⟩
abbrev S1x1024 : Shape := ⟨2, ![1, 1024]⟩
abbrev S1x2048x1024 : Shape := ⟨3, ![1, 2048, 1024]⟩
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S1x2048x2816, .f32⟩
  | .hbm, ⟨1, _⟩ => ⟨S1x2816x1024, .f32⟩
  | .hbm, ⟨2, _⟩ => ⟨S1x1024, .f32⟩
  | .hbm, ⟨3, _⟩ => ⟨S1x2048x1024, .f32⟩
  | .hbm, ⟨4, _⟩ => ⟨S1x2048x1024, .f32⟩
  | .hbm, ⟨5, _⟩ => ⟨S2048x2816, .f32⟩
  | .hbm, ⟨6, _⟩ => ⟨S2816x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S1x128, .f32⟩
  | .hbm, ⟨77, _⟩ => ⟨S2048x1024, .bf16⟩
  | _, _ => ⟨S1x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== MergeBwd.lean ====
abbrev S1x2048x9472 : Shape := ⟨3, ![1, 2048, 9472]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩
abbrev S2048x9472 : Shape := ⟨2, ![2048, 9472]⟩
abbrev S512x1024 : Shape := ⟨2, ![512, 1024]⟩
abbrev S512x256 : Shape := ⟨2, ![512, 256]⟩

abbrev nBuf : Space → Nat
  | .hbm => 30
  | .vmem => 37
  | .smem => 0
  | _ => 0

abbrev bufTy : (tb : Table) → Fin (tcTables nBuf tb) → BufTy
  | .hbm, ⟨0, _⟩ => ⟨S1x2048x9472, .f32⟩
  | .hbm, ⟨1, _⟩ => ⟨S1x2048x1024, .f32⟩
  | .hbm, ⟨2, _⟩ => ⟨S1x2048x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x2048x1024, .f32⟩
  | .hbm, ⟨7, _⟩ => ⟨S2048x1024, .f32⟩
  | .hbm, ⟨8, _⟩ => ⟨S1024x1024, .f32⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S1024x1024, .f32⟩
  | .hbm, ⟨13, _⟩ => ⟨S2048x1024, .f32⟩
  | .hbm, ⟨14, _⟩ => ⟨S2048x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S2048x1024, .f32⟩
  | .hbm, ⟨22, _⟩ => ⟨S2048x1024, .bf16⟩
  | .hbm, ⟨23, _⟩ => ⟨S2048x9472, .f32⟩
  | .hbm, ⟨24, _⟩ => ⟨S2048x1024, .bf16⟩
  | .hbm, ⟨25, _⟩ => ⟨S2048x1024, .bf16⟩
  | .hbm, ⟨26, _⟩ => ⟨S2048x1024, .bf16⟩
  | .hbm, ⟨27, _⟩ => ⟨S2048x1024, .bf16⟩
  | .hbm, ⟨28, _⟩ => ⟨S2048x1024, .bf16⟩
  | .hbm, ⟨29, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | _, _ => ⟨S1x2048x9472, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v17_3 : Ref sig .tc := ⟨.hbm, 27, rfl⟩
abbrev main_v17_4 : Ref sig .tc := ⟨.hbm, 28, rfl⟩
abbrev main_v17_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c29_i32 : BitVec 32 := 29#32
  let c0_i32 : BitVec 32 := 0#32
  ![arg0.toNat, c29_i32.toNat]

def cc0_transform_5 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_6 (i : grid0.Coords) : Fin 2 → Nat :=
  let arg0 : BitVec 32 := BitVec.ofNat 32 (i 0).val
  let c31_i32 : BitVec 32 := 31#32
  let c0_i32 : BitVec 32 := 0#32
  ![arg0.toNat, c31_i32.toNat]

def cc0_transform_7 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_8 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_9 (i : grid0.Coords) : Fin 2 → Nat :=
  let arg0 : BitVec 32 := BitVec.ofNat 32 (i 0).val
  let c34_i32 : BitVec 32 := 34#32
  let c0_i32 : BitVec 32 := 0#32
  ![arg0.toNat, c34_i32.toNat]

def cc0_transform_10 (i : grid0.Coords) : Fin 2 → Nat :=
  let arg0 : BitVec 32 := BitVec.ofNat 32 (i 0).val
  let c35_i32 : BitVec 32 := 35#32
  let c0_i32 : BitVec 32 := 0#32
  ![arg0.toNat, c35_i32.toNat]

def cc0_transform_11 (i : grid0.Coords) : Fin 2 → Nat :=
  let arg0 : BitVec 32 := BitVec.ofNat 32 (i 0).val
  let c36_i32 : BitVec 32 := 36#32
  let c0_i32 : BitVec 32 := 0#32
  ![arg0.toNat, c36_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MergeRefIdeal.lean ====
abbrev S1x2048x9472 : Shape := ⟨3, ![1, 2048, 9472]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S1x2048x9472, .f32⟩
  | .hbm, ⟨1, _⟩ => ⟨S1x2048x1024, .f32⟩
  | .hbm, ⟨2, _⟩ => ⟨S1x2048x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x2048x1024, .f32⟩
  | .hbm, ⟨7, _⟩ => ⟨S1x2048x1024, .f32⟩
  | .hbm, ⟨8, _⟩ => ⟨S2048x1024, .f32⟩
  | .hbm, ⟨9, _⟩ => ⟨S1x2048x1024, .f32⟩
  | .hbm, ⟨10, _⟩ => ⟨S2048x1024, .f32⟩
  | .hbm, ⟨11, _⟩ => ⟨S2048x1024, .f32⟩
  | .hbm, ⟨12, _⟩ => ⟨S1024x1024, .f32⟩
  | .hbm, ⟨13, _⟩ => ⟨S2048x1024, .f32⟩
  | .hbm, ⟨14, _⟩ => ⟨S2048x1024, .f32⟩
  | .hbm, ⟨15, _⟩ => ⟨S1024x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S1024x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .bf16⟩
  | .hbm, ⟨57, _⟩ => ⟨S2048x1024, .bf16⟩
  | .hbm, ⟨58, _⟩ => ⟨S2048x1024, .bf16⟩
  | .hbm, ⟨59, _⟩ => ⟨S2048x1024, .bf16⟩
  | .hbm, ⟨60, _⟩ => ⟨S2048x1024, .bf16⟩
  | .hbm, ⟨61, _⟩ => ⟨S2048x1024, .bf16⟩
  | _, _ => ⟨S1x2048x9472, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== ConvBwd.lean ====
abbrev S1x2048x1024 : Shape := ⟨3, ![1, 2048, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S2048x1024 : Shape := ⟨2, ![2048, 1024]⟩
abbrev S1024x5632 : Shape := ⟨2, ![1024, 5632]⟩
abbrev S2048x5632 : Shape := ⟨2, ![2048, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S2050x5632 : Shape := ⟨2, ![2050, 5632]⟩
abbrev S2816x1024 : Shape := ⟨2, ![2816, 1024]⟩
abbrev S2048x2816 : Shape := ⟨2, ![2048, 2816]⟩
abbrev S3x2816 : Shape := ⟨2, ![3, 2816]⟩
abbrev S1x2816 : Shape := ⟨2, ![1, 2816]⟩
abbrev S256x1024 : Shape := ⟨2, ![256, 1024]⟩
abbrev S1408x1024 : Shape := ⟨2, ![1408, 1024]⟩
abbrev S256x1408 : Shape := ⟨2, ![256, 1408]⟩
abbrev S3x1408 : Shape := ⟨2, ![3, 1408]⟩
abbrev S1x1408 : Shape := ⟨2, ![1, 1408]⟩
abbrev S16x1408 : Shape := ⟨2, ![16, 1408]⟩
abbrev S8x1408 : Shape := ⟨2, ![8, 1408]⟩
abbrev S1408 : Shape := ⟨1, ![1408]⟩

abbrev nBuf : Space → Nat
  | .hbm => 52
  | .vmem => 29
  | .smem => 0
  | _ => 0

abbrev bufTy : (tb : Table) → Fin (tcTables nBuf tb) → BufTy
  | .hbm, ⟨0, _⟩ => ⟨S1x2048x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S1x2816x1024, .f32⟩
  | .hbm, ⟨5, _⟩ => ⟨S1x2048x1024, .f32⟩
  | .hbm, ⟨6, _⟩ => ⟨S2048x1024, .f32⟩
  | .hbm, ⟨7, _⟩ => ⟨S1024x5632, .f32⟩
  | .hbm, ⟨8, _⟩ => ⟨S2048x5632, .f32⟩
  | .hbm, ⟨9, _⟩ => ⟨S3x5632, .f32⟩
  | .hbm, ⟨10, _⟩ => ⟨S5632, .f32⟩
  | .hbm, ⟨11, _⟩ => ⟨S_, .f32⟩
  | .hbm, ⟨12, _⟩ => ⟨S2x5632, .f32⟩
  | .hbm, ⟨13, _⟩ => ⟨S2050x5632, .f32⟩
  | .hbm, ⟨14, _⟩ => ⟨S1x5632, .f32⟩
  | .hbm, ⟨15, _⟩ => ⟨S5632, .f32⟩
  | .hbm, ⟨16, _⟩ => ⟨S2048x5632, .f32⟩
  | .hbm, ⟨17, _⟩ => ⟨S1x5632, .f32⟩
  | .hbm, ⟨18, _⟩ => ⟨S2048x5632, .f32⟩
  | .hbm, ⟨19, _⟩ => ⟨S2048x5632, .f32⟩
  | .hbm, ⟨20, _⟩ => ⟨S1x5632, .f32⟩
  | .hbm, ⟨21, _⟩ => ⟨S2048x5632, .f32⟩
  | .hbm, ⟨22, _⟩ => ⟨S2048x5632, .f32⟩
  | .hbm, ⟨23, _⟩ => ⟨S1x5632, .f32⟩
  | .hbm, ⟨24, _⟩ => ⟨S5632, .f32⟩
  | .hbm, ⟨25, _⟩ => ⟨S2048x5632, .f32⟩
  | .hbm, ⟨26, _⟩ => ⟨S1x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S1x5632, .f32⟩
  | .hbm, ⟨31, _⟩ => ⟨S5632, .f32⟩
  | .hbm, ⟨32, _⟩ => ⟨S2048x5632, .f32⟩
  | .hbm, ⟨33, _⟩ => ⟨S1x5632, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S2048x1024, .f32⟩
  | .hbm, ⟨38, _⟩ => ⟨S2048x1024, .bf16⟩
  | .hbm, ⟨39, _⟩ => ⟨S2816x1024, .f32⟩
  | .hbm, ⟨40, _⟩ => ⟨S2816x1024, .bf16⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S3x5632, .f32⟩
  | .hbm, ⟨46, _⟩ => ⟨S3x2816, .f32⟩
  | .hbm, ⟨47, _⟩ => ⟨S3x2816, .f32⟩
  | .hbm, ⟨48, _⟩ => ⟨S1x2816, .f32⟩
  | .hbm, ⟨49, _⟩ => ⟨S1x2816, .f32⟩
  | .hbm, ⟨50, _⟩ => ⟨S2048x2816, .bf16⟩
  | .hbm, ⟨51, _⟩ => ⟨S2048x2816, .bf16⟩
  | .local _ .vmem, ⟨0, _⟩ => ⟨S256x1024, .bf16⟩
  | .local _ .vmem, ⟨1, _⟩ => ⟨S256x1024, .bf16⟩
  | .local _ .vmem, ⟨2, _⟩ => ⟨S1408x1024, .bf16⟩
  | .local _ .vmem, ⟨3, _⟩ => ⟨S1408x1024, .bf16⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S3x1408, .f32⟩
  | .local _ .vmem, ⟨13, _⟩ => ⟨S3x1408, .f32⟩
  | .local _ .vmem, ⟨14, _⟩ => ⟨S3x1408, .f32⟩
  | .local _ .vmem, ⟨15, _⟩ => ⟨S3x1408, .f32⟩
  | .local _ .vmem, ⟨16, _⟩ => ⟨S3x1408, .f32⟩
  | .local _ .vmem, ⟨17, _⟩ => ⟨S3x1408, .f32⟩
  | .local _ .vmem, ⟨18, _⟩ => ⟨S3x1408, .f32⟩
  | .local _ .vmem, ⟨19, _⟩ => ⟨S3x1408, .f32⟩
  | .local _ .vmem, ⟨20, _⟩ => ⟨S1x1408, .f32⟩
  | .local _ .vmem, ⟨21, _⟩ => ⟨S1x1408, .f32⟩
  | .local _ .vmem, ⟨22, _⟩ => ⟨S1x1408, .f32⟩
  | .local _ .vmem, ⟨23, _⟩ => ⟨S1x1408, .f32⟩
  | .local _ .vmem, ⟨24, _⟩ => ⟨S256x1408, .bf16⟩
  | .local _ .vmem, ⟨25, _⟩ => ⟨S256x1408, .bf16⟩
  | .local _ .vmem, ⟨26, _⟩ => ⟨S256x1408, .bf16⟩
  | .local _ .vmem, ⟨27, _⟩ => ⟨S256x1408, .bf16⟩
  | .local _ .vmem, ⟨28, _⟩ => ⟨S16x1408, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39_0 : Ref sig .tc := ⟨.hbm, 46, rfl⟩
abbrev main_v39_1 : Ref sig .tc := ⟨.hbm, 47, rfl⟩
abbrev main_v39_2 : Ref sig .tc := ⟨.hbm, 48, rfl⟩
abbrev main_v39_3 : Ref sig .tc := ⟨.hbm, 49, rfl⟩
abbrev main_v39_4 : Ref sig .tc := ⟨.hbm, 50, rfl⟩
abbrev main_v39_5 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ConvRefIdeal.lean ====
abbrev S1x2048x1024 : Shape := ⟨3, ![1, 2048, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S2048x1024 : Shape := ⟨2, ![2048, 1024]⟩
abbrev S1024x5632 : Shape := ⟨2, ![1024, 5632]⟩
abbrev S2048x5632 : Shape := ⟨2, ![2048, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x5632 : Shape := ⟨2, ![2, 5632]⟩
abbrev S2050x5632 : Shape := ⟨2, ![2050, 5632]⟩
abbrev S2048x2816 : Shape := ⟨2, ![2048, 2816]⟩
abbrev S3x2816 : Shape := ⟨2, ![3, 2816]⟩
abbrev S2816 : Shape := ⟨1, ![2816]⟩
abbrev S1x2816 : Shape := ⟨2, ![1, 2816]⟩

abbrev nBuf : Space → Nat
  | .hbm => 130
  | .vmem => 0
  | .smem => 0
  | _ => 0

abbrev hbmTy0_0 (i : Nat) : BufTy := match i % 128 with
  | 0 => ⟨S1x2048x1024, .f32⟩
  | 1 => ⟨S1x1024x5632, .f32⟩
  | 2 => ⟨S1x3x5632, .f32⟩
  | 3 => ⟨S1x5632, .f32⟩
  | 4 => ⟨S1x2816x1024, .f32⟩
  | 5 => ⟨S1x2048x1024, .f32⟩
  | 6 => ⟨S2048x1024, .f32⟩
  | 7 => ⟨S1024x5632, .f32⟩
  | 8 => ⟨S2048x5632, .f32⟩
  | 9 => ⟨S3x5632, .f32⟩
  | 10 => ⟨S5632, .f32⟩
  | 11 => ⟨S2816x1024, .f32⟩
  | 12 => ⟨S_, .f32⟩
  | 13 => ⟨S2x5632, .f32⟩
  | 14 => ⟨S2050x5632, .f32⟩
  | 15 => ⟨S_, .f32⟩
  | 16 => ⟨S2x5632, .f32⟩
  | 17 => ⟨S1x5632, .f32⟩
  | 18 => ⟨S5632, .f32⟩
  | 19 => ⟨S2048x5632, .f32⟩
  | 20 => ⟨S1x5632, .f32⟩
  | 21 => ⟨S2048x5632, .f32⟩
  | 22 => ⟨S2048x5632, .f32⟩
  | 23 => ⟨S1x5632, .f32⟩
  | 24 => ⟨S2048x5632, .f32⟩
  | 25 => ⟨S2048x5632, .f32⟩
  | 26 => ⟨S1x5632, .f32⟩
  | 27 => ⟨S5632, .f32⟩
  | 28 => ⟨S2048x5632, .f32⟩
  | 29 => ⟨S1x5632, .f32⟩
  | 30 => ⟨S2048x5632, .f32⟩
  | 31 => ⟨S2048x5632, .f32⟩
  | 32 => ⟨S2048x5632, .f32⟩
  | 33 => ⟨S1x5632, .f32⟩
  | 34 => ⟨S5632, .f32⟩
  | 35 => ⟨S2048x5632, .f32⟩
  | 36 => ⟨S1x5632, .f32⟩
  | 37 => ⟨S2048x5632, .f32⟩
  | 38 => ⟨S2048x5632, .f32⟩
  | 39 => ⟨S2048x5632, .f32⟩
  | 40 => ⟨S2048x2816, .f32⟩
  | 41 => ⟨S2048x2816, .f32⟩
  | 42 => ⟨S2048x2816, .f32⟩
  | 43 => ⟨S_, .f32⟩
  | 44 => ⟨S2048x2816, .f32⟩
  | 45 => ⟨S2048x2816, .f32⟩
  | 46 => ⟨S_, .f32⟩
  | 47 => ⟨S2048x2816, .f32⟩
  | 48 => ⟨S2048x2816, .f32⟩
  | 49 => ⟨S_, .f32⟩
  | 50 => ⟨S2048x2816, .f32⟩
  | 51 => ⟨S2048x2816, .f32⟩
  | 52 => ⟨S2048x2816, .f32⟩
  | 53 => ⟨S2048x2816, .f32⟩
  | 54 => ⟨S2048x2816, .f32⟩
  | 55 => ⟨S2048x2816, .f32⟩
  | 56 => ⟨S2048x1024, .f32⟩
  | 57 => ⟨S2048x1024, .f32⟩
  | 58 => ⟨S2048x2816, .f32⟩
  | 59 => ⟨S2048x2816, .f32⟩
  | 60 => ⟨S2048x2816, .f32⟩
  | 61 => ⟨S_, .f32⟩
  | 62 => ⟨S2048x5632, .f32⟩
  | 63 => ⟨S2048x2816, .f32⟩
  | 64 => ⟨S2048x2816, .f32⟩
  | 65 => ⟨S2048x2816, .f32⟩
  | 66 => ⟨S2048x2816, .f32⟩
  | 67 => ⟨S_, .f32⟩
  | 68 => ⟨S2048x5632, .f32⟩
  | 69 => ⟨S2048x5632, .f32⟩
  | 70 => ⟨S2048x5632, .f32⟩
  | 71 => ⟨S2048x5632, .f32⟩
  | 72 => ⟨S2048x5632, .f32⟩
  | 73 => ⟨S_, .f32⟩
  | 74 => ⟨S5632, .f32⟩
  | 75 => ⟨S1x5632, .f32⟩
  | 76 => ⟨S_, .f32⟩
  | 77 => ⟨S5632, .f32⟩
  | 78 => ⟨S_, .f32⟩
  | 79 => ⟨S2050x5632, .f32⟩
  | 80 => ⟨S1x5632, .f32⟩
  | 81 => ⟨S_, .f32⟩
  | 82 => ⟨S3x5632, .f32⟩
  | 83 => ⟨S2048x5632, .f32⟩
  | 84 => ⟨S2048x5632, .f32⟩
  | 85 => ⟨S2048x5632, .f32⟩
  | 86 => ⟨S_, .f32⟩
  | 87 => ⟨S5632, .f32⟩
  | 88 => ⟨S1x5632, .f32⟩
  | 89 => ⟨S_, .f32⟩
  | 90 => ⟨S5632, .f32⟩
  | 91 => ⟨S_, .f32⟩
  | 92 => ⟨S2050x5632, .f32⟩
  | 93 => ⟨S2050x5632, .f32⟩
  | 94 => ⟨S1x5632, .f32⟩
  | 95 => ⟨S_, .f32⟩
  | 96 => ⟨S3x5632, .f32⟩
  | 97 => ⟨S3x5632, .f32⟩
  | 98 => ⟨S_, .f32⟩
  | 99 => ⟨S5632, .f32⟩
  | 100 => ⟨S1x5632, .f32⟩
  | 101 => ⟨S_, .f32⟩
  | 102 => ⟨S5632, .f32⟩
  | 103 => ⟨S2048x5632, .f32⟩
  | 104 => ⟨S2048x5632, .f32⟩
  | 105 => ⟨S2048x5632, .f32⟩
  | 106 => ⟨S_, .f32⟩
  | 107 => ⟨S5632, .f32⟩
  | 108 => ⟨S1x5632, .f32⟩
  | 109 => ⟨S_, .f32⟩
  | 110 => ⟨S5632, .f32⟩
  | 111 => ⟨S_, .f32⟩
  | 112 => ⟨S2050x5632, .f32⟩
  | 113 => ⟨S2050x5632, .f32⟩
  | 114 => ⟨S1x5632, .f32⟩
  | 115 => ⟨S_, .f32⟩
  | 116 => ⟨S3x5632, .f32⟩
  | 117 => ⟨S3x5632, .f32⟩
  | 118 => ⟨S2x5632, .f32⟩
  | 119 => ⟨S2048x5632, .f32⟩
  | 120 => ⟨S3x2816, .f32⟩
  | 121 => ⟨S3x2816, .f32⟩
  | 122 => ⟨S2816, .f32⟩
  | 123 => ⟨S1x2816, .f32⟩
  | 124 => ⟨S2816, .f32⟩
  | 125 => ⟨S1x2816, .f32⟩
  | 126 => ⟨S2048x2816, .f32⟩
  | 127 => ⟨S2048x2816, .bf16⟩
  | _ => ⟨S1x2048x1024, .f32⟩

abbrev hbmTy0_1 (i : Nat) : BufTy := match i % 128 with
  | 0 => ⟨S2048x2816, .f32⟩
  | 1 => ⟨S2048x2816, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v33_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v33_1 : Ref sig .tc := ⟨.hbm, 52, rfl⟩
abbrev main_v33_0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_1 : Ref sig .tc := ⟨.hbm, 61, rfl⟩
abbrev main_v41 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v42 : Ref sig .tc := ⟨.hbm, 66, rfl⟩
abbrev main_cst_2 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_3 : Ref sig .tc := ⟨.hbm, 73, rfl⟩
abbrev main_v48 : Ref sig .tc := ⟨.hbm, 74, rfl⟩
abbrev main_v49 : Ref sig .tc := ⟨.hbm, 75, rfl⟩
abbrev main_cst_4 : Ref sig .tc := ⟨.hbm, 76, rfl⟩
abbrev main_v50 : Ref sig .tc := ⟨.hbm, 77, rfl⟩
abbrev main_cst_5 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_7 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_cst_11 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_cst_14 : Ref sig .tc := ⟨.hbm, 109, rfl⟩
abbrev main_v73 : Ref sig .tc := ⟨.hbm, 110, rfl⟩
abbrev main_cst_15 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_16 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩

abbrev nD : Nat := 1
abbrev τ : Topo := Topo.v7x

variable {F : FTy → Type} [FloatOps F]
-- ==== InFwd.lean ====
abbrev S1x2048x1024 : Shape := ⟨3, ![1, 2048, 1024]⟩
abbrev S1x1024 : Shape := ⟨2, ![1, 1024]⟩
abbrev S1x1024x9472 : Shape := ⟨3, ![1, 1024, 9472]⟩
abbrev S2048x1024 : Shape := ⟨2, ![2048, 1024]⟩
abbrev S1024x9472 : Shape := ⟨2, ![1024, 9472]⟩
abbrev S9472x1024 : Shape := ⟨2, ![9472, 1024]⟩
abbrev S2x2048x1024 : Shape := ⟨3, ![2, 2048, 1024]⟩
abbrev S2048x9472 : Shape := ⟨2, ![2048, 9472]⟩
abbrev S512x1024 : Shape := ⟨2, ![512, 1024]⟩
abbrev S4736x1024 : Shape := ⟨2, ![4736, 1024]⟩
abbrev S1x512x1024 : Shape := ⟨3, ![1, 512, 1024]⟩
abbrev S512x4736 : Shape := ⟨2, ![512, 4736]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x9472, .f32⟩
  | .hbm, ⟨3, _⟩ => ⟨S2048x1024, .f32⟩
  | .hbm, ⟨4, _⟩ => ⟨S1024x9472, .f32⟩
  | .hbm, ⟨5, _⟩ => ⟨S9472x1024, .f32⟩
  | .hbm, ⟨6, _⟩ => ⟨S9472x1024, .bf16⟩
  | .hbm, ⟨7, _⟩ => ⟨S2x2048x1024, .bf16⟩
  | .hbm, ⟨8, _⟩ => ⟨S2048x9472, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4736x1024, .bf16⟩
  | .local _ .vmem, ⟨4, _⟩ => ⟨S4736x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S512x4736, .f32⟩
  | .local _ .vmem, ⟨8, _⟩ => ⟨S512x4736, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4736x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x4736 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InRefIdeal.lean ====
abbrev S1x2048x1024 : Shape := ⟨3, ![1, 2048, 1024]⟩
abbrev S1x1024 : Shape := ⟨2, ![1, 1024]⟩
abbrev S1x1024x9472 : Shape := ⟨3, ![1, 1024, 9472]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S2x2048x1024 : Shape := ⟨3, ![2, 2048, 1024]⟩
abbrev S1024x9472 : Shape := ⟨2, ![1024, 9472]⟩
abbrev S2048x9472 : Shape := ⟨2, ![2048, 9472]⟩

abbrev nBuf : Space → Nat
  | .hbm => 25
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x9472, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S1x2048x1024, .bf16⟩
  | .hbm, ⟨21, _⟩ => ⟨S1x2048x1024, .bf16⟩
  | .hbm, ⟨22, _⟩ => ⟨S2x2048x1024, .bf16⟩
  | .hbm, ⟨23, _⟩ => ⟨S1024x9472, .f32⟩
  | .hbm, ⟨24, _⟩ => ⟨S2048x9472, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== OutFwd.lean ====
abbrev S1x2048x9472 : Shape := ⟨3, ![1, 2048, 9472]⟩
abbrev S1x2048x1024 : Shape := ⟨3, ![1, 2048, 1024]⟩
abbrev S1x1024x1024 : Shape := ⟨3, ![1, 1024, 1024]⟩
abbrev S1x1024 : Shape := ⟨2, ![1, 1024]⟩
abbrev S1024x1024 : Shape := ⟨2, ![1024, 1024]⟩
abbrev S2048x9472 : Shape := ⟨2, ![2048, 9472]⟩
abbrev S2048x1024 : Shape := ⟨2, ![2048, 1024]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 27
  | .vmem => 39
  | .smem => 0
  | _ => 0

abbrev bufTy : (tb : Table) → Fin (tcTables nBuf tb) → BufTy
  | .hbm, ⟨0, _⟩ => ⟨S1x2048x9472, .f32⟩
  | .hbm, ⟨1, _⟩ => ⟨S1x2048x1024, .f32⟩
  | .hbm, ⟨2, _⟩ => ⟨S1x2048x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x2048x1024, .f32⟩
  | .hbm, ⟨7, _⟩ => ⟨S1x1024, .f32⟩
  | .hbm, ⟨8, _⟩ => ⟨S1x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S2048x9472, .f32⟩
  | .hbm, ⟨16, _⟩ => ⟨S2048x1024, .f32⟩
  | .hbm, ⟨17, _⟩ => ⟨S2048x1024, .bf16⟩
  | .hbm, ⟨18, _⟩ => ⟨S2048x1024, .f32⟩
  | .hbm, ⟨19, _⟩ => ⟨S2048x1024, .bf16⟩
  | .hbm, ⟨20, _⟩ => ⟨S2048x1024, .f32⟩
  | .hbm, ⟨21, _⟩ => ⟨S2048x1024, .bf16⟩
  | .hbm, ⟨22, _⟩ => ⟨S2048x1024, .bf16⟩
  | .hbm, ⟨23, _⟩ => ⟨S2048x1024, .bf16⟩
  | .hbm, ⟨24, _⟩ => ⟨S2048x1024, .f32⟩
  | .hbm, ⟨25, _⟩ => ⟨S2048x1024, .f32⟩
  | .hbm, ⟨26, _⟩ => ⟨S2048x1024, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S1x1024, .f32⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .bf16⟩
  | .local _ .vmem, ⟨38, _⟩ => ⟨S512x1024, .bf16⟩
  | _, _ => ⟨S1x2048x9472, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v12_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c29_i32 : BitVec 32 := 29#32
  let c0_i32 : BitVec 32 := 0#32
  ![arg0.toNat, c29_i32.toNat]

def cc0_transform_1 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_2 (i : grid0.Coords) : Fin 2 → Nat :=
  let arg0 : BitVec 32 := BitVec.ofNat 32 (i 0).val
  let c31_i32 : BitVec 32 := 31#32
  let c0_i32 : BitVec 32 := 0#32
  ![arg0.toNat, c31_i32.toNat]

def cc0_transform_3 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_4 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_5 (i : grid0.Coords) : Fin 2 → Nat :=
  let arg0 : BitVec 32 := BitVec.ofNat 32 (i 0).val
  let c34_i32 : BitVec 32 := 34#32
  let c0_i32 : BitVec 32 := 0#32
  ![arg0.toNat, c34_i32.toNat]

def cc0_transform_6 (i : grid0.Coords) : Fin 2 → Nat :=
  let arg0 : BitVec 32 := BitVec.ofNat 32 (i 0).val
  let c35_i32 : BitVec 32 := 35#32
  let c0_i32 : BitVec 32 := 0#32
  ![arg0.toNat, c35_i32.toNat]

def cc0_transform_7 (i : grid0.Coords) : Fin 2 → Nat :=
  let arg0 : BitVec 32 := BitVec.ofNat 32 (i 0).val
  let c36_i32 : BitVec 32 := 36#32
  let c0_i32 : BitVec 32 := 0#32
  ![arg0.toNat, c36_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== OutRefIdeal.lean ====
abbrev S1x2048x9472 : Shape := ⟨3, ![1, 2048, 9472]⟩
abbrev S1x2048x1024 : Shape := ⟨3, ![1, 2048, 1024]⟩
abbrev S1x1024x1024 : Shape := ⟨3, ![1, 1024, 1024]⟩
abbrev S1x1024 : Shape := ⟨2, ![1, 1024]⟩
abbrev S2048x1024 : Shape := ⟨2, ![2048, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩

abbrev nBuf : Space → Nat
  | .hbm => 76
  | .vmem => 0
  | .smem => 0
  | _ => 0

abbrev bufTy : (tb : Table) → Fin (tcTables nBuf tb) → BufTy
  | .hbm, ⟨0, _⟩ => ⟨S1x2048x9472, .f32⟩
  | .hbm, ⟨1, _⟩ => ⟨S1x2048x1024, .f32⟩
  | .hbm, ⟨2, _⟩ => ⟨S1x2048x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x2048x1024, .f32⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S1024x1024, .f32⟩
  | .hbm, ⟨11, _⟩ => ⟨S2048x1024, .f32⟩
  | .hbm, ⟨12, _⟩ => ⟨S2048x1024, .f32⟩
  | .hbm, ⟨13, _⟩ => ⟨S1024x1024, .f32⟩
  | .hbm, ⟨14, _⟩ => ⟨S2048x1024, .f32⟩
  | .hbm, ⟨15, _⟩ => ⟨S1x2048x1024, .f32⟩
  | .hbm, ⟨16, _⟩ => ⟨S2048x1024, .f32⟩
  | .hbm, ⟨17, _⟩ => ⟨S1x2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S1024x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S2048x1, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .bf16⟩
  | .hbm, ⟨58, _⟩ => ⟨S2048x1024, .bf16⟩
  | .hbm, ⟨59, _⟩ => ⟨S2048x1024, .bf16⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .bf16⟩
  | _, _ => ⟨S1x2048x9472, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== UpFwd.lean ====
abbrev S1x2048x1024 : Shape := ⟨3, ![1, 2048, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S2048x1024 : Shape := ⟨2, ![2048, 1024]⟩
abbrev S1024x5632 : Shape := ⟨2, ![1024, 5632]⟩
abbrev S5632x1024 : Shape := ⟨2, ![5632, 1024]⟩
abbrev S3x5632 : Shape := ⟨2, ![3, 5632]⟩
abbrev S2048x2816 : Shape := ⟨2, ![2048, 2816]⟩
abbrev S512x1024 : Shape := ⟨2, ![512, 1024]⟩
abbrev S1408x1024 : Shape := ⟨2, ![1408, 1024]⟩
abbrev S3x1408 : Shape := ⟨2, ![3, 1408]⟩
abbrev S1x1408 : Shape := ⟨2, ![1, 1408]⟩
abbrev S512x1408 : Shape := ⟨2, ![512, 1408]⟩
abbrev S16x1408 : Shape := ⟨2, ![16, 1408]⟩
abbrev S8x1408 : Shape := ⟨2, ![8, 1408]⟩
abbrev S1408 : Shape := ⟨1, ![1408]⟩

abbrev nBuf : Space → Nat
  | .hbm => 15
  | .vmem => 25
  | .smem => 0
  | _ => 0

abbrev bufTy : (tb : Table) → Fin (tcTables nBuf tb) → BufTy
  | .hbm, ⟨0, _⟩ => ⟨S1x2048x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S2048x1024, .f32⟩
  | .hbm, ⟨5, _⟩ => ⟨S2048x1024, .bf16⟩
  | .hbm, ⟨6, _⟩ => ⟨S1024x5632, .f32⟩
  | .hbm, ⟨7, _⟩ => ⟨S5632x1024, .f32⟩
  | .hbm, ⟨8, _⟩ => ⟨S5632x1024, .bf16⟩
  | .hbm, ⟨9, _⟩ => ⟨S3x5632, .f32⟩
  | .hbm, ⟨10, _⟩ => ⟨S2048x2816, .f32⟩
  | .hbm, ⟨11, _⟩ => ⟨S2048x2816, .f32⟩
  | .hbm, ⟨12, _⟩ => ⟨S2048x2816, .bf16⟩
  | .hbm, ⟨13, _⟩ => ⟨S2048x2816, .f32⟩
  | .hbm, ⟨14, _⟩ => ⟨S2048x2816, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S3x1408, .f32⟩
  | .local _ .vmem, ⟨7, _⟩ => ⟨S3x1408, .f32⟩
  | .local _ .vmem, ⟨8, _⟩ => ⟨S3x1408, .f32⟩
  | .local _ .vmem, ⟨9, _⟩ => ⟨S3x1408, .f32⟩
  | .local _ .vmem, ⟨10, _⟩ => ⟨S1x1408, .f32⟩
  | .local _ .vmem, ⟨11, _⟩ => ⟨S1x1408, .f32⟩
  | .local _ .vmem, ⟨12, _⟩ => ⟨S1x1408, .f32⟩
  | .local _ .vmem, ⟨13, _⟩ => ⟨S1x1408, .f32⟩
  | .local _ .vmem, ⟨14, _⟩ => ⟨S512x1408, .f32⟩
  | .local _ .vmem, ⟨15, _⟩ => ⟨S512x1408, .f32⟩
  | .local _ .vmem, ⟨16, _⟩ => ⟨S512x1408, .f32⟩
  | .local _ .vmem, ⟨17, _⟩ => ⟨S512x1408, .f32⟩
  | .local _ .vmem, ⟨18, _⟩ => ⟨S512x1408, .bf16⟩
  | .local _ .vmem, ⟨19, _⟩ => ⟨S512x1408, .bf16⟩
  | .local _ .vmem, ⟨20, _⟩ => ⟨S512x1408, .f32⟩
  | .local _ .vmem, ⟨21, _⟩ => ⟨S512x1408, .f32⟩
  | .local _ .vmem, ⟨22, _⟩ => ⟨S512x1408, .f32⟩
  | .local _ .vmem, ⟨23, _⟩ => ⟨S512x1408, .f32⟩
  | .local _ .vmem, ⟨24, _⟩ => ⟨S16x1408, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== UpRefIdeal.lean ====
abbrev S1x2048x1024 : Shape := ⟨3, ![1, 2048, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S2048x1024 : Shape := ⟨2, ![2048, 1024]⟩
abbrev S1024x5632 : Shape := ⟨2, ![1024, 5632]⟩
abbrev S2048x5632 : Shape := ⟨2, ![2048, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S2050x5632 : Shape := ⟨2, ![2050, 5632]⟩
abbrev S2048x2816 : Shape := ⟨2, ![2048, 2816]⟩

abbrev nBuf : Space → Nat
  | .hbm => 52
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S2048x1024, .f32⟩
  | .hbm, ⟨5, _⟩ => ⟨S1024x5632, .f32⟩
  | .hbm, ⟨6, _⟩ => ⟨S2048x5632, .f32⟩
  | .hbm, ⟨7, _⟩ => ⟨S3x5632, .f32⟩
  | .hbm, ⟨8, _⟩ => ⟨S5632, .f32⟩
  | .hbm, ⟨9, _⟩ => ⟨S_, .f32⟩
  | .hbm, ⟨10, _⟩ => ⟨S2x5632, .f32⟩
  | .hbm, ⟨11, _⟩ => ⟨S2050x5632, .f32⟩
  | .hbm, ⟨12, _⟩ => ⟨S1x5632, .f32⟩
  | .hbm, ⟨13, _⟩ => ⟨S5632, .f32⟩
  | .hbm, ⟨14, _⟩ => ⟨S2048x5632, .f32⟩
  | .hbm, ⟨15, _⟩ => ⟨S1x5632, .f32⟩
  | .hbm, ⟨16, _⟩ => ⟨S2048x5632, .f32⟩
  | .hbm, ⟨17, _⟩ => ⟨S2048x5632, .f32⟩
  | .hbm, ⟨18, _⟩ => ⟨S1x5632, .f32⟩
  | .hbm, ⟨19, _⟩ => ⟨S2048x5632, .f32⟩
  | .hbm, ⟨20, _⟩ => ⟨S2048x5632, .f32⟩
  | .hbm, ⟨21, _⟩ => ⟨S1x5632, .f32⟩
  | .hbm, ⟨22, _⟩ => ⟨S5632, .f32⟩
  | .hbm, ⟨23, _⟩ => ⟨S2048x5632, .f32⟩
  | .hbm, ⟨24, _⟩ => ⟨S1x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S1x5632, .f32⟩
  | .hbm, ⟨29, _⟩ => ⟨S5632, .f32⟩
  | .hbm, ⟨30, _⟩ => ⟨S2048x5632, .f32⟩
  | .hbm, ⟨31, _⟩ => ⟨S1x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S_, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .bf16⟩
  | .hbm, ⟨50, _⟩ => ⟨S2048x2816, .f32⟩
  | .hbm, ⟨51, _⟩ => ⟨S2048x2816, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MixFwd.lean ====
abbrev S1x2048x9472 : Shape := ⟨3, ![1, 2048, 9472]⟩
abbrev S2x1024 : Shape := ⟨2, ![2, 1024]⟩
abbrev S1x1024 : Shape := ⟨2, ![1, 1024]⟩
abbrev S1x3328 : Shape := ⟨2, ![1, 3328]⟩
abbrev S1x64x1024 : Shape := ⟨3, ![1, 64, 1024]⟩
abbrev S1x128x1024 : Shape := ⟨3, ![1, 128, 1024]⟩
abbrev S1x16x64 : Shape := ⟨3, ![1, 16, 64]⟩
abbrev S_ : Shape := ⟨0, ![]⟩
abbrev S64x1024 : Shape := ⟨2, ![64, 1024]⟩
abbrev S128x1024 : Shape := ⟨2, ![128, 1024]⟩
abbrev S2048x9472 : Shape := ⟨2, ![2048, 9472]⟩
abbrev S2048x1024 : Shape := ⟨2, ![2048, 1024]⟩
abbrev S1x16x1024x128 : Shape := ⟨4, ![1, 16, 1024, 128]⟩
abbrev S1x16x1x3328 : Shape := ⟨4, ![1, 16, 1, 3328]⟩
abbrev S163840x128 : Shape := ⟨2, ![163840, 128]⟩
abbrev S128x7424 : Shape := ⟨2, ![128, 7424]⟩
abbrev S1x1x1024x128 : Shape := ⟨4, ![1, 1, 1024, 128]⟩
abbrev S1x1x1x3328 : Shape := ⟨4, ![1, 1, 1, 3328]⟩
abbrev S10240x128 : Shape := ⟨2, ![10240, 128]⟩
abbrev S1024x128 : Shape := ⟨2, ![1024, 128]⟩
abbrev S128x128 : Shape := ⟨2, ![128, 128]⟩
abbrev S1024 : Shape := ⟨1, ![1024]⟩
abbrev S32x32 : Shape := ⟨2, ![32, 32]⟩
abbrev S32x1024 : Shape := ⟨2, ![32, 1024]⟩
abbrev S32x128 : Shape := ⟨2, ![32, 128]⟩
abbrev S1x128 : Shape := ⟨2, ![1, 128]⟩
abbrev S128 : Shape := ⟨1, ![128]⟩
abbrev S128x1 : Shape := ⟨2, ![128, 1]⟩
abbrev S64x128 : Shape := ⟨2, ![64, 128]⟩
abbrev S64x64 : Shape := ⟨2, ![64, 64]⟩

abbrev nBuf : Space → Nat
  | .hbm => 32
  | .vmem => 30
  | .smem => 0
  | _ => 0

abbrev bufTy : (tb : Table) → Fin (tcTables nBuf tb) → BufTy
  | .hbm, ⟨0, _⟩ => ⟨S1x2048x9472, .f32⟩
  | .hbm, ⟨1, _⟩ => ⟨S2x1024, .f32⟩
  | .hbm, ⟨2, _⟩ => ⟨S1x1024, .f32⟩
  | .hbm, ⟨3, _⟩ => ⟨S1x3328, .f32⟩
  | .hbm, ⟨4, _⟩ => ⟨S1x1024, .f32⟩
  | .hbm, ⟨5, _⟩ => ⟨S1x64x1024, .f32⟩
  | .hbm, ⟨6, _⟩ => ⟨S1x1024, .f32⟩
  | .hbm, ⟨7, _⟩ => ⟨S1x64x1024, .f32⟩
  | .hbm, ⟨8, _⟩ => ⟨S1x128x1024, .f32⟩
  | .hbm, ⟨9, _⟩ => ⟨S1x1024, .f32⟩
  | .hbm, ⟨10, _⟩ => ⟨S1x1024, .f32⟩
  | .hbm, ⟨11, _⟩ => ⟨S1x16x64, .f32⟩
  | .hbm, ⟨12, _⟩ => ⟨S1x1024, .f32⟩
  | .hbm, ⟨13, _⟩ => ⟨S1x1024, .f32⟩
  | .hbm, ⟨14, _⟩ => ⟨S_, .bf16⟩
  | .hbm, ⟨15, _⟩ => ⟨S64x1024, .bf16⟩
  | .hbm, ⟨16, _⟩ => ⟨S64x1024, .f32⟩
  | .hbm, ⟨17, _⟩ => ⟨S64x1024, .bf16⟩
  | .hbm, ⟨18, _⟩ => ⟨S128x1024, .bf16⟩
  | .hbm, ⟨19, _⟩ => ⟨S64x1024, .f32⟩
  | .hbm, ⟨20, _⟩ => ⟨S64x1024, .bf16⟩
  | .hbm, ⟨21, _⟩ => ⟨S128x1024, .bf16⟩
  | .hbm, ⟨22, _⟩ => ⟨S128x1024, .f32⟩
  | .hbm, ⟨23, _⟩ => ⟨S128x1024, .bf16⟩
  | .hbm, ⟨24, _⟩ => ⟨S1x1024, .f32⟩
  | .hbm, ⟨25, _⟩ => ⟨S2048x9472, .f32⟩
  | .hbm, ⟨26, _⟩ => ⟨S2048x1024, .bf16⟩
  | .hbm, ⟨27, _⟩ => ⟨S2048x1024, .bf16⟩
  | .hbm, ⟨28, _⟩ => ⟨S1x16x1024x128, .f32⟩
  | .hbm, ⟨29, _⟩ => ⟨S1x16x1x3328, .f32⟩
  | .hbm, ⟨30, _⟩ => ⟨S1x16x1024x128, .f32⟩
  | .hbm, ⟨31, _⟩ => ⟨S163840x128, .bf16⟩
  | .local _ .vmem, ⟨0, _⟩ => ⟨S2x1024, .f32⟩
  | .local _ .vmem, ⟨1, _⟩ => ⟨S1x1024, .f32⟩
  | .local _ .vmem, ⟨2, _⟩ => ⟨S1x3328, .f32⟩
  | .local _ .vmem, ⟨3, _⟩ => ⟨S1x1024, .f32⟩
  | .local _ .vmem, ⟨4, _⟩ => ⟨S128x1024, .bf16⟩
  | .local _ .vmem, ⟨5, _⟩ => ⟨S1x1024, .f32⟩
  | .local _ .vmem, ⟨6, _⟩ => ⟨S128x1024, .bf16⟩
  | .local _ .vmem, ⟨7, _⟩ => ⟨S128x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S128x7424, .f32⟩
  | .local _ .vmem, ⟨14, _⟩ => ⟨S128x7424, .f32⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S1x1x1024x128, .f32⟩
  | .local _ .vmem, ⟨20, _⟩ => ⟨S1x1x1024x128, .f32⟩
  | .local _ .vmem, ⟨21, _⟩ => ⟨S1x1x1x3328, .f32⟩
  | .local _ .vmem, ⟨22, _⟩ => ⟨S1x1x1x3328, .f32⟩
  | .local _ .vmem, ⟨23, _⟩ => ⟨S1x1x1024x128, .f32⟩
  | .local _ .vmem, ⟨24, _⟩ => ⟨S1x1x1024x128, .f32⟩
  | .local _ .vmem, ⟨25, _⟩ => ⟨S10240x128, .bf16⟩
  | .local _ .vmem, ⟨26, _⟩ => ⟨S10240x128, .bf16⟩
  | .local _ .vmem, ⟨27, _⟩ => ⟨S1024x128, .f32⟩
  | .local _ .vmem, ⟨28, _⟩ => ⟨S1x3328, .f32⟩
  | .local _ .vmem, ⟨29, _⟩ => ⟨S1024x128, .f32⟩
  | _, _ => ⟨S1x2048x9472, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v11_3 : Ref sig .tc := ⟨.hbm, 29, rfl⟩
abbrev main_v11_4 : Ref sig .tc := ⟨.hbm, 30, rfl⟩
abbrev main_v11_5 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg13_1 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem13_1 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3328 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x7424 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x1x3328 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S10240x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![false, true]
-- ==== MixRefIdeal.lean ====
abbrev S1x2048x9472 : Shape := ⟨3, ![1, 2048, 9472]⟩
abbrev S2x1024 : Shape := ⟨2, ![2, 1024]⟩
abbrev S1x1024 : Shape := ⟨2, ![1, 1024]⟩
abbrev S1x3328 : Shape := ⟨2, ![1, 3328]⟩
abbrev S1x64x1024 : Shape := ⟨3, ![1, 64, 1024]⟩
abbrev S1x128x1024 : Shape := ⟨3, ![1, 128, 1024]⟩
abbrev S1x16x64 : Shape := ⟨3, ![1, 16, 64]⟩
abbrev S_ : Shape := ⟨0, ![]⟩
abbrev S1024 : Shape := ⟨1, ![1024]⟩
abbrev S1x2048x1024 : Shape := ⟨3, ![1, 2048, 1024]⟩
abbrev S2048x1024 : Shape := ⟨2, ![2048, 1024]⟩
abbrev S2048x8x128 : Shape := ⟨3, ![2048, 8, 128]⟩
abbrev S64x32x8x128 : Shape := ⟨4, ![64, 32, 8, 128]⟩
abbrev S8x64x32x128 : Shape := ⟨4, ![8, 64, 32, 128]⟩
abbrev S8x64x1x128 : Shape := ⟨4, ![8, 64, 1, 128]⟩
abbrev S8x64x32x32 : Shape := ⟨4, ![8, 64, 32, 32]⟩
abbrev S32x32 : Shape := ⟨2, ![32, 32]⟩
abbrev S8x64x128 : Shape := ⟨3, ![8, 64, 128]⟩
abbrev S8x64x128x128 : Shape := ⟨4, ![8, 64, 128, 128]⟩
abbrev S64x8x128 : Shape := ⟨3, ![64, 8, 128]⟩
abbrev S64x8x128x128 : Shape := ⟨4, ![64, 8, 128, 128]⟩
abbrev S64x8x32x128 : Shape := ⟨4, ![64, 8, 32, 128]⟩
abbrev S8x128x128 : Shape := ⟨3, ![8, 128, 128]⟩
abbrev S1x8x128 : Shape := ⟨3, ![1, 8, 128]⟩
abbrev S8x128 : Shape := ⟨2, ![8, 128]⟩
abbrev S1x8x128x128 : Shape := ⟨4, ![1, 8, 128, 128]⟩
abbrev S1x8x32x128 : Shape := ⟨4, ![1, 8, 32, 128]⟩
abbrev S8x32x128 : Shape := ⟨3, ![8, 32, 128]⟩
abbrev S8x128x1 : Shape := ⟨3, ![8, 128, 1]⟩
abbrev S2048x8 : Shape := ⟨2, ![2048, 8]⟩
abbrev S2048x8x1 : Shape := ⟨3, ![2048, 8, 1]⟩

abbrev nBuf : Space → Nat
  | .hbm => 207
  | .vmem => 0
  | .smem => 0
  | _ => 0

abbrev hbmTy0_0 (i : Nat) : BufTy := match i % 128 with
  | 0 => ⟨S1x2048x9472, .f32⟩
  | 1 => ⟨S2x1024, .f32⟩
  | 2 => ⟨S1x1024, .f32⟩
  | 3 => ⟨S1x3328, .f32⟩
  | 4 => ⟨S1x1024, .f32⟩
  | 5 => ⟨S1x64x1024, .f32⟩
  | 6 => ⟨S1x1024, .f32⟩
  | 7 => ⟨S1x64x1024, .f32⟩
  | 8 => ⟨S1x128x1024, .f32⟩
  | 9 => ⟨S1x1024, .f32⟩
  | 10 => ⟨S1x1024, .f32⟩
  | 11 => ⟨S1x16x64, .f32⟩
  | 12 => ⟨S1x1024, .f32⟩
  | 13 => ⟨S1x1024, .f32⟩
  | 14 => ⟨S_, .f32⟩
  | 15 => ⟨S1024, .f32⟩
  | 16 => ⟨S_, .f32⟩
  | 17 => ⟨S1024, .f32⟩
  | 18 => ⟨S1024, .f32⟩
  | 19 => ⟨S1x1024, .f32⟩
  | 20 => ⟨S2x1024, .f32⟩
  | 21 => ⟨S2x1024, .f32⟩
  | 22 => ⟨S2x1024, .f32⟩
  | 23 => ⟨S_, .f32⟩
  | 24 => ⟨S1024, .f32⟩
  | 25 => ⟨S1x1024, .f32⟩
  | 26 => ⟨S2x1024, .f32⟩
  | 27 => ⟨S2x1024, .f32⟩
  | 28 => ⟨S_, .f32⟩
  | 29 => ⟨S_, .f32⟩
  | 30 => ⟨S2x1024, .f32⟩
  | 31 => ⟨S1x1024, .f32⟩
  | 32 => ⟨S1024, .f32⟩
  | 33 => ⟨S1x2048x1024, .f32⟩
  | 34 => ⟨S2048x1024, .f32⟩
  | 35 => ⟨S1x2048x1024, .f32⟩
  | 36 => ⟨S2048x1024, .f32⟩
  | 37 => ⟨S1x2048x1024, .f32⟩
  | 38 => ⟨S2048x1024, .f32⟩
  | 39 => ⟨S2048x1024, .f32⟩
  | 40 => ⟨S2048x1024, .f32⟩
  | 41 => ⟨S_, .f32⟩
  | 42 => ⟨S2048x1024, .f32⟩
  | 43 => ⟨S2048x1024, .f32⟩
  | 44 => ⟨S_, .f32⟩
  | 45 => ⟨S2048x1024, .f32⟩
  | 46 => ⟨S2048x1024, .f32⟩
  | 47 => ⟨S2048x1024, .f32⟩
  | 48 => ⟨S2048x8x128, .f32⟩
  | 49 => ⟨S_, .f32⟩
  | 50 => ⟨S2048x8x128, .f32⟩
  | 51 => ⟨S2048x8x128, .f32⟩
  | 52 => ⟨S_, .f32⟩
  | 53 => ⟨S1024, .f32⟩
  | 54 => ⟨S1024, .f32⟩
  | 55 => ⟨S2048x1024, .f32⟩
  | 56 => ⟨S2048x1024, .f32⟩
  | 57 => ⟨S_, .f32⟩
  | 58 => ⟨S2048x1024, .f32⟩
  | 59 => ⟨S2048x1024, .f32⟩
  | 60 => ⟨S_, .f32⟩
  | 61 => ⟨S2048x1024, .f32⟩
  | 62 => ⟨S2048x1024, .f32⟩
  | 63 => ⟨S1x1024, .f32⟩
  | 64 => ⟨S2048x1024, .f32⟩
  | 65 => ⟨S2048x1024, .f32⟩
  | 66 => ⟨S1x1024, .f32⟩
  | 67 => ⟨S2048x1024, .f32⟩
  | 68 => ⟨S2048x1024, .f32⟩
  | 69 => ⟨S2048x8x128, .f32⟩
  | 70 => ⟨S2048x8x128, .f32⟩
  | 71 => ⟨S_, .f32⟩
  | 72 => ⟨S2048x8x128, .f32⟩
  | 73 => ⟨S2048x8x128, .f32⟩
  | 74 => ⟨S2048x8x128, .f32⟩
  | 75 => ⟨S64x32x8x128, .f32⟩
  | 76 => ⟨S8x64x32x128, .f32⟩
  | 77 => ⟨S64x32x8x128, .f32⟩
  | 78 => ⟨S8x64x32x128, .f32⟩
  | 79 => ⟨S64x32x8x128, .f32⟩
  | 80 => ⟨S8x64x32x128, .f32⟩
  | 81 => ⟨S64x32x8x128, .f32⟩
  | 82 => ⟨S8x64x32x128, .f32⟩
  | 83 => ⟨S_, .f32⟩
  | 84 => ⟨S_, .f32⟩
  | 85 => ⟨S8x64x32x128, .f32⟩
  | 86 => ⟨S8x64x1x128, .f32⟩
  | 87 => ⟨S8x64x32x128, .f32⟩
  | 88 => ⟨S8x64x32x128, .f32⟩
  | 89 => ⟨S8x64x32x128, .f32⟩
  | 90 => ⟨S8x64x32x128, .f32⟩
  | 91 => ⟨S8x64x32x128, .f32⟩
  | 92 => ⟨S8x64x32x128, .f32⟩
  | 93 => ⟨S8x64x32x128, .f32⟩
  | 94 => ⟨S8x64x32x128, .f32⟩
  | 95 => ⟨S8x64x32x32, .f32⟩
  | 96 => ⟨S_, .i1⟩
  | 97 => ⟨S32x32, .i1⟩
  | 98 => ⟨S32x32, .i32⟩
  | 99 => ⟨S_, .i32⟩
  | 100 => ⟨S32x32, .i32⟩
  | 101 => ⟨S32x32, .i32⟩
  | 102 => ⟨S32x32, .i32⟩
  | 103 => ⟨S32x32, .i1⟩
  | 104 => ⟨S_, .i1⟩
  | 105 => ⟨S32x32, .i1⟩
  | 106 => ⟨S32x32, .i1⟩
  | 107 => ⟨S_, .f32⟩
  | 108 => ⟨S_, .f32⟩
  | 109 => ⟨S8x64x32x32, .i1⟩
  | 110 => ⟨S8x64x32x32, .f32⟩
  | 111 => ⟨S8x64x32x32, .f32⟩
  | 112 => ⟨S8x64x32x128, .f32⟩
  | 113 => ⟨S8x64x1x128, .f32⟩
  | 114 => ⟨S8x64x128, .f32⟩
  | 115 => ⟨S8x64x1x128, .f32⟩
  | 116 => ⟨S8x64x32x128, .f32⟩
  | 117 => ⟨S8x64x32x128, .f32⟩
  | 118 => ⟨S8x64x32x128, .f32⟩
  | 119 => ⟨S8x64x32x128, .f32⟩
  | 120 => ⟨S8x64x128x128, .f32⟩
  | 121 => ⟨S8x64x128, .f32⟩
  | 122 => ⟨S8x64x32x128, .f32⟩
  | 123 => ⟨S8x64x32x128, .f32⟩
  | 124 => ⟨S64x8x128, .f32⟩
  | 125 => ⟨S64x8x128x128, .f32⟩
  | 126 => ⟨S64x8x32x128, .f32⟩
  | 127 => ⟨S64x8x32x128, .f32⟩
  | _ => ⟨S1x2048x9472, .f32⟩

abbrev hbmTy0_1 (i : Nat) : BufTy := match i % 128 with
  | 0 => ⟨S_, .f32⟩
  | 1 => ⟨S8x128x128, .f32⟩
  | 2 => ⟨S_, .f32⟩
  | 3 => ⟨S64x8x32x128, .f32⟩
  | 4 => ⟨S_, .i32⟩
  | 5 => ⟨S64x8x128, .f32⟩
  | 6 => ⟨S64x8x128x128, .f32⟩
  | 7 => ⟨S64x8x32x128, .f32⟩
  | 8 => ⟨S64x8x32x128, .f32⟩
  | 9 => ⟨S_, .i32⟩
  | 10 => ⟨S8x128x128, .f32⟩
  | 11 => ⟨S64x8x32x128, .f32⟩
  | 12 => ⟨S_, .i32⟩
  | 13 => ⟨S_, .i1⟩
  | 14 => ⟨S_, .i32⟩
  | 15 => ⟨S_, .i32⟩
  | 16 => ⟨S1x8x128, .f32⟩
  | 17 => ⟨S8x128, .f32⟩
  | 18 => ⟨S_, .i32⟩
  | 19 => ⟨S_, .i32⟩
  | 20 => ⟨S_, .i32⟩
  | 21 => ⟨S1x8x128x128, .f32⟩
  | 22 => ⟨S8x128x128, .f32⟩
  | 23 => ⟨S_, .i32⟩
  | 24 => ⟨S_, .i32⟩
  | 25 => ⟨S_, .i32⟩
  | 26 => ⟨S1x8x32x128, .f32⟩
  | 27 => ⟨S8x32x128, .f32⟩
  | 28 => ⟨S_, .i32⟩
  | 29 => ⟨S_, .i32⟩
  | 30 => ⟨S_, .i32⟩
  | 31 => ⟨S1x8x32x128, .f32⟩
  | 32 => ⟨S8x32x128, .f32⟩
  | 33 => ⟨S8x128x1, .f32⟩
  | 34 => ⟨S8x128x128, .f32⟩
  | 35 => ⟨S8x128x128, .f32⟩
  | 36 => ⟨S8x128x128, .f32⟩
  | 37 => ⟨S8x32x128, .f32⟩
  | 38 => ⟨S8x32x128, .f32⟩
  | 39 => ⟨S1x8x32x128, .f32⟩
  | 40 => ⟨S_, .i32⟩
  | 41 => ⟨S_, .i32⟩
  | 42 => ⟨S_, .i32⟩
  | 43 => ⟨S64x8x32x128, .f32⟩
  | 44 => ⟨S_, .i32⟩
  | 45 => ⟨S_, .i32⟩
  | 46 => ⟨S64x32x8x128, .f32⟩
  | 47 => ⟨S2048x8x128, .f32⟩
  | 48 => ⟨S2048x8x128, .f32⟩
  | 49 => ⟨S_, .f32⟩
  | 50 => ⟨S2048x8, .f32⟩
  | 51 => ⟨S2048x8x1, .f32⟩
  | 52 => ⟨S_, .f32⟩
  | 53 => ⟨S2048x8x1, .f32⟩
  | 54 => ⟨S2048x8x1, .f32⟩
  | 55 => ⟨S_, .f32⟩
  | 56 => ⟨S2048x8x1, .f32⟩
  | 57 => ⟨S2048x8x1, .f32⟩
  | 58 => ⟨S2048x8x1, .f32⟩
  | 59 => ⟨S2048x8x128, .f32⟩
  | 60 => ⟨S2048x8x128, .f32⟩
  | 61 => ⟨S8x128, .f32⟩
  | 62 => ⟨S1x8x128, .f32⟩
  | 63 => ⟨S2048x8x128, .f32⟩
  | 64 => ⟨S2048x8x128, .f32⟩
  | 65 => ⟨S2048x1024, .f32⟩
  | 66 => ⟨S1x2048x1024, .f32⟩
  | 67 => ⟨S2048x1024, .f32⟩
  | 68 => ⟨S2048x1024, .f32⟩
  | 69 => ⟨S2048x1024, .f32⟩
  | 70 => ⟨S_, .f32⟩
  | 71 => ⟨S2048x1024, .f32⟩
  | 72 => ⟨S2048x1024, .f32⟩
  | 73 => ⟨S_, .f32⟩
  | 74 => ⟨S2048x1024, .f32⟩
  | 75 => ⟨S2048x1024, .f32⟩
  | 76 => ⟨S2048x1024, .f32⟩
  | 77 => ⟨S2048x1024, .f32⟩
  | 78 => ⟨S2048x1024, .bf16⟩
  | _ => ⟨S1x2048x9472, .f32⟩

abbrev hbmTy (i : Nat) : BufTy := match i / 128 with
  | 0 => hbmTy0_0 i
  | 1 => hbmTy0_1 i
  | _ => ⟨S1x2048x9472, .f32⟩

abbrev bufTy : (tb : Table) → Fin (tcTables nBuf tb) → BufTy
  | .hbm, ⟨i, _⟩ => hbmTy i
  | _, _ => ⟨S1x2048x9472, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call0_call0_cst : Ref sig .tc := ⟨.hbm, 28, rfl⟩
abbrev main_call0_call0_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v20 : Ref sig .tc := ⟨.hbm, 47, rfl⟩
abbrev main_v21 : Ref sig .tc := ⟨.hbm, 48, rfl⟩
abbrev main_cst_2 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_4 : Ref sig .tc := ⟨.hbm, 57, rfl⟩
abbrev main_v28 : Ref sig .tc := ⟨.hbm, 58, rfl⟩
abbrev main_v29 : Ref sig .tc := ⟨.hbm, 59, rfl⟩
abbrev main_cst_5 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_call2_call0_cst : Ref sig .tc := ⟨.hbm, 83, rfl⟩
abbrev main_call2_call0_v0 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c : Ref sig .tc := ⟨.hbm, 96, rfl⟩
abbrev main_v62 : Ref sig .tc := ⟨.hbm, 97, rfl⟩
abbrev main_call3_v0 : Ref sig .tc := ⟨.hbm, 98, rfl⟩
abbrev main_call3_c : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_c_0 : Ref sig .tc := ⟨.hbm, 104, rfl⟩
abbrev main_call3_v5 : Ref sig .tc := ⟨.hbm, 105, rfl⟩
abbrev main_v63 : Ref sig .tc := ⟨.hbm, 106, rfl⟩
abbrev main_cst_7 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_8 : Ref sig .tc := ⟨.hbm, 128, rfl⟩
abbrev main_v81 : Ref sig .tc := ⟨.hbm, 129, rfl⟩
abbrev main_cst_9 : Ref sig .tc := ⟨.hbm, 130, rfl⟩
abbrev main_v82 : Ref sig .tc := ⟨.hbm, 131, rfl⟩
abbrev main_c_10 : Ref sig .tc := ⟨.hbm, 132, rfl⟩
abbrev main_v83_0 : Ref sig .tc := ⟨.hbm, 133, rfl⟩
abbrev main_v83_1 : Ref sig .tc := ⟨.hbm, 134, rfl⟩
abbrev main_v83_2 : Ref sig .tc := ⟨.hbm, 135, rfl⟩
abbrev main_v83_3 : Ref sig .tc := ⟨.hbm, 136, rfl⟩
abbrev main_v83_4 : Ref sig .tc := ⟨.hbm, 137, rfl⟩
abbrev main_v83_5 : Ref sig .tc := ⟨.hbm, 138, rfl⟩
abbrev main_v83_6 : Ref sig .tc := ⟨.hbm, 139, rfl⟩
abbrev main_while0c_c_20 : Ref sig .tc := ⟨.hbm, 140, rfl⟩
abbrev main_while0c_v106 : Ref sig .tc := ⟨.hbm, 141, rfl⟩
abbrev main_while0b_call5_c : Ref sig .tc := ⟨.hbm, 142, rfl⟩
abbrev main_while0b_call5_c_0 : Ref sig .tc := ⟨.hbm, 143, rfl⟩
abbrev main_while0b_call5_v0 : Ref sig .tc := ⟨.hbm, 144, rfl⟩
abbrev main_while0b_v106 : Ref sig .tc := ⟨.hbm, 145, rfl⟩
abbrev main_while0b_call6_c : Ref sig .tc := ⟨.hbm, 146, rfl⟩
abbrev main_while0b_call6_c_0 : Ref sig .tc := ⟨.hbm, 147, rfl⟩
abbrev main_while0b_call6_c_1 : Ref sig .tc := ⟨.hbm, 148, rfl⟩
abbrev main_while0b_call6_v0 : Ref sig .tc := ⟨.hbm, 149, rfl⟩
abbrev main_while0b_v107 : Ref sig .tc := ⟨.hbm, 150, rfl⟩
abbrev main_while0b_call7_c : Ref sig .tc := ⟨.hbm, 151, rfl⟩
abbrev main_while0b_call7_c_0 : Ref sig .tc := ⟨.hbm, 152, rfl⟩
abbrev main_while0b_call7_c_1 : Ref sig .tc := ⟨.hbm, 153, rfl⟩
abbrev main_while0b_call7_v0 : Ref sig .tc := ⟨.hbm, 154, rfl⟩
abbrev main_while0b_v108 : Ref sig .tc := ⟨.hbm, 155, rfl⟩
abbrev main_while0b_call8_c : Ref sig .tc := ⟨.hbm, 156, rfl⟩
abbrev main_while0b_call8_c_0 : Ref sig .tc := ⟨.hbm, 157, rfl⟩
abbrev main_while0b_call8_c_1 : Ref sig .tc := ⟨.hbm, 158, rfl⟩
abbrev main_while0b_call8_v0 : Ref sig .tc := ⟨.hbm, 159, rfl⟩
abbrev main_while0b_v109 : Ref sig .tc := ⟨.hbm, 160, rfl⟩
abbrev main_while0b_v110 : Ref sig .tc := ⟨.hbm, 161, rfl⟩
abbrev main_while0b_v111 : Ref sig .tc := ⟨.hbm, 162, rfl⟩
abbrev main_while0b_v112 : Ref sig .tc := ⟨.hbm, 163, rfl⟩
abbrev main_while0b_v113 : Ref sig .tc := ⟨.hbm, 164, rfl⟩
abbrev main_while0b_v114 : Ref sig .tc := ⟨.hbm, 165, rfl⟩
abbrev main_while0b_v115 : Ref sig .tc := ⟨.hbm, 166, rfl⟩
abbrev main_while0b_call9_v0 : Ref sig .tc := ⟨.hbm, 167, rfl⟩
abbrev main_while0b_call9_c : Ref sig .tc := ⟨.hbm, 168, rfl⟩
abbrev main_while0b_call9_c_0 : Ref sig .tc := ⟨.hbm, 169, rfl⟩
abbrev main_while0b_call9_c_1 : Ref sig .tc := ⟨.hbm, 170, rfl⟩
abbrev main_while0b_v116 : Ref sig .tc := ⟨.hbm, 171, rfl⟩
abbrev main_while0b_c_20 : Ref sig .tc := ⟨.hbm, 172, rfl⟩
abbrev main_while0b_v117 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_cst_11 : Ref sig .tc := ⟨.hbm, 177, rfl⟩
abbrev main_v87 : Ref sig .tc := ⟨.hbm, 178, rfl⟩
abbrev main_v88 : Ref sig .tc := ⟨.hbm, 179, rfl⟩
abbrev main_cst_12 : Ref sig .tc := ⟨.hbm, 180, rfl⟩
abbrev main_v89 : Ref sig .tc := ⟨.hbm, 181, rfl⟩
abbrev main_v90 : Ref sig .tc := ⟨.hbm, 182, rfl⟩
abbrev main_cst_13 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_call10_v0 : Ref sig .tc := ⟨.hbm, 196, rfl⟩
abbrev main_call10_v1 : Ref sig .tc := ⟨.hbm, 197, rfl⟩
abbrev main_call10_cst : Ref sig .tc := ⟨.hbm, 198, rfl⟩
abbrev main_call10_v2 : Ref sig .tc := ⟨.hbm, 199, rfl⟩
abbrev main_call10_v3 : Ref sig .tc := ⟨.hbm, 200, rfl⟩
abbrev main_call10_cst_0 : Ref sig .tc := ⟨.hbm, 201, rfl⟩
abbrev main_call10_v4 : Ref sig .tc := ⟨.hbm, 202, rfl⟩
abbrev main_call10_v5 : Ref sig .tc := ⟨.hbm, 203, rfl⟩
abbrev main_v103 : Ref sig .tc := ⟨.hbm, 204, rfl⟩
abbrev main_v104 : Ref sig .tc := ⟨.hbm, 205, rfl⟩
abbrev main_v105 : Ref sig .tc := ⟨.hbm, 206, rfl⟩

abbrev nD : Nat := 1
abbrev τ : Topo := Topo.v7x

variable {F : FTy → Type} [FloatOps F]

abbrev main_while0_count : Scf.Loop 32 := ⟨0#32, 64#32, 1#32⟩
-- ==== MmBwd.lean ====
abbrev S1x2048x2816 : Shape := ⟨3, ![1, 2048, 2816]⟩
abbrev S1x2816x1024 : Shape := ⟨3, ![1, 2816, 1024]⟩
abbrev S1x2048x1024 : Shape := ⟨3, ![1, 2048, 1024]⟩
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 8
  | .vmem => 6
  | .smem => 0
  | _ => 0

abbrev bufTy : (tb : Table) → Fin (tcTables nBuf tb) → BufTy
  | .hbm, ⟨0, _⟩ => ⟨S1x2048x2816, .f32⟩
  | .hbm, ⟨1, _⟩ => ⟨S1x2816x1024, .f32⟩
  | .hbm, ⟨2, _⟩ => ⟨S1x2048x1024, .f32⟩
  | .hbm, ⟨3, _⟩ => ⟨S2048x2816, .f32⟩
  | .hbm, ⟨4, _⟩ => ⟨S2048x2816, .bf16⟩
  | .hbm, ⟨5, _⟩ => ⟨S2048x1024, .f32⟩
  | .hbm, ⟨6, _⟩ => ⟨S2048x1024, .bf16⟩
  | .hbm, ⟨7, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | _, _ => ⟨S1x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmRefIdeal.lean ====
abbrev S1x2048x2816 : Shape := ⟨3, ![1, 2048, 2816]⟩
abbrev S1x2816x1024 : Shape := ⟨3, ![1, 2816, 1024]⟩
abbrev S1x2048x1024 : Shape := ⟨3, ![1, 2048, 1024]⟩
abbrev S2816x1024 : Shape := ⟨2, ![2816, 1024]⟩
abbrev S2048x2816 : Shape := ⟨2, ![2048, 2816]⟩
abbrev S2048x1024 : Shape := ⟨2, ![2048, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S1x2048x2816, .f32⟩
  | .hbm, ⟨1, _⟩ => ⟨S1x2816x1024, .f32⟩
  | .hbm, ⟨2, _⟩ => ⟨S1x2048x1024, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S1x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MultiBwd.lean ====
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 24
  | .vmem => 15
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x1024, .bf16⟩
  | .hbm, ⟨13, _⟩ => ⟨S2048x1024, .f32⟩
  | .hbm, ⟨14, _⟩ => ⟨S2048x1024, .bf16⟩
  | .hbm, ⟨15, _⟩ => ⟨S2048x1024, .f32⟩
  | .hbm, ⟨16, _⟩ => ⟨S2048x1024, .bf16⟩
  | .hbm, ⟨17, _⟩ => ⟨S2048x1024, .f32⟩
  | .hbm, ⟨18, _⟩ => ⟨S2048x1024, .bf16⟩
  | .hbm, ⟨19, _⟩ => ⟨S2048x1024, .f32⟩
  | .hbm, ⟨20, _⟩ => ⟨S2048x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | .local _ .vmem, ⟨7, _⟩ => ⟨S2048x512, .bf16⟩
  | .local _ .vmem, ⟨8, _⟩ => ⟨S2048x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MultiRefIdeal.lean ====
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 30
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .bf16⟩
  | .hbm, ⟨28, _⟩ => ⟨S1024x1024, .bf16⟩
  | .hbm, ⟨29, _⟩ => ⟨S1024x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== ColsBwd.lean ====
abbrev S1x2048x1024 : Shape := ⟨3, ![1, 2048, 1024]⟩
abbrev S1x1024x9472 : Shape := ⟨3, ![1, 1024, 9472]⟩
abbrev S1x2048x7424 : Shape := ⟨3, ![1, 2048, 7424]⟩
abbrev S2048x7424 : Shape := ⟨2, ![2048, 7424]⟩
abbrev S2048x1024 : Shape := ⟨2, ![2048, 1024]⟩
abbrev S9472x1024 : Shape := ⟨2, ![9472, 1024]⟩
abbrev S2048x256 : Shape := ⟨2, ![2048, 256]⟩
abbrev S256x1024 : Shape := ⟨2, ![256, 1024]⟩

abbrev nBuf : Space → Nat
  | .hbm => 14
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1x1024x9472, .f32⟩
  | .hbm, ⟨2, _⟩ => ⟨S1x2048x7424, .f32⟩
  | .hbm, ⟨3, _⟩ => ⟨S1x2048x1024, .f32⟩
  | .hbm, ⟨4, _⟩ => ⟨S1x2048x1024, .f32⟩
  | .hbm, ⟨5, _⟩ => ⟨S2048x7424, .f32⟩
  | .hbm, ⟨6, _⟩ => ⟨S2048x7424, .bf16⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x1024, .bf16⟩
  | .hbm, ⟨13, _⟩ => ⟨S9472x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x1024, .bf16⟩
  | .local _ .vmem, ⟨7, _⟩ => ⟨S256x1024, .bf16⟩
  | .local _ .vmem, ⟨8, _⟩ => ⟨S256x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![37], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c29_i32 : BitVec 32 := 29#32
  let v1 : BitVec 1 := Scalar.cmpi .slt arg0 c29_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c29_i32_1 : BitVec 32 := 29#32
  let v5 : BitVec 1 := Scalar.cmpi .sge arg0 c29_i32_1
  let c33_i32 : BitVec 32 := 33#32
  let v6 : BitVec 1 := Scalar.cmpi .slt arg0 c33_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c33_i32_3 : BitVec 32 := 33#32
  let v10 : BitVec 1 := Scalar.cmpi .sge arg0 c33_i32_3
  let c37_i32 : BitVec 32 := 37#32
  let v11 : BitVec 1 := Scalar.cmpi .slt arg0 c37_i32
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c28_i32 : BitVec 32 := 28#32
  let v1 : BitVec 32 := Scalar.maxsi c0_i32_0 v0
  let v2 : BitVec 32 := Scalar.minsi c28_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c29_i32 : BitVec 32 := 29#32
  let v0 : BitVec 32 := Scalar.subi arg0 c29_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c33_i32 : BitVec 32 := 33#32
  let v0 : BitVec 32 := Scalar.subi arg0 c33_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ColsRefIdeal.lean ====
abbrev S1x2048x1024 : Shape := ⟨3, ![1, 2048, 1024]⟩
abbrev S1x1024x9472 : Shape := ⟨3, ![1, 1024, 9472]⟩
abbrev S1x2048x7424 : Shape := ⟨3, ![1, 2048, 7424]⟩
abbrev S1024x9472 : Shape := ⟨2, ![1024, 9472]⟩
abbrev S2048x1024 : Shape := ⟨2, ![2048, 1024]⟩
abbrev S2048x9472 : Shape := ⟨2, ![2048, 9472]⟩
abbrev S2048x7424 : Shape := ⟨2, ![2048, 7424]⟩
abbrev S9472x1024 : Shape := ⟨2, ![9472, 1024]⟩

abbrev nBuf : Space → Nat
  | .hbm => 16
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024x9472, .f32⟩
  | .hbm, ⟨2, _⟩ => ⟨S1x2048x7424, .f32⟩
  | .hbm, ⟨3, _⟩ => ⟨S1x2048x1024, .f32⟩
  | .hbm, ⟨4, _⟩ => ⟨S1x2048x1024, .f32⟩
  | .hbm, ⟨5, _⟩ => ⟨S1024x9472, .f32⟩
  | .hbm, ⟨6, _⟩ => ⟨S2048x1024, .f32⟩
  | .hbm, ⟨7, _⟩ => ⟨S2048x9472, .f32⟩
  | .hbm, ⟨8, _⟩ => ⟨S2048x7424, .f32⟩
  | .hbm, ⟨9, _⟩ => ⟨S2048x1024, .f32⟩
  | .hbm, ⟨10, _⟩ => ⟨S2048x1024, .f32⟩
  | .hbm, ⟨11, _⟩ => ⟨S2048x9472, .f32⟩
  | .hbm, ⟨12, _⟩ => ⟨S9472x1024, .f32⟩
  | .hbm, ⟨13, _⟩ => ⟨S1024x9472, .f32⟩
  | .hbm, ⟨14, _⟩ => ⟨S9472x1024, .f32⟩
  | .hbm, ⟨15, _⟩ => ⟨S9472x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== AdamBwd.lean ====
abbrev S1184x1024 : Shape := ⟨2, ![1184, 1024]⟩
abbrev S3x1184x1024 : Shape := ⟨3, ![3, 1184, 1024]⟩
abbrev S1x1024x1184 : Shape := ⟨3, ![1, 1024, 1184]⟩
abbrev S_ : Shape := ⟨0, ![]⟩
abbrev S1 : Shape := ⟨1, ![1]⟩
abbrev S1x1184x1024 : Shape := ⟨3, ![1, 1184, 1024]⟩
abbrev S1024x1184 : Shape := ⟨2, ![1024, 1184]⟩
abbrev S1x592x1024 : Shape := ⟨3, ![1, 592, 1024]⟩
abbrev S3x592x1024 : Shape := ⟨3, ![3, 592, 1024]⟩
abbrev S592x1024 : Shape := ⟨2, ![592, 1024]⟩

abbrev nBuf : Space → Nat
  | .hbm => 18
  | .vmem => 18
  | .smem => 1
  | _ => 0

abbrev bufTy : (tb : Table) → Fin (tcTables nBuf tb) → BufTy
  | .hbm, ⟨0, _⟩ => ⟨S1184x1024, .f32⟩
  | .hbm, ⟨1, _⟩ => ⟨S3x1184x1024, .f32⟩
  | .hbm, ⟨2, _⟩ => ⟨S1x1024x1184, .f32⟩
  | .hbm, ⟨3, _⟩ => ⟨S1x1024x1184, .f32⟩
  | .hbm, ⟨4, _⟩ => ⟨S1x1024x1184, .f32⟩
  | .hbm, ⟨5, _⟩ => ⟨S_, .i32⟩
  | .hbm, ⟨6, _⟩ => ⟨S1x1184x1024, .f32⟩
  | .hbm, ⟨7, _⟩ => ⟨S3x1184x1024, .bf16⟩
  | .hbm, ⟨8, _⟩ => ⟨S1024x1184, .f32⟩
  | .hbm, ⟨9, _⟩ => ⟨S1184x1024, .f32⟩
  | .hbm, ⟨10, _⟩ => ⟨S1024x1184, .f32⟩
  | .hbm, ⟨11, _⟩ => ⟨S1184x1024, .f32⟩
  | .hbm, ⟨12, _⟩ => ⟨S1024x1184, .f32⟩
  | .hbm, ⟨13, _⟩ => ⟨S1184x1024, .f32⟩
  | .hbm, ⟨14, _⟩ => ⟨S1184x1024, .f32⟩
  | .hbm, ⟨15, _⟩ => ⟨S1184x1024, .f32⟩
  | .hbm, ⟨16, _⟩ => ⟨S1184x1024, .f32⟩
  | .hbm, ⟨17, _⟩ => ⟨S1184x1024, .f32⟩
  | .local _ .vmem, ⟨0, _⟩ => ⟨S1x592x1024, .f32⟩
  | .local _ .vmem, ⟨1, _⟩ => ⟨S1x592x1024, .f32⟩
  | .local _ .vmem, ⟨2, _⟩ => ⟨S3x592x1024, .bf16⟩
  | .local _ .vmem, ⟨3, _⟩ => ⟨S3x592x1024, .bf16⟩
  | .local _ .vmem, ⟨4, _⟩ => ⟨S592x1024, .f32⟩
  | .local _ .vmem, ⟨5, _⟩ => ⟨S592x1024, .f32⟩
  | .local _ .vmem, ⟨6, _⟩ => ⟨S592x1024, .f32⟩
  | .local _ .vmem, ⟨7, _⟩ => ⟨S592x1024, .f32⟩
  | .local _ .vmem, ⟨8, _⟩ => ⟨S592x1024, .f32⟩
  | .local _ .vmem, ⟨9, _⟩ => ⟨S592x1024, .f32⟩
  | .local _ .vmem, ⟨10, _⟩ => ⟨S592x1024, .f32⟩
  | .local _ .vmem, ⟨11, _⟩ => ⟨S592x1024, .f32⟩
  | .local _ .vmem, ⟨12, _⟩ => ⟨S592x1024, .f32⟩
  | .local _ .vmem, ⟨13, _⟩ => ⟨S592x1024, .f32⟩
  | .local _ .vmem, ⟨14, _⟩ => ⟨S592x1024, .f32⟩
  | .local _ .vmem, ⟨15, _⟩ => ⟨S592x1024, .f32⟩
  | .local _ .vmem, ⟨16, _⟩ => ⟨S592x1024, .f32⟩
  | .local _ .vmem, ⟨17, _⟩ => ⟨S592x1024, .f32⟩
  | .local _ .smem, ⟨0, _⟩ => ⟨S1, .i32⟩
  | _, _ => ⟨S1184x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x592x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x592x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S592x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S592x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S592x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S592x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S592x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S592x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S592x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamRefIdeal.lean ====
abbrev S1184x1024 : Shape := ⟨2, ![1184, 1024]⟩
abbrev S3x1184x1024 : Shape := ⟨3, ![3, 1184, 1024]⟩
abbrev S1x1024x1184 : Shape := ⟨3, ![1, 1024, 1184]⟩
abbrev S1x1184x1024 : Shape := ⟨3, ![1, 1184, 1024]⟩
abbrev S1024x1184 : Shape := ⟨2, ![1024, 1184]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S1184x1024, .f32⟩
  | .hbm, ⟨1, _⟩ => ⟨S3x1184x1024, .f32⟩
  | .hbm, ⟨2, _⟩ => ⟨S1x1024x1184, .f32⟩
  | .hbm, ⟨3, _⟩ => ⟨S1x1024x1184, .f32⟩
  | .hbm, ⟨4, _⟩ => ⟨S1x1024x1184, .f32⟩
  | .hbm, ⟨5, _⟩ => ⟨S1x1184x1024, .f32⟩
  | .hbm, ⟨6, _⟩ => ⟨S1184x1024, .f32⟩
  | .hbm, ⟨7, _⟩ => ⟨S1184x1024, .f32⟩
  | .hbm, ⟨8, _⟩ => ⟨S1x1184x1024, .f32⟩
  | .hbm, ⟨9, _⟩ => ⟨S1184x1024, .f32⟩
  | .hbm, ⟨10, _⟩ => ⟨S1184x1024, .f32⟩
  | .hbm, ⟨11, _⟩ => ⟨S1x1184x1024, .f32⟩
  | .hbm, ⟨12, _⟩ => ⟨S1184x1024, .f32⟩
  | .hbm, ⟨13, _⟩ => ⟨S1184x1024, .f32⟩
  | .hbm, ⟨14, _⟩ => ⟨S1024x1184, .f32⟩
  | .hbm, ⟨15, _⟩ => ⟨S1024x1184, .f32⟩
  | .hbm, ⟨16, _⟩ => ⟨S1024x1184, .f32⟩
  | .hbm, ⟨17, _⟩ => ⟨S1024x1184, .f32⟩
  | .hbm, ⟨18, _⟩ => ⟨S_, .f32⟩
  | .hbm, ⟨19, _⟩ => ⟨S1024x1184, .f32⟩
  | .hbm, ⟨20, _⟩ => ⟨S1024x1184, .f32⟩
  | .hbm, ⟨21, _⟩ => ⟨S_, .f32⟩
  | .hbm, ⟨22, _⟩ => ⟨S1024x1184, .f32⟩
  | .hbm, ⟨23, _⟩ => ⟨S1024x1184, .f32⟩
  | .hbm, ⟨24, _⟩ => ⟨S1024x1184, .f32⟩
  | .hbm, ⟨25, _⟩ => ⟨S_, .f32⟩
  | .hbm, ⟨26, _⟩ => ⟨S1024x1184, .f32⟩
  | .hbm, ⟨27, _⟩ => ⟨S1024x1184, .f32⟩
  | .hbm, ⟨28, _⟩ => ⟨S1024x1184, .f32⟩
  | .hbm, ⟨29, _⟩ => ⟨S_, .f32⟩
  | .hbm, ⟨30, _⟩ => ⟨S1024x1184, .f32⟩
  | .hbm, ⟨31, _⟩ => ⟨S1024x1184, .f32⟩
  | .hbm, ⟨32, _⟩ => ⟨S1024x1184, .f32⟩
  | .hbm, ⟨33, _⟩ => ⟨S_, .f32⟩
  | .hbm, ⟨34, _⟩ => ⟨S1024x1184, .f32⟩
  | .hbm, ⟨35, _⟩ => ⟨S1024x1184, .f32⟩
  | .hbm, ⟨36, _⟩ => ⟨S_, .f32⟩
  | .hbm, ⟨37, _⟩ => ⟨S1024x1184, .f32⟩
  | .hbm, ⟨38, _⟩ => ⟨S1024x1184, .f32⟩
  | .hbm, ⟨39, _⟩ => ⟨S1024x1184, .f32⟩
  | .hbm, ⟨40, _⟩ => ⟨S_, .f32⟩
  | .hbm, ⟨41, _⟩ => ⟨S1024x1184, .f32⟩
  | .hbm, ⟨42, _⟩ => ⟨S1024x1184, .f32⟩
  | .hbm, ⟨43, _⟩ => ⟨S1024x1184, .f32⟩
  | .hbm, ⟨44, _⟩ => ⟨S_, .f32⟩
  | .hbm, ⟨45, _⟩ => ⟨S1024x1184, .f32⟩
  | .hbm, ⟨46, _⟩ => ⟨S1024x1184, .f32⟩
  | .hbm, ⟨47, _⟩ => ⟨S1024x1184, .f32⟩
  | .hbm, ⟨48, _⟩ => ⟨S_, .f32⟩
  | .hbm, ⟨49, _⟩ => ⟨S1024x1184, .f32⟩
  | .hbm, ⟨50, _⟩ => ⟨S1024x1184, .f32⟩
  | .hbm, ⟨51, _⟩ => ⟨S1184x1024, .f32⟩
  | .hbm, ⟨52, _⟩ => ⟨S1184x1024, .f32⟩
  | .hbm, ⟨53, _⟩ => ⟨S1184x1024, .f32⟩
  | _, _ => ⟨S1184x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== PackBwd.lean ====
abbrev S1x1024 : Shape := ⟨2, ![1, 1024]⟩
abbrev S2x1024 : Shape := ⟨2, ![2, 1024]⟩
abbrev S1x3328 : Shape := ⟨2, ![1, 3328]⟩
abbrev S1x5632 : Shape := ⟨2, ![1, 5632]⟩
abbrev S1x128 : Shape := ⟨2, ![1, 128]⟩
abbrev S32x1024 : Shape := ⟨2, ![32, 1024]⟩
abbrev S1x256 : Shape := ⟨2, ![1, 256]⟩
abbrev S1x512 : Shape := ⟨2, ![1, 512]⟩

abbrev nBuf : Space → Nat
  | .hbm => 17
  | .vmem => 17
  | .smem => 0
  | _ => 0

abbrev bufTy : (tb : Table) → Fin (tcTables nBuf tb) → BufTy
  | .hbm, ⟨0, _⟩ => ⟨S1x1024, .f32⟩
  | .hbm, ⟨1, _⟩ => ⟨S2x1024, .f32⟩
  | .hbm, ⟨2, _⟩ => ⟨S1x1024, .f32⟩
  | .hbm, ⟨3, _⟩ => ⟨S1x3328, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x5632, .f32⟩
  | .hbm, ⟨14, _⟩ => ⟨S1x1024, .f32⟩
  | .hbm, ⟨15, _⟩ => ⟨S1x128, .f32⟩
  | .hbm, ⟨16, _⟩ => ⟨S32x1024, .f32⟩
  | .local _ .vmem, ⟨0, _⟩ => ⟨S1x1024, .f32⟩
  | .local _ .vmem, ⟨1, _⟩ => ⟨S2x1024, .f32⟩
  | .local _ .vmem, ⟨2, _⟩ => ⟨S1x1024, .f32⟩
  | .local _ .vmem, ⟨3, _⟩ => ⟨S1x3328, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x5632, .f32⟩
  | .local _ .vmem, ⟨14, _⟩ => ⟨S1x1024, .f32⟩
  | .local _ .vmem, ⟨15, _⟩ => ⟨S1x128, .f32⟩
  | .local _ .vmem, ⟨16, _⟩ => ⟨S32x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3328 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== PackRefIdeal.lean ====
abbrev S1x1024 : Shape := ⟨2, ![1, 1024]⟩
abbrev S2x1024 : Shape := ⟨2, ![2, 1024]⟩
abbrev S1x3328 : Shape := ⟨2, ![1, 3328]⟩
abbrev S1x5632 : Shape := ⟨2, ![1, 5632]⟩
abbrev S1x128 : Shape := ⟨2, ![1, 128]⟩
abbrev S_ : Shape := ⟨0, ![]⟩
abbrev S1x768 : Shape := ⟨2, ![1, 768]⟩
abbrev S1x4096 : Shape := ⟨2, ![1, 4096]⟩
abbrev S4x1024 : Shape := ⟨2, ![4, 1024]⟩
abbrev S1x512 : Shape := ⟨2, ![1, 512]⟩
abbrev S1x6144 : Shape := ⟨2, ![1, 6144]⟩
abbrev S6x1024 : Shape := ⟨2, ![6, 1024]⟩
abbrev S1x896 : Shape := ⟨2, ![1, 896]⟩
abbrev S25x1024 : Shape := ⟨2, ![25, 1024]⟩
abbrev S7x1024 : Shape := ⟨2, ![7, 1024]⟩
abbrev S32x1024 : Shape := ⟨2, ![32, 1024]⟩

abbrev nBuf : Space → Nat
  | .hbm => 31
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S2x1024, .f32⟩
  | .hbm, ⟨2, _⟩ => ⟨S1x1024, .f32⟩
  | .hbm, ⟨3, _⟩ => ⟨S1x3328, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x5632, .f32⟩
  | .hbm, ⟨14, _⟩ => ⟨S1x1024, .f32⟩
  | .hbm, ⟨15, _⟩ => ⟨S1x128, .f32⟩
  | .hbm, ⟨16, _⟩ => ⟨S_, .f32⟩
  | .hbm, ⟨17, _⟩ => ⟨S1x768, .f32⟩
  | .hbm, ⟨18, _⟩ => ⟨S1x4096, .f32⟩
  | .hbm, ⟨19, _⟩ => ⟨S4x1024, .f32⟩
  | .hbm, ⟨20, _⟩ => ⟨S_, .f32⟩
  | .hbm, ⟨21, _⟩ => ⟨S1x512, .f32⟩
  | .hbm, ⟨22, _⟩ => ⟨S1x6144, .f32⟩
  | .hbm, ⟨23, _⟩ => ⟨S6x1024, .f32⟩
  | .hbm, ⟨24, _⟩ => ⟨S_, .f32⟩
  | .hbm, ⟨25, _⟩ => ⟨S1x896, .f32⟩
  | .hbm, ⟨26, _⟩ => ⟨S1x1024, .f32⟩
  | .hbm, ⟨27, _⟩ => ⟨S25x1024, .f32⟩
  | .hbm, ⟨28, _⟩ => ⟨S_, .f32⟩
  | .hbm, ⟨29, _⟩ => ⟨S7x1024, .f32⟩
  | .hbm, ⟨30, _⟩ => ⟨S32x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== PairBwd.lean ====
abbrev S8x1184x1024 : Shape := ⟨3, ![8, 1184, 1024]⟩
abbrev S4x1184x1024 : Shape := ⟨3, ![4, 1184, 1024]⟩
abbrev S4 : Shape := ⟨1, ![4]⟩
abbrev S1184x1024 : Shape := ⟨2, ![1184, 1024]⟩
abbrev S3x1184x1024 : Shape := ⟨3, ![3, 1184, 1024]⟩
abbrev S1x592x1024 : Shape := ⟨3, ![1, 592, 1024]⟩
abbrev S1 : Shape := ⟨1, ![1]⟩
abbrev S592x1024 : Shape := ⟨2, ![592, 1024]⟩

abbrev nBuf : Space → Nat
  | .hbm => 6
  | .vmem => 8
  | .smem => 1
  | _ => 0

abbrev bufTy : (tb : Table) → Fin (tcTables nBuf tb) → BufTy
  | .hbm, ⟨0, _⟩ => ⟨S8x1184x1024, .f32⟩
  | .hbm, ⟨1, _⟩ => ⟨S4x1184x1024, .f32⟩
  | .hbm, ⟨2, _⟩ => ⟨S8x1184x1024, .bf16⟩
  | .hbm, ⟨3, _⟩ => ⟨S4x1184x1024, .bf16⟩
  | .hbm, ⟨4, _⟩ => ⟨S1184x1024, .f32⟩
  | .hbm, ⟨5, _⟩ => ⟨S3x1184x1024, .bf16⟩
  | .local _ .vmem, ⟨0, _⟩ => ⟨S1x592x1024, .bf16⟩
  | .local _ .vmem, ⟨1, _⟩ => ⟨S1x592x1024, .bf16⟩
  | .local _ .vmem, ⟨2, _⟩ => ⟨S1x592x1024, .bf16⟩
  | .local _ .vmem, ⟨3, _⟩ => ⟨S1x592x1024, .bf16⟩
  | .local _ .vmem, ⟨4, _⟩ => ⟨S592x1024, .f32⟩
  | .local _ .vmem, ⟨5, _⟩ => ⟨S592x1024, .f32⟩
  | .local _ .vmem, ⟨6, _⟩ => ⟨S1x592x1024, .bf16⟩
  | .local _ .vmem, ⟨7, _⟩ => ⟨S1x592x1024, .bf16⟩
  | .local _ .smem, ⟨0, _⟩ => ⟨S4, .i32⟩
  | _, _ => ⟨S8x1184x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_5 : BitVec 32 := 0#32
  let v9 : BitVec 1 := Scalar.cmpi .ne v8 c0_i32_5
  v9

def k0_cond2 (i : grid0.Coords) : BitVec 1 :=
  let arg1 : BitVec 32 := BitVec.ofNat 32 (i 1).val
  let c0_i32_6 : BitVec 32 := 0#32
  let v10 : BitVec 1 := Scalar.cmpi .sgt arg1 c0_i32_6
  let v11 : BitVec 32 := Scalar.extui v10
  let c0_i32_7 : BitVec 32 := 0#32
  let v12 : BitVec 1 := Scalar.cmpi .ne v11 c0_i32_7
  v12

def cc0_transform_0 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c0_i32 : BitVec 32 := 0#32
  let c0_i32_0 : BitVec 32 := 0#32
  ![v1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

abbrev stage0_0 : Fin 2 → Memref sig .tc .vmem S1x592x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x592x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S592x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x592x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PairRefIdeal.lean ====
abbrev S8x1184x1024 : Shape := ⟨3, ![8, 1184, 1024]⟩
abbrev S4x1184x1024 : Shape := ⟨3, ![4, 1184, 1024]⟩
abbrev S1x1184x1024 : Shape := ⟨3, ![1, 1184, 1024]⟩
abbrev S1184x1024 : Shape := ⟨2, ![1184, 1024]⟩
abbrev S3x1184x1024 : Shape := ⟨3, ![3, 1184, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x1184x1024, .f32⟩
  | .hbm, ⟨1, _⟩ => ⟨S4x1184x1024, .f32⟩
  | .hbm, ⟨2, _⟩ => ⟨S1x1184x1024, .f32⟩
  | .hbm, ⟨3, _⟩ => ⟨S1184x1024, .f32⟩
  | .hbm, ⟨4, _⟩ => ⟨S1x1184x1024, .f32⟩
  | .hbm, ⟨5, _⟩ => ⟨S1184x1024, .f32⟩
  | .hbm, ⟨6, _⟩ => ⟨S1184x1024, .f32⟩
  | .hbm, ⟨7, _⟩ => ⟨S1x1184x1024, .f32⟩
  | .hbm, ⟨8, _⟩ => ⟨S1184x1024, .f32⟩
  | .hbm, ⟨9, _⟩ => ⟨S1x1184x1024, .f32⟩
  | .hbm, ⟨10, _⟩ => ⟨S1184x1024, .f32⟩
  | .hbm, ⟨11, _⟩ => ⟨S1184x1024, .f32⟩
  | .hbm, ⟨12, _⟩ => ⟨S1x1184x1024, .f32⟩
  | .hbm, ⟨13, _⟩ => ⟨S1184x1024, .f32⟩
  | .hbm, ⟨14, _⟩ => ⟨S1x1184x1024, .f32⟩
  | .hbm, ⟨15, _⟩ => ⟨S1184x1024, .f32⟩
  | .hbm, ⟨16, _⟩ => ⟨S1184x1024, .f32⟩
  | .hbm, ⟨17, _⟩ => ⟨S1x1184x1024, .f32⟩
  | .hbm, ⟨18, _⟩ => ⟨S1184x1024, .f32⟩
  | .hbm, ⟨19, _⟩ => ⟨S1x1184x1024, .f32⟩
  | .hbm, ⟨20, _⟩ => ⟨S1184x1024, .f32⟩
  | .hbm, ⟨21, _⟩ => ⟨S1184x1024, .f32⟩
  | .hbm, ⟨22, _⟩ => ⟨S1x1184x1024, .f32⟩
  | .hbm, ⟨23, _⟩ => ⟨S1x1184x1024, .f32⟩
  | .hbm, ⟨24, _⟩ => ⟨S1x1184x1024, .f32⟩
  | .hbm, ⟨25, _⟩ => ⟨S3x1184x1024, .f32⟩
  | .hbm, ⟨26, _⟩ => ⟨S3x1184x1024, .bf16⟩
  | _, _ => ⟨S8x1184x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩

abbrev nD : Nat := 1
abbrev τ : Topo := Topo.v7x

variable {F : FTy → Type} [FloatOps F]
-- ==== ReduceBwd.lean ====
abbrev S8x1184x1024 : Shape := ⟨3, ![8, 1184, 1024]⟩
abbrev S4x1184x1024 : Shape := ⟨3, ![4, 1184, 1024]⟩
abbrev S1 : Shape := ⟨1, ![1]⟩
abbrev S_ : Shape := ⟨0, ![]⟩
abbrev S1x1184x1024 : Shape := ⟨3, ![1, 1184, 1024]⟩
abbrev S1184x1024 : Shape := ⟨2, ![1184, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8x1184x1024, .f32⟩
  | .hbm, ⟨1, _⟩ => ⟨S4x1184x1024, .f32⟩
  | _, _ => ⟨S8x1184x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_off1 (d0 : Dev nD) : Fin 3 → Nat :=
  let c4_i32 : BitVec 32 := 4#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let v14 : BitVec 32 := Scalar.muli c4_i32 v2
  let c2_i32_9 : BitVec 32 := 2#32
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let v15 : BitVec 32 := Scalar.muli c2_i32_9 v5
  let v16 : BitVec 32 := Scalar.addi v14 v15
  let c1_i32_10 : BitVec 32 := 1#32
  let v17 : BitVec 32 := Scalar.addi v16 c1_i32_10
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v18 : BitVec 32 := Scalar.subi v17 v8
  let c0_i32_19 : BitVec 32 := 0#32
  let c0_i32_20 : BitVec 32 := 0#32
  ![v18.toNat, 0, 0]
def k0_dev1 (d0 : Dev nD) : Nat :=
  let c0_i32_14 : BitVec 32 := 0#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let c2_i32_13 : BitVec 32 := 2#32
  let v19 : BitVec 32 := Scalar.muli v2 c2_i32_13
  let v20 : BitVec 32 := Scalar.addi c0_i32_14 v19
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let c2_i32_15 : BitVec 32 := 2#32
  let v21 : BitVec 32 := Scalar.muli v5 c2_i32_15
  let v22 : BitVec 32 := Scalar.addi v20 v21
  let c1_i32_8 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v13 : BitVec 32 := Scalar.subi c1_i32_8 v8
  let c1_i32_16 : BitVec 32 := 1#32
  let v23 : BitVec 32 := Scalar.muli v13 c1_i32_16
  let v24 : BitVec 32 := Scalar.addi v22 v23
  v24.toNat
def k0_off2 (d0 : Dev nD) : Fin 3 → Nat :=
  let c4_i32_21 : BitVec 32 := 4#32
  let c1_i32_4 : BitVec 32 := 1#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let v9 : BitVec 32 := Scalar.subi c1_i32_4 v2
  let v33 : BitVec 32 := Scalar.muli c4_i32_21 v9
  let c2_i32_22 : BitVec 32 := 2#32
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let v34 : BitVec 32 := Scalar.muli c2_i32_22 v5
  let v35 : BitVec 32 := Scalar.addi v33 v34
  let c1_i32_23 : BitVec 32 := 1#32
  let v36 : BitVec 32 := Scalar.addi v35 c1_i32_23
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v37 : BitVec 32 := Scalar.subi v36 v8
  let c0_i32_33 : BitVec 32 := 0#32
  let c0_i32_34 : BitVec 32 := 0#32
  ![v37.toNat, 0, 0]
def k0_dev2 (d0 : Dev nD) : Nat :=
  let c0_i32_28 : BitVec 32 := 0#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let c2_i32_27 : BitVec 32 := 2#32
  let v38 : BitVec 32 := Scalar.muli v2 c2_i32_27
  let v39 : BitVec 32 := Scalar.addi c0_i32_28 v38
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let c2_i32_29 : BitVec 32 := 2#32
  let v40 : BitVec 32 := Scalar.muli v5 c2_i32_29
  let v41 : BitVec 32 := Scalar.addi v39 v40
  let c1_i32_8 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v13 : BitVec 32 := Scalar.subi c1_i32_8 v8
  let c1_i32_30 : BitVec 32 := 1#32
  let v42 : BitVec 32 := Scalar.muli v13 c1_i32_30
  let v43 : BitVec 32 := Scalar.addi v41 v42
  v43.toNat
def k0_off3 (d0 : Dev nD) : Fin 3 → Nat :=
  let c4_i32_35 : BitVec 32 := 4#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let v52 : BitVec 32 := Scalar.muli c4_i32_35 v2
  let c2_i32_36 : BitVec 32 := 2#32
  let c1_i32_5 : BitVec 32 := 1#32
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let v10 : BitVec 32 := Scalar.subi c1_i32_5 v5
  let v53 : BitVec 32 := Scalar.muli c2_i32_36 v10
  let v54 : BitVec 32 := Scalar.addi v52 v53
  let c1_i32_37 : BitVec 32 := 1#32
  let v55 : BitVec 32 := Scalar.addi v54 c1_i32_37
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v56 : BitVec 32 := Scalar.subi v55 v8
  let c0_i32_47 : BitVec 32 := 0#32
  let c0_i32_48 : BitVec 32 := 0#32
  ![v56.toNat, 0, 0]
def k0_dev3 (d0 : Dev nD) : Nat :=
  let c0_i32_42 : BitVec 32 := 0#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let c2_i32_41 : BitVec 32 := 2#32
  let v57 : BitVec 32 := Scalar.muli v2 c2_i32_41
  let v58 : BitVec 32 := Scalar.addi c0_i32_42 v57
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let c2_i32_43 : BitVec 32 := 2#32
  let v59 : BitVec 32 := Scalar.muli v5 c2_i32_43
  let v60 : BitVec 32 := Scalar.addi v58 v59
  let c1_i32_8 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v13 : BitVec 32 := Scalar.subi c1_i32_8 v8
  let c1_i32_44 : BitVec 32 := 1#32
  let v61 : BitVec 32 := Scalar.muli v13 c1_i32_44
  let v62 : BitVec 32 := Scalar.addi v60 v61
  v62.toNat
def k0_off4 (d0 : Dev nD) : Fin 3 → Nat :=
  let c4_i32_49 : BitVec 32 := 4#32
  let c1_i32_6 : BitVec 32 := 1#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let v11 : BitVec 32 := Scalar.subi c1_i32_6 v2
  let v71 : BitVec 32 := Scalar.muli c4_i32_49 v11
  let c2_i32_50 : BitVec 32 := 2#32
  let c1_i32_7 : BitVec 32 := 1#32
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let v12 : BitVec 32 := Scalar.subi c1_i32_7 v5
  let v72 : BitVec 32 := Scalar.muli c2_i32_50 v12
  let v73 : BitVec 32 := Scalar.addi v71 v72
  let c1_i32_51 : BitVec 32 := 1#32
  let v74 : BitVec 32 := Scalar.addi v73 c1_i32_51
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v75 : BitVec 32 := Scalar.subi v74 v8
  let c0_i32_60 : BitVec 32 := 0#32
  let c0_i32_61 : BitVec 32 := 0#32
  ![v75.toNat, 0, 0]
def k0_dev4 (d0 : Dev nD) : Nat :=
  let c0_i32_55 : BitVec 32 := 0#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let c2_i32_54 : BitVec 32 := 2#32
  let v76 : BitVec 32 := Scalar.muli v2 c2_i32_54
  let v77 : BitVec 32 := Scalar.addi c0_i32_55 v76
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let c2_i32_56 : BitVec 32 := 2#32
  let v78 : BitVec 32 := Scalar.muli v5 c2_i32_56
  let v79 : BitVec 32 := Scalar.addi v77 v78
  let c1_i32_8 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v13 : BitVec 32 := Scalar.subi c1_i32_8 v8
  let c1_i32_57 : BitVec 32 := 1#32
  let v80 : BitVec 32 := Scalar.muli v13 c1_i32_57
  let v81 : BitVec 32 := Scalar.addi v79 v80
  v81.toNat
-- ==== ReduceRefIdeal.lean ====
abbrev S16x1184x1024 : Shape := ⟨3, ![16, 1184, 1024]⟩
abbrev S8x1184x1024 : Shape := ⟨3, ![8, 1184, 1024]⟩
abbrev S1x1184x1024 : Shape := ⟨3, ![1, 1184, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16x1184x1024, .f32⟩
  | .hbm, ⟨1, _⟩ => ⟨S8x1184x1024, .f32⟩
  | .hbm, ⟨2, _⟩ => ⟨S8x1184x1024, .f32⟩
  | .hbm, ⟨3, _⟩ => ⟨S1x1184x1024, .f32⟩
  | .hbm, ⟨4, _⟩ => ⟨S1x1184x1024, .f32⟩
  | .hbm, ⟨5, _⟩ => ⟨S1x1184x1024, .f32⟩
  | .hbm, ⟨6, _⟩ => ⟨S1x1184x1024, .f32⟩
  | .hbm, ⟨7, _⟩ => ⟨S1x1184x1024, .f32⟩
  | .hbm, ⟨8, _⟩ => ⟨S1x1184x1024, .f32⟩
  | .hbm, ⟨9, _⟩ => ⟨S1x1184x1024, .f32⟩
  | .hbm, ⟨10, _⟩ => ⟨S1x1184x1024, .f32⟩
  | .hbm, ⟨11, _⟩ => ⟨S8x1184x1024, .f32⟩
  | _, _ => ⟨S16x1184x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩

abbrev nD : Nat := 1
abbrev τ : Topo := Topo.v7x

variable {F : FTy → Type} [FloatOps F]
-- ==== GatherBwd.lean ====
abbrev S32x1024 : Shape := ⟨2, ![32, 1024]⟩
abbrev S8x32x1024 : Shape := ⟨3, ![8, 32, 1024]⟩
abbrev S7 : Shape := ⟨1, ![7]⟩
abbrev S_ : Shape := ⟨0, ![]⟩
abbrev S1x32x1024 : Shape := ⟨3, ![1, 32, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S8x32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v27 : BitVec 32 := Scalar.muli v2 c4_i32_20
  let v28 : BitVec 32 := Scalar.addi c0_i32_21 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v29 : BitVec 32 := Scalar.muli v5 c2_i32_22
  let v30 : BitVec 32 := Scalar.addi v28 v29
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_23 : BitVec 32 := 1#32
  let v31 : BitVec 32 := Scalar.muli v15 c1_i32_23
  let v32 : BitVec 32 := Scalar.addi v30 v31
  v32.toNat
def k0_dev2 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v39 : BitVec 32 := Scalar.muli v2 c4_i32_28
  let v40 : BitVec 32 := Scalar.addi c0_i32_29 v39
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_30 : BitVec 32 := 2#32
  let v41 : BitVec 32 := Scalar.muli v16 c2_i32_30
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v43 : BitVec 32 := Scalar.muli v8 c1_i32_31
  let v44 : BitVec 32 := Scalar.addi v42 v43
  v44.toNat
def k0_dev3 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v51 : BitVec 32 := Scalar.muli v2 c4_i32_36
  let v52 : BitVec 32 := Scalar.addi c0_i32_37 v51
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_38 : BitVec 32 := 2#32
  let v53 : BitVec 32 := Scalar.muli v17 c2_i32_38
  let v54 : BitVec 32 := Scalar.addi v52 v53
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_39 : BitVec 32 := 1#32
  let v55 : BitVec 32 := Scalar.muli v18 c1_i32_39
  let v56 : BitVec 32 := Scalar.addi v54 v55
  v56.toNat
def k0_dev4 (d0 : Dev nD) : Nat :=
  let c0_i32_44 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_43 : BitVec 32 := 4#32
  let v63 : BitVec 32 := Scalar.muli v19 c4_i32_43
  let v64 : BitVec 32 := Scalar.addi c0_i32_44 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v65 : BitVec 32 := Scalar.muli v5 c2_i32_45
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v67 : BitVec 32 := Scalar.muli v8 c1_i32_46
  let v68 : BitVec 32 := Scalar.addi v66 v67
  v68.toNat
def k0_dev5 (d0 : Dev nD) : Nat :=
  let c0_i32_52 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let c4_i32_51 : BitVec 32 := 4#32
  let v75 : BitVec 32 := Scalar.muli v20 c4_i32_51
  let v76 : BitVec 32 := Scalar.addi c0_i32_52 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v77 : BitVec 32 := Scalar.muli v5 c2_i32_53
  let v78 : BitVec 32 := Scalar.addi v76 v77
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let c1_i32_54 : BitVec 32 := 1#32
  let v79 : BitVec 32 := Scalar.muli v21 c1_i32_54
  let v80 : BitVec 32 := Scalar.addi v78 v79
  v80.toNat
def k0_dev6 (d0 : Dev nD) : Nat :=
  let c0_i32_59 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let c4_i32_58 : BitVec 32 := 4#32
  let v87 : BitVec 32 := Scalar.muli v22 c4_i32_58
  let v88 : BitVec 32 := Scalar.addi c0_i32_59 v87
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_14 v5
  let c2_i32_60 : BitVec 32 := 2#32
  let v89 : BitVec 32 := Scalar.muli v23 c2_i32_60
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v91 : BitVec 32 := Scalar.muli v8 c1_i32_61
  let v92 : BitVec 32 := Scalar.addi v90 v91
  v92.toNat
def k0_dev7 (d0 : Dev nD) : Nat :=
  let c0_i32_66 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_15 v2
  let c4_i32_65 : BitVec 32 := 4#32
  let v99 : BitVec 32 := Scalar.muli v24 c4_i32_65
  let v100 : BitVec 32 := Scalar.addi c0_i32_66 v99
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_16 v5
  let c2_i32_67 : BitVec 32 := 2#32
  let v101 : BitVec 32 := Scalar.muli v25 c2_i32_67
  let v102 : BitVec 32 := Scalar.addi v100 v101
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_17 v8
  let c1_i32_68 : BitVec 32 := 1#32
  let v103 : BitVec 32 := Scalar.muli v26 c1_i32_68
  let v104 : BitVec 32 := Scalar.addi v102 v103
  v104.toNat
-- ==== GatherRefIdeal.lean ====
abbrev S256x1024 : Shape := ⟨2, ![256, 1024]⟩
abbrev S8x32x1024 : Shape := ⟨3, ![8, 32, 1024]⟩

abbrev nBuf : Space → Nat
  | .hbm => 2
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8x32x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== WeightsFwd.lean ====
abbrev S1184x1024 : Shape := ⟨2, ![1184, 1024]⟩
abbrev S8x1184x1024 : Shape := ⟨3, ![8, 1184, 1024]⟩
abbrev S8 : Shape := ⟨1, ![8]⟩
abbrev S1 : Shape := ⟨1, ![1]⟩
abbrev S_ : Shape := ⟨0, ![]⟩
abbrev S1x1184x1024 : Shape := ⟨3, ![1, 1184, 1024]⟩
abbrev S1x592x1024 : Shape := ⟨3, ![1, 592, 1024]⟩
abbrev S592x1024 : Shape := ⟨2, ![592, 1024]⟩

abbrev nBuf : Space → Nat
  | .hbm => 2
  | .vmem => 0
  | .smem => 0
  | _ => 0

abbrev bufTy : (tb : Table) → Fin (tcTables nBuf tb) → BufTy
  | .hbm, ⟨0, _⟩ => ⟨S1184x1024, .bf16⟩
  | .hbm, ⟨1, _⟩ => ⟨S8x1184x1024, .bf16⟩
  | _, _ => ⟨S1184x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_6 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c4_i32_6 v2
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.muli c2_i32_7 v5
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c0_i32_8 : BitVec 32 := 0#32
  let c0_i32_9 : BitVec 32 := 0#32
  ![v15.toNat, 0, 0]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v24 : BitVec 32 := Scalar.muli v2 c4_i32_14
  let v25 : BitVec 32 := Scalar.addi c0_i32_15 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v26 : BitVec 32 := Scalar.muli v5 c2_i32_16
  let v27 : BitVec 32 := Scalar.addi v25 v26
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_17 : BitVec 32 := 1#32
  let v28 : BitVec 32 := Scalar.muli v9 c1_i32_17
  let v29 : BitVec 32 := Scalar.addi v27 v28
  v29.toNat
def k0_dev2 (d0 : Dev nD) : Nat :=
  let c0_i32_23 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_22 : BitVec 32 := 4#32
  let v36 : BitVec 32 := Scalar.muli v10 c4_i32_22
  let v37 : BitVec 32 := Scalar.addi c0_i32_23 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v38 : BitVec 32 := Scalar.muli v5 c2_i32_24
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v40 : BitVec 32 := Scalar.muli v8 c1_i32_25
  let v41 : BitVec 32 := Scalar.addi v39 v40
  v41.toNat
def k0_dev3 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v48 : BitVec 32 := Scalar.muli v2 c4_i32_30
  let v49 : BitVec 32 := Scalar.addi c0_i32_31 v48
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_32 : BitVec 32 := 2#32
  let v50 : BitVec 32 := Scalar.muli v11 c2_i32_32
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v52 : BitVec 32 := Scalar.muli v8 c1_i32_33
  let v53 : BitVec 32 := Scalar.addi v51 v52
  v53.toNat
def k0_off2 (d0 : Dev nD) : Fin 3 → Nat :=
  let c4_i32_37 : BitVec 32 := 4#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v60 : BitVec 32 := Scalar.subi c1_i32_36 v2
  let v61 : BitVec 32 := Scalar.muli c4_i32_37 v60
  let c2_i32_38 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v62 : BitVec 32 := Scalar.muli c2_i32_38 v5
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.addi v63 v8
  let c0_i32_45 : BitVec 32 := 0#32
  let c0_i32_46 : BitVec 32 := 0#32
  ![v64.toNat, 0, 0]
def k0_off3 (d0 : Dev nD) : Fin 3 → Nat :=
  let c4_i32_37 : BitVec 32 := 4#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v60 : BitVec 32 := Scalar.subi c1_i32_36 v2
  let v61 : BitVec 32 := Scalar.muli c4_i32_37 v60
  let c2_i32_38 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v62 : BitVec 32 := Scalar.muli c2_i32_38 v5
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.addi v63 v8
  let c0_i32_54 : BitVec 32 := 0#32
  let c0_i32_55 : BitVec 32 := 0#32
  ![v64.toNat, 0, 0]
def k0_dev4 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v77 : BitVec 32 := Scalar.muli v2 c4_i32_50
  let v78 : BitVec 32 := Scalar.addi c0_i32_51 v77
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_52 : BitVec 32 := 2#32
  let v79 : BitVec 32 := Scalar.muli v11 c2_i32_52
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v81 : BitVec 32 := Scalar.muli v8 c1_i32_53
  let v82 : BitVec 32 := Scalar.addi v80 v81
  v82.toNat
def k0_dev5 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v91 : BitVec 32 := Scalar.muli v2 c4_i32_59
  let v92 : BitVec 32 := Scalar.addi c0_i32_60 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v93 : BitVec 32 := Scalar.muli v5 c2_i32_61
  let v94 : BitVec 32 := Scalar.addi v92 v93
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_62 : BitVec 32 := 1#32
  let v95 : BitVec 32 := Scalar.muli v9 c1_i32_62
  let v96 : BitVec 32 := Scalar.addi v94 v95
  v96.toNat
def k0_off4 (d0 : Dev nD) : Fin 3 → Nat :=
  let c4_i32_68 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v106 : BitVec 32 := Scalar.muli c4_i32_68 v2
  let c2_i32_69 : BitVec 32 := 2#32
  let c1_i32_67 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v105 : BitVec 32 := Scalar.subi c1_i32_67 v5
  let v107 : BitVec 32 := Scalar.muli c2_i32_69 v105
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v109 : BitVec 32 := Scalar.addi v108 v8
  let c0_i32_76 : BitVec 32 := 0#32
  let c0_i32_77 : BitVec 32 := 0#32
  ![v109.toNat, 0, 0]
def k0_off5 (d0 : Dev nD) : Fin 3 → Nat :=
  let c4_i32_68 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v106 : BitVec 32 := Scalar.muli c4_i32_68 v2
  let c2_i32_69 : BitVec 32 := 2#32
  let c1_i32_67 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v105 : BitVec 32 := Scalar.subi c1_i32_67 v5
  let v107 : BitVec 32 := Scalar.muli c2_i32_69 v105
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v109 : BitVec 32 := Scalar.addi v108 v8
  let c592_i32 : BitVec 32 := 592#32
  let c0_i32_86 : BitVec 32 := 0#32
  ![v109.toNat, 592, 0]
def k0_dev6 (d0 : Dev nD) : Nat :=
  let c0_i32_83 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_82 : BitVec 32 := 4#32
  let v122 : BitVec 32 := Scalar.muli v10 c4_i32_82
  let v123 : BitVec 32 := Scalar.addi c0_i32_83 v122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_84 : BitVec 32 := 2#32
  let v124 : BitVec 32 := Scalar.muli v5 c2_i32_84
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v126 : BitVec 32 := Scalar.muli v8 c1_i32_85
  let v127 : BitVec 32 := Scalar.addi v125 v126
  v127.toNat
def k0_dev7 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v136 : BitVec 32 := Scalar.muli v2 c4_i32_90
  let v137 : BitVec 32 := Scalar.addi c0_i32_91 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v138 : BitVec 32 := Scalar.muli v5 c2_i32_92
  let v139 : BitVec 32 := Scalar.addi v137 v138
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_93 : BitVec 32 := 1#32
  let v140 : BitVec 32 := Scalar.muli v9 c1_i32_93
  let v141 : BitVec 32 := Scalar.addi v139 v140
  v141.toNat
def k0_off6 (d0 : Dev nD) : Fin 3 → Nat :=
  let c4_i32_100 : BitVec 32 := 4#32
  let c1_i32_98 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_98 v2
  let v152 : BitVec 32 := Scalar.muli c4_i32_100 v150
  let c2_i32_101 : BitVec 32 := 2#32
  let c1_i32_99 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v151 : BitVec 32 := Scalar.subi c1_i32_99 v5
  let v153 : BitVec 32 := Scalar.muli c2_i32_101 v151
  let v154 : BitVec 32 := Scalar.addi v152 v153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v155 : BitVec 32 := Scalar.addi v154 v8
  let c0_i32_108 : BitVec 32 := 0#32
  let c0_i32_109 : BitVec 32 := 0#32
  ![v155.toNat, 0, 0]
def k0_off7 (d0 : Dev nD) : Fin 3 → Nat :=
  let c4_i32_100 : BitVec 32 := 4#32
  let c1_i32_98 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_98 v2
  let v152 : BitVec 32 := Scalar.muli c4_i32_100 v150
  let c2_i32_101 : BitVec 32 := 2#32
  let c1_i32_99 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v151 : BitVec 32 := Scalar.subi c1_i32_99 v5
  let v153 : BitVec 32 := Scalar.muli c2_i32_101 v151
  let v154 : BitVec 32 := Scalar.addi v152 v153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v155 : BitVec 32 := Scalar.addi v154 v8
  let c592_i32_118 : BitVec 32 := 592#32
  let c0_i32_119 : BitVec 32 := 0#32
  ![v155.toNat, 592, 0]
def k0_off8 (d0 : Dev nD) : Fin 3 → Nat :=
  let c4_i32_100 : BitVec 32 := 4#32
  let c1_i32_98 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_98 v2
  let v152 : BitVec 32 := Scalar.muli c4_i32_100 v150
  let c2_i32_101 : BitVec 32 := 2#32
  let c1_i32_99 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v151 : BitVec 32 := Scalar.subi c1_i32_99 v5
  let v153 : BitVec 32 := Scalar.muli c2_i32_101 v151
  let v154 : BitVec 32 := Scalar.addi v152 v153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v155 : BitVec 32 := Scalar.addi v154 v8
  let c0_i32_127 : BitVec 32 := 0#32
  let c0_i32_128 : BitVec 32 := 0#32
  ![v155.toNat, 0, 0]
def k0_dev8 (d0 : Dev nD) : Nat :=
  let c0_i32_124 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_123 : BitVec 32 := 4#32
  let v180 : BitVec 32 := Scalar.muli v2 c4_i32_123
  let v181 : BitVec 32 := Scalar.addi c0_i32_124 v180
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_125 : BitVec 32 := 2#32
  let v182 : BitVec 32 := Scalar.muli v5 c2_i32_125
  let v183 : BitVec 32 := Scalar.addi v181 v182
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_126 : BitVec 32 := 1#32
  let v184 : BitVec 32 := Scalar.muli v9 c1_i32_126
  let v185 : BitVec 32 := Scalar.addi v183 v184
  v185.toNat
def k0_off9 (d0 : Dev nD) : Fin 3 → Nat :=
  let c4_i32_132 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v195 : BitVec 32 := Scalar.muli c4_i32_132 v2
  let c2_i32_133 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v196 : BitVec 32 := Scalar.muli c2_i32_133 v5
  let v197 : BitVec 32 := Scalar.addi v195 v196
  let c1_i32_131 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v194 : BitVec 32 := Scalar.subi c1_i32_131 v8
  let v198 : BitVec 32 := Scalar.addi v197 v194
  let c0_i32_153 : BitVec 32 := 0#32
  let c0_i32_154 : BitVec 32 := 0#32
  ![v198.toNat, 0, 0]
def k0_off10 (d0 : Dev nD) : Fin 3 → Nat :=
  let c4_i32_136 : BitVec 32 := 4#32
  let c1_i32_134 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v199 : BitVec 32 := Scalar.subi c1_i32_134 v2
  let v201 : BitVec 32 := Scalar.muli c4_i32_136 v199
  let c2_i32_137 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v202 : BitVec 32 := Scalar.muli c2_i32_137 v5
  let v203 : BitVec 32 := Scalar.addi v201 v202
  let c1_i32_135 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v200 : BitVec 32 := Scalar.subi c1_i32_135 v8
  let v204 : BitVec 32 := Scalar.addi v203 v200
  let c0_i32_163 : BitVec 32 := 0#32
  let c0_i32_164 : BitVec 32 := 0#32
  ![v204.toNat, 0, 0]
def k0_off11 (d0 : Dev nD) : Fin 3 → Nat :=
  let c4_i32_140 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v207 : BitVec 32 := Scalar.muli c4_i32_140 v2
  let c2_i32_141 : BitVec 32 := 2#32
  let c1_i32_138 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v205 : BitVec 32 := Scalar.subi c1_i32_138 v5
  let v208 : BitVec 32 := Scalar.muli c2_i32_141 v205
  let v209 : BitVec 32 := Scalar.addi v207 v208
  let c1_i32_139 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v206 : BitVec 32 := Scalar.subi c1_i32_139 v8
  let v210 : BitVec 32 := Scalar.addi v209 v206
  let c0_i32_173 : BitVec 32 := 0#32
  let c0_i32_174 : BitVec 32 := 0#32
  ![v210.toNat, 0, 0]
def k0_off12 (d0 : Dev nD) : Fin 3 → Nat :=
  let c4_i32_145 : BitVec 32 := 4#32
  let c1_i32_142 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v211 : BitVec 32 := Scalar.subi c1_i32_142 v2
  let v214 : BitVec 32 := Scalar.muli c4_i32_145 v211
  let c2_i32_146 : BitVec 32 := 2#32
  let c1_i32_143 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v212 : BitVec 32 := Scalar.subi c1_i32_143 v5
  let v215 : BitVec 32 := Scalar.muli c2_i32_146 v212
  let v216 : BitVec 32 := Scalar.addi v214 v215
  let c1_i32_144 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v213 : BitVec 32 := Scalar.subi c1_i32_144 v8
  let v217 : BitVec 32 := Scalar.addi v216 v213
  let c0_i32_183 : BitVec 32 := 0#32
  let c0_i32_184 : BitVec 32 := 0#32
  ![v217.toNat, 0, 0]
-- ==== WeightsRefIdeal.lean ====
abbrev S9472x1024 : Shape := ⟨2, ![9472, 1024]⟩
abbrev S8x1184x1024 : Shape := ⟨3, ![8, 1184, 1024]⟩

abbrev nBuf : Space → Nat
  | .hbm => 2
  | .vmem => 0
  | .smem => 0
  | _ => 0

abbrev bufTy : (tb : Table) → Fin (tcTables nBuf tb) → BufTy
  | .hbm, ⟨0, _⟩ => ⟨S9472x1024, .bf16⟩
  | .hbm, ⟨1, _⟩ => ⟨S8x1184x1024, .bf16⟩
  | _, _ => ⟨S9472x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Pre.Dx.lean ====
module

public import proofs.«01_k».proof.Proof.Gen.PreBwdIdeal.Value
public import proofs.«01_k».proof.Proof.Gen.PreRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PreBwdIdeal.Value

open Cert.PreBwdIdeal Cert.PreBwdIdeal.Gen Cert.PreRefIdeal.Read

variable (m : (ℓ : Loc nD τ sig) → Buf (Elt Ideal) ℓ)

/-- The index maps of the ten windows: the row windows move with the grid point, the others stay. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_8.index t = ![0, 0] ∧ win0_9.index t = ![t.val, 0] :=
  (by decide +kernel : ∀ t : Fin grid0.N, _)

/-- The reference's gradient of the input, over this program's argument arrays. -/
abbrev refDx (c : Dev nD) : FVec Ideal Cert.PreRefIdeal.S2048x1024 .f32 :=
  val_main_v40 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- Row `r` of the block of point `t`, as a row of the whole array. -/
def row (t : Fin cfg0.N) (r : Fin 256) : Fin 2048 := ⟨t.val * 256 + r.val, by have := t.isLt; have : cfg0.N = 8 := N_0; omega⟩

theorem read_x (c : Dev nD) (t : Fin cfg0.N) (r : Fin 256) (k : Fin 1024) :
    iblk m c 4 t (ix2 r k) = m ((c : Thread nD τ).loc main_arg0) (ix3 0 (row t r) k) := by
  blk_simp [iblk, idx t]; entry_read; pointwise; blk_ext [idx t, row]

theorem read_res (c : Dev nD) (t : Fin cfg0.N) (r : Fin 256) (k : Fin 1024) :
    iblk m c 5 t (ix2 r k) = m ((c : Thread nD τ).loc main_arg4) (ix3 0 (row t r) k) := by
  blk_simp [iblk, idx t]; entry_read; pointwise; blk_ext [idx t, row]

theorem read_g (c : Dev nD) (t : Fin cfg0.N) (r : Fin 1) (k : Fin 1024) :
    iblk m c 6 t (ix2 r k) = m ((c : Thread nD τ).loc main_arg1) (ix2 r k) := by
  blk_ext [iblk, V, idx t]

theorem read_w (c : Dev nD) (t : Fin cfg0.N) (k : Fin 9472) (j : Fin 1024) :
    iblk m c 3 t (ix2 k j) = m ((c : Thread nD τ).loc main_arg2) (ix3 0 j k) := by
  blk_simp [iblk, idx t]; entry_read; pointwise; blk_ext [idx t, row]

theorem read_dz0 (c : Dev nD) (t : Fin cfg0.N) (r : Fin 256) (k : Fin 7424) :
    iblk m c 0 t (ix2 r k) = m ((c : Thread nD τ).loc main_arg3) (ix3 0 (row t r) ⟨k.val, by omega⟩) := by
  blk_simp [iblk, idx t]; entry_read; pointwise; blk_ext [idx t, row]

theorem read_dz1 (c : Dev nD) (t : Fin cfg0.N) (r : Fin 256) (k : Fin 1024) :
    iblk m c 1 t (ix2 r k) = m ((c : Thread nD τ).loc main_arg3) (ix3 0 (row t r) ⟨7424 + k.val, by omega⟩) := by
  blk_simp [iblk, idx t]; entry_read; pointwise; blk_ext [idx t, row]

theorem read_dz2 (c : Dev nD) (t : Fin cfg0.N) (r : Fin 256) (k : Fin 1024) :
    iblk m c 2 t (ix2 r k) = m ((c : Thread nD τ).loc main_arg3) (ix3 0 (row t r) ⟨8448 + k.val, by omega⟩) := by
  blk_simp [iblk, idx t]; entry_read; pointwise; blk_ext [idx t, row]

/-- The three pieces of a contraction over 9472 columns add up to the whole one. -/
theorem three_pieces (f : Fin 9472 → EReal) :
    (∑ k : Fin 7424, f ⟨k.val, by omega⟩) + (∑ k : Fin 1024, f ⟨7424 + k.val, by omega⟩)
      + (∑ k : Fin 1024, f ⟨8448 + k.val, by omega⟩) = ∑ k, f k := by
  rw [show (∑ k, f k) = ∑ k : Fin (8448 + 1024), f (Fin.cast rfl k) from rfl, Fin.sum_univ_add,
    show (∑ k : Fin 8448, f (Fin.cast rfl (Fin.castAdd 1024 k)))
      = ∑ k : Fin (7424 + 1024), f (Fin.cast rfl (Fin.castAdd 1024 (Fin.cast rfl k))) from rfl, Fin.sum_univ_add]
  rfl

/-- Index `(r, k)` of the block of point `t`, as an index of the whole result. -/
theorem place (t : Fin cfg0.N) (r : Fin 256) (k : Fin 1024) :
    ((cfg0.win 9).blk t).view.emb (ix2 r k) = ix2 (row t r) k := by
  blk_ext [idx t, row]

/-- The body's payload for the input gradient, at an index of the block, is the reference's at that row of the array. -/
theorem dx_point (c : Dev nD) (t : Fin cfg0.N) (y) :
    k0_pay1 (k0_pay4 (iblk m c 0 t) (View.ld (iblk m c 3 t) (Rect.unit ![0, 0] ![7424, 1024] inb_S9472x1024_S7424x1024_0_0))
        (iblk m c 1 t) (View.ld (iblk m c 3 t) (Rect.unit ![7424, 0] ![1024, 1024] inb_S9472x1024_S1024x1024_7424_0))
        (iblk m c 2 t) (View.ld (iblk m c 3 t) (Rect.unit ![8448, 0] ![1024, 1024] inb_S9472x1024_S1024x1024_8448_0)))
      (iblk m c 6 t) (k0_pay5 (iblk m c 4 t)) (k0_pay7 (iblk m c 4 t)) (k0_pay8 (iblk m c 4 t)) (iblk m c 5 t) y
      = refDx m c (((cfg0.win 9).blk t).view.emb y) := by
  idx_vars y
  rw [place]
  pointwise [k0_pay1, k0_pay4, k0_pay5, k0_pay6, k0_pay7, k0_pay8, refDx, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v20, val_main_v19, val_main_v18, val_main_v12, val_main_v11, val_main_v10, val_main_v9, val_main_v8, val_main_v7, val_main_v6, val_main_v5, val_main_v4, val_main_v3, val_main_v2, val_main_v1, val_main_v0, val_main_cst_0, val_main_cst, val_main_cst_1, val_main_cst_2, val_main_cst_3, val_main_cst_4, val_main_cst_5, val_main_cst_6]
  simp only [read_x, read_res, read_g, read_w, read_dz0, read_dz1, read_dz2]
  simp only [← three_pieces]
  trace_state

/-- The input gradient after the run is the reference's. -/
theorem dx_final (c : Dev nD) : (dats m 0 c).arrAt 9 (cfgs 0).N = refDx m c := by
  refine (dats m 0 c).arrAt_eq_of_covers 9 _ (by decide +kernel) fun t hf y => ?_
  blk_simp
  rw [after0_9]
  by_cases h : t.val % 8 = 0
  · rw [outsAt0_A m c t h]; frame_out; exact dx_point m c t y
  · rw [outsAt0_B m c t h]; frame_out; exact dx_point m c t y

end Cert.PreBwdIdeal.Value

end
-- ==== Proof.Pre.Dg.lean ====
module

public import proofs.«01_k».proof.Proof.Pre.Dx

@[expose] public section

set_option maxRecDepth 16384

noncomputable section

open Idealize.ShloMosaic Idealize.ShloMosaic.TcCoe Idealize.SL.Sem
open Idealize.ShloMosaic.Pipeline (Dat)

namespace Cert.PreBwdIdeal.Value

open Cert.PreBwdIdeal Cert.PreBwdIdeal.Gen Cert.PreRefIdeal.Read

variable (m : (ℓ : Loc nD τ sig) → Buf (Elt Ideal) ℓ)

/-- The reference's gradient of the norm's weights, over this program's argument arrays. -/
abbrev refDg (c : Dev nD) : FVec Ideal Cert.PreRefIdeal.S1x1024 .f32 :=
  val_main_v23 (F := Ideal) (m ((c : Thread nD τ).loc main_arg0)) (m ((c : Thread nD τ).loc main_arg2))
    (m ((c : Thread nD τ).loc main_arg3))

/-- A point adds its block's column sums to what the accumulator held. -/
theorem dg_step (v16 v32 : FVec Ideal S256x1024 .f32) (v59 : Vec Ideal S1x1024 .f32) (j : S1x1024.Idx) :
    k0_pay3 v16 v32 v59 j = v59 j + k0_pay3 v16 v32 (fun _ => 0) j := by
  pointwise [k0_pay3]

theorem dg_zero (j : S1x1024.Idx) : k0_pay2 (F := Ideal) j = 0 := by
  pointwise! [k0_pay2]

/-- The gradient of the norm's weights after the run is the reference's. -/
theorem dg_final (c : Dev nD) : (dats m 0 c).arrAt 8 (cfgs 0).N = refDg m c := by
  refine (dats m 0 c).arrAt_eq_of_after_last 8 t0_7 (by decide +kernel) _ fun j => ?_
  blk_simp
  rw [after0_8, Pipeline.eq_sum_fin_of_reset_step_apply_last (fun n h => (outsAt0 m c n h).1) 8 (fun _ => 0) _
    (fun t h j => by rw [outsAt0_A m c t h]; frame_out; rw [dg_step, dg_zero])
    (fun t h j => by rw [outsAt0_B m c t h]; frame_out; rw [dg_step])
    (le_of_eq N_0) t0_7 rfl j, zero_add]
  idx_vars j
  pointwise [k0_pay3, k0_pay4, k0_pay5, k0_pay6, k0_pay7, k0_pay9, refDg, val_main_v23, val_main_v22, val_main_v21, val_main_v14, val_main_v13, val_main_v20,  val_main_v18, val_main_v9, val_main_v8, val_main_v7, val_main_v6, val_main_v5, val_main_v4, val_main_v3, val_main_v2, val_main_v1, val_main_v0, val_main_cst_0, val_main_cst, val_main_cst_1, val_main_cst_3]
  simp only [read_x, read_res, read_g, read_w, read_dz0, read_dz1, read_dz2]
  simp only [← three_pieces]
  exact Fin.sum_mul_add_congr fun s k hl => rfl

end Cert.PreBwdIdeal.Value

end
-- ==== Proof.Pre.Claims.lean ====
module

public import proofs.«01_k».proof.Defs
public import proofs.«01_k».proof.Proof.Gen.PreBwd.Frame
public import proofs.«01_k».proof.Proof.Pre.Dg

@[expose] public section

noncomputable section

namespace Cert.Proof

open Idealize.ShloMosaic Idealize.SL.Sem

open Cert

/-- The kernel runs to its end and leaves its arguments. -/
theorem pre_frame : Cert.quiescent_PreBwd := fun m ρ _ => Cert.PreBwd.Gen.frame m ρ

/-- So does the idealized kernel. -/
theorem pre_frame_ideal : Cert.quiescent_PreBwdIdeal := fun m ρ _ => Cert.PreBwdIdeal.Gen.frame m ρ

/-- The reference runs to its end and leaves its arguments. -/
theorem pre_frame_ref : Cert.quiescent_PreRefIdeal := by
  intro m ρ _
  exact (θ_run _ _ _).mono (fun r h => ⟨fun c => (h c).2.2, sem_eq_zero_of_no_sems (by decide) r.2⟩)
    (Cert.PreRefIdeal.Value.run m ρ)

set_option maxHeartbeats 1600000 in
/-- Both gradients of the call agree with the reference's, from every memory. -/
theorem pre_value : Cert.algebraic_PreBwdIdeal_PreRefIdeal := by
  pair_intro
  · run_from Cert.PreBwdIdeal.Value.run_blocks m g
  · run_from Cert.PreRefIdeal.Value.run m' g'
    · exact (PreRefIdeal.Read.val_main_v23_eq ..).trans (PreBwdIdeal.Value.dg_final m c).symm
    · obtain ⟨h0, h1, h2, h3, h4⟩ := hagree c
      rw [PreRefIdeal.Read.val_main_v40_eq, h0, h1, h2, h3, h4]
      exact (PreBwdIdeal.Value.dx_final m c).symm

end Cert.Proof

end
-- ==== Proof.Post.Base.lean ====
module

public import proofs.«01_k».proof.Proof.Gen.PostBwdIdeal.Value
public import proofs.«01_k».proof.Proof.Gen.PostRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PostBwdIdeal.Value

open Cert.PostBwdIdeal Cert.PostBwdIdeal.Gen Cert.PostRefIdeal.Read

variable (m : (ℓ : Loc nD τ sig) → Buf (Elt Ideal) ℓ)

/-- The index maps of the windows: the row windows move with the grid point, the others stay. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] :=
  (by decide +kernel : ∀ t : Fin grid0.N, _)

/-- Row `r` of the block of point `t`, as a row of the whole array. -/
def row (t : Fin cfg0.N) (r : Fin 512) : Fin 2048 := ⟨t.val * 512 + r.val, by have := t.isLt; have : cfg0.N = 4 := N_0; omega⟩

theorem read_x (c : Dev nD) (t : Fin cfg0.N) (r : Fin 512) (k : Fin 1024) :
    iblk m c 3 t (ix2 r k) = m ((c : Thread nD τ).loc main_arg0) (ix3 0 (row t r) k) := by
  blk_simp [iblk, idx t]; entry_read; pointwise; blk_ext [idx t, row]

theorem read_mix (c : Dev nD) (t : Fin cfg0.N) (r : Fin 512) (k : Fin 1024) :
    iblk m c 4 t (ix2 r k) = m ((c : Thread nD τ).loc main_arg1) (ix3 0 (row t r) k) := by
  blk_simp [iblk, idx t]; entry_read; pointwise; blk_ext [idx t, row]

theorem read_dh (c : Dev nD) (t : Fin cfg0.N) (r : Fin 512) (k : Fin 1024) :
    iblk m c 5 t (ix2 r k) = m ((c : Thread nD τ).loc main_arg5) (ix3 0 (row t r) k) := by
  blk_simp [iblk, idx t]; entry_read; pointwise; blk_ext [idx t, row]

theorem read_g1 (c : Dev nD) (t : Fin cfg0.N) (r : Fin 1) (k : Fin 1024) :
    iblk m c 6 t (ix2 r k) = m ((c : Thread nD τ).loc main_arg2) (ix2 r k) := by
  blk_ext [iblk, V, idx t]

theorem read_g2 (c : Dev nD) (t : Fin cfg0.N) (r : Fin 1) (k : Fin 1024) :
    iblk m c 7 t (ix2 r k) = m ((c : Thread nD τ).loc main_arg3) (ix2 r k) := by
  blk_ext [iblk, V, idx t]

theorem read_w (c : Dev nD) (t : Fin cfg0.N) (k : Fin 5632) (j : Fin 1024) :
    iblk m c 2 t (ix2 k j) = m ((c : Thread nD τ).loc main_arg4) (ix3 0 j k) := by
  blk_simp [iblk, idx t]; entry_read; pointwise; blk_ext [idx t, row]

theorem read_dhu0 (c : Dev nD) (t : Fin cfg0.N) (r : Fin 512) (k : Fin 2816) :
    iblk m c 0 t (ix2 r k) = m ((c : Thread nD τ).loc main_arg6) (ix3 0 (row t r) ⟨k.val, by omega⟩) := by
  blk_simp [iblk, idx t]; entry_read; pointwise; blk_ext [idx t, row]

theorem read_dhu1 (c : Dev nD) (t : Fin cfg0.N) (r : Fin 512) (k : Fin 2816) :
    iblk m c 1 t (ix2 r k) = m ((c : Thread nD τ).loc main_arg6) (ix3 0 (row t r) ⟨2816 + k.val, by omega⟩) := by
  blk_simp [iblk, idx t]; entry_read; pointwise; blk_ext [idx t, row]

/-- The two halves of a contraction over 5632 columns add up to the whole one. -/
theorem two_pieces (f : Fin 5632 → EReal) :
    (∑ k : Fin 2816, f ⟨k.val, by omega⟩) + (∑ k : Fin 2816, f ⟨2816 + k.val, by omega⟩) = ∑ k, f k := by
  rw [show (∑ k, f k) = ∑ k : Fin (2816 + 2816), f (Fin.cast rfl k) from rfl, Fin.sum_univ_add]
  rfl

/-- Index `(r, k)` of the block of point `t`, as an index of the whole result. -/
theorem place_dx (t : Fin cfg0.N) (r : Fin 512) (k : Fin 1024) :
    ((cfg0.win 10).blk t).view.emb (ix2 r k) = ix2 (row t r) k := by
  blk_ext [idx t, row]

theorem place_dmix (t : Fin cfg0.N) (r : Fin 512) (k : Fin 1024) :
    ((cfg0.win 11).blk t).view.emb (ix2 r k) = ix2 (row t r) k := by
  blk_ext [idx t, row]

abbrev refDg1 (c : Dev nD) : FVec Ideal Cert.PostRefIdeal.S1x1024 .f32 :=
  val_main_v60 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

abbrev refDg2 (c : Dev nD) : FVec Ideal Cert.PostRefIdeal.S1x1024 .f32 :=
  val_main_v40 (F := Ideal) (m ((c : Thread nD τ).loc main_arg0)) (m ((c : Thread nD τ).loc main_arg1))
    (m ((c : Thread nD τ).loc main_arg2)) (m ((c : Thread nD τ).loc main_arg4))
    (m ((c : Thread nD τ).loc main_arg6))

abbrev refDx (c : Dev nD) : FVec Ideal Cert.PostRefIdeal.S2048x1024 .f32 :=
  val_main_v57 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

abbrev refDmix (c : Dev nD) : FVec Ideal Cert.PostRefIdeal.S2048x1024 .bf16 :=
  val_main_v77 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

end Cert.PostBwdIdeal.Value

end
-- ==== Proof.Post.Dg1.lean ====
module

public import proofs.«01_k».proof.Proof.Post.Base

@[expose] public section

set_option maxRecDepth 16384

noncomputable section

open Idealize.ShloMosaic Idealize.ShloMosaic.TcCoe Idealize.SL.Sem
open Idealize.ShloMosaic.Pipeline (Dat)

namespace Cert.PostBwdIdeal.Value

open Cert.PostBwdIdeal Cert.PostBwdIdeal.Gen Cert.PostRefIdeal.Read

variable (m : (ℓ : Loc nD τ sig) → Buf (Elt Ideal) ℓ)

/-- A point adds its block's column sums to what the accumulator held. -/
theorem dg1_step (p : FVec Ideal S1x1024 .f32) (v : Vec Ideal S1x1024 .f32) (j : S1x1024.Idx) :
    k0_pay3 p v j = v j + p j := by
  pointwise [k0_pay3]

theorem dg1_zero (j : S1x1024.Idx) : k0_pay1 (F := Ideal) j = 0 := by
  pointwise! [k0_pay1]

/-- The gradient of the first norm's weights after the run is the reference's. -/
theorem dg1_final (c : Dev nD) : (dats m 0 c).arrAt 8 (cfgs 0).N = refDg1 m c := by
  refine (dats m 0 c).arrAt_eq_of_after_last 8 t0_3 (by decide +kernel) _ fun j => ?_
  blk_simp
  rw [after0_8, Pipeline.eq_sum_fin_of_reset_step_apply_last (fun n h => (outsAt0 m c n h).1) 4 (fun _ => 0) _
    (fun t h j => by rw [outsAt0_A m c t h]; frame_out; rw [dg1_step, dg1_zero])
    (fun t h j => by rw [outsAt0_B m c t h]; frame_out; rw [dg1_step])
    (le_of_eq N_0) t0_3 rfl j, zero_add]
  idx_vars j
  pointwise [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, refDg1, refDg2, refDx, refDmix, val_main_v0, val_main_v1,
    val_main_v2, val_main_v3, val_main_cst, val_main_v4, val_main_v5, val_main_cst_0, val_main_v6, val_main_v7, val_main_cst_1,
    val_main_v8, val_main_v9, val_main_v10, val_main_v11, val_main_cst_2, val_main_v12, val_main_v13, val_main_v14, val_main_v15,
    val_main_v16, val_main_v17, val_main_v18, val_main_v19, val_main_cst_3, val_main_v20, val_main_v21, val_main_cst_4, val_main_v22,
    val_main_v23, val_main_cst_5, val_main_v24, val_main_v25, val_main_v26, val_main_v27, val_main_cst_6, val_main_v28, val_main_v29,
    val_main_v30, val_main_v31, val_main_v32, val_main_v33, val_main_v34, val_main_v35, val_main_v36, val_main_v37, val_main_v38,
    val_main_cst_7, val_main_v39, val_main_v40, val_main_v41, val_main_v42, val_main_v43, val_main_cst_8, val_main_v44, val_main_v45,
    val_main_v46, val_main_v47, val_main_v48, val_main_v49, val_main_cst_9, val_main_v50, val_main_v51, val_main_cst_10, val_main_v52,
    val_main_v53, val_main_v54, val_main_v55, val_main_v56, val_main_v57, val_main_v58, val_main_cst_11, val_main_v59, val_main_v60,
    val_main_v61, val_main_v62, val_main_v63, val_main_cst_12, val_main_v64, val_main_v65, val_main_v66, val_main_v67, val_main_v68,
    val_main_cst_13, val_main_v69, val_main_v70, val_main_cst_14, val_main_v71, val_main_v72, val_main_v73, val_main_v74, val_main_v75,
    val_main_v76, val_main_v77]
  simp only [read_x, read_mix, read_dh, read_g1, read_g2, read_w, read_dhu0, read_dhu1]
  simp only [← two_pieces]
  exact Fin.sum_mul_add_congr fun s k hl => rfl

end Cert.PostBwdIdeal.Value

end
-- ==== Proof.Post.Dg2.lean ====
module

public import proofs.«01_k».proof.Proof.Post.Base

@[expose] public section

set_option maxRecDepth 16384

noncomputable section

open Idealize.ShloMosaic Idealize.ShloMosaic.TcCoe Idealize.SL.Sem
open Idealize.ShloMosaic.Pipeline (Dat)

namespace Cert.PostBwdIdeal.Value

open Cert.PostBwdIdeal Cert.PostBwdIdeal.Gen Cert.PostRefIdeal.Read

variable (m : (ℓ : Loc nD τ sig) → Buf (Elt Ideal) ℓ)

/-- A point adds its block's column sums to what the accumulator held. -/
theorem dg2_step (p : FVec Ideal S1x1024 .f32) (v : Vec Ideal S1x1024 .f32) (j : S1x1024.Idx) :
    k0_pay4 p v j = v j + p j := by
  pointwise [k0_pay4]

theorem dg2_zero (j : S1x1024.Idx) : k0_pay2 (F := Ideal) j = 0 := by
  pointwise! [k0_pay2]

/-- The gradient of the second norm's weights after the run is the reference's. -/
theorem dg2_final (c : Dev nD) : (dats m 0 c).arrAt 9 (cfgs 0).N = refDg2 m c := by
  refine (dats m 0 c).arrAt_eq_of_after_last 9 t0_3 (by decide +kernel) _ fun j => ?_
  blk_simp
  rw [after0_9, Pipeline.eq_sum_fin_of_reset_step_apply_last (fun n h => (outsAt0 m c n h).2.1) 4 (fun _ => 0) _
    (fun t h j => by rw [outsAt0_A m c t h]; frame_out; rw [dg2_step, dg2_zero])
    (fun t h j => by rw [outsAt0_B m c t h]; frame_out; rw [dg2_step])
    (le_of_eq N_0) t0_3 rfl j, zero_add]
  idx_vars j
  pointwise [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, refDg1, refDg2, refDx, refDmix, val_main_v0, val_main_v1,
    val_main_v2, val_main_v3, val_main_cst, val_main_v4, val_main_v5, val_main_cst_0, val_main_v6, val_main_v7, val_main_cst_1,
    val_main_v8, val_main_v9, val_main_v10, val_main_v11, val_main_cst_2, val_main_v12, val_main_v13, val_main_v14, val_main_v15,
    val_main_v16, val_main_v17, val_main_v18, val_main_v19, val_main_cst_3, val_main_v20, val_main_v21, val_main_cst_4, val_main_v22,
    val_main_v23, val_main_cst_5, val_main_v24, val_main_v25, val_main_v26, val_main_v27, val_main_cst_6, val_main_v28, val_main_v29,
    val_main_v30, val_main_v31, val_main_v32, val_main_v33, val_main_v34, val_main_v35, val_main_v36, val_main_v37, val_main_v38,
    val_main_cst_7, val_main_v39, val_main_v40, val_main_v41, val_main_v42, val_main_v43, val_main_cst_8, val_main_v44, val_main_v45,
    val_main_v46, val_main_v47, val_main_v48, val_main_v49, val_main_cst_9, val_main_v50, val_main_v51, val_main_cst_10, val_main_v52,
    val_main_v53, val_main_v54, val_main_v55, val_main_v56, val_main_v57, val_main_v58, val_main_cst_11, val_main_v59, val_main_v60,
    val_main_v61, val_main_v62, val_main_v63, val_main_cst_12, val_main_v64, val_main_v65, val_main_v66, val_main_v67, val_main_v68,
    val_main_cst_13, val_main_v69, val_main_v70, val_main_cst_14, val_main_v71, val_main_v72, val_main_v73, val_main_v74, val_main_v75,
    val_main_v76, val_main_v77]
  simp only [read_x, read_mix, read_dh, read_g1, read_g2, read_w, read_dhu0, read_dhu1]
  simp only [← two_pieces]
  exact Fin.sum_mul_add_congr fun s k hl => rfl

end Cert.PostBwdIdeal.Value

end
-- ==== Proof.Post.Dx.lean ====
module

public import proofs.«01_k».proof.Proof.Post.Base

@[expose] public section

set_option maxRecDepth 16384

noncomputable section

open Idealize.ShloMosaic Idealize.ShloMosaic.TcCoe Idealize.SL.Sem
open Idealize.ShloMosaic.Pipeline (Dat)

namespace Cert.PostBwdIdeal.Value

open Cert.PostBwdIdeal Cert.PostBwdIdeal.Gen Cert.PostRefIdeal.Read

variable (m : (ℓ : Loc nD τ sig) → Buf (Elt Ideal) ℓ)

/-- What a point stores for the gradient of the residual input is the reference's, at that row of the array. -/
theorem dx_point (c : Dev nD) (t : Fin cfg0.N) (y) :
    k0_pay17
        (k0_pay6 (iblk m c 0 t) (View.ld (iblk m c 2 t) (Rect.unit ![0, 0] ![2816, 1024] inb_S5632x1024_S2816x1024_0_0))
          (iblk m c 1 t) (View.ld (iblk m c 2 t) (Rect.unit ![2816, 0] ![2816, 1024] inb_S5632x1024_S2816x1024_2816_0)))
        (iblk m c 7 t) (k0_pay12 (iblk m c 6 t) (iblk m c 3 t) (iblk m c 4 t))
        (k0_pay13 (iblk m c 6 t) (iblk m c 3 t) (iblk m c 4 t)) (iblk m c 5 t) y
      = refDx m c (((cfg0.win 10).blk t).view.emb y) := by
  idx_vars y
  rw [place_dx]
  pointwise [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, refDg1, refDg2, refDx, refDmix, val_main_v0, val_main_v1,
    val_main_v2, val_main_v3, val_main_cst, val_main_v4, val_main_v5, val_main_cst_0, val_main_v6, val_main_v7, val_main_cst_1,
    val_main_v8, val_main_v9, val_main_v10, val_main_v11, val_main_cst_2, val_main_v12, val_main_v13, val_main_v14, val_main_v15,
    val_main_v16, val_main_v17, val_main_v18, val_main_v19, val_main_cst_3, val_main_v20, val_main_v21, val_main_cst_4, val_main_v22,
    val_main_v23, val_main_cst_5, val_main_v24, val_main_v25, val_main_v26, val_main_v27, val_main_cst_6, val_main_v28, val_main_v29,
    val_main_v30, val_main_v31, val_main_v32, val_main_v33, val_main_v34, val_main_v35, val_main_v36, val_main_v37, val_main_v38,
    val_main_cst_7, val_main_v39, val_main_v40, val_main_v41, val_main_v42, val_main_v43, val_main_cst_8, val_main_v44, val_main_v45,
    val_main_v46, val_main_v47, val_main_v48, val_main_v49, val_main_cst_9, val_main_v50, val_main_v51, val_main_cst_10, val_main_v52,
    val_main_v53, val_main_v54, val_main_v55, val_main_v56, val_main_v57, val_main_v58, val_main_cst_11, val_main_v59, val_main_v60,
    val_main_v61, val_main_v62, val_main_v63, val_main_cst_12, val_main_v64, val_main_v65, val_main_v66, val_main_v67, val_main_v68,
    val_main_cst_13, val_main_v69, val_main_v70, val_main_cst_14, val_main_v71, val_main_v72, val_main_v73, val_main_v74, val_main_v75,
    val_main_v76, val_main_v77]
  simp only [read_x, read_mix, read_dh, read_g1, read_g2, read_w, read_dhu0, read_dhu1]
  simp only [← two_pieces]

/-- The gradient of the residual input after the run is the reference's. -/
theorem dx_final (c : Dev nD) : (dats m 0 c).arrAt 10 (cfgs 0).N = refDx m c := by
  refine (dats m 0 c).arrAt_eq_of_covers 10 _ (by decide +kernel) fun t hf y => ?_
  blk_simp
  rw [after0_10]
  by_cases h : t.val % 4 = 0
  · rw [outsAt0_A m c t h]; frame_out; exact dx_point m c t y
  · rw [outsAt0_B m c t h]; frame_out; exact dx_point m c t y

end Cert.PostBwdIdeal.Value

end
-- ==== Proof.Post.Dmix.lean ====
module

public import proofs.«01_k».proof.Proof.Post.Base

@[expose] public section

set_option maxRecDepth 16384

noncomputable section

open Idealize.ShloMosaic Idealize.ShloMosaic.TcCoe Idealize.SL.Sem
open Idealize.ShloMosaic.Pipeline (Dat)

namespace Cert.PostBwdIdeal.Value

open Cert.PostBwdIdeal Cert.PostBwdIdeal.Gen Cert.PostRefIdeal.Read

variable (m : (ℓ : Loc nD τ sig) → Buf (Elt Ideal) ℓ)

/-- What a point stores for the gradient of the mixed value is the reference's, at that row of the array. -/
theorem dmix_point (c : Dev nD) (t : Fin cfg0.N) (y) :
    k0_pay5 (k0_pay7 (iblk m c 4 t))
        (k0_pay20 (k0_pay6 (iblk m c 0 t) (View.ld (iblk m c 2 t) (Rect.unit ![0, 0] ![2816, 1024] inb_S5632x1024_S2816x1024_0_0))
          (iblk m c 1 t) (View.ld (iblk m c 2 t) (Rect.unit ![2816, 0] ![2816, 1024] inb_S5632x1024_S2816x1024_2816_0)))
          (iblk m c 6 t) (iblk m c 7 t) (k0_pay9 (iblk m c 4 t)) (k0_pay12 (iblk m c 6 t) (iblk m c 3 t) (iblk m c 4 t))
          (k0_pay13 (iblk m c 6 t) (iblk m c 3 t) (iblk m c 4 t)) (iblk m c 5 t))
        (k0_pay21 (k0_pay6 (iblk m c 0 t) (View.ld (iblk m c 2 t) (Rect.unit ![0, 0] ![2816, 1024] inb_S5632x1024_S2816x1024_0_0))
          (iblk m c 1 t) (View.ld (iblk m c 2 t) (Rect.unit ![2816, 0] ![2816, 1024] inb_S5632x1024_S2816x1024_2816_0)))
          (iblk m c 6 t) (iblk m c 7 t) (k0_pay7 (iblk m c 4 t)) (k0_pay10 (iblk m c 4 t))
          (k0_pay12 (iblk m c 6 t) (iblk m c 3 t) (iblk m c 4 t)) (k0_pay13 (iblk m c 6 t) (iblk m c 3 t) (iblk m c 4 t))
          (iblk m c 5 t)) y
      = refDmix m c (((cfg0.win 11).blk t).view.emb y) := by
  idx_vars y
  rw [place_dmix]
  pointwise [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, refDg1, refDg2, refDx, refDmix, val_main_v0, val_main_v1,
    val_main_v2, val_main_v3, val_main_cst, val_main_v4, val_main_v5, val_main_cst_0, val_main_v6, val_main_v7, val_main_cst_1,
    val_main_v8, val_main_v9, val_main_v10, val_main_v11, val_main_cst_2, val_main_v12, val_main_v13, val_main_v14, val_main_v15,
    val_main_v16, val_main_v17, val_main_v18, val_main_v19, val_main_cst_3, val_main_v20, val_main_v21, val_main_cst_4, val_main_v22,
    val_main_v23, val_main_cst_5, val_main_v24, val_main_v25, val_main_v26, val_main_v27, val_main_cst_6, val_main_v28, val_main_v29,
    val_main_v30, val_main_v31, val_main_v32, val_main_v33, val_main_v34, val_main_v35, val_main_v36, val_main_v37, val_main_v38,
    val_main_cst_7, val_main_v39, val_main_v40, val_main_v41, val_main_v42, val_main_v43, val_main_cst_8, val_main_v44, val_main_v45,
    val_main_v46, val_main_v47, val_main_v48, val_main_v49, val_main_cst_9, val_main_v50, val_main_v51, val_main_cst_10, val_main_v52,
    val_main_v53, val_main_v54, val_main_v55, val_main_v56, val_main_v57, val_main_v58, val_main_cst_11, val_main_v59, val_main_v60,
    val_main_v61, val_main_v62, val_main_v63, val_main_cst_12, val_main_v64, val_main_v65, val_main_v66, val_main_v67, val_main_v68,
    val_main_cst_13, val_main_v69, val_main_v70, val_main_cst_14, val_main_v71, val_main_v72, val_main_v73, val_main_v74, val_main_v75,
    val_main_v76, val_main_v77]
  simp only [read_x, read_mix, read_dh, read_g1, read_g2, read_w, read_dhu0, read_dhu1]
  simp only [← two_pieces]

/-- The gradient of the mixed value after the run is the reference's. -/
theorem dmix_final (c : Dev nD) : (dats m 0 c).arrAt 11 (cfgs 0).N = refDmix m c := by
  refine (dats m 0 c).arrAt_eq_of_covers 11 _ (by decide +kernel) fun t hf y => ?_
  blk_simp
  rw [after0_11]
  by_cases h : t.val % 4 = 0
  · rw [outsAt0_A m c t h]; frame_out; exact dmix_point m c t y
  · rw [outsAt0_B m c t h]; frame_out; exact dmix_point m c t y

end Cert.PostBwdIdeal.Value

end
-- ==== Proof.Post.Claims.lean ====
module

public import proofs.«01_k».proof.Defs
public import proofs.«01_k».proof.Proof.Gen.PostBwd.Frame
public import proofs.«01_k».proof.Proof.Post.Dg1
public import proofs.«01_k».proof.Proof.Post.Dg2
public import proofs.«01_k».proof.Proof.Post.Dx
public import proofs.«01_k».proof.Proof.Post.Dmix

@[expose] public section

noncomputable section

namespace Cert.Proof

open Idealize.ShloMosaic Idealize.SL.Sem

open Cert

/-- The kernel runs to its end and leaves its arguments. -/
theorem post_frame : Cert.quiescent_PostBwd := fun m ρ _ => Cert.PostBwd.Gen.frame m ρ

/-- So does the idealized kernel. -/
theorem post_frame_ideal : Cert.quiescent_PostBwdIdeal := fun m ρ _ => Cert.PostBwdIdeal.Gen.frame m ρ

/-- The reference runs to its end and leaves its arguments. -/
theorem post_frame_ref : Cert.quiescent_PostRefIdeal := by
  intro m ρ _
  exact (θ_run _ _ _).mono (fun r h => ⟨fun c => (h c).2.2.2.2, sem_eq_zero_of_no_sems (by decide) r.2⟩)
    (Cert.PostRefIdeal.Value.run m ρ)

set_option maxHeartbeats 1600000 in
/-- The four gradients of the call agree with the reference's, from every memory. -/
theorem post_value : Cert.algebraic_PostBwdIdeal_PostRefIdeal := by
  pair_intro
  · run_from Cert.PostBwdIdeal.Value.run_blocks m g
  · run_from Cert.PostRefIdeal.Value.run m' g'
    all_goals obtain ⟨h0, h1, h2, h3, h4, h5, h6⟩ := hagree c
    · rw [PostRefIdeal.Read.val_main_v60_eq, h0, h1, h2, h3, h4, h5, h6]
      exact (PostBwdIdeal.Value.dg1_final m c).symm
    · exact (PostRefIdeal.Read.val_main_v40_eq ..).trans (PostBwdIdeal.Value.dg2_final m c).symm
    · rw [PostRefIdeal.Read.val_main_v57_eq, h0, h1, h2, h3, h4, h5, h6]
      exact (PostBwdIdeal.Value.dx_final m c).symm
    · rw [PostRefIdeal.Read.val_main_v77_eq, h0, h1, h2, h3, h4, h5, h6]
      exact (PostBwdIdeal.Value.dmix_final m c).symm

end Cert.Proof

end
-- ==== Proof.Loss.Base.lean ====
module

public import proofs.«01_k».proof.Proof.Gen.LossBwdIdeal.Value
public import proofs.«01_k».proof.Proof.Gen.LossRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LossBwdIdeal.Value

open Cert.LossBwdIdeal Cert.LossBwdIdeal.Gen Cert.LossRefIdeal.Read

variable (m : (ℓ : Loc nD τ sig) → Buf (Elt Ideal) ℓ)

/-- The index maps of the windows: the row windows move with the grid point, the others stay. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] :=
  (by decide +kernel : ∀ t : Fin grid0.N, _)

/-- Row `r` of the block of point `t`, as a row of the whole array. -/
def row (t : Fin cfg0.N) (r : Fin 512) : Fin 2048 := ⟨t.val * 512 + r.val, by have := t.isLt; have : cfg0.N = 4 := N_0; omega⟩

theorem read_act (c : Dev nD) (t : Fin cfg0.N) (r : Fin 512) (k : Fin 2816) :
    iblk m c 0 t (ix2 r k) = m ((c : Thread nD τ).loc main_arg0) (ix3 0 (row t r) k) := by
  blk_simp [iblk, idx t]; entry_read; pointwise; blk_ext [idx t, row]

theorem read_w (c : Dev nD) (t : Fin cfg0.N) (k : Fin 2816) (j : Fin 1024) :
    iblk m c 1 t (ix2 k j) = m ((c : Thread nD τ).loc main_arg1) (ix3 0 k j) := by
  blk_simp [iblk, idx t]; entry_read; pointwise; blk_ext [idx t, row]

theorem read_g (c : Dev nD) (t : Fin cfg0.N) (r : Fin 1) (k : Fin 1024) :
    iblk m c 2 t (ix2 r k) = m ((c : Thread nD τ).loc main_arg2) (ix2 r k) := by
  blk_ext [iblk, V, idx t]

theorem read_h (c : Dev nD) (t : Fin cfg0.N) (r : Fin 512) (k : Fin 1024) :
    iblk m c 3 t (ix2 r k) = m ((c : Thread nD τ).loc main_arg3) (ix3 0 (row t r) k) := by
  blk_simp [iblk, idx t]; entry_read; pointwise; blk_ext [idx t, row]

theorem read_target (c : Dev nD) (t : Fin cfg0.N) (r : Fin 512) (k : Fin 1024) :
    iblk m c 4 t (ix2 r k) = m ((c : Thread nD τ).loc main_arg4) (ix3 0 (row t r) k) := by
  blk_simp [iblk, idx t]; entry_read; pointwise; blk_ext [idx t, row]

/-- Index `(r, k)` of the block of point `t`, as an index of the whole result. -/
theorem place_dh (t : Fin cfg0.N) (r : Fin 512) (k : Fin 1024) :
    ((cfg0.win 7).blk t).view.emb (ix2 r k) = ix2 (row t r) k := by
  blk_ext [idx t, row]

theorem place_dff (t : Fin cfg0.N) (r : Fin 512) (k : Fin 1024) :
    ((cfg0.win 8).blk t).view.emb (ix2 r k) = ix2 (row t r) k := by
  blk_ext [idx t, row]

/-- The derivative of a product of a value with itself: the scale times the value, twice, is the scale times the double. -/
theorem double (a c : EReal) : a * c + c * a = c * (2 * a) := by
  rw [mul_comm a c, mul_left_comm, show (2 : EReal) = 1 + 1 from one_add_one_eq_two.symm,
    EReal.right_distrib_of_nonneg zero_le_one zero_le_one, one_mul]
/-- The bits of two are two. -/
theorem bits_two : Ideal.ofBits .f32 0x40000000#32 = 2 := by
  rw [show (2 : EReal) = ((2 : ℝ) : EReal) by norm_cast]
  simp [Ideal.ofBits, Ideal.ieee, -EReal.coe_mul]; norm_num

/-- The bits of a half are a half. -/
theorem bits_half : Ideal.ofBits .f32 0x3F000000#32 = ((1/2 : ℝ) : EReal) := by
  simp [Ideal.ofBits, Ideal.ieee, -EReal.coe_mul]; norm_num

/-- A half passes through a sum. -/
theorem half_sum {ι : Type} (s : Finset ι) (f : ι → EReal) :
    (∑ i ∈ s, ((1/2 : ℝ) : EReal) * f i) = ((1/2 : ℝ) : EReal) * ∑ i ∈ s, f i := by
  classical
  induction s using Finset.induction_on with
  | empty => simp
  | insert a s ha ih =>
    rw [Finset.sum_insert ha, Finset.sum_insert ha, ih,
      EReal.left_distrib_of_nonneg_of_ne_top (by norm_num) (EReal.coe_ne_top _)]

/-- The reference's loss, over this program's argument arrays. -/
abbrev refLoss (c : Dev nD) : FVec Ideal Cert.LossRefIdeal.S1x128 .f32 :=
  val_main_v55 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's gradient of the norm's weights, over this program's argument arrays. -/
abbrev refDg (c : Dev nD) : FVec Ideal Cert.LossRefIdeal.S1x1024 .f32 :=
  val_main_v38 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's gradient of the residual, over this program's argument arrays. -/
abbrev refDh (c : Dev nD) : FVec Ideal Cert.LossRefIdeal.S2048x1024 .f32 :=
  val_main_v35 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's gradient of the feed-forward output, over this program's argument arrays. -/
abbrev refDff (c : Dev nD) : FVec Ideal Cert.LossRefIdeal.S2048x1024 .bf16 :=
  val_main_v56 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

end Cert.LossBwdIdeal.Value

end
-- ==== Proof.Loss.Loss.lean ====
module

public import proofs.«01_k».proof.Proof.Loss.Base

@[expose] public section

set_option maxRecDepth 16384

noncomputable section

open Idealize.ShloMosaic Idealize.ShloMosaic.TcCoe Idealize.SL.Sem
open Idealize.ShloMosaic.Pipeline (Dat)

namespace Cert.LossBwdIdeal.Value

open Cert.LossBwdIdeal Cert.LossBwdIdeal.Gen Cert.LossRefIdeal.Read

variable (m : (ℓ : Loc nD τ sig) → Buf (Elt Ideal) ℓ)

/-- A point adds its block's part of the loss to every lane of what the accumulator held. -/
theorem loss_step (p : Ideal .f32) (v : Vec Ideal S1x128 .f32) (j : S1x128.Idx) :
    k0_pay14 p v j = v j + (fun _ : S1x128.Idx => p) j := by
  pointwise [k0_pay14]

theorem loss_zero (j : S1x128.Idx) : k0_pay12 (F := Ideal) j = 0 := by
  pointwise! [k0_pay12]

/-- The loss after the run is the reference's. -/
theorem loss_final (c : Dev nD) : (dats m 0 c).arrAt 5 (cfgs 0).N = refLoss m c := by
  refine (dats m 0 c).arrAt_eq_of_after_last 5 t0_3 (by decide +kernel) _ fun j => ?_
  blk_simp
  rw [after0_5, Pipeline.eq_sum_fin_of_reset_step_apply_last (fun n h => (outsAt0 m c n h).1) 4 (fun _ => 0) _
    (fun t h j => by rw [outsAt0_A m c t h]; frame_out; rw [loss_step, loss_zero])
    (fun t h j => by rw [outsAt0_B m c t h]; frame_out; rw [loss_step])
    (le_of_eq N_0) t0_3 rfl j, zero_add]
  idx_vars j
  pointwise [
    k0_pay1, k0_pay2, k0_pay3, k0_pay4, k0_pay5, k0_pay6, k0_pay7, k0_pay8, k0_pay9, k0_pay10, k0_pay11, k0_pay12, k0_pay13, k0_pay14,
    k0_pay15, refLoss, refDg, refDh, refDff, val_main_v0, val_main_v1, val_main_v2, val_main_v3, val_main_v4, val_main_v5, val_main_cst,
    val_main_v6, val_main_v7, val_main_cst_0, val_main_v8, val_main_v9, val_main_cst_1, val_main_v10, val_main_v11, val_main_v12,
    val_main_v13, val_main_cst_2, val_main_v14, val_main_v15, val_main_v16, val_main_v17, val_main_v18, val_main_v19, val_main_v20,
    val_main_v21, val_main_v22, val_main_cst_3, val_main_v23, val_main_v24, val_main_cst_4, val_main_v25, val_main_cst_5, val_main_v26,
    val_main_v27, val_main_cst_6, val_main_v28, val_main_cst_7, val_main_v29, val_main_cst_8, val_main_cst_9, val_main_v30, val_main_v31,
    val_main_cst_10, val_main_v32, val_main_v33, val_main_v34, val_main_v35, val_main_v36, val_main_cst_11, val_main_v37, val_main_v38,
    val_main_v39, val_main_v40, val_main_v41, val_main_cst_12, val_main_v42, val_main_v43, val_main_v44, val_main_v45, val_main_v46,
    val_main_cst_13, val_main_v47, val_main_v48, val_main_cst_14, val_main_v49, val_main_v50, val_main_v51, val_main_v52, val_main_v53,
    val_main_v54, val_main_v55, val_main_v56]
  simp only [read_act, read_w, read_g, read_h, read_target]
  simp only [bits_half, half_sum]
  exact congrArg _ (Fin.sum_mul_add_congr fun s k hl => rfl)

end Cert.LossBwdIdeal.Value

end
-- ==== Proof.Loss.Dg.lean ====
module

public import proofs.«01_k».proof.Proof.Loss.Base

@[expose] public section

set_option maxRecDepth 16384

noncomputable section

open Idealize.ShloMosaic Idealize.ShloMosaic.TcCoe Idealize.SL.Sem
open Idealize.ShloMosaic.Pipeline (Dat)

namespace Cert.LossBwdIdeal.Value

open Cert.LossBwdIdeal Cert.LossBwdIdeal.Gen Cert.LossRefIdeal.Read

variable (m : (ℓ : Loc nD τ sig) → Buf (Elt Ideal) ℓ)

/-- A point adds its block's column sums to what the accumulator held. -/
theorem dg_step (p q : FVec Ideal S512x1024 .f32) (h : FVec Ideal S512 .f32) (v : Vec Ideal S1x1024 .f32) (j : S1x1024.Idx) :
    k0_pay15 p q h v j = v j + k0_pay15 p q h (fun _ => 0) j := by
  pointwise [k0_pay15]

theorem dg_zero (j : S1x1024.Idx) : k0_pay13 (F := Ideal) j = 0 := by
  pointwise! [k0_pay13]

/-- The gradient of the norm's weights after the run is the reference's. -/
theorem dg_final (c : Dev nD) : (dats m 0 c).arrAt 6 (cfgs 0).N = refDg m c := by
  refine (dats m 0 c).arrAt_eq_of_after_last 6 t0_3 (by decide +kernel) _ fun j => ?_
  blk_simp
  rw [after0_6, Pipeline.eq_sum_fin_of_reset_step_apply_last (fun n h => (outsAt0 m c n h).2.1) 4 (fun _ => 0) _
    (fun t h j => by rw [outsAt0_A m c t h]; frame_out; rw [dg_step, dg_zero])
    (fun t h j => by rw [outsAt0_B m c t h]; frame_out; rw [dg_step])
    (le_of_eq N_0) t0_3 rfl j, zero_add]
  idx_vars j
  pointwise [
    k0_pay1, k0_pay2, k0_pay3, k0_pay4, k0_pay5, k0_pay6, k0_pay7, k0_pay8, k0_pay9, k0_pay10, k0_pay11, k0_pay12, k0_pay13, k0_pay14,
    k0_pay15, refLoss, refDg, refDh, refDff, val_main_v0, val_main_v1, val_main_v2, val_main_v3, val_main_v4, val_main_v5, val_main_cst,
    val_main_v6, val_main_v7, val_main_cst_0, val_main_v8, val_main_v9, val_main_cst_1, val_main_v10, val_main_v11, val_main_v12,
    val_main_v13, val_main_cst_2, val_main_v14, val_main_v15, val_main_v16, val_main_v17, val_main_v18, val_main_v19, val_main_v20,
    val_main_v21, val_main_v22, val_main_cst_3, val_main_v23, val_main_v24, val_main_cst_4, val_main_v25, val_main_cst_5, val_main_v26,
    val_main_v27, val_main_cst_6, val_main_v28, val_main_cst_7, val_main_v29, val_main_cst_8, val_main_cst_9, val_main_v30, val_main_v31,
    val_main_cst_10, val_main_v32, val_main_v33, val_main_v34, val_main_v35, val_main_v36, val_main_cst_11, val_main_v37, val_main_v38,
    val_main_v39, val_main_v40, val_main_v41, val_main_cst_12, val_main_v42, val_main_v43, val_main_v44, val_main_v45, val_main_v46,
    val_main_cst_13, val_main_v47, val_main_v48, val_main_cst_14, val_main_v49, val_main_v50, val_main_v51, val_main_v52, val_main_v53,
    val_main_v54, val_main_v55, val_main_v56]
  simp only [read_act, read_w, read_g, read_h, read_target]
  simp only [double, bits_two]
  exact Fin.sum_mul_add_congr fun s k hl => rfl

end Cert.LossBwdIdeal.Value

end
-- ==== Proof.Loss.Dh.lean ====
module

public import proofs.«01_k».proof.Proof.Loss.Base

@[expose] public section

set_option maxRecDepth 16384

noncomputable section

open Idealize.ShloMosaic Idealize.ShloMosaic.TcCoe Idealize.SL.Sem
open Idealize.ShloMosaic.Pipeline (Dat)

namespace Cert.LossBwdIdeal.Value

open Cert.LossBwdIdeal Cert.LossBwdIdeal.Gen Cert.LossRefIdeal.Read

variable (m : (ℓ : Loc nD τ sig) → Buf (Elt Ideal) ℓ)

/-- What a point stores for the gradient of the residual is the reference's, at that row of the array. -/
theorem dh_point (c : Dev nD) (t : Fin cfg0.N) (y) :
    (k0_pay10 (k0_pay7 (iblk m c 0 t) (iblk m c 1 t) (iblk m c 4 t) (iblk m c 2 t) (iblk m c 3 t)) (k0_pay9 (F := Ideal))) y
      = refDh m c (((cfg0.win 7).blk t).view.emb y) := by
  idx_vars y
  rw [place_dh]
  pointwise [
    k0_pay1, k0_pay2, k0_pay3, k0_pay4, k0_pay5, k0_pay6, k0_pay7, k0_pay8, k0_pay9, k0_pay10, k0_pay11, k0_pay12, k0_pay13, k0_pay14,
    k0_pay15, refLoss, refDg, refDh, refDff, val_main_v0, val_main_v1, val_main_v2, val_main_v3, val_main_v4, val_main_v5, val_main_cst,
    val_main_v6, val_main_v7, val_main_cst_0, val_main_v8, val_main_v9, val_main_cst_1, val_main_v10, val_main_v11, val_main_v12,
    val_main_v13, val_main_cst_2, val_main_v14, val_main_v15, val_main_v16, val_main_v17, val_main_v18, val_main_v19, val_main_v20,
    val_main_v21, val_main_v22, val_main_cst_3, val_main_v23, val_main_v24, val_main_cst_4, val_main_v25, val_main_cst_5, val_main_v26,
    val_main_v27, val_main_cst_6, val_main_v28, val_main_cst_7, val_main_v29, val_main_cst_8, val_main_cst_9, val_main_v30, val_main_v31,
    val_main_cst_10, val_main_v32, val_main_v33, val_main_v34, val_main_v35, val_main_v36, val_main_cst_11, val_main_v37, val_main_v38,
    val_main_v39, val_main_v40, val_main_v41, val_main_cst_12, val_main_v42, val_main_v43, val_main_v44, val_main_v45, val_main_v46,
    val_main_cst_13, val_main_v47, val_main_v48, val_main_cst_14, val_main_v49, val_main_v50, val_main_v51, val_main_v52, val_main_v53,
    val_main_v54, val_main_v55, val_main_v56]
  simp only [read_act, read_w, read_g, read_h, read_target]
  simp only [double, bits_two]

/-- The gradient of the residual after the run is the reference's. -/
theorem dh_final (c : Dev nD) : (dats m 0 c).arrAt 7 (cfgs 0).N = refDh m c := by
  refine (dats m 0 c).arrAt_eq_of_covers 7 _ (by decide +kernel) fun t hf y => ?_
  blk_simp
  rw [after0_7]
  by_cases h : t.val % 4 = 0
  · rw [outsAt0_A m c t h]; frame_out; exact dh_point m c t y
  · rw [outsAt0_B m c t h]; frame_out; exact dh_point m c t y

end Cert.LossBwdIdeal.Value

end
-- ==== Proof.Loss.Dff.lean ====
module

public import proofs.«01_k».proof.Proof.Loss.Base

@[expose] public section

set_option maxRecDepth 16384

noncomputable section

open Idealize.ShloMosaic Idealize.ShloMosaic.TcCoe Idealize.SL.Sem
open Idealize.ShloMosaic.Pipeline (Dat)

namespace Cert.LossBwdIdeal.Value

open Cert.LossBwdIdeal Cert.LossBwdIdeal.Gen Cert.LossRefIdeal.Read

variable (m : (ℓ : Loc nD τ sig) → Buf (Elt Ideal) ℓ)

/-- What a point stores for the gradient of the feed-forward output is the reference's, at that row of the array. -/
theorem dff_point (c : Dev nD) (t : Fin cfg0.N) (y) :
    (k0_pay1 (k0_pay11 (k0_pay2 (iblk m c 0 t) (iblk m c 1 t)) (iblk m c 2 t) (k0_pay4 (iblk m c 0 t) (iblk m c 1 t))
        (k0_pay5 (iblk m c 0 t) (iblk m c 1 t)) (k0_pay7 (iblk m c 0 t) (iblk m c 1 t) (iblk m c 4 t) (iblk m c 2 t) (iblk m c 3 t)) (k0_pay9 (F := Ideal)))) y
      = refDff m c (((cfg0.win 8).blk t).view.emb y) := by
  idx_vars y
  rw [place_dff]
  pointwise [
    k0_pay1, k0_pay2, k0_pay3, k0_pay4, k0_pay5, k0_pay6, k0_pay7, k0_pay8, k0_pay9, k0_pay10, k0_pay11, k0_pay12, k0_pay13, k0_pay14,
    k0_pay15, refLoss, refDg, refDh, refDff, val_main_v0, val_main_v1, val_main_v2, val_main_v3, val_main_v4, val_main_v5, val_main_cst,
    val_main_v6, val_main_v7, val_main_cst_0, val_main_v8, val_main_v9, val_main_cst_1, val_main_v10, val_main_v11, val_main_v12,
    val_main_v13, val_main_cst_2, val_main_v14, val_main_v15, val_main_v16, val_main_v17, val_main_v18, val_main_v19, val_main_v20,
    val_main_v21, val_main_v22, val_main_cst_3, val_main_v23, val_main_v24, val_main_cst_4, val_main_v25, val_main_cst_5, val_main_v26,
    val_main_v27, val_main_cst_6, val_main_v28, val_main_cst_7, val_main_v29, val_main_cst_8, val_main_cst_9, val_main_v30, val_main_v31,
    val_main_cst_10, val_main_v32, val_main_v33, val_main_v34, val_main_v35, val_main_v36, val_main_cst_11, val_main_v37, val_main_v38,
    val_main_v39, val_main_v40, val_main_v41, val_main_cst_12, val_main_v42, val_main_v43, val_main_v44, val_main_v45, val_main_v46,
    val_main_cst_13, val_main_v47, val_main_v48, val_main_cst_14, val_main_v49, val_main_v50, val_main_v51, val_main_v52, val_main_v53,
    val_main_v54, val_main_v55, val_main_v56]
  simp only [read_act, read_w, read_g, read_h, read_target]
  simp only [double, bits_two]

/-- The gradient of the feed-forward output after the run is the reference's. -/
theorem dff_final (c : Dev nD) : (dats m 0 c).arrAt 8 (cfgs 0).N = refDff m c := by
  refine (dats m 0 c).arrAt_eq_of_covers 8 _ (by decide +kernel) fun t hf y => ?_
  blk_simp
  rw [after0_8]
  by_cases h : t.val % 4 = 0
  · rw [outsAt0_A m c t h]; frame_out; exact dff_point m c t y
  · rw [outsAt0_B m c t h]; frame_out; exact dff_point m c t y

end Cert.LossBwdIdeal.Value

end
-- ==== Proof.Loss.Claims.lean ====
module

public import proofs.«01_k».proof.Defs
public import proofs.«01_k».proof.Proof.Gen.LossBwd.Frame
public import proofs.«01_k».proof.Proof.Loss.Loss
public import proofs.«01_k».proof.Proof.Loss.Dg
public import proofs.«01_k».proof.Proof.Loss.Dh
public import proofs.«01_k».proof.Proof.Loss.Dff

@[expose] public section

noncomputable section

namespace Cert.Proof

open Idealize.ShloMosaic Idealize.SL.Sem

open Cert

/-- The kernel runs to its end and leaves its arguments. -/
theorem loss_frame : Cert.quiescent_LossBwd := fun m ρ _ => Cert.LossBwd.Gen.frame m ρ

/-- So does the idealized kernel. -/
theorem loss_frame_ideal : Cert.quiescent_LossBwdIdeal := fun m ρ _ => Cert.LossBwdIdeal.Gen.frame m ρ

/-- The reference runs to its end and leaves its arguments. -/
theorem loss_frame_ref : Cert.quiescent_LossRefIdeal := by
  intro m ρ _
  exact (θ_run _ _ _).mono (fun r h => ⟨fun c => (h c).2.2.2.2, sem_eq_zero_of_no_sems (by decide) r.2⟩)
    (Cert.LossRefIdeal.Value.run m ρ)

set_option maxHeartbeats 1600000 in
/-- The loss and its three gradients agree with the reference's, from every memory. -/
theorem loss_value : Cert.algebraic_LossBwdIdeal_LossRefIdeal := by
  pair_intro
  · run_from Cert.LossBwdIdeal.Value.run_blocks m g
  · run_from Cert.LossRefIdeal.Value.run m' g'
    all_goals obtain ⟨h0, h1, h2, h3, h4⟩ := hagree c
    · exact (LossRefIdeal.Read.val_main_v55_eq ..).trans (LossBwdIdeal.Value.loss_final m c).symm
    · exact (LossRefIdeal.Read.val_main_v38_eq ..).trans (LossBwdIdeal.Value.dg_final m c).symm
    · exact (LossRefIdeal.Read.val_main_v35_eq ..).trans (LossBwdIdeal.Value.dh_final m c).symm
    · rw [LossRefIdeal.Read.val_main_v56_eq, h0, h1, h2, h3, h4]
      exact (LossBwdIdeal.Value.dff_final m c).symm

end Cert.Proof

end
-- ==== Proof.Merge.Base.lean ====
module

public import proofs.«01_k».proof.Proof.Gen.MergeBwdIdeal.Value
public import proofs.«01_k».proof.Proof.Gen.MergeRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeBwdIdeal.Value

open Cert.MergeBwdIdeal Cert.MergeBwdIdeal.Gen Cert.MergeRefIdeal.Read

variable (m : (ℓ : Loc nD τ sig) → Buf (Elt Ideal) ℓ)

/-- The index maps of the windows that are loaded: the rows move with the grid point, the weights stay, and the gates are read as
    pieces of 256 columns. -/
theorem idx : ∀ t : Fin cfg0.N, win0_0.index t = ![t.val, 0] ∧ win0_1.index t = ![0, 0] ∧ win0_2.index t = ![0, 0]
    ∧ win0_3.index t = ![0, 0] ∧ win0_4.index t = ![t.val, 29] ∧ win0_5.index t = ![t.val, 30] ∧ win0_6.index t = ![t.val, 31]
    ∧ win0_7.index t = ![t.val, 32] ∧ win0_8.index t = ![t.val, 33] ∧ win0_9.index t = ![t.val, 34]
    ∧ win0_10.index t = ![t.val, 35] ∧ win0_11.index t = ![t.val, 36] ∧ win0_12.index t = ![t.val, 0]
    ∧ win0_13.index t = ![t.val, 0] :=
  (by decide +kernel : ∀ t : Fin grid0.N, _)

/-- The index maps of the windows that are stored. -/
theorem idx_out : ∀ t : Fin cfg0.N, win0_14.index t = ![t.val, 0] ∧ win0_15.index t = ![t.val, 0] ∧ win0_16.index t = ![t.val, 0]
    ∧ win0_17.index t = ![t.val, 0] ∧ win0_18.index t = ![t.val, 0] ∧ win0_19.index t = ![t.val, 0] :=
  (by decide +kernel : ∀ t : Fin grid0.N, _)

/-- Row `r` of the block of point `t`, as a row of the whole array. -/
def row (t : Fin cfg0.N) (r : Fin 512) : Fin 2048 := ⟨t.val * 512 + r.val, by have := t.isLt; have : cfg0.N = 4 := N_0; omega⟩

theorem read_dmix (c : Dev nD) (t : Fin cfg0.N) (r : Fin 512) (k : Fin 1024) :
    iblk m c 0 t (ix2 r k) = (m ((c : Thread nD τ).loc main_arg6)) (ix3 0 (row t r) k) := by
  blk_simp [iblk, idx t]; entry_read; pointwise; blk_ext [idx t, row]

theorem read_out (c : Dev nD) (t : Fin cfg0.N) (r k : Fin 1024) :
    iblk m c 1 t (ix2 r k) = (m ((c : Thread nD τ).loc main_arg5)) (ix3 0 r k) := by
  blk_simp [iblk, idx t]; entry_read; pointwise; blk_ext [idx t, row]

theorem read_wa (c : Dev nD) (t : Fin cfg0.N) (r k : Fin 1024) :
    iblk m c 2 t (ix2 r k) = (m ((c : Thread nD τ).loc main_arg3)) (ix3 0 r k) := by
  blk_simp [iblk, idx t]; entry_read; pointwise; blk_ext [idx t, row]

theorem read_wb (c : Dev nD) (t : Fin cfg0.N) (r k : Fin 1024) :
    iblk m c 3 t (ix2 r k) = (m ((c : Thread nD τ).loc main_arg4)) (ix3 0 r k) := by
  blk_simp [iblk, idx t]; entry_read; pointwise; blk_ext [idx t, row]

theorem read_ga0 (c : Dev nD) (t : Fin cfg0.N) (r : Fin 512) (k : Fin 256) :
    iblk m c 4 t (ix2 r k) = (m ((c : Thread nD τ).loc main_arg0)) (ix3 0 (row t r) ⟨7424 + k.val, by omega⟩) := by
  blk_simp [iblk, idx t]; entry_read; pointwise; blk_ext [idx t, row]

theorem read_ga1 (c : Dev nD) (t : Fin cfg0.N) (r : Fin 512) (k : Fin 256) :
    iblk m c 5 t (ix2 r k) = (m ((c : Thread nD τ).loc main_arg0)) (ix3 0 (row t r) ⟨7424 + (256 + k.val), by omega⟩) := by
  blk_simp [iblk, idx t]; entry_read; pointwise; blk_ext [idx t, row]

theorem read_ga2 (c : Dev nD) (t : Fin cfg0.N) (r : Fin 512) (k : Fin 256) :
    iblk m c 6 t (ix2 r k) = (m ((c : Thread nD τ).loc main_arg0)) (ix3 0 (row t r) ⟨7424 + (512 + k.val), by omega⟩) := by
  blk_simp [iblk, idx t]; entry_read; pointwise; blk_ext [idx t, row]

theorem read_ga3 (c : Dev nD) (t : Fin cfg0.N) (r : Fin 512) (k : Fin 256) :
    iblk m c 7 t (ix2 r k) = (m ((c : Thread nD τ).loc main_arg0)) (ix3 0 (row t r) ⟨7424 + (768 + k.val), by omega⟩) := by
  blk_simp [iblk, idx t]; entry_read; pointwise; blk_ext [idx t, row]

theorem read_gb0 (c : Dev nD) (t : Fin cfg0.N) (r : Fin 512) (k : Fin 256) :
    iblk m c 8 t (ix2 r k) = (m ((c : Thread nD τ).loc main_arg0)) (ix3 0 (row t r) ⟨8448 + k.val, by omega⟩) := by
  blk_simp [iblk, idx t]; entry_read; pointwise; blk_ext [idx t, row]

theorem read_gb1 (c : Dev nD) (t : Fin cfg0.N) (r : Fin 512) (k : Fin 256) :
    iblk m c 9 t (ix2 r k) = (m ((c : Thread nD τ).loc main_arg0)) (ix3 0 (row t r) ⟨8448 + (256 + k.val), by omega⟩) := by
  blk_simp [iblk, idx t]; entry_read; pointwise; blk_ext [idx t, row]

theorem read_gb2 (c : Dev nD) (t : Fin cfg0.N) (r : Fin 512) (k : Fin 256) :
    iblk m c 10 t (ix2 r k) = (m ((c : Thread nD τ).loc main_arg0)) (ix3 0 (row t r) ⟨8448 + (512 + k.val), by omega⟩) := by
  blk_simp [iblk, idx t]; entry_read; pointwise; blk_ext [idx t, row]

theorem read_gb3 (c : Dev nD) (t : Fin cfg0.N) (r : Fin 512) (k : Fin 256) :
    iblk m c 11 t (ix2 r k) = (m ((c : Thread nD τ).loc main_arg0)) (ix3 0 (row t r) ⟨8448 + (768 + k.val), by omega⟩) := by
  blk_simp [iblk, idx t]; entry_read; pointwise; blk_ext [idx t, row]

theorem read_ya (c : Dev nD) (t : Fin cfg0.N) (r : Fin 512) (k : Fin 1024) :
    iblk m c 12 t (ix2 r k) = (∑ j : Fin 1024, (show EReal from (m ((c : Thread nD τ).loc main_arg1)) (ix3 0 (row t r) j)) * (show EReal from (m ((c : Thread nD τ).loc main_arg3)) (ix3 0 j k)) : EReal) := by
  blk_simp [iblk, idx t]; entry_read; pointwise; exact Fin.sum_fin_congr fun j => congrArg₂ (· * ·) (by blk_ext [idx t, row]) (by blk_ext [idx t, row])

theorem read_yb (c : Dev nD) (t : Fin cfg0.N) (r : Fin 512) (k : Fin 1024) :
    iblk m c 13 t (ix2 r k) = (∑ j : Fin 1024, (show EReal from (m ((c : Thread nD τ).loc main_arg2)) (ix3 0 (row t r) j)) * (show EReal from (m ((c : Thread nD τ).loc main_arg4)) (ix3 0 j k)) : EReal) := by
  blk_simp [iblk, idx t]; entry_read; pointwise; exact Fin.sum_fin_congr fun j => congrArg₂ (· * ·) (by blk_ext [idx t, row]) (by blk_ext [idx t, row])

theorem place14 (t : Fin cfg0.N) (r : Fin 512) (k : Fin 1024) : ((cfg0.win 14).blk t).view.emb (ix2 r k) = ix2 (row t r) k := by
  blk_ext [idx_out t, row]

theorem place15 (t : Fin cfg0.N) (r : Fin 512) (k : Fin 1024) : ((cfg0.win 15).blk t).view.emb (ix2 r k) = ix2 (row t r) k := by
  blk_ext [idx_out t, row]

theorem place16 (t : Fin cfg0.N) (r : Fin 512) (k : Fin 1024) : ((cfg0.win 16).blk t).view.emb (ix2 r k) = ix2 (row t r) k := by
  blk_ext [idx_out t, row]

theorem place17 (t : Fin cfg0.N) (r : Fin 512) (k : Fin 1024) : ((cfg0.win 17).blk t).view.emb (ix2 r k) = ix2 (row t r) k := by
  blk_ext [idx_out t, row]

theorem place18 (t : Fin cfg0.N) (r : Fin 512) (k : Fin 1024) : ((cfg0.win 18).blk t).view.emb (ix2 r k) = ix2 (row t r) k := by
  blk_ext [idx_out t, row]

theorem place19 (t : Fin cfg0.N) (r : Fin 512) (k : Fin 1024) : ((cfg0.win 19).blk t).view.emb (ix2 r k) = ix2 (row t r) k := by
  blk_ext [idx_out t, row]

/-- The store over a whole block puts every element where it is. -/
theorem whole (r : Fin 512) (k : Fin 1024) : r0_0.idx (ix2 r k) = ix2 r k := by
  funext a
  refine Fin.ext ?_
  match a with
  | ⟨0, _⟩ => show 0 + 1 * r.val = r.val; omega
  | ⟨1, _⟩ => show 0 + 1 * k.val = k.val; omega

/-- The reference's gradient of the first gate, over this program's argument arrays. -/
abbrev refDga (c : Dev nD) : FVec Ideal Cert.MergeRefIdeal.S2048x1024 .bf16 :=
  val_main_v43 (F := Ideal) (m ((c : Thread nD τ).loc main_arg0)) (m ((c : Thread nD τ).loc main_arg1)) (m ((c : Thread nD τ).loc main_arg3)) (m ((c : Thread nD τ).loc main_arg5)) (m ((c : Thread nD τ).loc main_arg6))

/-- The reference's gradient of the second gate, over this program's argument arrays. -/
abbrev refDgb (c : Dev nD) : FVec Ideal Cert.MergeRefIdeal.S2048x1024 .bf16 :=
  val_main_v44 (F := Ideal) (m ((c : Thread nD τ).loc main_arg0)) (m ((c : Thread nD τ).loc main_arg2)) (m ((c : Thread nD τ).loc main_arg4)) (m ((c : Thread nD τ).loc main_arg5)) (m ((c : Thread nD τ).loc main_arg6))

/-- The reference's gradient of the first branch's projection, over this program's argument arrays. -/
abbrev refDya (c : Dev nD) : FVec Ideal Cert.MergeRefIdeal.S2048x1024 .bf16 :=
  val_main_v45 (F := Ideal) (m ((c : Thread nD τ).loc main_arg0)) (m ((c : Thread nD τ).loc main_arg5)) (m ((c : Thread nD τ).loc main_arg6))

/-- The reference's gradient of the second branch's projection, over this program's argument arrays. -/
abbrev refDyb (c : Dev nD) : FVec Ideal Cert.MergeRefIdeal.S2048x1024 .bf16 :=
  val_main_v46 (F := Ideal) (m ((c : Thread nD τ).loc main_arg0)) (m ((c : Thread nD τ).loc main_arg5)) (m ((c : Thread nD τ).loc main_arg6))

/-- The reference's gradient of the first branch, over this program's argument arrays. -/
abbrev refDoa (c : Dev nD) : FVec Ideal Cert.MergeRefIdeal.S2048x1024 .bf16 :=
  val_main_v47 (F := Ideal) (m ((c : Thread nD τ).loc main_arg0)) (m ((c : Thread nD τ).loc main_arg3)) (m ((c : Thread nD τ).loc main_arg5)) (m ((c : Thread nD τ).loc main_arg6))

/-- The reference's gradient of the second branch, over this program's argument arrays. -/
abbrev refDob (c : Dev nD) : FVec Ideal Cert.MergeRefIdeal.S2048x1024 .bf16 :=
  val_main_v48 (F := Ideal) (m ((c : Thread nD τ).loc main_arg0)) (m ((c : Thread nD τ).loc main_arg4)) (m ((c : Thread nD τ).loc main_arg5)) (m ((c : Thread nD τ).loc main_arg6))

end Cert.MergeBwdIdeal.Value

end
-- ==== Proof.Merge.GateA.lean ====
module

public import proofs.«01_k».proof.Proof.Merge.Base

@[expose] public section

set_option maxRecDepth 16384

noncomputable section

open Idealize.ShloMosaic Idealize.ShloMosaic.TcCoe Idealize.SL.Sem
open Idealize.ShloMosaic.Pipeline (Dat)

namespace Cert.MergeBwdIdeal.Value

open Cert.MergeBwdIdeal Cert.MergeBwdIdeal.Gen Cert.MergeRefIdeal.Read

variable (m : (ℓ : Loc nD τ sig) → Buf (Elt Ideal) ℓ)

/-- What a point stores of the gate's gradient is the reference's, at those rows of the array. -/
theorem dga_point (c : Dev nD) (t : Fin cfg0.N) (y) :
    (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) y
      = refDga m c (((cfg0.win 14).blk t).view.emb y) := by
  idx_vars y
  rw [place14]
  unfold_out out0_14
  canon_tiles x h
  all_goals
    idx_vars x
    obtain rfl := (Fin.ext h0 : y0 = _)
    obtain ⟨y1, y1_lt⟩ := y1
    dsimp at h1
    subst h1
    pointwise [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, refDga, refDgb, refDya, refDyb, refDoa,
    refDob, val_main_v0, val_main_v1, val_main_v2, val_main_v3, val_main_v4, val_main_v5, val_main_v6, val_main_v7, val_main_v8,
    val_main_v9, val_main_v10, val_main_v11, val_main_cst, val_main_v12, val_main_v13, val_main_cst_0, val_main_v14, val_main_v15,
    val_main_cst_1, val_main_v16, val_main_v17, val_main_v18, val_main_v19, val_main_v20, val_main_v21, val_main_cst_2, val_main_v22,
    val_main_v23, val_main_cst_3, val_main_v24, val_main_v25, val_main_cst_4, val_main_v26, val_main_v27, val_main_v28, val_main_v29,
    val_main_v30, val_main_v31, val_main_v32, val_main_v33, val_main_v34, val_main_v35, val_main_v36, val_main_v37, val_main_v38,
    val_main_v39, val_main_v40, val_main_v41, val_main_v42, val_main_v43, val_main_v44, val_main_v45, val_main_v46, val_main_v47,
    val_main_v48]
    simp only [read_dmix, read_out, read_ga0, read_ga1, read_ga2, read_ga3, read_ya]
    rfl

/-- The first result the region leaves. -/
theorem dga_final (c : Dev nD) : (dats m 0 c).arrAt 14 (cfgs 0).N = refDga m c := by
  refine (dats m 0 c).arrAt_eq_of_covers 14 _ (by decide +kernel) fun t hf y => ?_
  blk_simp
  rw [after0_14]
  exact dga_point m c t y

end Cert.MergeBwdIdeal.Value

end
-- ==== Proof.Merge.GateB.lean ====
module

public import proofs.«01_k».proof.Proof.Merge.Base

@[expose] public section

set_option maxRecDepth 16384

noncomputable section

open Idealize.ShloMosaic Idealize.ShloMosaic.TcCoe Idealize.SL.Sem
open Idealize.ShloMosaic.Pipeline (Dat)

namespace Cert.MergeBwdIdeal.Value

open Cert.MergeBwdIdeal Cert.MergeBwdIdeal.Gen Cert.MergeRefIdeal.Read

variable (m : (ℓ : Loc nD τ sig) → Buf (Elt Ideal) ℓ)

/-- What a point stores of the gate's gradient is the reference's, at those rows of the array. -/
theorem dgb_point (c : Dev nD) (t : Fin cfg0.N) (y) :
    (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) y
      = refDgb m c (((cfg0.win 15).blk t).view.emb y) := by
  idx_vars y
  rw [place15]
  unfold_out out0_15
  canon_tiles x h
  all_goals
    idx_vars x
    obtain rfl := (Fin.ext h0 : y0 = _)
    obtain ⟨y1, y1_lt⟩ := y1
    dsimp at h1
    subst h1
    pointwise [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, refDga, refDgb, refDya, refDyb, refDoa,
    refDob, val_main_v0, val_main_v1, val_main_v2, val_main_v3, val_main_v4, val_main_v5, val_main_v6, val_main_v7, val_main_v8,
    val_main_v9, val_main_v10, val_main_v11, val_main_cst, val_main_v12, val_main_v13, val_main_cst_0, val_main_v14, val_main_v15,
    val_main_cst_1, val_main_v16, val_main_v17, val_main_v18, val_main_v19, val_main_v20, val_main_v21, val_main_cst_2, val_main_v22,
    val_main_v23, val_main_cst_3, val_main_v24, val_main_v25, val_main_cst_4, val_main_v26, val_main_v27, val_main_v28, val_main_v29,
    val_main_v30, val_main_v31, val_main_v32, val_main_v33, val_main_v34, val_main_v35, val_main_v36, val_main_v37, val_main_v38,
    val_main_v39, val_main_v40, val_main_v41, val_main_v42, val_main_v43, val_main_v44, val_main_v45, val_main_v46, val_main_v47,
    val_main_v48]
    simp only [read_dmix, read_out, read_gb0, read_gb1, read_gb2, read_gb3, read_yb]
    rfl

/-- The first result the region leaves. -/
theorem dgb_final (c : Dev nD) : (dats m 0 c).arrAt 15 (cfgs 0).N = refDgb m c := by
  refine (dats m 0 c).arrAt_eq_of_covers 15 _ (by decide +kernel) fun t hf y => ?_
  blk_simp
  rw [after0_15]
  exact dgb_point m c t y

end Cert.MergeBwdIdeal.Value

end
-- ==== Proof.Merge.BranchA.lean ====
module

public import proofs.«01_k».proof.Proof.Merge.Base

@[expose] public section

set_option maxRecDepth 16384

noncomputable section

open Idealize.ShloMosaic Idealize.ShloMosaic.TcCoe Idealize.SL.Sem
open Idealize.ShloMosaic.Pipeline (Dat)

namespace Cert.MergeBwdIdeal.Value

open Cert.MergeBwdIdeal Cert.MergeBwdIdeal.Gen Cert.MergeRefIdeal.Read

variable (m : (ℓ : Loc nD τ sig) → Buf (Elt Ideal) ℓ)

/-- The gradient of this branch's projection as a point computes it: four pieces of 256 columns side by side. -/
abbrev dyaBlk (c : Dev nD) (t : Fin cfg0.N) : FVec Ideal S512x1024 .bf16 :=
  k0_pay4 (k0_pay39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
    (k0_pay40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
    (k0_pay42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
    (k0_pay46 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
    (k0_pay48 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))

set_option maxHeartbeats 1000000 in
/-- It is the reference's at those rows. -/
theorem dya_at (c : Dev nD) (t : Fin cfg0.N) (y0 : Fin 512) (y1 : Fin 1024) :
    dyaBlk m c t (ix2 y0 y1) = refDya m c (ix2 (row t y0) y1) := by
  refine (piece16_0 _ _ _ _ _ _ (ix2 y0 y1)).trans ?_
  rw [whole y0 y1]
  obtain ⟨y1, y1_lt⟩ := y1
  obtain ⟨q, l, hl, rfl⟩ : ∃ q l : ℕ, l < 256 ∧ y1 = 256 * q + l := ⟨y1 / 256, y1 % 256, by omega, by omega⟩
  have hq : q = 0 ∨ q = 1 ∨ q = 2 ∨ q = 3 := by omega
  show Cat16_0 _ _ _ _ _ _ (csel16_0 (ix2 y0 ⟨256 * q + l, y1_lt⟩)) (ix16_0 (ix2 y0 ⟨256 * q + l, y1_lt⟩)) = _
  rw [show ix16_0 (ix2 y0 ⟨256 * q + l, y1_lt⟩) = ix2 y0 ⟨l, hl⟩ by blk_ext []]
  rcases hq with rfl | rfl | rfl | rfl
  all_goals
    first
    | rw [show csel16_0 (ix2 y0 ⟨256 * 0 + l, y1_lt⟩) = 0 from Fin.ext (by show (256 * 0 + l) / 256 = 0; omega)]
    | rw [show csel16_0 (ix2 y0 ⟨256 * 1 + l, y1_lt⟩) = 1 from Fin.ext (by show (256 * 1 + l) / 256 = 1; omega)]
    | rw [show csel16_0 (ix2 y0 ⟨256 * 2 + l, y1_lt⟩) = 2 from Fin.ext (by show (256 * 2 + l) / 256 = 2; omega)]
    | rw [show csel16_0 (ix2 y0 ⟨256 * 3 + l, y1_lt⟩) = 3 from Fin.ext (by show (256 * 3 + l) / 256 = 3; omega)]
    pointwise [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, refDga, refDgb, refDya, refDyb, refDoa,
    refDob, val_main_v0, val_main_v1, val_main_v2, val_main_v3, val_main_v4, val_main_v5, val_main_v6, val_main_v7, val_main_v8,
    val_main_v9, val_main_v10, val_main_v11, val_main_cst, val_main_v12, val_main_v13, val_main_cst_0, val_main_v14, val_main_v15,
    val_main_cst_1, val_main_v16, val_main_v17, val_main_v18, val_main_v19, val_main_v20, val_main_v21, val_main_cst_2, val_main_v22,
    val_main_v23, val_main_cst_3, val_main_v24, val_main_v25, val_main_cst_4, val_main_v26, val_main_v27, val_main_v28, val_main_v29,
    val_main_v30, val_main_v31, val_main_v32, val_main_v33, val_main_v34, val_main_v35, val_main_v36, val_main_v37, val_main_v38,
    val_main_v39, val_main_v40, val_main_v41, val_main_v42, val_main_v43, val_main_v44, val_main_v45, val_main_v46, val_main_v47,
    val_main_v48]
    simp only [read_dmix, read_out, read_ga0, read_ga1, read_ga2, read_ga3, read_ya]
    rfl

/-- What a point stores is the reference's, at those rows of the array. -/
theorem dya_point (c : Dev nD) (t : Fin cfg0.N) (y) :
    (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) y
      = refDya m c (((cfg0.win 16).blk t).view.emb y) := by
  idx_vars y
  rw [place16]
  unfold out0_16
  canon_tiles x h
  idx_vars x
  obtain rfl := (Fin.ext h0 : y0 = _)
  obtain rfl := (Fin.ext h1 : y1 = _)
  exact dya_at m c t _ _

/-- This result is the reference's. -/
theorem dya_final (c : Dev nD) : (dats m 0 c).arrAt 16 (cfgs 0).N = refDya m c := by
  refine (dats m 0 c).arrAt_eq_of_covers 16 _ (by decide +kernel) fun t hf y => ?_
  blk_simp
  rw [after0_16]
  exact dya_point m c t y

/-- What a point stores of this branch's gradient is the reference's, at those rows of the array. -/
theorem doa_point (c : Dev nD) (t : Fin cfg0.N) (y) :
    (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) y
      = refDoa m c (((cfg0.win 18).blk t).view.emb y) := by
  idx_vars y
  rw [place18]
  unfold out0_18
  canon_tiles x h
  idx_vars x
  obtain rfl := (Fin.ext h0 : y0 = _)
  obtain rfl := (Fin.ext h1 : y1 = _)
  have hb := dya_at m c t
  pointwise [k0_pay6, refDoa, val_main_v47, val_main_v41, val_main_v5]
  simp only [read_wa]
  exact Fin.sum_fin_congr fun k => congrArg (· * _) (hb _ k)

/-- This result is the reference's. -/
theorem doa_final (c : Dev nD) : (dats m 0 c).arrAt 18 (cfgs 0).N = refDoa m c := by
  refine (dats m 0 c).arrAt_eq_of_covers 18 _ (by decide +kernel) fun t hf y => ?_
  blk_simp
  rw [after0_18]
  exact doa_point m c t y

end Cert.MergeBwdIdeal.Value

end
-- ==== Proof.Merge.BranchB.lean ====
module

public import proofs.«01_k».proof.Proof.Merge.Base

@[expose] public section

set_option maxRecDepth 16384

noncomputable section

open Idealize.ShloMosaic Idealize.ShloMosaic.TcCoe Idealize.SL.Sem
open Idealize.ShloMosaic.Pipeline (Dat)

namespace Cert.MergeBwdIdeal.Value

open Cert.MergeBwdIdeal Cert.MergeBwdIdeal.Gen Cert.MergeRefIdeal.Read

variable (m : (ℓ : Loc nD τ sig) → Buf (Elt Ideal) ℓ)

/-- The gradient of this branch's projection as a point computes it: four pieces of 256 columns side by side. -/
abbrev dybBlk (c : Dev nD) (t : Fin cfg0.N) : FVec Ideal S512x1024 .bf16 :=
  k0_pay5 (k0_pay39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
    (k0_pay41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
    (k0_pay43 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
    (k0_pay47 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
    (k0_pay49 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))

set_option maxHeartbeats 1000000 in
/-- It is the reference's at those rows. -/
theorem dyb_at (c : Dev nD) (t : Fin cfg0.N) (y0 : Fin 512) (y1 : Fin 1024) :
    dybBlk m c t (ix2 y0 y1) = refDyb m c (ix2 (row t y0) y1) := by
  refine (piece17_0 _ _ _ _ _ _ (ix2 y0 y1)).trans ?_
  rw [whole y0 y1]
  obtain ⟨y1, y1_lt⟩ := y1
  obtain ⟨q, l, hl, rfl⟩ : ∃ q l : ℕ, l < 256 ∧ y1 = 256 * q + l := ⟨y1 / 256, y1 % 256, by omega, by omega⟩
  have hq : q = 0 ∨ q = 1 ∨ q = 2 ∨ q = 3 := by omega
  show Cat17_0 _ _ _ _ _ _ (csel17_0 (ix2 y0 ⟨256 * q + l, y1_lt⟩)) (ix17_0 (ix2 y0 ⟨256 * q + l, y1_lt⟩)) = _
  rw [show ix17_0 (ix2 y0 ⟨256 * q + l, y1_lt⟩) = ix2 y0 ⟨l, hl⟩ by blk_ext []]
  rcases hq with rfl | rfl | rfl | rfl
  all_goals
    first
    | rw [show csel17_0 (ix2 y0 ⟨256 * 0 + l, y1_lt⟩) = 0 from Fin.ext (by show (256 * 0 + l) / 256 = 0; omega)]
    | rw [show csel17_0 (ix2 y0 ⟨256 * 1 + l, y1_lt⟩) = 1 from Fin.ext (by show (256 * 1 + l) / 256 = 1; omega)]
    | rw [show csel17_0 (ix2 y0 ⟨256 * 2 + l, y1_lt⟩) = 2 from Fin.ext (by show (256 * 2 + l) / 256 = 2; omega)]
    | rw [show csel17_0 (ix2 y0 ⟨256 * 3 + l, y1_lt⟩) = 3 from Fin.ext (by show (256 * 3 + l) / 256 = 3; omega)]
    pointwise [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, refDga, refDgb, refDya, refDyb, refDoa,
    refDob, val_main_v0, val_main_v1, val_main_v2, val_main_v3, val_main_v4, val_main_v5, val_main_v6, val_main_v7, val_main_v8,
    val_main_v9, val_main_v10, val_main_v11, val_main_cst, val_main_v12, val_main_v13, val_main_cst_0, val_main_v14, val_main_v15,
    val_main_cst_1, val_main_v16, val_main_v17, val_main_v18, val_main_v19, val_main_v20, val_main_v21, val_main_cst_2, val_main_v22,
    val_main_v23, val_main_cst_3, val_main_v24, val_main_v25, val_main_cst_4, val_main_v26, val_main_v27, val_main_v28, val_main_v29,
    val_main_v30, val_main_v31, val_main_v32, val_main_v33, val_main_v34, val_main_v35, val_main_v36, val_main_v37, val_main_v38,
    val_main_v39, val_main_v40, val_main_v41, val_main_v42, val_main_v43, val_main_v44, val_main_v45, val_main_v46, val_main_v47,
    val_main_v48]
    simp only [read_dmix, read_out, read_gb0, read_gb1, read_gb2, read_gb3, read_yb]
    rfl

/-- What a point stores is the reference's, at those rows of the array. -/
theorem dyb_point (c : Dev nD) (t : Fin cfg0.N) (y) :
    (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) y
      = refDyb m c (((cfg0.win 17).blk t).view.emb y) := by
  idx_vars y
  rw [place17]
  unfold out0_17
  canon_tiles x h
  idx_vars x
  obtain rfl := (Fin.ext h0 : y0 = _)
  obtain rfl := (Fin.ext h1 : y1 = _)
  exact dyb_at m c t _ _

/-- This result is the reference's. -/
theorem dyb_final (c : Dev nD) : (dats m 0 c).arrAt 17 (cfgs 0).N = refDyb m c := by
  refine (dats m 0 c).arrAt_eq_of_covers 17 _ (by decide +kernel) fun t hf y => ?_
  blk_simp
  rw [after0_17]
  exact dyb_point m c t y

/-- What a point stores of this branch's gradient is the reference's, at those rows of the array. -/
theorem dob_point (c : Dev nD) (t : Fin cfg0.N) (y) :
    (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) y
      = refDob m c (((cfg0.win 19).blk t).view.emb y) := by
  idx_vars y
  rw [place19]
  unfold out0_19
  canon_tiles x h
  idx_vars x
  obtain rfl := (Fin.ext h0 : y0 = _)
  obtain rfl := (Fin.ext h1 : y1 = _)
  have hb := dyb_at m c t
  pointwise [k0_pay7, refDob, val_main_v48, val_main_v42, val_main_v8]
  simp only [read_wb]
  exact Fin.sum_fin_congr fun k => congrArg (· * _) (hb _ k)

/-- This result is the reference's. -/
theorem dob_final (c : Dev nD) : (dats m 0 c).arrAt 19 (cfgs 0).N = refDob m c := by
  refine (dats m 0 c).arrAt_eq_of_covers 19 _ (by decide +kernel) fun t hf y => ?_
  blk_simp
  rw [after0_19]
  exact dob_point m c t y

end Cert.MergeBwdIdeal.Value

end
-- ==== Proof.Merge.Claims.lean ====
module

public import proofs.«01_k».proof.Defs
public import proofs.«01_k».proof.Proof.Gen.MergeBwd.Frame
public import proofs.«01_k».proof.Proof.Gen.MergeRefIdeal.Run
public import proofs.«01_k».proof.Proof.Merge.GateA
public import proofs.«01_k».proof.Proof.Merge.GateB
public import proofs.«01_k».proof.Proof.Merge.BranchA
public import proofs.«01_k».proof.Proof.Merge.BranchB

/-! The claims about the backward call of the merge of the two branches. -/

@[expose] public section

set_option maxRecDepth 16384

noncomputable section

namespace Cert.Proof

open Idealize.ShloMosaic Idealize.SL.Sem

open Cert

/-- The kernel runs to its end and leaves its arguments. -/
theorem merge_frame : Cert.quiescent_MergeBwd := fun m ρ _ => Cert.MergeBwd.Gen.frame m ρ

/-- So does the idealized kernel. -/
theorem merge_frame_ideal : Cert.quiescent_MergeBwdIdeal := fun m ρ _ => Cert.MergeBwdIdeal.Gen.frame m ρ

/-- The reference runs to its end and leaves its arguments. -/
theorem merge_frame_ref : Cert.quiescent_MergeRefIdeal := by
  intro m ρ _
  exact (θ_run _ _ _).mono (fun r h => ⟨fun c => (h c).2.2.2.2.2.2, sem_eq_zero_of_no_sems (by decide) r.2⟩)
    (Cert.MergeRefIdeal.Value.run m ρ)

set_option maxHeartbeats 1600000 in
/-- The gradients of both gates, both projections and both branches agree with the reference's, from every memory. -/
theorem merge_value : Cert.algebraic_MergeBwdIdeal_MergeRefIdeal := by
  pair_intro
  · run_from Cert.MergeBwdIdeal.Value.run_blocks m g
  · run_from Cert.MergeRefIdeal.Value.run m' g'
    all_goals obtain ⟨h0, h1, h2, h3, h4, h5, h6⟩ := hagree c
    · exact (MergeRefIdeal.Read.val_main_v43_eq ..).trans (MergeBwdIdeal.Value.dga_final m c).symm
    · exact (MergeRefIdeal.Read.val_main_v44_eq ..).trans (MergeBwdIdeal.Value.dgb_final m c).symm
    · exact (MergeRefIdeal.Read.val_main_v45_eq ..).trans (MergeBwdIdeal.Value.dya_final m c).symm
    · exact (MergeRefIdeal.Read.val_main_v46_eq ..).trans (MergeBwdIdeal.Value.dyb_final m c).symm
    · exact (MergeRefIdeal.Read.val_main_v47_eq ..).trans (MergeBwdIdeal.Value.doa_final m c).symm
    · exact (MergeRefIdeal.Read.val_main_v48_eq ..).trans (MergeBwdIdeal.Value.dob_final m c).symm

end Cert.Proof

end
-- ==== Proof.Conv.Base.lean ====
module

public import proofs.«01_k».proof.Proof.Gen.ConvBwdIdeal.Value
public import proofs.«01_k».proof.Proof.Gen.ConvRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvBwdIdeal.Value

open Cert.ConvBwdIdeal Cert.ConvBwdIdeal.Gen Cert.ConvRefIdeal.Read

variable (m : (ℓ : Loc nD τ sig) → Buf (Elt Ideal) ℓ)

/-- The index maps: the second grid coordinate walks the row tiles from the last to the first, the first the column halves. -/
theorem idx : ∀ t : Fin cfg0.N, win0_0.index t = ![7 - t.val % 8, 0] ∧ win0_1.index t = ![t.val / 8, 0]
    ∧ win0_2.index t = ![7 - t.val % 8, t.val / 8] ∧ win0_3.index t = ![7 - t.val % 8, t.val / 8]
    ∧ win0_4.index t = ![7 - t.val % 8, t.val / 8] ∧ win0_5.index t = ![7 - t.val % 8, t.val / 8]
    ∧ win0_6.index t = ![0, t.val / 8] ∧ win0_7.index t = ![0, t.val / 8 + 2] :=
  (by decide +kernel : ∀ t : Fin grid0.N, _)

/-- The index maps of the windows that are stored. -/
theorem idx_out : ∀ t : Fin cfg0.N, win0_8.index t = ![0, t.val / 8] ∧ win0_9.index t = ![0, t.val / 8]
    ∧ win0_10.index t = ![0, t.val / 8] ∧ win0_11.index t = ![0, t.val / 8]
    ∧ win0_12.index t = ![7 - t.val % 8, t.val / 8] ∧ win0_13.index t = ![7 - t.val % 8, t.val / 8] :=
  (by decide +kernel : ∀ t : Fin grid0.N, _)

/-- Row `r` of the tile of point `t`, as a row of the whole array. -/
def row (t : Fin cfg0.N) (r : Fin 256) : Fin 2048 := ⟨(7 - t.val % 8) * 256 + r.val, by omega⟩

/-- Column `k` of the tile of point `t`, among the columns of the gate. -/
def colg (t : Fin cfg0.N) (k : Fin 1408) : Fin 5632 :=
  ⟨t.val / 8 * 1408 + k.val, by have := t.isLt; have : cfg0.N = 16 := N_0; omega⟩

/-- Column `k` of the tile of point `t`, among the columns of the value. -/
def colv (t : Fin cfg0.N) (k : Fin 1408) : Fin 5632 :=
  ⟨2816 + (t.val / 8 * 1408 + k.val), by have := t.isLt; have : cfg0.N = 16 := N_0; omega⟩

/-- Column `k` of the tile of point `t`, in an array of one half's columns. -/
def colh (t : Fin cfg0.N) (k : Fin 1408) : Fin 2816 :=
  ⟨t.val / 8 * 1408 + k.val, by have := t.isLt; have : cfg0.N = 16 := N_0; omega⟩

/-- What goes into the convolution, in both halves. -/
abbrev hu (c : Dev nD) : FVec Ideal Cert.ConvRefIdeal.S2048x5632 .f32 :=
  val_main_v2 (F := Ideal) (m ((c : Thread nD τ).loc main_arg0)) (m ((c : Thread nD τ).loc main_arg1))

/-- What comes out of it. -/
abbrev cc (c : Dev nD) : FVec Ideal Cert.ConvRefIdeal.S2048x5632 .f32 :=
  val_main_v31 (F := Ideal) (m ((c : Thread nD τ).loc main_arg0)) (m ((c : Thread nD τ).loc main_arg1)) (m ((c : Thread nD τ).loc main_arg2)) (m ((c : Thread nD τ).loc main_arg3))

/-- The gradient at the gate's result. -/
abbrev dact (c : Dev nD) : FVec Ideal Cert.ConvRefIdeal.S2048x2816 .f32 :=
  val_main_v38 (F := Ideal) (m ((c : Thread nD τ).loc main_arg4)) (m ((c : Thread nD τ).loc main_arg5))

/-- The gradient at the convolution's results, as the reference has it. -/
abbrev dc (c : Dev nD) : FVec Ideal Cert.ConvRefIdeal.S2048x5632 .f32 :=
  val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem read_dff (c : Dev nD) (t : Fin cfg0.N) (r : Fin 256) (k : Fin 1024) :
    iblk m c 0 t (ix2 r k) = (m ((c : Thread nD τ).loc main_arg5)) (ix3 0 (row t r) k) := by
  blk_simp [iblk, idx t]; entry_read; pointwise; blk_ext [idx t, row]

theorem read_w (c : Dev nD) (t : Fin cfg0.N) (k : Fin 1408) (j : Fin 1024) :
    iblk m c 1 t (ix2 k j) = (m ((c : Thread nD τ).loc main_arg4)) (ix3 0 (colh t k) j) := by
  blk_simp [iblk, idx t]; entry_read; pointwise; blk_ext [idx t, colh]

theorem read_hg (c : Dev nD) (t : Fin cfg0.N) (r : Fin 256) (k : Fin 1408) :
    iblk m c 2 t (ix2 r k) = hu m c (ix2 (row t r) (colg t k)) := by
  have h : V m c main_v34 = extractStridedSlice S2048x2816 ![0, 0] (hu m c) slices_S2048x5632_S2048x2816_0_0 := by entry_read; rfl
  blk_simp [iblk, idx t]; rw [h]; pointwise; blk_ext [idx t, row, colg]

theorem read_hv (c : Dev nD) (t : Fin cfg0.N) (r : Fin 256) (k : Fin 1408) :
    iblk m c 3 t (ix2 r k) = hu m c (ix2 (row t r) (colv t k)) := by
  have h : V m c main_v35 = extractStridedSlice S2048x2816 ![0, 2816] (hu m c) slices_S2048x5632_S2048x2816_0_2816 := by entry_read; rfl
  blk_simp [iblk, idx t]; rw [h]; pointwise; blk_ext [idx t, row, colv]

theorem read_cg (c : Dev nD) (t : Fin cfg0.N) (r : Fin 256) (k : Fin 1408) :
    iblk m c 4 t (ix2 r k) = cc m c (ix2 (row t r) (colg t k)) := by
  have h : V m c main_v36 = extractStridedSlice S2048x2816 ![0, 0] (cc m c) slices_S2048x5632_S2048x2816_0_0 := by entry_read; rfl
  blk_simp [iblk, idx t]; rw [h]; pointwise; blk_ext [idx t, row, colg]

theorem read_cv (c : Dev nD) (t : Fin cfg0.N) (r : Fin 256) (k : Fin 1408) :
    iblk m c 5 t (ix2 r k) = cc m c (ix2 (row t r) (colv t k)) := by
  have h : V m c main_v37 = extractStridedSlice S2048x2816 ![0, 2816] (cc m c) slices_S2048x5632_S2048x2816_0_2816 := by entry_read; rfl
  blk_simp [iblk, idx t]; rw [h]; pointwise; blk_ext [idx t, row, colv]

theorem read_cwg (c : Dev nD) (t : Fin cfg0.N) (r : Fin 3) (k : Fin 1408) :
    iblk m c 6 t (ix2 r k) = (m ((c : Thread nD τ).loc main_arg2)) (ix3 0 r (colg t k)) := by
  blk_simp [iblk, idx t]; entry_read; pointwise; blk_ext [idx t, colg]

theorem read_cwv (c : Dev nD) (t : Fin cfg0.N) (r : Fin 3) (k : Fin 1408) :
    iblk m c 7 t (ix2 r k) = (m ((c : Thread nD τ).loc main_arg2)) (ix3 0 r (colv t k)) := by
  blk_simp [iblk, idx t]; entry_read; pointwise; blk_ext [idx t, colv]

theorem place12 (t : Fin cfg0.N) (r : Fin 256) (k : Fin 1408) :
    ((cfg0.win 12).blk t).view.emb (ix2 r k) = ix2 (row t r) (colh t k) := by
  blk_ext [idx_out t, row, colh]

theorem place13 (t : Fin cfg0.N) (r : Fin 256) (k : Fin 1408) :
    ((cfg0.win 13).blk t).view.emb (ix2 r k) = ix2 (row t r) (colh t k) := by
  blk_ext [idx_out t, row, colh]

theorem place8 (t : Fin cfg0.N) (r : Fin 3) (k : Fin 1408) :
    ((cfg0.win 8).blk t).view.emb (ix2 r k) = ix2 r (colh t k) := by
  blk_ext [idx_out t, colh]

theorem place9 (t : Fin cfg0.N) (r : Fin 3) (k : Fin 1408) :
    ((cfg0.win 9).blk t).view.emb (ix2 r k) = ix2 r (colh t k) := by
  blk_ext [idx_out t, colh]

theorem place10 (t : Fin cfg0.N) (r : Fin 1) (k : Fin 1408) :
    ((cfg0.win 10).blk t).view.emb (ix2 r k) = ix2 r (colh t k) := by
  blk_ext [idx_out t, colh]

theorem place11 (t : Fin cfg0.N) (r : Fin 1) (k : Fin 1408) :
    ((cfg0.win 11).blk t).view.emb (ix2 r k) = ix2 r (colh t k) := by
  blk_ext [idx_out t, colh]

end Cert.ConvBwdIdeal.Value

end
-- ==== Proof.Conv.Real.lean ====
module

public import proofs.«01_k».proof.Defs
public import Idealize.ShloMosaic.Lib.Pipeline.ValueKit

@[expose] public section

noncomputable section

open Idealize.ShloMosaic Idealize.ShloMosaic.TcCoe Idealize.SL.Sem

namespace Cert.Conv

/-- An extended real that is a real number. -/
def IsNum (x : EReal) : Prop := ∃ r : ℝ, x = r

theorem IsNum.zero : IsNum 0 := ⟨0, rfl⟩

theorem IsNum.add {x y : EReal} : IsNum x → IsNum y → IsNum (x + y) := by
  rintro ⟨a, rfl⟩ ⟨b, rfl⟩; exact ⟨a + b, (EReal.coe_add a b).symm⟩

theorem IsNum.mul {x y : EReal} : IsNum x → IsNum y → IsNum (x * y) := by
  rintro ⟨a, rfl⟩ ⟨b, rfl⟩; exact ⟨a * b, (EReal.coe_mul a b).symm⟩

/-- A finite sum of real numbers is one. -/
theorem IsNum.sum {ι : Type*} (s : Finset ι) {f : ι → EReal} (h : ∀ i, IsNum (f i)) : IsNum (∑ i ∈ s, f i) := by
  classical
  induction s using Finset.induction_on with
  | empty => exact ⟨0, by simp⟩
  | insert a s ha ih => rw [Finset.sum_insert ha]; exact (h a).add ih

/-- What the precondition tests of an entry says that the entry is a real number. -/
theorem IsNum.of_test {x : EReal} (h : Ideal.cmp .olt (max x (-x)) (Ideal.ofBits .f32 0x7F800000#32) = 1#1) : IsNum x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- The derivative of `c · logistic c`, in the factored form and as the sum of the product rule: equal at real numbers. -/
theorem gate_deriv {G c : EReal} (hG : IsNum G) (hc : IsNum c) :
    G * (Ideal.logistic c * (1 + c * (1 - Ideal.logistic c)))
      = G * Ideal.logistic c + c * G * (Ideal.logistic c * (1 - Ideal.logistic c)) := by
  obtain ⟨g, rfl⟩ := hG
  obtain ⟨c, rfl⟩ := hc
  rw [Ideal.logistic_coe]
  generalize (1 + Real.exp (-c))⁻¹ = l
  norm_cast
  ring

end Cert.Conv

end
-- ==== Proof.Conv.Num.lean ====
module

public import proofs.«01_k».proof.Proof.Gen.ConvBwdIdeal.Value
public import proofs.«01_k».proof.Proof.Gen.ConvRefIdeal.Read
public import proofs.«01_k».proof.Proof.Conv.Base
public import proofs.«01_k».proof.Proof.Conv.Real
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvBwdIdeal.Value

open Cert.ConvBwdIdeal Cert.ConvBwdIdeal.Gen Cert.ConvRefIdeal.Read

variable (m : (ℓ : Loc nD τ sig) → Buf (Elt Ideal) ℓ)

/-- The precondition of argument 0, entry by entry. -/
theorem num_arg0 [Cert.Pre_conv_finite.Facts] (hpre : Cert.Pre_ConvBwdIdeal_conv_finite m) (c : Dev nD) (i) :
    Conv.IsNum ((m ((c : Thread nD τ).loc main_arg0)) i) :=
  Conv.IsNum.of_test (congrFun (hpre c).1 i)

/-- The precondition of argument 1, entry by entry. -/
theorem num_arg1 [Cert.Pre_conv_finite.Facts] (hpre : Cert.Pre_ConvBwdIdeal_conv_finite m) (c : Dev nD) (i) :
    Conv.IsNum ((m ((c : Thread nD τ).loc main_arg1)) i) :=
  Conv.IsNum.of_test (congrFun (hpre c).2.1 i)

/-- The precondition of argument 2, entry by entry. -/
theorem num_arg2 [Cert.Pre_conv_finite.Facts] (hpre : Cert.Pre_ConvBwdIdeal_conv_finite m) (c : Dev nD) (i) :
    Conv.IsNum ((m ((c : Thread nD τ).loc main_arg2)) i) :=
  Conv.IsNum.of_test (congrFun (hpre c).2.2.1 i)

/-- The precondition of argument 3, entry by entry. -/
theorem num_arg3 [Cert.Pre_conv_finite.Facts] (hpre : Cert.Pre_ConvBwdIdeal_conv_finite m) (c : Dev nD) (i) :
    Conv.IsNum ((m ((c : Thread nD τ).loc main_arg3)) i) :=
  Conv.IsNum.of_test (congrFun (hpre c).2.2.2.1 i)

/-- The precondition of argument 4, entry by entry. -/
theorem num_arg4 [Cert.Pre_conv_finite.Facts] (hpre : Cert.Pre_ConvBwdIdeal_conv_finite m) (c : Dev nD) (i) :
    Conv.IsNum ((m ((c : Thread nD τ).loc main_arg4)) i) :=
  Conv.IsNum.of_test (congrFun (hpre c).2.2.2.2.1 i)

/-- The precondition of argument 5, entry by entry. -/
theorem num_arg5 [Cert.Pre_conv_finite.Facts] (hpre : Cert.Pre_ConvBwdIdeal_conv_finite m) (c : Dev nD) (i) :
    Conv.IsNum ((m ((c : Thread nD τ).loc main_arg5)) i) :=
  Conv.IsNum.of_test (congrFun (hpre c).2.2.2.2.2 i)

/-- The gradient at the gate's result is a real number. -/
theorem num_dact [Cert.Pre_conv_finite.Facts] (hpre : Cert.Pre_ConvBwdIdeal_conv_finite m) (c : Dev nD) (i : Fin 2048) (j : Fin 2816) :
    Conv.IsNum (dact m c (ix2 i j)) := by
  pointwise [dact, val_main_v38, val_main_v37, val_main_v36, val_main_v35, val_main_v34]
  exact .sum _ fun k => .mul (num_arg5 m hpre c _) (num_arg4 m hpre c _)

/-- So is what goes into the convolution. -/
theorem num_hu [Cert.Pre_conv_finite.Facts] (hpre : Cert.Pre_ConvBwdIdeal_conv_finite m) (c : Dev nD) (i : Fin 2048) (j : Fin 5632) :
    Conv.IsNum (hu m c (ix2 i j)) := by
  pointwise [hu, val_main_v2, val_main_v1, val_main_v0]
  exact .sum _ fun k => .mul (num_arg0 m hpre c _) (num_arg1 m hpre c _)

/-- What goes into the convolution, preceded by its two rows of zeros. -/
abbrev hp (c : Dev nD) : FVec Ideal Cert.ConvRefIdeal.S2050x5632 .f32 :=
  val_main_v7 (F := Ideal) (m ((c : Thread nD τ).loc main_arg0)) (m ((c : Thread nD τ).loc main_arg1))

/-- Its first two rows are zero. -/
theorem hp_zero (c : Dev nD) (i : Fin 2050) (j : Fin 5632) (h : i.val < 2) : hp m c (ix2 i j) = 0 := by
  pointwise [hp, val_main_v7, val_main_v6, val_main_cst]
  rw [dif_pos h]

/-- The others are the given rows. -/
theorem hp_row (c : Dev nD) (i : Fin 2048) (j : Fin 5632) (l : Fin 2050) (h : l.val = i.val + 2) : hp m c (ix2 l j) = hu m c (ix2 i j) := by
  pointwise [hp, val_main_v7]
  rw [dif_neg (by omega)]
  exact congrArg (fun a => hu m c (ix2 a j)) (Fin.ext (show l.val - 2 = i.val by omega))

theorem num_hp [Cert.Pre_conv_finite.Facts] (hpre : Cert.Pre_ConvBwdIdeal_conv_finite m) (c : Dev nD) (i : Fin 2050) (j : Fin 5632) :
    Conv.IsNum (hp m c (ix2 i j)) := by
  by_cases h : i.val < 2
  · rw [hp_zero m c i j h]; exact .zero
  · rw [hp_row m c ⟨i.val - 2, by omega⟩ j i (by simp only; omega)]; exact num_hu m hpre c _ j

/-- What comes out of the convolution is a real number. -/
theorem num_cc [Cert.Pre_conv_finite.Facts] (hpre : Cert.Pre_ConvBwdIdeal_conv_finite m) (c : Dev nD) (i : Fin 2048) (j : Fin 5632) :
    Conv.IsNum (cc m c (ix2 i j)) := by
  pointwise [cc, val_main_v3, val_main_v4, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31]
  exact .add (.add (.add (num_arg3 m hpre c _) (.mul (num_arg2 m hpre c _) (num_hp m hpre c _ _))) (.mul (num_arg2 m hpre c _) (num_hp m hpre c _ _))) (.mul (num_arg2 m hpre c _) (num_hp m hpre c _ _))

end Cert.ConvBwdIdeal.Value

end
-- ==== Proof.Conv.Grad.lean ====
module

public import proofs.«01_k».proof.Proof.Conv.Num

@[expose] public section

set_option maxRecDepth 16384

noncomputable section

open Idealize.ShloMosaic Idealize.ShloMosaic.TcCoe Idealize.SL.Sem
open Idealize.ShloMosaic.Pipeline (Dat)

namespace Cert.ConvBwdIdeal.Value

open Cert.ConvBwdIdeal Cert.ConvBwdIdeal.Gen Cert.ConvRefIdeal.Read

variable (m : (ℓ : Loc nD τ sig) → Buf (Elt Ideal) ℓ)

theorem dact_at (c : Dev nD) (t : Fin cfg0.N) (r : Fin 256) (k : Fin 1408) :
    k0_pay7 (F := Ideal) (iblk m c 0 t) (iblk m c 1 t) (ix2 r k) = dact m c (ix2 (row t r) (colh t k)) := by
  pointwise [k0_pay7, dact, val_main_v38, val_main_v5, val_main_v37]
  simp only [read_dff, read_w]

theorem dcv_at (c : Dev nD) (t : Fin cfg0.N) (r : Fin 256) (k : Fin 1408) :
    k0_pay10 (F := Ideal) (iblk m c 0 t) (iblk m c 1 t) (iblk m c 4 t) (ix2 r k) = dc m c (ix2 (row t r) (colv t k)) := by
  pointwise [k0_pay10, k0_pay9, k0_pay8, dc, val_main_v44, val_main_v41, val_main_v43, val_main_v39, val_main_v32, val_main_cst, val_main_cst_0, val_main_call0_v0, val_main_call0_v1, val_main_call0_cst, val_main_call0_v2, val_main_call0_v3, val_main_call0_cst_0, val_main_call0_v4, val_main_v33_2, val_main_call0_cst_1, val_main_call0_v6, val_main_call0_v7, val_main_v33_1, val_main_v33_0, val_main_v40, val_main_cst_1, val_main_call1_v0, val_main_call1_v1, val_main_call1_v2, val_main_v42, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  simp only [dact_at, read_cg]
  rw [dif_pos ⟨by simp only [colv]; omega, by have := (colh t k).isLt; simp only [colv]; simp only [colh] at this; omega⟩,
    dif_neg (by simp only [colv]; omega)]
  have e : ∀ h, (⟨(colv t k).val - 2816, h⟩ : Fin 5632) = colg t k := fun h => Fin.ext (by simp only [colv, colg]; omega)
  have e' : ∀ h, (⟨(colv t k).val - 2816, h⟩ : Fin 2816) = colh t k := fun h => Fin.ext (by simp only [colv, colh]; omega)
  simp only [e, e']
  rw [add_zero, mul_comm]
  rfl

theorem dcg_at [Cert.Pre_conv_finite.Facts] (hpre : Cert.Pre_ConvBwdIdeal_conv_finite m) (c : Dev nD) (t : Fin cfg0.N) (r : Fin 256) (k : Fin 1408) :
    k0_pay11 (F := Ideal) (iblk m c 0 t) (iblk m c 1 t) (iblk m c 4 t) (iblk m c 5 t) (ix2 r k) = dc m c (ix2 (row t r) (colg t k)) := by
  pointwise [k0_pay11, k0_pay9, k0_pay8, dc, val_main_v44, val_main_v41, val_main_v43, val_main_v39, val_main_v32, val_main_v34, val_main_cst, val_main_cst_0, val_main_call0_v0, val_main_call0_v1, val_main_call0_cst, val_main_call0_v2, val_main_call0_v3, val_main_call0_cst_0, val_main_call0_v4, val_main_v33_2, val_main_call0_cst_1, val_main_call0_v6, val_main_call0_v7, val_main_v33_1, val_main_v33_0, val_main_v40, val_main_cst_1, val_main_call1_v0, val_main_call1_v1, val_main_call1_v2, val_main_v42, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  simp only [dact_at, read_cg, read_cv]
  have hk : t.val / 8 * 1408 + k.val < 2816 := (colh t k).isLt
  rw [dif_neg (by simp only [colg]; omega), dif_pos (by simp only [colg]; omega)]
  have e : ∀ h, (⟨2816 + (colg t k).val, h⟩ : Fin 5632) = colv t k := fun h => Fin.ext (by simp only [colv, colg])
  have e' : ∀ h, (⟨(colg t k).val, h⟩ : Fin 2816) = colh t k := fun h => Fin.ext (by simp only [colg, colh])
  have e'' : ∀ h, (⟨(colg t k).val, h⟩ : Fin 5632) = colg t k := fun h => rfl
  simp only [e, e', e'']
  rw [zero_add]
  exact Conv.gate_deriv ((num_dact m hpre c (row t r) (colh t k)).mul (num_cc m hpre c (row t r) (colv t k)))
    (num_cc m hpre c (row t r) (colg t k))

end Cert.ConvBwdIdeal.Value

end
-- ==== Proof.Conv.Shift.lean ====
module

public import proofs.«01_k».proof.Proof.Gen.ConvBwdIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvBwdIdeal.Value

open Cert.ConvBwdIdeal Cert.ConvBwdIdeal.Gen

variable (d : FVec Ideal S256x1408 .f32) (a : FVec Ideal S8x1408 .f32) (w : FVec Ideal S3x1408 .f32) (f : ℕ → Fin 1408 → EReal)

/-- A compare of two row numbers, chosen by. -/
theorem select_row (i j : ℕ) (hi : i < 256) (hj : j < 256) (x y : EReal) :
    Scalar.select (IntOp.cmpi .eq (BitVec.ofNat 32 i) (BitVec.ofNat 32 j)) x y = if i = j then x else y := by
  have e : BitVec.ofNat 32 i = BitVec.ofNat 32 j ↔ i = j := by
    rw [← BitVec.toNat_inj, BitVec.toNat_ofNat, BitVec.toNat_ofNat, Nat.mod_eq_of_lt (by omega), Nat.mod_eq_of_lt (by omega)]
  by_cases h : i = j
  · subst h; simp [Scalar.select, IntOp.cmpi]
  · have hb : (BitVec.ofNat 32 i == BitVec.ofNat 32 j) = false := by rw [beq_eq_false_iff_ne]; exact fun h' => h (e.mp h')
    simp [Scalar.select, IntOp.cmpi, h, hb]

/-- A row is taken out of a block by a sum of the block masked to that row. -/
theorem sum_row {n : ℕ} (hn : n ≤ 256) (g : Fin n → EReal) (j : ℕ) (hj : j < n) :
    ∑ x : Fin n, Scalar.select (IntOp.cmpi .eq (BitVec.ofNat 32 x.val) (BitVec.ofNat 32 j)) (g x) 0 = g ⟨j, hj⟩ := by
  rw [Finset.sum_eq_single (⟨j, hj⟩ : Fin n)]
  · rw [select_row _ _ (by omega) (by omega), if_pos rfl]
  · intro x _ hx
    rw [select_row _ _ (by omega) (by omega), if_neg fun h => hx (Fin.ext h)]
  · exact fun h => absurd (Finset.mem_univ _) h

/-- The first row of the block of later rows, on every row of the tile. -/
theorem pay14_at (r : Fin 256) (k : Fin 1408) : k0_pay14 a (ix2 r k) = a (ix2 0 k) := by
  pointwise [k0_pay14]
  exact sum_row (by omega) (fun x => a (ix2 x k)) 0 (by omega)

/-- The tile's rows shifted up by one, the later row coming in at the end. -/
theorem u1g_at (hd : ∀ r k, d (ix2 r k) = f r.val k) (ha : ∀ r k, a (ix2 r k) = f (256 + r.val) k) (r : Fin 256) (k : Fin 1408) :
    k0_pay15 k0_pay12 (dynamicRotate 0 255#32 none d rotates_S256x1408_d0) (k0_pay14 a) (ix2 r k) = f (r.val + 1) k := by
  pointwise [k0_pay15, k0_pay12]
  refine (select_row r.val 255 (by omega) (by omega) _ _).trans ?_
  rw [pay14_at, ha, hd]
  split_ifs with h
  · exact congrArg (f · k) (by simp [h])
  · exact congrArg (f · k) (by simp only; omega)

/-- The tile's rows shifted up by two. -/
theorem u2g_at (hd : ∀ r k, d (ix2 r k) = f r.val k) (ha : ∀ r k, a (ix2 r k) = f (256 + r.val) k) (r : Fin 256) (k : Fin 1408) :
    k0_pay16 a k0_pay12 (dynamicRotate 0 255#32 none d rotates_S256x1408_d0) (k0_pay14 a) (ix2 r k) = f (r.val + 2) k := by
  pointwise [k0_pay16]
  refine (select_row r.val 255 (by omega) (by omega) _ _).trans ?_
  rw [show _ = f (256 + 1) k from (sum_row (by omega) (fun x => a (ix2 x k)) 1 (by omega)).trans (ha _ k), u1g_at d a f hd ha]
  split_ifs with h
  · exact congrArg (f · k) (by simp [h])
  · exact congrArg (f · k) (by simp only; omega)

/-- The gradient of the gate's half of the convolution's input. -/
theorem dxg_at (hd : ∀ r k, d (ix2 r k) = f r.val k) (ha : ∀ r k, a (ix2 r k) = f (256 + r.val) k) (r : Fin 256) (k : Fin 1408) :
    k0_pay20 (k0_pay16 a k0_pay12 (dynamicRotate 0 255#32 none d rotates_S256x1408_d0) (k0_pay14 a))
        (k0_pay18 d k0_pay12 (dynamicRotate 0 255#32 none d rotates_S256x1408_d0) (k0_pay14 a) w) (k0_pay19 w) (ix2 r k)
      = w (ix2 2 k) * f r.val k + w (ix2 1 k) * f (r.val + 1) k + w (ix2 0 k) * f (r.val + 2) k := by
  pointwise [k0_pay20, k0_pay18, k0_pay19, k0_pay17]
  rw [u1g_at d a f hd ha, u2g_at d a f hd ha, hd]
  refine congrArg₂ (· + ·) (congrArg₂ (· + ·) ?_ ?_) ?_
  · exact congrArg (· * _) (sum_row (by omega) (fun x => w (ix2 x k)) 2 (by omega))
  · exact congrArg (· * _) (sum_row (by omega) (fun x => w (ix2 x k)) 1 (by omega))
  · exact congrArg (· * _) (sum_row (by omega) (fun x => w (ix2 x k)) 0 (by omega))

/-- What a point adds to the gradient of the taps. -/
theorem dwg_at (x : FVec Ideal S256x1408 .f32) (hd : ∀ r k, d (ix2 r k) = f r.val k) (ha : ∀ r k, a (ix2 r k) = f (256 + r.val) k) (s : Fin 3) (k : Fin 1408) :
    k0_pay21 d (k0_pay15 k0_pay12 (dynamicRotate 0 255#32 none d rotates_S256x1408_d0) (k0_pay14 a))
        (k0_pay16 a k0_pay12 (dynamicRotate 0 255#32 none d rotates_S256x1408_d0) (k0_pay14 a)) x w (ix2 s k)
      = w (ix2 s k) + ∑ r : Fin 256, f (r.val + (2 - s.val)) k * x (ix2 r k) := by
  pointwise [k0_pay21]
  simp only [u1g_at d a f hd ha, u2g_at d a f hd ha, hd]
  refine congrArg (_ + ·) ?_
  split_ifs with h h'
  · rw [show 2 - s.val = 2 by omega]
  · rw [show 2 - s.val = 1 by omega]
  · rw [show 2 - s.val = 0 by omega]; rfl

/-- What a point adds to the gradient of the bias. -/
theorem dbg_at (x : FVec Ideal S1x1408 .f32) (hd : ∀ r k, d (ix2 r k) = f r.val k) (s : Fin 1) (k : Fin 1408) :
    k0_pay22 d x (ix2 s k) = x (ix2 s k) + ∑ r : Fin 256, f r.val k := by
  pointwise [k0_pay22]
  simp only [hd]

/-- The same shifts in the value's half. -/
theorem u1v_at (hd : ∀ r k, d (ix2 r k) = f r.val k) (ha : ∀ r k, a (ix2 r k) = f (256 + r.val) k) (r : Fin 256) (k : Fin 1408) :
    k0_pay25 d a k0_pay24 (0 : EReal) (ix2 r k) = f (r.val + 1) k := by
  pointwise [k0_pay25, k0_pay24]
  refine (select_row r.val 255 (by omega) (by omega) _ _).trans ?_
  rw [show _ = f (256 + 0) k from (sum_row (by omega) (fun x => a (ix2 x k)) 0 (by omega)).trans (ha _ k), hd]
  split_ifs with h
  · exact congrArg (f · k) (by simp [h])
  · exact congrArg (f · k) (by simp only; omega)

theorem u2v_at (hd : ∀ r k, d (ix2 r k) = f r.val k) (ha : ∀ r k, a (ix2 r k) = f (256 + r.val) k) (r : Fin 256) (k : Fin 1408) :
    k0_pay26 d a k0_pay24 (0 : EReal) (ix2 r k) = f (r.val + 2) k := by
  pointwise [k0_pay26]
  refine (select_row r.val 255 (by omega) (by omega) _ _).trans ?_
  rw [show _ = f (256 + 1) k from (sum_row (by omega) (fun x => a (ix2 x k)) 1 (by omega)).trans (ha _ k), u1v_at d a f hd ha]
  split_ifs with h
  · exact congrArg (f · k) (by simp [h])
  · exact congrArg (f · k) (by simp only; omega)

/-- The gradient of the value's half of the convolution's input. -/
theorem dxv_at (hd : ∀ r k, d (ix2 r k) = f r.val k) (ha : ∀ r k, a (ix2 r k) = f (256 + r.val) k) (r : Fin 256) (k : Fin 1408) :
    k0_pay30 (k0_pay25 d a k0_pay24 (FloatOps.ofBits FTy.f32 0#32)) (k0_pay26 d a k0_pay24 (FloatOps.ofBits FTy.f32 0#32))
        (k0_pay27 w) (k0_pay28 d w) (k0_pay29 w) (ix2 r k)
      = w (ix2 2 k) * f r.val k + w (ix2 1 k) * f (r.val + 1) k + w (ix2 0 k) * f (r.val + 2) k := by
  pointwise [k0_pay30, k0_pay28, k0_pay29, k0_pay27]
  rw [u1v_at d a f hd ha, u2v_at d a f hd ha, hd]
  refine congrArg₂ (· + ·) (congrArg₂ (· + ·) ?_ ?_) ?_
  · exact congrArg (· * _) (sum_row (by omega) (fun x => w (ix2 x k)) 2 (by omega))
  · exact congrArg (· * _) (sum_row (by omega) (fun x => w (ix2 x k)) 1 (by omega))
  · exact congrArg (· * _) (sum_row (by omega) (fun x => w (ix2 x k)) 0 (by omega))

/-- What a point adds to the gradient of the taps. -/
theorem dwv_at (x : FVec Ideal S256x1408 .f32) (hd : ∀ r k, d (ix2 r k) = f r.val k) (ha : ∀ r k, a (ix2 r k) = f (256 + r.val) k) (s : Fin 3) (k : Fin 1408) :
    k0_pay31 d (k0_pay25 d a k0_pay24 (FloatOps.ofBits FTy.f32 0#32)) (k0_pay26 d a k0_pay24 (FloatOps.ofBits FTy.f32 0#32)) x w (ix2 s k)
      = w (ix2 s k) + ∑ r : Fin 256, f (r.val + (2 - s.val)) k * x (ix2 r k) := by
  pointwise [k0_pay31]
  simp only [u1v_at d a f hd ha, u2v_at d a f hd ha, hd]
  refine congrArg (_ + ·) ?_
  split_ifs with h h'
  · rw [show 2 - s.val = 2 by omega]
  · rw [show 2 - s.val = 1 by omega]
  · rw [show 2 - s.val = 0 by omega]; rfl

/-- What a point adds to the gradient of the bias. -/
theorem dbv_at (x : FVec Ideal S1x1408 .f32) (hd : ∀ r k, d (ix2 r k) = f r.val k) (s : Fin 1) (k : Fin 1408) :
    k0_pay32 d x (ix2 s k) = x (ix2 s k) + ∑ r : Fin 256, f r.val k := by
  pointwise [k0_pay32]
  simp only [hd]

end Cert.ConvBwdIdeal.Value

end
-- ==== Proof.Conv.Points.lean ====
module

public import proofs.«01_k».proof.Proof.Conv.Grad
public import proofs.«01_k».proof.Proof.Conv.Shift
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ConvBwdIdeal.Value

open Cert.ConvBwdIdeal Cert.ConvBwdIdeal.Gen Cert.ConvRefIdeal.Read

variable (m : (ℓ : Loc nD τ sig) → Buf (Elt Ideal) ℓ)

/-- The gradient at the convolution's results, by the number of the row: zero past the last row. -/
def D (c : Dev nD) (n : ℕ) (j : Fin 5632) : EReal := if h : n < 2048 then dc m c (ix2 ⟨n, h⟩ j) else 0

theorem D_row (c : Dev nD) (i : Fin 2048) (j : Fin 5632) : D m c i.val j = dc m c (ix2 i j) := dif_pos i.isLt

theorem D_end (c : Dev nD) (n : ℕ) (j : Fin 5632) (h : 2048 ≤ n) : D m c n j = 0 := dif_neg (by omega)

/-- The rows of `D` from the first row of the tile of point `t` on, in the gate's columns. -/
def tileg (c : Dev nD) (t : Fin cfg0.N) (n : ℕ) (k : Fin 1408) : EReal := D m c ((7 - t.val % 8) * 256 + n) (colg t k)

/-- The same in the value's columns. -/
def tilev (c : Dev nD) (t : Fin cfg0.N) (n : ℕ) (k : Fin 1408) : EReal := D m c ((7 - t.val % 8) * 256 + n) (colv t k)

theorem pay11_tile [Cert.Pre_conv_finite.Facts] (hpre : Cert.Pre_ConvBwdIdeal_conv_finite m) (c : Dev nD) (t : Fin cfg0.N) (r : Fin 256) (k : Fin 1408) :
    k0_pay11 (F := Ideal) (iblk m c 0 t) (iblk m c 1 t) (iblk m c 4 t) (iblk m c 5 t) (ix2 r k) = tileg m c t r.val k :=
  (dcg_at m hpre c t r k).trans (D_row m c (row t r) (colg t k)).symm

theorem pay10_tile (c : Dev nD) (t : Fin cfg0.N) (r : Fin 256) (k : Fin 1408) :
    k0_pay10 (F := Ideal) (iblk m c 0 t) (iblk m c 1 t) (iblk m c 4 t) (ix2 r k) = tilev m c t r.val k :=
  (dcv_at m c t r k).trans (D_row m c (row t r) (colv t k)).symm

/-- Past the last tile there is nothing. -/
theorem tileg_end (c : Dev nD) (t : Fin cfg0.N) (h : t.val % 8 = 0) (r : ℕ) (k : Fin 1408) : tileg m c t (256 + r) k = 0 :=
  D_end m c _ _ (by omega)

theorem tilev_end (c : Dev nD) (t : Fin cfg0.N) (h : t.val % 8 = 0) (r : ℕ) (k : Fin 1408) : tilev m c t (256 + r) k = 0 :=
  D_end m c _ _ (by omega)

/-- The rows after a tile are those of the tile of the point before. -/
theorem tileg_next (c : Dev nD) (t : Fin cfg0.N) (h : ¬ t.val % 8 = 0) (hl : t.val - 1 < cfg0.N) (r : ℕ) (k : Fin 1408) :
    tileg m c t (256 + r) k = tileg m c ⟨t.val - 1, hl⟩ r k :=
  congrArg₂ (D m c) (by simp only; omega) (Fin.ext (by simp only [colg]; omega))

theorem tilev_next (c : Dev nD) (t : Fin cfg0.N) (h : ¬ t.val % 8 = 0) (hl : t.val - 1 < cfg0.N) (r : ℕ) (k : Fin 1408) :
    tilev m c t (256 + r) k = tilev m c ⟨t.val - 1, hl⟩ r k :=
  congrArg₂ (D m c) (by simp only; omega) (Fin.ext (by simp only [colv]; omega))

/-- The scratch's upper half, whatever was stored before. -/
theorem canon_upper (wv wg : S8x1408.Idx → Elt Ideal .f32) (L) (r : Fin 8) (k : Fin 1408) (h : r.val < 16) :
    View.canon (Val := Elt Ideal) (⟨Rect.unit ![8, 0] ![8, 1408] inb_S16x1408_S8x1408_8_0, wv⟩ :: ⟨Rect.unit ![0, 0] ![8, 1408] inb_S16x1408_S8x1408_0_0, wg⟩ :: L)
      (ix2 ⟨r.val, h⟩ k) = wg (ix2 r k) := by
  have e : ix2 ⟨r.val, h⟩ k = (Rect.unit (s := S16x1408) ![0, 0] ![8, 1408] inb_S16x1408_S8x1408_0_0).toLoadRect.idx (ix2 r k) :=
    funext fun a => Fin.ext (match a with
      | ⟨0, _⟩ => by show r.val = 0 + 1 * r.val; omega
      | ⟨1, _⟩ => by show k.val = 0 + 1 * k.val; omega)
  rw [e]
  have hn : (Rect.unit (s := S16x1408) ![0, 0] ![8, 1408] inb_S16x1408_S8x1408_0_0).toLoadRect.idx (ix2 r k)
      ∉ (Rect.unit (s := S16x1408) ![8, 0] ![8, 1408] inb_S16x1408_S8x1408_8_0).set := LoadRect.idx_not_mem_of_disj (by decide) _
  exact (View.canon_cons_of_not_mem ⟨Rect.unit (s := S16x1408) ![8, 0] ![8, 1408] inb_S16x1408_S8x1408_8_0, wv⟩ _ hn).trans (View.canon_cons_emb _ _ _ _)

/-- The scratch's lower half. -/
theorem canon_lower (wv : S8x1408.Idx → Elt Ideal .f32) (L) (r : Fin 8) (k : Fin 1408) (h : 8 + r.val < 16) :
    View.canon (Val := Elt Ideal) (⟨Rect.unit ![8, 0] ![8, 1408] inb_S16x1408_S8x1408_8_0, wv⟩ :: L)
      (ix2 ⟨8 + r.val, h⟩ k) = wv (ix2 r k) := by
  have e : ix2 ⟨8 + r.val, h⟩ k = (Rect.unit (s := S16x1408) ![8, 0] ![8, 1408] inb_S16x1408_S8x1408_8_0).toLoadRect.idx (ix2 r k) :=
    funext fun a => Fin.ext (match a with
      | ⟨0, _⟩ => by show 8 + r.val = 8 + 1 * r.val; omega
      | ⟨1, _⟩ => by show k.val = 0 + 1 * k.val; omega)
  rw [e]
  exact View.canon_cons_emb _ _ _ _

/-- After a point the scratch's upper half holds the tile's first rows of the gate's gradient. -/
theorem scratch_upper [Cert.Pre_conv_finite.Facts] (hpre : Cert.Pre_ConvBwdIdeal_conv_finite m) (c : Dev nD) (t : Fin cfg0.N) (r : Fin 8) (k : Fin 1408) (h : r.val < 16) :
    (outsAt0 m c t.val t.isLt).2.2.2.2.2.2 (ix2 ⟨r.val, h⟩ k) = tileg m c t r.val k := by
  have hp : k0_pay23 (k0_pay11 (F := Ideal) (iblk m c 0 t) (iblk m c 1 t) (iblk m c 4 t) (iblk m c 5 t)) (ix2 r k) = tileg m c t r.val k := by
    pointwise [k0_pay23]
    exact pay11_tile m hpre c t ⟨r.val, by omega⟩ k
  by_cases h0 : t.val % 8 = 0
  · rw [outsAt0_A m c t h0]
    frame_out
    exact (canon_upper _ _ _ r k h).trans hp
  · rw [outsAt0_B m c t h0]
    frame_out
    exact (canon_upper _ _ _ r k h).trans hp

/-- And its lower half those of the value's gradient. -/
theorem scratch_lower (c : Dev nD) (t : Fin cfg0.N) (r : Fin 8) (k : Fin 1408) (h : 8 + r.val < 16) :
    (outsAt0 m c t.val t.isLt).2.2.2.2.2.2 (ix2 ⟨8 + r.val, h⟩ k) = tilev m c t r.val k := by
  have hp : k0_pay1 (k0_pay33 (k0_pay10 (F := Ideal) (iblk m c 0 t) (iblk m c 1 t) (iblk m c 4 t))) (ix2 r k) = tilev m c t r.val k := by
    pointwise [k0_pay1, k0_pay33]
    exact pay10_tile m c t ⟨r.val, by omega⟩ k
  by_cases h0 : t.val % 8 = 0
  · rw [outsAt0_A m c t h0]
    frame_out
    exact (canon_lower _ _ r k h).trans hp
  · rw [outsAt0_B m c t h0]
    frame_out
    exact (canon_lower _ _ r k h).trans hp

theorem pay2_at (x : S16x1408.Idx) : k0_pay2 (F := Ideal) x = 0 := by
  idx_vars x
  pointwise [k0_pay2]

/-- The rows a point loads: none before the first point, later those the point before left. -/
theorem load_upper_first {κ : Kind} {sp : Space} (v : View sig κ sp S16x1408 .f32) (c : Dev nD) (t : Fin cfg0.N) (h : t.val % 8 = 0) (r : Fin 8) (k : Fin 1408) :
    v.readCov (Val := Elt Ideal) [⟨Rect.unit (s := S16x1408) ![0, 0] ![16, 1408] inb_S16x1408_S16x1408_0_0, k0_pay2 (F := Ideal)⟩]
      (Rect.unit (s := S16x1408) ![0, 0] ![8, 1408] inb_S16x1408_S8x1408_0_0).toLoadRect (ix2 r k) = tileg m c t (256 + r.val) k :=
  (congrFun (View.readCov_fill _ _ _ _ _ (by decide)) _).trans ((pay2_at _).trans (tileg_end m c t h _ _).symm)

theorem load_lower_first {κ : Kind} {sp : Space} (v : View sig κ sp S16x1408 .f32) (c : Dev nD) (t : Fin cfg0.N) (h : t.val % 8 = 0) (w) (r : Fin 8) (k : Fin 1408) :
    v.readCov (Val := Elt Ideal) [⟨Rect.unit (s := S16x1408) ![0, 0] ![8, 1408] inb_S16x1408_S8x1408_0_0, w⟩,
        ⟨Rect.unit (s := S16x1408) ![0, 0] ![16, 1408] inb_S16x1408_S16x1408_0_0, k0_pay2 (F := Ideal)⟩]
      (Rect.unit (s := S16x1408) ![8, 0] ![8, 1408] inb_S16x1408_S8x1408_8_0).toLoadRect (ix2 r k) = tilev m c t (256 + r.val) k :=
  (congrFun (View.readCov_skip _ _ _ _ _ (by decide)) _).trans
    ((congrFun (View.readCov_fill _ _ _ _ _ (by decide)) _).trans ((pay2_at _).trans (tilev_end m c t h _ _).symm))

theorem load_upper [Cert.Pre_conv_finite.Facts] (hpre : Cert.Pre_ConvBwdIdeal_conv_finite m) (c : Dev nD) (t : Fin cfg0.N) (h : ¬ t.val % 8 = 0) (hl : t.val - 1 < cfg0.N) (hw : (Memref.whole cc0_scratch0).IsWhole) (r : Fin 8) (k : Fin 1408) :
    View.ld (View.read (Elt Ideal) (View.whole cc0_scratch0) (hw.unread (outsAt0 m c (t.val - 1) hl).2.2.2.2.2.2))
      (Rect.unit (s := S16x1408) ![0, 0] ![8, 1408] inb_S16x1408_S8x1408_0_0) (ix2 r k) = tileg m c t (256 + r.val) k := by
  rw [read_unread_whole, tileg_next m c t h hl]
  refine Eq.trans (congrArg (outsAt0 m c (t.val - 1) hl).2.2.2.2.2.2 ?_) (scratch_upper m hpre c ⟨t.val - 1, hl⟩ r k (by omega))
  exact funext fun a => Fin.ext (match a with
      | ⟨0, _⟩ => by show 0 + 1 * r.val = r.val; omega
      | ⟨1, _⟩ => by show 0 + 1 * k.val = k.val; omega)

theorem load_lower (c : Dev nD) (t : Fin cfg0.N) (h : ¬ t.val % 8 = 0) (hl : t.val - 1 < cfg0.N) (hw : (Memref.whole cc0_scratch0).IsWhole) (r : Fin 8) (k : Fin 1408) :
    View.ld (View.read (Elt Ideal) (View.whole cc0_scratch0) (hw.unread (outsAt0 m c (t.val - 1) hl).2.2.2.2.2.2))
      (Rect.unit (s := S16x1408) ![8, 0] ![8, 1408] inb_S16x1408_S8x1408_8_0) (ix2 r k) = tilev m c t (256 + r.val) k := by
  rw [read_unread_whole, tilev_next m c t h hl]
  refine Eq.trans (congrArg (outsAt0 m c (t.val - 1) hl).2.2.2.2.2.2 ?_) (scratch_lower m c ⟨t.val - 1, hl⟩ r k (by omega))
  exact funext fun a => Fin.ext (match a with
      | ⟨0, _⟩ => by show 8 + 1 * r.val = 8 + r.val; omega
      | ⟨1, _⟩ => by show 0 + 1 * k.val = k.val; omega)

end Cert.ConvBwdIdeal.Value

end
-- ==== Proof.Conv.Refs.lean ====
module

public import proofs.«01_k».proof.Proof.Conv.Points

@[expose] public section

set_option maxRecDepth 16384

noncomputable section

open Idealize.ShloMosaic Idealize.ShloMosaic.TcCoe Idealize.SL.Sem
open Idealize.ShloMosaic.Pipeline (Dat)

namespace Cert.ConvBwdIdeal.Value

open Cert.ConvBwdIdeal Cert.ConvBwdIdeal.Gen Cert.ConvRefIdeal.Read

variable (m : (ℓ : Loc nD τ sig) → Buf (Elt Ideal) ℓ)

/-- A tap's row of the convolution's weights. -/
abbrev tap (c : Dev nD) (s : Fin 3) (j : Fin 5632) : EReal := (m ((c : Thread nD τ).loc main_arg2)) (ix3 0 s j)

/-- The reference's gradient of the convolution's input, in the columns of the gate. -/
theorem ref88 (c : Dev nD) (i : Fin 2048) (j : Fin 2816) (l : Fin 5632) (hl : l = ⟨j.val, by omega⟩) :
    val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 i j)
      = tap m c 2 l * D m c i.val l + tap m c 1 l * D m c (i.val + 1) l + tap m c 0 l * D m c (i.val + 2) l := by
  subst hl
  pointwise [val_main_cst, val_main_cst_0, val_main_call0_cst, val_main_call0_cst_0, val_main_call0_cst_1, val_main_cst_1, val_main_cst_2, val_main_v45, val_main_v46, val_main_v47, val_main_cst_3, val_main_v48, val_main_v49, val_main_cst_4, val_main_v50, val_main_cst_5, val_main_v51, val_main_v52, val_main_cst_6, val_main_v53, val_main_v54, val_main_v55, val_main_v56, val_main_cst_7, val_main_v57, val_main_v58, val_main_cst_8, val_main_v59, val_main_cst_9, val_main_v60, val_main_v61, val_main_v62, val_main_cst_10, val_main_v63, val_main_v64, val_main_cst_11, val_main_v65, val_main_v66, val_main_cst_12, val_main_v67, val_main_v68, val_main_v69, val_main_v70, val_main_cst_13, val_main_v71, val_main_v72, val_main_cst_14, val_main_v73, val_main_cst_15, val_main_v74, val_main_v75, val_main_v76, val_main_cst_16, val_main_v77, val_main_v78, val_main_v79, val_main_v80, val_main_v81, val_main_v82, val_main_v83, val_main_v84, val_main_v85, val_main_v86, val_main_v87, val_main_v88, val_main_v89, val_main_v90, val_main_v3, val_main_v9, val_main_v10, val_main_v12, val_main_v18, val_main_v19, val_main_v21, val_main_v25, val_main_v26, val_main_v28]
  simp only [← D_row]
  refine congrArg₂ (· + ·) (congrArg₂ (· + ·) ?_ ?_) ?_
  · split_ifs with h
    · rfl
    · exact absurd (by omega) h
  · split_ifs with h
    · exact congrArg (fun n => tap m c 1 _ * D m c n _) (show 2 + i.val - 1 = i.val + 1 by omega)
    · exact ((congrArg (tap m c 1 _ * ·) (D_end m c (i.val + 1) _ (by omega))).trans (mul_zero _)).symm
  · split_ifs with h
    · exact congrArg (fun n => tap m c 0 _ * D m c n _) (show 2 + i.val = i.val + 2 by omega)
    · exact ((congrArg (tap m c 0 _ * ·) (D_end m c (i.val + 2) _ (by omega))).trans (mul_zero _)).symm

/-- The reference's gradient of the convolution's input, in the columns of the value. -/
theorem ref90 (c : Dev nD) (i : Fin 2048) (j : Fin 2816) (l : Fin 5632) (hl : l = ⟨2816 + j.val, by omega⟩) :
    val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 i j)
      = tap m c 2 l * D m c i.val l + tap m c 1 l * D m c (i.val + 1) l + tap m c 0 l * D m c (i.val + 2) l := by
  subst hl
  pointwise [val_main_cst, val_main_cst_0, val_main_call0_cst, val_main_call0_cst_0, val_main_call0_cst_1, val_main_cst_1, val_main_cst_2, val_main_v45, val_main_v46, val_main_v47, val_main_cst_3, val_main_v48, val_main_v49, val_main_cst_4, val_main_v50, val_main_cst_5, val_main_v51, val_main_v52, val_main_cst_6, val_main_v53, val_main_v54, val_main_v55, val_main_v56, val_main_cst_7, val_main_v57, val_main_v58, val_main_cst_8, val_main_v59, val_main_cst_9, val_main_v60, val_main_v61, val_main_v62, val_main_cst_10, val_main_v63, val_main_v64, val_main_cst_11, val_main_v65, val_main_v66, val_main_cst_12, val_main_v67, val_main_v68, val_main_v69, val_main_v70, val_main_cst_13, val_main_v71, val_main_v72, val_main_cst_14, val_main_v73, val_main_cst_15, val_main_v74, val_main_v75, val_main_v76, val_main_cst_16, val_main_v77, val_main_v78, val_main_v79, val_main_v80, val_main_v81, val_main_v82, val_main_v83, val_main_v84, val_main_v85, val_main_v86, val_main_v87, val_main_v88, val_main_v89, val_main_v90, val_main_v3, val_main_v9, val_main_v10, val_main_v12, val_main_v18, val_main_v19, val_main_v21, val_main_v25, val_main_v26, val_main_v28]
  simp only [← D_row]
  refine congrArg₂ (· + ·) (congrArg₂ (· + ·) ?_ ?_) ?_
  · split_ifs with h
    · rfl
    · exact absurd (by omega) h
  · split_ifs with h
    · exact congrArg (fun n => tap m c 1 _ * D m c n _) (show 2 + i.val - 1 = i.val + 1 by omega)
    · exact ((congrArg (tap m c 1 _ * ·) (D_end m c (i.val + 1) _ (by omega))).trans (mul_zero _)).symm
  · split_ifs with h
    · exact congrArg (fun n => tap m c 0 _ * D m c n _) (show 2 + i.val = i.val + 2 by omega)
    · exact ((congrArg (tap m c 0 _ * ·) (D_end m c (i.val + 2) _ (by omega))).trans (mul_zero _)).symm

/-- The reference's gradient of the taps, in the columns of the gate. -/
theorem ref81 (c : Dev nD) (s : Fin 3) (j : Fin 2816) (l : Fin 5632) (hl : l = ⟨j.val, by omega⟩) :
    val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 s j)
      = ∑ x : Fin 2048, D m c x.val l * hp m c (ix2 ⟨x.val + s.val, by omega⟩ l) := by
  subst hl
  pointwise [val_main_cst, val_main_cst_0, val_main_call0_cst, val_main_call0_cst_0, val_main_call0_cst_1, val_main_cst_1, val_main_cst_2, val_main_v45, val_main_v46, val_main_v47, val_main_cst_3, val_main_v48, val_main_v49, val_main_cst_4, val_main_v50, val_main_cst_5, val_main_v51, val_main_v52, val_main_cst_6, val_main_v53, val_main_v54, val_main_v55, val_main_v56, val_main_cst_7, val_main_v57, val_main_v58, val_main_cst_8, val_main_v59, val_main_cst_9, val_main_v60, val_main_v61, val_main_v62, val_main_cst_10, val_main_v63, val_main_v64, val_main_cst_11, val_main_v65, val_main_v66, val_main_cst_12, val_main_v67, val_main_v68, val_main_v69, val_main_v70, val_main_cst_13, val_main_v71, val_main_v72, val_main_cst_14, val_main_v73, val_main_cst_15, val_main_v74, val_main_v75, val_main_v76, val_main_cst_16, val_main_v77, val_main_v78, val_main_v79, val_main_v80, val_main_v81, val_main_v82, val_main_v83, val_main_v84, val_main_v85, val_main_v86, val_main_v87, val_main_v88, val_main_v89, val_main_v90, val_main_v11, val_main_v20, val_main_v27]
  simp only [← D_row]
  obtain ⟨s, hs⟩ := s
  interval_cases s
  all_goals dsimp only
  all_goals split_ifs
  all_goals first | (exfalso; omega) | skip
  · refine (congrArg (· + _) (zero_add 0)).trans ((zero_add _).trans ?_)
    exact Fin.sum_univ_one _
  · refine (add_zero _).trans ((zero_add _).trans ?_)
    refine (Fin.sum_univ_one _).trans (Finset.sum_congr rfl fun x _ => ?_)
    exact congrArg (fun a => D m c x.val _ * hp m c (ix2 a _)) (Fin.ext (show 1 + x.val = x.val + 1 by omega))
  · refine (add_zero _).trans ((add_zero _).trans ?_)
    refine (Fin.sum_univ_one _).trans (Finset.sum_congr rfl fun x _ => ?_)
    exact congrArg (fun a => D m c x.val _ * hp m c (ix2 a _)) (Fin.ext (show 2 + x.val = x.val + 2 by omega))

/-- The reference's gradient of the taps, in the columns of the value. -/
theorem ref82 (c : Dev nD) (s : Fin 3) (j : Fin 2816) (l : Fin 5632) (hl : l = ⟨2816 + j.val, by omega⟩) :
    val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 s j)
      = ∑ x : Fin 2048, D m c x.val l * hp m c (ix2 ⟨x.val + s.val, by omega⟩ l) := by
  subst hl
  pointwise [val_main_cst, val_main_cst_0, val_main_call0_cst, val_main_call0_cst_0, val_main_call0_cst_1, val_main_cst_1, val_main_cst_2, val_main_v45, val_main_v46, val_main_v47, val_main_cst_3, val_main_v48, val_main_v49, val_main_cst_4, val_main_v50, val_main_cst_5, val_main_v51, val_main_v52, val_main_cst_6, val_main_v53, val_main_v54, val_main_v55, val_main_v56, val_main_cst_7, val_main_v57, val_main_v58, val_main_cst_8, val_main_v59, val_main_cst_9, val_main_v60, val_main_v61, val_main_v62, val_main_cst_10, val_main_v63, val_main_v64, val_main_cst_11, val_main_v65, val_main_v66, val_main_cst_12, val_main_v67, val_main_v68, val_main_v69, val_main_v70, val_main_cst_13, val_main_v71, val_main_v72, val_main_cst_14, val_main_v73, val_main_cst_15, val_main_v74, val_main_v75, val_main_v76, val_main_cst_16, val_main_v77, val_main_v78, val_main_v79, val_main_v80, val_main_v81, val_main_v82, val_main_v83, val_main_v84, val_main_v85, val_main_v86, val_main_v87, val_main_v88, val_main_v89, val_main_v90, val_main_v11, val_main_v20, val_main_v27]
  simp only [← D_row]
  obtain ⟨s, hs⟩ := s
  interval_cases s
  all_goals dsimp only
  all_goals split_ifs
  all_goals first | (exfalso; omega) | skip
  · refine (congrArg (· + _) (zero_add 0)).trans ((zero_add _).trans ?_)
    exact Fin.sum_univ_one _
  · refine (add_zero _).trans ((zero_add _).trans ?_)
    refine (Fin.sum_univ_one _).trans (Finset.sum_congr rfl fun x _ => ?_)
    exact congrArg (fun a => D m c x.val _ * hp m c (ix2 a _)) (Fin.ext (show 1 + x.val = x.val + 1 by omega))
  · refine (add_zero _).trans ((add_zero _).trans ?_)
    refine (Fin.sum_univ_one _).trans (Finset.sum_congr rfl fun x _ => ?_)
    exact congrArg (fun a => D m c x.val _ * hp m c (ix2 a _)) (Fin.ext (show 2 + x.val = x.val + 2 by omega))

/-- The reference's gradient of the bias, in the columns of the gate. -/
theorem ref84 (c : Dev nD) (s : Fin 1) (j : Fin 2816) (l : Fin 5632) (hl : l = ⟨j.val, by omega⟩) :
    val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 s j) = ∑ x : Fin 2048, D m c x.val l := by
  subst hl
  pointwise [val_main_cst, val_main_cst_0, val_main_call0_cst, val_main_call0_cst_0, val_main_call0_cst_1, val_main_cst_1, val_main_cst_2, val_main_v45, val_main_v46, val_main_v47, val_main_cst_3, val_main_v48, val_main_v49, val_main_cst_4, val_main_v50, val_main_cst_5, val_main_v51, val_main_v52, val_main_cst_6, val_main_v53, val_main_v54, val_main_v55, val_main_v56, val_main_cst_7, val_main_v57, val_main_v58, val_main_cst_8, val_main_v59, val_main_cst_9, val_main_v60, val_main_v61, val_main_v62, val_main_cst_10, val_main_v63, val_main_v64, val_main_cst_11, val_main_v65, val_main_v66, val_main_cst_12, val_main_v67, val_main_v68, val_main_v69, val_main_v70, val_main_cst_13, val_main_v71, val_main_v72, val_main_cst_14, val_main_v73, val_main_cst_15, val_main_v74, val_main_v75, val_main_v76, val_main_cst_16, val_main_v77, val_main_v78, val_main_v79, val_main_v80, val_main_v81, val_main_v82, val_main_v83, val_main_v84, val_main_v85, val_main_v86, val_main_v87, val_main_v88, val_main_v89, val_main_v90]
  simp only [← D_row]
  exact Fin.sum_univ_one _

/-- The reference's gradient of the bias, in the columns of the value. -/
theorem ref86 (c : Dev nD) (s : Fin 1) (j : Fin 2816) (l : Fin 5632) (hl : l = ⟨2816 + j.val, by omega⟩) :
    val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 s j) = ∑ x : Fin 2048, D m c x.val l := by
  subst hl
  pointwise [val_main_cst, val_main_cst_0, val_main_call0_cst, val_main_call0_cst_0, val_main_call0_cst_1, val_main_cst_1, val_main_cst_2, val_main_v45, val_main_v46, val_main_v47, val_main_cst_3, val_main_v48, val_main_v49, val_main_cst_4, val_main_v50, val_main_cst_5, val_main_v51, val_main_v52, val_main_cst_6, val_main_v53, val_main_v54, val_main_v55, val_main_v56, val_main_cst_7, val_main_v57, val_main_v58, val_main_cst_8, val_main_v59, val_main_cst_9, val_main_v60, val_main_v61, val_main_v62, val_main_cst_10, val_main_v63, val_main_v64, val_main_cst_11, val_main_v65, val_main_v66, val_main_cst_12, val_main_v67, val_main_v68, val_main_v69, val_main_v70, val_main_cst_13, val_main_v71, val_main_v72, val_main_cst_14, val_main_v73, val_main_cst_15, val_main_v74, val_main_v75, val_main_v76, val_main_cst_16, val_main_v77, val_main_v78, val_main_v79, val_main_v80, val_main_v81, val_main_v82, val_main_v83, val_main_v84, val_main_v85, val_main_v86, val_main_v87, val_main_v88, val_main_v89, val_main_v90]
  simp only [← D_row]
  exact Fin.sum_univ_one _

end Cert.ConvBwdIdeal.Value

end
-- ==== Proof.Conv.Sums.lean ====
module

public import Idealize.ShloMosaic.Lib.Pipeline.ValueKit

@[expose] public section

namespace Cert.Conv

open Idealize.ShloMosaic

/-- Eight tiles of 256 rows taken from the last to the first sum to the whole array's rows. -/
theorem sum_tiles_reversed (g : ℕ → EReal) :
    ∑ s : Fin 8, ∑ r : Fin 256, g ((7 - s.val) * 256 + r.val) = ∑ l : Fin 2048, g l.val := by
  rw [← Equiv.sum_comp Fin.revPerm]
  exact Fin.sum_mul_add_congr (n := 256) (f := fun l : Fin 2048 => g l.val) fun s k hl =>
    congrArg g (show (7 - (8 - (s.val + 1))) * 256 + k.val = s.val * 256 + k.val by omega)

/-- A sum against a sequence that was moved down by `e` rows is the sum of the other factor moved up, when that factor
is zero past the end. -/
theorem sum_shift (g h : ℕ → EReal) (N e : ℕ) (hg : ∀ n, N ≤ n → g n = 0) :
    ∑ x : Fin N, g x.val * (if x.val < e then 0 else h (x.val - e)) = ∑ l : Fin N, g (l.val + e) * h l.val := by
  have a : ∑ x ∈ Finset.range (N + e), g x * (if x < e then 0 else h (x - e))
      = ∑ x ∈ Finset.range N, g x * (if x < e then 0 else h (x - e)) := by
    rw [Finset.sum_range_add]
    exact (congrArg (_ + ·) (Finset.sum_eq_zero fun i _ => by rw [hg (N + i) (by omega), zero_mul])).trans (add_zero _)
  have b : ∑ x ∈ Finset.range (e + N), g x * (if x < e then 0 else h (x - e))
      = ∑ l ∈ Finset.range N, g (l + e) * h l := by
    rw [Finset.sum_range_add]
    refine (congrArg (· + _) (Finset.sum_eq_zero fun i hi => ?_)).trans ((zero_add _).trans (Finset.sum_congr rfl fun l _ => ?_))
    · rw [if_pos (Finset.mem_range.mp hi), mul_zero]
    · rw [if_neg (by omega), Nat.add_sub_cancel_left, Nat.add_comm e l]
  rw [← Finset.sum_range (fun x => g x * (if x < e then 0 else h (x - e))),
    ← Finset.sum_range (fun l => g (l + e) * h l), ← b, Nat.add_comm e N, a]

end Cert.Conv
-- ==== Proof.Conv.Dw.lean ====
module

public import proofs.«01_k».proof.Proof.Conv.Refs
public import proofs.«01_k».proof.Proof.Conv.Sums

@[expose] public section

set_option maxRecDepth 16384

noncomputable section

open Idealize.ShloMosaic Idealize.ShloMosaic.TcCoe Idealize.SL.Sem
open Idealize.ShloMosaic.Pipeline (Dat)

namespace Cert.ConvBwdIdeal.Value

open Cert.ConvBwdIdeal Cert.ConvBwdIdeal.Gen Cert.ConvRefIdeal.Read

variable (m : (ℓ : Loc nD τ sig) → Buf (Elt Ideal) ℓ)

/-- What went into the convolution, by the number of the row. -/
def H (c : Dev nD) (n : ℕ) (j : Fin 5632) : EReal := if h : n < 2048 then hu m c (ix2 ⟨n, h⟩ j) else 0

theorem H_row (c : Dev nD) (i : Fin 2048) (j : Fin 5632) : H m c i.val j = hu m c (ix2 i j) := dif_pos i.isLt

/-- The reference's sum for a tap, as a sum over the rows that went in. -/
theorem tap_sum (c : Dev nD) (s : Fin 3) (l : Fin 5632) :
    ∑ x : Fin 2048, D m c x.val l * hp m c (ix2 ⟨x.val + s.val, by omega⟩ l)
      = ∑ x : Fin 2048, D m c (x.val + (2 - s.val)) l * H m c x.val l := by
  refine Eq.trans (Finset.sum_congr rfl fun x _ => congrArg (D m c x.val l * ·) ?_)
    (Cert.Conv.sum_shift (fun n => D m c n l) (fun n => H m c n l) 2048 (2 - s.val) fun n h => D_end m c n l h)
  split_ifs with h
  · exact hp_zero m c _ l (by simp only; omega)
  · refine (hp_row m c ⟨x.val - (2 - s.val), by omega⟩ l _ (by simp only; omega)).trans (H_row m c _ l).symm

/-- What a point adds to the gradient of the taps, in the columns of the gate. -/
def dwg_term (c : Dev nD) (t : Fin cfg0.N) (i : S3x1408.Idx) : EReal :=
  ∑ r : Fin 256, tileg m c t (r.val + (2 - (i 0).val)) (i 1) * iblk m c 2 t (ix2 r (i 1))

/-- All that a run of eight points adds is the reference's sum. -/
theorem dwg_total (c : Dev nD) (t : Fin cfg0.N) (s : Fin 3) (k : Fin 1408) (h : ∀ q : Fin 8, 8 * (t.val / 8) + q.val < cfg0.N) :
    ∑ q : Fin 8, dwg_term m c ⟨8 * (t.val / 8) + q.val, h q⟩ (ix2 s k)
      = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 s (colh t k)) := by
  rw [ref81 m c s (colh t k) (colg t k) (Fin.ext (by simp only [colg, colh])), tap_sum,
    ← Cert.Conv.sum_tiles_reversed (fun n => D m c (n + (2 - s.val)) (colg t k) * H m c n (colg t k))]
  refine Finset.sum_congr rfl fun q _ => Finset.sum_congr rfl fun r _ => ?_
  have e : colg ⟨8 * (t.val / 8) + q.val, h q⟩ k = colg t k := Fin.ext (by simp only [colg]; omega)
  show tileg m c _ (r.val + (2 - s.val)) k * iblk m c 2 _ (ix2 r k) = _
  rw [read_hg, tileg, e, ← H_row]
  exact congrArg₂ (fun a b => D m c a _ * H m c b _) (by simp only; omega) (by simp only [row]; omega)

theorem dwg_zero (i : S3x1408.Idx) : k0_pay3 (F := Ideal) i = 0 := by
  pointwise! [k0_pay3]

/-- The gradient of the taps after the run is the reference's, in the columns of the gate. -/
theorem dwg_final [Cert.Pre_conv_finite.Facts] (hpre : Cert.Pre_ConvBwdIdeal_conv_finite m) (c : Dev nD) : (dats m 0 c).arrAt 8 (cfgs 0).N = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  idx_vars y
  rw [place8, ← dwg_total m c t y0 y1 fun q => Pipeline.run_point_lt_of_flush t ((flush0_8 t).mp hf) q]
  have hd : ∀ (t : Fin cfg0.N) r k, k0_pay11 (F := Ideal) (iblk m c 0 t) (iblk m c 1 t) (iblk m c 4 t) (iblk m c 5 t) (ix2 r k) = tileg m c t r.val k := pay11_tile m hpre c
  refine (Pipeline.eq_sum_fin_of_reset_step_apply_of_flush (fun n h => (outsAt0 m c n h).1) 8 (fun _ => 0) (dwg_term m c)
    (fun t h0 i => ?_) (fun t h0 i => ?_) t ((flush0_8 t).mp hf) (ix2 y0 y1)).trans (zero_add _)
  · idx_vars i
    rw [outsAt0_A m c t h0]
    frame_out
    exact (dwg_at _ _ _ (tileg m c t) _ (hd t) (fun r k => load_upper_first m _ c t h0 r k) i0 i1).trans (congrArg (· + _) (dwg_zero _))
  · idx_vars i
    rw [outsAt0_B m c t h0]
    frame_out
    exact dwg_at _ _ _ (tileg m c t) _ (hd t) (fun r k => load_upper m hpre c t h0 _ _ r k) i0 i1

/-- What a point adds to the gradient of the taps, in the columns of the value. -/
def dwv_term (c : Dev nD) (t : Fin cfg0.N) (i : S3x1408.Idx) : EReal :=
  ∑ r : Fin 256, tilev m c t (r.val + (2 - (i 0).val)) (i 1) * iblk m c 3 t (ix2 r (i 1))

/-- All that a run of eight points adds is the reference's sum. -/
theorem dwv_total (c : Dev nD) (t : Fin cfg0.N) (s : Fin 3) (k : Fin 1408) (h : ∀ q : Fin 8, 8 * (t.val / 8) + q.val < cfg0.N) :
    ∑ q : Fin 8, dwv_term m c ⟨8 * (t.val / 8) + q.val, h q⟩ (ix2 s k)
      = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 s (colh t k)) := by
  rw [ref82 m c s (colh t k) (colv t k) (Fin.ext (by simp only [colv, colh])), tap_sum,
    ← Cert.Conv.sum_tiles_reversed (fun n => D m c (n + (2 - s.val)) (colv t k) * H m c n (colv t k))]
  refine Finset.sum_congr rfl fun q _ => Finset.sum_congr rfl fun r _ => ?_
  have e : colv ⟨8 * (t.val / 8) + q.val, h q⟩ k = colv t k := Fin.ext (by simp only [colv]; omega)
  show tilev m c _ (r.val + (2 - s.val)) k * iblk m c 3 _ (ix2 r k) = _
  rw [read_hv, tilev, e, ← H_row]
  exact congrArg₂ (fun a b => D m c a _ * H m c b _) (by simp only; omega) (by simp only [row]; omega)

theorem dwv_zero (i : S3x1408.Idx) : k0_pay4 (F := Ideal) i = 0 := by
  pointwise! [k0_pay4]

/-- The gradient of the taps after the run is the reference's, in the columns of the value. -/
theorem dwv_final [Cert.Pre_conv_finite.Facts] (hpre : Cert.Pre_ConvBwdIdeal_conv_finite m) (c : Dev nD) : (dats m 0 c).arrAt 9 (cfgs 0).N = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  idx_vars y
  rw [place9, ← dwv_total m c t y0 y1 fun q => Pipeline.run_point_lt_of_flush t ((flush0_9 t).mp hf) q]
  have hd : ∀ (t : Fin cfg0.N) r k, k0_pay10 (F := Ideal) (iblk m c 0 t) (iblk m c 1 t) (iblk m c 4 t) (ix2 r k) = tilev m c t r.val k := pay10_tile m c
  refine (Pipeline.eq_sum_fin_of_reset_step_apply_of_flush (fun n h => (outsAt0 m c n h).2.1) 8 (fun _ => 0) (dwv_term m c)
    (fun t h0 i => ?_) (fun t h0 i => ?_) t ((flush0_9 t).mp hf) (ix2 y0 y1)).trans (zero_add _)
  · idx_vars i
    rw [outsAt0_A m c t h0]
    frame_out
    exact (dwv_at _ _ _ (tilev m c t) _ (hd t) (fun r k => load_lower_first m _ c t h0 _ r k) i0 i1).trans (congrArg (· + _) (dwv_zero _))
  · idx_vars i
    rw [outsAt0_B m c t h0]
    frame_out
    exact dwv_at _ _ _ (tilev m c t) _ (hd t) (fun r k => load_lower m c t h0 _ _ r k) i0 i1

end Cert.ConvBwdIdeal.Value

end
-- ==== Proof.Conv.Db.lean ====
module

public import proofs.«01_k».proof.Proof.Conv.Refs
public import proofs.«01_k».proof.Proof.Conv.Sums

@[expose] public section

set_option maxRecDepth 16384

noncomputable section

open Idealize.ShloMosaic Idealize.ShloMosaic.TcCoe Idealize.SL.Sem
open Idealize.ShloMosaic.Pipeline (Dat)

namespace Cert.ConvBwdIdeal.Value

open Cert.ConvBwdIdeal Cert.ConvBwdIdeal.Gen Cert.ConvRefIdeal.Read

variable (m : (ℓ : Loc nD τ sig) → Buf (Elt Ideal) ℓ)

/-- What a point adds to the gradient of the bias, in the columns of the gate. -/
def dbg_term (c : Dev nD) (t : Fin cfg0.N) (i : S1x1408.Idx) : EReal := ∑ r : Fin 256, tileg m c t r.val (i 1)

/-- All that a run of eight points adds is the reference's sum. -/
theorem dbg_total (c : Dev nD) (t : Fin cfg0.N) (s : Fin 1) (k : Fin 1408) (h : ∀ q : Fin 8, 8 * (t.val / 8) + q.val < cfg0.N) :
    ∑ q : Fin 8, dbg_term m c ⟨8 * (t.val / 8) + q.val, h q⟩ (ix2 s k)
      = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 s (colh t k)) := by
  rw [ref84 m c s (colh t k) (colg t k) (Fin.ext (by simp only [colg, colh])),
    ← Cert.Conv.sum_tiles_reversed (fun n => D m c n (colg t k))]
  refine Finset.sum_congr rfl fun q _ => Finset.sum_congr rfl fun r _ => ?_
  have e : colg ⟨8 * (t.val / 8) + q.val, h q⟩ k = colg t k := Fin.ext (by simp only [colg]; omega)
  show tileg m c _ r.val k = _
  rw [tileg, e]
  exact congrArg (fun a => D m c a _) (by simp only; omega)

theorem dbg_zero (i : S1x1408.Idx) : k0_pay5 (F := Ideal) i = 0 := by
  pointwise! [k0_pay5]

/-- The gradient of the bias after the run is the reference's, in the columns of the gate. -/
theorem dbg_final [Cert.Pre_conv_finite.Facts] (hpre : Cert.Pre_ConvBwdIdeal_conv_finite m) (c : Dev nD) : (dats m 0 c).arrAt 10 (cfgs 0).N = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10]
  idx_vars y
  rw [place10, ← dbg_total m c t y0 y1 fun q => Pipeline.run_point_lt_of_flush t ((flush0_10 t).mp hf) q]
  have hd : ∀ (t : Fin cfg0.N) r k, k0_pay11 (F := Ideal) (iblk m c 0 t) (iblk m c 1 t) (iblk m c 4 t) (iblk m c 5 t) (ix2 r k) = tileg m c t r.val k := pay11_tile m hpre c
  refine (Pipeline.eq_sum_fin_of_reset_step_apply_of_flush (fun n h => (outsAt0 m c n h).2.2.1) 8 (fun _ => 0) (dbg_term m c)
    (fun t h0 i => ?_) (fun t h0 i => ?_) t ((flush0_10 t).mp hf) (ix2 y0 y1)).trans (zero_add _)
  · idx_vars i
    rw [outsAt0_A m c t h0]
    frame_out
    exact (dbg_at _ (tileg m c t) _ (hd t) i0 i1).trans (congrArg (· + _) (dbg_zero _))
  · idx_vars i
    rw [outsAt0_B m c t h0]
    frame_out
    exact dbg_at _ (tileg m c t) _ (hd t) i0 i1

/-- What a point adds to the gradient of the bias, in the columns of the value. -/
def dbv_term (c : Dev nD) (t : Fin cfg0.N) (i : S1x1408.Idx) : EReal := ∑ r : Fin 256, tilev m c t r.val (i 1)

/-- All that a run of eight points adds is the reference's sum. -/
theorem dbv_total (c : Dev nD) (t : Fin cfg0.N) (s : Fin 1) (k : Fin 1408) (h : ∀ q : Fin 8, 8 * (t.val / 8) + q.val < cfg0.N) :
    ∑ q : Fin 8, dbv_term m c ⟨8 * (t.val / 8) + q.val, h q⟩ (ix2 s k)
      = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 s (colh t k)) := by
  rw [ref86 m c s (colh t k) (colv t k) (Fin.ext (by simp only [colv, colh])),
    ← Cert.Conv.sum_tiles_reversed (fun n => D m c n (colv t k))]
  refine Finset.sum_congr rfl fun q _ => Finset.sum_congr rfl fun r _ => ?_
  have e : colv ⟨8 * (t.val / 8) + q.val, h q⟩ k = colv t k := Fin.ext (by simp only [colv]; omega)
  show tilev m c _ r.val k = _
  rw [tilev, e]
  exact congrArg (fun a => D m c a _) (by simp only; omega)

theorem dbv_zero (i : S1x1408.Idx) : k0_pay6 (F := Ideal) i = 0 := by
  pointwise! [k0_pay6]

/-- The gradient of the bias after the run is the reference's, in the columns of the value. -/
theorem dbv_final [Cert.Pre_conv_finite.Facts] (hpre : Cert.Pre_ConvBwdIdeal_conv_finite m) (c : Dev nD) : (dats m 0 c).arrAt 11 (cfgs 0).N = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  rw [after0_11]
  idx_vars y
  rw [place11, ← dbv_total m c t y0 y1 fun q => Pipeline.run_point_lt_of_flush t ((flush0_11 t).mp hf) q]
  have hd : ∀ (t : Fin cfg0.N) r k, k0_pay10 (F := Ideal) (iblk m c 0 t) (iblk m c 1 t) (iblk m c 4 t) (ix2 r k) = tilev m c t r.val k := pay10_tile m c
  refine (Pipeline.eq_sum_fin_of_reset_step_apply_of_flush (fun n h => (outsAt0 m c n h).2.2.2.1) 8 (fun _ => 0) (dbv_term m c)
    (fun t h0 i => ?_) (fun t h0 i => ?_) t ((flush0_11 t).mp hf) (ix2 y0 y1)).trans (zero_add _)
  · idx_vars i
    rw [outsAt0_A m c t h0]
    frame_out
    exact (dbv_at _ (tilev m c t) _ (hd t) i0 i1).trans (congrArg (· + _) (dbv_zero _))
  · idx_vars i
    rw [outsAt0_B m c t h0]
    frame_out
    exact dbv_at _ (tilev m c t) _ (hd t) i0 i1

end Cert.ConvBwdIdeal.Value

end
-- ==== Proof.Conv.Dx.lean ====
module

public import proofs.«01_k».proof.Proof.Conv.Refs

@[expose] public section

set_option maxRecDepth 16384

noncomputable section

open Idealize.ShloMosaic Idealize.ShloMosaic.TcCoe Idealize.SL.Sem
open Idealize.ShloMosaic.Pipeline (Dat)

namespace Cert.ConvBwdIdeal.Value

open Cert.ConvBwdIdeal Cert.ConvBwdIdeal.Gen Cert.ConvRefIdeal.Read

variable (m : (ℓ : Loc nD τ sig) → Buf (Elt Ideal) ℓ)

/-- What a point stores of the gradient of the convolution's input is the reference's, in the columns of the gate. -/
theorem dxg_point [Cert.Pre_conv_finite.Facts] (hpre : Cert.Pre_ConvBwdIdeal_conv_finite m) (c : Dev nD) (t : Fin cfg0.N) (y) :
    (outsAt0 m c t.val t.isLt).2.2.2.2.1 y = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 12).blk t).view.emb y) := by
  idx_vars y
  rw [place12, ref88 m c _ _ (colg t y1) (Fin.ext (by simp only [colg, colh]))]
  have hd : ∀ r k, k0_pay11 (F := Ideal) (iblk m c 0 t) (iblk m c 1 t) (iblk m c 4 t) (iblk m c 5 t) (ix2 r k) = tileg m c t r.val k := pay11_tile m hpre c t
  by_cases h0 : t.val % 8 = 0
  · rw [outsAt0_A m c t h0]
    frame_out
    refine (dxg_at _ _ _ (tileg m c t) hd (fun r k => load_upper_first m _ c t h0 r k) y0 y1).trans ?_
    rw [read_cwg, read_cwg, read_cwg]
    rfl
  · rw [outsAt0_B m c t h0]
    frame_out
    refine (dxg_at _ _ _ (tileg m c t) hd (fun r k => load_upper m hpre c t h0 _ _ r k) y0 y1).trans ?_
    rw [read_cwg, read_cwg, read_cwg]
    rfl

/-- So the whole array is. -/
theorem dxg_final [Cert.Pre_conv_finite.Facts] (hpre : Cert.Pre_ConvBwdIdeal_conv_finite m) (c : Dev nD) : (dats m 0 c).arrAt 12 (cfgs 0).N = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t hf y => ?_
  blk_simp
  rw [after0_12]
  exact dxg_point m hpre c t y

/-- What a point stores of the gradient of the convolution's input is the reference's, in the columns of the value. -/
theorem dxv_point [Cert.Pre_conv_finite.Facts] (hpre : Cert.Pre_ConvBwdIdeal_conv_finite m) (c : Dev nD) (t : Fin cfg0.N) (y) :
    (outsAt0 m c t.val t.isLt).2.2.2.2.2.1 y = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 13).blk t).view.emb y) := by
  idx_vars y
  rw [place13, ref90 m c _ _ (colv t y1) (Fin.ext (by simp only [colv, colh]))]
  have hd : ∀ r k, k0_pay10 (F := Ideal) (iblk m c 0 t) (iblk m c 1 t) (iblk m c 4 t) (ix2 r k) = tilev m c t r.val k := pay10_tile m c t
  by_cases h0 : t.val % 8 = 0
  · rw [outsAt0_A m c t h0]
    frame_out
    refine (dxv_at _ _ _ (tilev m c t) hd (fun r k => load_lower_first m _ c t h0 _ r k) y0 y1).trans ?_
    rw [read_cwv, read_cwv, read_cwv]
    rfl
  · rw [outsAt0_B m c t h0]
    frame_out
    refine (dxv_at _ _ _ (tilev m c t) hd (fun r k => load_lower m c t h0 _ _ r k) y0 y1).trans ?_
    rw [read_cwv, read_cwv, read_cwv]
    rfl

/-- So the whole array is. -/
theorem dxv_final [Cert.Pre_conv_finite.Facts] (hpre : Cert.Pre_ConvBwdIdeal_conv_finite m) (c : Dev nD) : (dats m 0 c).arrAt 13 (cfgs 0).N = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 13 _ (by decide +kernel) fun t hf y => ?_
  blk_simp
  rw [after0_13]
  exact dxv_point m hpre c t y

end Cert.ConvBwdIdeal.Value

end
-- ==== Proof.Conv.Claims.lean ====
module

public import proofs.«01_k».proof.Defs
public import proofs.«01_k».proof.Proof.Gen.ConvBwd.Frame
public import proofs.«01_k».proof.Proof.Gen.ConvRefIdeal.Run
public import proofs.«01_k».proof.Proof.Gen.Pre_conv_finite
public import proofs.«01_k».proof.Proof.Conv.Dw
public import proofs.«01_k».proof.Proof.Conv.Db
public import proofs.«01_k».proof.Proof.Conv.Dx

/-! The claims about the backward call of the causal convolution and the gate. -/

@[expose] public section

set_option maxRecDepth 16384

noncomputable section

namespace Cert.Proof

open Idealize.ShloMosaic Idealize.SL.Sem

open Cert

/-- The kernel runs to its end and leaves its arguments. -/
theorem conv_frame : Cert.quiescent_ConvBwd := fun m ρ _ => Cert.ConvBwd.Gen.frame m ρ

/-- So does the idealized kernel. -/
theorem conv_frame_ideal : Cert.quiescent_ConvBwdIdeal := fun m ρ _ => Cert.ConvBwdIdeal.Gen.frame m ρ

/-- So it does where the arguments are finite. -/
theorem conv_frame_ideal_pre : Cert.quiescent_ConvBwdIdeal_pre_conv_finite := fun m ρ _ => Cert.ConvBwdIdeal.Gen.frame m ρ

/-- The reference runs to its end and leaves its arguments. -/
theorem conv_frame_ref : Cert.quiescent_ConvRefIdeal := by
  intro m ρ _
  exact (θ_run _ _ _).mono (fun r h => ⟨fun c => (h c).2.2.2.2.2.2, sem_eq_zero_of_no_sems (by decide) r.2⟩)
    (Cert.ConvRefIdeal.Value.run m ρ)

/-- So it does where the arguments are finite. -/
theorem conv_frame_ref_pre : Cert.quiescent_ConvRefIdeal_pre_conv_finite :=
  fun m ρ _ => conv_frame_ref m ρ trivial

set_option maxHeartbeats 1600000 in
/-- The gradients of the taps, of the bias and of the convolution's input agree with the reference's, in both halves of the
columns, from every memory whose arguments are finite. -/
theorem conv_value : Cert.algebraic_ConvBwdIdeal_ConvRefIdeal_pre_conv_finite := by
  pair_intro
  · run_from Cert.ConvBwdIdeal.Value.run_blocks m g
  · run_from Cert.ConvRefIdeal.Value.run m' g'
    all_goals obtain ⟨h0, h1, h2, h3, h4, h5⟩ := hagree c
    · rw [ConvRefIdeal.Read.val_main_v81_eq, h0, h1, h2, h3, h4, h5]
      exact (ConvBwdIdeal.Value.dwg_final m hpre c).symm
    · rw [ConvRefIdeal.Read.val_main_v82_eq, h0, h1, h2, h3, h4, h5]
      exact (ConvBwdIdeal.Value.dwv_final m hpre c).symm
    · rw [ConvRefIdeal.Read.val_main_v84_eq, h0, h1, h2, h3, h4, h5]
      exact (ConvBwdIdeal.Value.dbg_final m hpre c).symm
    · rw [ConvRefIdeal.Read.val_main_v86_eq, h0, h1, h2, h3, h4, h5]
      exact (ConvBwdIdeal.Value.dbv_final m hpre c).symm
    · rw [ConvRefIdeal.Read.val_main_v88_eq, h0, h1, h2, h3, h4, h5]
      exact (ConvBwdIdeal.Value.dxg_final m hpre c).symm
    · rw [ConvRefIdeal.Read.val_main_v90_eq, h0, h1, h2, h3, h4, h5]
      exact (ConvBwdIdeal.Value.dxv_final m hpre c).symm

end Cert.Proof

end
-- ==== Proof.In.Base.lean ====
module

public import proofs.«01_k».proof.Proof.Gen.InFwdIdeal.Value
public import proofs.«01_k».proof.Proof.Gen.InRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InFwdIdeal.Value

open Cert.InFwdIdeal Cert.InFwdIdeal.Gen Cert.InRefIdeal.Read

variable (m : (ℓ : Loc nD τ sig) → Buf (Elt Ideal) ℓ)

/-- The index maps: the first grid coordinate walks the two halves of the columns, the second the row tiles. -/
theorem idx : ∀ t : Fin cfg0.N, win0_0.index t = ![t.val % 4, 0] ∧ win0_1.index t = ![0, 0] ∧ win0_2.index t = ![t.val / 4, 0]
    ∧ win0_3.index t = ![t.val / 4, t.val % 4, 0] ∧ win0_4.index t = ![t.val % 4, t.val / 4] :=
  (by decide +kernel : ∀ t : Fin grid0.N, _)

/-- Row `r` of the tile of point `t`, as a row of the whole array. -/
def row (t : Fin cfg0.N) (r : Fin 512) : Fin 2048 := ⟨t.val % 4 * 512 + r.val, by omega⟩

/-- Column `k` of the tile of point `t`, as a column of the whole projection. -/
def col (t : Fin cfg0.N) (k : Fin 4736) : Fin 9472 := ⟨t.val / 4 * 4736 + k.val, by have := t.isLt; have : cfg0.N = 8 := N_0; omega⟩

/-- The copy of the norm that point `t` stores. -/
def copy (t : Fin cfg0.N) : Fin 2 := ⟨t.val / 4, by have := t.isLt; have : cfg0.N = 8 := N_0; omega⟩

theorem read_x (c : Dev nD) (t : Fin cfg0.N) (r : Fin 512) (k : Fin 1024) :
    iblk m c 0 t (ix2 r k) = (m ((c : Thread nD τ).loc main_arg0)) (ix3 0 (row t r) k) := by
  blk_simp [iblk, idx t]; entry_read; pointwise; blk_ext [idx t, row]

theorem read_g (c : Dev nD) (t : Fin cfg0.N) (r : Fin 1) (k : Fin 1024) :
    iblk m c 1 t (ix2 r k) = (m ((c : Thread nD τ).loc main_arg1)) (ix2 r k) := by
  blk_ext [iblk, V, idx t]

theorem read_w (c : Dev nD) (t : Fin cfg0.N) (r : Fin 4736) (k : Fin 1024) :
    iblk m c 2 t (ix2 r k) = (m ((c : Thread nD τ).loc main_arg2)) (ix3 0 k (col t r)) := by
  blk_simp [iblk, idx t]; entry_read; pointwise; blk_ext [idx t, col]

theorem place3 (t : Fin cfg0.N) (l : Fin 1) (r : Fin 512) (k : Fin 1024) :
    ((cfg0.win 3).blk t).view.emb (ix3 l r k) = ix3 (copy t) (row t r) k := by
  blk_ext [idx t, row, copy]

theorem place4 (t : Fin cfg0.N) (r : Fin 512) (k : Fin 4736) : ((cfg0.win 4).blk t).view.emb (ix2 r k) = ix2 (row t r) (col t k) := by
  blk_ext [idx t, row, col]

theorem load0 {e : EltTy} (X : Vec Ideal S512x1024 e) : View.ld X r0_0 = X := by
  refine funext fun y => congrArg X (funext fun a => Fin.ext ?_)
  match a with
  | ⟨0, _⟩ => show 0 + 1 * (y 0).val = (y 0).val; omega
  | ⟨1, _⟩ => show 0 + 1 * (y 1).val = (y 1).val; omega

theorem load1 {e : EltTy} (X : Vec Ideal S1x1024 e) : View.ld X r0_1 = X := by
  refine funext fun y => congrArg X (funext fun a => Fin.ext ?_)
  match a with
  | ⟨0, _⟩ => show 0 + 1 * (y 0).val = (y 0).val; omega
  | ⟨1, _⟩ => show 0 + 1 * (y 1).val = (y 1).val; omega

theorem load3 {e : EltTy} (X : Vec Ideal S4736x1024 e) : View.ld X r0_3 = X := by
  refine funext fun y => congrArg X (funext fun a => Fin.ext ?_)
  match a with
  | ⟨0, _⟩ => show 0 + 1 * (y 0).val = (y 0).val; omega
  | ⟨1, _⟩ => show 0 + 1 * (y 1).val = (y 1).val; omega

/-- The reference's norm, once per half of the columns, over this program's argument arrays. -/
abbrev refXn (c : Dev nD) : FVec Ideal Cert.InRefIdeal.S2x2048x1024 .bf16 :=
  val_main_v16 (F := Ideal) (m ((c : Thread nD τ).loc main_arg0)) (m ((c : Thread nD τ).loc main_arg1))

/-- The reference's projection, over this program's argument arrays. -/
abbrev refZ (c : Dev nD) : FVec Ideal Cert.InRefIdeal.S2048x9472 .f32 :=
  val_main_v18 (F := Ideal) (m ((c : Thread nD τ).loc main_arg0)) (m ((c : Thread nD τ).loc main_arg1)) (m ((c : Thread nD τ).loc main_arg2))

end Cert.InFwdIdeal.Value

end
-- ==== Proof.In.Norm.lean ====
module

public import proofs.«01_k».proof.Proof.In.Base

@[expose] public section

set_option maxRecDepth 16384

noncomputable section

open Idealize.ShloMosaic Idealize.ShloMosaic.TcCoe Idealize.SL.Sem
open Idealize.ShloMosaic.Pipeline (Dat)

namespace Cert.InFwdIdeal.Value

open Cert.InFwdIdeal Cert.InFwdIdeal.Gen Cert.InRefIdeal.Read

variable (m : (ℓ : Loc nD τ sig) → Buf (Elt Ideal) ℓ)

/-- The norm as a point computes it. -/
theorem norm_at (c : Dev nD) (t : Fin cfg0.N) (y0 : Fin 512) (y1 : Fin 1024) :
    k0_pay1 (iblk m c 0 t) (iblk m c 1 t) (ix2 y0 y1) = val_main_v13 (F := Ideal) (m ((c : Thread nD τ).loc main_arg0)) (m ((c : Thread nD τ).loc main_arg1)) (ix2 (row t y0) y1) := by
  pointwise [k0_pay1, val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  simp only [read_x, read_g]

/-- What a point stores is the reference's norm, at those rows of the array. -/
theorem xn_point (c : Dev nD) (t : Fin cfg0.N) (y) :
    out0_3 (iblk m c 0 t) (iblk m c 1 t) (iblk m c 2 t) y = refXn m c (((cfg0.win 3).blk t).view.emb y) := by
  idx_vars y
  rw [place3]
  unfold out0_3
  canon_tiles x h
  idx_vars x
  obtain rfl := (Fin.ext h1 : y1 = _)
  obtain rfl := (Fin.ext h2 : y2 = _)
  simp only [load0, load1]
  have hb := norm_at m c t
  pointwise [k0_pay2, refXn, val_main_v14, val_main_v15, val_main_v16]
  split_ifs <;> exact hb _ _

/-- The norm after the run is the reference's. -/
theorem xn_final (c : Dev nD) : (dats m 0 c).arrAt 3 (cfgs 0).N = refXn m c := by
  refine (dats m 0 c).arrAt_eq_of_covers 3 _ (by decide +kernel) fun t hf y => ?_
  blk_simp
  rw [after0_3]
  exact xn_point m c t y

/-- What a point stores is the reference's projection, at those rows and columns of the array. -/
theorem z_point (c : Dev nD) (t : Fin cfg0.N) (y) :
    out0_4 (iblk m c 0 t) (iblk m c 1 t) (iblk m c 2 t) y = refZ m c (((cfg0.win 4).blk t).view.emb y) := by
  idx_vars y
  rw [place4]
  unfold out0_4
  canon_tiles x h
  idx_vars x
  obtain rfl := (Fin.ext h0 : y0 = _)
  obtain rfl := (Fin.ext h1 : y1 = _)
  simp only [load0, load1, load3]
  have hb := norm_at m c t
  pointwise [k0_pay3, refZ, val_main_v17, val_main_v18]
  simp only [read_w]
  exact Fin.sum_fin_congr fun k => congrArg (· * _) (hb _ k)

/-- The projection after the run is the reference's. -/
theorem z_final (c : Dev nD) : (dats m 0 c).arrAt 4 (cfgs 0).N = refZ m c := by
  refine (dats m 0 c).arrAt_eq_of_covers 4 _ (by decide +kernel) fun t hf y => ?_
  blk_simp
  rw [after0_4]
  exact z_point m c t y

end Cert.InFwdIdeal.Value

end
-- ==== Proof.In.Claims.lean ====
module

public import proofs.«01_k».proof.Defs
public import proofs.«01_k».proof.Proof.Gen.InFwd.Frame
public import proofs.«01_k».proof.Proof.Gen.InRefIdeal.Run
public import proofs.«01_k».proof.Proof.In.Norm

/-! The claims about the forward call that takes the norm before the mixers and projects it. -/

@[expose] public section

set_option maxRecDepth 16384

noncomputable section

namespace Cert.Proof

open Idealize.ShloMosaic Idealize.SL.Sem

open Cert

/-- The kernel runs to its end and leaves its arguments. -/
theorem in_frame : Cert.quiescent_InFwd := fun m ρ _ => Cert.InFwd.Gen.frame m ρ

/-- So does the idealized kernel. -/
theorem in_frame_ideal : Cert.quiescent_InFwdIdeal := fun m ρ _ => Cert.InFwdIdeal.Gen.frame m ρ

/-- The reference runs to its end and leaves its arguments. -/
theorem in_frame_ref : Cert.quiescent_InRefIdeal := by
  intro m ρ _
  exact (θ_run _ _ _).mono (fun r h => ⟨fun c => (h c).2.2, sem_eq_zero_of_no_sems (by decide) r.2⟩)
    (Cert.InRefIdeal.Value.run m ρ)

set_option maxHeartbeats 1600000 in
/-- The norm and its projection agree with the reference's, from every memory. -/
theorem in_value : Cert.algebraic_InFwdIdeal_InRefIdeal := by
  pair_intro
  · run_from Cert.InFwdIdeal.Value.run_blocks m g
  · run_from Cert.InRefIdeal.Value.run m' g'
    all_goals obtain ⟨h0, h1, h2⟩ := hagree c
    · exact (InRefIdeal.Read.val_main_v16_eq ..).trans (InFwdIdeal.Value.xn_final m c).symm
    · exact (InRefIdeal.Read.val_main_v18_eq ..).trans (InFwdIdeal.Value.z_final m c).symm

end Cert.Proof

end
-- ==== Proof.Out.Base.lean ====
module

public import proofs.«01_k».proof.Proof.Gen.OutFwdIdeal.Value
public import proofs.«01_k».proof.Proof.Gen.OutRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutFwdIdeal.Value

open Cert.OutFwdIdeal Cert.OutFwdIdeal.Gen Cert.OutRefIdeal.Read

variable (m : (ℓ : Loc nD τ sig) → Buf (Elt Ideal) ℓ)

/-- The index maps of the windows: the rows move with the grid point, the weights stay, and the gates are read as pieces of 256
    columns. -/
theorem idx : ∀ t : Fin cfg0.N, win0_0.index t = ![t.val, 29] ∧ win0_1.index t = ![t.val, 30] ∧ win0_2.index t = ![t.val, 31]
    ∧ win0_3.index t = ![t.val, 32] ∧ win0_4.index t = ![t.val, 33] ∧ win0_5.index t = ![t.val, 34]
    ∧ win0_6.index t = ![t.val, 35] ∧ win0_7.index t = ![t.val, 36] ∧ win0_8.index t = ![t.val, 0]
    ∧ win0_9.index t = ![t.val, 0] ∧ win0_10.index t = ![0, 0] ∧ win0_11.index t = ![0, 0]
    ∧ win0_12.index t = ![0, 0] ∧ win0_13.index t = ![t.val, 0] ∧ win0_14.index t = ![0, 0]
    ∧ win0_15.index t = ![0, 0] :=
  (by decide +kernel : ∀ t : Fin grid0.N, _)

/-- The index maps of the windows that are stored: all of them hold rows. -/
theorem idx_out : ∀ t : Fin cfg0.N, win0_16.index t = ![t.val, 0] ∧ win0_17.index t = ![t.val, 0] ∧ win0_18.index t = ![t.val, 0]
    ∧ win0_19.index t = ![t.val, 0] ∧ win0_20.index t = ![t.val, 0] ∧ win0_21.index t = ![t.val, 0] :=
  (by decide +kernel : ∀ t : Fin grid0.N, _)

/-- Row `r` of the block of point `t`, as a row of the whole array. -/
def row (t : Fin cfg0.N) (r : Fin 512) : Fin 2048 := ⟨t.val * 512 + r.val, by have := t.isLt; have : cfg0.N = 4 := N_0; omega⟩

theorem read_ga0 (c : Dev nD) (t : Fin cfg0.N) (r : Fin 512) (k : Fin 256) :
    iblk m c 0 t (ix2 r k) = (m ((c : Thread nD τ).loc main_arg0)) (ix3 0 (row t r) ⟨7424 + k.val, by omega⟩) := by
  blk_simp [iblk, idx t]; entry_read; pointwise; blk_ext [idx t, row]

theorem read_ga1 (c : Dev nD) (t : Fin cfg0.N) (r : Fin 512) (k : Fin 256) :
    iblk m c 1 t (ix2 r k) = (m ((c : Thread nD τ).loc main_arg0)) (ix3 0 (row t r) ⟨7424 + (256 + k.val), by omega⟩) := by
  blk_simp [iblk, idx t]; entry_read; pointwise; blk_ext [idx t, row]

theorem read_ga2 (c : Dev nD) (t : Fin cfg0.N) (r : Fin 512) (k : Fin 256) :
    iblk m c 2 t (ix2 r k) = (m ((c : Thread nD τ).loc main_arg0)) (ix3 0 (row t r) ⟨7424 + (512 + k.val), by omega⟩) := by
  blk_simp [iblk, idx t]; entry_read; pointwise; blk_ext [idx t, row]

theorem read_ga3 (c : Dev nD) (t : Fin cfg0.N) (r : Fin 512) (k : Fin 256) :
    iblk m c 3 t (ix2 r k) = (m ((c : Thread nD τ).loc main_arg0)) (ix3 0 (row t r) ⟨7424 + (768 + k.val), by omega⟩) := by
  blk_simp [iblk, idx t]; entry_read; pointwise; blk_ext [idx t, row]

theorem read_gb0 (c : Dev nD) (t : Fin cfg0.N) (r : Fin 512) (k : Fin 256) :
    iblk m c 4 t (ix2 r k) = (m ((c : Thread nD τ).loc main_arg0)) (ix3 0 (row t r) ⟨8448 + k.val, by omega⟩) := by
  blk_simp [iblk, idx t]; entry_read; pointwise; blk_ext [idx t, row]

theorem read_gb1 (c : Dev nD) (t : Fin cfg0.N) (r : Fin 512) (k : Fin 256) :
    iblk m c 5 t (ix2 r k) = (m ((c : Thread nD τ).loc main_arg0)) (ix3 0 (row t r) ⟨8448 + (256 + k.val), by omega⟩) := by
  blk_simp [iblk, idx t]; entry_read; pointwise; blk_ext [idx t, row]

theorem read_gb2 (c : Dev nD) (t : Fin cfg0.N) (r : Fin 512) (k : Fin 256) :
    iblk m c 6 t (ix2 r k) = (m ((c : Thread nD τ).loc main_arg0)) (ix3 0 (row t r) ⟨8448 + (512 + k.val), by omega⟩) := by
  blk_simp [iblk, idx t]; entry_read; pointwise; blk_ext [idx t, row]

theorem read_gb3 (c : Dev nD) (t : Fin cfg0.N) (r : Fin 512) (k : Fin 256) :
    iblk m c 7 t (ix2 r k) = (m ((c : Thread nD τ).loc main_arg0)) (ix3 0 (row t r) ⟨8448 + (768 + k.val), by omega⟩) := by
  blk_simp [iblk, idx t]; entry_read; pointwise; blk_ext [idx t, row]

theorem read_oa (c : Dev nD) (t : Fin cfg0.N) (r : Fin 512) (k : Fin 1024) :
    iblk m c 8 t (ix2 r k) = (m ((c : Thread nD τ).loc main_arg1)) (ix3 0 (row t r) k) := by
  blk_simp [iblk, idx t]; entry_read; pointwise; blk_ext [idx t, row]

theorem read_ob (c : Dev nD) (t : Fin cfg0.N) (r : Fin 512) (k : Fin 1024) :
    iblk m c 9 t (ix2 r k) = (m ((c : Thread nD τ).loc main_arg2)) (ix3 0 (row t r) k) := by
  blk_simp [iblk, idx t]; entry_read; pointwise; blk_ext [idx t, row]

theorem read_wa (c : Dev nD) (t : Fin cfg0.N) (r : Fin 1024) (k : Fin 1024) :
    iblk m c 10 t (ix2 r k) = (m ((c : Thread nD τ).loc main_arg3)) (ix3 0 r k) := by
  blk_simp [iblk, idx t]; entry_read; pointwise; blk_ext [idx t, row]

theorem read_wb (c : Dev nD) (t : Fin cfg0.N) (r : Fin 1024) (k : Fin 1024) :
    iblk m c 11 t (ix2 r k) = (m ((c : Thread nD τ).loc main_arg4)) (ix3 0 r k) := by
  blk_simp [iblk, idx t]; entry_read; pointwise; blk_ext [idx t, row]

theorem read_w (c : Dev nD) (t : Fin cfg0.N) (r : Fin 1024) (k : Fin 1024) :
    iblk m c 12 t (ix2 r k) = (m ((c : Thread nD τ).loc main_arg5)) (ix3 0 r k) := by
  blk_simp [iblk, idx t]; entry_read; pointwise; blk_ext [idx t, row]

theorem read_x (c : Dev nD) (t : Fin cfg0.N) (r : Fin 512) (k : Fin 1024) :
    iblk m c 13 t (ix2 r k) = (m ((c : Thread nD τ).loc main_arg6)) (ix3 0 (row t r) k) := by
  blk_simp [iblk, idx t]; entry_read; pointwise; blk_ext [idx t, row]

theorem read_gp (c : Dev nD) (t : Fin cfg0.N) (r : Fin 1) (k : Fin 1024) :
    iblk m c 14 t (ix2 r k) = (m ((c : Thread nD τ).loc main_arg7)) (ix2 r k) := by
  blk_ext [iblk, V, idx t]

theorem read_g2 (c : Dev nD) (t : Fin cfg0.N) (r : Fin 1) (k : Fin 1024) :
    iblk m c 15 t (ix2 r k) = (m ((c : Thread nD τ).loc main_arg8)) (ix2 r k) := by
  blk_ext [iblk, V, idx t]

theorem place16 (t : Fin cfg0.N) (r : Fin 512) (k : Fin 1024) : ((cfg0.win 16).blk t).view.emb (ix2 r k) = ix2 (row t r) k := by
  blk_ext [idx_out t, row]

theorem place17 (t : Fin cfg0.N) (r : Fin 512) (k : Fin 1024) : ((cfg0.win 17).blk t).view.emb (ix2 r k) = ix2 (row t r) k := by
  blk_ext [idx_out t, row]

theorem place18 (t : Fin cfg0.N) (r : Fin 512) (k : Fin 1024) : ((cfg0.win 18).blk t).view.emb (ix2 r k) = ix2 (row t r) k := by
  blk_ext [idx_out t, row]

theorem place19 (t : Fin cfg0.N) (r : Fin 512) (k : Fin 1024) : ((cfg0.win 19).blk t).view.emb (ix2 r k) = ix2 (row t r) k := by
  blk_ext [idx_out t, row]

theorem place20 (t : Fin cfg0.N) (r : Fin 512) (k : Fin 1024) : ((cfg0.win 20).blk t).view.emb (ix2 r k) = ix2 (row t r) k := by
  blk_ext [idx_out t, row]

theorem place21 (t : Fin cfg0.N) (r : Fin 512) (k : Fin 1024) : ((cfg0.win 21).blk t).view.emb (ix2 r k) = ix2 (row t r) k := by
  blk_ext [idx_out t, row]

theorem whole0 (y : S512x1024.Idx) : r0_0.idx y = y := by
  funext a
  refine Fin.ext ?_
  match a with
  | ⟨0, _⟩ => show 0 + 1 * (y 0).val = (y 0).val; omega
  | ⟨1, _⟩ => show 0 + 1 * (y 1).val = (y 1).val; omega

theorem load0 {e : EltTy} (X : Vec Ideal S512x1024 e) : View.ld X r0_0 = X := funext fun y => congrArg X (whole0 y)

theorem whole1 (y : S1024x1024.Idx) : r0_1.idx y = y := by
  funext a
  refine Fin.ext ?_
  match a with
  | ⟨0, _⟩ => show 0 + 1 * (y 0).val = (y 0).val; omega
  | ⟨1, _⟩ => show 0 + 1 * (y 1).val = (y 1).val; omega

theorem load1 {e : EltTy} (X : Vec Ideal S1024x1024 e) : View.ld X r0_1 = X := funext fun y => congrArg X (whole1 y)

theorem whole2 (y : S512x256.Idx) : r0_2.idx y = y := by
  funext a
  refine Fin.ext ?_
  match a with
  | ⟨0, _⟩ => show 0 + 1 * (y 0).val = (y 0).val; omega
  | ⟨1, _⟩ => show 0 + 1 * (y 1).val = (y 1).val; omega

theorem load2 {e : EltTy} (X : Vec Ideal S512x256 e) : View.ld X r0_2 = X := funext fun y => congrArg X (whole2 y)

theorem whole3 (y : S1x1024.Idx) : r0_3.idx y = y := by
  funext a
  refine Fin.ext ?_
  match a with
  | ⟨0, _⟩ => show 0 + 1 * (y 0).val = (y 0).val; omega
  | ⟨1, _⟩ => show 0 + 1 * (y 1).val = (y 1).val; omega

theorem load3 {e : EltTy} (X : Vec Ideal S1x1024 e) : View.ld X r0_3 = X := funext fun y => congrArg X (whole3 y)

/-- The reference's projection of the first branch, over this program's argument arrays. -/
abbrev refYa (c : Dev nD) : FVec Ideal Cert.OutRefIdeal.S2048x1024 .bf16 :=
  val_main_v41 (F := Ideal) (m ((c : Thread nD τ).loc main_arg1)) (m ((c : Thread nD τ).loc main_arg3))

/-- The reference's projection of the second branch, over this program's argument arrays. -/
abbrev refYb (c : Dev nD) : FVec Ideal Cert.OutRefIdeal.S2048x1024 .bf16 :=
  val_main_v42 (F := Ideal) (m ((c : Thread nD τ).loc main_arg2)) (m ((c : Thread nD τ).loc main_arg4))

/-- The reference's gated sum of the branches, over this program's argument arrays. -/
abbrev refMerged (c : Dev nD) : FVec Ideal Cert.OutRefIdeal.S2048x1024 .bf16 :=
  val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The reference's projection of the gated sum, over this program's argument arrays. -/
abbrev refMix (c : Dev nD) : FVec Ideal Cert.OutRefIdeal.S2048x1024 .f32 :=
  val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The reference's residual stream after the mixers, over this program's argument arrays. -/
abbrev refH (c : Dev nD) : FVec Ideal Cert.OutRefIdeal.S2048x1024 .f32 :=
  val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The reference's norm before the feed-forward part, over this program's argument arrays. -/
abbrev refXn (c : Dev nD) : FVec Ideal Cert.OutRefIdeal.S2048x1024 .bf16 :=
  val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

end Cert.OutFwdIdeal.Value

end
-- ==== Proof.Out.Branches.lean ====
module

public import proofs.«01_k».proof.Proof.Out.Base

@[expose] public section

set_option maxRecDepth 16384

noncomputable section

open Idealize.ShloMosaic Idealize.ShloMosaic.TcCoe Idealize.SL.Sem
open Idealize.ShloMosaic.Pipeline (Dat)

namespace Cert.OutFwdIdeal.Value

open Cert.OutFwdIdeal Cert.OutFwdIdeal.Gen Cert.OutRefIdeal.Read

variable (m : (ℓ : Loc nD τ sig) → Buf (Elt Ideal) ℓ)

/-- A branch's projection as a point computes it is the reference's at those rows. -/
theorem ya_at (c : Dev nD) (t : Fin cfg0.N) (y0 : Fin 512) (y1 : Fin 1024) :
    k0_pay3 (iblk m c 8 t) (iblk m c 10 t) (ix2 y0 y1) = refYa m c (ix2 (row t y0) y1) := by
  pointwise [k0_pay3, refYa, val_main_v41, val_main_v0, val_main_v1, val_main_v2]
  simp only [read_oa, read_wa]

/-- What a point stores is the reference's, at those rows of the array. -/
theorem ya_point (c : Dev nD) (t : Fin cfg0.N) (y) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y
      = refYa m c (((cfg0.win 16).blk t).view.emb y) := by
  idx_vars y
  rw [place16]
  unfold_out out0_16
  canon_tiles x h
  idx_vars x
  obtain rfl := (Fin.ext h0 : y0 = _)
  obtain rfl := (Fin.ext h1 : y1 = _)
  simp only [load0, load1, load2, load3]
  exact ya_at m c t _ _

/-- This result is the reference's. -/
theorem ya_final (c : Dev nD) : (dats m 0 c).arrAt 16 (cfgs 0).N = refYa m c := by
  refine (dats m 0 c).arrAt_eq_of_covers 16 _ (by decide +kernel) fun t hf y => ?_
  blk_simp
  rw [after0_16]
  exact ya_point m c t y

/-- A branch's projection as a point computes it is the reference's at those rows. -/
theorem yb_at (c : Dev nD) (t : Fin cfg0.N) (y0 : Fin 512) (y1 : Fin 1024) :
    k0_pay4 (iblk m c 9 t) (iblk m c 11 t) (ix2 y0 y1) = refYb m c (ix2 (row t y0) y1) := by
  pointwise [k0_pay4, refYb, val_main_v42, val_main_v3, val_main_v4, val_main_v5]
  simp only [read_ob, read_wb]

/-- What a point stores is the reference's, at those rows of the array. -/
theorem yb_point (c : Dev nD) (t : Fin cfg0.N) (y) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y
      = refYb m c (((cfg0.win 17).blk t).view.emb y) := by
  idx_vars y
  rw [place17]
  unfold_out out0_17
  canon_tiles x h
  idx_vars x
  obtain rfl := (Fin.ext h0 : y0 = _)
  obtain rfl := (Fin.ext h1 : y1 = _)
  simp only [load0, load1, load2, load3]
  exact yb_at m c t _ _

/-- This result is the reference's. -/
theorem yb_final (c : Dev nD) : (dats m 0 c).arrAt 17 (cfgs 0).N = refYb m c := by
  refine (dats m 0 c).arrAt_eq_of_covers 17 _ (by decide +kernel) fun t hf y => ?_
  blk_simp
  rw [after0_17]
  exact yb_point m c t y

end Cert.OutFwdIdeal.Value

end
-- ==== Proof.Out.Merged.lean ====
module

public import proofs.«01_k».proof.Proof.Out.Base

@[expose] public section

set_option maxRecDepth 16384

noncomputable section

open Idealize.ShloMosaic Idealize.ShloMosaic.TcCoe Idealize.SL.Sem
open Idealize.ShloMosaic.Pipeline (Dat)

namespace Cert.OutFwdIdeal.Value

open Cert.OutFwdIdeal Cert.OutFwdIdeal.Gen Cert.OutRefIdeal.Read

variable (m : (ℓ : Loc nD τ sig) → Buf (Elt Ideal) ℓ)

/-- The gated sum of the branches as a point computes it: four pieces of 256 columns side by side. -/
abbrev mergedBlk (c : Dev nD) (t : Fin cfg0.N) : FVec Ideal S512x1024 .bf16 :=
  k0_pay8 (k0_pay3 (iblk m c 8 t) (iblk m c 10 t)) (k0_pay4 (iblk m c 9 t) (iblk m c 11 t)) (k0_pay5 (iblk m c 8 t) (iblk m c 10 t) (iblk m c 9 t) (iblk m c 11 t) (iblk m c 0 t) (iblk m c 4 t)) (k0_pay6 (iblk m c 8 t) (iblk m c 10 t) (iblk m c 1 t))
    (k0_pay7 (iblk m c 5 t)) (iblk m c 2 t) (iblk m c 6 t) (iblk m c 3 t) (iblk m c 7 t)

set_option maxHeartbeats 1000000 in
/-- It is the reference's at those rows. -/
theorem merged_at (c : Dev nD) (t : Fin cfg0.N) (y0 : Fin 512) (y1 : Fin 1024) :
    mergedBlk m c t (ix2 y0 y1) = refMerged m c (ix2 (row t y0) y1) := by
  refine (piece18_0 _ _ _ _ _ _ _ _ _ _ _ _ (ix2 y0 y1)).trans ?_
  rw [whole0]
  obtain ⟨y1, y1_lt⟩ := y1
  obtain ⟨q, l, hl, rfl⟩ : ∃ q l : ℕ, l < 256 ∧ y1 = 256 * q + l := ⟨y1 / 256, y1 % 256, by omega, by omega⟩
  have hq : q = 0 ∨ q = 1 ∨ q = 2 ∨ q = 3 := by omega
  show Cat18_0 _ _ _ _ _ _ _ _ _ _ _ _ (csel18_0 (ix2 y0 ⟨256 * q + l, y1_lt⟩)) (ix18_0 (ix2 y0 ⟨256 * q + l, y1_lt⟩)) = _
  rw [show ix18_0 (ix2 y0 ⟨256 * q + l, y1_lt⟩) = ix2 y0 ⟨l, hl⟩ by blk_ext []]
  rcases hq with rfl | rfl | rfl | rfl
  all_goals
    first
    | rw [show csel18_0 (ix2 y0 ⟨256 * 0 + l, y1_lt⟩) = 0 from Fin.ext (by show (256 * 0 + l) / 256 = 0; omega)]
    | rw [show csel18_0 (ix2 y0 ⟨256 * 1 + l, y1_lt⟩) = 1 from Fin.ext (by show (256 * 1 + l) / 256 = 1; omega)]
    | rw [show csel18_0 (ix2 y0 ⟨256 * 2 + l, y1_lt⟩) = 2 from Fin.ext (by show (256 * 2 + l) / 256 = 2; omega)]
    | rw [show csel18_0 (ix2 y0 ⟨256 * 3 + l, y1_lt⟩) = 3 from Fin.ext (by show (256 * 3 + l) / 256 = 3; omega)]
    pointwise [k0_pay3, k0_pay4, k0_pay5, k0_pay6, k0_pay7, refMerged, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_v43]
    simp only [read_ga0, read_ga1, read_ga2, read_ga3, read_gb0, read_gb1, read_gb2, read_gb3, read_oa, read_ob, read_wa, read_wb]
    rfl

/-- What a point stores is the reference's, at those rows of the array. -/
theorem merged_point (c : Dev nD) (t : Fin cfg0.N) (y) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y
      = refMerged m c (((cfg0.win 18).blk t).view.emb y) := by
  idx_vars y
  rw [place18]
  unfold_out out0_18
  canon_tiles x h
  idx_vars x
  obtain rfl := (Fin.ext h0 : y0 = _)
  obtain rfl := (Fin.ext h1 : y1 = _)
  simp only [load0, load1, load2, load3]
  exact merged_at m c t _ _

/-- This result is the reference's. -/
theorem merged_final (c : Dev nD) : (dats m 0 c).arrAt 18 (cfgs 0).N = refMerged m c := by
  refine (dats m 0 c).arrAt_eq_of_covers 18 _ (by decide +kernel) fun t hf y => ?_
  blk_simp
  rw [after0_18]
  exact merged_point m c t y

/-- The projection of the gated sum as a point computes it. -/
abbrev mixBlk (c : Dev nD) (t : Fin cfg0.N) : FVec Ideal S512x1024 .f32 :=
  k0_pay9 (k0_pay3 (iblk m c 8 t) (iblk m c 10 t)) (k0_pay4 (iblk m c 9 t) (iblk m c 11 t)) (k0_pay5 (iblk m c 8 t) (iblk m c 10 t) (iblk m c 9 t) (iblk m c 11 t) (iblk m c 0 t) (iblk m c 4 t)) (k0_pay6 (iblk m c 8 t) (iblk m c 10 t) (iblk m c 1 t))
    (k0_pay7 (iblk m c 5 t)) (iblk m c 2 t) (iblk m c 6 t) (iblk m c 3 t) (iblk m c 7 t) (iblk m c 12 t)

/-- It is the reference's at those rows. -/
theorem mix_at (c : Dev nD) (t : Fin cfg0.N) (y0 : Fin 512) (y1 : Fin 1024) :
    mixBlk m c t (ix2 y0 y1) = refMix m c (ix2 (row t y0) y1) := by
  have hb := merged_at m c t
  pointwise [mixBlk, k0_pay9, refMix, val_main_v26, val_main_v25]
  simp only [read_w]
  exact Fin.sum_fin_congr fun k => congrArg (· * _) (hb _ k)

/-- What a point stores is the reference's, at those rows of the array. -/
theorem mix_point (c : Dev nD) (t : Fin cfg0.N) (y) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y
      = refMix m c (((cfg0.win 19).blk t).view.emb y) := by
  idx_vars y
  rw [place19]
  unfold_out out0_19
  canon_tiles x h
  idx_vars x
  obtain rfl := (Fin.ext h0 : y0 = _)
  obtain rfl := (Fin.ext h1 : y1 = _)
  simp only [load0, load1, load2, load3]
  exact mix_at m c t _ _

/-- This result is the reference's. -/
theorem mix_final (c : Dev nD) : (dats m 0 c).arrAt 19 (cfgs 0).N = refMix m c := by
  refine (dats m 0 c).arrAt_eq_of_covers 19 _ (by decide +kernel) fun t hf y => ?_
  blk_simp
  rw [after0_19]
  exact mix_point m c t y

end Cert.OutFwdIdeal.Value

end
-- ==== Proof.Out.Norms.lean ====
module

public import proofs.«01_k».proof.Proof.Out.Merged

@[expose] public section

set_option maxRecDepth 16384

noncomputable section

open Idealize.ShloMosaic Idealize.ShloMosaic.TcCoe Idealize.SL.Sem
open Idealize.ShloMosaic.Pipeline (Dat)

namespace Cert.OutFwdIdeal.Value

open Cert.OutFwdIdeal Cert.OutFwdIdeal.Gen Cert.OutRefIdeal.Read

variable (m : (ℓ : Loc nD τ sig) → Buf (Elt Ideal) ℓ)

/-- The residual stream after the mixers, as a point computes it. -/
abbrev hBlk (c : Dev nD) (t : Fin cfg0.N) : FVec Ideal S512x1024 .f32 :=
  k0_pay1 (mixBlk m c t) (k0_pay10 (iblk m c 13 t)) (iblk m c 14 t)

/-- It is the reference's at those rows. -/
theorem h_at (c : Dev nD) (t : Fin cfg0.N) (y0 : Fin 512) (y1 : Fin 1024) :
    hBlk m c t (ix2 y0 y1) = refH m c (ix2 (row t y0) y1) := by
  have hb := mix_at m c t
  unfold hBlk
  revert hb
  generalize mixBlk m c t = M
  intro hb
  pointwise [k0_pay1, k0_pay10, refH, val_main_v27, val_main_v28, val_main_v29, val_main_v30, val_main_v31, val_main_v32, val_main_v33, val_main_v34, val_main_v35, val_main_v36, val_main_v37, val_main_v38, val_main_v39, val_main_v40, val_main_cst_3, val_main_cst_4, val_main_cst_5]
  simp only [hb, read_x, read_gp]

/-- What a point stores is the reference's, at those rows of the array. -/
theorem h_point (c : Dev nD) (t : Fin cfg0.N) (y) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y
      = refH m c (((cfg0.win 20).blk t).view.emb y) := by
  idx_vars y
  rw [place20]
  unfold_out out0_20
  canon_tiles x h
  idx_vars x
  obtain rfl := (Fin.ext h0 : y0 = _)
  obtain rfl := (Fin.ext h1 : y1 = _)
  simp only [load0, load1, load2, load3]
  exact h_at m c t _ _

/-- This result is the reference's. -/
theorem h_final (c : Dev nD) : (dats m 0 c).arrAt 20 (cfgs 0).N = refH m c := by
  refine (dats m 0 c).arrAt_eq_of_covers 20 _ (by decide +kernel) fun t hf y => ?_
  blk_simp
  rw [after0_20]
  exact h_point m c t y

/-- The norm before the feed-forward part, as a point computes it, is the reference's at those rows. -/
theorem xn_at (c : Dev nD) (t : Fin cfg0.N) (y0 : Fin 512) (y1 : Fin 1024) :
    k0_pay2 (mixBlk m c t) (k0_pay10 (iblk m c 13 t)) (iblk m c 14 t) (iblk m c 15 t) (ix2 y0 y1) = refXn m c (ix2 (row t y0) y1) := by
  have hb := h_at m c t
  unfold hBlk at hb
  unfold k0_pay2
  revert hb
  generalize k0_pay1 (mixBlk m c t) (k0_pay10 (iblk m c 13 t)) (iblk m c 14 t) = H
  intro hb
  pointwise [refXn, val_main_v44, val_main_v45, val_main_v46, val_main_v47, val_main_v48, val_main_v49, val_main_v50, val_main_v51, val_main_v52, val_main_v53, val_main_v54, val_main_v55, val_main_v56, val_main_cst_6, val_main_cst_7, val_main_cst_8]
  simp only [hb, read_g2]

/-- What a point stores is the reference's, at those rows of the array. -/
theorem xn_point (c : Dev nD) (t : Fin cfg0.N) (y) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y
      = refXn m c (((cfg0.win 21).blk t).view.emb y) := by
  idx_vars y
  rw [place21]
  unfold_out out0_21
  canon_tiles x h
  idx_vars x
  obtain rfl := (Fin.ext h0 : y0 = _)
  obtain rfl := (Fin.ext h1 : y1 = _)
  simp only [load0, load1, load2, load3]
  exact xn_at m c t _ _

/-- This result is the reference's. -/
theorem xn_final (c : Dev nD) : (dats m 0 c).arrAt 21 (cfgs 0).N = refXn m c := by
  refine (dats m 0 c).arrAt_eq_of_covers 21 _ (by decide +kernel) fun t hf y => ?_
  blk_simp
  rw [after0_21]
  exact xn_point m c t y

end Cert.OutFwdIdeal.Value

end
-- ==== Proof.Out.Claims.lean ====
module

public import proofs.«01_k».proof.Defs
public import proofs.«01_k».proof.Proof.Gen.OutFwd.Frame
public import proofs.«01_k».proof.Proof.Gen.OutRefIdeal.Run
public import proofs.«01_k».proof.Proof.Out.Branches
public import proofs.«01_k».proof.Proof.Out.Merged
public import proofs.«01_k».proof.Proof.Out.Norms

/-! The claims about the forward call that merges the branches and takes the norms after it. -/

@[expose] public section

set_option maxRecDepth 16384

noncomputable section

namespace Cert.Proof

open Idealize.ShloMosaic Idealize.SL.Sem

open Cert

/-- The kernel runs to its end and leaves its arguments. -/
theorem out_frame : Cert.quiescent_OutFwd := fun m ρ _ => Cert.OutFwd.Gen.frame m ρ

/-- So does the idealized kernel. -/
theorem out_frame_ideal : Cert.quiescent_OutFwdIdeal := fun m ρ _ => Cert.OutFwdIdeal.Gen.frame m ρ

/-- The reference runs to its end and leaves its arguments. -/
theorem out_frame_ref : Cert.quiescent_OutRefIdeal := by
  intro m ρ _
  exact (θ_run _ _ _).mono (fun r h => ⟨fun c => (h c).2.2.2.2.2.2, sem_eq_zero_of_no_sems (by decide) r.2⟩)
    (Cert.OutRefIdeal.Value.run m ρ)

set_option maxHeartbeats 1600000 in
/-- The branches' projections, their gated sum, its projection, the residual stream and its norm agree with the reference's, from every memory. -/
theorem out_value : Cert.algebraic_OutFwdIdeal_OutRefIdeal := by
  pair_intro
  · run_from Cert.OutFwdIdeal.Value.run_blocks m g
  · run_from Cert.OutRefIdeal.Value.run m' g'
    all_goals obtain ⟨h0, h1, h2, h3, h4, h5, h6, h7, h8⟩ := hagree c
    · exact (OutRefIdeal.Read.val_main_v41_eq ..).trans (OutFwdIdeal.Value.ya_final m c).symm
    · exact (OutRefIdeal.Read.val_main_v42_eq ..).trans (OutFwdIdeal.Value.yb_final m c).symm
    · exact (OutRefIdeal.Read.val_main_v43_eq ..).trans (OutFwdIdeal.Value.merged_final m c).symm
    · exact (OutRefIdeal.Read.val_main_v26_eq ..).trans (OutFwdIdeal.Value.mix_final m c).symm
    · rw [OutRefIdeal.Read.val_main_v40_eq, h0, h1, h2, h3, h4, h5, h6, h7]; exact (OutFwdIdeal.Value.h_final m c).symm
    · rw [OutRefIdeal.Read.val_main_v56_eq, h0, h1, h2, h3, h4, h5, h6, h7, h8]; exact (OutFwdIdeal.Value.xn_final m c).symm

end Cert.Proof

end
-- ==== Proof.Up.Base.lean ====
module

public import proofs.«01_k».proof.Proof.Gen.UpFwdIdeal.Value
public import proofs.«01_k».proof.Proof.Gen.UpRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpFwdIdeal.Value

open Cert.UpFwdIdeal Cert.UpFwdIdeal.Gen Cert.UpRefIdeal.Read

variable (m : (ℓ : Loc nD τ sig) → Buf (Elt Ideal) ℓ)

/-- The index maps: the first grid coordinate walks the two halves of each group of columns, the second the row tiles. -/
theorem idx : ∀ t : Fin cfg0.N, win0_0.index t = ![t.val % 4, 0] ∧ win0_1.index t = ![t.val / 4, 0] ∧ win0_2.index t = ![t.val / 4 + 2, 0]
    ∧ win0_3.index t = ![0, t.val / 4] ∧ win0_4.index t = ![0, t.val / 4 + 2] ∧ win0_5.index t = ![0, t.val / 4] ∧ win0_6.index t = ![0, t.val / 4 + 2] :=
  (by decide +kernel : ∀ t : Fin grid0.N, _)

theorem idx_out : ∀ t : Fin cfg0.N, win0_7.index t = ![t.val % 4, t.val / 4] ∧ win0_8.index t = ![t.val % 4, t.val / 4]
    ∧ win0_9.index t = ![t.val % 4, t.val / 4] ∧ win0_10.index t = ![t.val % 4, t.val / 4] ∧ win0_11.index t = ![t.val % 4, t.val / 4] :=
  (by decide +kernel : ∀ t : Fin grid0.N, _)

/-- Row `r` of the tile of point `t`, as a row of the whole array. -/
def row (t : Fin cfg0.N) (r : Fin 512) : Fin 2048 := ⟨t.val % 4 * 512 + r.val, by omega⟩

/-- Column `k` of the tile of point `t`, as a column of one of the two halves. -/
def col (t : Fin cfg0.N) (k : Fin 1408) : Fin 2816 := ⟨t.val / 4 * 1408 + k.val, by have := t.isLt; have : cfg0.N = 8 := N_0; omega⟩

/-- A column of the gate's half, as a column of the whole array. -/
def gate (k : Fin 2816) : Fin 5632 := ⟨k.val, by omega⟩

/-- A column of the value's half, as a column of the whole array. -/
def value (k : Fin 2816) : Fin 5632 := ⟨2816 + k.val, by omega⟩

theorem read_x (c : Dev nD) (t : Fin cfg0.N) (r : Fin 512) (k : Fin 1024) :
    iblk m c 0 t (ix2 r k) = (m ((c : Thread nD τ).loc main_arg0)) (ix3 0 (row t r) k) := by
  blk_simp [iblk, idx t]; entry_read; pointwise; blk_ext [idx t, row]

theorem read_wg (c : Dev nD) (t : Fin cfg0.N) (r : Fin 1408) (k : Fin 1024) :
    iblk m c 1 t (ix2 r k) = (m ((c : Thread nD τ).loc main_arg1)) (ix3 0 k (gate (col t r))) := by
  blk_simp [iblk, idx t]; entry_read; pointwise; blk_ext [idx t, col, gate]

theorem read_wv (c : Dev nD) (t : Fin cfg0.N) (r : Fin 1408) (k : Fin 1024) :
    iblk m c 2 t (ix2 r k) = (m ((c : Thread nD τ).loc main_arg1)) (ix3 0 k (value (col t r))) := by
  blk_simp [iblk, idx t]; entry_read; pointwise; blk_ext [idx t, col, value]

theorem read_cwg (c : Dev nD) (t : Fin cfg0.N) (r : Fin 3) (k : Fin 1408) :
    iblk m c 3 t (ix2 r k) = (m ((c : Thread nD τ).loc main_arg2)) (ix3 0 r (gate (col t k))) := by
  blk_simp [iblk, idx t]; entry_read; pointwise; blk_ext [idx t, col, gate]

theorem read_cwv (c : Dev nD) (t : Fin cfg0.N) (r : Fin 3) (k : Fin 1408) :
    iblk m c 4 t (ix2 r k) = (m ((c : Thread nD τ).loc main_arg2)) (ix3 0 r (value (col t k))) := by
  blk_simp [iblk, idx t]; entry_read; pointwise; blk_ext [idx t, col, value]

theorem read_cbg (c : Dev nD) (t : Fin cfg0.N) (r : Fin 1) (k : Fin 1408) :
    iblk m c 5 t (ix2 r k) = (m ((c : Thread nD τ).loc main_arg3)) (ix2 0 (gate (col t k))) := by
  blk_ext [iblk, V, idx t, col, gate]

theorem read_cbv (c : Dev nD) (t : Fin cfg0.N) (r : Fin 1) (k : Fin 1408) :
    iblk m c 6 t (ix2 r k) = (m ((c : Thread nD τ).loc main_arg3)) (ix2 0 (value (col t k))) := by
  blk_ext [iblk, V, idx t, col, value]

theorem place7 (t : Fin cfg0.N) (r : Fin 512) (k : Fin 1408) : ((cfg0.win 7).blk t).view.emb (ix2 r k) = ix2 (row t r) (col t k) := by
  blk_ext [idx_out t, row, col]

theorem place8 (t : Fin cfg0.N) (r : Fin 512) (k : Fin 1408) : ((cfg0.win 8).blk t).view.emb (ix2 r k) = ix2 (row t r) (col t k) := by
  blk_ext [idx_out t, row, col]

theorem place9 (t : Fin cfg0.N) (r : Fin 512) (k : Fin 1408) : ((cfg0.win 9).blk t).view.emb (ix2 r k) = ix2 (row t r) (col t k) := by
  blk_ext [idx_out t, row, col]

theorem place10 (t : Fin cfg0.N) (r : Fin 512) (k : Fin 1408) : ((cfg0.win 10).blk t).view.emb (ix2 r k) = ix2 (row t r) (col t k) := by
  blk_ext [idx_out t, row, col]

theorem place11 (t : Fin cfg0.N) (r : Fin 512) (k : Fin 1408) : ((cfg0.win 11).blk t).view.emb (ix2 r k) = ix2 (row t r) (col t k) := by
  blk_ext [idx_out t, row, col]

end Cert.UpFwdIdeal.Value

end
-- ==== Proof.Up.Shift.lean ====
module

public import proofs.«01_k».proof.Proof.Gen.UpFwdIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpFwdIdeal.Value

open Cert.UpFwdIdeal Cert.UpFwdIdeal.Gen

variable (h : FVec Ideal S512x1408 .f32) (p : FVec Ideal S8x1408 .f32) (w : FVec Ideal S3x1408 .f32) (b : FVec Ideal S1x1408 .f32) (f : ℕ → Fin 1408 → EReal)

/-- Two small row numbers compared as words of 32 bits. -/
theorem word_eq {i j : ℕ} (hi : i < 512) (hj : j < 512) : (BitVec.ofNat 32 i == BitVec.ofNat 32 j) = decide (i = j) := by
  refine Bool.eq_iff_iff.mpr ?_
  rw [beq_iff_eq, decide_eq_true_iff, ← BitVec.toNat_inj, BitVec.toNat_ofNat, BitVec.toNat_ofNat, Nat.mod_eq_of_lt (by omega), Nat.mod_eq_of_lt (by omega)]

/-- A value kept on one row only. -/
theorem keep_row {i j : ℕ} (hi : i < 512) (hj : j < 512) (x y : EReal) :
    Scalar.select (IntOp.cmpi .eq (BitVec.ofNat 32 i) (BitVec.ofNat 32 j)) x y = if i = j then x else y := by
  unfold Scalar.select IntOp.cmpi
  simp only [word_eq hi hj]
  split_ifs with e <;> simp_all

/-- The sum of a block masked to one row is that row. -/
theorem take_row {n : ℕ} (hn : n ≤ 512) (g : Fin n → EReal) (j : Fin n) :
    ∑ x : Fin n, Scalar.select (IntOp.cmpi .eq (BitVec.ofNat 32 x.val) (BitVec.ofNat 32 j.val)) (g x) 0 = g j := by
  have e : ∀ x : Fin n, Scalar.select (IntOp.cmpi .eq (BitVec.ofNat 32 x.val) (BitVec.ofNat 32 j.val)) (g x) 0 = if x = j then g x else 0 := fun x => by
    rw [keep_row (by omega) (by omega)]; exact if_congr Fin.ext_iff.symm rfl rfl
  simp only [e, Finset.sum_ite_eq', Finset.mem_univ, if_true]

/-- The value's tile shifted down by one row, the row before coming in at the top. -/
theorem down1_at (hh : ∀ r k, h (ix2 r k) = f (r.val + 2) k) (hp6 : ∀ k, p (ix2 6 k) = f 0 k) (hp7 : ∀ k, p (ix2 7 k) = f 1 k) (r : Fin 512) (k : Fin 1408) :
    k0_pay12 h p (ix2 r k) = f (r.val + 1) k := by
  pointwise [k0_pay12]
  refine (keep_row (i := r.val) (j := 0) (by omega) (by omega) _ _).trans ?_
  by_cases e : r.val = 0
  · exact (if_pos e).trans ((take_row (by omega) (fun x => p (ix2 x k)) 7).trans ((hp7 k).trans (congrArg (f · k) (by omega))))
  · exact (if_neg e).trans ((hh _ k).trans (congrArg (f · k) (show (r.val + 512 - 1) % 512 + 2 = r.val + 1 by omega)))

/-- The convolution of the value's half. -/
theorem conv_value_at (hh : ∀ r k, h (ix2 r k) = f (r.val + 2) k) (hp6 : ∀ k, p (ix2 6 k) = f 0 k) (hp7 : ∀ k, p (ix2 7 k) = f 1 k) (r : Fin 512) (k : Fin 1408) :
    k0_pay14 h (k0_pay11 w) b (k0_pay12 h p) (k0_pay13 h p w) (ix2 r k) = b (ix2 0 k) + w (ix2 0 k) * f r.val k + w (ix2 1 k) * f (r.val + 1) k + w (ix2 2 k) * f (r.val + 2) k := by
  pointwise [k0_pay14, k0_pay13, k0_pay11]
  have hw : ∀ j : Fin 3, ∑ x : Fin 3, Scalar.select (IntOp.cmpi .eq (BitVec.ofNat 32 x.val) (BitVec.ofNat 32 j.val)) (w (ix2 x k)) 0 = w (ix2 j k) :=
    fun j => take_row (by omega) (fun x => w (ix2 x k)) j
  refine congrArg₂ (· + ·) (congrArg₂ (· + ·) (congrArg (b (ix2 0 k) + ·) (congrArg₂ (· * ·) (hw 0) ?_)) (congrArg₂ (· * ·) (hw 1) (down1_at h p f hh hp6 hp7 r k))) (congrArg₂ (· * ·) (hw 2) (hh r k))
  refine (keep_row (i := r.val) (j := 0) (by omega) (by omega) _ _).trans ?_
  by_cases e : r.val = 0
  · exact (if_pos e).trans ((take_row (by omega) (fun x => p (ix2 x k)) 6).trans ((hp6 k).trans (congrArg (f · k) (by omega))))
  · exact (if_neg e).trans ((down1_at h p f hh hp6 hp7 _ k).trans (congrArg (f · k) (show (r.val + 512 - 1) % 512 + 1 = r.val by omega)))

/-- The convolution of the gate's half. -/
theorem conv_gate_at (hh : ∀ r k, h (ix2 r k) = f (r.val + 2) k) (hp6 : ∀ k, p (ix2 6 k) = f 0 k) (hp7 : ∀ k, p (ix2 7 k) = f 1 k) (r : Fin 512) (k : Fin 1408) :
    k0_pay10 h (k0_pay8 h p (k0_pay5 w) b (k0_pay6 p) k0_pay7 (Scalar.ofBits .f32 0x00000000#32)) (k0_pay9 (k0_pay5 w)) (ix2 r k) = b (ix2 0 k) + w (ix2 0 k) * f r.val k + w (ix2 1 k) * f (r.val + 1) k + w (ix2 2 k) * f (r.val + 2) k := by
  refine Eq.trans ?_ (conv_value_at h p w b f hh hp6 hp7 r k)
  rfl

end Cert.UpFwdIdeal.Value

end
-- ==== Proof.Up.Carry.lean ====
module

public import proofs.«01_k».proof.Proof.Up.Base
public import proofs.«01_k».proof.Proof.Up.Shift

@[expose] public section

set_option maxRecDepth 16384

noncomputable section

open Idealize.ShloMosaic Idealize.ShloMosaic.TcCoe Idealize.SL.Sem
open Idealize.ShloMosaic.Pipeline (Dat)

namespace Cert.UpFwdIdeal.Value

open Cert.UpFwdIdeal Cert.UpFwdIdeal.Gen Cert.UpRefIdeal.Read

variable (m : (ℓ : Loc nD τ sig) → Buf (Elt Ideal) ℓ)

/-- The product before the convolution, as the reference has it. -/
abbrev prod (c : Dev nD) : FVec Ideal Cert.UpRefIdeal.S2048x5632 .f32 := val_main_v2 (F := Ideal) (m ((c : Thread nD τ).loc main_arg0)) (m ((c : Thread nD τ).loc main_arg1))

/-- The reference's padded array: two rows of zeros, then the product. -/
def pad (c : Dev nD) (n : ℕ) (k : Fin 5632) : EReal := if h : n < 2050 then val_main_v6 (F := Ideal) (m ((c : Thread nD τ).loc main_arg0)) (m ((c : Thread nD τ).loc main_arg1)) (ix2 ⟨n, h⟩ k) else 0

theorem pad_zero (c : Dev nD) (n : ℕ) (h : n < 2) (k : Fin 5632) : pad m c n k = 0 := by
  rw [pad, dif_pos (by omega)]
  pointwise [val_main_v6, val_main_v5, val_main_cst]
  exact dif_pos h

theorem pad_row (c : Dev nD) (r : Fin 2048) (k : Fin 5632) : pad m c (r.val + 2) k = prod m c (ix2 r k) := by
  rw [pad, dif_pos (by omega)]
  pointwise [val_main_v6, val_main_v5, val_main_cst]
  refine (dif_neg (by omega)).trans (congrArg (fun a => prod m c (ix2 a k)) (Fin.ext ?_))
  show r.val + 2 - 2 = r.val
  omega

/-- The tile of the product that a point computes for the gate. -/
theorem gate_tile (c : Dev nD) (t : Fin cfg0.N) (r : Fin 512) (k : Fin 1408) :
    k0_pay3 (iblk m c 0 t) (iblk m c 1 t) (ix2 r k) = prod m c (ix2 (row t r) (gate (col t k))) := by
  pointwise [k0_pay3, k0_pay2, prod, val_main_v0, val_main_v1, val_main_v2]
  simp only [read_x, read_wg]

/-- And for the value. -/
theorem value_tile (c : Dev nD) (t : Fin cfg0.N) (r : Fin 512) (k : Fin 1408) :
    k0_pay4 (iblk m c 0 t) (iblk m c 2 t) (ix2 r k) = prod m c (ix2 (row t r) (value (col t k))) := by
  pointwise [k0_pay4, k0_pay2, prod, val_main_v0, val_main_v1, val_main_v2]
  simp only [read_x, read_wv]

/-- The padded array from the tile's first row on, in the columns of one half. -/
def seen (half : Fin 2816 → Fin 5632) (c : Dev nD) (t : Fin cfg0.N) (n : ℕ) (k : Fin 1408) : EReal :=
  pad m c (t.val % 4 * 512 + n) (half (col t k))

theorem seen_tile (half : Fin 2816 → Fin 5632) (c : Dev nD) (t : Fin cfg0.N) (r : Fin 512) (k : Fin 1408) :
    prod m c (ix2 (row t r) (half (col t k))) = seen m half c t (r.val + 2) k :=
  (pad_row m c (row t r) (half (col t k))).symm

theorem seen_first (half : Fin 2816 → Fin 5632) (c : Dev nD) (t : Fin cfg0.N) (h : t.val % 4 = 0) (n : ℕ) (hn : n < 2) (k : Fin 1408) :
    seen m half c t n k = 0 := pad_zero m c _ (by omega) _

theorem seen_next (half : Fin 2816 → Fin 5632) (c : Dev nD) (t : Fin cfg0.N) (h : ¬ t.val % 4 = 0) (hl : t.val - 1 < cfg0.N) (n : ℕ) (k : Fin 1408) :
    seen m half c t n k = seen m half c ⟨t.val - 1, hl⟩ (512 + n) k :=
  congrArg₂ (pad m c) (by simp only; omega) (congrArg half (Fin.ext (by simp only [col]; omega)))

/-- An element of the scratch's first eight rows. -/
theorem at_top (r : Fin 8) (k : Fin 1408) : (Rect.unit (s := S16x1408) ![0, 0] ![8, 1408] inb_S16x1408_S8x1408_0_0).toLoadRect.idx (ix2 r k) = ix2 ⟨r.val, by omega⟩ k :=
  funext fun a => Fin.ext (match a with
    | ⟨0, _⟩ => by show 0 + 1 * r.val = r.val; omega
    | ⟨1, _⟩ => by show 0 + 1 * k.val = k.val; omega)

/-- An element of its last eight rows. -/
theorem at_bottom (r : Fin 8) (k : Fin 1408) : (Rect.unit (s := S16x1408) ![8, 0] ![8, 1408] inb_S16x1408_S8x1408_8_0).toLoadRect.idx (ix2 r k) = ix2 ⟨8 + r.val, by omega⟩ k :=
  funext fun a => Fin.ext (match a with
    | ⟨0, _⟩ => by show 8 + 1 * r.val = 8 + r.val; omega
    | ⟨1, _⟩ => by show 0 + 1 * k.val = k.val; omega)

/-- Two stores of eight rows each, read back from the first eight. -/
theorem stored_top (wv wg : S8x1408.Idx → Elt Ideal .f32) (L) (r : Fin 8) (k : Fin 1408) :
    View.canon (Val := Elt Ideal) (⟨Rect.unit (s := S16x1408) ![8, 0] ![8, 1408] inb_S16x1408_S8x1408_8_0, wv⟩ :: ⟨Rect.unit (s := S16x1408) ![0, 0] ![8, 1408] inb_S16x1408_S8x1408_0_0, wg⟩ :: L) (ix2 ⟨r.val, by omega⟩ k) = wg (ix2 r k) := by
  rw [← at_top]
  have far : (Rect.unit (s := S16x1408) ![0, 0] ![8, 1408] inb_S16x1408_S8x1408_0_0).toLoadRect.idx (ix2 r k) ∉ (Rect.unit (s := S16x1408) ![8, 0] ![8, 1408] inb_S16x1408_S8x1408_8_0).set := LoadRect.idx_not_mem_of_disj (by decide) _
  exact (View.canon_cons_of_not_mem ⟨Rect.unit (s := S16x1408) ![8, 0] ![8, 1408] inb_S16x1408_S8x1408_8_0, wv⟩ _ far).trans (View.canon_cons_emb _ _ _ _)

/-- And from the last eight. -/
theorem stored_bottom (wv : S8x1408.Idx → Elt Ideal .f32) (L) (r : Fin 8) (k : Fin 1408) :
    View.canon (Val := Elt Ideal) (⟨Rect.unit (s := S16x1408) ![8, 0] ![8, 1408] inb_S16x1408_S8x1408_8_0, wv⟩ :: L) (ix2 ⟨8 + r.val, by omega⟩ k) = wv (ix2 r k) := by
  rw [← at_bottom]
  exact View.canon_cons_emb _ _ _ _

/-- After a point the scratch's first eight rows are the last eight of the gate's tile. -/
theorem kept_top (c : Dev nD) (t : Fin cfg0.N) (r : Fin 8) (k : Fin 1408) :
    (outsAt0 m c t.val t.isLt).2.2.2.2.2 (ix2 ⟨r.val, by omega⟩ k) = seen m gate c t (506 + r.val) k := by
  have hp : k0_pay16 (k0_pay3 (iblk m c 0 t) (iblk m c 1 t)) (ix2 r k) = seen m gate c t (506 + r.val) k := by
    pointwise [k0_pay16]
    exact (gate_tile m c t _ k).trans ((seen_tile m gate c t _ k).trans (congrArg (seen m gate c t · k) (by simp only; omega)))
  by_cases h0 : t.val % 4 = 0
  · rw [outsAt0_A m c t h0]
    frame_out
    exact (stored_top _ _ _ r k).trans hp
  · rw [outsAt0_B m c t h0]
    frame_out
    exact (stored_top _ _ _ r k).trans hp

/-- And its last eight rows those of the value's tile. -/
theorem kept_bottom (c : Dev nD) (t : Fin cfg0.N) (r : Fin 8) (k : Fin 1408) :
    (outsAt0 m c t.val t.isLt).2.2.2.2.2 (ix2 ⟨8 + r.val, by omega⟩ k) = seen m value c t (506 + r.val) k := by
  have hp : k0_pay17 (k0_pay4 (iblk m c 0 t) (iblk m c 2 t)) (ix2 r k) = seen m value c t (506 + r.val) k := by
    pointwise [k0_pay17]
    exact (value_tile m c t _ k).trans ((seen_tile m value c t _ k).trans (congrArg (seen m value c t · k) (by simp only; omega)))
  by_cases h0 : t.val % 4 = 0
  · rw [outsAt0_A m c t h0]
    frame_out
    exact (stored_bottom _ _ r k).trans hp
  · rw [outsAt0_B m c t h0]
    frame_out
    exact (stored_bottom _ _ r k).trans hp

/-- What a tile's first point loads of the rows before it: zeros. -/
theorem load_first (half : Fin 2816 → Fin 5632) {κ : Kind} {sp : Space} (v : View sig κ sp S16x1408 .f32) (r : Rect S16x1408) (c : Dev nD) (t : Fin cfg0.N)
    (h : t.val % 4 = 0) (n : ℕ) (hn : n < 2) (k : Fin 1408) (y) :
    v.readCov (Val := Elt Ideal) [⟨Rect.unit (s := S16x1408) ![0, 0] ![16, 1408] inb_S16x1408_S16x1408_0_0, k0_pay1 (F := Ideal)⟩] r.toLoadRect y
      = seen m half c t n k := by
  refine (congrFun (View.readCov_fill _ _ _ _ _ (by decide)) _).trans (Eq.trans ?_ (seen_first m half c t h n hn k).symm)
  have hz : ∀ x, k0_pay1 (F := Ideal) x = 0 := fun x => by idx_vars x; pointwise [k0_pay1]
  exact hz _

/-- What a later point loads for the gate: the last rows of the point before. -/
theorem load_top (c : Dev nD) (t : Fin cfg0.N) (h : ¬ t.val % 4 = 0) (hl : t.val - 1 < cfg0.N) (hw : (Memref.whole cc0_scratch0).IsWhole) (r : Fin 8) (n : ℕ) (hn : n + 6 = r.val) (k : Fin 1408) :
    View.ld (View.read (Elt Ideal) (View.whole cc0_scratch0) (hw.unread (outsAt0 m c (t.val - 1) hl).2.2.2.2.2)) (Rect.unit (s := S16x1408) ![0, 0] ![8, 1408] inb_S16x1408_S8x1408_0_0) (ix2 r k) = seen m gate c t n k := by
  rw [read_unread_whole, seen_next m gate c t h hl, show 512 + n = 506 + r.val by omega]
  exact (congrArg (outsAt0 m c (t.val - 1) hl).2.2.2.2.2 (at_top r k)).trans (kept_top m c ⟨t.val - 1, hl⟩ r k)

/-- And for the value. -/
theorem load_bottom (c : Dev nD) (t : Fin cfg0.N) (h : ¬ t.val % 4 = 0) (hl : t.val - 1 < cfg0.N) (hw : (Memref.whole cc0_scratch0).IsWhole) (r : Fin 8) (n : ℕ) (hn : n + 6 = r.val) (k : Fin 1408) :
    View.ld (View.read (Elt Ideal) (View.whole cc0_scratch0) (hw.unread (outsAt0 m c (t.val - 1) hl).2.2.2.2.2)) (Rect.unit (s := S16x1408) ![8, 0] ![8, 1408] inb_S16x1408_S8x1408_8_0) (ix2 r k) = seen m value c t n k := by
  rw [read_unread_whole, seen_next m value c t h hl, show 512 + n = 506 + r.val by omega]
  exact (congrArg (outsAt0 m c (t.val - 1) hl).2.2.2.2.2 (at_bottom r k)).trans (kept_bottom m c ⟨t.val - 1, hl⟩ r k)

end Cert.UpFwdIdeal.Value

end
-- ==== Proof.Up.Conv.lean ====
module

public import proofs.«01_k».proof.Proof.Up.Carry

@[expose] public section

set_option maxRecDepth 16384

noncomputable section

open Idealize.ShloMosaic Idealize.ShloMosaic.TcCoe Idealize.SL.Sem
open Idealize.ShloMosaic.Pipeline (Dat)

namespace Cert.UpFwdIdeal.Value

open Cert.UpFwdIdeal Cert.UpFwdIdeal.Gen Cert.UpRefIdeal.Read

variable (m : (ℓ : Loc nD τ sig) → Buf (Elt Ideal) ℓ)

/-- The reference's convolution of the product. -/
abbrev refC (c : Dev nD) : FVec Ideal Cert.UpRefIdeal.S2048x5632 .f32 := val_main_v29 (F := Ideal) (m ((c : Thread nD τ).loc main_arg0)) (m ((c : Thread nD τ).loc main_arg1)) (m ((c : Thread nD τ).loc main_arg2)) (m ((c : Thread nD τ).loc main_arg3))

/-- A tap of the convolution, and its bias. -/
def tap (c : Dev nD) (j : Fin 3) (k : Fin 5632) : EReal := (m ((c : Thread nD τ).loc main_arg2)) (ix3 0 j k)

def bias (c : Dev nD) (k : Fin 5632) : EReal := (m ((c : Thread nD τ).loc main_arg3)) (ix2 0 k)

/-- The reference's convolution as three taps over the padded array. -/
theorem conv_ref (c : Dev nD) (r : Fin 2048) (k : Fin 5632) :
    refC m c (ix2 r k) = bias m c k + tap m c 0 k * pad m c r.val k + tap m c 1 k * pad m c (r.val + 1) k + tap m c 2 k * pad m c (r.val + 2) k := by
  have e : ∀ n (h : n < 2050) k, val_main_v6 (F := Ideal) (m ((c : Thread nD τ).loc main_arg0)) (m ((c : Thread nD τ).loc main_arg1)) (ix2 ⟨n, h⟩ k) = pad m c n k := fun n h k => by
    rw [pad, dif_pos h]
  pointwise [refC, val_main_v3, val_main_v4, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29]
  simp only [e, Nat.add_comm _ r.val]
  rfl

/-- The gate half of the convolution, at a point that loads the rows before its tile. -/
theorem gate_conv (c : Dev nD) (t : Fin cfg0.N) (p : FVec Ideal S8x1408 .f32) (hp : ∀ r : Fin 8, ∀ n, n + 6 = r.val → ∀ k, p (ix2 r k) = seen m gate c t n k) (r : Fin 512) (k : Fin 1408) :
    k0_pay10 (k0_pay3 (iblk m c 0 t) (iblk m c 1 t)) (k0_pay8 (k0_pay3 (iblk m c 0 t) (iblk m c 1 t)) p (k0_pay5 (iblk m c 3 t)) (iblk m c 5 t) (k0_pay6 p) k0_pay7 (Scalar.ofBits .f32 0x00000000#32)) (k0_pay9 (k0_pay5 (iblk m c 3 t))) (ix2 r k) = refC m c (ix2 (row t r) (gate (col t k))) := by
  refine (conv_gate_at _ p _ _ (seen m gate c t) (fun r k => (gate_tile m c t r k).trans (seen_tile m gate c t r k)) (hp 6 0 rfl) (hp 7 1 rfl) r k).trans ?_
  rw [conv_ref, read_cbg, read_cwg, read_cwg, read_cwg]
  rfl

/-- And the value half. -/
theorem value_conv (c : Dev nD) (t : Fin cfg0.N) (p : FVec Ideal S8x1408 .f32) (hp : ∀ r : Fin 8, ∀ n, n + 6 = r.val → ∀ k, p (ix2 r k) = seen m value c t n k) (r : Fin 512) (k : Fin 1408) :
    k0_pay14 (k0_pay4 (iblk m c 0 t) (iblk m c 2 t)) (k0_pay11 (iblk m c 4 t)) (iblk m c 6 t) (k0_pay12 (k0_pay4 (iblk m c 0 t) (iblk m c 2 t)) p) (k0_pay13 (k0_pay4 (iblk m c 0 t) (iblk m c 2 t)) p (iblk m c 4 t)) (ix2 r k) = refC m c (ix2 (row t r) (value (col t k))) := by
  refine (conv_value_at _ p _ _ (seen m value c t) (fun r k => (value_tile m c t r k).trans (seen_tile m value c t r k)) (hp 6 0 rfl) (hp 7 1 rfl) r k).trans ?_
  rw [conv_ref, read_cbv, read_cwv, read_cwv, read_cwv]
  rfl

end Cert.UpFwdIdeal.Value

end
-- ==== Proof.Up.Points.lean ====
module

public import proofs.«01_k».proof.Proof.Up.Conv

@[expose] public section

set_option maxRecDepth 16384

noncomputable section

open Idealize.ShloMosaic Idealize.ShloMosaic.TcCoe Idealize.SL.Sem
open Idealize.ShloMosaic.Pipeline (Dat)

namespace Cert.UpFwdIdeal.Value

open Cert.UpFwdIdeal Cert.UpFwdIdeal.Gen Cert.UpRefIdeal.Read

variable (m : (ℓ : Loc nD τ sig) → Buf (Elt Ideal) ℓ)

theorem hg_half (c : Dev nD) (r : Fin 2048) (k : Fin 2816) : val_main_v34 (F := Ideal) (m ((c : Thread nD τ).loc main_arg0)) (m ((c : Thread nD τ).loc main_arg1)) (ix2 r k) = prod m c (ix2 r (gate k)) := by
  pointwise [val_main_v34]
  rfl

theorem hg_point (c : Dev nD) (t : Fin cfg0.N) (y) : (outsAt0 m c t.val t.isLt).1 y = val_main_v34 (F := Ideal) (m ((c : Thread nD τ).loc main_arg0)) (m ((c : Thread nD τ).loc main_arg1)) (((cfg0.win 7).blk t).view.emb y) := by
  idx_vars y
  rw [place7]
  by_cases h0 : t.val % 4 = 0
  · rw [outsAt0_A m c t h0]
    frame_out
    exact (gate_tile m c t y0 y1).trans (hg_half m c _ _).symm
  · rw [outsAt0_B m c t h0]
    frame_out
    exact (gate_tile m c t y0 y1).trans (hg_half m c _ _).symm

/-- After the run this result is the reference's. -/
theorem hg_final (c : Dev nD) : (dats m 0 c).arrAt 7 (cfgs 0).N = val_main_v34 (F := Ideal) (m ((c : Thread nD τ).loc main_arg0)) (m ((c : Thread nD τ).loc main_arg1)) := by
  refine (dats m 0 c).arrAt_eq_of_covers 7 _ (by decide +kernel) fun t hf y => ?_
  blk_simp
  rw [after0_7]
  exact hg_point m c t y

theorem hv_half (c : Dev nD) (r : Fin 2048) (k : Fin 2816) : val_main_v35 (F := Ideal) (m ((c : Thread nD τ).loc main_arg0)) (m ((c : Thread nD τ).loc main_arg1)) (ix2 r k) = prod m c (ix2 r (value k)) := by
  pointwise [val_main_v35]
  rfl

theorem hv_point (c : Dev nD) (t : Fin cfg0.N) (y) : (outsAt0 m c t.val t.isLt).2.1 y = val_main_v35 (F := Ideal) (m ((c : Thread nD τ).loc main_arg0)) (m ((c : Thread nD τ).loc main_arg1)) (((cfg0.win 8).blk t).view.emb y) := by
  idx_vars y
  rw [place8]
  by_cases h0 : t.val % 4 = 0
  · rw [outsAt0_A m c t h0]
    frame_out
    exact (value_tile m c t y0 y1).trans (hv_half m c _ _).symm
  · rw [outsAt0_B m c t h0]
    frame_out
    exact (value_tile m c t y0 y1).trans (hv_half m c _ _).symm

/-- After the run this result is the reference's. -/
theorem hv_final (c : Dev nD) : (dats m 0 c).arrAt 8 (cfgs 0).N = val_main_v35 (F := Ideal) (m ((c : Thread nD τ).loc main_arg0)) (m ((c : Thread nD τ).loc main_arg1)) := by
  refine (dats m 0 c).arrAt_eq_of_covers 8 _ (by decide +kernel) fun t hf y => ?_
  blk_simp
  rw [after0_8]
  exact hv_point m c t y

theorem cg_half (c : Dev nD) (r : Fin 2048) (k : Fin 2816) : val_main_v37 (F := Ideal) (m ((c : Thread nD τ).loc main_arg0)) (m ((c : Thread nD τ).loc main_arg1)) (m ((c : Thread nD τ).loc main_arg2)) (m ((c : Thread nD τ).loc main_arg3)) (ix2 r k) = refC m c (ix2 r (gate k)) := by
  pointwise [val_main_v37]
  rfl

theorem cg_point (c : Dev nD) (t : Fin cfg0.N) (y) : (outsAt0 m c t.val t.isLt).2.2.2.1 y = val_main_v37 (F := Ideal) (m ((c : Thread nD τ).loc main_arg0)) (m ((c : Thread nD τ).loc main_arg1)) (m ((c : Thread nD τ).loc main_arg2)) (m ((c : Thread nD τ).loc main_arg3)) (((cfg0.win 10).blk t).view.emb y) := by
  idx_vars y
  rw [place10]
  by_cases h0 : t.val % 4 = 0
  · rw [outsAt0_A m c t h0]
    frame_out
    exact (gate_conv m c t _ (fun r n hn k => load_first m gate _ _ c t h0 n (by omega) k _) y0 y1).trans (cg_half m c _ _).symm
  · rw [outsAt0_B m c t h0]
    frame_out
    exact (gate_conv m c t _ (fun r n hn k => load_top m c t h0 _ _ r n hn k) y0 y1).trans (cg_half m c _ _).symm

/-- After the run this result is the reference's. -/
theorem cg_final (c : Dev nD) : (dats m 0 c).arrAt 10 (cfgs 0).N = val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp
  rw [after0_10]
  exact cg_point m c t y

theorem cv_half (c : Dev nD) (r : Fin 2048) (k : Fin 2816) : val_main_v38 (F := Ideal) (m ((c : Thread nD τ).loc main_arg0)) (m ((c : Thread nD τ).loc main_arg1)) (m ((c : Thread nD τ).loc main_arg2)) (m ((c : Thread nD τ).loc main_arg3)) (ix2 r k) = refC m c (ix2 r (value k)) := by
  pointwise [val_main_v38]
  rfl

theorem cv_point (c : Dev nD) (t : Fin cfg0.N) (y) : (outsAt0 m c t.val t.isLt).2.2.2.2.1 y = val_main_v38 (F := Ideal) (m ((c : Thread nD τ).loc main_arg0)) (m ((c : Thread nD τ).loc main_arg1)) (m ((c : Thread nD τ).loc main_arg2)) (m ((c : Thread nD τ).loc main_arg3)) (((cfg0.win 11).blk t).view.emb y) := by
  idx_vars y
  rw [place11]
  by_cases h0 : t.val % 4 = 0
  · rw [outsAt0_A m c t h0]
    frame_out
    exact (value_conv m c t _ (fun r n hn k => load_first m value _ _ c t h0 n (by omega) k _) y0 y1).trans (cv_half m c _ _).symm
  · rw [outsAt0_B m c t h0]
    frame_out
    exact (value_conv m c t _ (fun r n hn k => load_bottom m c t h0 _ _ r n hn k) y0 y1).trans (cv_half m c _ _).symm

/-- After the run this result is the reference's. -/
theorem cv_final (c : Dev nD) : (dats m 0 c).arrAt 11 (cfgs 0).N = val_main_v38 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  blk_simp
  rw [after0_11]
  exact cv_point m c t y

/-- The product of the gate's SiLU and the value, from the two halves of the convolution. -/
theorem act_ref (c : Dev nD) (t : Fin cfg0.N) (y0 : Fin 512) (y1 : Fin 1408) (h : FVec Ideal S512x1408 .f32) (g : FVec Ideal S512x1408 .f32) (w : FVec Ideal S3x1408 .f32) (b : FVec Ideal S1x1408 .f32) (s1 w0 : FVec Ideal S512x1408 .f32)
    (hg : g (ix2 y0 y1) = refC m c (ix2 (row t y0) (gate (col t y1)))) (hv : k0_pay14 h w b s1 w0 (ix2 y0 y1) = refC m c (ix2 (row t y0) (value (col t y1)))) :
    k0_pay15 h g w b s1 w0 (ix2 y0 y1) = val_main_v36 (F := Ideal) (m ((c : Thread nD τ).loc main_arg0)) (m ((c : Thread nD τ).loc main_arg1)) (m ((c : Thread nD τ).loc main_arg2)) (m ((c : Thread nD τ).loc main_arg3)) (ix2 (row t y0) (col t y1)) := by
  pointwise [k0_pay15, val_main_v30, val_main_v31, val_main_v32, val_main_v33, val_main_v36, val_main_call0_cst, val_main_call0_cst_0, val_main_call0_v0, val_main_call0_v1, val_main_call0_v2, val_main_call0_v3, val_main_call0_v4, val_main_call0_v5]
  rw [hg, hv]
  rfl

theorem act_point (c : Dev nD) (t : Fin cfg0.N) (y) : (outsAt0 m c t.val t.isLt).2.2.1 y = val_main_v36 (F := Ideal) (m ((c : Thread nD τ).loc main_arg0)) (m ((c : Thread nD τ).loc main_arg1)) (m ((c : Thread nD τ).loc main_arg2)) (m ((c : Thread nD τ).loc main_arg3)) (((cfg0.win 9).blk t).view.emb y) := by
  idx_vars y
  rw [place9]
  by_cases h0 : t.val % 4 = 0
  · rw [outsAt0_A m c t h0]
    frame_out
    exact act_ref m c t y0 y1 _ _ _ _ _ _ (gate_conv m c t _ (fun r n hn k => load_first m gate _ _ c t h0 n (by omega) k _) y0 y1) (value_conv m c t _ (fun r n hn k => load_first m value _ _ c t h0 n (by omega) k _) y0 y1)
  · rw [outsAt0_B m c t h0]
    frame_out
    exact act_ref m c t y0 y1 _ _ _ _ _ _ (gate_conv m c t _ (fun r n hn k => load_top m c t h0 _ _ r n hn k) y0 y1) (value_conv m c t _ (fun r n hn k => load_bottom m c t h0 _ _ r n hn k) y0 y1)

/-- After the run this result is the reference's. -/
theorem act_final (c : Dev nD) : (dats m 0 c).arrAt 9 (cfgs 0).N = val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  rw [after0_9]
  exact act_point m c t y

end Cert.UpFwdIdeal.Value

end
-- ==== Proof.Up.Claims.lean ====
module

public import proofs.«01_k».proof.Defs
public import proofs.«01_k».proof.Proof.Gen.UpFwd.Frame
public import proofs.«01_k».proof.Proof.Gen.UpRefIdeal.Run
public import proofs.«01_k».proof.Proof.Up.Points

/-! The claims about the forward call that projects, convolves and gates. -/

@[expose] public section

set_option maxRecDepth 16384

noncomputable section

namespace Cert.Proof

open Idealize.ShloMosaic Idealize.SL.Sem

open Cert

/-- The kernel runs to its end and leaves its arguments. -/
theorem up_frame : Cert.quiescent_UpFwd := fun m ρ _ => Cert.UpFwd.Gen.frame m ρ

/-- So does the idealized kernel. -/
theorem up_frame_ideal : Cert.quiescent_UpFwdIdeal := fun m ρ _ => Cert.UpFwdIdeal.Gen.frame m ρ

/-- The reference runs to its end and leaves its arguments. -/
theorem up_frame_ref : Cert.quiescent_UpRefIdeal := by
  intro m ρ _
  exact (θ_run _ _ _).mono (fun r h => ⟨fun c => (h c).2.2.2.2.2, sem_eq_zero_of_no_sems (by decide) r.2⟩)
    (Cert.UpRefIdeal.Value.run m ρ)

set_option maxHeartbeats 1600000 in
/-- The projection's two halves, the convolution's two halves and the gated product agree with the reference's, from every memory. -/
theorem up_value : Cert.algebraic_UpFwdIdeal_UpRefIdeal := by
  pair_intro
  · run_from Cert.UpFwdIdeal.Value.run_blocks m g
  · run_from Cert.UpRefIdeal.Value.run m' g'
    all_goals obtain ⟨h0, h1, h2, h3⟩ := hagree c
    · exact (UpRefIdeal.Read.val_main_v34_eq ..).trans (UpFwdIdeal.Value.hg_final m c).symm
    · exact (UpRefIdeal.Read.val_main_v35_eq ..).trans (UpFwdIdeal.Value.hv_final m c).symm
    · rw [UpRefIdeal.Read.val_main_v36_eq, h0, h1, h2, h3]; exact (UpFwdIdeal.Value.act_final m c).symm
    · exact (UpRefIdeal.Read.val_main_v37_eq ..).trans (UpFwdIdeal.Value.cg_final m c).symm
    · exact (UpRefIdeal.Read.val_main_v38_eq ..).trans (UpFwdIdeal.Value.cv_final m c).symm

end Cert.Proof

end
-- ==== Proof.Mix.Spec.lean ====
module

public import Idealize.ShloMosaic.PureOps.Ideal
public import Idealize.ShloMosaic.Lib.Pipeline.ValueKit

@[expose] public section

noncomputable section

open Idealize.ShloMosaic

/-! The gated linear recurrence over chunks of 32 rows and eight heads of 128 columns, of plain functions: what both programs are shown to
compute. -/

namespace Cert.Recurrence

/-- The column `k` of head `p`. -/
def col (p : Fin 8) (k : Fin 128) : Fin 1024 := ⟨p.val * 128 + k.val, by omega⟩

/-- The row `r` of chunk `n`. -/
def row (n : ℕ) (r : Fin 32) : Fin 2048 := ⟨(n * 32 + r.val) % 2048, Nat.mod_lt _ (by omega)⟩

/-- The sum of the first values, up to and with the `r`-th. -/
def upTo (x : Fin 32 → EReal) (r : Fin 32) : EReal := ∑ s : Fin 32, if s ≤ r then x s else 0

variable (q g h v : Fin 2048 → Fin 1024 → EReal)

/-- The logarithm of the decay from a chunk's start to its row `r`. -/
def cum (n : ℕ) (r : Fin 32) (k : Fin 1024) : EReal := upTo (fun s => g (row n s) k) r

/-- Queries and keys relative to the chunk's middle row. -/
def queryMid (n : ℕ) (r : Fin 32) (k : Fin 1024) : EReal := q (row n r) k * Ideal.exp (cum g n r k - cum g n 15 k)
def keyMid (n : ℕ) (r : Fin 32) (k : Fin 1024) : EReal := h (row n r) k * Ideal.exp (cum g n 15 k - cum g n r k)

/-- Queries relative to the chunk's start, keys relative to its end. -/
def queryStart (n : ℕ) (r : Fin 32) (k : Fin 1024) : EReal := q (row n r) k * Ideal.exp (cum g n r k)
def keyEnd (n : ℕ) (r : Fin 32) (k : Fin 1024) : EReal := h (row n r) k * Ideal.exp (cum g n 31 k - cum g n r k)

/-- A chunk's whole decay. -/
def decay (n : ℕ) (k : Fin 1024) : EReal := Ideal.exp (cum g n 31 k)

/-- The masked scores of a chunk's rows against each other. -/
def score (n : ℕ) (p : Fin 8) (r s : Fin 32) : EReal :=
  if s ≤ r then ∑ j : Fin 128, queryMid q g n r (col p j) * keyMid g h n s (col p j) else 0

/-- What a chunk adds to the state. -/
def added (n : ℕ) (p : Fin 8) (a k : Fin 128) : EReal := ∑ r : Fin 32, v (row n r) (col p a) * keyEnd g h n r (col p k)

/-- The state before chunk `n`: value column `a`, key column `k` of head `p`. -/
def state : ℕ → Fin 8 → Fin 128 → Fin 128 → EReal
  | 0, _, _, _ => 0
  | n + 1, p, a, k => decay g n (col p k) * state n p a k + added g h v n p a k

/-- A head's output at the row `r` of chunk `n`. -/
def out (n : ℕ) (p : Fin 8) (r : Fin 32) (a : Fin 128) : EReal :=
  (∑ s : Fin 32, score q g h n p r s * v (row n s) (col p a)) + ∑ k : Fin 128, queryStart q g n r (col p k) * state g h v n p a k

/-- The sum of a value and of the remainders of its splitting is the value, as long as it is not the upper infinity. -/
theorem split_add (x : EReal) (hx : x ≠ ⊤) : x + (x - x) + ((x - x) - (x - x)) = x := by
  induction x using EReal.rec with
  | bot => simp
  | top => exact absurd rfl hx
  | coe a => simp [← EReal.coe_sub]

/-- Over three pieces the masked sums add up to the masked sum of the whole. -/
theorem upTo_split (x : Fin 32 → EReal) (hx : ∀ s, x s ≠ ⊤) (r : Fin 32) :
    upTo x r + upTo (fun s => x s - x s) r + upTo (fun s => (x s - x s) - (x s - x s)) r = upTo x r := by
  unfold upTo
  rw [← Finset.sum_add_distrib, ← Finset.sum_add_distrib]
  refine Finset.sum_congr rfl fun s _ => ?_
  split_ifs
  · exact split_add _ (hx s)
  · simp

/-- The sum over a window that ends at row `r`, as the sum of the rows up to it. -/
theorem window_sum (x : Fin 32 → EReal) (r : Fin 32) :
    (∑ w : Fin 32, if h : 31 ≤ r.val + w.val then x ⟨r.val + w.val - 31, by omega⟩ else 0) = upTo x r := by
  refine Fintype.sum_equiv (Equiv.addLeft (r + 1)) _ _ fun w => ?_
  have e : ((Equiv.addLeft (r + 1)) w).val = (r.val + w.val + 1) % 32 := by
    simp only [Equiv.coe_addLeft, Fin.val_add]
    change (((r.val + 1) % 32) + w.val) % 32 = _
    omega
  by_cases hw : 31 ≤ r.val + w.val
  · rw [dif_pos hw, if_pos (Fin.le_def.mpr (by omega))]
    exact congrArg x (Fin.ext (by rw [e]; show r.val + w.val - 31 = _; omega))
  · rw [dif_neg hw, if_neg (fun h => absurd (Fin.le_def.mp h) (by omega))]

end Cert.Recurrence

end
-- ==== Proof.Mix.Chunk.lean ====
module

public import proofs.«01_k».proof.Proof.Gen.MixFwdIdeal.Skeleton
public import proofs.«01_k».proof.Proof.Mix.Spec
public import Idealize.ShloMosaic.Lib.Pipeline.ValueKit

@[expose] public section

set_option maxRecDepth 16384

noncomputable section

open Idealize.ShloMosaic Idealize.ShloMosaic.TcCoe

namespace Cert.MixFwdIdeal.Value

open Cert.MixFwdIdeal Cert.MixFwdIdeal.Gen Cert.Recurrence

/-! The pieces that a tile's four chunks are made of, at their elements. -/

/-- The mask of a chunk's rows, as numbers. -/
abbrev ones : FVec Ideal S32x32 .f32 := k0_pay35 (F := Ideal) k0_pay34 (1 : EReal) (0 : EReal)

/-- Row `x` of the tile that starts with chunk `n`. -/
def tileRow (n : ℕ) (x : Fin 128) : Fin 2048 := ⟨(n * 32 + x.val) % 2048, Nat.mod_lt _ (by omega)⟩

theorem tileRow_eq (n i : ℕ) (r : Fin 32) (x : Fin 128) (hx : x.val = i * 32 + r.val) : tileRow n x = row (n + i) r :=
  Fin.ext (by simp only [tileRow, row, hx]; congr 1; ring)

/-- Two small row numbers, as words of 32 bits, are equal as they are as numbers. -/
theorem word_eq {i j : ℕ} (hi : i < 64) (hj : j < 64) : BitVec.ofNat 32 i = BitVec.ofNat 32 j ↔ i = j := by
  rw [← BitVec.toNat_inj, BitVec.toNat_ofNat, BitVec.toNat_ofNat, Nat.mod_eq_of_lt (by omega), Nat.mod_eq_of_lt (by omega)]

/-- The sum of a block masked to one row is that row. -/
theorem take_row (x : Fin 32 → EReal) (j : Fin 32) :
    ∑ s : Fin 32, Scalar.select (IntOp.cmpi .eq (BitVec.ofNat 32 s.val) (BitVec.ofNat 32 j.val)) (x s) 0 = x j := by
  have e : ∀ s : Fin 32, Scalar.select (IntOp.cmpi .eq (BitVec.ofNat 32 s.val) (BitVec.ofNat 32 j.val)) (x s) 0 = if s = j then x s else 0 := fun s => by
    by_cases h : s = j
    · subst h; simp [Scalar.select, IntOp.cmpi]
    · have hb : (BitVec.ofNat 32 s.val == BitVec.ofNat 32 j.val) = false :=
        beq_eq_false_iff_ne.mpr fun h' => h (Fin.ext ((word_eq (by omega) (by omega)).mp h'))
      simp [Scalar.select, IntOp.cmpi, h, hb]
  simp only [e, Finset.sum_ite_eq', Finset.mem_univ, if_true]

theorem take_mid (x : Fin 32 → EReal) : ∑ s : Fin 32, Scalar.select (IntOp.cmpi .eq (BitVec.ofNat 32 s.val) 15#32) (x s) 0 = x 15 := take_row x 15

theorem take_last (x : Fin 32 → EReal) : ∑ s : Fin 32, Scalar.select (IntOp.cmpi .eq (BitVec.ofNat 32 s.val) 31#32) (x s) 0 = x 31 := take_row x 31

/-- A value kept on and below the diagonal only. -/
theorem below (r s : Fin 32) (x y : EReal) :
    Scalar.select (IntOp.cmpi .sle (BitVec.ofNat 32 s.val) (BitVec.ofNat 32 r.val)) x y = if s ≤ r then x else y := by
  have e : (BitVec.ofNat 32 s.val).sle (BitVec.ofNat 32 r.val) = decide (s ≤ r) := by
    revert r s; decide +kernel
  by_cases h : s ≤ r <;> simp [Scalar.select, IntOp.cmpi, e, h]

variable (n : ℕ) {q g h : Fin 2048 → Fin 1024 → EReal} {Q G H : FVec Ideal S128x1024 .f32}

/-- The logarithms of the decays in the tile's first chunk. -/
theorem cum0_at (hG : ∀ x k, G (ix2 x k) = g (tileRow n x) k) (hg : ∀ x k, g x k ≠ ⊤) (r : Fin 32) (k : Fin 1024) :
    k0_pay36 G k0_pay34 (1 : EReal) (0 : EReal) (ix2 r k) = cum g n r k := by
  pointwise [k0_pay36, k0_pay35, k0_pay34]
  simp only [below, hG]
  refine (upTo_split _ (fun s => hg _ k) r).trans (congrArg (upTo · r) (funext fun s => congrArg (g · k) (tileRow_eq n 0 s _ (by simp))))

/-- And the five blocks made of them. -/
theorem blocks0_at (hG : ∀ x k, G (ix2 x k) = g (tileRow n x) k) (hg : ∀ x k, g x k ≠ ⊤) (hQ : ∀ x k, Q (ix2 x k) = q (tileRow n x) k)
    (hH : ∀ x k, H (ix2 x k) = h (tileRow n x) k) (r : Fin 32) (k : Fin 1024) :
    k0_pay39 Q G k0_pay34 (1 : EReal) (0 : EReal) (ix2 r k) = queryMid q g n r k ∧ k0_pay40 H G k0_pay34 (1 : EReal) (0 : EReal) (ix2 r k) = keyMid g h n r k
    ∧ k0_pay41 Q G k0_pay34 (1 : EReal) (0 : EReal) (ix2 r k) = queryStart q g n r k ∧ k0_pay42 H G k0_pay34 (1 : EReal) (0 : EReal) (ix2 r k) = keyEnd g h n r k
    ∧ k0_pay43 G k0_pay34 (1 : EReal) (0 : EReal) (ix2 0 k) = decay g n k := by
  have hq : tileRow n ⟨r.val, by omega⟩ = row n r := tileRow_eq n 0 r _ (by simp)
  have hc := cum0_at n hG hg
  refine ⟨?_, ?_, ?_, ?_, ?_⟩ <;> pointwise [k0_pay37, k0_pay38, k0_pay39, k0_pay40, k0_pay41, k0_pay42, k0_pay43]
  all_goals simp only [hc, hQ, hH, hq]
  all_goals first
    | rfl
    | (simp only [take_mid (fun s => cum g n s k), take_last (fun s => cum g n s k)]; rfl)

/-- The logarithms of the decays in the tile's second chunk. -/
theorem cum1_at (hG : ∀ x k, G (ix2 x k) = g (tileRow n x) k) (hg : ∀ x k, g x k ≠ ⊤) (r : Fin 32) (k : Fin 1024) :
    k0_pay77 G ones (ix2 r k) = cum g (n + 1) r k := by
  pointwise [k0_pay77, ones, k0_pay35, k0_pay34]
  simp only [below, hG]
  refine (upTo_split _ (fun s => hg _ k) r).trans (congrArg (upTo · r) (funext fun s => congrArg (g · k) (tileRow_eq n 1 s _ (by simp))))

/-- And the five blocks made of them. -/
theorem blocks1_at (hG : ∀ x k, G (ix2 x k) = g (tileRow n x) k) (hg : ∀ x k, g x k ≠ ⊤) (hQ : ∀ x k, Q (ix2 x k) = q (tileRow n x) k)
    (hH : ∀ x k, H (ix2 x k) = h (tileRow n x) k) (r : Fin 32) (k : Fin 1024) :
    k0_pay80 Q G ones (ix2 r k) = queryMid q g (n + 1) r k ∧ k0_pay81 H G ones (ix2 r k) = keyMid g h (n + 1) r k
    ∧ k0_pay82 Q G ones (ix2 r k) = queryStart q g (n + 1) r k ∧ k0_pay83 H G ones (ix2 r k) = keyEnd g h (n + 1) r k
    ∧ k0_pay84 G ones (ix2 0 k) = decay g (n + 1) k := by
  have hq : tileRow n ⟨32 + r.val, by omega⟩ = row (n + 1) r := tileRow_eq n 1 r _ (by simp)
  have hc := cum1_at n hG hg
  refine ⟨?_, ?_, ?_, ?_, ?_⟩ <;> pointwise [k0_pay78, k0_pay79, k0_pay80, k0_pay81, k0_pay82, k0_pay83, k0_pay84]
  all_goals simp only [hc, hQ, hH, hq]
  all_goals first
    | rfl
    | (simp only [take_mid (fun s => cum g (n + 1) s k), take_last (fun s => cum g (n + 1) s k)]; rfl)

/-- The logarithms of the decays in the tile's third chunk. -/
theorem cum2_at (hG : ∀ x k, G (ix2 x k) = g (tileRow n x) k) (hg : ∀ x k, g x k ≠ ⊤) (r : Fin 32) (k : Fin 1024) :
    k0_pay123 (k0_pay120 G) (k0_pay121 ones) (k0_pay122 G) (ix2 r k) = cum g (n + 2) r k := by
  pointwise [k0_pay123, k0_pay120, k0_pay121, k0_pay122, ones, k0_pay35, k0_pay34]
  simp only [below, hG]
  refine (upTo_split _ (fun s => hg _ k) r).trans (congrArg (upTo · r) (funext fun s => congrArg (g · k) (tileRow_eq n 2 s _ (by simp))))

/-- And the five blocks made of them. -/
theorem blocks2_at (hG : ∀ x k, G (ix2 x k) = g (tileRow n x) k) (hg : ∀ x k, g x k ≠ ⊤) (hQ : ∀ x k, Q (ix2 x k) = q (tileRow n x) k)
    (hH : ∀ x k, H (ix2 x k) = h (tileRow n x) k) (r : Fin 32) (k : Fin 1024) :
    k0_pay126 Q (k0_pay120 G) (k0_pay121 ones) (k0_pay122 G) (ix2 r k) = queryMid q g (n + 2) r k ∧ k0_pay127 H (k0_pay120 G) (k0_pay121 ones) (k0_pay122 G) (ix2 r k) = keyMid g h (n + 2) r k
    ∧ k0_pay128 Q (k0_pay120 G) (k0_pay121 ones) (k0_pay122 G) (ix2 r k) = queryStart q g (n + 2) r k ∧ k0_pay129 H (k0_pay120 G) (k0_pay121 ones) (k0_pay122 G) (ix2 r k) = keyEnd g h (n + 2) r k
    ∧ k0_pay130 (k0_pay120 G) (k0_pay121 ones) (k0_pay122 G) (ix2 0 k) = decay g (n + 2) k := by
  have hq : tileRow n ⟨64 + r.val, by omega⟩ = row (n + 2) r := tileRow_eq n 2 r _ (by simp)
  have hc := cum2_at n hG hg
  refine ⟨?_, ?_, ?_, ?_, ?_⟩ <;> pointwise [k0_pay124, k0_pay125, k0_pay126, k0_pay127, k0_pay128, k0_pay129, k0_pay130]
  all_goals simp only [hc, hQ, hH, hq]
  all_goals first
    | rfl
    | (simp only [take_mid (fun s => cum g (n + 2) s k), take_last (fun s => cum g (n + 2) s k)]; rfl)

/-- The logarithms of the decays in the tile's fourth chunk. -/
theorem cum3_at (hG : ∀ x k, G (ix2 x k) = g (tileRow n x) k) (hg : ∀ x k, g x k ≠ ⊤) (r : Fin 32) (k : Fin 1024) :
    k0_pay170 (k0_pay166 ones) (k0_pay167 G) (k0_pay168 G) (k0_pay169 G) (ix2 r k) = cum g (n + 3) r k := by
  pointwise [k0_pay170, k0_pay166, k0_pay167, k0_pay168, k0_pay169, k0_pay165, ones, k0_pay35, k0_pay34]
  simp only [below, hG]
  refine (upTo_split _ (fun s => hg _ k) r).trans (congrArg (upTo · r) (funext fun s => congrArg (g · k) (tileRow_eq n 3 s _ (by simp))))

/-- And the five blocks made of them. -/
theorem blocks3_at (hG : ∀ x k, G (ix2 x k) = g (tileRow n x) k) (hg : ∀ x k, g x k ≠ ⊤) (hQ : ∀ x k, Q (ix2 x k) = q (tileRow n x) k)
    (hH : ∀ x k, H (ix2 x k) = h (tileRow n x) k) (r : Fin 32) (k : Fin 1024) :
    k0_pay173 Q (k0_pay166 ones) (k0_pay167 G) (k0_pay168 G) (k0_pay169 G) (ix2 r k) = queryMid q g (n + 3) r k ∧ k0_pay174 H (k0_pay166 ones) (k0_pay167 G) (k0_pay168 G) (k0_pay169 G) (ix2 r k) = keyMid g h (n + 3) r k
    ∧ k0_pay175 Q (k0_pay166 ones) (k0_pay167 G) (k0_pay168 G) (k0_pay169 G) (ix2 r k) = queryStart q g (n + 3) r k ∧ k0_pay176 H (k0_pay166 ones) (k0_pay167 G) (k0_pay168 G) (k0_pay169 G) (ix2 r k) = keyEnd g h (n + 3) r k
    ∧ k0_pay177 (k0_pay166 ones) (k0_pay167 G) (k0_pay168 G) (k0_pay169 G) (ix2 0 k) = decay g (n + 3) k := by
  have hq : tileRow n ⟨96 + r.val, by omega⟩ = row (n + 3) r := tileRow_eq n 3 r _ (by simp)
  have hc := cum3_at n hG hg
  refine ⟨?_, ?_, ?_, ?_, ?_⟩ <;> pointwise [k0_pay171, k0_pay172, k0_pay173, k0_pay174, k0_pay175, k0_pay176, k0_pay177]
  all_goals simp only [hc, hQ, hH, hq]
  all_goals first
    | rfl
    | (simp only [take_mid (fun s => cum g (n + 3) s k), take_last (fun s => cum g (n + 3) s k)]; rfl)

end Cert.MixFwdIdeal.Value

end
-- ==== Proof.Mix.Heads.lean ====
module

public import proofs.«01_k».proof.Proof.Gen.MixFwdIdeal.Skeleton
public import proofs.«01_k».proof.Proof.Mix.Chunk
public import Idealize.ShloMosaic.Lib.Pipeline.ValueKit
public import Idealize.ShloMosaic.Lib.Pipeline.ReadBack

@[expose] public section

set_option maxRecDepth 16384
set_option maxHeartbeats 4000000

noncomputable section

open Idealize.ShloMosaic Idealize.ShloMosaic.TcCoe Idealize.SL.Sem
open Idealize.ShloMosaic.Pipeline (Dat)

namespace Cert.MixFwdIdeal.Value

open Cert.MixFwdIdeal Cert.MixFwdIdeal.Gen Cert.Recurrence

/-! A tile's blocks of heads and of chunks put side by side, at their elements. -/

/-- What holds for each of the eight heads holds for all. -/
theorem all8 {P : Fin 8 → Prop} (h0 : P 0) (h1 : P 1) (h2 : P 2) (h3 : P 3) (h4 : P 4) (h5 : P 5) (h6 : P 6) (h7 : P 7) (p : Fin 8) : P p := by
  fin_cases p <;> assumption

theorem col_val (p : Fin 8) (k : Fin 128) : (col p k).val = p.val * 128 + k.val := rfl

/-- Eight pieces of 128, at a place of one of them. -/
theorem pieces {α : Type} (x : Fin 8 → Fin 128 → α) (p : Fin 8) (k : Fin 128) (y : ℕ) (hy : y = p.val * 128 + k.val) :
    (if h : y < 128 then x 0 ⟨y, by omega⟩
      else if h : y - 128 < 128 then x 1 ⟨y - 128, by omega⟩
      else if h : y - 128 - 128 < 128 then x 2 ⟨y - 128 - 128, by omega⟩
      else if h : y - 128 - 128 - 128 < 128 then x 3 ⟨y - 128 - 128 - 128, by omega⟩
      else if h : y - 128 - 128 - 128 - 128 < 128 then x 4 ⟨y - 128 - 128 - 128 - 128, by omega⟩
      else if h : y - 128 - 128 - 128 - 128 - 128 < 128 then x 5 ⟨y - 128 - 128 - 128 - 128 - 128, by omega⟩
      else if h : y - 128 - 128 - 128 - 128 - 128 - 128 < 128 then x 6 ⟨y - 128 - 128 - 128 - 128 - 128 - 128, by omega⟩
      else x 7 ⟨y - 128 - 128 - 128 - 128 - 128 - 128 - 128, by omega⟩) = x p k := by
  subst hy
  revert p
  refine all8 ?_ ?_ ?_ ?_ ?_ ?_ ?_ ?_
  all_goals simp only [show ((0 : Fin 8).val) = 0 from rfl, show ((1 : Fin 8).val) = 1 from rfl, show ((2 : Fin 8).val) = 2 from rfl, show ((3 : Fin 8).val) = 3 from rfl,
    show ((4 : Fin 8).val) = 4 from rfl, show ((5 : Fin 8).val) = 5 from rfl, show ((6 : Fin 8).val) = 6 from rfl, show ((7 : Fin 8).val) = 7 from rfl]
  all_goals split_ifs <;> first
    | (exfalso; omega)
    | exact congrArg _ (Fin.ext (by dsimp only <;> omega))

/-- Four pieces of 32, at a place of one of them. -/
theorem chunks {α : Type} (x : Fin 4 → Fin 32 → α) (i : Fin 4) (k : Fin 32) (y : ℕ) (hy : y = i.val * 32 + k.val) :
    (if h : y < 32 then x 0 ⟨y, by omega⟩
      else if h : y - 32 < 32 then x 1 ⟨y - 32, by omega⟩
      else if h : y - 32 - 32 < 32 then x 2 ⟨y - 32 - 32, by omega⟩
      else x 3 ⟨y - 32 - 32 - 32, by omega⟩) = x i k := by
  subst hy
  have h : i = 0 ∨ i = 1 ∨ i = 2 ∨ i = 3 := by fin_cases i <;> simp
  rcases h with rfl | rfl | rfl | rfl
  all_goals simp only [show ((0 : Fin 4).val) = 0 from rfl, show ((1 : Fin 4).val) = 1 from rfl, show ((2 : Fin 4).val) = 2 from rfl, show ((3 : Fin 4).val) = 3 from rfl]
  all_goals split_ifs <;> first
    | (exfalso; omega)
    | exact congrArg _ (Fin.ext (by dsimp only <;> omega))

/-- The row of the stored state that holds value column `a` of head `p`. -/
def srow (p : Fin 8) (a : Fin 128) : Fin 1024 := col p a

/-- The stored state: the eight heads' states one below the other. -/
theorem states_at (s0 s1 s2 s3 s4 s5 s6 s7 : FVec Ideal S128x128 .f32) (p : Fin 8) (a k : Fin 128) :
    k0_pay895 (k0_pay221 s0 s1 s2 s3 s4 s5 s6 s7) (ix2 (srow p a) k) = (![s0, s1, s2, s3, s4, s5, s6, s7] : Fin 8 → FVec Ideal S128x128 .f32) p (ix2 a k) := by
  pointwise [k0_pay895, k0_pay221]
  exact pieces (fun p a => (![s0, s1, s2, s3, s4, s5, s6, s7] : Fin 8 → FVec Ideal S128x128 .f32) p (ix2 a k)) p a _ rfl

/-- A chunk's outputs: the eight heads' side by side. -/
theorem heads_at (s0 s1 s2 s3 s4 s5 s6 s7 : FVec Ideal S32x128 .f32) (p : Fin 8) (r : Fin 32) (a : Fin 128) :
    k0_pay76 s0 s1 s2 s3 s4 s5 s6 s7 (ix2 r (col p a)) = (![s0, s1, s2, s3, s4, s5, s6, s7] : Fin 8 → FVec Ideal S32x128 .f32) p (ix2 r a) := by
  pointwise [k0_pay76]
  exact pieces (fun p a => (![s0, s1, s2, s3, s4, s5, s6, s7] : Fin 8 → FVec Ideal S32x128 .f32) p (ix2 r a)) p a _ rfl

/-- Row `r` of a tile's chunk `i`. -/
def spot (i : Fin 4) (r : Fin 32) : Fin 128 := ⟨i.val * 32 + r.val, by omega⟩

/-- A tile's outputs: the four chunks' one below the other, the last of them not yet put together. -/
theorem rows_at (t0 t1 t2 : FVec Ideal S32x1024 .f32) (s0 s1 s2 s3 s4 s5 s6 s7 : FVec Ideal S32x128 .f32) (i : Fin 4) (r : Fin 32) (k : Fin 1024) :
    k0_pay211 t0 t1 t2 s0 s1 s2 s3 s4 s5 s6 s7 (ix2 (spot i r) k) = (![t0, t1, t2, k0_pay76 s0 s1 s2 s3 s4 s5 s6 s7] : Fin 4 → FVec Ideal S32x1024 .f32) i (ix2 r k) := by
  have e : k0_pay211 t0 t1 t2 s0 s1 s2 s3 s4 s5 s6 s7 = concatenate S128x1024 0 [⟨S32x1024, t0⟩, ⟨S32x1024, t1⟩, ⟨S32x1024, t2⟩, ⟨S32x1024, k0_pay76 s0 s1 s2 s3 s4 s5 s6 s7⟩] concatenates_S32x1024_S32x1024_S32x1024_S32x1024_S128x1024_d0 := rfl
  rw [e]
  generalize k0_pay76 s0 s1 s2 s3 s4 s5 s6 s7 = t3
  pointwise []
  exact chunks (fun i r => (![t0, t1, t2, t3] : Fin 4 → FVec Ideal S32x1024 .f32) i (ix2 r k)) i r _ rfl

end Cert.MixFwdIdeal.Value

end
-- ==== Proof.Mix.Gates.lean ====
module

public import proofs.«01_k».proof.Proof.Mix.Spec

@[expose] public section

noncomputable section

open Idealize.ShloMosaic

/-! The recurrence's queries, keys, values and decays, of the projection and of the lower bound's two rows. -/

namespace Cert.Recurrence

/-- The share of the first of two values in their softmax. -/
def share (a b : EReal) : EReal := Ideal.div (Ideal.exp (a - max a b)) (Ideal.exp (a - max a b) + Ideal.exp (b - max a b))

/-- A row's decay: at least the lower bound. -/
def keep (l x : EReal) : EReal := l + (1 - l) * Ideal.logistic x

/-- Of two values less the larger, the exponentials are numbers. -/
theorem exp_real (a b : EReal) : ∃ r : ℝ, Ideal.exp (a - max a b) = r := by
  induction a using EReal.rec with
  | bot => exact ⟨0, by simp⟩
  | top => exact ⟨0, by simp⟩
  | coe a =>
    induction b using EReal.rec with
    | bot => exact ⟨Real.exp (a - a), by rw [max_eq_left bot_le, ← EReal.coe_sub]; rfl⟩
    | top => exact ⟨0, by simp⟩
    | coe b => exact ⟨Real.exp (a - max a b), by rw [← EReal.coe_strictMono.monotone.map_max, ← EReal.coe_sub]; rfl⟩

theorem logistic_real (x : EReal) : ∃ r : ℝ, Ideal.logistic x = r := by
  induction x using EReal.rec with
  | bot => exact ⟨0, by simp⟩
  | top => exact ⟨1, by simp⟩
  | coe a => exact ⟨_, Ideal.logistic_coe a⟩

theorem exp_nonneg (x : EReal) : 0 ≤ Ideal.exp x := by
  induction x using EReal.rec with
  | bot => simp
  | top => simp
  | coe a => exact EReal.coe_nonneg.mpr (Real.exp_pos a).le

theorem share_ne_top (a b : EReal) : share a b ≠ ⊤ := by
  obtain ⟨x, hx⟩ := exp_real a b
  obtain ⟨y, hy⟩ := exp_real b a
  rw [max_comm b a] at hy
  have px : (0 : EReal) ≤ x := hx ▸ exp_nonneg _
  have py : (0 : EReal) ≤ y := hy ▸ exp_nonneg _
  unfold share Ideal.div
  rw [hx, hy, ← EReal.coe_add]
  split_ifs with h0 h1
  · have hx0 : x + y = 0 := by exact_mod_cast h0
    have : 0 < x := by exact_mod_cast h1
    have : 0 ≤ y := by exact_mod_cast py
    linarith
  · exact bot_ne_top
  · rw [← EReal.coe_inv, ← EReal.coe_mul]
    exact EReal.coe_ne_top _

theorem keep_ne_top (l x : EReal) (hl : l ≠ ⊤) : keep l x ≠ ⊤ := by
  obtain ⟨s, hs⟩ := logistic_real x
  unfold keep
  rw [hs]
  induction l using EReal.rec with
  | bot => simp
  | top => exact absurd rfl hl
  | coe r =>
    rw [show (1 : EReal) - (r : EReal) = ((1 - r : ℝ) : EReal) by rw [EReal.coe_sub]; rfl, ← EReal.coe_mul, ← EReal.coe_add]
    exact EReal.coe_ne_top _

theorem log_ne_top (x : EReal) (hx : x ≠ ⊤) : Ideal.log x ≠ ⊤ := by
  induction x using EReal.rec with
  | bot => exact bot_ne_top
  | top => exact absurd rfl hx
  | coe r =>
    unfold Ideal.log
    split
    · exact bot_ne_top
    · contradiction
    · split_ifs
      · exact bot_ne_top
      · exact EReal.coe_ne_top _

variable (z : Fin 2048 → Fin 4096 → EReal) (low : Fin 2 → Fin 1024 → EReal)

/-! `z` are the columns of the projection, `low` the two rows of the lower bound's parameter. -/

/-- Column `k` of the projection's part `j`. -/
def part (j : Fin 4) (k : Fin 1024) : Fin 4096 := ⟨j.val * 1024 + k.val, by omega⟩

def forget (r : Fin 2048) (k : Fin 1024) : EReal := keep (share (low 0 k) (low 1 k)) (z r (part 1 k))
def query (r : Fin 2048) (k : Fin 1024) : EReal := z r (part 0 k) * Ideal.logistic (z r (part 0 k)) * Scalar.ofBits (F := Ideal) .f32 0x3DB504F3#32
def key (r : Fin 2048) (k : Fin 1024) : EReal := 1 - forget z low r k
def logs (r : Fin 2048) (k : Fin 1024) : EReal := Ideal.log (forget z low r k)
def val (r : Fin 2048) (k : Fin 1024) : EReal := z r (part 2 k)

theorem logs_ne_top (r : Fin 2048) (k : Fin 1024) : logs z low r k ≠ ⊤ := log_ne_top _ (keep_ne_top _ _ (share_ne_top _ _))

/-- A head's outputs normalised, scaled and gated. -/
def gated (o : Fin 128 → EReal) (s z : EReal) (a : Fin 128) : EReal :=
  o a * Ideal.rsqrt (Ideal.div (∑ k : Fin 128, o k * o k) (Scalar.ofBits (F := Ideal) .f32 0x43000000#32) + Scalar.ofBits (F := Ideal) .f32 0x358637BD#32) * s * (z * Ideal.logistic z)

/-- The result: row `r` of chunk `n`, column `a` of head `p`. -/
def result (scale : Fin 1024 → EReal) (n : ℕ) (r : Fin 32) (p : Fin 8) (a : Fin 128) : EReal :=
  gated (out (query z) (logs z low) (key z low) (val z) n p r) (scale (col p a)) (z (row n r) (part 3 (col p a))) a

end Cert.Recurrence

end
-- ==== Proof.Mix.Norm.lean ====
module

public import proofs.«01_k».proof.Proof.Gen.MixFwdIdeal.Skeleton
public import proofs.«01_k».proof.Proof.Mix.Heads
public import proofs.«01_k».proof.Proof.Mix.Gates
public import Idealize.ShloMosaic.Lib.Pipeline.ValueKit

@[expose] public section

set_option maxRecDepth 16384
set_option maxHeartbeats 4000000

noncomputable section

open Idealize.ShloMosaic Idealize.ShloMosaic.TcCoe

namespace Cert.MixFwdIdeal.Value

open Cert.MixFwdIdeal Cert.MixFwdIdeal.Gen Cert.Recurrence

/-- A head's outputs normalised. -/
def scaled (o : Fin 128 → EReal) (a : Fin 128) : EReal :=
  o a * Ideal.rsqrt (Ideal.div (∑ k : Fin 128, o k * o k) (Scalar.ofBits (F := Ideal) .f32 0x43000000#32) + Scalar.ofBits (F := Ideal) .f32 0x358637BD#32)

/-- A head's column; the first head's are the first columns. -/
def place (p : Fin 8) (k : Fin 128) : Fin 1024 := if p = 0 then ⟨k.val, by omega⟩ else col p k

theorem place_eq (p : Fin 8) (k : Fin 128) : place p k = col p k := by
  unfold place
  split_ifs with h
  · subst h; exact Fin.ext (by simp [col])
  · rfl

/-- The norm by head, the scale and the gate of a tile. -/
theorem normed_at (w : FVec Ideal S1x1024 .f32) (z O : FVec Ideal S128x1024 .f32) (x : Fin 128) (p : Fin 8) (a : Fin 128) :
    k0_pay893 (k0_pay220 w z O
        (k0_pay214 (extractStridedSlice S128x128 ![0, 0] O slices_S128x1024_o0_0_S128x128)
          (divf (shapeCast S128x1 (multiReduction .add [1] S128 (mulf (extractStridedSlice S128x128 ![0, 0] O slices_S128x1024_o0_0_S128x128) (extractStridedSlice S128x128 ![0, 0] O slices_S128x1024_o0_0_S128x128))
                0x00000000#32 reduces_S128x128_S128 (.inl rfl) rfl) shapeCasts_S128_S128x1)
            (broadcast S128x1 (Scalar.ofBits .f32 0x43000000#32))))
        (k0_pay215 O) (k0_pay216 O) (k0_pay217 O) (k0_pay218 O) (k0_pay219 O)) (ix2 x (col p a))
      = gated (fun k => O (ix2 x (col p k))) (w (ix2 0 (col p a))) (z (ix2 x (col p a))) a := by
  pointwise [k0_pay893, k0_pay220, k0_pay219, k0_pay218, k0_pay217, k0_pay216, k0_pay215, k0_pay214]
  exact congrArg (fun y => y * w (ix2 0 (col p a)) * (z (ix2 x (col p a)) * Ideal.logistic (z (ix2 x (col p a)))))
    ((pieces (fun q b => scaled (fun k => O (ix2 x (place q k))) b) p a _ rfl).trans (by simp only [place_eq, scaled]))

end Cert.MixFwdIdeal.Value

end
-- ==== Proof.Mix.Tile.lean ====
module

public import proofs.«01_k».proof.Proof.Gen.MixFwdIdeal.Value
public import proofs.«01_k».proof.Proof.Mix.Norm
public import Idealize.ShloMosaic.Lib.Pipeline.ValueKit
public import Idealize.ShloMosaic.Lib.Pipeline.ReadBack

@[expose] public section

set_option maxRecDepth 16384
set_option maxHeartbeats 4000000

noncomputable section

open Idealize.ShloMosaic Idealize.ShloMosaic.TcCoe Idealize.SL.Sem
open Idealize.ShloMosaic.Pipeline (Dat)

namespace Cert.MixFwdIdeal.Value

open Cert.MixFwdIdeal Cert.MixFwdIdeal.Gen Cert.Recurrence

/-! What a tile of four chunks computes: the state it leaves in the scratch, and its outputs before their norm. -/

variable (m : (ℓ : Loc nD τ sig) → Buf (Elt Ideal) ℓ) (c : Dev nD)

/-- The tile `t` starts with chunk `n` of the queries `q`, decays' logarithms `g`, keys `h` and values `v`. -/
structure Reads (t : Fin cfg0.N) (n : ℕ) (q g h v : Fin 2048 → Fin 1024 → EReal) : Prop where
  query : ∀ x k, k0_pay30 (F := Ideal) (k0_pay10 (View.ld (X0_13 m c t) (Rect.unit ![0, 0] ![128, 1024] (by decide)))) (ix2 x k) = q (tileRow n x) k
  key : ∀ x k, k0_pay32 (F := Ideal) (iblk m c 0 t) (shapeCast S128x1024 (View.ld (X0_13 m c t) (Rect.unit ![0, 1024] ![128, 1024] (by decide))) (by decide)) (ix2 x k) = h (tileRow n x) k
  log : ∀ x k, k0_pay33 (F := Ideal) (iblk m c 0 t) (shapeCast S128x1024 (View.ld (X0_13 m c t) (Rect.unit ![0, 1024] ![128, 1024] (by decide))) (by decide)) (ix2 x k) = g (tileRow n x) k
  value : ∀ x k, (shapeCast S128x1024 (View.ld (X0_13 m c t) (Rect.unit ![0, 2048] ![128, 1024] (by decide))) (by decide) : FVec Ideal S128x1024 .f32) (ix2 x k) = v (tileRow n x) k
  below_top : ∀ x k, g x k ≠ ⊤

/-- The scratch before the tile `t` holds the state before chunk `n`. At the first tile it is filled with zeros. -/
def Carried (t : Fin cfg0.N) (n : ℕ) (g h v : Fin 2048 → Fin 1024 → EReal) : Prop :=
  (t.val % 16 = 0 ∧ ∀ p a k, (k0_pay3 (F := Ideal)) (ix2 (srow p a) k) = state g h v n p a k)
  ∨ ∃ h0 : ¬ t.val % 16 = 0, ∀ p a k, (outsAt0 m c (t.val - 1) (by omega)).2.2.2.2.2.2.1 (ix2 (srow p a) k) = state g h v n p a k

variable {m c} {q g h v : Fin 2048 → Fin 1024 → EReal}

/-- The state after the tile. -/
theorem state_tile {t : Fin cfg0.N} {n : ℕ} (ht : Reads m c t n q g h v) (hc : Carried m c t n g h v) (p : Fin 8) (a k : Fin 128) :
    (outsAt0 m c t.val t.isLt).2.2.2.2.2.2.1 (ix2 (srow p a) k) = state g h v (n + 1 + 1 + 1 + 1) p a k := by
  obtain ⟨hQ, hH, hG, hV, hg⟩ := ht
  clear hQ
  have z0 : ∀ k : Fin 128, (⟨k.val, by omega⟩ : Fin 1024) = col 0 k := fun k => Fin.ext (by simp [col])
  have r0 : ∀ x : Fin 32, tileRow n ⟨x.val, by omega⟩ = row n x := fun x => tileRow_eq n 0 x _ (by simp)
  have r1 : ∀ x : Fin 32, tileRow n ⟨32 + x.val, by omega⟩ = row (n + 1) x := fun x => tileRow_eq n 1 x _ (by simp)
  have r2 : ∀ x : Fin 32, tileRow n ⟨64 + x.val, by omega⟩ = row (n + 2) x := fun x => tileRow_eq n 2 x _ (by simp)
  have r3 : ∀ x : Fin 32, tileRow n ⟨96 + x.val, by omega⟩ = row (n + 3) x := fun x => tileRow_eq n 3 x _ (by simp)
  rcases hc with ⟨h0, hS⟩ | ⟨h0, hS⟩
  on_goal 1 => rw [outsAt0_A m c t h0]; frame_out
  on_goal 1 => generalize (k0_pay3 (F := Ideal)) = S at hS ⊢
  on_goal 2 => rw [outsAt0_B m c t h0]; frame_out
  on_goal 2 => simp only [read_unread_whole]
  on_goal 2 => generalize (outsAt0 m c (t.val - 1) _).2.2.2.2.2.2.1 = S at hS ⊢
  all_goals
    generalize k0_pay33 (iblk m c 0 t) _ = G at hG ⊢
    generalize k0_pay32 (iblk m c 0 t) _ = H at hH ⊢
    generalize (shapeCast S128x1024 (View.ld (X0_13 m c t) (Rect.unit ![0, 2048] ![128, 1024] _)) _ : FVec Ideal S128x1024 .f32) = V at hV ⊢
    refine (states_at _ _ _ _ _ _ _ _ p a k).trans ?_
    have b0 := fun r k => (blocks0_at n hG hg hG hH r k).2.2.2
    have b1 := fun r k => (blocks1_at n hG hg hG hH r k).2.2.2
    have b2 := fun r k => (blocks2_at n hG hg hG hH r k).2.2.2
    have b3 := fun r k => (blocks3_at n hG hg hG hH r k).2.2.2
    simp only [forall_and, forall_const] at b0 b1 b2 b3
    revert p
    refine all8 ?_ ?_ ?_ ?_ ?_ ?_ ?_ ?_ <;> dsimp only [Matrix.cons_val]
  all_goals
    simp only [state, ← hS]
    pointwise [k0_pay22, k0_pay23, k0_pay24, k0_pay25, k0_pay26, k0_pay27, k0_pay28, k0_pay29, k0_pay63, k0_pay64, k0_pay65, k0_pay66, k0_pay67,
      k0_pay68, k0_pay69, k0_pay70, k0_pay71, k0_pay72, k0_pay73, k0_pay74, k0_pay75, k0_pay107, k0_pay108, k0_pay109, k0_pay110, k0_pay111,
      k0_pay112, k0_pay113, k0_pay114, k0_pay115, k0_pay116, k0_pay117, k0_pay118, k0_pay150, k0_pay151, k0_pay152, k0_pay153, k0_pay154,
      k0_pay155, k0_pay156, k0_pay157, k0_pay158, k0_pay159, k0_pay160, k0_pay161, k0_pay162, k0_pay163, k0_pay198, k0_pay199, k0_pay200,
      k0_pay201, k0_pay202, k0_pay203, k0_pay204, k0_pay205, k0_pay206, k0_pay207, k0_pay208, k0_pay209, k0_pay210]
    simp only [b0, b1, b2, b3, hV, r0, r1, r2, r3, z0]
    rfl

theorem mask_at (r s : Fin 32) : k0_pay34 (ix2 r s) = IntOp.cmpi .sle (BitVec.ofNat 32 s.val) (BitVec.ofNat 32 r.val) := by
  pointwise [k0_pay34]

/-- The tile's outputs, normalised by head, scaled and gated. -/
theorem out_tile {t : Fin cfg0.N} {n : ℕ} (ht : Reads m c t n q g h v) (hc : Carried m c t n g h v) (i : Fin 4) (r : Fin 32) (p : Fin 8) (a : Fin 128) :
    (outsAt0 m c t.val t.isLt).1 (ix2 (spot i r) (col p a)) = gated (out q g h v (n + i.val) p r) (iblk m c 1 t (ix2 0 (col p a))) ((shapeCast S128x1024 (View.ld (X0_13 m c t) (Rect.unit ![0, 3072] ![128, 1024] (by decide))) (by decide) : FVec Ideal S128x1024 .f32) (ix2 (spot i r) (col p a))) a := by
  obtain ⟨hQ, hH, hG, hV, hg⟩ := ht
  have z0 : ∀ k : Fin 128, (⟨k.val, by omega⟩ : Fin 1024) = col 0 k := fun k => Fin.ext (by simp [col])
  have r0 : ∀ x : Fin 32, tileRow n ⟨x.val, by omega⟩ = row n x := fun x => tileRow_eq n 0 x _ (by simp)
  have r1 : ∀ x : Fin 32, tileRow n ⟨32 + x.val, by omega⟩ = row (n + 1) x := fun x => tileRow_eq n 1 x _ (by simp)
  have r2 : ∀ x : Fin 32, tileRow n ⟨64 + x.val, by omega⟩ = row (n + 2) x := fun x => tileRow_eq n 2 x _ (by simp)
  have r3 : ∀ x : Fin 32, tileRow n ⟨96 + x.val, by omega⟩ = row (n + 3) x := fun x => tileRow_eq n 3 x _ (by simp)
  rcases hc with ⟨h0, hS⟩ | ⟨h0, hS⟩
  on_goal 1 => rw [outsAt0_A m c t h0]; frame_out
  on_goal 1 => generalize (k0_pay3 (F := Ideal)) = S at hS ⊢
  on_goal 2 => rw [outsAt0_B m c t h0]; frame_out
  on_goal 2 => simp only [read_unread_whole]
  on_goal 2 => generalize (outsAt0 m c (t.val - 1) _).2.2.2.2.2.2.1 = S at hS ⊢
  all_goals
    generalize k0_pay33 (iblk m c 0 t) _ = G at hG ⊢
    generalize k0_pay32 (iblk m c 0 t) _ = H at hH ⊢
    generalize (shapeCast S128x1024 (View.ld (X0_13 m c t) (Rect.unit ![0, 2048] ![128, 1024] _)) _ : FVec Ideal S128x1024 .f32) = V at hV ⊢
    generalize k0_pay30 (F := Ideal) _ = Q at hQ ⊢
    simp only [k0_pay213, k0_pay212]
    generalize hO : k0_pay211 (F := Ideal) _ _ _ _ _ _ _ _ _ _ _ = O
    refine (normed_at _ _ O _ p a).trans (congrArg (fun o => gated o _ _ a) (funext fun a => ?_))
    rw [← hO]
    clear hO O
    refine (rows_at _ _ _ _ _ _ _ _ _ _ _ i r (col p a)).trans ?_
    have b0 := fun r k => blocks0_at n hG hg hQ hH r k
    have b1 := fun r k => blocks1_at n hG hg hQ hH r k
    have b2 := fun r k => blocks2_at n hG hg hQ hH r k
    have b3 := fun r k => blocks3_at n hG hg hQ hH r k
    simp only [forall_and, forall_const] at b0 b1 b2 b3
    have hi : i = 0 ∨ i = 1 ∨ i = 2 ∨ i = 3 := by fin_cases i <;> simp
    rcases hi with rfl | rfl | rfl | rfl <;> dsimp only [Matrix.cons_val] <;> refine (heads_at _ _ _ _ _ _ _ _ p r a).trans ?_
  all_goals
    revert p
    refine all8 ?_ ?_ ?_ ?_ ?_ ?_ ?_ ?_ <;> dsimp only [Matrix.cons_val]
  all_goals
    simp only [show n + (0 : Fin 4).val = n from rfl, out, state, ← hS]
    pointwise [k0_pay22, k0_pay23, k0_pay24, k0_pay25, k0_pay26, k0_pay27, k0_pay28, k0_pay29, k0_pay44, k0_pay45, k0_pay46, k0_pay47, k0_pay48,
      k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74,
      k0_pay75, k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107, k0_pay108,
      k0_pay109, k0_pay110, k0_pay111, k0_pay112, k0_pay113, k0_pay114, k0_pay115, k0_pay116, k0_pay117, k0_pay118, k0_pay131, k0_pay132,
      k0_pay133, k0_pay134, k0_pay135, k0_pay136, k0_pay137, k0_pay138, k0_pay139, k0_pay140, k0_pay141, k0_pay142, k0_pay143, k0_pay144,
      k0_pay145, k0_pay146, k0_pay147, k0_pay148, k0_pay149, k0_pay150, k0_pay151, k0_pay152, k0_pay153, k0_pay154, k0_pay155, k0_pay156,
      k0_pay157, k0_pay158, k0_pay159, k0_pay160, k0_pay161, k0_pay162, k0_pay163, k0_pay178, k0_pay179, k0_pay180, k0_pay181, k0_pay182,
      k0_pay183, k0_pay184, k0_pay185, k0_pay186, k0_pay187, k0_pay188, k0_pay189, k0_pay190, k0_pay191, k0_pay192, k0_pay193, k0_pay194,
      k0_pay195, k0_pay196, k0_pay197]
    simp only [mask_at, below, b0, b1, b2, b3, hV, r0, r1, r2, r3, z0, score, ite_mul, zero_mul]
    rfl

end Cert.MixFwdIdeal.Value

end
-- ==== Proof.Mix.Reads.lean ====
module

public import proofs.«01_k».proof.Proof.Mix.Tile
public import Idealize.ShloMosaic.Lib.Pipeline.ValueKit
public import Idealize.ShloMosaic.Lib.Pipeline.ReadBack

@[expose] public section

set_option maxRecDepth 16384
set_option maxHeartbeats 4000000

noncomputable section

open Idealize.ShloMosaic Idealize.ShloMosaic.TcCoe Idealize.SL.Sem
open Idealize.ShloMosaic.Pipeline (Dat)

namespace Cert.MixFwdIdeal.Value

open Cert.MixFwdIdeal Cert.MixFwdIdeal.Gen Cert.Recurrence

/-! What a tile reads of the arguments. -/

variable (m : (ℓ : Loc nD τ sig) → Buf (Elt Ideal) ℓ) (c : Dev nD)

/-- The index maps: the second grid coordinate walks the row tiles. -/
theorem idx : ∀ t : Fin cfg0.N, win0_0.index t = ![0, 0] ∧ win0_1.index t = ![0, 0] ∧ win0_13.index t = ![t.val, 0] ∧ win0_14.index t = ![t.val, 0] :=
  (by decide +kernel : ∀ t : Fin grid0.N, _)

/-- Row `x` of the tile `t`, as a row of the whole array. -/
def trow (t : Fin cfg0.N) (x : Fin 128) : Fin 2048 := ⟨t.val * 128 + x.val, by have := t.isLt; have : cfg0.N = 16 := N_0; omega⟩

theorem read_low (t : Fin cfg0.N) (r : Fin 2) (k : Fin 1024) : iblk m c 0 t (ix2 r k) = (m ((c : Thread nD τ).loc main_arg1)) (ix2 r k) := by
  blk_ext [iblk, V, idx t]

theorem read_scale (t : Fin cfg0.N) (r : Fin 1) (k : Fin 1024) : iblk m c 1 t (ix2 r k) = (m ((c : Thread nD τ).loc main_arg2)) (ix2 r k) := by
  blk_ext [iblk, V, idx t]

theorem read_z (t : Fin cfg0.N) (x : Fin 128) (k : Fin 7424) : X0_13 m c t (ix2 x k) = (m ((c : Thread nD τ).loc main_arg0)) (ix3 0 (trow t x) ⟨k.val, by omega⟩) := by
  unfold X0_13 Pipeline.Window.fill
  rw [dif_pos (moved0_13 t _)]
  blk_simp [iblk, idx t]
  entry_read
  pointwise
  blk_ext [idx t, trow]

theorem place14 (t : Fin cfg0.N) (x : Fin 128) (k : Fin 1024) : ((cfg0.win 14).blk t).view.emb (ix2 x k) = ix2 (trow t x) k := by
  blk_ext [idx t, trow]

end Cert.MixFwdIdeal.Value

end
-- ==== Proof.Mix.Points.lean ====
module

public import proofs.«01_k».proof.Proof.Mix.Reads

@[expose] public section

set_option maxRecDepth 16384
set_option maxHeartbeats 4000000

noncomputable section

open Idealize.ShloMosaic Idealize.ShloMosaic.TcCoe Idealize.SL.Sem
open Idealize.ShloMosaic.Pipeline (Dat)

namespace Cert.MixFwdIdeal.Value

open Cert.MixFwdIdeal Cert.MixFwdIdeal.Gen Cert.Recurrence

/-! A tile's gates, and from them its outputs and the state it leaves. -/

variable (m : (ℓ : Loc nD τ sig) → Buf (Elt Ideal) ℓ) (c : Dev nD)

/-- The projection's columns that the recurrence reads, its lower bound's parameter, and the scale of the norm. -/
def zcol (r : Fin 2048) (k : Fin 4096) : EReal := (m ((c : Thread nD τ).loc main_arg0)) (ix3 0 r ⟨k.val, by omega⟩)
def low (r : Fin 2) (k : Fin 1024) : EReal := (m ((c : Thread nD τ).loc main_arg1)) (ix2 r k)
def scale (k : Fin 1024) : EReal := (m ((c : Thread nD τ).loc main_arg2)) (ix2 0 k)

/-- The entry of a part of the block, read at a tile's row. -/
theorem read_part (t : Fin cfg0.N) (j : Fin 4) (x : Fin 128) (k : Fin 1024) (y : Fin 7424) (hy : y.val = j.val * 1024 + k.val) :
    X0_13 m c t (ix2 x y) = zcol m c (tileRow (4 * t.val) x) (part j k) := by
  have hx : trow t x = tileRow (4 * t.val) x := by
    refine Fin.ext ?_
    have := t.isLt; have : cfg0.N = 16 := N_0
    simp only [trow, tileRow]
    omega
  rw [read_z m c t x y, hx]
  exact congrArg _ (congrArg (ix3 0 _) (Fin.ext hy))

/-- A masked sum over two rows is the row. -/
theorem first (a b : EReal) : Scalar.select (α := EReal) (IntOp.cmpi .eq (BitVec.ofNat 32 (0 : Fin 2).val) 0#32) a 0 + Scalar.select (IntOp.cmpi .eq (BitVec.ofNat 32 (1 : Fin 2).val) 0#32) b 0 = a := add_zero a
theorem second (a b : EReal) : Scalar.select (α := EReal) (IntOp.cmpi .eq (BitVec.ofNat 32 (0 : Fin 2).val) 1#32) a 0 + Scalar.select (IntOp.cmpi .eq (BitVec.ofNat 32 (1 : Fin 2).val) 1#32) b 0 = b := zero_add b

/-- The decay of a row. -/
theorem forget_at (t : Fin cfg0.N) (w : Fin 2048 → Fin 4096 → EReal) (y : FVec Ideal S128x1024 .f32) (x : Fin 128) (k : Fin 1024) (r : Fin 2048) (hy : y (ix2 x k) = w r (part 1 k)) :
    k0_pay31 (F := Ideal) (iblk m c 0 t) y (ix2 x k) = forget w (low m c) r k := by
  have h0 := read_low m c t 0 k
  have h1 := read_low m c t 1 k
  pointwise [k0_pay31]
  simp only [Fin.sum_univ_two]
  generalize iblk m c 0 t (ix2 0 k) = A at h0 ⊢
  generalize iblk m c 0 t (ix2 1 k) = B at h1 ⊢
  obtain rfl : A = low m c 0 k := h0
  obtain rfl : B = low m c 1 k := h1
  refine .trans ?_ (congrArg (keep _) hy)
  unfold keep share
  have e0 := first (low m c 0 k) (low m c 1 k)
  have e1 := second (low m c 0 k) (low m c 1 k)
  generalize Scalar.select (α := EReal) (IntOp.cmpi .eq (BitVec.ofNat 32 (0 : Fin 2).val) 0#32) (low m c 0 k) 0 + Scalar.select (IntOp.cmpi .eq (BitVec.ofNat 32 (1 : Fin 2).val) 0#32) (low m c 1 k) 0 = A at e0 ⊢
  generalize Scalar.select (α := EReal) (IntOp.cmpi .eq (BitVec.ofNat 32 (0 : Fin 2).val) 1#32) (low m c 0 k) 0 + Scalar.select (IntOp.cmpi .eq (BitVec.ofNat 32 (1 : Fin 2).val) 1#32) (low m c 1 k) 0 = B at e1 ⊢
  rw [e0, e1]

/-- What a tile reads: the gates of its rows. -/
theorem reads (t : Fin cfg0.N) : Reads m c t (4 * t.val) (query (zcol m c)) (logs (zcol m c) (low m c)) (key (zcol m c) (low m c)) (val (zcol m c)) where
  query x k := by
    pointwise [k0_pay10, k0_pay30]
    have h := read_part m c t 0 x k ⟨k.val, by omega⟩ (by simp)
    refine .trans ?_ (congrArg (fun y : EReal => y * Ideal.logistic y * Scalar.ofBits (F := Ideal) .f32 0x3DB504F3#32) h)
    rfl
  key x k := by
    pointwise [k0_pay32]
    refine congrArg (fun y : EReal => 1 - y) (forget_at m c t _ _ x k _ ?_)
    pointwise
    refine .trans ?_ (read_part m c t 1 x k ⟨1024 + k.val, by omega⟩ (by simp))
    rfl
  log x k := by
    pointwise [k0_pay33]
    refine congrArg Ideal.log (forget_at m c t _ _ x k _ ?_)
    pointwise
    refine .trans ?_ (read_part m c t 1 x k ⟨1024 + k.val, by omega⟩ (by simp))
    rfl
  value x k := by
    pointwise
    refine .trans ?_ (read_part m c t 2 x k ⟨2048 + k.val, by omega⟩ (by simp))
    rfl
  below_top x k := logs_ne_top _ _ x k

/-- The scratch holds the state at every tile. -/
theorem carried (t : Fin cfg0.N) : Carried m c t (4 * t.val) (logs (zcol m c) (low m c)) (key (zcol m c) (low m c)) (val (zcol m c)) := by
  obtain ⟨n, hn⟩ := t
  induction n with
  | zero =>
    refine .inl ⟨rfl, fun p a k => ?_⟩
    pointwise [k0_pay3]
    rfl
  | succ n ih =>
    have : cfg0.N = 16 := N_0
    exact .inr ⟨by show ¬ (n + 1) % 16 = 0; omega, fun p a k => state_tile (reads m c ⟨n, by omega⟩) (ih (by omega)) p a k⟩

/-- The result, as an array. -/
def mixed : FVec Ideal S2048x1024 .f32 := fun y =>
  result (zcol m c) (low m c) (scale m c) ((y 0).val / 32) ⟨(y 0).val % 32, Nat.mod_lt _ (by omega)⟩ ⟨(y 1).val / 128, by have := (y 1).isLt; change (y 1).val < 1024 at this; omega⟩ ⟨(y 1).val % 128, Nat.mod_lt _ (by omega)⟩

theorem mixed_at (n : ℕ) (hn : n < 64) (r : Fin 32) (p : Fin 8) (a : Fin 128) (x : Fin 2048) (hx : x.val = n * 32 + r.val) :
    mixed m c (ix2 x (col p a)) = result (zcol m c) (low m c) (scale m c) n r p a := by
  unfold mixed
  have h0 : x.val / 32 = n := by omega
  have h1 : x.val % 32 = r.val := by omega
  have h2 : (p.val * 128 + a.val) / 128 = p.val := by omega
  have h3 : (p.val * 128 + a.val) % 128 = a.val := by omega
  show result _ _ _ (x.val / 32) ⟨x.val % 32, _⟩ ⟨(p.val * 128 + a.val) / 128, _⟩ ⟨(p.val * 128 + a.val) % 128, _⟩ = _
  simp only [h0, h1, h2, h3]

/-- The outputs of a tile. -/
theorem mixed_point (t : Fin cfg0.N) (y : S128x1024.Idx) : (outsAt0 m c t.val t.isLt).1 y = mixed m c (((cfg0.win 14).blk t).view.emb y) := by
  idx_vars y
  obtain ⟨x, rfl⟩ : ∃ x, x = y0 := ⟨_, rfl⟩
  obtain ⟨k, rfl⟩ : ∃ k, k = y1 := ⟨_, rfl⟩
  rw [place14]
  have hx : x = spot ⟨x.val / 32, by omega⟩ ⟨x.val % 32, Nat.mod_lt _ (by omega)⟩ := Fin.ext (by simp only [spot]; omega)
  have hk : k = col ⟨k.val / 128, by omega⟩ ⟨k.val % 128, Nat.mod_lt _ (by omega)⟩ := Fin.ext (by simp only [col]; omega)
  rw [hx, hk]
  generalize (⟨x.val / 32, _⟩ : Fin 4) = i
  generalize (⟨x.val % 32, _⟩ : Fin 32) = r
  generalize (⟨k.val / 128, _⟩ : Fin 8) = p
  generalize (⟨k.val % 128, _⟩ : Fin 128) = a
  have hN : cfg0.N = 16 := N_0
  have ht := t.isLt
  refine (out_tile (reads m c t) (carried m c t) i r p a).trans (.trans ?_ (mixed_at m c (4 * t.val + i.val) (by omega) r p a _ ?_).symm)
  · unfold result
    refine congrArg₂ (fun s z => gated _ s z a) (read_scale m c t 0 _) ?_
    pointwise
    refine .trans ?_ ((read_part m c t 3 (spot i r) (col p a) ⟨3072 + (col p a).val, by omega⟩ (by simp)).trans ?_)
    · rfl
    · rw [tileRow_eq (4 * t.val) i.val r (spot i r) (by simp [spot])]
  · simp only [trow, spot]; omega

/-- The whole result. -/
theorem mixed_final : (dats m 0 c).arrAt 14 (cfgs 0).N = mixed m c := by
  refine (dats m 0 c).arrAt_eq_of_covers 14 _ (by decide +kernel) fun t hf y => ?_
  blk_simp
  rw [after0_14]
  exact mixed_point m c t y

end Cert.MixFwdIdeal.Value

end
-- ==== Proof.Mix.Window.lean ====
module

public import proofs.«01_k».proof.Proof.Gen.MixRefIdeal.Run
public import proofs.«01_k».proof.Proof.Mix.Spec
public import Idealize.ShloMosaic.Lib.Pipeline.ValueKit

@[expose] public section

noncomputable section

open Idealize.ShloMosaic Idealize.ShloMosaic.TcCoe

namespace Cert.Recurrence

/-! Running sums, written as sums over padded windows. -/

/-- A sum taken step by step from zero. -/
theorem foldl_sum {n : ℕ} (f : Fin n → EReal) : (List.finRange n).foldl (fun r i => r + f i) 0 = ∑ i, f i := by
  rw [Fin.sum_univ_def, List.sum_eq_foldl, List.foldl_map]

/-- A windowed sum, as a sum over the window's positions. -/
theorem window_at {s t u : Shape} (window strides lo hi : Fin s.rank → ℕ) (x : FVec Ideal s .f32) (z : u.Idx → EReal)
    (h : s.ReduceWindows window strides lo hi t) (hu : 0 < u.numel) (hz : z (Shape.Idx.first hu) = 0) (j : t.Idx) :
    Host.reduceWindowAdd window strides lo hi x z h hu j
      = ∑ i : (⟨s.rank, window⟩ : Shape).Idx, if hin : ∀ a, lo a ≤ (j (a.cast h.1.symm)).val * strides a + (i a).val ∧ (j (a.cast h.1.symm)).val * strides a + (i a).val - lo a < s.size a then x (fun a => ⟨(j (a.cast h.1.symm)).val * strides a + (i a).val - lo a, (hin a).2⟩) else 0 := by
  refine .trans ?_ (Equiv.sum_comp (⟨s.rank, window⟩ : Shape).rowMajor.symm _)
  refine .trans ?_ (foldl_sum _)
  unfold Host.reduceWindowAdd
  rw [hz, Ideal.hostReduceWindowAdd_def]
  simp only [Ideal.hostReduceWindowAdd, Host.reduceWindow]

/-- The running sum over a chunk's 32 rows. -/
theorem cumsum_at {u : Shape} (x : FVec Ideal ⟨4, ![8, 64, 32, 128]⟩ .f32) (z : u.Idx → EReal)
    (h : Shape.ReduceWindows ⟨4, ![8, 64, 32, 128]⟩ ![1, 1, 32, 1] ![1, 1, 1, 1] ![0, 0, 31, 0] ![0, 0, 0, 0] ⟨4, ![8, 64, 32, 128]⟩) (hu : 0 < u.numel) (hz : z (Shape.Idx.first hu) = 0)
    (p : Fin 8) (n : Fin 64) (r : Fin 32) (k : Fin 128) :
    Host.reduceWindowAdd ![1, 1, 32, 1] ![1, 1, 1, 1] ![0, 0, 31, 0] ![0, 0, 0, 0] x z h hu (ix4 p n r k) = upTo (fun s => x (ix4 p n s k)) r := by
  rw [window_at _ _ _ _ x z h hu hz, ← window_sum]
  refine (Fintype.sum_bijective (fun w : Fin 32 => (ix4 0 0 w 0 : (⟨4, ![1, 1, 32, 1]⟩ : Shape).Idx)) ⟨fun a b e => congrFun e 2, fun i => ⟨i 2, ?_⟩⟩ _ _ fun w => ?_).symm
  · funext a
    match a with
    | 0 => exact (Subsingleton.elim (α := Fin 1) _ _)
    | 1 => exact (Subsingleton.elim (α := Fin 1) _ _)
    | 2 => rfl
    | 3 => exact (Subsingleton.elim (α := Fin 1) _ _)
  · by_cases hw : 31 ≤ r.val + w.val
    · rw [dif_pos hw, dif_pos]
      · congr 1
        funext a
        match a with
        | 0 => exact Fin.ext (by show p.val = p.val * 1 + 0 - 0; omega)
        | 1 => exact Fin.ext (by show n.val = n.val * 1 + 0 - 0; omega)
        | 2 => exact Fin.ext (by show r.val + w.val - 31 = r.val * 1 + w.val - 31; omega)
        | 3 => exact Fin.ext (by show k.val = k.val * 1 + 0 - 0; omega)
      · intro a
        match a with
        | 0 => show 0 ≤ p.val * 1 + 0 ∧ p.val * 1 + 0 - 0 < 8; omega
        | 1 => show 0 ≤ n.val * 1 + 0 ∧ n.val * 1 + 0 - 0 < 64; omega
        | 2 => show 31 ≤ r.val * 1 + w.val ∧ r.val * 1 + w.val - 31 < 32; omega
        | 3 => show 0 ≤ k.val * 1 + 0 ∧ k.val * 1 + 0 - 0 < 128; omega
    · rw [dif_neg hw, dif_neg]
      intro hin
      have h2 : 31 ≤ r.val * 1 + w.val := (hin 2).1
      omega

/-- The first of the running sums of two rows is the first row. -/
theorem cumsum_first {u : Shape} (x : FVec Ideal ⟨2, ![2, 1024]⟩ .f32) (z : u.Idx → EReal)
    (h : Shape.ReduceWindows ⟨2, ![2, 1024]⟩ ![2, 1] ![1, 1] ![1, 0] ![0, 0] ⟨2, ![2, 1024]⟩) (hu : 0 < u.numel) (hz : z (Shape.Idx.first hu) = 0) (k : Fin 1024) :
    Host.reduceWindowAdd ![2, 1] ![1, 1] ![1, 0] ![0, 0] x z h hu (ix2 0 k) = x (ix2 0 k) := by
  rw [window_at _ _ _ _ x z h hu hz]
  refine (Fintype.sum_eq_single (ix2 1 0 : (⟨2, ![2, 1]⟩ : Shape).Idx) fun i hi => dif_neg fun hin => hi ?_).trans ?_
  · have h0 : 1 ≤ 0 * 1 + (i 0).val := (hin 0).1
    have h1 : (i 0).val < 2 := (i 0).isLt
    funext a
    match a with
    | 0 => exact Fin.ext (by show (i 0).val = 1; omega)
    | 1 => exact (Subsingleton.elim (α := Fin 1) _ _)
  · rw [dif_pos]
    · congr 1
      funext a
      match a with
      | 0 => rfl
      | 1 => exact Fin.ext (by show k.val * 1 + 0 - 0 = k.val; omega)
    · intro a
      match a with
      | 0 => show 1 ≤ 0 * 1 + 1 ∧ 0 * 1 + 1 - 1 < 2; omega
      | 1 => show 0 ≤ k.val * 1 + 0 ∧ k.val * 1 + 0 - 0 < 1024; omega

end Cert.Recurrence

end
-- ==== Proof.Mix.Stages.lean ====
module

public import proofs.«01_k».proof.Proof.Gen.MixRefIdeal.Run
public import proofs.«01_k».proof.Proof.Mix.Gates
public import proofs.«01_k».proof.Proof.Mix.Window
public import Idealize.ShloMosaic.Lib.Pipeline.ValueKit
public import Idealize.ShloMosaic.Lib.Pipeline.ReadBack
public import Idealize.ShloMosaic.Lib.StableHlo.ReadAt

@[expose] public section

set_option maxRecDepth 16384
set_option maxHeartbeats 4000000

noncomputable section

open Idealize.ShloMosaic Idealize.ShloMosaic.TcCoe Idealize.SL.Sem Idealize.ShloMosaic.StableHlo

namespace Cert.MixRefIdeal.Value

open Cert.MixRefIdeal Cert.MixRefIdeal.Gen Cert.Recurrence

/-! The stretches of operations before the loop, each from any contents. -/

variable (V : Valuation τ sig (Elt Ideal))

/-- The shares of the two rows. -/
theorem stage0 (x : FVec Ideal S2x1024 .f32) (hx : V (Proc.devRef .tc main_arg1) = x) (k : Fin 1024) :
    after hostOps0 V (Proc.devRef .tc main_v10) (ix2 0 k) = share (x (ix2 0 k)) (x (ix2 1 k)) := by
  after_reads_at
  rw [hx]
  have hb : max (Ideal.ofBits .f32 0xFF800000#32) (Finset.fold max (Ideal.ofBits .f32 0xFF800000#32) (fun y : Fin 2 => x (ix2 y k)) Finset.univ) = max (x (ix2 0 k)) (x (ix2 1 k)) := by
    have h : Ideal.ofBits .f32 0xFF800000#32 = ⊥ := by simp [Ideal.ofBits, Ideal.ieee]
    rw [h, show (Finset.univ : Finset (Fin 2)) = {0, 1} from rfl, Finset.fold_insert (by decide), Finset.fold_singleton]
    simp
  have e : ∀ M, M = max (x (ix2 0 k)) (x (ix2 1 k)) → Ideal.div (Ideal.exp (x (ix2 0 k) - M)) (∑ y : Fin 2, Ideal.exp (x (ix2 y k) - M)) = share (x (ix2 0 k)) (x (ix2 1 k)) := by
    rintro _ rfl
    rw [Fin.sum_univ_two, share]
  exact e _ hb

/-- Its first running sum is the first share. -/
theorem stage1 (k : Fin 1024) :
    after hostOps0_1 V (Proc.devRef .tc main_v11) (ix2 0 k) = V (Proc.devRef .tc main_v10) (ix2 0 k) := by
  after_reads_at
  exact cumsum_first _ _ _ _ (by pointwise) k

/-- The lower bound. -/
theorem stage2_low (k : Fin 1024) :
    after hostOps0_2 V (Proc.devRef .tc main_v13) (ix1 k) = V (Proc.devRef .tc main_v11) (ix2 0 k) := by
  after_reads_at

/-- A part of the projection. -/
theorem stage2_part0 (r : Fin 2048) (k : Fin 1024) :
    after hostOps0_2 V (Proc.devRef .tc main_v15) (ix2 r k) = V (Proc.devRef .tc main_arg0) (ix3 0 r ⟨k.val, by omega⟩) := by
  after_reads_at

/-- A part of the projection. -/
theorem stage2_part1 (r : Fin 2048) (k : Fin 1024) :
    after hostOps0_2 V (Proc.devRef .tc main_v17) (ix2 r k) = V (Proc.devRef .tc main_arg0) (ix3 0 r ⟨1024 + k.val, by omega⟩) := by
  after_reads_at

/-- A part of the projection. -/
theorem stage2_part2 (r : Fin 2048) (k : Fin 1024) :
    after hostOps0_2 V (Proc.devRef .tc main_v19) (ix2 r k) = V (Proc.devRef .tc main_arg0) (ix3 0 r ⟨2048 + k.val, by omega⟩) := by
  after_reads_at

/-- The gate of the queries. -/
theorem stage3 (x : FVec Ideal S2048x1024 .f32) (hx : V (Proc.devRef .tc main_v15) = x) (r : Fin 2048) (k : Fin 1024) :
    after hostOps0_3 V (Proc.devRef .tc main_v20) (ix2 r k) = x (ix2 r k) * Ideal.logistic (x (ix2 r k)) := by
  after_reads_at
  rw [hx]
  rfl

/-- The queries by head and chunk. -/
theorem stage4_q (x : FVec Ideal S2048x1024 .f32) (hx : V (Proc.devRef .tc main_v20) = x) (p : Fin 8) (n : Fin 64) (r : Fin 32) (k : Fin 128) :
    after hostOps0_4 V (Proc.devRef .tc main_v44) (ix4 p n r k) = x (ix2 (row n r) (col p k)) * Scalar.ofBits (F := Ideal) .f32 0x3DB504F3#32 := by
  after_reads_at
  have e : (⟨n.val * 32 + r.val, by omega⟩ : Fin 2048) = row n r := Fin.ext (by simp only [row]; omega)
  subst hx
  rw [e]
  rfl

/-- The logarithms of the decays. -/
theorem stage4_log (l : FVec Ideal S1024 .f32) (hl : V (Proc.devRef .tc main_v13) = l) (x : FVec Ideal S2048x1024 .f32) (hx : V (Proc.devRef .tc main_v17) = x) (p : Fin 8) (n : Fin 64) (r : Fin 32) (k : Fin 128) :
    after hostOps0_4 V (Proc.devRef .tc main_v46) (ix4 p n r k) = Ideal.log (keep (l (ix1 (col p k))) (x (ix2 (row n r) (col p k)))) := by
  after_reads_at
  have e : (⟨n.val * 32 + r.val, by omega⟩ : Fin 2048) = row n r := Fin.ext (by simp only [row]; omega)
  refine congrArg₂ (fun a b : EReal => Ideal.log (keep a b)) (congrFun hl (ix1 (col p k))) ?_
  rw [e]
  exact congrFun hx (ix2 (row n r) (col p k))

/-- The keys. -/
theorem stage4_key (l : FVec Ideal S1024 .f32) (hl : V (Proc.devRef .tc main_v13) = l) (x : FVec Ideal S2048x1024 .f32) (hx : V (Proc.devRef .tc main_v17) = x) (p : Fin 8) (n : Fin 64) (r : Fin 32) (k : Fin 128) :
    after hostOps0_4 V (Proc.devRef .tc main_v48) (ix4 p n r k) = 1 - keep (l (ix1 (col p k))) (x (ix2 (row n r) (col p k))) := by
  after_reads_at
  have e : (⟨n.val * 32 + r.val, by omega⟩ : Fin 2048) = row n r := Fin.ext (by simp only [row]; omega)
  refine congrArg₂ (fun a b : EReal => 1 - keep a b) (congrFun hl (ix1 (col p k))) ?_
  rw [e]
  exact congrFun hx (ix2 (row n r) (col p k))

/-- The values. -/
theorem stage4_val (x : FVec Ideal S2048x1024 .f32) (hx : V (Proc.devRef .tc main_v19) = x) (p : Fin 8) (n : Fin 64) (r : Fin 32) (k : Fin 128) :
    after hostOps0_4 V (Proc.devRef .tc main_v50) (ix4 p n r k) = x (ix2 (row n r) (col p k)) := by
  after_reads_at
  have e : (⟨n.val * 32 + r.val, by omega⟩ : Fin 2048) = row n r := Fin.ext (by simp only [row]; omega)
  subst hx
  rw [e]
  rfl

/-- The running sums of the logarithms. -/
theorem stage5 (x : FVec Ideal S8x64x32x128 .f32) (hx : V (Proc.devRef .tc main_v46) = x) (p : Fin 8) (n : Fin 64) (r : Fin 32) (k : Fin 128) :
    after hostOps0_5 V (Proc.devRef .tc main_v51) (ix4 p n r k) = upTo (fun s => x (ix4 p n s k)) r := by
  after_reads_at
  rw [hx]
  exact cumsum_at _ _ _ _ (by pointwise) p n r k

/-- The scores. -/
theorem stage6 (b q h : FVec Ideal S8x64x32x128 .f32) (hb : V (Proc.devRef .tc main_v51) = b) (hq : V (Proc.devRef .tc main_v44) = q) (hh : V (Proc.devRef .tc main_v48) = h) (p : Fin 8) (n : Fin 64) (r s : Fin 32) :
    after hostOps0_6 V (Proc.devRef .tc main_v61) (ix4 p n r s) = ∑ k : Fin 128, (q (ix4 p n r k) * Ideal.exp (b (ix4 p n r k) - b (ix4 p n 15 k))) * (h (ix4 p n s k) * Ideal.exp (b (ix4 p n 15 k) - b (ix4 p n s k))) := by
  after_reads_at
  subst hb hq hh
  rfl

/-- The mask before its triangle is cut. -/
theorem stage6_one (r s : Fin 32) :
    after hostOps0_6 V (Proc.devRef .tc main_v62) (ix2 r s) = 1#1 := by
  after_reads_at

/-- Counting rows below the diagonal by 32-bit numbers. -/
theorem below : ∀ r s : Fin 32, Scalar.select (IntOp.cmpi .sge (IntOp.addi (BitVec.ofNat 32 r.val) 0#32) (BitVec.ofNat 32 s.val)) (1#1) (0#1) = if s ≤ r then 1#1 else 0#1 := by
  decide +kernel

/-- The mask. -/
theorem stage7 (h1 : ∀ r s : Fin 32, V (Proc.devRef .tc main_v62) (ix2 r s) = 1#1) (r s : Fin 32) :
    after hostOps0_7 V (Proc.devRef .tc main_v63) (ix2 r s) = if s ≤ r then 1#1 else 0#1 := by
  after_reads_at
  exact (congrArg (fun y : BitVec 1 => Scalar.select _ y 0#1) (h1 r s)).trans (below r s)

/-- A constant zero. -/
theorem stage8 : after hostOps0_8 V (Proc.devRef .tc main_cst_7) = fun _ => (0 : EReal) := by
  funext i
  after_reads_at

/-- The masked scores. -/
theorem stage9 (x : FVec Ideal S8x64x32x32 .f32) (hx : V (Proc.devRef .tc main_v61) = x) (z : FVec Ideal S_ .f32) (hz : V (Proc.devRef .tc main_cst_7) = z) (z0 : ∀ i, z i = 0) (h1 : ∀ r s : Fin 32, V (Proc.devRef .tc main_v63) (ix2 r s) = if s ≤ r then 1#1 else 0#1) (p : Fin 8) (n : Fin 64) (r s : Fin 32) :
    after hostOps0_9 V (Proc.devRef .tc main_v64) (ix4 p n r s) = if s ≤ r then x (ix4 p n r s) else 0 := by
  after_reads_at
  subst hx hz
  refine (congrArg (fun y : BitVec 1 => Scalar.select (α := EReal) y _ _) (h1 r s)).trans ?_
  by_cases h : s ≤ r
  · rw [if_pos h, if_pos h]
    rfl
  · rw [if_neg h, if_neg h]
    exact z0 ix0

/-- The chunks' decays. -/
theorem stage10_decay (b : FVec Ideal S8x64x32x128 .f32) (hb : V (Proc.devRef .tc main_v51) = b) (n : Fin 64) (p : Fin 8) (k : Fin 128) :
    after hostOps0_10 V (Proc.devRef .tc main_v83_0) (ix3 n p k) = Ideal.exp (b (ix4 p n 31 k)) := by
  after_reads_at
  dsimp only [id]
  pointwise
  subst hb
  rfl

/-- What the chunks add to the state. -/
theorem stage10_added (b h v : FVec Ideal S8x64x32x128 .f32) (hb : V (Proc.devRef .tc main_v51) = b) (hh : V (Proc.devRef .tc main_v48) = h) (hv : V (Proc.devRef .tc main_v50) = v) (n : Fin 64) (p : Fin 8) (k a : Fin 128) :
    after hostOps0_10 V (Proc.devRef .tc main_v83_1) (ix4 n p k a) = ∑ r : Fin 32, (h (ix4 p n r k) * Ideal.exp (b (ix4 p n 31 k) - b (ix4 p n r k))) * v (ix4 p n r a) := by
  after_reads_at
  dsimp only [id]
  pointwise
  subst hb hh hv
  rfl

/-- The queries relative to the chunks' starts. -/
theorem stage10_query (b q : FVec Ideal S8x64x32x128 .f32) (hb : V (Proc.devRef .tc main_v51) = b) (hq : V (Proc.devRef .tc main_v44) = q) (n : Fin 64) (p : Fin 8) (r : Fin 32) (k : Fin 128) :
    after hostOps0_10 V (Proc.devRef .tc main_v83_2) (ix4 n p r k) = q (ix4 p n r k) * Ideal.exp (b (ix4 p n r k)) := by
  after_reads_at
  dsimp only [id]
  pointwise
  subst hb hq
  rfl

/-- The outputs from within the chunks. -/
theorem stage10_inside (x : FVec Ideal S8x64x32x32 .f32) (v : FVec Ideal S8x64x32x128 .f32) (hx : V (Proc.devRef .tc main_v64) = x) (hv : V (Proc.devRef .tc main_v50) = v) (n : Fin 64) (p : Fin 8) (r : Fin 32) (a : Fin 128) :
    after hostOps0_10 V (Proc.devRef .tc main_v83_3) (ix4 n p r a) = ∑ s : Fin 32, x (ix4 p n r s) * v (ix4 p n s a) := by
  after_reads_at
  dsimp only [id]
  pointwise
  subst hx hv
  rfl

/-- The state starts at zero. -/
theorem stage10_state (p : Fin 8) (k a : Fin 128) :
    after hostOps0_10 V (Proc.devRef .tc main_v83_5) (ix3 p k a) = (0 : EReal) := by
  after_reads_at
  dsimp only [id]
  pointwise

end Cert.MixRefIdeal.Value

end
-- ==== Proof.Mix.Entry.lean ====
module

public import proofs.«01_k».proof.Proof.Mix.Stages

@[expose] public section

set_option maxRecDepth 16384
set_option maxHeartbeats 4000000

noncomputable section

open Idealize.ShloMosaic Idealize.ShloMosaic.TcCoe Idealize.SL.Sem Idealize.ShloMosaic.StableHlo

namespace Cert.MixRefIdeal.Value

open Cert.MixRefIdeal Cert.MixRefIdeal.Gen Cert.Recurrence

/-! What the loop starts from, as functions of the arguments. -/

variable (m : (ℓ : Loc nD τ sig) → Buf (Elt Ideal) ℓ) (c : Dev nD)

/-- The projection's columns that the recurrence reads, its lower bound's parameter, and the scale of the norm. -/
def zcol (r : Fin 2048) (k : Fin 4096) : EReal := (m ((c : Thread nD τ).loc main_arg0)) (ix3 0 r ⟨k.val, by omega⟩)
def low (r : Fin 2) (k : Fin 1024) : EReal := (m ((c : Thread nD τ).loc main_arg1)) (ix2 r k)
def scale (k : Fin 1024) : EReal := (m ((c : Thread nD τ).loc main_arg2)) (ix2 0 k)

/-- The contents after each stretch. -/
def e0 : Valuation τ sig (Elt Ideal) := fun b => m (c, b)
def e1 := after hostOps0 (e0 m c)
def e2 := after hostOps0_1 (e1 m c)
def e3 := after hostOps0_2 (e2 m c)
def e4 := after hostOps0_3 (e3 m c)
def e5 := after hostOps0_4 (e4 m c)
def e6 := after hostOps0_5 (e5 m c)
def e7 := after hostOps0_6 (e6 m c)
def e8 := after hostOps0_7 (e7 m c)
def e9 := after hostOps0_8 (e8 m c)
def e10 := after hostOps0_9 (e9 m c)
def e11 := after hostOps0_10 (e10 m c)

theorem entry_eq : entryContents preI m c = e11 m c := rfl

/-- What a stretch does not write it leaves. -/
theorem keep0 (r : Ref sig .tc) (h : r ∉ hostOps0_W) : e1 m c (Proc.devRef .tc r) = e0 m c (Proc.devRef .tc r) := after_of_writes_sub hostOps0 _ hostOps0_writes h
theorem keep1 (r : Ref sig .tc) (h : r ∉ hostOps0_1_W) : e2 m c (Proc.devRef .tc r) = e1 m c (Proc.devRef .tc r) := after_of_writes_sub hostOps0_1 _ hostOps0_1_writes h
theorem keep3 (r : Ref sig .tc) (h : r ∉ hostOps0_3_W) : e4 m c (Proc.devRef .tc r) = e3 m c (Proc.devRef .tc r) := after_of_writes_sub hostOps0_3 _ hostOps0_3_writes h
theorem keep5 (r : Ref sig .tc) (h : r ∉ hostOps0_5_W) : e6 m c (Proc.devRef .tc r) = e5 m c (Proc.devRef .tc r) := after_of_writes_sub hostOps0_5 _ hostOps0_5_writes h
theorem keep6 (r : Ref sig .tc) (h : r ∉ hostOps0_6_W) : e7 m c (Proc.devRef .tc r) = e6 m c (Proc.devRef .tc r) := after_of_writes_sub hostOps0_6 _ hostOps0_6_writes h
theorem keep7 (r : Ref sig .tc) (h : r ∉ hostOps0_7_W) : e8 m c (Proc.devRef .tc r) = e7 m c (Proc.devRef .tc r) := after_of_writes_sub hostOps0_7 _ hostOps0_7_writes h
theorem keep8 (r : Ref sig .tc) (h : r ∉ hostOps0_8_W) : e9 m c (Proc.devRef .tc r) = e8 m c (Proc.devRef .tc r) := after_of_writes_sub hostOps0_8 _ hostOps0_8_writes h
theorem keep9 (r : Ref sig .tc) (h : r ∉ hostOps0_9_W) : e10 m c (Proc.devRef .tc r) = e9 m c (Proc.devRef .tc r) := after_of_writes_sub hostOps0_9 _ hostOps0_9_writes h

/-- From the fifth stretch to the last: what none of them writes. -/
theorem keep_to_scores (r : Ref sig .tc) (h5 : r ∉ hostOps0_5_W) : e6 m c (Proc.devRef .tc r) = e5 m c (Proc.devRef .tc r) := keep5 m c r h5
theorem keep_to_last (r : Ref sig .tc) (h6 : r ∉ hostOps0_6_W) (h7 : r ∉ hostOps0_7_W) (h8 : r ∉ hostOps0_8_W) (h9 : r ∉ hostOps0_9_W) :
    e10 m c (Proc.devRef .tc r) = e6 m c (Proc.devRef .tc r) :=
  (keep9 m c r h9).trans ((keep8 m c r h8).trans ((keep7 m c r h7).trans (keep6 m c r h6)))

/-- The lower bound. -/
theorem low_at (k : Fin 1024) : e3 m c (Proc.devRef .tc main_v13) (ix1 k) = share (low m c 0 k) (low m c 1 k) :=
  (stage2_low (e2 m c) k).trans ((stage1 (e1 m c) k).trans (stage0 (e0 m c) _ rfl k))

/-- The parts of the projection. -/
theorem arg_at : e2 m c (Proc.devRef .tc main_arg0) = m ((c : Thread nD τ).loc main_arg0) := (keep1 m c main_arg0 (by decide)).trans (keep0 m c main_arg0 (by decide))
theorem part0_at (r : Fin 2048) (k : Fin 1024) : e3 m c (Proc.devRef .tc main_v15) (ix2 r k) = zcol m c r (part 0 k) :=
  (stage2_part0 (e2 m c) r k).trans ((congrFun (arg_at m c) _).trans (congrArg (m ((c : Thread nD τ).loc main_arg0)) (congrArg (ix3 0 r) (Fin.ext (by simp [part])))))
theorem part1_at (r : Fin 2048) (k : Fin 1024) : e3 m c (Proc.devRef .tc main_v17) (ix2 r k) = zcol m c r (part 1 k) :=
  (stage2_part1 (e2 m c) r k).trans ((congrFun (arg_at m c) _).trans (congrArg (m ((c : Thread nD τ).loc main_arg0)) (congrArg (ix3 0 r) (Fin.ext (by simp [part])))))
theorem part2_at (r : Fin 2048) (k : Fin 1024) : e3 m c (Proc.devRef .tc main_v19) (ix2 r k) = zcol m c r (part 2 k) :=
  (stage2_part2 (e2 m c) r k).trans ((congrFun (arg_at m c) _).trans (congrArg (m ((c : Thread nD τ).loc main_arg0)) (congrArg (ix3 0 r) (Fin.ext (by simp [part])))))

variable (p : Fin 8) (n : Fin 64) (r : Fin 32) (k : Fin 128)

theorem query_at : e6 m c (Proc.devRef .tc main_v44) (ix4 p n r k) = query (zcol m c) (row n r) (col p k) :=
  (congrFun (keep5 m c main_v44 (by decide)) _).trans ((stage4_q (e4 m c) _ rfl p n r k).trans
    (congrArg (fun y : EReal => y * Scalar.ofBits (F := Ideal) .f32 0x3DB504F3#32) ((stage3 (e3 m c) _ rfl (row n r) (col p k)).trans
      (congrArg (fun y : EReal => y * Ideal.logistic y) (part0_at m c (row n r) (col p k))))))

theorem forget_at : keep (e4 m c (Proc.devRef .tc main_v13) (ix1 (col p k))) (e4 m c (Proc.devRef .tc main_v17) (ix2 (row n r) (col p k))) = forget (zcol m c) (low m c) (row n r) (col p k) :=
  congrArg₂ keep ((congrFun (keep3 m c main_v13 (by decide)) _).trans (low_at m c (col p k))) ((congrFun (keep3 m c main_v17 (by decide)) _).trans (part1_at m c (row n r) (col p k)))

theorem log_at : e5 m c (Proc.devRef .tc main_v46) (ix4 p n r k) = logs (zcol m c) (low m c) (row n r) (col p k) :=
  (stage4_log (e4 m c) _ rfl _ rfl p n r k).trans (congrArg Ideal.log (forget_at m c p n r k))

theorem key_at : e6 m c (Proc.devRef .tc main_v48) (ix4 p n r k) = key (zcol m c) (low m c) (row n r) (col p k) :=
  (congrFun (keep5 m c main_v48 (by decide)) _).trans ((stage4_key (e4 m c) _ rfl _ rfl p n r k).trans (congrArg (fun y : EReal => 1 - y) (forget_at m c p n r k)))

theorem val_at : e10 m c (Proc.devRef .tc main_v50) (ix4 p n r k) = val (zcol m c) (row n r) (col p k) :=
  (congrFun ((keep_to_last m c main_v50 (by decide) (by decide) (by decide) (by decide)).trans (keep5 m c main_v50 (by decide))) _).trans
    ((stage4_val (e4 m c) _ rfl p n r k).trans ((congrFun (keep3 m c main_v19 (by decide)) _).trans (part2_at m c (row n r) (col p k))))

theorem cum_at : e6 m c (Proc.devRef .tc main_v51) (ix4 p n r k) = cum (logs (zcol m c) (low m c)) n r (col p k) :=
  (stage5 (e5 m c) _ rfl p n r k).trans (congrArg (fun f => upTo f r) (funext fun s => log_at m c p n s k))

/-- Equal terms, equal sums. -/
theorem sum_eq {N : ℕ} (f g : Fin N → EReal) (h : ∀ i, f i = g i) : ∑ i, f i = ∑ i, g i := Finset.sum_congr rfl fun i _ => h i

/-- The scores before the mask. -/
theorem raw_at (s : Fin 32) : e7 m c (Proc.devRef .tc main_v61) (ix4 p n r s)
    = ∑ j : Fin 128, queryMid (query (zcol m c)) (logs (zcol m c) (low m c)) n r (col p j) * keyMid (logs (zcol m c) (low m c)) (key (zcol m c) (low m c)) n s (col p j) := by
  refine (stage6 (e6 m c) _ _ _ rfl rfl rfl p n r s).trans (sum_eq _ _ fun j => ?_)
  rw [query_at, key_at, cum_at, cum_at, cum_at]
  rfl

/-- The masked scores. -/
theorem score_at (s : Fin 32) : e10 m c (Proc.devRef .tc main_v64) (ix4 p n r s) = score (query (zcol m c)) (logs (zcol m c) (low m c)) (key (zcol m c) (low m c)) n p r s := by
  refine (stage9 (e9 m c) _ rfl _ rfl ?_ ?_ p n r s).trans ?_
  · intro i
    exact congrFun (stage8 (e8 m c)) i
  · intro r s
    exact (congrFun (keep8 m c main_v63 (by decide)) _).trans (stage7 (e7 m c) (fun r s => stage6_one (e6 m c) r s) r s)
  · unfold score
    split_ifs
    · exact (congrFun ((keep8 m c main_v61 (by decide)).trans (keep7 m c main_v61 (by decide))) _).trans (raw_at m c p n r s)
    · rfl

/-- The loop's operands. -/
theorem entry_decay : e11 m c (Proc.devRef .tc main_v83_0) (ix3 n p k) = decay (logs (zcol m c) (low m c)) n (col p k) :=
  (stage10_decay (e10 m c) _ rfl n p k).trans (congrArg Ideal.exp ((congrFun (keep_to_last m c main_v51 (by decide) (by decide) (by decide) (by decide)) _).trans (cum_at m c p n 31 k)))

theorem entry_added (a : Fin 128) : e11 m c (Proc.devRef .tc main_v83_1) (ix4 n p k a) = added (logs (zcol m c) (low m c)) (key (zcol m c) (low m c)) (val (zcol m c)) n p a k := by
  refine (stage10_added (e10 m c) _ _ _ rfl rfl rfl n p k a).trans (sum_eq _ _ fun r => ?_)
  rw [val_at, keep_to_last m c main_v51 (by decide) (by decide) (by decide) (by decide), keep_to_last m c main_v48 (by decide) (by decide) (by decide) (by decide), key_at, cum_at, cum_at, mul_comm]
  rfl

theorem entry_query : e11 m c (Proc.devRef .tc main_v83_2) (ix4 n p r k) = queryStart (query (zcol m c)) (logs (zcol m c) (low m c)) n r (col p k) := by
  refine (stage10_query (e10 m c) _ _ rfl rfl n p r k).trans ?_
  rw [keep_to_last m c main_v51 (by decide) (by decide) (by decide) (by decide), keep_to_last m c main_v44 (by decide) (by decide) (by decide) (by decide), query_at, cum_at]
  rfl

theorem entry_inside (a : Fin 128) : e11 m c (Proc.devRef .tc main_v83_3) (ix4 n p r a)
    = ∑ s : Fin 32, score (query (zcol m c)) (logs (zcol m c) (low m c)) (key (zcol m c) (low m c)) n p r s * val (zcol m c) (row n s) (col p a) := by
  refine (stage10_inside (e10 m c) _ _ rfl rfl n p r a).trans (sum_eq _ _ fun s => ?_)
  rw [score_at, val_at]

theorem entry_state (a : Fin 128) : e11 m c (Proc.devRef .tc main_v83_5) (ix3 p k a) = (0 : EReal) := stage10_state (e10 m c) p k a

end Cert.MixRefIdeal.Value

end
-- ==== Proof.Mix.Steps.lean ====
module

public import proofs.«01_k».proof.Proof.Mix.Entry

@[expose] public section

set_option maxRecDepth 16384
set_option maxHeartbeats 2000000

noncomputable section

open Idealize.ShloMosaic Idealize.ShloMosaic.TcCoe Idealize.SL.Sem Idealize.ShloMosaic.StableHlo

namespace Cert.MixRefIdeal.Value

open Cert.MixRefIdeal Cert.MixRefIdeal.Gen Cert.Recurrence

/-! One trip of the loop, entry by entry. -/

theorem word_toInt : ∀ n : Fin 64, (BitVec.ofNat 32 n.val).toInt = (n.val : ℤ) := by decide

/-- Where a trip's slices start: at the trip's number, and at zero on the other axes. -/
theorem starts3 (n : Fin 64) (a : Fin 3) : (((![fun _ => BitVec.ofNat 32 n.val, constantI S_ 32 0#32, constantI S_ 32 0#32] : Fin 3 → (⟨S_, .i32⟩ : BufTy).Contents (Elt Ideal))) a (Shape.Idx.first h_S_)).toInt = ((![n.val, 0, 0] a : ℕ) : ℤ) :=
  match a with
  | 0 => word_toInt n
  | 1 => rfl
  | 2 => rfl
theorem starts4 (n : Fin 64) (a : Fin 4) : (((![fun _ => BitVec.ofNat 32 n.val, constantI S_ 32 0#32, constantI S_ 32 0#32, constantI S_ 32 0#32] : Fin 4 → (⟨S_, .i32⟩ : BufTy).Contents (Elt Ideal))) a (Shape.Idx.first h_S_)).toInt = ((![n.val, 0, 0, 0] a : ℕ) : ℤ) :=
  match a with
  | 0 => word_toInt n
  | 1 => rfl
  | 2 => rfl
  | 3 => rfl

/-- A slice that starts at `n` on the first axis. -/
theorem slice3 {A B : ℕ} (n : Fin 64) (x : (⟨3, ![64, A, B]⟩ : Shape).Idx → EReal) (start : Fin 3 → ℤ) (h : Shape.Slices ⟨3, ![64, A, B]⟩ (fun _ => 0) ⟨3, ![1, A, B]⟩)
    (hs : ∀ a, start a = ((![n.val, 0, 0] a : ℕ) : ℤ)) (p : Fin A) (k : Fin B) : Host.dynamicSlice ⟨3, ![1, A, B]⟩ x start h (ix3 0 p k) = x (ix3 n p k) := by
  rw [Host.dynamicSlice_apply]
  refine congrArg x ?_
  funext a
  have hn := n.isLt
  match a with
  | 0 => exact Fin.ext ((congrArg (· + 0) (Host.clampedStart_of_le h.1 start 0 n.val (hs 0) (by show n.val + 1 ≤ 64; omega))))
  | 1 => exact Fin.ext ((congrArg (· + p.val) (Host.clampedStart_of_le h.1 start 1 0 (hs 1) (by show 0 + A ≤ A; omega))).trans (Nat.zero_add _))
  | 2 => exact Fin.ext ((congrArg (· + k.val) (Host.clampedStart_of_le h.1 start 2 0 (hs 2) (by show 0 + B ≤ B; omega))).trans (Nat.zero_add _))
theorem slice4 {A B C : ℕ} (n : Fin 64) (x : (⟨4, ![64, A, B, C]⟩ : Shape).Idx → EReal) (start : Fin 4 → ℤ) (h : Shape.Slices ⟨4, ![64, A, B, C]⟩ (fun _ => 0) ⟨4, ![1, A, B, C]⟩)
    (hs : ∀ a, start a = ((![n.val, 0, 0, 0] a : ℕ) : ℤ)) (p : Fin A) (k : Fin B) (l : Fin C) : Host.dynamicSlice ⟨4, ![1, A, B, C]⟩ x start h (ix4 0 p k l) = x (ix4 n p k l) := by
  rw [Host.dynamicSlice_apply]
  refine congrArg x ?_
  funext a
  have hn := n.isLt
  match a with
  | 0 => exact Fin.ext ((congrArg (· + 0) (Host.clampedStart_of_le h.1 start 0 n.val (hs 0) (by show n.val + 1 ≤ 64; omega))))
  | 1 => exact Fin.ext ((congrArg (· + p.val) (Host.clampedStart_of_le h.1 start 1 0 (hs 1) (by show 0 + A ≤ A; omega))).trans (Nat.zero_add _))
  | 2 => exact Fin.ext ((congrArg (· + k.val) (Host.clampedStart_of_le h.1 start 2 0 (hs 2) (by show 0 + B ≤ B; omega))).trans (Nat.zero_add _))
  | 3 => exact Fin.ext ((congrArg (· + l.val) (Host.clampedStart_of_le h.1 start 3 0 (hs 3) (by show 0 + C ≤ C; omega))).trans (Nat.zero_add _))

/-- An update of the slice at `n`. -/
theorem update4 {A B C : ℕ} (n : Fin 64) (x : (⟨4, ![64, A, B, C]⟩ : Shape).Idx → EReal) (u : (⟨4, ![1, A, B, C]⟩ : Shape).Idx → EReal) (start : Fin 4 → ℤ) (h : Shape.Slices ⟨4, ![64, A, B, C]⟩ (fun _ => 0) ⟨4, ![1, A, B, C]⟩)
    (hs : ∀ a, start a = ((![n.val, 0, 0, 0] a : ℕ) : ℤ)) (j : Fin 64) (p : Fin A) (k : Fin B) (l : Fin C) :
    Host.dynamicUpdateSlice x u start h (ix4 j p k l) = if j = n then u (ix4 0 p k l) else x (ix4 j p k l) := by
  rw [Host.dynamicUpdateSlice_apply]
  have hn := n.isLt
  have c0 : Host.clampedStart ⟨4, ![64, A, B, C]⟩ ⟨4, ![1, A, B, C]⟩ h.1 start 0 = n.val := Host.clampedStart_of_le h.1 start 0 n.val (hs 0) (by show n.val + 1 ≤ 64; omega)
  have c1 : Host.clampedStart ⟨4, ![64, A, B, C]⟩ ⟨4, ![1, A, B, C]⟩ h.1 start 1 = 0 := Host.clampedStart_of_le h.1 start 1 0 (hs 1) (by show 0 + A ≤ A; omega)
  have c2 : Host.clampedStart ⟨4, ![64, A, B, C]⟩ ⟨4, ![1, A, B, C]⟩ h.1 start 2 = 0 := Host.clampedStart_of_le h.1 start 2 0 (hs 2) (by show 0 + B ≤ B; omega)
  have c3 : Host.clampedStart ⟨4, ![64, A, B, C]⟩ ⟨4, ![1, A, B, C]⟩ h.1 start 3 = 0 := Host.clampedStart_of_le h.1 start 3 0 (hs 3) (by show 0 + C ≤ C; omega)
  by_cases e : j = n
  · rw [if_pos e, dif_pos]
    · refine congrArg u ?_
      funext a
      match a with
      | 0 => exact (Subsingleton.elim (α := Fin 1) _ _)
      | 1 => exact Fin.ext ((congrArg (p.val - ·) c1).trans (Nat.sub_zero _))
      | 2 => exact Fin.ext ((congrArg (k.val - ·) c2).trans (Nat.sub_zero _))
      | 3 => exact Fin.ext ((congrArg (l.val - ·) c3).trans (Nat.sub_zero _))
    · intro a
      match a with
      | 0 => rw [c0, e]; show n.val ≤ n.val ∧ n.val < n.val + 1; omega
      | 1 => rw [c1]; show 0 ≤ p.val ∧ p.val < 0 + A; omega
      | 2 => rw [c2]; show 0 ≤ k.val ∧ k.val < 0 + B; omega
      | 3 => rw [c3]; show 0 ≤ l.val ∧ l.val < 0 + C; omega
  · rw [if_neg e, dif_neg]
    intro hin
    have h0 := hin 0
    rw [c0] at h0
    have h1 : n.val ≤ j.val ∧ j.val < n.val + 1 := h0
    exact e (Fin.ext (by omega))

variable (V : Valuation τ sig (Elt Ideal)) (n : Fin 64)

/-- The state after a trip. -/
theorem step5 (d : FVec Ideal S64x8x128 .f32) (u : FVec Ideal S64x8x128x128 .f32) (s : FVec Ideal S8x128x128 .f32) (hd : V (Proc.devRef .tc main_v83_0) = d) (hu : V (Proc.devRef .tc main_v83_1) = u)
    (hs : V (Proc.devRef .tc main_v83_5) = s) (hc : V (Proc.devRef .tc main_v83_4) = fun _ => BitVec.ofNat 32 n.val) (p : Fin 8) (k a : Fin 128) :
    step_main_v83_5 V (ix3 p k a) = d (ix3 n p k) * s (ix3 p k a) + u (ix4 n p k a) := by
  unfold step_main_v83_5
  rw [hc, hd, hu, hs]
  dsimp only [id]
  have hD := slice3 n d _ sliceFits_S64x8x128_S1x8x128 (starts3 n) p k
  have hU := slice4 n u _ sliceFits_S64x8x128x128_S1x8x128x128 (starts4 n) p k a
  generalize Host.dynamicSlice S1x8x128 d _ _ = D at hD ⊢
  generalize Host.dynamicSlice S1x8x128x128 u _ _ = U at hU ⊢
  pointwise
  exact congrArg₂ (fun x y : EReal => x * s (ix3 p k a) + y) hD hU

/-- The outputs after a trip: one more chunk. -/
theorem step6 (q x o : FVec Ideal S64x8x32x128 .f32) (s : FVec Ideal S8x128x128 .f32) (hq : V (Proc.devRef .tc main_v83_2) = q) (hx : V (Proc.devRef .tc main_v83_3) = x) (ho : V (Proc.devRef .tc main_v83_6) = o)
    (hs : V (Proc.devRef .tc main_v83_5) = s) (hc : V (Proc.devRef .tc main_v83_4) = fun _ => BitVec.ofNat 32 n.val) (j : Fin 64) (p : Fin 8) (r : Fin 32) (a : Fin 128) :
    step_main_v83_6 V (ix4 j p r a) = if j = n then x (ix4 n p r a) + ∑ k : Fin 128, q (ix4 n p r k) * s (ix3 p k a) else o (ix4 j p r a) := by
  unfold step_main_v83_6
  rw [hc, hq, hx, hs, ho]
  dsimp only [id]
  refine (update4 n o _ _ updateFits_S64x8x32x128_S1x8x32x128 (starts4 n) j p r a).trans ?_
  by_cases e : j = n
  · rw [if_pos e, if_pos e]
    have hX := slice4 n x _ sliceFits_S64x8x32x128_S1x8x32x128 (starts4 n) p r a
    have hQ := fun k => slice4 n q _ sliceFits_S64x8x32x128_S1x8x32x128 (starts4 n) p r k
    generalize Host.dynamicSlice S1x8x32x128 x _ _ = X at hX ⊢
    generalize Host.dynamicSlice S1x8x32x128 q _ _ = Q at hQ ⊢
    pointwise
    exact congrArg₂ (fun x y : EReal => x + y) hX (sum_eq _ _ fun k => congrArg (fun y : EReal => y * s (ix3 p k a)) (hQ k))
  · rw [if_neg e, if_neg e]

/-- The result from the loop's outputs. -/
theorem last (o : FVec Ideal S64x8x32x128 .f32) (ho : V (Proc.devRef .tc main_v83_6) = o) (w : FVec Ideal S1x1024 .f32) (hw : V (Proc.devRef .tc main_arg2) = w)
    (z : FVec Ideal S1x2048x9472 .f32) (hz : V (Proc.devRef .tc main_arg0) = z) (r : Fin 32) (p : Fin 8) (a : Fin 128) :
    out_main_v105 V (ix2 (row n r) (col p a)) = gated (fun k => o (ix4 n p r k)) (w (ix2 0 (col p a))) (z (ix3 0 (row n r) ⟨3072 + (col p a).val, by omega⟩)) a := by
  have e0 : (⟨(row n r).val / 32, by omega⟩ : Fin 64) = n := Fin.ext (by simp only [row]; omega)
  have e1 : (⟨(row n r).val % 32, by omega⟩ : Fin 32) = r := Fin.ext (by simp only [row]; omega)
  have e2 : (⟨(col p a).val / 128, by omega⟩ : Fin 8) = p := Fin.ext (by simp only [col]; omega)
  have e3 : (⟨(col p a).val % 128, by omega⟩ : Fin 128) = a := Fin.ext (by simp only [col]; omega)
  unfold out_main_v105
  rw [ho, hw, hz]
  pointwise
  have K : (fun k : Fin 128 => o (ix4 ⟨(row n r).val / 32, by omega⟩ ⟨(col p a).val / 128, by omega⟩ ⟨(row n r).val % 32, by omega⟩ k)) = fun k => o (ix4 n p r k) := by
    rw [e0, e1, e2]
  refine .trans ?_ (congrArg₂ (fun f b => gated f (w (ix2 0 (col p a))) (z (ix3 0 (row n r) ⟨3072 + (col p a).val, by omega⟩)) b) K e3)
  rfl

end Cert.MixRefIdeal.Value

end
-- ==== Proof.Mix.Loop.lean ====
module

public import proofs.«01_k».proof.Proof.Mix.Steps

@[expose] public section

set_option maxRecDepth 16384
set_option maxHeartbeats 2000000

noncomputable section

open Idealize.ShloMosaic Idealize.ShloMosaic.TcCoe Idealize.SL.Sem Idealize.ShloMosaic.StableHlo

namespace Cert.MixRefIdeal.Value

open Cert.MixRefIdeal Cert.MixRefIdeal.Gen Cert.Recurrence

/-! The loop over the chunks: what it holds after any number of trips. -/

variable (m : (ℓ : Loc nD τ sig) → Buf (Elt Ideal) ℓ) (c : Dev nD)

/-- What the loop holds before trip `j`: its operands as they were, its counter at `j`, the state before chunk `j`, and
    the outputs of the chunks before it. -/
structure Holds (j : ℕ) (X : Valuation τ sig (Elt Ideal)) : Prop where
  decays : X (Proc.devRef .tc main_v83_0) = e11 m c (Proc.devRef .tc main_v83_0)
  addeds : X (Proc.devRef .tc main_v83_1) = e11 m c (Proc.devRef .tc main_v83_1)
  queries : X (Proc.devRef .tc main_v83_2) = e11 m c (Proc.devRef .tc main_v83_2)
  insides : X (Proc.devRef .tc main_v83_3) = e11 m c (Proc.devRef .tc main_v83_3)
  counter : X (Proc.devRef .tc main_v83_4) = fun _ => BitVec.ofNat 32 j
  states : ∀ p k a, X (Proc.devRef .tc main_v83_5) (ix3 p k a) = state (logs (zcol m c) (low m c)) (key (zcol m c) (low m c)) (val (zcol m c)) j p a k
  outs : ∀ n : Fin 64, n.val < j → ∀ p r a, X (Proc.devRef .tc main_v83_6) (ix4 n p r a)
    = out (query (zcol m c)) (logs (zcol m c) (low m c)) (key (zcol m c) (low m c)) (val (zcol m c)) n.val p r a

/-- It holds at the loop's entry. -/
theorem holds_entry : Holds m c 0 (e11 m c) where
  decays := rfl
  addeds := rfl
  queries := rfl
  insides := rfl
  counter := ctr_entry m c
  states p k a := entry_state m c p k a
  outs n hn := absurd hn (Nat.not_lt_zero _)

/-- One trip keeps it. -/
theorem holds_next (n : Fin 64) (X : Valuation τ sig (Elt Ideal)) (h : Holds m c n.val X) : Holds m c (n.val + 1) (STEP X) where
  decays := (STEP_main_v83_0 X).trans h.decays
  addeds := (STEP_main_v83_1 X).trans h.addeds
  queries := (STEP_main_v83_2 X).trans h.queries
  insides := (STEP_main_v83_3 X).trans h.insides
  counter := by
    refine (STEP_main_v83_4 X).trans ?_
    unfold step_main_v83_4
    rw [h.counter]
    funext i
    exact (BitVec.ofNat_add n.val 1).symm
  states p k a := by
    refine (congrFun (STEP_main_v83_5 X) _).trans ((step5 X n _ _ _ h.decays h.addeds rfl h.counter p k a).trans ?_)
    exact congrArg₂ (fun x y : EReal => x + y) (congrArg₂ (fun x y : EReal => x * y) (entry_decay m c p n k) (h.states p k a)) (entry_added m c p n k a)
  outs j hj p r a := by
    refine (congrFun (STEP_main_v83_6 X) _).trans ((step6 X n _ _ _ _ h.queries h.insides rfl rfl h.counter j p r a).trans ?_)
    by_cases e : j = n
    · rw [if_pos e, e]
      exact congrArg₂ (fun x y : EReal => x + y) (entry_inside m c p n r a)
        (sum_eq _ _ fun k => congrArg₂ (fun x y : EReal => x * y) (entry_query m c p n r k) (h.states p k a))
    · rw [if_neg e]
      exact h.outs j (by have : j.val ≠ n.val := fun w => e (Fin.ext w); omega) p r a

/-- So it holds after every trip. -/
theorem holds_after : ∀ j : ℕ, j ≤ 64 → Holds m c j (STEP^[j] (e11 m c))
  | 0, _ => holds_entry m c
  | j + 1, hj => by
    rw [Function.iterate_succ_apply']
    exact holds_next m c ⟨j, hj⟩ _ (holds_after j (by omega))

/-- The reference's result. -/
def left : FVec Ideal S2048x1024 .f32 := out_main_v105 (STEP^[64] (entryContents preI m c))

/-- The reference's result, entry by entry. -/
theorem result_at (n : Fin 64) (r : Fin 32) (p : Fin 8) (a : Fin 128) :
    left m c (ix2 (row n r) (col p a))
      = result (zcol m c) (low m c) (fun k => m ((c : Thread nD τ).loc main_arg2) (ix2 0 k)) n.val r p a := by
  unfold left
  refine (last _ n _ rfl _ (iter_main_arg2 m c 64) _ (iter_main_arg0 m c 64) r p a).trans ?_
  unfold result
  have hz : m ((c : Thread nD τ).loc main_arg0) (ix3 0 (row n r) ⟨3072 + (col p a).val, by omega⟩) = zcol m c (row n r) (part 3 (col p a)) :=
    congrArg (m ((c : Thread nD τ).loc main_arg0)) (congrArg (ix3 0 (row n r)) (Fin.ext (by simp [part])))
  rw [hz, entry_eq]
  exact congrArg (fun f => gated f _ _ a) (funext fun k => (holds_after m c 64 le_rfl).outs n n.isLt p r k)

end Cert.MixRefIdeal.Value

end
-- ==== Proof.Mix.Claims.lean ====
module

public import proofs.«01_k».proof.Defs
public import proofs.«01_k».proof.Proof.Gen.MixFwd.Frame
public import proofs.«01_k».proof.Proof.Mix.Points
public import proofs.«01_k».proof.Proof.Mix.Loop

/-! The claims about the forward call of both mixers, as far as its first mixer goes. -/

@[expose] public section

set_option maxRecDepth 16384

noncomputable section

namespace Cert.Proof

open Idealize.ShloMosaic Idealize.ShloMosaic.TcCoe Idealize.SL.Sem

open Cert Cert.Recurrence

/-- The kernel runs to its end and leaves its arguments. -/
theorem mix_frame : Cert.quiescent_MixFwd := fun m ρ _ => Cert.MixFwd.Gen.frame m ρ

/-- So does the idealized kernel. -/
theorem mix_frame_ideal : Cert.quiescent_MixFwdIdeal := fun m ρ _ => Cert.MixFwdIdeal.Gen.frame m ρ

/-- The reference runs to its end and leaves its arguments. -/
theorem mix_frame_ref : Cert.quiescent_MixRefIdeal := by
  intro m ρ _
  exact (θ_run _ _ _).mono (fun r h => ⟨fun c => (h c).2, sem_eq_zero_of_no_sems (by decide) r.2⟩)
    (Cert.MixRefIdeal.Value.run m ρ)

/-- The reference's loop ends at the array that the kernel's grid leaves, on memories that agree on the arguments read. -/
theorem mix_tie (m : (ℓ : Loc MixFwdIdeal.nD MixFwdIdeal.τ MixFwdIdeal.sig) → Buf (Elt Ideal) ℓ) (m' : (ℓ : Loc MixRefIdeal.nD MixRefIdeal.τ MixRefIdeal.sig) → Buf (Elt Ideal) ℓ)
    (c : Dev MixFwdIdeal.nD)
    (h0 : m' ((c.tc : Thread MixRefIdeal.nD MixRefIdeal.τ).loc MixRefIdeal.main_arg0) = m ((c.tc : Thread MixFwdIdeal.nD MixFwdIdeal.τ).loc MixFwdIdeal.main_arg0))
    (h1 : m' ((c.tc : Thread MixRefIdeal.nD MixRefIdeal.τ).loc MixRefIdeal.main_arg1) = m ((c.tc : Thread MixFwdIdeal.nD MixFwdIdeal.τ).loc MixFwdIdeal.main_arg1))
    (h2 : m' ((c.tc : Thread MixRefIdeal.nD MixRefIdeal.τ).loc MixRefIdeal.main_arg2) = m ((c.tc : Thread MixFwdIdeal.nD MixFwdIdeal.τ).loc MixFwdIdeal.main_arg2)) :
    MixRefIdeal.Value.left m' c = MixFwdIdeal.Value.mixed m c := by
  have ez : MixRefIdeal.Value.zcol m' c = MixFwdIdeal.Value.zcol m c := funext fun r => funext fun k => congrFun h0 _
  have el : MixRefIdeal.Value.low m' c = MixFwdIdeal.Value.low m c := funext fun r => funext fun k => congrFun h1 _
  have es : (fun k => m' ((c.tc : Thread MixRefIdeal.nD MixRefIdeal.τ).loc MixRefIdeal.main_arg2) (ix2 0 k)) = MixFwdIdeal.Value.scale m c := funext fun k => congrFun h2 _
  funext y
  obtain ⟨x, k, rfl⟩ : ∃ (x : Fin 2048) (k : Fin 1024), y = ix2 x k := ⟨y 0, y 1, by funext a; match a with | 0 => rfl | 1 => rfl⟩
  have hx : x = row (x.val / 32) ⟨x.val % 32, by omega⟩ := Fin.ext (by simp only [row]; omega)
  have hk : k = col ⟨k.val / 128, by omega⟩ ⟨k.val % 128, by omega⟩ := Fin.ext (by simp only [col]; omega)
  have hl := MixRefIdeal.Value.result_at m' c ⟨x.val / 32, by omega⟩ ⟨x.val % 32, by omega⟩ ⟨k.val / 128, by omega⟩ ⟨k.val % 128, by omega⟩
  have hr := MixFwdIdeal.Value.mixed_at m c (x.val / 32) (by omega) ⟨x.val % 32, by omega⟩ ⟨k.val / 128, by omega⟩ ⟨k.val % 128, by omega⟩ x (by simp only []; omega)
  rw [ez, el, es] at hl
  rw [← hk] at hl hr
  rw [← hx] at hl
  exact hl.trans hr.symm

/-- The first mixer's output agrees with the reference's, from every memory. -/
theorem mix_value : Cert.algebraic_MixFwdIdeal_MixRefIdeal := by
  intro m g m' g' _ hagree
  have hk := Cert.MixFwdIdeal.Value.run_blocks (F := Ideal) m g
  have hr := Cert.MixRefIdeal.Value.run (F := Ideal) m' g'
  refine ⟨fun c => MixFwdIdeal.Value.mixed m c, (θ_run _ _ _).mono (fun _ h c => ?_) hk, (θ_run _ _ _).mono (fun _ h c => ?_) hr⟩
  · obtain ⟨e, _, _, _, _, _, hargs⟩ := h c
    exact ⟨e.trans (MixFwdIdeal.Value.mixed_final m c), hargs⟩
  · obtain ⟨e, hargs⟩ := h c
    exact ⟨e.trans (mix_tie m m' c (hagree c).1 (hagree c).2.1 (hagree c).2.2.1), hargs⟩

end Cert.Proof

end
-- ==== Proof.Mm.Product.lean ====
module

public import proofs.«01_k».proof.Proof.Gen.MmBwdIdeal.Value
public import proofs.«01_k».proof.Proof.Gen.MmRefIdeal.Read
public import Idealize.ShloMosaic.Lib.Pipeline.ValueKit
public import Idealize.ShloMosaic.Lib.Pipeline.ReadBack

/-! The gradient of the down-projection's matrix: a product over the tokens, tile by tile. -/

@[expose] public section

set_option maxRecDepth 16384

noncomputable section

open Idealize.ShloMosaic Idealize.ShloMosaic.TcCoe Idealize.SL.Sem
open Idealize.ShloMosaic.Pipeline (Dat)

namespace Cert.MmBwdIdeal.Value

open Cert.MmBwdIdeal Cert.MmBwdIdeal.Gen Cert.MmRefIdeal.Read

variable (m : (ℓ : Loc nD τ sig) → Buf (Elt Ideal) ℓ) (c : Dev nD) (t : Fin cfg0.N)

/-- The grid walks the two halves of the rows, and in each the two halves of the columns. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- A row and a column of the tile, as those of the whole array. -/
def row (r : Fin 1408) : Fin 2816 := ⟨t.val / 2 * 1408 + r.val, by have := t.isLt; have : cfg0.N = 4 := N_0; omega⟩
def col (k : Fin 512) : Fin 1024 := ⟨t.val % 2 * 512 + k.val, by omega⟩

theorem read_act (s : Fin 2048) (r : Fin 1408) : iblk m c 0 t (ix2 s r) = (m ((c : Thread nD τ).loc main_arg0)) (ix3 0 s (row t r)) := by
  blk_simp [iblk, idx t]; entry_read; pointwise; blk_ext [idx t, row]

theorem read_dff (s : Fin 2048) (k : Fin 512) : iblk m c 1 t (ix2 s k) = (m ((c : Thread nD τ).loc main_arg2)) (ix3 0 s (col t k)) := by
  blk_simp [iblk, idx t]; entry_read; pointwise; blk_ext [idx t, col]

theorem place2 (r : Fin 1408) (k : Fin 512) : ((cfg0.win 2).blk t).view.emb (ix2 r k) = ix2 (row t r) (col t k) := by
  blk_ext [idx t, row, col]

theorem load0 {e : EltTy} (X : Vec Ideal S2048x1408 e) : View.ld X r0_0 = X := by
  refine funext fun y => congrArg X (funext fun a => Fin.ext ?_)
  match a with
  | ⟨0, _⟩ => show 0 + 1 * (y 0).val = (y 0).val; omega
  | ⟨1, _⟩ => show 0 + 1 * (y 1).val = (y 1).val; omega

theorem load1 {e : EltTy} (X : Vec Ideal S2048x512 e) : View.ld X r0_1 = X := by
  refine funext fun y => congrArg X (funext fun a => Fin.ext ?_)
  match a with
  | ⟨0, _⟩ => show 0 + 1 * (y 0).val = (y 0).val; omega
  | ⟨1, _⟩ => show 0 + 1 * (y 1).val = (y 1).val; omega

/-- The reference's gradient, over this program's argument arrays. -/
abbrev refW : FVec Ideal Cert.MmRefIdeal.S2816x1024 .bf16 := val_main_v6 (F := Ideal) (m ((c : Thread nD τ).loc main_arg0)) (m ((c : Thread nD τ).loc main_arg2))

/-- What a point stores is the reference's gradient, at those rows and columns of the array. -/
theorem w_point (y) : out0_2 (iblk m c 0 t) (iblk m c 1 t) y = refW m c (((cfg0.win 2).blk t).view.emb y) := by
  idx_vars y
  rw [place2]
  unfold out0_2
  canon_tiles x h
  idx_vars x
  obtain rfl := (Fin.ext h0 : y0 = _)
  obtain rfl := (Fin.ext h1 : y1 = _)
  simp only [load0, load1]
  pointwise [k0_pay1, refW, val_main_v1, val_main_v3, val_main_v4, val_main_v5, val_main_v6]
  simp only [read_act, read_dff]
  exact Fin.sum_fin_congr fun s => mul_comm _ _

/-- The gradient after the run is the reference's. -/
theorem w_final : (dats m 0 c).arrAt 2 (cfgs 0).N = refW m c := by
  refine (dats m 0 c).arrAt_eq_of_covers 2 _ (by decide +kernel) fun t hf y => ?_
  blk_simp
  rw [after0_2]
  exact w_point m c t y

end Cert.MmBwdIdeal.Value

end
-- ==== Proof.Mm.Claims.lean ====
module

public import proofs.«01_k».proof.Defs
public import proofs.«01_k».proof.Proof.Gen.MmBwd.Frame
public import proofs.«01_k».proof.Proof.Gen.MmRefIdeal.Run
public import proofs.«01_k».proof.Proof.Mm.Product

/-! The claims about the gradient of the down-projection's matrix. -/

@[expose] public section

set_option maxRecDepth 16384

noncomputable section

namespace Cert.Proof

open Idealize.ShloMosaic Idealize.SL.Sem

open Cert

/-- The kernel runs to its end and leaves its arguments. -/
theorem mm_frame : Cert.quiescent_MmBwd := fun m ρ _ => Cert.MmBwd.Gen.frame m ρ

/-- So does the idealized kernel. -/
theorem mm_frame_ideal : Cert.quiescent_MmBwdIdeal := fun m ρ _ => Cert.MmBwdIdeal.Gen.frame m ρ

/-- The reference runs to its end and leaves its arguments. -/
theorem mm_frame_ref : Cert.quiescent_MmRefIdeal := by
  intro m ρ _
  exact (θ_run _ _ _).mono (fun r h => ⟨fun c => (h c).2, sem_eq_zero_of_no_sems (by decide) r.2⟩)
    (Cert.MmRefIdeal.Value.run m ρ)

set_option maxHeartbeats 1600000 in
/-- The product agrees with the derivative of the reference's product, from every memory. -/
theorem mm_value : Cert.algebraic_MmBwdIdeal_MmRefIdeal := by
  pair_intro
  · run_from Cert.MmBwdIdeal.Value.run_blocks m g
  · run_from Cert.MmRefIdeal.Value.run m' g'
    all_goals obtain ⟨h0, h1, h2⟩ := hagree c
    · exact (MmRefIdeal.Read.val_main_v6_eq ..).trans (MmBwdIdeal.Value.w_final m c).symm

end Cert.Proof

end
-- ==== Proof.Multi.Products.lean ====
module

public import proofs.«01_k».proof.Proof.Gen.MultiBwdIdeal.Value
public import proofs.«01_k».proof.Proof.Gen.MultiRefIdeal.Read
public import Idealize.ShloMosaic.Lib.Pipeline.ValueKit
public import Idealize.ShloMosaic.Lib.Pipeline.ReadBack

/-! The gradients of three square matrices: three products over the tokens, half of the columns at a time. -/

@[expose] public section

set_option maxRecDepth 16384

noncomputable section

open Idealize.ShloMosaic Idealize.ShloMosaic.TcCoe Idealize.SL.Sem
open Idealize.ShloMosaic.Pipeline (Dat)

namespace Cert.MultiBwdIdeal.Value

open Cert.MultiBwdIdeal Cert.MultiBwdIdeal.Gen Cert.MultiRefIdeal.Read

variable (m : (ℓ : Loc nD τ sig) → Buf (Elt Ideal) ℓ) (c : Dev nD) (t : Fin cfg0.N)

/-- Each point reads the whole of the left factors and its half of the columns of the right ones. -/
theorem idx : ∀ t : Fin cfg0.N, (win0_0.index t = ![0, 0] ∧ win0_2.index t = ![0, 0] ∧ win0_4.index t = ![0, 0])
    ∧ (win0_1.index t = ![0, t.val] ∧ win0_3.index t = ![0, t.val] ∧ win0_5.index t = ![0, t.val])
    ∧ (win0_6.index t = ![0, t.val] ∧ win0_7.index t = ![0, t.val] ∧ win0_8.index t = ![0, t.val]) :=
  (by decide +kernel : ∀ t : Fin grid0.N, _)

/-- A column of the half, as one of the whole array. -/
def col (k : Fin 512) : Fin 1024 := ⟨t.val * 512 + k.val, by have := t.isLt; have : cfg0.N = 2 := N_0; omega⟩

variable (s : Fin 2048) (r : Fin 1024) (k : Fin 512)

theorem read_a : iblk m c 0 t (ix2 s r) = (m ((c : Thread nD τ).loc main_arg0)) (ix3 0 s r) := by
  blk_simp [iblk, idx t]; entry_read; pointwise; blk_ext [idx t]
theorem read_b : iblk m c 2 t (ix2 s r) = (m ((c : Thread nD τ).loc main_arg1)) (ix3 0 s r) := by
  blk_simp [iblk, idx t]; entry_read; pointwise; blk_ext [idx t]
theorem read_merged : iblk m c 4 t (ix2 s r) = (m ((c : Thread nD τ).loc main_arg2)) (ix3 0 s r) := by
  blk_simp [iblk, idx t]; entry_read; pointwise; blk_ext [idx t]

theorem read_da : iblk m c 1 t (ix2 s k) = (m ((c : Thread nD τ).loc main_arg6)) (ix3 0 s (col t k)) := by
  blk_simp [iblk, idx t]; entry_read; pointwise; blk_ext [idx t, col]
theorem read_db : iblk m c 3 t (ix2 s k) = (m ((c : Thread nD τ).loc main_arg7)) (ix3 0 s (col t k)) := by
  blk_simp [iblk, idx t]; entry_read; pointwise; blk_ext [idx t, col]
theorem read_dmix : iblk m c 5 t (ix2 s k) = (m ((c : Thread nD τ).loc main_arg8)) (ix3 0 s (col t k)) := by
  blk_simp [iblk, idx t]; entry_read; pointwise; blk_ext [idx t, col]

theorem place6 : ((cfg0.win 6).blk t).view.emb (ix2 r k) = ix2 r (col t k) := by blk_ext [idx t, col]
theorem place7 : ((cfg0.win 7).blk t).view.emb (ix2 r k) = ix2 r (col t k) := by blk_ext [idx t, col]
theorem place8 : ((cfg0.win 8).blk t).view.emb (ix2 r k) = ix2 r (col t k) := by blk_ext [idx t, col]

theorem load0 {e : EltTy} (X : Vec Ideal S2048x1024 e) : View.ld X r0_0 = X := by
  refine funext fun y => congrArg X (funext fun a => Fin.ext ?_)
  match a with
  | ⟨0, _⟩ => show 0 + 1 * (y 0).val = (y 0).val; omega
  | ⟨1, _⟩ => show 0 + 1 * (y 1).val = (y 1).val; omega

theorem load1 {e : EltTy} (X : Vec Ideal S2048x512 e) : View.ld X r0_1 = X := by
  refine funext fun y => congrArg X (funext fun a => Fin.ext ?_)
  match a with
  | ⟨0, _⟩ => show 0 + 1 * (y 0).val = (y 0).val; omega
  | ⟨1, _⟩ => show 0 + 1 * (y 1).val = (y 1).val; omega

/-- The reference's gradients, over this program's argument arrays. -/
abbrev refA : FVec Ideal Cert.MultiRefIdeal.S1024x1024 .bf16 := val_main_v18 (F := Ideal) (m ((c : Thread nD τ).loc main_arg0)) (m ((c : Thread nD τ).loc main_arg6))
abbrev refB : FVec Ideal Cert.MultiRefIdeal.S1024x1024 .bf16 := val_main_v19 (F := Ideal) (m ((c : Thread nD τ).loc main_arg1)) (m ((c : Thread nD τ).loc main_arg7))
abbrev refOut : FVec Ideal Cert.MultiRefIdeal.S1024x1024 .bf16 := val_main_v20 (F := Ideal) (m ((c : Thread nD τ).loc main_arg2)) (m ((c : Thread nD τ).loc main_arg8))

/-- The stores of a point, each one product. -/
theorem store {X : Vec Ideal S1024x512 .bf16} (y) : View.canon [⟨r0_2, X⟩] y = X y := by
  idx_vars y
  canon_tiles x h
  idx_vars x
  obtain rfl := (Fin.ext h0 : y0 = _)
  obtain rfl := (Fin.ext h1 : y1 = _)
  rfl

theorem a_final : (dats m 0 c).arrAt 6 (cfgs 0).N = refA m c := by
  refine (dats m 0 c).arrAt_eq_of_covers 6 _ (by decide +kernel) fun t hf y => ?_
  blk_simp
  rw [after0_6]
  idx_vars y
  rw [place6]
  refine (store _).trans ?_
  simp only [load0, load1]
  pointwise [k0_pay1, refA, val_main_v3, val_main_v9, val_main_v16, val_main_v17, val_main_v18]
  simp only [read_a, read_da]
  exact Fin.sum_fin_congr fun s => mul_comm _ _

theorem b_final : (dats m 0 c).arrAt 7 (cfgs 0).N = refB m c := by
  refine (dats m 0 c).arrAt_eq_of_covers 7 _ (by decide +kernel) fun t hf y => ?_
  blk_simp
  rw [after0_7]
  idx_vars y
  rw [place7]
  refine (store _).trans ?_
  simp only [load0, load1]
  pointwise [k0_pay2, refB, val_main_v5, val_main_v10, val_main_v14, val_main_v15, val_main_v19]
  simp only [read_b, read_db]
  exact Fin.sum_fin_congr fun s => mul_comm _ _

theorem out_final : (dats m 0 c).arrAt 8 (cfgs 0).N = refOut m c := by
  refine (dats m 0 c).arrAt_eq_of_covers 8 _ (by decide +kernel) fun t hf y => ?_
  blk_simp
  rw [after0_8]
  idx_vars y
  rw [place8]
  refine (store _).trans ?_
  simp only [load0, load1]
  pointwise [k0_pay3, refOut, val_main_v7, val_main_v11, val_main_v12, val_main_v13, val_main_v20]
  simp only [read_merged, read_dmix]
  exact Fin.sum_fin_congr fun s => mul_comm _ _

end Cert.MultiBwdIdeal.Value

end
-- ==== Proof.Multi.Claims.lean ====
module

public import proofs.«01_k».proof.Defs
public import proofs.«01_k».proof.Proof.Gen.MultiBwd.Frame
public import proofs.«01_k».proof.Proof.Gen.MultiRefIdeal.Run
public import proofs.«01_k».proof.Proof.Multi.Products

/-! The claims about the gradients of the mixers' branches and of the output projection. -/

@[expose] public section

set_option maxRecDepth 16384

noncomputable section

namespace Cert.Proof

open Idealize.ShloMosaic Idealize.SL.Sem

open Cert

/-- The kernel runs to its end and leaves its arguments. -/
theorem multi_frame : Cert.quiescent_MultiBwd := fun m ρ _ => Cert.MultiBwd.Gen.frame m ρ

/-- So does the idealized kernel. -/
theorem multi_frame_ideal : Cert.quiescent_MultiBwdIdeal := fun m ρ _ => Cert.MultiBwdIdeal.Gen.frame m ρ

/-- The reference runs to its end and leaves its arguments. -/
theorem multi_frame_ref : Cert.quiescent_MultiRefIdeal := by
  intro m ρ _
  exact (θ_run _ _ _).mono (fun r h => ⟨fun c => (h c).2.2.2, sem_eq_zero_of_no_sems (by decide) r.2⟩)
    (Cert.MultiRefIdeal.Value.run m ρ)

set_option maxHeartbeats 1600000 in
/-- The three products agree with the derivatives of the reference's, from every memory. -/
theorem multi_value : Cert.algebraic_MultiBwdIdeal_MultiRefIdeal := by
  pair_intro
  · run_from Cert.MultiBwdIdeal.Value.run_blocks m g
  · run_from Cert.MultiRefIdeal.Value.run m' g'
    all_goals obtain ⟨h0, h1, h2, h3, h4, h5, h6, h7, h8⟩ := hagree c
    · exact (MultiRefIdeal.Read.val_main_v18_eq ..).trans (MultiBwdIdeal.Value.a_final m c).symm
    · exact (MultiRefIdeal.Read.val_main_v19_eq ..).trans (MultiBwdIdeal.Value.b_final m c).symm
    · exact (MultiRefIdeal.Read.val_main_v20_eq ..).trans (MultiBwdIdeal.Value.out_final m c).symm

end Cert.Proof

end
-- ==== Proof.Cols.Product.lean ====
module

public import proofs.«01_k».proof.Proof.Gen.ColsBwdIdeal.Value
public import proofs.«01_k».proof.Proof.Gen.ColsRefIdeal.Read
public import Idealize.ShloMosaic.Lib.Pipeline.ValueKit
public import Idealize.ShloMosaic.Lib.Pipeline.ReadBack

/-! The gradient of the input projection's matrix, transposed: a product over the tokens, whose rows come from three arrays. -/

@[expose] public section

set_option maxRecDepth 16384

noncomputable section

open Idealize.ShloMosaic Idealize.ShloMosaic.TcCoe Idealize.SL.Sem
open Idealize.ShloMosaic.Pipeline (Dat)

namespace Cert.ColsBwdIdeal.Value

open Cert.ColsBwdIdeal Cert.ColsBwdIdeal.Gen Cert.ColsRefIdeal.Read

variable (m : (ℓ : Loc nD τ sig) → Buf (Elt Ideal) ℓ) (c : Dev nD) (t : Fin cfg0.N)

/-- The points walk the blocks of the first array's columns, then the second's, then the third's. -/
theorem idx : ∀ t : Fin cfg0.N, win0_0.index t = ![0, min t.val 28] ∧ win0_1.index t = ![0, min (t.val - 29) 3] ∧ win0_2.index t = ![0, min (t.val - 33) 3]
    ∧ win0_3.index t = ![0, 0] ∧ win0_4.index t = ![t.val, 0] :=
  (by decide +kernel : ∀ t : Fin grid0.N, _)

/-- A row of the block, as one of the whole array. -/
def row (r : Fin 256) : Fin 9472 := ⟨t.val * 256 + r.val, by have := t.isLt; have : cfg0.N = 37 := N_0; omega⟩

variable (s : Fin 2048) (r : Fin 256) (k : Fin 1024)

theorem read_mixers (h : t.val < 29) : iblk m c 0 t (ix2 s r) = (m ((c : Thread nD τ).loc main_arg2)) (ix3 0 s ⟨t.val * 256 + r.val, by omega⟩) := by
  have e : min t.val 28 = t.val := by omega
  blk_simp [iblk, idx t]; entry_read; pointwise; blk_ext [idx t, e]

theorem read_a (h : 29 ≤ t.val) (h' : t.val < 33) : iblk m c 1 t (ix2 s r) = (m ((c : Thread nD τ).loc main_arg3)) (ix3 0 s ⟨(t.val - 29) * 256 + r.val, by omega⟩) := by
  have e : min (t.val - 29) 3 = t.val - 29 := by omega
  blk_simp [iblk, idx t]; entry_read; pointwise; blk_ext [idx t, e]

theorem read_b (h : 33 ≤ t.val) : iblk m c 2 t (ix2 s r)
    = (m ((c : Thread nD τ).loc main_arg4)) (ix3 0 s ⟨(t.val - 33) * 256 + r.val, by have := t.isLt; have : cfg0.N = 37 := N_0; omega⟩) := by
  have e : min (t.val - 33) 3 = t.val - 33 := by have := t.isLt; have : cfg0.N = 37 := N_0; omega
  blk_simp [iblk, idx t]; entry_read; pointwise; blk_ext [idx t, e]

theorem read_xn : iblk m c 3 t (ix2 s k) = (m ((c : Thread nD τ).loc main_arg0)) (ix3 0 s k) := by
  blk_simp [iblk, idx t]; entry_read; pointwise; blk_ext [idx t]

theorem place4 : ((cfg0.win 4).blk t).view.emb (ix2 r k) = ix2 (row t r) k := by
  blk_ext [idx t, row]

/-- The three arrays side by side. -/
abbrev joined : FVec Ideal Cert.ColsRefIdeal.S2048x9472 .f32 :=
  val_main_v6 (F := Ideal) (m ((c : Thread nD τ).loc main_arg2)) (m ((c : Thread nD τ).loc main_arg3)) (m ((c : Thread nD τ).loc main_arg4))

theorem joined_at (x : Fin 9472) : joined m c (ix2 s x) = if h : x.val < 7424 then (m ((c : Thread nD τ).loc main_arg2)) (ix3 0 s ⟨x.val, h⟩)
    else if h : x.val < 8448 then (m ((c : Thread nD τ).loc main_arg3)) (ix3 0 s ⟨x.val - 7424, by omega⟩)
    else (m ((c : Thread nD τ).loc main_arg4)) (ix3 0 s ⟨x.val - 8448, by omega⟩) := by
  pointwise [joined, val_main_v6, val_main_v3, val_main_v4, val_main_v5]
  by_cases h : x.val < 7424
  · rw [dif_pos h, dif_pos h]
  · rw [dif_neg h, dif_neg h]
    by_cases h' : x.val < 8448
    · rw [dif_pos (by omega), dif_pos h']
    · rw [dif_neg (by omega), dif_neg h']
      exact congrArg _ (congrArg (ix3 0 s) (Fin.ext (by simp only []; omega)))

/-- The reference's gradient, over this program's argument arrays. -/
abbrev refW : FVec Ideal Cert.ColsRefIdeal.S9472x1024 .bf16 :=
  val_main_v10 (F := Ideal) (m ((c : Thread nD τ).loc main_arg0)) (m ((c : Thread nD τ).loc main_arg2)) (m ((c : Thread nD τ).loc main_arg3)) (m ((c : Thread nD τ).loc main_arg4))

theorem refW_at (x : Fin 9472) : refW m c (ix2 x k) = ∑ s : Fin 2048, joined m c (ix2 s x) * (m ((c : Thread nD τ).loc main_arg0)) (ix3 0 s k) := by
  pointwise [refW, val_main_v10, val_main_v9, val_main_v8, val_main_v7, val_main_v1]

/-- A block's product is the reference's, where the block's columns are those of the three arrays side by side. -/
theorem product (x : Vec Ideal S2048x256 .bf16) (hx : ∀ s r, x (ix2 s r) = joined m c (ix2 s (row t r))) :
    k0_pay1 x (iblk m c 3 t) (ix2 r k) = refW m c (ix2 (row t r) k) := by
  rw [refW_at]
  pointwise [k0_pay1]
  simp only [hx, read_xn]

/-- What a point stores is the reference's gradient, at those rows of the array. -/
theorem w_point (y) : outsAt0 m c t.val t.isLt y = refW m c (((cfg0.win 4).blk t).view.emb y) := by
  idx_vars y
  rw [place4]
  have hN : t.val < 37 := lt_of_lt_of_eq t.isLt N_0
  by_cases h0 : t.val < 29
  · rw [outsAt0_A m c t h0 (by omega) (by omega)]
    frame_out
    refine product m c t y0 y1 _ fun s r => (read_mixers m c t s r h0).trans ?_
    rw [joined_at, dif_pos (by simp only [row]; omega)]
    rfl
  · by_cases h2 : 33 ≤ t.val
    · rw [outsAt0_C m c t h0 (by omega) h2]
      frame_out
      refine product m c t y0 y1 _ fun s r => (read_b m c t s r h2).trans ?_
      rw [joined_at, dif_neg (by simp only [row]; omega), dif_neg (by simp only [row]; omega)]
      exact congrArg _ (congrArg (ix3 0 s) (Fin.ext (by simp only [row]; omega)))
    · rw [outsAt0_B m c t h0 (by omega) h2]
      frame_out
      refine product m c t y0 y1 _ fun s r => (read_a m c t s r (by omega) (by omega)).trans ?_
      rw [joined_at, dif_neg (by simp only [row]; omega), dif_pos (by simp only [row]; omega)]
      exact congrArg _ (congrArg (ix3 0 s) (Fin.ext (by simp only [row]; omega)))

/-- The gradient after the run is the reference's. -/
theorem w_final : (dats m 0 c).arrAt 4 (cfgs 0).N = refW m c := by
  refine (dats m 0 c).arrAt_eq_of_covers 4 _ (by decide +kernel) fun t hf y => ?_
  blk_simp
  rw [after0_4]
  exact w_point m c t y

end Cert.ColsBwdIdeal.Value

end
-- ==== Proof.Cols.Claims.lean ====
module

public import proofs.«01_k».proof.Defs
public import proofs.«01_k».proof.Proof.Gen.ColsBwd.Frame
public import proofs.«01_k».proof.Proof.Gen.ColsRefIdeal.Run
public import proofs.«01_k».proof.Proof.Cols.Product

/-! The claims about the gradient of the input projection's matrix. -/

@[expose] public section

set_option maxRecDepth 16384

noncomputable section

namespace Cert.Proof

open Idealize.ShloMosaic Idealize.SL.Sem

open Cert

/-- The kernel runs to its end and leaves its arguments. -/
theorem cols_frame : Cert.quiescent_ColsBwd := fun m ρ _ => Cert.ColsBwd.Gen.frame m ρ

/-- So does the idealized kernel. -/
theorem cols_frame_ideal : Cert.quiescent_ColsBwdIdeal := fun m ρ _ => Cert.ColsBwdIdeal.Gen.frame m ρ

/-- The reference runs to its end and leaves its arguments. -/
theorem cols_frame_ref : Cert.quiescent_ColsRefIdeal := by
  intro m ρ _
  exact (θ_run _ _ _).mono (fun r h => ⟨fun c => (h c).2, sem_eq_zero_of_no_sems (by decide) r.2⟩)
    (Cert.ColsRefIdeal.Value.run m ρ)

set_option maxHeartbeats 1600000 in
/-- The product, block by block, agrees with the derivative of the reference's product, from every memory. -/
theorem cols_value : Cert.algebraic_ColsBwdIdeal_ColsRefIdeal := by
  pair_intro
  · run_from Cert.ColsBwdIdeal.Value.run_blocks m g
  · run_from Cert.ColsRefIdeal.Value.run m' g'
    all_goals obtain ⟨h0, h1, h2, h3, h4⟩ := hagree c
    · rw [ColsRefIdeal.Read.val_main_v10_eq, h2, h3, h4]; exact (ColsBwdIdeal.Value.w_final m c).symm

end Cert.Proof

end
-- ==== Proof.Adam.Table.lean ====
module

public import proofs.«01_k».proof.Proof.Gen.AdamBwdIdeal.Frame
public import Idealize.ShloMosaic.Lib.Pipeline.ValueKit
public import Idealize.ShloMosaic.Lib.Pipeline.ReadBack

/-! The optimiser's table holds one number, zero: the gradient's only block is the first. -/

@[expose] public section

set_option maxRecDepth 16384

noncomputable section

open Idealize.ShloMosaic Idealize.ShloMosaic.TcCoe Idealize.SL.Sem

namespace Cert.AdamBwdIdeal.Value

open Cert.AdamBwdIdeal Cert.AdamBwdIdeal.Gen

variable {F : FTy → Type} [FloatOps F] (m : (ℓ : Loc nD τ sig) → Buf (Elt F) ℓ)

/-- The table holds zero. -/
theorem table_zero : (tbl m 0 : Vec F S1 .i32) = fun _ => 0#32 := by
  show (V m 0 main_v0 : Vec F S1 .i32) = _
  entry_read
  rfl

/-- At that table every point takes the first block of the gradient's first axis, and its own block of the second. -/
theorem start (i : grid0.Coords) : cc0_transform_0 Facts₀.inb_S1_S1_0 Facts₀.numel1_S1 (tbl m) i = ![0, (i 0).val, 0] := by
  have h : (tbl m).at 0 (Rect.unit (s := S1) ![0] S1.size Facts₀.inb_S1_S1_0) Facts₀.numel1_S1 = 0#32 := congrFun (table_zero m) _
  have hi : (i 0).val < 2 := (i 0).isLt
  funext a
  simp only [cc0_transform_0, h]
  match a with
  | ⟨0, _⟩ => rfl
  | ⟨1, _⟩ => show (BitVec.ofNat 32 (i 0).val).toNat = (i 0).val; rw [BitVec.toNat_ofNat]; omega
  | ⟨2, _⟩ => rfl

/-- So every block of the gradient lies inside its array. -/
theorem ok : Ok m := by
  intro i
  have hi : (i 0).val < 2 := (i 0).isLt
  refine ⟨fun a => ?_, Or.inl rfl⟩
  rw [start]
  match a with
  | ⟨0, _⟩ => show (0 + 1) * 1 ≤ 1; omega
  | ⟨1, _⟩ => show ((i 0).val + 1) * 592 ≤ 1184; omega
  | ⟨2, _⟩ => show (0 + 1) * 1024 ≤ 1024; omega

end Cert.AdamBwdIdeal.Value

end
-- ==== Proof.Adam.Step.lean ====
module

public import proofs.«01_k».proof.Proof.Adam.Table
public import proofs.«01_k».proof.Proof.Gen.AdamRefIdeal.Read

/-! One step of the optimiser on the input projection's matrix, tile by tile. -/

@[expose] public section

set_option maxRecDepth 16384

noncomputable section

open Idealize.ShloMosaic Idealize.ShloMosaic.TcCoe Idealize.SL.Sem
open Idealize.ShloMosaic.Pipeline (Dat)

namespace Cert.AdamBwdIdeal.Value

open Cert.AdamBwdIdeal Cert.AdamBwdIdeal.Gen Cert.AdamRefIdeal.Read

variable (m : (ℓ : Loc nD τ sig) → Buf (Elt Ideal) ℓ) (c : Dev nD) (t : Fin (cfgM m (ok m)).N)

/-- A row of the tile, as a row of the whole array. -/
def row (r : Fin 592) : Fin 1184 := ⟨t.val * 592 + r.val, by have := t.isLt; have : (cfgM m (ok m)).N = 2 := N_0; omega⟩

/-- The windows but the gradient's two: at every point the next rows, all columns. -/
theorem idx : cc0_transform_2 (grid0.coords t) = ![t.val, 0] ∧ cc0_transform_3 (grid0.coords t) = ![t.val, 0]
    ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0]
    ∧ cc0_transform_8 (grid0.coords t) = ![t.val, 0] ∧ cc0_transform_1 (grid0.coords t) = ![0, t.val, 0] ∧ (grid0.coords t 0).val = t.val :=
  (by decide +kernel : ∀ t : Fin grid0.N, cc0_transform_2 (grid0.coords t) = ![t.val, 0] ∧ cc0_transform_3 (grid0.coords t) = ![t.val, 0]
    ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0]
    ∧ cc0_transform_8 (grid0.coords t) = ![t.val, 0] ∧ cc0_transform_1 (grid0.coords t) = ![0, t.val, 0] ∧ (grid0.coords t 0).val = t.val) t

/-- An entry of a tile at block `f` of a matrix is the entry at the tile's row and its own column. -/
theorem spot {f : Fin 2 → ℕ} (h : f = ![t.val, 0]) (r : Fin 592) (k : Fin 1024) {i : S1184x1024.Idx}
    (h0 : (i 0).val = f 0 * 592 + 1 * r.val) (h1 : (i 1).val = f 1 * 1024 + 1 * k.val) : i = ix2 (row m t r) k := by
  subst h
  funext a
  refine Fin.ext ?_
  match a with
  | ⟨0, _⟩ => exact h0.trans (by simp [row])
  | ⟨1, _⟩ => exact h1.trans (by simp)

theorem place5 (r : Fin 592) (k : Fin 1024) : (((cfgM m (ok m)).win 5).blk t).view.emb (ix2 r k) = ix2 (row m t r) k :=
  spot m t (idx m t).2.2.2.1 r k rfl rfl

theorem place6 (r : Fin 592) (k : Fin 1024) : (((cfgM m (ok m)).win 6).blk t).view.emb (ix2 r k) = ix2 (row m t r) k :=
  spot m t (idx m t).2.2.2.2.1 r k rfl rfl

theorem place7 (r : Fin 592) (k : Fin 1024) : (((cfgM m (ok m)).win 7).blk t).view.emb (ix2 r k) = ix2 (row m t r) k :=
  spot m t (idx m t).2.2.2.2.2.1 r k rfl rfl

theorem place8 (r : Fin 592) (k : Fin 1024) : (((cfgM m (ok m)).win 8).blk t).view.emb (ix2 r k) = ix2 (row m t r) k :=
  spot m t (idx m t).2.2.2.2.2.2.1 r k rfl rfl

/-- The blocks that a point reads. -/
def ownB : Vec Ideal S1x592x1024 .f32 := iblk m (ok m) c 0 t
def receivedB : Vec Ideal S3x592x1024 .bf16 := iblk m (ok m) c 1 t
def wB : Vec Ideal S592x1024 .f32 := iblk m (ok m) c 2 t
def mB : Vec Ideal S592x1024 .f32 := iblk m (ok m) c 3 t
def vB : Vec Ideal S592x1024 .f32 := iblk m (ok m) c 4 t

theorem read_w (r : Fin 592) (k : Fin 1024) : wB m c t (ix2 r k) = (m ((c : Thread nD τ).loc main_arg2)) (ix3 0 k (row m t r)) :=
  (congrArg (V m c main_v4) (spot m t (idx m t).1 r k rfl rfl : (((cfgM m (ok m)).win 2).blk t).view.emb (ix2 r k) = _)).trans
    (by entry_read; pointwise)

theorem read_m (r : Fin 592) (k : Fin 1024) : mB m c t (ix2 r k) = (m ((c : Thread nD τ).loc main_arg3)) (ix3 0 k (row m t r)) :=
  (congrArg (V m c main_v6) (spot m t (idx m t).2.1 r k rfl rfl : (((cfgM m (ok m)).win 3).blk t).view.emb (ix2 r k) = _)).trans
    (by entry_read; pointwise)

theorem read_v (r : Fin 592) (k : Fin 1024) : vB m c t (ix2 r k) = (m ((c : Thread nD τ).loc main_arg4)) (ix3 0 k (row m t r)) :=
  (congrArg (V m c main_v8) (spot m t (idx m t).2.2.1 r k rfl rfl : (((cfgM m (ok m)).win 4).blk t).view.emb (ix2 r k) = _)).trans
    (by entry_read; pointwise)

/-- An entry of a tile of a stack of matrices, at block `f`. -/
theorem spot3 {n : ℕ} {f : Fin 3 → ℕ} (h : f = ![0, t.val, 0]) (j : Fin n) (r : Fin 592) (k : Fin 1024) {i : (⟨3, ![n, 1184, 1024]⟩ : Shape).Idx}
    (h0 : (i 0).val = f 0 * n + 1 * j.val) (h1 : (i 1).val = f 1 * 592 + 1 * r.val) (h2 : (i 2).val = f 2 * 1024 + 1 * k.val) : i = ix3 j (row m t r) k := by
  subst h
  funext a
  refine Fin.ext ?_
  match a with
  | ⟨0, _⟩ => exact h0.trans (by simp)
  | ⟨1, _⟩ => exact h1.trans (by simp [row])
  | ⟨2, _⟩ => exact h2.trans (by simp)

theorem read_own (r : Fin 592) (k : Fin 1024) : ownB m c t (ix3 0 r k) = (m ((c : Thread nD τ).loc main_arg0)) (ix2 (row m t r) k) :=
  (congrArg (V m c main_v1) (spot3 m t ((start m (grid0.coords t)).trans (by rw [(idx m t).2.2.2.2.2.2.2.2])) 0 r k rfl rfl rfl :
    (((cfgM m (ok m)).win 0).blk t).view.emb (ix3 0 r k) = _)).trans (by entry_read; pointwise)

theorem read_received (j : Fin 3) (r : Fin 592) (k : Fin 1024) :
    receivedB m c t (ix3 j r k) = (m ((c : Thread nD τ).loc main_arg1)) (ix3 j (row m t r) k) :=
  (congrArg (V m c main_v2) (spot3 m t (idx m t).2.2.2.2.2.2.2.1 j r k rfl rfl rfl :
    (((cfgM m (ok m)).win 1).blk t).view.emb (ix3 j r k) = _)).trans (by entry_read; pointwise)

/-- Every entry of a matrix lies in one of the two tiles. -/
theorem tiled (i : S1184x1024.Idx) : ∃ (t : Fin (cfgM m (ok m)).N) (r : Fin 592) (k : Fin 1024), i = ix2 (row m t r) k := by
  have h0 : (i 0).val < 1184 := (i 0).isLt
  refine ⟨⟨(i 0).val / 592, by show _ < grid0.N; rw [N_0]; omega⟩, ⟨(i 0).val % 592, Nat.mod_lt _ (by omega)⟩, i 1, funext fun a => Fin.ext ?_⟩
  match a with
  | ⟨0, _⟩ => exact (Nat.div_add_mod' _ _).symm
  | ⟨1, _⟩ => rfl

/-- The optimiser's three results at one entry, as both programs compute them. -/
def newM (g m : EReal) : EReal := Ideal.ofBits FTy.f32 1063675494#32 * m + Ideal.ofBits FTy.f32 1036831949#32 * g
def newV (g v : EReal) : EReal := Ideal.ofBits FTy.f32 1065336439#32 * v + Ideal.ofBits FTy.f32 981668463#32 * (g * g)
def delta (w g m v : EReal) : EReal :=
  Ideal.ofBits FTy.f32 3129152111#32 * (Ideal.div (Ideal.div (newM g m) (Ideal.ofBits FTy.f32 1059503362#32))
    (Ideal.sqrt (Ideal.div (newV g v) (Ideal.ofBits FTy.f32 1008933580#32)) + Ideal.ofBits FTy.f32 841731191#32)
      + Ideal.ofBits FTy.f32 1008981770#32 * w)

section
variable {i : grid0.Coords} {a2 : Memref sig .tc .vmem S1x592x1024 .f32} {h2 : a2.IsWhole} {a3 : Memref sig .tc .vmem S3x592x1024 .bf16} {h3 : a3.IsWhole}
  {a4 a5 a6 a7 a8 a9 a10 : Memref sig .tc .vmem S592x1024 .f32} {h4 : a4.IsWhole} {h5 : a5.IsWhole} {h6 : a6.IsWhole} {h7 : a7.IsWhole} {h8 : a8.IsWhole}
  {h9 : a9.IsWhole} {h10 : a10.IsWhole} (x0 : Vec Ideal S1x592x1024 .f32) (x1 : Vec Ideal S3x592x1024 .bf16) (x2 x3 x4 : Vec Ideal S592x1024 .f32)
  (z : TbBuf0 (F := Ideal) c tbM0_0) (r : Fin 592) (k : Fin 1024)

/-- The gradient: the four chips' shares, added in their order. -/
def total : EReal := x0 (ix3 0 r k) + x1 (ix3 0 r k) + x1 (ix3 1 r k) + x1 (ix3 2 r k)

/-- What one run of the body leaves in its four results, over any blocks. -/
theorem body : out0_A_5 c i a2 h2 a3 h3 a4 h4 a5 h5 a6 h6 a7 h7 a8 h8 a9 h9 a10 h10 x0 x1 x2 x3 x4 z (ix2 r k) = total x0 x1 r k
    ∧ out0_A_6 c i a2 h2 a3 h3 a4 h4 a5 h5 a6 h6 a7 h7 a8 h8 a9 h9 a10 h10 x0 x1 x2 x3 x4 z (ix2 r k)
      = delta (x2 (ix2 r k)) (total x0 x1 r k) (x3 (ix2 r k)) (x4 (ix2 r k))
    ∧ out0_A_7 c i a2 h2 a3 h3 a4 h4 a5 h5 a6 h6 a7 h7 a8 h8 a9 h9 a10 h10 x0 x1 x2 x3 x4 z (ix2 r k) = newM (total x0 x1 r k) (x3 (ix2 r k))
    ∧ out0_A_8 c i a2 h2 a3 h3 a4 h4 a5 h5 a6 h6 a7 h7 a8 h8 a9 h9 a10 h10 x0 x1 x2 x3 x4 z (ix2 r k) = newV (total x0 x1 r k) (x4 (ix2 r k)) := by
  unfold newM newV delta newM newV total
  refine ⟨?_, ?_, ?_, ?_⟩
  all_goals
    frame_out
    pointwise [k0_pay1, k0_pay2, k0_pay3, k0_pay4, k0_pay5, k0_pay6, k0_pay7]
end

/-- The arguments, as arrays of extended reals. -/
abbrev own : FVec Ideal S1184x1024 .f32 := m ((c : Thread nD τ).loc main_arg0)
abbrev received : FVec Ideal S3x1184x1024 .f32 := m ((c : Thread nD τ).loc main_arg1)
abbrev weight : FVec Ideal S1x1024x1184 .f32 := m ((c : Thread nD τ).loc main_arg2)
abbrev moment1 : FVec Ideal S1x1024x1184 .f32 := m ((c : Thread nD τ).loc main_arg3)
abbrev moment2 : FVec Ideal S1x1024x1184 .f32 := m ((c : Thread nD τ).loc main_arg4)

/-- The gradient at an entry of the matrix, from the arguments. -/
def sum4 (r : Fin 1184) (k : Fin 1024) : EReal :=
  own m c (ix2 r k) + received m c (ix3 0 r k) + received m c (ix3 1 r k) + received m c (ix3 2 r k)

theorem total_eq (r : Fin 592) (k : Fin 1024) : total (ownB m c t) (receivedB m c t) r k = sum4 m c (row m t r) k := by
  unfold total sum4
  rw [read_own, read_received, read_received, read_received]

/-- What a point stores, over the arguments. -/
theorem outs : ∃ f5 f6 f7 f8 : Vec Ideal S592x1024 .f32, outsAt0 m (ok m) c t = (f5, f6, f7, f8) ∧ ∀ r k,
    f5 (ix2 r k) = sum4 m c (row m t r) k
    ∧ f6 (ix2 r k) = delta (weight m c (ix3 0 k (row m t r))) (sum4 m c (row m t r) k) (moment1 m c (ix3 0 k (row m t r))) (moment2 m c (ix3 0 k (row m t r)))
    ∧ f7 (ix2 r k) = newM (sum4 m c (row m t r) k) (moment1 m c (ix3 0 k (row m t r)))
    ∧ f8 (ix2 r k) = newV (sum4 m c (row m t r) k) (moment2 m c (ix3 0 k (row m t r))) := by
  refine ⟨_, _, _, _, rfl, fun r k => ?_⟩
  have h := fun i a2 h2 a3 h3 a4 h4 a5 h5 a6 h6 a7 h7 a8 h8 a9 h9 a10 h10 => body c (i := i) (a2 := a2) (h2 := h2) (a3 := a3) (h3 := h3) (a4 := a4) (h4 := h4)
    (a5 := a5) (h5 := h5) (a6 := a6) (h6 := h6) (a7 := a7) (h7 := h7) (a8 := a8) (h8 := h8) (a9 := a9) (h9 := h9) (a10 := a10) (h10 := h10)
    (ownB m c t) (receivedB m c t) (wB m c t) (mB m c t) (vB m c t) (tbl m 0) r k
  simp only [total_eq, read_w, read_m, read_v] at h
  exact h _ _ _ _ _ _ _ _ _ _ _ _ _ _ _ _ _ _ _

/-- The reference's results at an entry, over the arguments. -/
theorem ref_point (r : Fin 1184) (k : Fin 1024) :
    val_main_v8 (F := Ideal) (own m c) (received m c) (ix2 r k) = sum4 m c r k
    ∧ val_main_v37 (F := Ideal) (own m c) (received m c) (weight m c) (moment1 m c) (moment2 m c) (ix2 r k)
      = delta (weight m c (ix3 0 k r)) (sum4 m c r k) (moment1 m c (ix3 0 k r)) (moment2 m c (ix3 0 k r))
    ∧ val_main_v38 (F := Ideal) (own m c) (received m c) (moment1 m c) (ix2 r k) = newM (sum4 m c r k) (moment1 m c (ix3 0 k r))
    ∧ val_main_v39 (F := Ideal) (own m c) (received m c) (moment2 m c) (ix2 r k) = newV (sum4 m c r k) (moment2 m c (ix3 0 k r)) := by
  unfold newM newV delta newM newV sum4
  generalize own m c = X0; generalize received m c = X1; generalize weight m c = X2; generalize moment1 m c = X3; generalize moment2 m c = X4
  refine ⟨?_, ?_, ?_, ?_⟩
  all_goals pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_cst, val_main_cst_0, val_main_cst_1, val_main_cst_2, val_main_cst_3, val_main_cst_4, val_main_cst_5, val_main_cst_6, val_main_cst_7]

end Cert.AdamBwdIdeal.Value

end
-- ==== Proof.Adam.Final.lean ====
module

public import proofs.«01_k».proof.Proof.Adam.Step

/-! The optimiser's four results as whole arrays, and the run that ends with them. -/

@[expose] public section

set_option maxRecDepth 16384

noncomputable section

open Idealize.ShloMosaic Idealize.ShloMosaic.TcCoe Idealize.SL.Sem
open Idealize.ShloMosaic.Pipeline (Dat)

namespace Cert.AdamBwdIdeal.Value

open Cert.AdamBwdIdeal Cert.AdamBwdIdeal.Gen Cert.AdamRefIdeal.Read

variable (m : (ℓ : Loc nD τ sig) → Buf (Elt Ideal) ℓ) (c : Dev nD)

/-- The summed gradient. -/
theorem grad_final : (dats m (ok m) 0 c).arrAt 5 (cfgM m (ok m)).N = val_main_v8 (F := Ideal) (own m c) (received m c) :=
  (dats m (ok m) 0 c).arrAt_eq_of_emb 5 _ (fun t hf (y : S592x1024.Idx) => by
    rw [after0_5]
    obtain ⟨f5, f6, f7, f8, h, hp⟩ := outs m c t
    idx_vars y
    exact (congrArg (fun o => o.1 (ix2 y0 y1)) h).trans ((hp y0 y1).1.trans
      ((ref_point m c _ y1).1.symm.trans (congrArg _ (place5 m t y0 y1).symm))))
    fun i => by
      obtain ⟨t, r, k, rfl⟩ := tiled m i
      exact ⟨t, flush0_5 _ t, place5 m t r k ▸ View.emb_mem_set _ _⟩

/-- The step of the weights. -/
theorem delta_final : (dats m (ok m) 0 c).arrAt 6 (cfgM m (ok m)).N
    = val_main_v37 (F := Ideal) (own m c) (received m c) (weight m c) (moment1 m c) (moment2 m c) :=
  (dats m (ok m) 0 c).arrAt_eq_of_emb 6 _ (fun t hf (y : S592x1024.Idx) => by
    rw [after0_6]
    obtain ⟨f5, f6, f7, f8, h, hp⟩ := outs m c t
    idx_vars y
    exact (congrArg (fun o => o.2.1 (ix2 y0 y1)) h).trans ((hp y0 y1).2.1.trans
      ((ref_point m c _ y1).2.1.symm.trans (congrArg _ (place6 m t y0 y1).symm))))
    fun i => by
      obtain ⟨t, r, k, rfl⟩ := tiled m i
      exact ⟨t, flush0_6 _ t, place6 m t r k ▸ View.emb_mem_set _ _⟩

/-- The new first moment. -/
theorem moment1_final : (dats m (ok m) 0 c).arrAt 7 (cfgM m (ok m)).N
    = val_main_v38 (F := Ideal) (own m c) (received m c) (moment1 m c) :=
  (dats m (ok m) 0 c).arrAt_eq_of_emb 7 _ (fun t hf (y : S592x1024.Idx) => by
    rw [after0_7]
    obtain ⟨f5, f6, f7, f8, h, hp⟩ := outs m c t
    idx_vars y
    exact (congrArg (fun o => o.2.2.1 (ix2 y0 y1)) h).trans ((hp y0 y1).2.2.1.trans
      ((ref_point m c _ y1).2.2.1.symm.trans (congrArg _ (place7 m t y0 y1).symm))))
    fun i => by
      obtain ⟨t, r, k, rfl⟩ := tiled m i
      exact ⟨t, flush0_7 _ t, place7 m t r k ▸ View.emb_mem_set _ _⟩

/-- The new second moment. -/
theorem moment2_final : (dats m (ok m) 0 c).arrAt 8 (cfgM m (ok m)).N
    = val_main_v39 (F := Ideal) (own m c) (received m c) (moment2 m c) :=
  (dats m (ok m) 0 c).arrAt_eq_of_emb 8 _ (fun t hf (y : S592x1024.Idx) => by
    rw [after0_8]
    obtain ⟨f5, f6, f7, f8, h, hp⟩ := outs m c t
    idx_vars y
    exact (congrArg (fun o => o.2.2.2 (ix2 y0 y1)) h).trans ((hp y0 y1).2.2.2.trans
      ((ref_point m c _ y1).2.2.2.symm.trans (congrArg _ (place8 m t y0 y1).symm))))
    fun i => by
      obtain ⟨t, r, k, rfl⟩ := tiled m i
      exact ⟨t, flush0_8 _ t, place8 m t r k ▸ View.emb_mem_set _ _⟩

/-- The run ends with those four arrays and the arguments as they were. -/
theorem run_named (ρ : Dev nD → PrngReg) : θ_run defs (onTc (τ := τ) (main (F := Ideal))) ⟨m, fun _ => 0, ρ⟩ fun r => ∀ c : Dev nD,
    r.2.mem ((c : Thread nD τ).loc main_v9_0) = val_main_v8 (F := Ideal) (own m c) (received m c)
    ∧ r.2.mem ((c : Thread nD τ).loc main_v9_1) = val_main_v37 (F := Ideal) (own m c) (received m c) (weight m c) (moment1 m c) (moment2 m c)
    ∧ r.2.mem ((c : Thread nD τ).loc main_v9_2) = val_main_v38 (F := Ideal) (own m c) (received m c) (moment1 m c)
    ∧ r.2.mem ((c : Thread nD τ).loc main_v9_3) = val_main_v39 (F := Ideal) (own m c) (received m c) (moment2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c =>
    ⟨((h c).1 5).trans (grad_final m c), ((h c).1 6).trans (delta_final m c), ((h c).1 7).trans (moment1_final m c),
      ((h c).1 8).trans (moment2_final m c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m ρ (ok m))

end Cert.AdamBwdIdeal.Value

end
-- ==== Proof.Adam.Claims.lean ====
module

public import proofs.«01_k».proof.Defs
public import proofs.«01_k».proof.Proof.Gen.AdamBwd.Frame
public import proofs.«01_k».proof.Proof.Gen.AdamRefIdeal.Run
public import proofs.«01_k».proof.Proof.Adam.Final

/-! The claims about the optimiser's step on the input projection's matrix. -/

@[expose] public section

set_option maxRecDepth 16384

noncomputable section

namespace Cert.Proof

open Idealize.ShloMosaic Idealize.SL.Sem

open Cert

/-- The kernel's table is the same before it is idealized. -/
theorem adam_ok (m : (ℓ : Loc AdamBwd.nD AdamBwd.τ AdamBwd.sig) → Buf (Elt Bits) ℓ) : AdamBwd.Gen.Ok m :=
  AdamBwdIdeal.Value.ok (F := Bits) m

/-- The kernel runs to its end and leaves its arguments. -/
theorem adam_frame : Cert.quiescent_AdamBwd := fun m ρ _ => Cert.AdamBwd.Gen.frame m ρ (adam_ok m)

/-- So does the idealized kernel. -/
theorem adam_frame_ideal : Cert.quiescent_AdamBwdIdeal := fun m ρ _ => Cert.AdamBwdIdeal.Gen.frame m ρ (AdamBwdIdeal.Value.ok m)

/-- The reference runs to its end and leaves its arguments. -/
theorem adam_frame_ref : Cert.quiescent_AdamRefIdeal := by
  intro m ρ _
  exact (θ_run _ _ _).mono (fun r h => ⟨fun c => (h c).2.2.2.2, sem_eq_zero_of_no_sems (by decide) r.2⟩)
    (Cert.AdamRefIdeal.Value.run m ρ)

set_option maxHeartbeats 1600000 in
/-- The four results agree with the reference's, from every memory. -/
theorem adam_value : Cert.algebraic_AdamBwdIdeal_AdamRefIdeal := by
  pair_intro
  · run_from Cert.AdamBwdIdeal.Value.run_named m g
  · run_from Cert.AdamRefIdeal.Value.run m' g'
    all_goals obtain ⟨h0, h1, h2, h3, h4⟩ := hagree c
    · exact AdamRefIdeal.Read.val_main_v8_eq ..
    · exact AdamRefIdeal.Read.val_main_v37_eq ..
    · exact AdamRefIdeal.Read.val_main_v38_eq ..
    · exact AdamRefIdeal.Read.val_main_v39_eq ..

end Cert.Proof

end
-- ==== Proof.Pack.Packed.lean ====
module

public import proofs.«01_k».proof.Proof.Gen.PackBwdIdeal.Value
public import proofs.«01_k».proof.Proof.Gen.PackRefIdeal.Read
public import Idealize.ShloMosaic.Lib.Pipeline.ValueKit
public import Idealize.ShloMosaic.Lib.Pipeline.ReadBack

/-! The packed gradients, row by row. -/

@[expose] public section

set_option maxRecDepth 16384

noncomputable section

open Idealize.ShloMosaic Idealize.ShloMosaic.TcCoe Idealize.SL.Sem

namespace Cert.PackBwdIdeal.Value

open Cert.PackBwdIdeal Cert.PackBwdIdeal.Gen Cert.PackRefIdeal.Read

/-- A store that misses the row leaves what the earlier ones left there. -/
theorem skip {o0 o1 : ℕ} {size : Fin 2 → ℕ} (inb : ∀ a, (![o0, o1] : Fin 2 → ℕ) a + size a ≤ S32x1024.size a)
    (w : (Rect.unit (s := S32x1024) ![o0, o1] size inb).shape.Idx → Elt Ideal .f32) (L : List (View.Piece (Elt Ideal) S32x1024 .f32))
    (r : Fin 32) (k : Fin 1024) (h : r.val < o0 ∨ o0 + size 0 ≤ r.val) :
    View.canon (⟨Rect.unit (s := S32x1024) ![o0, o1] size inb, w⟩ :: L) (ix2 r k) = View.canon L (ix2 r k) :=
  View.canon_cons_of_not_mem _ _ (Rect.not_mem_set_of_axis _ _ 0 o0 (size 0) rfl rfl rfl h)

/-- So does one that misses the column. -/
theorem skip_col {o0 o1 : ℕ} {size : Fin 2 → ℕ} (inb : ∀ a, (![o0, o1] : Fin 2 → ℕ) a + size a ≤ S32x1024.size a)
    (w : (Rect.unit (s := S32x1024) ![o0, o1] size inb).shape.Idx → Elt Ideal .f32) (L : List (View.Piece (Elt Ideal) S32x1024 .f32))
    (r : Fin 32) (k : Fin 1024) (h : k.val < o1 ∨ o1 + size 1 ≤ k.val) :
    View.canon (⟨Rect.unit (s := S32x1024) ![o0, o1] size inb, w⟩ :: L) (ix2 r k) = View.canon L (ix2 r k) :=
  View.canon_cons_of_not_mem _ _ (Rect.not_mem_set_of_axis _ _ 1 o1 (size 1) rfl rfl rfl h)

/-- A store that meets the entry leaves its own value. -/
theorem hit {o0 o1 n0 n1 : ℕ} (inb : ∀ a, (![o0, o1] : Fin 2 → ℕ) a + (![n0, n1] : Fin 2 → ℕ) a ≤ S32x1024.size a)
    (w : (Rect.unit (s := S32x1024) ![o0, o1] ![n0, n1] inb).shape.Idx → Elt Ideal .f32) (L : List (View.Piece (Elt Ideal) S32x1024 .f32))
    (r : Fin 32) (k : Fin 1024) (r' : Fin n0) (k' : Fin n1) (h0 : r.val = o0 + r'.val) (h1 : k.val = o1 + k'.val) :
    View.canon (⟨Rect.unit (s := S32x1024) ![o0, o1] ![n0, n1] inb, w⟩ :: L) (ix2 r k) = w (ix2 r' k') := by
  have : (ix2 r k : S32x1024.Idx) = (Rect.unit (s := S32x1024) ![o0, o1] ![n0, n1] inb).emb (ix2 r' k') := by
    funext a
    refine Fin.ext ?_
    match a with
    | ⟨0, _⟩ => exact h0.trans (by show o0 + r'.val = o0 + 1 * r'.val; omega)
    | ⟨1, _⟩ => exact h1.trans (by show o1 + k'.val = o1 + 1 * k'.val; omega)
  rw [this]
  exact View.canon_cons_emb _ w L _

section
variable (c : Dev nD)
  {a0 : Memref sig .tc .vmem S1x1024 .f32} {h0 : a0.IsWhole}
  {a1 : Memref sig .tc .vmem S2x1024 .f32} {h1 : a1.IsWhole}
  {a2 : Memref sig .tc .vmem S1x1024 .f32} {h2 : a2.IsWhole}
  {a3 : Memref sig .tc .vmem S1x3328 .f32} {h3 : a3.IsWhole}
  {a4 : Memref sig .tc .vmem S1x1024 .f32} {h4 : a4.IsWhole}
  {a5 : Memref sig .tc .vmem S1x1024 .f32} {h5 : a5.IsWhole}
  {a6 : Memref sig .tc .vmem S1x1024 .f32} {h6 : a6.IsWhole}
  {a7 : Memref sig .tc .vmem S1x1024 .f32} {h7 : a7.IsWhole}
  {a8 : Memref sig .tc .vmem S1x1024 .f32} {h8 : a8.IsWhole}
  {a9 : Memref sig .tc .vmem S1x1024 .f32} {h9 : a9.IsWhole}
  {a10 : Memref sig .tc .vmem S1x1024 .f32} {h10 : a10.IsWhole}
  {a11 : Memref sig .tc .vmem S1x1024 .f32} {h11 : a11.IsWhole}
  {a12 : Memref sig .tc .vmem S1x1024 .f32} {h12 : a12.IsWhole}
  {a13 : Memref sig .tc .vmem S1x5632 .f32} {h13 : a13.IsWhole}
  {a14 : Memref sig .tc .vmem S1x1024 .f32} {h14 : a14.IsWhole}
  {a15 : Memref sig .tc .vmem S1x128 .f32} {h15 : a15.IsWhole}
  {a16 : Memref sig .tc .vmem S32x1024 .f32} {h16 : a16.IsWhole}
  (x0 : Vec Ideal S1x1024 .f32) (x1 : Vec Ideal S2x1024 .f32) (x2 : Vec Ideal S1x1024 .f32) (x3 : Vec Ideal S1x3328 .f32)
  (x4 x5 x6 x7 x8 x9 x10 x11 x12 : Vec Ideal S1x1024 .f32) (x13 : Vec Ideal S1x5632 .f32) (x14 : Vec Ideal S1x1024 .f32)
  (x15 : Vec Ideal S1x128 .f32) (r : Fin 32) (k : Fin 1024)

/-- What the body stores, entry by entry, is what the reference packs. -/
theorem body : out0_A_16 c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12 x13 x14 x15 (ix2 r k)
    = val_main_v10 (F := Ideal) x0 x1 x2 x3 x4 x5 x6 x7 x8 x9 x10 x11 x12 x13 x14 x15 (ix2 r k) := by
  frame_out
  fin_cases r
  all_goals simp (disch := decide) only [skip]
  case «7» =>
    rcases lt_or_ge k.val 256 with h | h
    · refine (hit _ _ _ _ k 0 ⟨k.val, h⟩ rfl (Nat.zero_add _).symm).trans ?_
      pointwise [val_main_v10, val_main_v9, val_main_v8, val_main_v7, val_main_v6, val_main_v5, val_main_v4, val_main_v3, val_main_v2,
      val_main_v1, val_main_v0, val_main_cst, val_main_cst_0, val_main_cst_1, val_main_cst_2, k0_pay1]
      all_goals first | rw [dif_pos (by omega)] | skip
    · rw [skip_col _ _ _ _ _ (Or.inr h)]
      try simp (disch := decide) only [skip]
      refine (hit _ _ _ _ k _ k (Nat.zero_add _).symm (Nat.zero_add _).symm).trans ?_
      pointwise [val_main_v10, val_main_v9, val_main_v8, val_main_v7, val_main_v6, val_main_v5, val_main_v4, val_main_v3, val_main_v2,
      val_main_v1, val_main_v0, val_main_cst, val_main_cst_0, val_main_cst_1, val_main_cst_2, k0_pay1]
      all_goals first | rw [dif_neg (by omega)] | skip
  case «22» =>
    rcases lt_or_ge k.val 512 with h | h
    · refine (hit _ _ _ _ k 0 ⟨k.val, h⟩ rfl (Nat.zero_add _).symm).trans ?_
      pointwise [val_main_v10, val_main_v9, val_main_v8, val_main_v7, val_main_v6, val_main_v5, val_main_v4, val_main_v3, val_main_v2,
      val_main_v1, val_main_v0, val_main_cst, val_main_cst_0, val_main_cst_1, val_main_cst_2, k0_pay1]
      all_goals first | rw [dif_pos (by omega)] | skip
    · rw [skip_col _ _ _ _ _ (Or.inr h)]
      try simp (disch := decide) only [skip]
      refine (hit _ _ _ _ k _ k (Nat.zero_add _).symm (Nat.zero_add _).symm).trans ?_
      pointwise [val_main_v10, val_main_v9, val_main_v8, val_main_v7, val_main_v6, val_main_v5, val_main_v4, val_main_v3, val_main_v2,
      val_main_v1, val_main_v0, val_main_cst, val_main_cst_0, val_main_cst_1, val_main_cst_2, k0_pay1]
      all_goals first | rw [dif_neg (by omega)] | skip
  case «24» =>
    rcases lt_or_ge k.val 128 with h | h
    · refine (hit _ _ _ _ k 0 ⟨k.val, h⟩ rfl (Nat.zero_add _).symm).trans ?_
      pointwise [val_main_v10, val_main_v9, val_main_v8, val_main_v7, val_main_v6, val_main_v5, val_main_v4, val_main_v3, val_main_v2,
      val_main_v1, val_main_v0, val_main_cst, val_main_cst_0, val_main_cst_1, val_main_cst_2, k0_pay1]
      all_goals first | rw [dif_pos (by omega)] | skip
    · rw [skip_col _ _ _ _ _ (Or.inr h)]
      try simp (disch := decide) only [skip]
      refine (hit _ _ _ _ k _ k (Nat.zero_add _).symm (Nat.zero_add _).symm).trans ?_
      pointwise [val_main_v10, val_main_v9, val_main_v8, val_main_v7, val_main_v6, val_main_v5, val_main_v4, val_main_v3, val_main_v2,
      val_main_v1, val_main_v0, val_main_cst, val_main_cst_0, val_main_cst_1, val_main_cst_2, k0_pay1]
      all_goals first | rw [dif_neg (by omega)] | skip
  all_goals
    first
      | refine (hit _ _ _ _ k 0 k rfl (Nat.zero_add _).symm).trans ?_
      | refine (hit _ _ _ _ k 1 k rfl (Nat.zero_add _).symm).trans ?_
      | refine (hit _ _ _ _ k _ k (Nat.zero_add _).symm (Nat.zero_add _).symm).trans ?_
    pointwise [val_main_v10, val_main_v9, val_main_v8, val_main_v7, val_main_v6, val_main_v5, val_main_v4, val_main_v3, val_main_v2,
      val_main_v1, val_main_v0, val_main_cst, val_main_cst_0, val_main_cst_1, val_main_cst_2, k0_pay1]
    all_goals first | rw [dif_pos (by omega)] | skip
end

variable (m : (ℓ : Loc nD τ sig) → Buf (Elt Ideal) ℓ) (c : Dev nD)

/-- The one point of the launch takes the first tile of every array. -/
theorem idx : ∀ t : Fin grid0.N,
    win0_0.index t = ![0, 0] ∧
    win0_1.index t = ![0, 0] ∧
    win0_2.index t = ![0, 0] ∧
    win0_3.index t = ![0, 0] ∧
    win0_4.index t = ![0, 0] ∧
    win0_5.index t = ![0, 0] ∧
    win0_6.index t = ![0, 0] ∧
    win0_7.index t = ![0, 0] ∧
    win0_8.index t = ![0, 0] ∧
    win0_9.index t = ![0, 0] ∧
    win0_10.index t = ![0, 0] ∧
    win0_11.index t = ![0, 0] ∧
    win0_12.index t = ![0, 0] ∧
    win0_13.index t = ![0, 0] ∧
    win0_14.index t = ![0, 0] ∧
    win0_15.index t = ![0, 0] ∧
    win0_16.index t = ![0, 0] := by
  decide +kernel

set_option maxHeartbeats 1600000 in
/-- Every block is its argument, whole. -/
theorem whole (t : Fin cfg0.N) : iblk m c 0 t = m ((c : Thread nD τ).loc main_arg0)
    ∧ iblk m c 1 t = m ((c : Thread nD τ).loc main_arg1)
    ∧ iblk m c 2 t = m ((c : Thread nD τ).loc main_arg2)
    ∧ iblk m c 3 t = m ((c : Thread nD τ).loc main_arg3)
    ∧ iblk m c 4 t = m ((c : Thread nD τ).loc main_arg4)
    ∧ iblk m c 5 t = m ((c : Thread nD τ).loc main_arg5)
    ∧ iblk m c 6 t = m ((c : Thread nD τ).loc main_arg6)
    ∧ iblk m c 7 t = m ((c : Thread nD τ).loc main_arg7)
    ∧ iblk m c 8 t = m ((c : Thread nD τ).loc main_arg8)
    ∧ iblk m c 9 t = m ((c : Thread nD τ).loc main_arg9)
    ∧ iblk m c 10 t = m ((c : Thread nD τ).loc main_arg10)
    ∧ iblk m c 11 t = m ((c : Thread nD τ).loc main_arg11)
    ∧ iblk m c 12 t = m ((c : Thread nD τ).loc main_arg12)
    ∧ iblk m c 13 t = m ((c : Thread nD τ).loc main_arg13)
    ∧ iblk m c 14 t = m ((c : Thread nD τ).loc main_arg14)
    ∧ iblk m c 15 t = m ((c : Thread nD τ).loc main_arg15) := by
  refine ⟨?_, ?_, ?_, ?_, ?_, ?_, ?_, ?_, ?_, ?_, ?_, ?_, ?_, ?_, ?_, ?_⟩
  all_goals
    funext y
    idx_vars y
    blk_ext [iblk, V, idx t]

/-- The packed array is the reference's. -/
theorem packed_final : (dats m 0 c).arrAt 16 cfg0.N
    = val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 16 _ (by decide +kernel) fun t hf y => ?_
  blk_simp
  rw [after0_16]
  unfold outsAt0
  idx_vars y
  rw [body]
  obtain ⟨e0, e1, e2, e3, e4, e5, e6, e7, e8, e9, e10, e11, e12, e13, e14, e15⟩ := whole m c t
  rw [e0, e1, e2, e3, e4, e5, e6, e7, e8, e9, e10, e11, e12, e13, e14, e15]
  exact congrArg _ (by blk_ext [idx t] : ix2 y0 y1 = ((View.whole main_v0).slice (win0_16.rect t)).emb (ix2 y0 y1))

end Cert.PackBwdIdeal.Value

end
-- ==== Proof.Pack.Claims.lean ====
module

public import proofs.«01_k».proof.Defs
public import proofs.«01_k».proof.Proof.Gen.PackBwd.Frame
public import proofs.«01_k».proof.Proof.Gen.PackRefIdeal.Run
public import proofs.«01_k».proof.Proof.Pack.Packed

/-! The claims about the packing of the gradients of the replicated parameters. -/

@[expose] public section

set_option maxRecDepth 16384

noncomputable section

namespace Cert.Proof

open Idealize.ShloMosaic Idealize.SL.Sem

open Cert

/-- The kernel runs to its end and leaves its arguments. -/
theorem pack_frame : Cert.quiescent_PackBwd := fun m ρ _ => Cert.PackBwd.Gen.frame m ρ

/-- So does the idealized kernel. -/
theorem pack_frame_ideal : Cert.quiescent_PackBwdIdeal := fun m ρ _ => Cert.PackBwdIdeal.Gen.frame m ρ

/-- The reference runs to its end and leaves its arguments. -/
theorem pack_frame_ref : Cert.quiescent_PackRefIdeal := by
  intro m ρ _
  exact (θ_run _ _ _).mono (fun r h => ⟨fun c => (h c).2, sem_eq_zero_of_no_sems (by decide) r.2⟩)
    (Cert.PackRefIdeal.Value.run m ρ)

set_option maxHeartbeats 1600000 in
/-- The packed array agrees with the reference's, from every memory. -/
theorem pack_value : Cert.algebraic_PackBwdIdeal_PackRefIdeal := by
  pair_intro
  · run_from Cert.PackBwdIdeal.Value.run_blocks m g
  · run_from Cert.PackRefIdeal.Value.run m' g'
    all_goals obtain ⟨h0, h1, h2, h3, h4, h5, h6, h7, h8, h9, h10, h11, h12, h13, h14, h15⟩ := hagree c
    · rw [h4, h5, h6, h7, h8, h9, h10, h11, h12, h13, h14, h15]
      exact (PackRefIdeal.Read.val_main_v10_eq ..).trans (PackBwdIdeal.Value.packed_final m c).symm

end Cert.Proof

end
-- ==== Proof.Pair.Setup.lean ====
module

public import proofs.«01_k».proof.Proof.Gen.PairBwd.Launch
public import proofs.«01_k».proof.Proof.Gen.PairBwd.Skeleton
public import Idealize.ShloMosaic.Lib.Pipeline.FrameBody
public import Idealize.ShloMosaic.Lib.Tactic
public import Idealize.ShloMosaic.Lib.WordCmp

/-! What the proof about the pairwise sum names: the memory that the pipeline finds, its table of four block numbers, the buffers that a point
works on, and the points at which each of the two branches is taken. -/

@[expose] public section

set_option maxRecDepth 16384

noncomputable section

namespace Cert.PairBwd.Value

open Cert.PairBwd Cert.PairBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] (m : (ℓ : Loc nD τ sig) → Buf (Elt F) ℓ)

/-- The buffers after the table is written and both arguments are rounded. -/
abbrev entry (c : Dev nD) (b : Ref sig .tc) : Buf (Elt F) ((c : Thread nD τ).loc b) := StableHlo.after hostOps0 (fun b => m (c, b)) b

/-- The program is those three operations and then the pipeline. -/
theorem upto (𝒱 : Variants) : Pipeline.HMainP (Ix := Unit) (Name := ℕ) (U := UR sig nD τ) (Lvl := ℕ) pcfgs 0 defs₀ 𝒱 m (main (F := F)) (entry m) :=
  Pipeline.hmainP_prefix pcfgs 0 defs₀ 𝒱 m main hostOps0 hostOps0_sub (by simp only [List.Forall]; repeat' constructor) main_chain

/-- An array that none of the three operations writes is as it was at the start. -/
theorem entry_parts (c : Dev nD) : entry m c main_arg0 = m ((c : Thread nD τ).loc main_arg0) :=
  StableHlo.after_of_forall_not_mem (b := Proc.devRef .tc main_arg0) _ _ fun op h => by
    fin_cases h <;> exact fun e => StableHlo.devRef_ne_of_ne (by decide) (Finset.mem_singleton.mp e)

theorem entry_received (c : Dev nD) : entry m c main_arg1 = m ((c : Thread nD τ).loc main_arg1) :=
  StableHlo.after_of_forall_not_mem (b := Proc.devRef .tc main_arg1) _ _ fun op h => by
    fin_cases h <;> exact fun e => StableHlo.devRef_ne_of_ne (by decide) (Finset.mem_singleton.mp e)

/-- The four block numbers as the pipeline finds them. -/
def tbl : pre0.Contents (Elt F) := fun k => entry m 0 (pre0.ref k)

theorem tbl_found (c : Dev nD) (k : Fin 1) : entry m c (pre0.ref k) = tbl m k := Subsingleton.elim (0 : Dev nD) c ▸ rfl

/-- With those numbers every block lies inside its array. -/
abbrev Ok : Prop := ok0 (F := F) (tbl m)

variable (hO : Ok m)

/-- The pipeline with those numbers. -/
abbrev adm : (pcfg0 (F := F)).Adm := ⟨tbl m, hO⟩
abbrev cfgM : Pipeline.Cfg sig Λ₀ := cfg0 (adm m hO)

/-- The table as an operand of the body, and the half of it that the body holds while it runs. -/
abbrev numbers : Memref sig .tc .smem S4 .i32 := Memref.whole main_c
abbrev numbers_whole : numbers.IsWhole := Memref.isWhole_whole _
abbrev Numbers (c : Dev nD) {s : Shape} {e : EltTy} (a : Memref sig .tc .smem s e) : Type := Buf (Elt F) (a.view.loc (c : Thread nD τ))
abbrev half (c : Dev nD) {s : Shape} {e : EltTy} (a : Memref sig .tc .smem s e) (z : Numbers (F := F) c a) :
    sProp (MT nD τ sig Unit (Elt F) ℕ (UR sig nD τ) ℕ) := a.view.loc (c : Thread nD τ) ↦{fullShare.right} z

theorem half_eq (c : Dev nD) : (Pipeline.ΦT pre0 (tbl m) c : sProp (MT nD τ sig Unit (Elt F) ℕ (UR sig nD τ) ℕ)) = half c numbers (tbl m 0) := by
  unfold Pipeline.ΦT Pipeline.prefHeld
  rw [show (Finset.univ : Finset (Fin 1)) = {0} from rfl, bigSep_singleton]
  rfl

/-- The part of its array that a window shows at a point. -/
def block (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (entry m c (Pipeline.arrRef spec0 w))

section
variable {m hO} {c : Dev nD} (d : Dat τ (Elt F) Unit ℕ (UR sig nD τ) ℕ (cfgM m hO) c)

/-- A body that leaves both operands in place finds those parts at every point. -/
theorem before_ours (hA : d.A 0 = entry m c (Pipeline.arrRef spec0 0)) (h : ∀ t, d.after 0 t = block m hO c 0 t) (t : Fin (cfgM m hO).N) (x) :
    d.before 0 t x = block m hO c 0 t := by
  rw [d.before_in_eq_fetched 0 rfl (fun _ => rfl) (fun _ _ _ => rfl) (fun s => by rw [h]; unfold Dat.blockOf block; rw [hA]; rfl) t x]
  unfold Dat.fetched Dat.blockOf block
  rw [hA]
  rfl

theorem before_theirs (hA : d.A 1 = entry m c (Pipeline.arrRef spec0 1)) (h : ∀ t, d.after 1 t = block m hO c 1 t) (t : Fin (cfgM m hO).N) (x) :
    d.before 1 t x = block m hO c 1 t := by
  rw [d.before_in_eq_fetched 1 rfl (fun _ => rfl) (fun _ _ _ => rfl) (fun s => by rw [h]; unfold Dat.blockOf block; rw [hA]; rfl) t x]
  unfold Dat.fetched Dat.blockOf block
  rw [hA]
  rfl
end

/-- The body stores into the first result where the second coordinate is 0, and into the second result elsewhere. -/
abbrev AtOwn (i : grid0.Coords) : Prop := k0_cond1 i = 1#1
abbrev AtSent (i : grid0.Coords) : Prop := k0_cond2 i = 1#1

theorem atOwn : ∀ t : Fin grid0.N, AtOwn (grid0.coords t) ↔ t.val % 4 = 0 := by decide +kernel
theorem atSent : ∀ t : Fin grid0.N, AtSent (grid0.coords t) ↔ t.val % 4 ≠ 0 := by decide +kernel

variable (t : Fin (cfgM m hO).N)

/-- The tile of each of the four arrays that a point works on. -/
abbrev tile0 : Memref sig .tc .vmem S1x592x1024 .bf16 := spec0_0.stage ((cfgM m hO).slots t 0)
abbrev tile1 : Memref sig .tc .vmem S1x592x1024 .bf16 := spec0_1.stage ((cfgM m hO).slots t 1)
abbrev tile2 : Memref sig .tc .vmem S592x1024 .f32 := spec0_2.stage ((cfgM m hO).slots t 2)
abbrev tile3 : Memref sig .tc .vmem S1x592x1024 .bf16 := spec0_3.stage ((cfgM m hO).slots t 3)

/-- The body of a point on its tiles. -/
abbrev point : Prog (TpuEff nD τ sig (Elt F) Λ₀ .tc) PUnit :=
  cc0_pair_sum_w_in (grid0.coords t) numbers numbers_whole
    (tile0 m hO t) (hstage0_0 (((cfgM m hO).slots t 0).cast nbuf0_0)) (tile1 m hO t) (hstage0_1 (((cfgM m hO).slots t 1).cast nbuf0_1))
    (tile2 m hO t) (hstage0_2 (((cfgM m hO).slots t 2).cast nbuf0_2)) (tile3 m hO t) (hstage0_3 (((cfgM m hO).slots t 3).cast nbuf0_3))

theorem point_row : defs₀ (F := F) .tc (cfgM m hO).body ((cfgM m hO).bodyArgs t ((cfgM m hO).slots t)) = point m hO t := by
  unfold defs₀; rw [Defs.onTc_tc]

end Cert.PairBwd.Value

end
-- ==== Proof.Pair.Body.lean ====
module

public import proofs.«01_k».proof.Proof.Pair.Setup
public import Idealize.ShloMosaic.Lib.Pipeline.ValueKit
public import Idealize.ShloMosaic.Lib.Pipeline.ReadBack
public import Idealize.ShloMosaic.Lib.VecWindow

/-! One run of the body of the pairwise sum: the first of a tile's four points stores into the first result only, the other three into the
second only. -/

@[expose] public section

set_option maxRecDepth 16384

noncomputable section

namespace Cert.PairBwd.Value

open Cert.PairBwd Cert.PairBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (c : Dev nD) (i : grid0.Coords)
  (a3 : Memref sig .tc .vmem S1x592x1024 .bf16) (h3 : a3.IsWhole) (a4 : Memref sig .tc .vmem S1x592x1024 .bf16) (h4 : a4.IsWhole)
  (a5 : Memref sig .tc .vmem S592x1024 .f32) (h5 : a5.IsWhole) (a6 : Memref sig .tc .vmem S1x592x1024 .bf16) (h6 : a6.IsWhole)
  (x y : Vec F S1x592x1024 .bf16) (z : Numbers (F := F) c numbers)

set_option maxHeartbeats 1000000 in
/-- The first point stores the sum of its two blocks and leaves the second result's tile as it is. -/
theorem first (p0 : AtOwn i) (p1 : ¬AtSent i) (w : Vec F S1x592x1024 .bf16) (E : Set ℕ) (K : PUnit → sProp (MT nD τ sig Unit (Elt F) ℕ (UR sig nD τ) ℕ)) :
    iprop(owns (c : Thread nD τ) a3 fullShare x ∗ owns (c : Thread nD τ) a4 fullShare y ∗ (∃ d, owns (c : Thread nD τ) a5 fullShare d)
        ∗ owns (c : Thread nD τ) a6 fullShare w ∗ half c numbers z
        ∗ (iprop(owns (c : Thread nD τ) a3 fullShare x ∗ owns (c : Thread nD τ) a4 fullShare y
            ∗ owns (c : Thread nD τ) a5 fullShare (k0_pay1 x y) ∗ owns (c : Thread nD τ) a6 fullShare w ∗ half c numbers z) -∗ K ⟨⟩))
      ⊢ wp frame (wpE (defs₀ (F := F)) Variants.none c none) E (cc0_pair_sum_w_in i numbers numbers_whole a3 h3 a4 h4 a5 h5 a6 h6) K := by
  rw [cc0_pair_sum_w_in_eq_skeleton]; unfold cc0_pair_sum_w_in_skel
  unfold owns
  iintro ⟨⟨%f3, %e3, H3⟩, ⟨%f4, %e4, H4⟩, ⟨%d5, %f5, -, H5⟩, ⟨%f6, %e6, H6⟩, HT, Hk⟩
  obtain rfl := h3.eq_unread e3; obtain rfl := h4.eq_unread e4
  sl_exec (disch := first | sl_exact p0 | sl_exact p1)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; swap; · iexact H5
    ipureintro
    exact (View.read_writes_full _ _ _ _ _).trans (congrArg₂ k0_pay1 ((View.readAt_full _ _ _).trans e3) ((View.readAt_full _ _ _).trans e4))
  isplitl [H6]
  · iexists _; isplitr; · ipureintro; exact e6
    iexact H6
  iexact HT

set_option maxHeartbeats 1000000 in
/-- Every later point stores the rounded sum of its two blocks and leaves the first result's tile as it is. -/
theorem later (p0 : ¬AtOwn i) (p1 : AtSent i) (w : Vec F S592x1024 .f32) (E : Set ℕ) (K : PUnit → sProp (MT nD τ sig Unit (Elt F) ℕ (UR sig nD τ) ℕ)) :
    iprop(owns (c : Thread nD τ) a3 fullShare x ∗ owns (c : Thread nD τ) a4 fullShare y ∗ owns (c : Thread nD τ) a5 fullShare w
        ∗ (∃ d, owns (c : Thread nD τ) a6 fullShare d) ∗ half c numbers z
        ∗ (iprop(owns (c : Thread nD τ) a3 fullShare x ∗ owns (c : Thread nD τ) a4 fullShare y
            ∗ owns (c : Thread nD τ) a5 fullShare w ∗ owns (c : Thread nD τ) a6 fullShare (k0_pay2 x y) ∗ half c numbers z) -∗ K ⟨⟩))
      ⊢ wp frame (wpE (defs₀ (F := F)) Variants.none c none) E (cc0_pair_sum_w_in i numbers numbers_whole a3 h3 a4 h4 a5 h5 a6 h6) K := by
  rw [cc0_pair_sum_w_in_eq_skeleton]; unfold cc0_pair_sum_w_in_skel
  unfold owns
  iintro ⟨⟨%f3, %e3, H3⟩, ⟨%f4, %e4, H4⟩, ⟨%f5, %e5, H5⟩, ⟨%d6, %f6, -, H6⟩, HT, Hk⟩
  obtain rfl := h3.eq_unread e3; obtain rfl := h4.eq_unread e4
  sl_exec (disch := first | sl_exact p0 | sl_exact p1)
  sl_step
  iapply Hk
  isplitl [H3]; · iexists _; isplitr; · ipureintro; exact e3
                  iexact H3
  isplitl [H4]; · iexists _; isplitr; · ipureintro; exact e4
                  iexact H4
  isplitl [H5]; · iexists _; isplitr; · ipureintro; exact e5
                  iexact H5
  isplitl [H6]
  · iexists _; isplitr; swap; · iexact H6
    ipureintro
    exact (View.read_writes_full _ _ _ _ _).trans (congrArg₂ k0_pay2 ((View.readAt_full _ _ _).trans e3) ((View.readAt_full _ _ _).trans e4))
  iexact HT
end

end Cert.PairBwd.Value

end
-- ==== Proof.Pair.Run.lean ====
module

public import proofs.«01_k».proof.Proof.Pair.Body

/-! What the pairwise sum leaves in its two results at every point, and the run that ends with them. -/

@[expose] public section

set_option maxRecDepth 16384

noncomputable section

namespace Cert.PairBwd.Value

open Cert.PairBwd Cert.PairBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] (m : (ℓ : Loc nD τ sig) → Buf (Elt F) ℓ) (hO : Ok m)

theorem points : (cfgM m hO).N = 8 := N_0

/-- The first of the four points of `t`'s tile. -/
def start (t : Fin (cfgM m hO).N) : Fin (cfgM m hO).N := ⟨t.val / 4 * 4, by have := t.isLt; omega⟩

theorem start_of_first (t : Fin (cfgM m hO).N) (h : t.val % 4 = 0) : start m hO t = t := Fin.ext (by show t.val / 4 * 4 = t.val; omega)

/-- The two blocks that a point reads. -/
def ours (c : Dev nD) (t : Fin (cfgM m hO).N) : Vec F S1x592x1024 .bf16 := block m hO c 0 t
def theirs (c : Dev nD) (t : Fin (cfgM m hO).N) : Vec F S1x592x1024 .bf16 := block m hO c 1 t

/-- What stands in the first result's tile after a point: the sum that the tile's first point stored. -/
def own (c : Dev nD) (t : Fin (cfgM m hO).N) : Vec F S592x1024 .f32 := k0_pay1 (ours m hO c (start m hO t)) (theirs m hO c (start m hO t))

/-- What a later point leaves in the second result's tile: its own sum. -/
def sent (c : Dev nD) (t : Fin (cfgM m hO).N) : Vec F S1x592x1024 .bf16 := k0_pay2 (ours m hO c t) (theirs m hO c t)

/-- The contents of the four tiles, point by point. -/
def tiles (_ : Fin 1) (c : Dev nD) : Dat τ (Elt F) Unit ℕ (UR sig nD τ) ℕ (cfgM m hO) c where
  A w := entry m c (Pipeline.arrRef spec0 w)
  after w t := match w with
    | ⟨0, _⟩ => ours m hO c t
    | ⟨1, _⟩ => theirs m hO c t
    | ⟨2, _⟩ => own m hO c t
    | ⟨3, _⟩ => sent m hO c t
  Φ _ := iprop(Pipeline.ΦA spec0 c ∗ Pipeline.ΦT pre0 (tbl m) c)
  q _ := fullShare
  owed _ := 0

variable (c : Dev nD) (t : Fin (cfgM m hO).N)

theorem tiles_array (w : Fin (cfgM m hO).W) : (tiles m hO 0 c).A w = entry m c (Pipeline.arrRef spec0 w) := rfl
theorem after_own : (tiles m hO 0 c).after 2 t = own m hO c t := rfl
theorem after_sent : (tiles m hO 0 c).after 3 t = sent m hO c t := rfl

theorem found_ours (d) : (tiles m hO 0 c).before 0 t d = ours m hO c t :=
  before_ours (tiles m hO 0 c) rfl (fun _ => rfl) t d

theorem found_theirs (d) : (tiles m hO 0 c).before 1 t d = theirs m hO c t :=
  before_theirs (tiles m hO 0 c) rfl (fun _ => rfl) t d

/-- The points at which the body leaves a result alone. -/
theorem idle_own : (cfgM m hO).idle 2 (grid0.coords t) = true ↔ t.val % 4 ≠ 0 :=
  (by decide +kernel : ∀ t : Fin grid0.N, idle0 2 (grid0.coords t) = true ↔ t.val % 4 ≠ 0) t

theorem idle_sent : (cfgM m hO).idle 3 (grid0.coords t) = true ↔ t.val % 4 = 0 :=
  (by decide +kernel : ∀ t : Fin grid0.N, idle0 3 (grid0.coords t) = true ↔ t.val % 4 = 0) t

/-- The second result's tile is written back at every point that stored it. -/
theorem flush_sent : ((cfgM m hO).win 3).flush t = true ↔ t.val % 4 ≠ 0 :=
  (by decide +kernel : ∀ t : Fin grid0.N, Pipeline.Window.flushOf grid0 true cc0_transform_3 t = true ↔ t.val % 4 ≠ 0) t

theorem flush_own : ((cfgM m hO).win 2).flush t = true ↔ t.val % 4 = 3 :=
  (by decide +kernel : ∀ t : Fin grid0.N, Pipeline.Window.flushOf grid0 true cc0_transform_2 t = true ↔ t.val % 4 = 3) t

theorem own_succ (s t : Fin (cfgM m hO).N) (h : s.val / 4 = t.val / 4) : own m hO c s = own m hO c t := by
  have : start m hO s = start m hO t := Fin.ext (by show s.val / 4 * 4 = t.val / 4 * 4; rw [h])
  unfold own; rw [this]

/-- A later point finds in the first result's tile what the tile's first point left there. -/
theorem found_own (n : ℕ) : ∀ t : Fin (cfgM m hO).N, t.val = n → t.val % 4 ≠ 0 → ∀ d, (tiles m hO 0 c).before 2 t d = own m hO c t := by
  induction n using Nat.strong_induction_on with
  | _ n ih =>
    intro t ht h d
    have hs : t.val - 1 < (cfgM m hO).N := Nat.lt_of_le_of_lt (Nat.sub_le _ _) t.isLt
    have hf : ((cfgM m hO).win 2).flush ⟨t.val - 1, hs⟩ = false :=
      Bool.eq_false_iff.mpr fun e => by have := (flush_own m hO _).mp e; simp only at this; omega
    rw [Dat.before_of_pos _ 2 t (by omega) rfl, hf, if_neg Bool.false_ne_true]
    have same := own_succ m hO c ⟨t.val - 1, hs⟩ t (by simp only; omega)
    unfold Dat.left
    cases hi : (cfgM m hO).idle 2 ((cfgM m hO).grid.coords ⟨t.val - 1, hs⟩) with
    | false => exact same
    | true => exact (ih (t.val - 1) (by omega) ⟨t.val - 1, hs⟩ rfl ((idle_own m hO _).mp hi) d).trans same

set_option maxHeartbeats 1600000 in
/-- The body at any point takes the tiles from what it finds to what is said above. -/
theorem step : iprop((tiles m hO 0 c).Φ t.castSucc ∗ (tiles m hO 0 c).owesAt () t.castSucc
      ∗ (∃ d, owns (c : Thread nD τ) (tile0 m hO t) fullShare ((tiles m hO 0 c).before 0 t d))
      ∗ (∃ d, owns (c : Thread nD τ) (tile1 m hO t) fullShare ((tiles m hO 0 c).before 1 t d))
      ∗ (∃ d, owns (c : Thread nD τ) (tile2 m hO t) fullShare ((tiles m hO 0 c).before 2 t d))
      ∗ (∃ d, owns (c : Thread nD τ) (tile3 m hO t) fullShare ((tiles m hO 0 c).before 3 t d)))
    ⊢ wp frame (wpE (defs₀ (F := F)) Variants.none c none) Set.univ (point m hO t) (fun _ =>
      iprop((tiles m hO 0 c).Φ t.succ ∗ (tiles m hO 0 c).owesAt () t.succ
        ∗ (tiles m hO 0 c).leavesExact 0 t ∗ (tiles m hO 0 c).leavesExact 1 t
        ∗ (tiles m hO 0 c).leavesExact 2 t ∗ (tiles m hO 0 c).leavesExact 3 t)) := by
  have hN := points m hO
  have ht := t.isLt
  have l0 : (tiles m hO 0 c).leavesExact 0 t = owns (c : Thread nD τ) (tile0 m hO t) fullShare (ours m hO c t) := by
    unfold Dat.leavesExact; rw [show (cfgM m hO).idle _ _ = false from rfl]; rfl
  have l1 : (tiles m hO 0 c).leavesExact 1 t = owns (c : Thread nD τ) (tile1 m hO t) fullShare (theirs m hO c t) := by
    unfold Dat.leavesExact; rw [show (cfgM m hO).idle _ _ = false from rfl]; rfl
  rw [l0, l1, show (tiles m hO 0 c).Φ t.succ = iprop(Pipeline.ΦA spec0 c ∗ Pipeline.ΦT pre0 (tbl m) c) from rfl,
    show (tiles m hO 0 c).Φ t.castSucc = iprop(Pipeline.ΦA spec0 c ∗ Pipeline.ΦT pre0 (tbl m) c) from rfl, half_eq,
    show (tiles m hO 0 c).owesAt () t.succ = (tiles m hO 0 c).owesAt () t.castSucc from rfl]
  simp only [found_ours, found_theirs]
  unfold point
  by_cases h : t.val % 4 = 0
  · have l2 : (tiles m hO 0 c).leavesExact 2 t = owns (c : Thread nD τ) (tile2 m hO t) fullShare (k0_pay1 (ours m hO c t) (theirs m hO c t)) := by
      have e : own m hO c t = k0_pay1 (ours m hO c t) (theirs m hO c t) := by unfold own; rw [start_of_first m hO t h]
      unfold Dat.leavesExact
      rw [Bool.eq_false_iff.mpr fun e => (idle_own m hO t).mp e h, ← e]
      rfl
    have l3 := (tiles m hO 0 c).leavesExact_idle 3 t ((idle_sent m hO t).mpr h) (Bool.eq_false_iff.mpr fun e => (flush_sent m hO t).mp e h)
    rw [l2, l3]
    iintro ⟨⟨HΦ, HT⟩, Ho, ⟨%d0, H0⟩, ⟨%d1, H1⟩, ⟨%d2, H2⟩, ⟨%d3, H3⟩⟩
    iapply (first c (grid0.coords t) _ _ _ _ _ _ _ _ (ours m hO c t) (theirs m hO c t) (tbl m 0) ((atOwn t).mpr h)
      (fun e => (atSent t).mp e h) _ Set.univ _)
    isplitl [H0]; · iexact H0
    isplitl [H1]; · iexact H1
    isplitl [H2]; · iexists _; iexact H2
    isplitl [H3]; · iexact H3
    isplitl [HT]; · iexact HT
    iintro ⟨H0, H1, H2, H3, HT⟩
    isplitl [HΦ HT]
    · isplitl [HΦ]; · iexact HΦ
      iexact HT
    isplitl [Ho]; · iexact Ho
    isplitl [H0]; · iexact H0
    isplitl [H1]; · iexact H1
    isplitl [H2]; · iexact H2
    iexists _; iexact H3
  · have l3 : (tiles m hO 0 c).leavesExact 3 t = owns (c : Thread nD τ) (tile3 m hO t) fullShare (k0_pay2 (ours m hO c t) (theirs m hO c t)) := by
      unfold Dat.leavesExact
      rw [Bool.eq_false_iff.mpr fun e => h ((idle_sent m hO t).mp e)]
      rfl
    have l2 : owns (c : Thread nD τ) (tile2 m hO t) fullShare (own m hO c t) ⊢ (tiles m hO 0 c).leavesExact 2 t := by
      unfold Dat.leavesExact
      rw [(idle_own m hO t).mpr h]
      cases ((cfgM m hO).win 2).flush t with
      | true => exact .rfl
      | false =>
        have b := found_own m hO c t.val t rfl h
        simp only [b]
        iintro H; iexists own m hO c t; iexact H
    rw [l3]
    simp only [found_own m hO c t.val t rfl h]
    iintro ⟨⟨HΦ, HT⟩, Ho, ⟨%d0, H0⟩, ⟨%d1, H1⟩, ⟨%d2, H2⟩, ⟨%d3, H3⟩⟩
    iapply (later c (grid0.coords t) _ _ _ _ _ _ _ _ (ours m hO c t) (theirs m hO c t) (tbl m 0) (fun e => h ((atOwn t).mp e))
      ((atSent t).mpr h) (own m hO c t) Set.univ _)
    isplitl [H0]; · iexact H0
    isplitl [H1]; · iexact H1
    isplitl [H2]; · iexact H2
    isplitl [H3]; · iexists _; iexact H3
    isplitl [HT]; · iexact HT
    iintro ⟨H0, H1, H2, H3, HT⟩
    isplitl [HΦ HT]
    · isplitl [HΦ]; · iexact HΦ
      iexact HT
    isplitl [Ho]; · iexact Ho
    isplitl [H0]; · iexact H0
    isplitl [H1]; · iexact H1
    isplitl [H2]; · iapply l2; iexact H2
    iexact H3

/-- That is the body's part of the launch. -/
theorem bodies : BodyObligation (tiles m hO 0 c) (defs₀ (F := F)) Variants.none () Set.univ := fun t => by
  rw [bigSep_W0, bigSep_W0, point_row m hO]
  exact triple_restated (step m hO c t) rfl .rfl fun _ => .rfl

set_option backward.isDefEq.respectTransparency.types false in
/-- The run ends with both results written tile by tile, everything else as the pipeline found it, and every counter at zero. -/
theorem launched (ρ : Dev nD → PrngReg) : θ_run defs (onTc (τ := τ) (main (F := F))) ⟨m, fun _ => 0, ρ⟩
    fun r => Pipeline.FramePost (Pipeline.pin pcfgs fun _ => adm m hO) (tiles m hO) 0 (entry m) r ∧ r.2.sem = fun _ => 0 :=
  Pipeline.θ_run_frameP (Q' := _) pcfgs (fun _ => adm m hO) (tiles m hO) (0 : Fin 1) launch0 defs₀ Variants.none m ρ main
    (hbody := fun c => (bodies m hO c).loose) (hshare := fun c => (tiles m hO 0 c).share_full fun _ => rfl)
    (howed := fun _ _ => rfl) (V := entry m) (hmain := upto m Variants.none) (hA := tiles_array m hO) (hpf := tbl_found m) (hΦ := fun _ _ => rfl)

end Cert.PairBwd.Value

end
-- ==== Proof.Pair.Table.lean ====
module

public import proofs.«01_k».proof.Proof.Pair.Run

/-! The table of the pairwise sum: which of the eight blocks of the gradient each of a tile's four points takes. -/

@[expose] public section

set_option maxRecDepth 16384

noncomputable section

open Idealize.ShloMosaic Idealize.ShloMosaic.TcCoe Idealize.SL.Sem

namespace Cert.PairBwd.Value

open Cert.PairBwd Cert.PairBwd.Gen

variable {F : FTy → Type} [FloatOps F] (m : (ℓ : Loc nD τ sig) → Buf (Elt F) ℓ)

/-- The block of each of the four points: this device's own, then those for the three other chips. -/
def slot : Fin 4 → Fin 8 := ![0, 4, 2, 6]

/-- The table holds the four numbers. -/
theorem table : (tbl m 0 : Vec F S4 .i32) = fun j => lit0 (S4.rowMajor j) := by
  show (entry m 0 main_c : Vec F S4 .i32) = _
  unfold entry
  entry_read
  rfl

/-- The number that a point reads from it. -/
theorem word (i : grid0.Coords) :
    (tbl m).at 0 (Rect.unit (s := S4) (k0_off1 i) S1.size (Facts₀.k0_off1_inb i)) Facts₀.numel1_S1 = BitVec.ofNat 32 (slot (i 1)).val :=
  (congrFun (table m) _).trans ((by decide +kernel : ∀ i : grid0.Coords,
    lit0 (S4.rowMajor ((Rect.unit (s := S4) (k0_off1 i) S1.size (Facts₀.k0_off1_inb i)).point Facts₀.numel1_S1)) = BitVec.ofNat 32 (slot (i 1)).val) i)

/-- Where the first argument's block stands at a point. -/
theorem place (i : grid0.Coords) : cc0_transform_0 Facts₀.k0_off1_inb Facts₀.numel1_S1 (tbl m) i = ![(slot (i 1)).val, (i 0).val, 0] := by
  have h := word m i
  refine Eq.trans (b := ![(BitVec.ofNat 32 (slot (i 1)).val).toNat, (BitVec.ofNat 32 (i 0).val).toNat, 0]) ?_
    ((by decide +kernel : ∀ i : grid0.Coords, ![(BitVec.ofNat 32 (slot (i 1)).val).toNat, (BitVec.ofNat 32 (i 0).val).toNat, 0]
      = ![(slot (i 1)).val, (i 0).val, 0]) i)
  rw [← h]
  rfl

/-- So every block lies inside its array. -/
theorem ok : Ok m := by
  intro i
  refine ⟨fun a => ?_, .inr (Affine.block_words_dvd (of_decide_eq_true rfl) (by decide))⟩
  rw [place]
  exact (by decide +kernel : ∀ (i : grid0.Coords) a, ((![(slot (i 1)).val, (i 0).val, 0] : Fin 3 → ℕ) a + 1) * S1x592x1024.size a ≤ S8x1184x1024.size a) i a

/-- The run leaves both arguments and every counter as it found them. -/
theorem leaves (ρ : Dev nD → PrngReg) : θ_run defs (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c =>
    ⟨((h.1 c).2 main_arg0 (by decide : main_arg0 ∈ Pipeline.restRefs sig spec0)).trans (entry_parts m c),
      ((h.1 c).2 main_arg1 (by decide : main_arg1 ∈ Pipeline.restRefs sig spec0)).trans (entry_received m c)⟩, h.2⟩) (launched m (ok m) ρ)

end Cert.PairBwd.Value

end
-- ==== Proof.Pair.Final.lean ====
module

public import proofs.«01_k».proof.Proof.Pair.Table
public import proofs.«01_k».proof.Proof.Gen.PairRefIdeal.Read

/-! The two results of the pairwise sum as whole arrays. -/

@[expose] public section

set_option maxRecDepth 16384

noncomputable section

open Idealize.ShloMosaic Idealize.ShloMosaic.TcCoe Idealize.SL.Sem

namespace Cert.PairBwd.Value

open Cert.PairBwd Cert.PairBwd.Gen Cert.PairRefIdeal.Read

variable (m : (ℓ : Loc nD τ sig) → Buf (Elt Ideal) ℓ) (c : Dev nD) (t : Fin (cfgM m (ok m)).N)

/-- The arguments, as arrays of extended reals. -/
abbrev parts : FVec Ideal S8x1184x1024 .f32 := m ((c : Thread nD τ).loc main_arg0)
abbrev received : FVec Ideal S4x1184x1024 .f32 := m ((c : Thread nD τ).loc main_arg1)

/-- A row of the tile, as a row of the whole matrix. -/
def row (r : Fin 592) : Fin 1184 := ⟨t.val / 4 * 592 + r.val, by have := t.isLt; have : (cfgM m (ok m)).N = 8 := N_0; omega⟩

/-- Which of a tile's four points it is. -/
def turn : Fin 4 := ⟨t.val % 4, by omega⟩

theorem coords : grid0.coords t 1 = turn m t ∧ (grid0.coords t 0).val = t.val / 4 ∧ cc0_transform_1 (grid0.coords t) = ![t.val % 4, t.val / 4, 0]
    ∧ cc0_transform_2 (grid0.coords t) = ![t.val / 4, 0] ∧ cc0_transform_3 (grid0.coords t) = ![t.val % 4 - 1, t.val / 4, 0] :=
  (by decide +kernel : ∀ t : Fin grid0.N, grid0.coords t 1 = ⟨t.val % 4, Nat.mod_lt _ (by decide)⟩ ∧ (grid0.coords t 0).val = t.val / 4
    ∧ cc0_transform_1 (grid0.coords t) = ![t.val % 4, t.val / 4, 0] ∧ cc0_transform_2 (grid0.coords t) = ![t.val / 4, 0]
    ∧ cc0_transform_3 (grid0.coords t) = ![t.val % 4 - 1, t.val / 4, 0]) t

/-- An entry of a tile of a stack of matrices. -/
theorem spot {n : ℕ} {f : Fin 3 → ℕ} (j : Fin n) (h : f = ![j.val, t.val / 4, 0]) (r : Fin 592) (k : Fin 1024)
    {i : (⟨3, ![n, 1184, 1024]⟩ : Shape).Idx} (h0 : (i 0).val = f 0 * 1 + 1 * 0) (h1 : (i 1).val = f 1 * 592 + 1 * r.val)
    (h2 : (i 2).val = f 2 * 1024 + 1 * k.val) : i = ix3 j (row m t r) k := by
  subst h
  funext a
  refine Fin.ext ?_
  match a with
  | ⟨0, _⟩ => exact h0.trans (by simp)
  | ⟨1, _⟩ => exact h1.trans (by simp [row])
  | ⟨2, _⟩ => exact h2.trans (by simp)

theorem read_ours (r : Fin 592) (k : Fin 1024) : ours m (ok m) c t (ix3 0 r k) = parts m c (ix3 (slot (turn m t)) (row m t r) k) :=
  (congrArg (entry m c main_v0) (spot m t (slot (turn m t)) ((place m (grid0.coords t)).trans (by rw [(coords m t).1, (coords m t).2.1])) r k rfl rfl rfl :
    (((cfgM m (ok m)).win 0).blk t).view.emb (ix3 0 r k) = _)).trans (by unfold entry; entry_read; pointwise)

theorem read_theirs (r : Fin 592) (k : Fin 1024) : theirs m (ok m) c t (ix3 0 r k) = received m c (ix3 (turn m t) (row m t r) k) :=
  (congrArg (entry m c main_v1) (spot m t (turn m t) (coords m t).2.2.1 r k rfl rfl rfl :
    (((cfgM m (ok m)).win 1).blk t).view.emb (ix3 0 r k) = _)).trans (by unfold entry; entry_read; pointwise)

theorem place_own (r : Fin 592) (k : Fin 1024) : (((cfgM m (ok m)).win 2).blk t).view.emb (ix2 r k) = ix2 (row m t r) k := by
  funext a
  refine Fin.ext ?_
  have h := (coords m t).2.2.2.1
  match a with
  | ⟨0, _⟩ => show cc0_transform_2 (grid0.coords t) 0 * 592 + 1 * r.val = _; rw [h]; simp [row]
  | ⟨1, _⟩ => show cc0_transform_2 (grid0.coords t) 1 * 1024 + 1 * k.val = _; rw [h]; simp

theorem place_sent (j : Fin 3) (h : t.val % 4 = j.val + 1) (r : Fin 592) (k : Fin 1024) :
    (((cfgM m (ok m)).win 3).blk t).view.emb (ix3 0 r k) = ix3 j (row m t r) k :=
  spot m t j ((coords m t).2.2.2.2.trans (by rw [h, Nat.add_sub_cancel])) r k rfl rfl rfl

/-- The sum at one entry. -/
theorem pay1 (x y : Vec Ideal S1x592x1024 .bf16) (r : Fin 592) (k : Fin 1024) :
    k0_pay1 x y (ix2 r k) = (x (ix3 0 r k) : EReal) + y (ix3 0 r k) := by
  pointwise [k0_pay1]

theorem pay2 (x y : Vec Ideal S1x592x1024 .bf16) (r : Fin 592) (k : Fin 1024) :
    k0_pay2 x y (ix3 0 r k) = (x (ix3 0 r k) : EReal) + y (ix3 0 r k) := by
  pointwise [k0_pay2, k0_pay1]

/-- The reference's two results at one entry. -/
theorem ref_own (X : FVec Ideal S8x1184x1024 .f32) (Y : FVec Ideal S4x1184x1024 .f32) (r : Fin 1184) (k : Fin 1024) :
    val_main_v4 (F := Ideal) X Y (ix2 r k) = (X (ix3 0 r k) : EReal) + Y (ix3 0 r k) := by
  pointwise [val_main_v0, val_main_v1, val_main_v2, val_main_v3, val_main_v4]

theorem ref_sent (X : FVec Ideal S8x1184x1024 .f32) (Y : FVec Ideal S4x1184x1024 .f32) (j : Fin 3) (r : Fin 1184) (k : Fin 1024) :
    val_main_v24 (F := Ideal) X Y (ix3 j r k) = (X (ix3 (slot j.succ) r k) : EReal) + Y (ix3 j.succ r k) := by
  fin_cases j
  all_goals
    pointwise [val_main_v5, val_main_v6, val_main_v7, val_main_v8, val_main_v9, val_main_v10, val_main_v11, val_main_v12, val_main_v13,
      val_main_v14, val_main_v15, val_main_v16, val_main_v17, val_main_v18, val_main_v19, val_main_v20, val_main_v21, val_main_v22,
      val_main_v23, val_main_v24]
    rfl

/-- Every entry of the first result lies in a tile, written back at the tile's last point. -/
theorem tiled_own (i : S1184x1024.Idx) : ∃ (t : Fin (cfgM m (ok m)).N) (r : Fin 592) (k : Fin 1024), t.val % 4 = 3 ∧ i = ix2 (row m t r) k := by
  have h0 : (i 0).val < 1184 := (i 0).isLt
  have hN : (cfgM m (ok m)).N = 8 := N_0
  refine ⟨⟨(i 0).val / 592 * 4 + 3, by omega⟩, ⟨(i 0).val % 592, Nat.mod_lt _ (by omega)⟩, i 1,
    by show ((i 0).val / 592 * 4 + 3) % 4 = 3; omega, funext fun a => Fin.ext ?_⟩
  match a with
  | ⟨0, _⟩ => show (i 0).val = ((i 0).val / 592 * 4 + 3) / 4 * 592 + (i 0).val % 592; omega
  | ⟨1, _⟩ => rfl

/-- Every entry of the second lies in the tile that one of the three later points writes. -/
theorem tiled_sent (i : S3x1184x1024.Idx) : ∃ (t : Fin (cfgM m (ok m)).N) (j : Fin 3) (r : Fin 592) (k : Fin 1024),
    t.val % 4 = j.val + 1 ∧ i = ix3 j (row m t r) k := by
  have h0 : (i 0).val < 3 := (i 0).isLt
  have h1 : (i 1).val < 1184 := (i 1).isLt
  have hN : (cfgM m (ok m)).N = 8 := N_0
  refine ⟨⟨(i 1).val / 592 * 4 + (i 0).val + 1, by omega⟩, i 0, ⟨(i 1).val % 592, Nat.mod_lt _ (by omega)⟩, i 2,
    by show ((i 1).val / 592 * 4 + (i 0).val + 1) % 4 = (i 0).val + 1; omega, funext fun a => Fin.ext ?_⟩
  match a with
  | ⟨0, _⟩ => rfl
  | ⟨1, _⟩ => show (i 1).val = ((i 1).val / 592 * 4 + (i 0).val + 1) / 4 * 592 + (i 1).val % 592; omega
  | ⟨2, _⟩ => rfl

/-- This device's own sum. -/
theorem own_final : (tiles m (ok m) 0 c).arrAt 2 (cfgM m (ok m)).N = val_main_v4 (F := Ideal) (parts m c) (received m c) :=
  (tiles m (ok m) 0 c).arrAt_eq_of_emb 2 _ (fun t hf (y : S592x1024.Idx) => by
    rw [after_own]
    idx_vars y
    have ht : turn m (start m (ok m) t) = 0 := Fin.ext (by show t.val / 4 * 4 % 4 = 0; omega)
    have hr : row m (start m (ok m) t) y0 = row m t y0 := Fin.ext (by show t.val / 4 * 4 / 4 * 592 + _ = t.val / 4 * 592 + _; omega)
    have h : own m (ok m) c t (ix2 y0 y1) = (parts m c (ix3 0 (row m t y0) y1) : EReal) + received m c (ix3 0 (row m t y0) y1) := by
      unfold own
      rw [pay1, read_ours, read_theirs, ht, hr]
      rfl
    exact h.trans ((ref_own _ _ _ _).symm.trans (congrArg _ (place_own m t y0 y1).symm)))
    fun i => by
      obtain ⟨t, r, k, ht, rfl⟩ := tiled_own m i
      exact ⟨t, (flush_own m (ok m) t).mpr ht, place_own m t r k ▸ View.emb_mem_set _ _⟩

/-- The three sums for the other chips. -/
theorem sent_final : (tiles m (ok m) 0 c).arrAt 3 (cfgM m (ok m)).N = val_main_v24 (F := Ideal) (parts m c) (received m c) :=
  (tiles m (ok m) 0 c).arrAt_eq_of_emb 3 _ (fun t hf (y : S1x592x1024.Idx) => by
    rw [after_sent]
    idx_vars y
    have ht := (flush_sent m (ok m) t).mp hf
    obtain rfl : y0 = 0 := Subsingleton.elim _ _
    let j : Fin 3 := ⟨t.val % 4 - 1, by omega⟩
    have hj : t.val % 4 = j.val + 1 := by show t.val % 4 = t.val % 4 - 1 + 1; omega
    have hs : turn m t = j.succ := Fin.ext hj
    have h : sent m (ok m) c t (ix3 0 y1 y2) = (parts m c (ix3 (slot j.succ) (row m t y1) y2) : EReal) + received m c (ix3 j.succ (row m t y1) y2) := by
      unfold sent
      rw [pay2, read_ours, read_theirs, hs]
    exact h.trans ((ref_sent _ _ j _ _).symm.trans (congrArg _ (place_sent m t j hj y1 y2).symm)))
    fun i => by
      obtain ⟨t, j, r, k, hj, rfl⟩ := tiled_sent m i
      exact ⟨t, (flush_sent m (ok m) t).mpr (by omega), place_sent m t j hj r k ▸ View.emb_mem_set _ _⟩

/-- The run ends with the two results and the arguments as they were. -/
theorem run_named (ρ : Dev nD → PrngReg) : θ_run defs (onTc (τ := τ) (main (F := Ideal))) ⟨m, fun _ => 0, ρ⟩ fun r => ∀ c : Dev nD,
    r.2.mem ((c : Thread nD τ).loc main_v2_0) = val_main_v4 (F := Ideal) (parts m c) (received m c)
    ∧ r.2.mem ((c : Thread nD τ).loc main_v2_1) = val_main_v24 (F := Ideal) (parts m c) (received m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c =>
    ⟨((h c).1 2).trans (own_final m c), ((h c).1 3).trans (sent_final m c),
      ((h c).2 main_arg0 (by decide : main_arg0 ∈ Pipeline.restRefs sig spec0)).trans (entry_parts m c),
      ((h c).2 main_arg1 (by decide : main_arg1 ∈ Pipeline.restRefs sig spec0)).trans (entry_received m c)⟩)
    ((θ_run defs _ _).mono (fun _ h => h.1) (launched m (ok m) ρ))

end Cert.PairBwd.Value

end
-- ==== Proof.Pair.Claims.lean ====
module

public import proofs.«01_k».proof.Defs
public import proofs.«01_k».proof.Proof.Gen.PairBwdIdeal
public import proofs.«01_k».proof.Proof.Gen.PairRefIdeal.Run
public import proofs.«01_k».proof.Proof.Pair.Final

/-! The claims about the pairwise sum of the input projection's gradient. -/

@[expose] public section

set_option maxRecDepth 16384

noncomputable section

namespace Cert.Proof

open Idealize.ShloMosaic Idealize.SL.Sem

open Cert

/-- The kernel runs to its end and leaves its arguments. -/
theorem pair_frame : Cert.quiescent_PairBwd := fun m ρ _ => PairBwd.Value.leaves m ρ

/-- The bodies of the kernel are the same before it is idealized and after. -/
theorem pair_bodies : PairBwd.defs₀ (F := Ideal) = PairBwdIdeal.defs₀ (F := Ideal) :=
  congrArg Defs.onTc (funext fun l => match l with | ⟨0, _⟩ => rfl)

/-- And so are the definitions that the whole program runs with. -/
theorem pair_defs : PairBwd.defs (F := Ideal) = PairBwdIdeal.defs (F := Ideal) := congrArg (Pipeline.defs PairBwd.pcfgs) pair_bodies

/-- What a run of the kernel at the extended reals ends with, a run of the idealized kernel ends with. -/
theorem pair_same (m : (ℓ : Loc PairBwd.nD PairBwd.τ PairBwd.sig) → Buf (Elt Ideal) ℓ) (ρ : Dev PairBwd.nD → PrngReg) (Q)
    (h : θ_run (PairBwd.defs (F := Ideal)) (onTc (τ := PairBwd.τ) (PairBwd.main (F := Ideal))) ⟨m, fun _ => 0, ρ⟩ Q) :
    θ_run (PairBwdIdeal.defs (F := Ideal)) (onTc (τ := PairBwdIdeal.τ) (PairBwdIdeal.main (F := Ideal))) ⟨m, fun _ => 0, ρ⟩ Q :=
  pair_defs ▸ h

/-- So does the idealized kernel, which is the same program at the extended reals. -/
theorem pair_frame_ideal : Cert.quiescent_PairBwdIdeal := fun m ρ _ =>
  pair_same m ρ _ (PairBwd.Value.leaves (F := Ideal) m ρ)

/-- The reference runs to its end and leaves its arguments. -/
theorem pair_frame_ref : Cert.quiescent_PairRefIdeal := by
  intro m ρ _
  exact (θ_run _ _ _).mono (fun r h => ⟨fun c => (h c).2.2, sem_eq_zero_of_no_sems (by decide) r.2⟩)
    (Cert.PairRefIdeal.Value.run m ρ)

set_option maxHeartbeats 1600000 in
/-- The two results agree with the reference's, from every memory. -/
theorem pair_value : Cert.algebraic_PairBwdIdeal_PairRefIdeal := by
  pair_intro
  · run_from pair_same m g _ (Cert.PairBwd.Value.run_named m g)
  · run_from Cert.PairRefIdeal.Value.run m' g'
    all_goals obtain ⟨h0, h1⟩ := hagree c
    · exact PairRefIdeal.Read.val_main_v4_eq ..
    · exact PairRefIdeal.Read.val_main_v24_eq ..

end Cert.Proof

end
-- ==== Proof.Exchange.lean ====
module

public import Idealize.ShloMosaic.Harness.Basic
public import Idealize.ShloMosaic.Lib.Pipeline.BigSepL
public import Idealize.ShloMosaic.Lib.Pipeline.Launch
public import Idealize.ShloMosaic.Lib.Pipeline.Kit
public import Idealize.ShloMosaic.Lib.Ring
public import Idealize.ShloMosaic.Lib.Tactic
public import Idealize.ShloMosaic.Lib.Quiescent

/-! What the exchanges between devices have in common: how the counters are opened at the start, and how a program that is one
call without staged arrays runs on all devices. -/

@[expose] public section

set_option maxRecDepth 16384

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] {nD : ℕ} {τ : Topo} {sig : RefSig}

section Counters

/-- The ghost state: the launch's part, and one copy counted on each counter. -/
abbrev U1 (nD : ℕ) (τ : Topo) (sig : RefSig) : Type := UR sig nD τ × URounds (GSem nD τ sig) Unit

local notation "𝕄" => MT nD τ sig Unit (Elt F) ℕ (U1 nD τ sig) ℕ

/-- The copies' part of it. -/
abbrev E1 : Emb (URounds (GSem nD τ sig) Unit) 𝕄 := embR

variable (plan : Rounds.Schedule (GSem nD τ sig) Unit (MT nD τ sig Unit (Elt F) ℕ (U1 nD τ sig) ℕ))

/-- All counters of all devices, by name. -/
abbrev Name (nD : ℕ) (sig : RefSig) : Type := Dev nD × DmaSem sig

/-- The counter of a name. -/
abbrev counter (x : Name nD sig) : GSem nD τ sig := ((x.1 : Thread nD τ), .dma x.2)

/-- Different names name different counters. -/
theorem counter_inj : Function.Injective (counter : Name nD sig → GSem nD τ sig) := fun x y h =>
  Prod.ext (congrArg (fun g : GSem nD τ sig => g.1.1) h) (SemLoc.dma.inj (congrArg Prod.snd h))

/-- All counters. -/
def counters : Finset (GSem nD τ sig) := Finset.univ.map ⟨counter, counter_inj⟩
/-- All copies. -/
def copies : Finset (GSem nD τ sig × ℕ × Unit) :=
  Finset.univ.map ⟨fun x : Name nD sig => (counter x, 0, ()), fun _ _ h => counter_inj (congrArg Prod.fst h)⟩

/-- The state of the counters from which the proof starts. -/
def seed : U1 nD τ sig := (initOf ∅ ∅, initOf counters copies)

/-- A counter not yet opened. -/
def fresh (x : Name nD sig) : sProp 𝕄 :=
  iprop(roundState E1 plan (counter x) 0 ∗ reached E1 (counter x) 0 ∗ atPos E1 (counter x) 0 ∅ 0 ∗ dutyTok E1 (counter x) 0 ())

/-- The start holds every counter afresh. -/
theorem seeded : (ownU seed : sProp 𝕄) ⊢ |==> bigSep Finset.univ (fresh plan) := by
  have hC (Φ : GSem nD τ sig → sProp 𝕄) : bigSep counters Φ = bigSep Finset.univ fun x : Name nD sig => Φ (counter x) := by
    unfold counters; rw [bigSep_map]; rfl
  have hT : bigSep copies (fun x => (dutyTok E1 x.1 x.2.1 x.2.2 : sProp 𝕄)) = bigSep Finset.univ fun x : Name nD sig => dutyTok E1 (counter x) 0 () := by
    unfold copies; rw [bigSep_map]; rfl
  have hF : iprop(bigSep counters (fun g => roundState E1 plan g 0) ∗ bigSep counters (fun g => reached E1 g 0) ∗ bigSep counters (fun g => atPos E1 g 0 ∅ 0)
      ∗ bigSep copies (fun x => dutyTok E1 x.1 x.2.1 x.2.2)) ⊢ (bigSep Finset.univ (fresh plan) : sProp 𝕄) := by
    rw [hC, hC, hC, hT, ← bigSep_sep', ← bigSep_sep', ← bigSep_sep']
    exact BI.Entails.refl _
  unfold seed
  iintro Hu
  ihave H := (ownU_pair _ _) $$ Hu
  icases H with ⟨-, HX⟩
  imod (Rounds.fund E1 plan counters copies) $$ HX with H
  imodintro
  iapply hF; iexact H

/-- A counter opened: every device may know of it. -/
def opened (x : Name nD sig) : sProp 𝕄 := iprop((∃ κ : ℕ, cellInv E1 plan κ (counter x)) ∗ reached E1 (counter x) 0)

/-- What is known may be told to many. -/
instance opened_persistent (x : Name nD sig) : BI.Persistent (opened plan x) := by unfold opened; infer_instance

/-- A counter that stands at zero is opened. -/
theorem opening (kept : ∀ g r k, BI.Storable (upEmb : UEmb _ 𝕄) (plan.payload g r k)) (x : Name nD sig) : iprop(semVal (counter x) 0 ∗ fresh plan x)
    ⊢ |={Set.univ}=> iprop(opened plan x ∗ atPos E1 (counter x) 0 ∅ 0 ∗ dutyTok E1 (counter x) 0 ()) := by
  haveI := kept (counter x)
  unfold fresh opened
  iintro ⟨Hv, Hs, Hr, Ha, Ht⟩
  imod ((Rounds.body_intro E1 plan (counter x)).trans inv_alloc) $$ [Hv Hs] with HI
  · isplitl [Hv] <;> iassumption
  imodintro
  isplitl [HI Hr]
  · isplitl [HI] <;> iassumption
  isplitl [Ha] <;> iassumption

/-- All counters opened. -/
def known : sProp 𝕄 := bigSep Finset.univ (opened plan)

/-- This, too, may be told to many. -/
instance known_persistent : BI.Persistent (known plan : sProp 𝕄) := by unfold known; infer_instance

/-- Of one counter, from what is known of all. -/
theorem known_one (s : DmaSem sig) (c : Dev nD) : (known plan : sProp 𝕄) ⊢ opened plan (c, s) := bigSep_elim (Finset.mem_univ (c, s))

/-- All counters are opened. -/
theorem all_open (kept : ∀ g r k, BI.Storable (upEmb : UEmb _ 𝕄) (plan.payload g r k)) :
    iprop((bigSep Finset.univ fun x : Name nD sig => (semVal (counter x) 0 : sProp 𝕄)) ∗ bigSep Finset.univ (fresh plan))
      ⊢ |={Set.univ}=> iprop(known plan ∗ (bigSep Finset.univ fun x : Name nD sig => atPos E1 (counter x) 0 ∅ 0)
        ∗ bigSep Finset.univ fun x : Name nD sig => dutyTok E1 (counter x) 0 ()) := by
  unfold known
  rw [← bigSep_sep', ← bigSep_sep', ← bigSep_sep']
  exact (bigSep_mono fun x _ => opening plan kept x).trans (bigSep_fupd _ _)

/-- What may be told to many is told to every device. -/
theorem told (P : sProp 𝕄) [BI.Persistent P] (S : Finset (Dev nD)) : P ⊢ bigSep S fun _ => P := by
  induction S using Finset.induction_on with
  | empty => rw [bigSep_empty]; iintro -; iempintro
  | insert a S ha ih =>
    rw [bigSep_insert ha]
    show P ⊢ iprop(P ∗ bigSep S fun _ => P)
    iintro #H
    isplitr; · iexact H
    iapply ih; iexact H

end Counters

section Run

variable {U : Type} [URA U]

local notation "𝕄" => MT nD τ sig Unit (Elt F) ℕ U ℕ

variable (m : (ℓ : Loc nD τ sig) → Buf (Elt F) ℓ) (ρ : Dev nD → PrngReg)

/-- The start, for all devices at once: what each has of its own is put together and dealt. -/
theorem start (debt : Dev nD → CellTallies nD τ sig Unit) (seed : U) (own share credit : Dev nD → sProp 𝕄)
    (one : ∀ c : Dev nD, coreInit (Ix := Unit) (Name := ℕ) (U := U) (Lvl := ℕ) (Pipeline.owing debt) 0 (⟨m, fun _ => 0, ρ⟩ : MemSt nD τ sig (Elt F)) (c : Thread nD τ)
      ⊢ iprop(own c ∗ scopedBufs (c : Thread nD τ) ∗ owes (c : Thread nD τ) (debt c) ∅ ∗ credit c))
    (dealt : iprop(ownU seed ∗ bigSep Finset.univ fun c : Dev nD => own c) ⊢ (|={Set.univ}=> bigSep Finset.univ fun c : Dev nD => share c : sProp 𝕄)) :
    iprop((bigSep Finset.univ fun c : Dev nD => coreInit (Ix := Unit) (Name := ℕ) (U := U) (Lvl := ℕ) (Pipeline.owing debt) 0
        (⟨m, fun _ => 0, ρ⟩ : MemSt nD τ sig (Elt F)) (c : Thread nD τ)) ∗ ownU seed)
      ⊢ (|={Set.univ}=> ∃ _ : Unit, iprop((bigSep Finset.univ fun c : Dev nD =>
        iprop(scopedBufs (c : Thread nD τ) ∗ owes (c : Thread nD τ) (debt c) ∅ ∗ share c ∗ credit c)) ∗ emp) : sProp 𝕄) := by
  have h := (bigSep_mono (s := Finset.univ) fun c _ => one c)
  simp only [bigSep_sep'] at h
  iintro ⟨H, Hu⟩
  ihave H := (show BIBase.Entails _ _ from h) $$ H
  icases H with ⟨Hown, Hb, HO, Hc⟩
  imod dealt $$ [Hu Hown] with Hs
  · isplitl [Hu] <;> iassumption
  imodintro
  iexists ()
  isplitl
  · simp only [bigSep_sep']
    isplitl [Hb]; · iexact Hb
    isplitl [HO]; · iexact HO
    isplitl [Hs] <;> iassumption
  iempintro

section Call

variable {Λ₀ : Labels} (cfgs : Fin 1 → Pipeline.Cfg sig Λ₀) [IsEmpty (Fin (cfgs 0).W)]
  (data : (p : Fin 1) → (c : Dev nD) → Dat τ (Elt F) Unit ℕ U ℕ (cfgs p) c)
  (ER : Emb (URounds (GSem nD τ sig) Unit) (MT nD τ sig Unit (Elt F) ℕ U ℕ))

/-- Where nothing is staged there is nothing to hold for it. -/
theorem unstaged {W : Type} [Fintype W] [IsEmpty W] (Φ : W → sProp 𝕄) : (iprop(emp) : sProp 𝕄) ⊢ bigSep Finset.univ Φ := by
  rw [Finset.univ_eq_empty, bigSep_empty]; exact BI.Entails.refl _

/-- The debt is all that the call's start needs. -/
theorem enter (c : Dev nD) : (owes (c : Thread nD τ) ((data 0 c).owed 0) ∅ : sProp 𝕄) ⊢ Pipeline.EntryPre cfgs data () ER (fun _ => 0) (0 : Fin 1) c := by
  refine BIBase.Entails.trans ?_ (show iprop((data 0 c).arrays ((data 0 c).arrAt · 0) ∗ (data 0 c).owesAt () 0
    ∗ Pipeline.cellsWaits cfgs data () (0 : Fin 1) c ∗ Pipeline.cellsInit cfgs data ER (fun _ => 0) (0 : Fin 1) c
    ∗ Pipeline.toksInit cfgs ER (0 : Fin 1) c) ⊢ _ from BI.Entails.refl _)
  iintro HO
  isplitr; · iapply (show (iprop(emp) : sProp 𝕄) ⊢ (data 0 c).arrays ((data 0 c).arrAt · 0) from unstaged _); iempintro
  isplitl
  · unfold Dat.owesAt Pipeline.owesWithin
    iexists ∅
    isplitr; · ipureintro; rw [Finset.coe_empty]; exact Set.empty_subset _
    iexact HO
  isplitr; · iapply (show (iprop(emp) : sProp 𝕄) ⊢ Pipeline.cellsWaits cfgs data () (0 : Fin 1) c from unstaged _); iempintro
  isplitr; · iapply (show (iprop(emp) : sProp 𝕄) ⊢ Pipeline.cellsInit cfgs data ER (fun _ => 0) (0 : Fin 1) c from unstaged _); iempintro
  iapply (show (iprop(emp) : sProp 𝕄) ⊢ Pipeline.toksInit cfgs ER (0 : Fin 1) c from unstaged _); iempintro

/-- At the call's end no debt is left. -/
theorem leave (c : Dev nD) (h : (data 0 c).owed (Fin.last (cfgs 0).N) = 0) : Pipeline.EntryPost cfgs data () (0 : Fin 1) c
    ⊢ (iprop(∃ W, owes (c : Thread nD τ) 0 W) : sProp 𝕄) := by
  refine BIBase.Entails.trans (show _ ⊢ iprop((data 0 c).arrays ((data 0 c).arrAt · (cfgs 0).N) ∗ (data 0 c).owesAt () (Fin.last (cfgs 0).N)) from BI.Entails.refl _) ?_
  unfold Dat.owesAt Pipeline.owesWithin
  rw [h]
  iintro ⟨-, ⟨%W, -, HO⟩⟩
  iexists W; iexact HO

include ER in
/-- One device makes its call. -/
theorem device (defs₀ : Defs nD τ sig (Elt F) Λ₀) (𝒱₀ : Variants) (apart : Function.Injective (Pipeline.cellOf (nD := nD) (τ := τ) cfgs))
    (c : Dev nD) (result : Dev nD → sProp 𝕄) (body : BodyObligation (data 0 c) defs₀ 𝒱₀ () Set.univ)
    (paid : (data 0 c).owed (Fin.last (cfgs 0).N) = 0)
    (buffers : (scopedBufs (c : Thread nD τ) : sProp 𝕄) = iprop(Dat.staging (cfgs 0) c ∗ emp))
    (ended : iprop((data 0 c).Φ (Fin.last (cfgs 0).N) ∗ Pipeline.cellsSems0 cfgs 0 c ∗ Dat.staging (cfgs 0) c)
      ⊢ iprop(result c ∗ scopedSems0 (c : Thread nD τ) ∗ scopedBufs (c : Thread nD τ))) :
    iprop(scopedBufs (c : Thread nD τ) ∗ owes (c : Thread nD τ) ((data 0 c).owed 0) ∅ ∗ (data 0 c).Φ 0)
      ⊢ wp frame (wpE (Pipeline.defs (fun p => (cfgs p).toPCfg (Val := Elt F)) defs₀) (Variants.lift 𝒱₀) (c : Thread nD τ) none) Set.univ
        (.op (.customCall (Pipeline.entry (0 : Fin 1)) ()) fun _ => .ret ⟨⟩
          : Prog (TpuEff nD τ sig (Elt F) (Pipeline.Sig Λ₀ (Fin 1) fun p => ((cfgs p).toPCfg (Val := Elt F)).Adm) .tc) PUnit)
        (fun _ => post (liftTc (fun c => iprop(result c ∗ scopedSems0 (c : Thread nD τ))) BI.emp) (c : Thread nD τ)) := by
  have begun : iprop((data 0 c).Φ 0 ∗ Pipeline.prefHeld ((cfgs 0).toPCfg (Val := Elt F)).pre c (fun _ => fullShare) (cfgs 0).toPCfg_adm.1 ∗ emp)
      ⊢ (data 0 c).Φ 0 := by
    iintro ⟨H, -, -⟩
    iexact H
  have call := Pipeline.wp_customCall_entry (fun p => (cfgs p).toPCfg (Val := Elt F)) (fun p => (cfgs p).toPCfg_adm) data () ER (fun _ => 0) apart (0 : Fin 1) defs₀ 𝒱₀
      (fun _ => fullShare) c Set.univ (fun _ _ => Set.mem_univ _) body.loose (fun w => isEmptyElim (show Fin (cfgs 0).W from w)) none (fun u h => nomatch h)
      (Entails.of_eq buffers) begun ended (α := PUnit) (k := fun _ => .ret ⟨⟩)
      (Q := fun _ => post (liftTc (fun c => iprop(result c ∗ scopedSems0 (c : Thread nD τ))) BI.emp) (c : Thread nD τ))
  iintro ⟨Hb, HO, Hr⟩
  iapply call $$ [Hb HO Hr]
  · isplitl [HO]; · iapply (enter cfgs data ER c); iexact HO
    isplitr
    · iapply (show (iprop(emp) : sProp 𝕄) ⊢ Pipeline.prefHeld ((cfgs 0).toPCfg (Val := Elt F)).pre c (fun _ => fullShare) (cfgs 0).toPCfg_adm.1
        from unstaged (W := Fin 0) _)
      iempintro
    isplitl [Hr] <;> iassumption
  iintro ⟨Hp, Hy, Hz, -⟩
  rw [wp_ret]; imodintro
  unfold post; simp only [liftTc_tc]
  isplitl [Hy Hz]
  · isplitl [Hy] <;> iassumption
  iapply (leave cfgs data c paid); iexact Hp

end Call

/-- What the memory shows of one device at the end, from two arrays, in any share, and the counters. -/
theorem read (c : Dev nD) (a b : Loc nD τ sig) (p q : PosShare TreeShare) (f : Buf (Elt F) a) (g : Buf (Elt F) b) (s : Phys nD τ sig (Elt F)) :
    iprop((((a ↦{p} f) ∗ (b ↦{q} g)) ∗ scopedSems0 (c : Thread nD τ)) ∗ SI s) ⊢ (|={Set.univ}=> iprop(
      ⌜(s.mem.mem a = f ∧ s.mem.mem b = g) ∧ ∀ x : SemLoc sig, x.isScoped .tc = true → s.mem.sem ((c : Thread nD τ), x) = 0⌝ ∗ SI s) : sProp 𝕄) := by
  iintro ⟨⟨⟨Ha, Hv⟩, Hz⟩, HS⟩
  ihave %hz := (tcScoped_read_pers c s) $$ [Hz HS]
  · isplitl [Hz] <;> iassumption
  ihave Hr := (pointsTo_read_all ({()} : Finset Unit) (fun _ => a) (fun _ => f) s p) $$ [Ha HS]
  · isplitl [Ha]
    · iapply (Entails.of_eq bigSep_singleton.symm); iexact Ha
    iexact HS
  icases Hr with ⟨%ha, HS⟩
  ihave Hr := (pointsTo_read_all ({()} : Finset Unit) (fun _ => b) (fun _ => g) s q) $$ [Hv HS]
  · isplitl [Hv]
    · iapply (Entails.of_eq bigSep_singleton.symm); iexact Hv
    iexact HS
  icases Hr with ⟨%hv, HS⟩
  imodintro
  isplitr
  · ipureintro
    exact ⟨⟨ha () (Finset.mem_singleton_self _), hv () (Finset.mem_singleton_self _)⟩, hz⟩
  iexact HS

/-- The run of all devices: what each shows at the end holds, and every counter ends at zero. -/
theorem run {Λ : Labels} (defs : Defs nD τ sig (Elt F) Λ) (main : Dev nD → Prog (TpuEff nD τ sig (Elt F) Λ .tc) PUnit) (𝒱 : Variants)
    (debt : Dev nD → CellTallies nD τ sig Unit) (seed : U) (before after : Dev nD → sProp 𝕄)
    (shown : Dev nD → ((ℓ : Loc nD τ sig) → Buf (Elt F) ℓ) → Prop) (inside : ∀ x : SemLoc sig, x.isScoped .tc = true)
    (start : iprop((bigSep Finset.univ fun c : Dev nD => coreInit (Ix := Unit) (Name := ℕ) (U := U) (Lvl := ℕ) (Pipeline.owing debt) 0
        (⟨m, fun _ => 0, ρ⟩ : MemSt nD τ sig (Elt F)) (c : Thread nD τ)) ∗ ownU seed)
      ⊢ (|={Set.univ}=> ∃ _ : Unit, iprop((bigSep Finset.univ fun c : Dev nD => before c) ∗ emp) : sProp 𝕄))
    (device : ∀ c : Dev nD, before c ⊢ wp frame (wpE defs 𝒱 (c : Thread nD τ) none) Set.univ (main c) (fun _ => post (liftTc after BI.emp) (c : Thread nD τ)))
    (read : ∀ (c : Dev nD) (s : Phys nD τ sig (Elt F)), iprop(after c ∗ SI s) ⊢ (|={Set.univ}=> iprop(
      ⌜shown c s.mem.mem ∧ ∀ x : SemLoc sig, x.isScoped .tc = true → s.mem.sem ((c : Thread nD τ), x) = 0⌝ ∗ SI s) : sProp 𝕄)) :
    θ_run defs (onTc (τ := τ) main) ⟨m, fun _ => 0, ρ⟩ (fun r => (∀ c : Dev nD, shown c r.2.mem) ∧ r.2.sem = fun _ => 0) := by
  refine (θ_run defs _ _).mono (Q := fun r => (∀ c : Dev nD, shown c r.2.mem
      ∧ ∀ x : SemLoc sig, x.isScoped .tc = true → r.2.sem ((c : Thread nD τ), x) = 0) ∧ ∀ g : GSem nD τ sig, g.1.2 ≠ .tc → r.2.sem g = 0)
    (fun r hr => ⟨fun c => (hr.1 c).1, sem_eq_zero_of_scoped inside (sems_of_reads (fun c => (hr.1 c).2) hr.2)⟩)
    (adequate_tpu defs _ _ _
      (reflect_intro_fupd_tc_sems (X := Unit) (Ix := Unit) (Name := ℕ) (U := U) (Lvl := ℕ) 𝒱 (Pipeline.owing debt) 0
        (noBookings fun _ => le_rfl) (Pipeline.owing_of_ne debt) seed (fun _ => before) (fun _ => after) (fun _ => iprop(emp)) Set.univ
        start (fun _ c => device c) fun _ => ?_))
  iintro ⟨H, -, Hs⟩ %s HS
  ihave %h0 := (scSems_read_zero m ρ s) $$ [Hs HS]
  · isplitl [Hs] <;> iassumption
  imod (posts_fupd Finset.univ read s) $$ [H HS] with %h
  · isplitl [H] <;> iassumption
  imodintro
  ipureintro
  exact ⟨fun c => h c (Finset.mem_univ c), h0⟩

end Run

end Cert.Exchange

end
-- ==== Proof.Reduce.Setup.lean ====
module

public import proofs.«01_k».proof.Proof.Gen.ReduceBwd
public import proofs.«01_k».proof.Proof.Gen.ReduceBwd.Skeleton
public import proofs.«01_k».proof.Proof.Gen.ReduceBwd.Launch
public import proofs.«01_k».proof.Proof.Exchange

/-! The exchange between the two devices of a chip: which block goes where, and what the two counters
of a device count. Each device copies four blocks of its array into the other's result. -/

@[expose] public section

set_option maxRecDepth 16384

noncomputable section

namespace Cert.ReduceBwd.Value

open Cert.ReduceBwd Cert.ReduceBwd.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one part that the launch asks for and that stays unused, one part for the four
copies counted on each counter. -/
abbrev U2 : Type := UR sig nD τ × URounds (GSem nD τ sig) (Fin 4)

local notation "𝕄" => MT nD τ sig Unit (Elt F) ℕ U2 ℕ

/-- Where the state of the staging stands in the whole ghost state. -/
abbrev EL : Emb (UR sig nD τ) (MT nD τ sig Unit (Elt F) ℕ U2 ℕ) := embL
/-- And where the state of the exchange stands. -/
abbrev EX : Emb (URounds (GSem nD τ sig) (Fin 4)) (MT nD τ sig Unit (Elt F) ℕ U2 ℕ) := embR

variable (m : (ℓ : Loc nD τ sig) → Buf (Elt F) ℓ) (ρ : Dev nD → PrngReg)

/-- The other device of the chip. -/
def other (d : Dev nD) : Dev nD := ⟨1 - d.val, by have h := d.isLt; change 1 - d.val < 2; omega⟩

/-- The other of the other is the device itself. -/
theorem other_other (d : Dev nD) : other (other d) = d := by revert d; decide

/-- Changing sides, as a permutation of the two devices. -/
def sides : Dev nD ≃ Dev nD := ⟨other, other, other_other, other_other⟩

/-- The first copy goes to the other device. -/
theorem to1 (d : Dev nD) : (⟨k0_dev1 d, k0_dev1_lt d⟩ : Dev nD) = other d := by revert d; decide +kernel
/-- So does the second. -/
theorem to2 (d : Dev nD) : (⟨k0_dev2 d, k0_dev2_lt d⟩ : Dev nD) = other d := by revert d; decide +kernel
/-- So does the third. -/
theorem to3 (d : Dev nD) : (⟨k0_dev3 d, k0_dev3_lt d⟩ : Dev nD) = other d := by revert d; decide +kernel
/-- So does the fourth. -/
theorem to4 (d : Dev nD) : (⟨k0_dev4 d, k0_dev4_lt d⟩ : Dev nD) = other d := by revert d; decide +kernel

/-! ### The blocks -/

/-- Where the `k`-th copy of device `d` reads, as the kernel computes it. -/
def from_ (k : Fin 4) (d : Dev nD) : Fin 3 → ℕ :=
  match k with | 0 => k0_off1 d | 1 => k0_off2 d | 2 => k0_off3 d | 3 => k0_off4 d

/-- The chips in the order in which a device sends their blocks. -/
def order : Fin 4 → ℕ := ![0, 4, 2, 6]

/-- A copy reads the block that the other device keeps of its chip. -/
theorem from_eq : ∀ (k : Fin 4) (d : Dev nD), from_ k d = ![order k + (1 - d.val), 0, 0] := by decide +kernel
/-- That block lies in the argument. -/
theorem from_inb : ∀ (k : Fin 4) (d : Dev nD) (a : Fin 3), from_ k d a + S1x1184x1024.size a ≤ S8x1184x1024.size a := by decide +kernel

/-- Where it writes. -/
def into (k : Fin 4) : Fin 3 → ℕ := ![k.val, 0, 0]
/-- The block written lies in the result. -/
theorem into_inb : ∀ (k : Fin 4) (a : Fin 3), into k a + S1x1184x1024.size a ≤ S4x1184x1024.size a := by decide +kernel

/-- The block that the `k`-th copy of device `d` reads. -/
abbrev give (k : Fin 4) (d : Dev nD) : Memref sig .tc .hbm S1184x1024 .f32 :=
  ((Memref.whole main_arg0).slice (Rect.unit (s := S8x1184x1024) (from_ k d) S1x1184x1024.size (from_inb k d)) (fun _ => rfl)).squeeze
    S1184x1024 squeezes_S1x1184x1024_S1184x1024

/-- The block that it writes. -/
abbrev take (k : Fin 4) : Memref sig .tc .hbm S1184x1024 .f32 :=
  ((Memref.whole main_v1).slice (Rect.unit (s := S4x1184x1024) (into k) S1x1184x1024.size (into_inb k)) (fun _ => rfl)).squeeze
    S1184x1024 squeezes_S1x1184x1024_S1184x1024

/-- The entry of the other device's array that ends at entry `i` of a result. -/
def origin (d : Dev nD) (i : S4x1184x1024.Idx) : S8x1184x1024.Idx := fun a => match a with
  | ⟨0, _⟩ => ⟨order (i 0) + (1 - d.val), by
      have h : ∀ k : Fin 4, order k + (1 - d.val) < 8 := by revert d; decide
      exact h (i 0)⟩
  | ⟨1, _⟩ => ⟨(i 1).val, (i 1).isLt⟩
  | ⟨2, _⟩ => ⟨(i 2).val, (i 2).isLt⟩

/-- What device `c` ends holding: four blocks of the other device's array. -/
def landed (c : Dev nD) : Buf (Elt F) ((c : Thread nD τ).loc main_v1) :=
  fun i => m ((other c : Thread nD τ).loc main_arg0) (origin (other c) i)

/-- A copy puts into its block what the result is to hold there. -/
theorem copied (k : Fin 4) (c : Dev nD) (fd : Buf (Elt F) ((c : Thread nD τ).loc main_v1)) (i : Idx ((c : Thread nD τ).loc main_v1))
    (hi : i ∈ (take k).view.set) :
    (take k).view.write (Elt F) fd ((give k (other c)).view.read (Elt F) (m ((other c : Thread nD τ).loc main_arg0))) Finset.univ i = landed m c i := by
  obtain ⟨y, -, rfl⟩ := Finset.mem_map.mp hi
  refine (View.write_emb_of_mem (v := (take k).view) _ _ (Finset.mem_univ y)).trans ?_
  show m ((other c : Thread nD τ).loc main_arg0) ((give k (other c)).view.emb y) = _
  unfold landed
  refine congrArg _ (funext fun a => Fin.ext ?_)
  have hz : ∀ z : S1x1184x1024.Idx, (z 0).val = 0 := fun z => Nat.lt_one_iff.mp (z 0).isLt
  have hz' := hz (Shape.reshapeEquiv squeezes_S1x1184x1024_S1184x1024.numel_eq y)
  generalize hg : Shape.reshapeEquiv squeezes_S1x1184x1024_S1184x1024.numel_eq y = z at hz'
  have e1 : (give k (other c)).view.emb y = (Rect.unit (s := S8x1184x1024) (from_ k (other c)) S1x1184x1024.size (from_inb k (other c))).emb z := by
    rw [← hg]; rfl
  have e2 : (take k).view.emb y = (Rect.unit (s := S4x1184x1024) (into k) S1x1184x1024.size (into_inb k)).emb z := by
    rw [← hg]; rfl
  rw [e1, e2]
  have r1 : ∀ a, ((Rect.unit (s := S8x1184x1024) (from_ k (other c)) S1x1184x1024.size (from_inb k (other c))).emb z a).val
      = from_ k (other c) a + 1 * (z a).val := fun a => rfl
  have r2 : ∀ a, ((Rect.unit (s := S4x1184x1024) (into k) S1x1184x1024.size (into_inb k)).emb z a).val
      = into k a + 1 * (z a).val := fun a => rfl
  rw [r1, from_eq]
  generalize hw : (Rect.unit (s := S4x1184x1024) (into k) S1x1184x1024.size (into_inb k)).emb z = w at r2
  match a with
  | ⟨0, _⟩ =>
    have h0 : w 0 = k := Fin.ext ((r2 0).trans (by rw [hz']; rfl))
    show (order k + (1 - (other c).val)) + 1 * (z 0).val = order (w 0) + (1 - (other c).val)
    rw [h0, hz', Nat.mul_zero, Nat.add_zero]
  | ⟨1, _⟩ => exact (show 0 + 1 * (z 1).val = (w 1).val from (r2 1).symm)
  | ⟨2, _⟩ => exact (show 0 + 1 * (z 2).val = (w 2).val from (r2 2).symm)

/-! ### The blocks of the result, apart and together -/

/-- The entries that a copy writes. -/
theorem take_set (k : Fin 4) : (take k).view.set = (Rect.unit (s := S4x1184x1024) (into k) S1x1184x1024.size (into_inb k)).set := by
  exact (View.set_reshape (v := ((Memref.whole main_v1).slice (Rect.unit (s := S4x1184x1024) (into k) S1x1184x1024.size (into_inb k)) (fun _ => rfl)).view)
    squeezes_S1x1184x1024_S1184x1024.numel_eq).trans (View.set_slice_whole _ _)

/-- No two copies write the same entry. -/
theorem takes_apart (j k : Fin 4) (h : j ≠ k) : Disjoint (take j).view.set (take k).view.set := by
  rw [take_set, take_set]
  exact Ring.lead_disjoint (s := S4x1184x1024) 0 1 into S1x1184x1024.size into_inb (fun b => (Nat.one_mul _).symm) rfl j k h

/-- The entries of the result that the `k`-th copy writes. -/
abbrev part (k : Fin 4) : Finset S4x1184x1024.Idx := (take k).view.set

/-- Together they write every entry. -/
theorem takes_all : Finset.univ.biUnion part = Finset.univ :=
  (congrArg (Finset.univ.biUnion ·) (funext take_set)).trans
    (Ring.lead_cover (s := S4x1184x1024) 0 1 into S1x1184x1024.size into_inb (fun b => (Nat.one_mul _).symm) (by decide) rfl (by decide) rfl)

end Cert.ReduceBwd.Value

end
-- ==== Proof.Reduce.Protocol.lean ====
module

public import proofs.«01_k».proof.Proof.Reduce.Setup

/-! The protocol of the exchange. A device has two counters: one counts its own four copies as they leave,
one counts the four copies that arrive. When the second has counted four copies, the device holds its
result whole. -/

@[expose] public section

set_option maxRecDepth 16384

noncomputable section

namespace Cert.ReduceBwd.Value

open Cert.ReduceBwd Cert.ReduceBwd.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ U2 ℕ

variable (m : (ℓ : Loc nD τ sig) → Buf (Elt F) ℓ)

/-! ### The counters -/

/-- The counter of the copies that leave. -/
abbrev outS : DmaSem sig := ((cc0_scratch0.slice (Rect.unit (s := S1) ![0] S1.size inb_S1_S1_0)).squeeze S_ squeezes_S1_S_).sem
/-- The counter of the copies that arrive. -/
abbrev inS : DmaSem sig := ((cc0_scratch1.slice (Rect.unit (s := S1) ![0] S1.size inb_S1_S1_0)).squeeze S_ squeezes_S1_S_).sem

/-- The counter of the copies that have left device `c`. -/
abbrev outC (c : Dev nD) : GSem nD τ sig := ((c : Thread nD τ), .dma outS)
/-- The counter of the copies that have arrived at device `c`. -/
abbrev inC (c : Dev nD) : GSem nD τ sig := ((c : Thread nD τ), .dma inS)

/-- The two counters of a device differ. -/
theorem out_ne_in : (SemLoc.dma outS : SemLoc sig) ≠ .dma inS := by decide
/-- The counter of leaving copies belongs to the call. -/
theorem outS_scoped : (SemLoc.dma outS : SemLoc sig).isScoped .tc = true := by decide
/-- So does the counter of arriving copies. -/
theorem inS_scoped : (SemLoc.dma inS : SemLoc sig).isScoped .tc = true := by decide

/-- What one copy adds to a counter. -/
abbrev N : ℕ := (take 0).view.dmaCredit
/-- A block is not empty. -/
theorem N_pos : 0 < N := View.dmaCredit_pos _ (by decide)
/-- All four blocks are of one size. -/
theorem N_eq (k : Fin 4) : (take k).view.dmaCredit = N := rfl

/-- Waiting for a whole result is waiting for four copies. -/
theorem four : (Memref.whole main_v1 : Memref sig .tc .hbm S4x1184x1024 .f32).view.dmaCredit = 4 * N := by decide +kernel

/-! ### What the counters give -/

/-- Block `k` of device `c`'s result, holding what it is to hold. -/
def filled (c : Dev nD) (k : Fin 4) : sProp 𝕄 :=
  (take k).view.loc (c : Thread nD τ) ↦[(take k).view.set]{fullShare} landed m c

/-- A filled block may be kept in an invariant. -/
instance filled_storable (c : Dev nD) (k : Fin 4) : BI.Storable (upEmb : UEmb _ 𝕄) (filled m c k) := by unfold filled; infer_instance

/-- Four copies on each counter, all at once; what arrives is a block of the result. -/
def plan : Rounds.Schedule (GSem nD τ sig) (Fin 4) 𝕄 where
  duties g r := if r = 0 ∧ g.1.2 = .tc ∧ (g.2 = .dma outS ∨ g.2 = .dma inS) then Finset.univ else ∅
  amount _ _ _ := N
  payload g _ k := if g.2 = .dma inS then filled m g.1.1 k else iprop(emp)
  amount_pos _ _ _ _ := N_pos

/-- So may whatever a copy brings. -/
instance plan_storable (g : GSem nD τ sig) (r : ℕ) (k : Fin 4) : BI.Storable (upEmb : UEmb _ 𝕄) ((plan m).payload g r k) := by
  show BI.Storable upEmb (if g.2 = .dma inS then filled m g.1.1 k else iprop(emp))
  split <;> infer_instance

/-- Four copies are to leave. -/
theorem duties_out (c : Dev nD) : (plan m).duties (outC c) 0 = Finset.univ := by dsimp only [plan]; exact if_pos ⟨rfl, rfl, .inl rfl⟩
/-- Four copies are to arrive. -/
theorem duties_in (c : Dev nD) : (plan m).duties (inC c) 0 = Finset.univ := by dsimp only [plan]; exact if_pos ⟨rfl, rfl, .inr rfl⟩
/-- After them there are no others. -/
theorem duties_none (g : GSem nD τ sig) (r : ℕ) (h : 1 ≤ r) : (plan m).duties g r = ∅ := by
  dsimp only [plan]; exact if_neg fun e => by omega

/-- The counter of leaving copies rises by four blocks. -/
theorem expect_out (c : Dev nD) : (plan m).expect (outC c) 0 = 4 * N := by
  unfold Schedule.expect Schedule.amountOf; rw [duties_out]; exact (Finset.sum_const N).trans (by rw [smul_eq_mul]; rfl)
/-- The counter of arriving copies rises by four blocks. -/
theorem expect_in (c : Dev nD) : (plan m).expect (inC c) 0 = 4 * N := by
  unfold Schedule.expect Schedule.amountOf; rw [duties_in]; exact (Finset.sum_const N).trans (by rw [smul_eq_mul]; rfl)

/-- A copy that has left brings nothing. -/
theorem payload_out (c : Dev nD) (k : Fin 4) : (plan m).payload (outC c) 0 k = iprop(emp) := by dsimp only [plan]; exact if_neg out_ne_in
/-- A copy that has arrived brings its block, filled. -/
theorem payload_in (c : Dev nD) (k : Fin 4) : (plan m).payload (inC c) 0 k = filled m c k := by dsimp only [plan]; exact if_pos rfl

/-- The four that have arrived bring the whole result. -/
theorem all_in (c : Dev nD) : bigSep ((plan m).duties (inC c) 0 \ ∅) (fun k => (plan m).payload (inC c) 0 k)
    = (((c : Thread nD τ).loc main_v1) ↦{fullShare} landed m c : sProp 𝕄) := by
  rw [Finset.sdiff_empty, duties_in, Ring.pointsTo_blocks (ℓ := (c : Thread nD τ).loc main_v1) part takes_apart takes_all]
  exact bigSep_congr fun k _ => payload_in m c k

/-! ### What a device owes, and what it may claim -/

/-- A device owes the other four copies. -/
def debt (c : Dev nD) : CellTallies nD τ sig Unit := tallyAt (inC (other c)) () (4 * N)

/-- A copy made is one block less to owe. -/
theorem one_less (g : GSem nD τ sig) (n : ℕ) : (tallyAt g () ((n + 1) * N) : CellTallies nD τ sig Unit) = tallyAt g () (n * N) + tallyAt g () N := by
  rw [tallyAt_add, Nat.succ_mul]

/-- Counters of arriving copies are equal only on one device. -/
theorem same_cell {a b : Dev nD} : (inC a = inC b) ↔ a = b :=
  ⟨fun h => Fin.ext (congrArg (fun g : GSem nD τ sig => g.1.1.val) h), fun h => h ▸ rfl⟩

/-- All that is owed to a device is four blocks. -/
theorem debts (c : Dev nD) : ∑ d : Dev nD, debt d (inC c) () = 4 * N := by
  have h (d : Dev nD) : debt d (inC c) () = if d = other c then 4 * N else 0 := by
    unfold debt
    rw [tallyAt_apply]
    by_cases e : d = other c
    · subst e; rw [other_other, if_pos ⟨rfl, rfl⟩, if_pos rfl]
    · rw [if_neg fun h' => e (by rw [same_cell.mp h'.1, other_other]), if_neg e]
  rw [Finset.sum_congr rfl fun d _ => h d, Finset.sum_ite_eq' Finset.univ (other c) fun _ => 4 * N, if_pos (Finset.mem_univ _)]

/-- At the start a device may claim four arriving copies. -/
theorem claim (c : Dev nD) : (Pipeline.launchCred debt c : sProp 𝕄) ⊢ cred (tallyAt (inC c) () (4 * N)) := by
  have h : tallyOn (inC c) (launchCredit (Pipeline.owing debt) 0 (inC c)) = (tallyAt (inC c) () (4 * N) : CellTallies nD τ sig Unit) := by
    unfold tallyAt
    refine congrArg _ (Finsupp.ext fun u => ?_)
    cases u
    rw [Pipeline.launchCredit_owing, Finsupp.single_eq_same, debts]
  unfold Pipeline.launchCred
  rw [← h]
  exact bigSep_elim (Finset.mem_univ (SemLoc.dma inS))

/-! ### The ghost state -/

/-- The counter a pair names. -/
abbrev counter (x : Dev nD × Fin 2) : GSem nD τ sig := if x.2 = 0 then outC x.1 else inC x.1

/-- Different pairs name different counters. -/
theorem counter_inj : Function.Injective counter := by
  rintro ⟨c, k⟩ ⟨d, l⟩ h
  have h1 : c = d := by
    have e (x : Dev nD × Fin 2) : (counter x).1.1 = x.1 := by unfold counter; split <;> rfl
    have := congrArg (fun g : GSem nD τ sig => g.1.1) h
    exact (e (c, k)).symm.trans (this.trans (e (d, l)))
  subst h1
  have h2 : (counter (c, k)).2 = (counter (c, l)).2 := congrArg Prod.snd h
  have : k = l := by
    match k, l with
    | 0, 0 => rfl
    | 1, 1 => rfl
    | 0, 1 => exact absurd h2 out_ne_in
    | 1, 0 => exact absurd h2.symm out_ne_in
  rw [this]

/-- All counters of both devices. -/
def counters : Finset (GSem nD τ sig) := Finset.univ.map ⟨counter, counter_inj⟩
/-- All copies that they count. -/
def copies : Finset (GSem nD τ sig × ℕ × Fin 4) :=
  Finset.univ.map ⟨fun x : (Dev nD × Fin 2) × Fin 4 => (counter x.1, 0, x.2), fun x y h =>
    Prod.ext (counter_inj (congrArg Prod.fst h)) (congrArg (fun t => t.2.2) h)⟩

/-- The state of the counters from which the proof starts. -/
def seed : U2 := (initOf ∅ ∅, initOf counters copies)

/-- One thing for each device. -/
theorem over_devices (Φ : Dev nD → sProp 𝕄) : bigSep Finset.univ Φ = iprop(Φ 0 ∗ Φ 1) := bigSep_univ_eq_bigSepL [0, 1] (by decide) (by decide) Φ
/-- One thing for each counter. -/
theorem over_counters (Φ : Dev nD × Fin 2 → sProp 𝕄) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ
/-- One thing for each block. -/
theorem over_blocks (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The right to make the four copies that a counter counts. -/
def rights (g : GSem nD τ sig) : sProp 𝕄 := bigSep Finset.univ fun k : Fin 4 => dutyTok EX g 0 k

/-- A counter not yet opened: its state, its place at the start, the rights. -/
def fresh (g : GSem nD τ sig) : sProp 𝕄 :=
  iprop(roundState EX (plan m) g 0 ∗ reached EX g 0 ∗ atPos EX g 0 ∅ 0 ∗ rights g)

/-- The start holds every counter afresh. -/
theorem seeded : (ownU seed : sProp 𝕄) ⊢ |==> iprop(fresh m (outC 0) ∗ fresh m (inC 0) ∗ fresh m (outC 1) ∗ fresh m (inC 1)) := by
  have hC (Φ : GSem nD τ sig → sProp 𝕄) : bigSep counters Φ = iprop(Φ (outC 0) ∗ Φ (inC 0) ∗ Φ (outC 1) ∗ Φ (inC 1)) := by
    unfold counters; rw [bigSep_map, over_counters]; rfl
  have hT : bigSep copies (fun x => (dutyTok EX x.1 x.2.1 x.2.2 : sProp 𝕄))
      = iprop(rights (outC 0) ∗ rights (inC 0) ∗ rights (outC 1) ∗ rights (inC 1)) := by
    unfold copies; rw [bigSep_map, bigSep_univ_prod, over_counters]; rfl
  unfold seed
  iintro Hu
  ihave H := (ownU_pair _ _) $$ Hu
  icases H with ⟨-, HX⟩
  imod (Rounds.fund EX (plan m) counters copies) $$ HX with ⟨Hs, Hr, Ha, Ht⟩
  imodintro
  ihave Hs' := (Entails.of_eq (hC fun g => roundState EX (plan m) g 0)) $$ Hs
  ihave Hr' := (Entails.of_eq (hC fun g => reached EX g 0)) $$ Hr
  ihave Ha' := (Entails.of_eq (hC fun g => atPos EX g 0 ∅ 0)) $$ Ha
  ihave Ht' := (Entails.of_eq hT) $$ Ht
  icases Hs' with ⟨Hs1, Hs2, Hs3, Hs4⟩
  icases Hr' with ⟨Hr1, Hr2, Hr3, Hr4⟩
  icases Ha' with ⟨Ha1, Ha2, Ha3, Ha4⟩
  icases Ht' with ⟨Ht1, Ht2, Ht3, Ht4⟩
  unfold fresh
  isplitl [Hs1 Hr1 Ha1 Ht1]
  · isplitl [Hs1]; · iexact Hs1
    isplitl [Hr1]; · iexact Hr1
    isplitl [Ha1] <;> iassumption
  isplitl [Hs2 Hr2 Ha2 Ht2]
  · isplitl [Hs2]; · iexact Hs2
    isplitl [Hr2]; · iexact Hr2
    isplitl [Ha2] <;> iassumption
  isplitl [Hs3 Hr3 Ha3 Ht3]
  · isplitl [Hs3]; · iexact Hs3
    isplitl [Hr3]; · iexact Hr3
    isplitl [Ha3] <;> iassumption
  isplitl [Hs4]; · iexact Hs4
  isplitl [Hr4]; · iexact Hr4
  isplitl [Ha4] <;> iassumption

/-- A counter opened: its invariant, and what goes to the devices. -/
def opened (g : GSem nD τ sig) : sProp 𝕄 := iprop((∃ κ : ℕ, cellInv EX (plan m) κ g) ∗ reached EX g 0)

/-- Both devices may know of an opened counter. -/
instance opened_persistent (g : GSem nD τ sig) : BI.Persistent (opened m g) := by unfold opened; infer_instance

/-- A counter that stands at zero is opened. -/
theorem opening (g : GSem nD τ sig) : iprop(semVal g 0 ∗ fresh m g) ⊢ |={Set.univ}=> iprop(opened m g ∗ atPos EX g 0 ∅ 0 ∗ rights g) := by
  unfold fresh opened
  iintro ⟨Hv, Hs, Hr, Ha, Ht⟩
  imod (show iprop(semVal g 0 ∗ roundState EX (plan m) g 0) ⊢ (|={Set.univ}=> iprop(∃ κ : ℕ, cellInv EX (plan m) κ g) : sProp 𝕄)
    from (Rounds.body_intro EX (plan m) g).trans inv_alloc) $$ [Hv Hs] with HI
  · isplitl [Hv] <;> iassumption
  imodintro
  isplitl [HI Hr]
  · isplitl [HI] <;> iassumption
  isplitl [Ha] <;> iassumption

/-! ### What a device takes into the kernel -/

/-- Device `c` has its counters and the other's counter of arrivals, its place on its own two, the right to make
its copies, its array, and the result of the OTHER device, which it is to fill. -/
def share (c : Dev nD) : sProp 𝕄 :=
  iprop(opened m (outC c) ∗ opened m (inC c) ∗ opened m (inC (other c)) ∗ atPos EX (outC c) 0 ∅ 0 ∗ atPos EX (inC c) 0 ∅ 0
    ∗ rights (outC c) ∗ rights (inC (other c))
    ∗ (((c : Thread nD τ).loc main_arg0) ↦{fullShare} m ((c : Thread nD τ).loc main_arg0))
    ∗ (((other c : Thread nD τ).loc main_v1) ↦{fullShare} m ((other c : Thread nD τ).loc main_v1)))

/-- What a device has of its own before: its two counters at zero and its two arrays. -/
def own (c : Dev nD) : sProp 𝕄 :=
  iprop((semVal (outC c) 0 ∗ semVal (inC c) 0)
    ∗ (((c : Thread nD τ).loc main_arg0) ↦{fullShare} m ((c : Thread nD τ).loc main_arg0))
    ∗ (((c : Thread nD τ).loc main_v1) ↦{fullShare} m ((c : Thread nD τ).loc main_v1)))

/-- The two devices put together what they have, and each takes what it needs. -/
theorem dealt : iprop(ownU seed ∗ bigSep Finset.univ fun c : Dev nD => own m c) ⊢ (|={Set.univ}=> bigSep Finset.univ fun c : Dev nD => share m c : sProp 𝕄) := by
  rw [over_devices, over_devices]
  unfold own
  iintro ⟨Hu, ⟨⟨Hv1, Hv2⟩, Ha0, Hb0⟩, ⟨Hv3, Hv4⟩, Ha1, Hb1⟩
  imod (seeded m) $$ Hu with ⟨H1, H2, H3, H4⟩
  imod (opening m (outC 0)) $$ [Hv1 H1] with ⟨#Ho1, Hp1, Hr1⟩
  · isplitl [Hv1] <;> iassumption
  imod (opening m (inC 0)) $$ [Hv2 H2] with ⟨#Ho2, Hp2, Hr2⟩
  · isplitl [Hv2] <;> iassumption
  imod (opening m (outC 1)) $$ [Hv3 H3] with ⟨#Ho3, Hp3, Hr3⟩
  · isplitl [Hv3] <;> iassumption
  imod (opening m (inC 1)) $$ [Hv4 H4] with ⟨#Ho4, Hp4, Hr4⟩
  · isplitl [Hv4] <;> iassumption
  imodintro
  unfold share
  rw [show other 0 = 1 from rfl, show other 1 = 0 from rfl]
  isplitl [Hp1 Hp2 Hr1 Hr4 Ha0 Hb1]
  · isplitr; · iexact Ho1
    isplitr; · iexact Ho2
    isplitr; · iexact Ho4
    isplitl [Hp1]; · iexact Hp1
    isplitl [Hp2]; · iexact Hp2
    isplitl [Hr1]; · iexact Hr1
    isplitl [Hr4]; · iexact Hr4
    isplitl [Ha0] <;> iassumption
  isplitr; · iexact Ho3
  isplitr; · iexact Ho4
  isplitr; · iexact Ho2
  isplitl [Hp3]; · iexact Hp3
  isplitl [Hp4]; · iexact Hp4
  isplitl [Hr3]; · iexact Hr3
  isplitl [Hr2]; · iexact Hr2
  isplitl [Ha1] <;> iassumption

end Cert.ReduceBwd.Value

end
-- ==== Proof.Reduce.Body.lean ====
module

public import proofs.«01_k».proof.Proof.Reduce.Protocol

/-! The kernel on one device: four copies to the other device, a wait until they have left, and a wait until the
other's four copies have arrived. -/

@[expose] public section

set_option maxRecDepth 16384

noncomputable section

namespace Cert.ReduceBwd.Value

open Cert.ReduceBwd Cert.ReduceBwd.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ U2 ℕ

variable (m : (ℓ : Loc nD τ sig) → Buf (Elt F) ℓ)

/-- No loop of the body counts down. -/
abbrev 𝒱₀ : Variants := Variants.none

/-! ### Shares of the array that is read -/

/-- The part of the array that a device lends to its `k`-th copy. -/
def lent (k : Fin 4) : PosShare TreeShare := match k with
  | 0 => fullShare.right.left.left | 1 => fullShare.right.left.right
  | 2 => fullShare.right.right.left | 3 => fullShare.right.right.right

/-- What a device lends to its `k`-th copy. -/
def loan (c : Dev nD) (k : Fin 4) : sProp 𝕄 :=
  (give k c).view.loc (c : Thread nD τ) ↦[(give k c).view.set]{lent k} m ((c : Thread nD τ).loc main_arg0)

/-- A share of the whole argument is a share of the block that a copy reads. -/
theorem narrow (c : Dev nD) (k : Fin 4) :
    (((c : Thread nD τ).loc main_arg0) ↦{lent k} m ((c : Thread nD τ).loc main_arg0) : sProp 𝕄) ⊢ loan m c k := by
  unfold loan
  refine ((pointsTo_split_subset (Finset.subset_univ (give k c).view.set)).1).trans ?_
  iintro ⟨H, -⟩
  iexact H

/-- A device keeps half of its array and lends the rest. -/
theorem lend (c : Dev nD) :
    (((c : Thread nD τ).loc main_arg0) ↦{fullShare} m ((c : Thread nD τ).loc main_arg0) : sProp 𝕄)
      ⊢ iprop((((c : Thread nD τ).loc main_arg0) ↦{fullShare.left} m ((c : Thread nD τ).loc main_arg0))
        ∗ loan m c 0 ∗ loan m c 1 ∗ loan m c 2 ∗ loan m c 3) := by
  iintro H
  ihave H := ((pointsTo_share (PosShare.mem_left_op_right fullShare)).1) $$ H
  icases H with ⟨H, Hr⟩
  ihave Hr := ((pointsTo_share (PosShare.mem_left_op_right fullShare.right)).1) $$ Hr
  icases Hr with ⟨Hl, Hr⟩
  ihave Hl := ((pointsTo_share (PosShare.mem_left_op_right fullShare.right.left)).1) $$ Hl
  icases Hl with ⟨H0, H1⟩
  ihave Hr := ((pointsTo_share (PosShare.mem_left_op_right fullShare.right.right)).1) $$ Hr
  icases Hr with ⟨H2, H3⟩
  isplitl [H]; · iexact H
  isplitl [H0]; · iapply (narrow m c 0); iexact H0
  isplitl [H1]; · iapply (narrow m c 1); iexact H1
  isplitl [H2]; · iapply (narrow m c 2); iexact H2
  iapply (narrow m c 3); iexact H3

/-- Block `k` of the other device's result, to be filled. -/
def slot (c : Dev nD) (k : Fin 4) : sProp 𝕄 :=
  (take k).view.loc (other c : Thread nD τ) ↦[(take k).view.set]{fullShare} m ((other c : Thread nD τ).loc main_v1)

/-- The result of the other device is its four blocks. -/
theorem slots (c : Dev nD) :
    (((other c : Thread nD τ).loc main_v1) ↦{fullShare} m ((other c : Thread nD τ).loc main_v1) : sProp 𝕄)
      = iprop(slot m c 0 ∗ slot m c 1 ∗ slot m c 2 ∗ slot m c 3) :=
  (Ring.pointsTo_blocks (ℓ := (other c : Thread nD τ).loc main_v1) part takes_apart takes_all (m ((other c : Thread nD τ).loc main_v1))).trans
    (over_blocks (slot m c))

/-! ### One copy -/

/-- Every copy counts for one block. -/
theorem amount_eq (g : GSem nD τ sig) (r : ℕ) (k : Fin 4) : (plan m).amount g r k = N := by dsimp only [plan]

/-- One copy to the other device: it takes its loan, the place it fills and its two rights, and pays one copy of
what the device owes. -/
theorem wp_copy (c n : Dev nD) (hn : n = other c) (k : Fin 4) (left : ℕ) (κ₁ κ₂ : ℕ)
    {hsc : (take k).view.ref.isScScratch = false} {hsrc : (give k c).view.WordExact} {hdst : (take k).view.WordExact}
    {hsem : DmaTarget.Typed .hbm (.dma inS) (.remote (Dev.tc n : Thread nD τ) (take k) (.dma outS) hsc)}
    {α : Type} {Q : α → sProp 𝕄} {rest : PUnit → Prog (TpuEff nD τ sig (Elt F) Λ₀ .tc) α} (W : Waits sig Unit) :
    iprop(cellInv EX (plan m) κ₁ (outC c) ∗ cellInv EX (plan m) κ₂ (inC (other c)) ∗ loan m c k ∗ slot m c k
        ∗ owes (c : Thread nD τ) (tallyAt (inC (other c)) () ((left + 1) * N)) W
        ∗ dutyTok EX (outC c) 0 k ∗ reached EX (outC c) 0 ∗ dutyTok EX (inC (other c)) 0 k ∗ reached EX (inC (other c)) 0)
      ⊢ iprop(((cred (tallyAt (outC c) () N) ∗ owes (c : Thread nD τ) (tallyAt (inC (other c)) () (left * N)) W)
            -∗ wp frame (wpE (defs₀ (F := F)) 𝒱₀ (c : Thread nD τ) none) Set.univ (rest ⟨⟩) Q)
          -∗ wp frame (wpE (defs₀ (F := F)) 𝒱₀ (c : Thread nD τ) none) Set.univ
              (.op (.enqueueDma (give k c) (.remote (Dev.tc n : Thread nD τ) (take k) (.dma outS) hsc) (.dma inS) hsrc hdst hsem) rest) Q) := by
  subst hn
  have hN : (take k).view.amount (.dma inS) = N := N_eq k
  have h₁ : loan m c k ⊢ (plan m).payload (outC c) 0 k := by rw [payload_out]; iintro -; iempintro
  have h₂ : ((take k).view.loc (other c : Thread nD τ) ↦[(take k).view.set]{fullShare}
      ((take k).view.write (Elt F) (m ((other c : Thread nD τ).loc main_v1)) ((give k c).view.read (Elt F) (m ((c : Thread nD τ).loc main_arg0))) Finset.univ)
      : sProp 𝕄) ⊢ (plan m).payload (inC (other c)) 0 k := by
    rw [payload_in]; unfold filled
    refine Entails.of_eq (pointsTo_congr fun i hi => ?_)
    have h := copied m k (other c) (m ((other c : Thread nD τ).loc main_v1)) i hi
    rw [other_other] at h
    exact h
  unfold loan at h₁ ⊢
  unfold slot
  exact Rounds.wp_send_pointsTo (src := give k c) (dst := take k) 𝒱₀ EX (plan m) (c : Thread nD τ) none (c' := (other c : Thread nD τ))
    (sS := .dma outS) (sem := .dma inS) (κ₁ := κ₁) (κ₂ := κ₂) (q := lent k) (fs := m ((c : Thread nD τ).loc main_arg0))
    (r₁ := 0) (r₂ := 0) (d₁ := k) (d₂ := k) (fd := m ((other c : Thread nD τ).loc main_v1))
    (by rw [duties_out]; exact Finset.mem_univ _) (by rw [duties_in]; exact Finset.mem_univ _)
    () () N hN (amount_eq m _ _ _) (amount_eq m _ _ _) _ (one_less _ left) (W := W) h₁ h₂

/-! ### The kernel -/

/-- What a device ends with: half of its array as it was, its result, its counters at zero. -/
def kept (c : Dev nD) : sProp 𝕄 :=
  iprop((((c : Thread nD τ).loc main_arg0) ↦{fullShare.left} m ((c : Thread nD τ).loc main_arg0))
    ∗ (((c : Thread nD τ).loc main_v1) ↦{fullShare} landed m c) ∗ semVal (outC c) 0 ∗ semVal (inC c) 0)

/-- Four copies that have left. -/
theorem joined (g : GSem nD τ sig) :
    iprop(cred (tallyAt g () N) ∗ cred (tallyAt g () N) ∗ cred (tallyAt g () N) ∗ cred (tallyAt g () N)) ⊢ (cred (tallyAt g () (4 * N)) : sProp 𝕄) := by
  have e : (tallyAt g () (4 * N) : CellTallies nD τ sig Unit) = tallyAt g () N + (tallyAt g () N + (tallyAt g () N + tallyAt g () N)) := by
    rw [tallyAt_add, tallyAt_add, tallyAt_add]; congr 1
  rw [e]
  iintro ⟨H0, H1, H2, H3⟩
  iapply ((cred_add _ _).2)
  isplitl [H0]; · iexact H0
  iapply ((cred_add _ _).2)
  isplitl [H1]; · iexact H1
  iapply ((cred_add _ _).2)
  isplitl [H2] <;> iassumption

/-- Credit for four blocks, however their size is written. -/
theorem credit (g : GSem nD τ sig) (n : ℕ) (h : n = 4 * N) : (cred (tallyAt g () (4 * N)) : sProp 𝕄) ⊢ cred (tallyAt g () n) := by
  rw [h]

set_option maxHeartbeats 1600000 in
/-- The kernel on device `c`. -/
theorem sound (c : Dev nD) (W : Waits sig Unit) (K : PUnit → sProp 𝕄) :
    iprop((share m c ∗ cred (tallyAt (inC c) () (4 * N)) ∗ owes (c : Thread nD τ) (debt c) W)
        ∗ ((kept m c ∗ ∃ W', owes (c : Thread nD τ) 0 W') -∗ K ⟨⟩))
      ⊢ wp frame (wpE (defs₀ (F := F)) 𝒱₀ (c : Thread nD τ) none) Set.univ
          (cc0_reduce_pair (Memref.whole main_arg0) (Memref.isWhole_whole _) (Memref.whole main_v1) (Memref.isWhole_whole _) cc0_scratch0 cc0_scratch1) K := by
  rw [cc0_reduce_pair_eq_skeleton]; unfold cc0_reduce_pair_skel
  rw [k0_part1_eq_skeleton, k0_part2_eq_skeleton, k0_part3_eq_skeleton]; unfold k0_part1_skel k0_part2_skel k0_part3_skel
  simp only [Prog.lift, Prog.bind_op, Prog.bind_ret, Prog.pure_eq_ret, wp_deviceId]
  unfold share opened rights debt
  rw [over_blocks, over_blocks]
  iintro ⟨⟨⟨⟨⟨%κo, #Io⟩, #Ro⟩, ⟨⟨%κi, #Ii⟩, #Ri⟩, ⟨⟨%κp, #Ip⟩, #Rp⟩, Ao, Ai, ⟨To0, To1, To2, To3⟩, ⟨Tp0, Tp1, Tp2, Tp3⟩, Ha, Hb⟩, Ci, HO⟩, Hk⟩
  ihave Ha := (lend m c) $$ Ha
  icases Ha with ⟨Ha, L0, L1, L2, L3⟩
  ihave Hb := (Entails.of_eq (slots m c)) $$ Hb
  icases Hb with ⟨S0, S1, S2, S3⟩
  iapply (wp_copy m c _ (to1 c) 0 3 κo κp W) $$ [L0 S0 HO To0 Tp0]
  · isplitr; · iexact Io
    isplitr; · iexact Ip
    isplitl [L0]; · iexact L0
    isplitl [S0]; · iexact S0
    isplitl [HO]; · iexact HO
    isplitl [To0]; · iexact To0
    isplitr; · iexact Ro
    isplitl [Tp0]; · iexact Tp0
    iexact Rp
  iintro ⟨C0, HO⟩
  iapply (wp_copy m c _ (to2 c) 1 2 κo κp W) $$ [L1 S1 HO To1 Tp1]
  · isplitr; · iexact Io
    isplitr; · iexact Ip
    isplitl [L1]; · iexact L1
    isplitl [S1]; · iexact S1
    isplitl [HO]; · iexact HO
    isplitl [To1]; · iexact To1
    isplitr; · iexact Ro
    isplitl [Tp1]; · iexact Tp1
    iexact Rp
  iintro ⟨C1, HO⟩
  iapply (wp_copy m c _ (to3 c) 2 1 κo κp W) $$ [L2 S2 HO To2 Tp2]
  · isplitr; · iexact Io
    isplitr; · iexact Ip
    isplitl [L2]; · iexact L2
    isplitl [S2]; · iexact S2
    isplitl [HO]; · iexact HO
    isplitl [To2]; · iexact To2
    isplitr; · iexact Ro
    isplitl [Tp2]; · iexact Tp2
    iexact Rp
  iintro ⟨C2, HO⟩
  iapply (wp_copy m c _ (to4 c) 3 0 κo κp W) $$ [L3 S3 HO To3 Tp3]
  · isplitr; · iexact Io
    isplitr; · iexact Ip
    isplitl [L3]; · iexact L3
    isplitl [S3]; · iexact S3
    isplitl [HO]; · iexact HO
    isplitl [To3]; · iexact To3
    isplitr; · iexact Ro
    isplitl [Tp3]; · iexact Tp3
    iexact Rp
  iintro ⟨C3, HO⟩
  rw [Nat.zero_mul, tallyAt_zero]
  ihave Co := (joined (F := F) (outC c)) $$ [C0 C1 C2 C3]
  · isplitl [C0]; · iexact C0
    isplitl [C1]; · iexact C1
    isplitl [C2] <;> iassumption
  iapply (Rounds.wp_wait_rest_token 𝒱₀ EX (plan m) (c : Thread nD τ) none (κ := κo)
      (wpE_waitDma2_eq 𝒱₀ (c : Thread nD τ) none Set.univ) (Set.mem_univ _) () (O := 0) (W := W) (R := 0) (m := 0) (T := ∅)
      (by rw [Nat.zero_add, expect_out]; exact four)) $$ [Co HO Ao]
  · isplitr; · iexact Io
    isplitl [Co]; · iapply (credit (F := F) (outC c) _ four); iexact Co
    isplitl [HO]; · iexact HO
    isplitr; · rw [MayWait_zero]; iempintro
    iexact Ao
  iintro ⟨HO, Ao, -, -⟩
  iapply (Rounds.wp_wait_rest_token 𝒱₀ EX (plan m) (c : Thread nD τ) none (κ := κi)
      (wpE_waitDma2_eq 𝒱₀ (c : Thread nD τ) none Set.univ) (Set.mem_univ _) () (O := 0) (W := insert (SemLoc.dma outS, ()) W) (R := 0) (m := 0) (T := ∅)
      (by rw [Nat.zero_add, expect_in]; exact four)) $$ [Ci HO Ai]
  · isplitr; · iexact Ii
    isplitl [Ci]; · iapply (credit (F := F) (inC c) _ four); iexact Ci
    isplitl [HO]; · iexact HO
    isplitr; · rw [MayWait_zero]; iempintro
    iexact Ai
  iintro ⟨HO, Ai, -, Hp⟩
  ihave Hb := (Entails.of_eq (all_in m c)) $$ Hp
  imod (Rounds.cell_close EX (plan m) (Set.mem_univ κo) (fun h => h) (R := 0 + 1) (duties_none m (outC c))) $$ [Ao] with Zo
  · isplitr; · iexact Io
    iexact Ao
  imod (Rounds.cell_close EX (plan m) (Set.mem_univ κi) (fun h => h) (R := 0 + 1) (duties_none m (inC c))) $$ [Ai] with Zi
  · isplitr; · iexact Ii
    iexact Ai
  rw [wp_ret]; imodintro
  iapply Hk
  unfold kept
  isplitr [HO]
  · isplitl [Ha]; · iexact Ha
    isplitl [Hb]; · iexact Hb
    isplitl [Zo] <;> iassumption
  iexists _; iexact HO

end Cert.ReduceBwd.Value

end
-- ==== Proof.Reduce.Run.lean ====
module

public import proofs.«01_k».proof.Proof.Reduce.Body

/-! The run on both devices: at the start the two devices are dealt each other's results to fill, and at the end
the memory is read. -/

@[expose] public section

set_option maxRecDepth 16384

noncomputable section

namespace Cert.ReduceBwd.Value

open Cert.ReduceBwd Cert.ReduceBwd.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ U2 ℕ

variable (m : (ℓ : Loc nD τ sig) → Buf (Elt F) ℓ) (ρ : Dev nD → PrngReg)

/-! ### The call's proof data: no array is staged -/

/-- What a device holds when the kernel starts. -/
def ready (c : Dev nD) : sProp 𝕄 := iprop(share m c ∗ cred (tallyAt (inC c) () (4 * N)))

def data (_ : Fin 1) (c : Dev nD) : Dat τ (Elt F) Unit ℕ U2 ℕ cfg0 c where
  A w := m ((cfg0.win w).arr.view.loc (c : Thread nD τ))
  after w _ := Fin.elim0 (show Fin 0 from w)
  Φ t := match t with
    | ⟨0, _⟩ => ready m c
    | ⟨_ + 1, _⟩ => kept m c
  q _ := fullShare
  owed t := match t with
    | ⟨0, _⟩ => debt c
    | ⟨_ + 1, _⟩ => 0

/-- The call stages no array: there is nothing to hold for one. -/
theorem no_window (Φ : Fin cfg0.W → sProp 𝕄) : bigSep Finset.univ Φ = iprop(emp) := bigSep_univ_eq_bigSepL [] (by decide) (by decide) Φ

/-- The body meets what the call asks of it. -/
theorem body (c : Dev nD) : BodyObligation (data m 0 c) (defs₀ (F := F)) 𝒱₀ () Set.univ := fun t => by
  rw [fin_N0 t]
  show iprop(ready m c ∗ (data m 0 c).owesAt () t0_0.castSucc ∗ _) ⊢ wp frame (wpE defs₀ 𝒱₀ c none) Set.univ
    (cc0_reduce_pair (Memref.whole main_arg0) (Memref.isWhole_whole _) (Memref.whole main_v1) (Memref.isWhole_whole _) cc0_scratch0 cc0_scratch1)
    (fun _ => iprop(kept m c ∗ (data m 0 c).owesAt () t0_0.succ ∗ _))
  rw [no_window, no_window]
  unfold ready Dat.owesAt Pipeline.owesWithin
  rw [show (data m 0 c).owed t0_0.castSucc = debt c from rfl, show (data m 0 c).owed t0_0.succ = 0 from rfl]
  iintro ⟨⟨Hs, Hc⟩, ⟨%W, -, HO⟩, -⟩
  iapply (sound m c W)
  isplitl [Hs Hc HO]
  · isplitl [Hs]; · iexact Hs
    isplitl [Hc] <;> iassumption
  iintro ⟨Hk, ⟨%W', HO⟩⟩
  isplitl [Hk]; · iexact Hk
  isplitl [HO]
  · iexists W'
    isplitr; · ipureintro; exact fun _ _ => Or.inl trivial
    iexact HO
  iempintro

/-! ### The counters of a device, and its arrays -/

/-- The counters of the call are the two of the copies. -/
theorem counters_eq (c : Dev nD) : (scopedSems0 (c : Thread nD τ) : sProp 𝕄) = iprop(semVal (outC c) 0 ∗ semVal (inC c) 0) := by
  have e : (Finset.univ.filter fun s : SemLoc sig => s.isScoped .tc = true) = {.dma outS, .dma inS} := by decide
  rw [show (scopedSems0 (c : Thread nD τ) : sProp 𝕄) = _ from scopedSems0_tc c]
  refine (congrArg (fun S => bigSep S fun s : SemLoc sig => (semVal ((c : Thread nD τ), s) 0 : sProp 𝕄)) e).trans ?_
  rw [bigSep_insert (by rw [Finset.mem_singleton]; exact out_ne_in), bigSep_singleton]
  rfl

/-- Of what a device holds outside the call, its argument and its result. -/
theorem arrays_of (c : Dev nD) : (unscopedBufs c (fun b => m ((c : Thread nD τ).loc b)) : sProp 𝕄)
    ⊢ iprop((((c : Thread nD τ).loc main_arg0) ↦{fullShare} m ((c : Thread nD τ).loc main_arg0))
      ∗ (((c : Thread nD τ).loc main_v1) ↦{fullShare} m ((c : Thread nD τ).loc main_v1))) := by
  rw [Pipeline.unscopedBufs_split cfgs 0 winFacts0.arr_unscoped winFacts0.arr_inj c, unscopedRest0_eq]
  iintro ⟨-, H⟩
  iexact H

/-- What a device ends with beside its counters. -/
def result (c : Dev nD) : sProp 𝕄 :=
  iprop((((c : Thread nD τ).loc main_arg0) ↦{fullShare.left} m ((c : Thread nD τ).loc main_arg0))
    ∗ (((c : Thread nD τ).loc main_v1) ↦{fullShare} landed m c))

/-! ### The start -/

/-- What the memory at the start gives to one device. -/
theorem start_one (c : Dev nD) : coreInit (Ix := Unit) (Name := ℕ) (U := U2) (Lvl := ℕ) (Pipeline.owing debt) 0
      (⟨m, fun _ => 0, ρ⟩ : MemSt nD τ sig (Elt F)) (c : Thread nD τ)
      ⊢ iprop(own m c ∗ scopedBufs (c : Thread nD τ) ∗ owes (c : Thread nD τ) (debt c) ∅ ∗ cred (tallyAt (inC c) () (4 * N))) := by
  refine (Pipeline.coreInit_boundary_owing debt m ρ c).trans ?_
  unfold boundary own
  rw [counters_eq]
  iintro ⟨⟨Hb, Hz, -⟩, Ha, -, HO, -, -, Hc⟩
  isplitl [Hz Ha]
  · isplitl [Hz]; · iexact Hz
    iapply (arrays_of m c); iexact Ha
  isplitl [Hb]; · iexact Hb
  isplitl [HO]; · iexact HO
  iapply (claim (F := F) c); iexact Hc

/-! ### The run -/

/-- The buffers of the call are those of its staging, which are none. -/
theorem staged (c : Dev nD) : (scopedBufs (c : Thread nD τ) : sProp 𝕄) = iprop(Dat.staging cfg0 c ∗ emp) := by
  rw [Pipeline.scopedBufs_split cfgs 0 winFacts0.stage_scoped winFacts0.stage_inj stage_whole0 c, scopedRest0_eq]
  rfl

/-- What the body keeps is the result, with the counters and buffers of the call given back. -/
theorem ended (c : Dev nD) : iprop(kept m c ∗ Pipeline.cellsSems0 cfgs 0 c ∗ Dat.staging cfg0 c)
      ⊢ iprop(result m c ∗ scopedSems0 (c : Thread nD τ) ∗ scopedBufs (c : Thread nD τ)) := by
  rw [counters_eq, staged]
  unfold kept result
  iintro ⟨⟨Ha, Hv, Ho, Hi⟩, -, Hst⟩
  isplitl [Ha Hv]
  · isplitl [Ha] <;> iassumption
  isplitl [Ho Hi]
  · isplitl [Ho] <;> iassumption
  isplitl [Hst]; · iexact Hst
  iempintro

/-- The run: each device's array is as it was, its result is what the other sent, and every counter is zero. -/
theorem run : θ_run (defs (F := F)) (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = landed m c) ∧ r.2.sem = fun _ => 0) :=
  haveI : IsEmpty (Fin (cfgs 0).W) := Fin.isEmpty
  Exchange.run m ρ (defs (F := F)) (main (F := F)) (Variants.lift 𝒱₀) debt seed
    (fun c => iprop(scopedBufs (c : Thread nD τ) ∗ owes (c : Thread nD τ) (debt c) ∅ ∗ ready m c))
    (fun c => iprop(result m c ∗ scopedSems0 (c : Thread nD τ)))
    (fun c f => f ((c : Thread nD τ).loc main_arg0) = m ((c : Thread nD τ).loc main_arg0) ∧ f ((c : Thread nD τ).loc main_v1) = landed m c) (by decide)
    (Exchange.start m ρ debt seed (own m) (share m) _ (start_one m ρ) (dealt m))
    (fun c => Exchange.device cfgs (data m) EL defs₀ 𝒱₀ cellOf_inj c (result m) (body m c) rfl (staged c) (ended m c))
    (fun c s => Exchange.read c _ _ fullShare.left fullShare _ _ s)

end Cert.ReduceBwd.Value

end
-- ==== Proof.Reduce.Claims.lean ====
module

public import proofs.«01_k».proof.Defs
public import proofs.«01_k».proof.Proof.Gen.ReduceBwdIdeal
public import proofs.«01_k».proof.Proof.Gen.ReduceRefIdeal.Run
public import proofs.«01_k».proof.Proof.Gen.ReduceRefIdeal.Read
public import proofs.«01_k».proof.Proof.Reduce.Run
public import Idealize.ShloMosaic.Lib.Pipeline.ValueKit

/-! The claims about the exchange between the two devices of a chip. -/

@[expose] public section

set_option maxRecDepth 16384

noncomputable section

namespace Cert.Proof

open Idealize.ShloMosaic Idealize.SL.Sem

open Cert

/-- The kernel runs to its end, leaves its arguments, and leaves every counter at zero. -/
theorem reduce_frame : Cert.quiescent_ReduceBwd := fun m ρ _ =>
  (θ_run _ _ _).mono (fun _ h => ⟨fun c => (h.1 c).1, h.2⟩) (ReduceBwd.Value.run m ρ)

/-- The body of the kernel is the same before it is idealized and after. -/
theorem reduce_bodies : ReduceBwd.defs₀ (F := Ideal) = ReduceBwdIdeal.defs₀ (F := Ideal) :=
  congrArg Defs.onTc (funext fun l => match l with | ⟨0, _⟩ => rfl)

/-- And so are the definitions that the program on the two devices runs with. -/
theorem reduce_defs : ReduceBwd.defs (F := Ideal) = ReduceBwdIdeal.defs (F := Ideal) := congrArg (Pipeline.defs ReduceBwd.pcfgs) reduce_bodies

/-- The idealized exchange ends as the exchange does. -/
theorem reduce_ideal (m : (ℓ : Loc ReduceBwd.nD ReduceBwd.τ ReduceBwd.sig) → Buf (Elt Ideal) ℓ) (ρ : Dev ReduceBwd.nD → PrngReg) :
    θ_run (ReduceBwdIdeal.defs (F := Ideal)) (onTc (τ := ReduceBwdIdeal.τ) (ReduceBwdIdeal.main (F := Ideal))) ⟨m, fun _ => 0, ρ⟩ (fun r =>
      (∀ c : Dev ReduceBwd.nD, r.2.mem ((c.tc : Thread ReduceBwd.nD ReduceBwd.τ).loc ReduceBwd.main_arg0) = m ((c.tc : Thread ReduceBwd.nD ReduceBwd.τ).loc ReduceBwd.main_arg0)
        ∧ r.2.mem ((c.tc : Thread ReduceBwd.nD ReduceBwd.τ).loc ReduceBwd.main_v1) = ReduceBwd.Value.landed m c) ∧ r.2.sem = fun _ => 0) :=
  reduce_defs ▸ ReduceBwd.Value.run (F := Ideal) m ρ

/-- The idealized kernel runs to its end in the same way. -/
theorem reduce_frame_ideal : Cert.quiescent_ReduceBwdIdeal := fun m ρ _ =>
  (θ_run _ _ _).mono (fun _ h => ⟨fun c => (h.1 c).1, h.2⟩) (reduce_ideal m ρ)

/-- The reference runs to its end and leaves its argument. -/
theorem reduce_frame_ref : Cert.quiescent_ReduceRefIdeal := by
  intro m ρ _
  exact (θ_run _ _ _).mono (fun r h => ⟨fun c => (h c).2, sem_eq_zero_of_no_sems (by decide) r.2⟩)
    (Cert.ReduceRefIdeal.Value.run m ρ)

/-! ### The blocks that the reference joins -/

section Blocks

variable {α : Type} (x : (⟨3, ![16, 1184, 1024]⟩ : Shape).Idx → α)

/-- The entry of the whole array that the other device of the chip keeps and that ends at entry `i` on device `c`. -/
def sent (c : Dev ReduceBwd.nD) (i : ReduceBwd.S4x1184x1024.Idx) : α :=
  Layout.blockN ⟨3, ![8, 1184, 1024]⟩ ⟨3, ![16, 1184, 1024]⟩ (Layout.meshBlock [1, 1, 2] ![[2], [], []] (ReduceBwd.Value.other c)) x (by decide)
    (ReduceBwd.Value.origin (ReduceBwd.Value.other c) i)

/-- Where entry `i` of device `c`'s result is in the whole result. -/
def whole (c : Dev ReduceBwd.nD) (i : ReduceBwd.S4x1184x1024.Idx) : ReduceRefIdeal.S8x1184x1024.Idx :=
  Layout.TilesN.idx (S := ⟨3, ![4, 1184, 1024]⟩) (T := ⟨3, ![8, 1184, 1024]⟩) (by decide) (Layout.meshBlock [1, 1, 2] ![[2], [], []] c) i

/-- One of the eight blocks that the reference joins: block `n` of the result is block `s` of the argument, and this is
where the other device's copy came from. -/
theorem piece (c : Dev ReduceBwd.nD) (i : ReduceBwd.S4x1184x1024.Idx) (f : ReduceRefIdeal.S1x1184x1024.Idx → α)
    (w : ReduceRefIdeal.S1x1184x1024.Idx → ReduceRefIdeal.S16x1184x1024.Idx) (hf : ∀ z, f z = x (w z)) (n s : ℕ)
    (h0 : ∀ z, (w z 0).val = s + (z 0).val) (h1 : ∀ z, (w z 1).val = (z 1).val) (h2 : ∀ z, (w z 2).val = (z 2).val)
    (hs : ∀ (d : Fin 2) (k : Fin 4), d.val * 4 + k.val = n →
      s = (1 - d.val) * 8 + (ReduceBwd.Value.order k + (1 - (1 - d.val)))) :
    PieceAt (t := ReduceRefIdeal.S8x1184x1024) 0 (whole c i) (sent x c i) ReduceRefIdeal.S1x1184x1024 f n := by
  intro hn _ z hz hb
  rw [hf]
  have e1 := (h1 z).trans (hb 1 (by decide))
  have e2 := (h2 z).trans (hb 2 (by decide))
  have e0 := h0 z
  rw [show (z 0).val = 0 from hz, Nat.add_zero] at e0
  have lin : ∀ d : Dev ReduceBwd.nD, Layout.meshLin [1, 1, 2] d.val [2] = d.val := by decide
  have hn' : c.val * 4 + (i 0).val = n := by
    rw [← hn, ← lin c]; rfl
  have key := hs c (i 0) hn'
  refine congrArg x (funext fun a => Fin.ext ?_)
  match a with
  | ⟨0, _⟩ =>
    refine e0.trans (key.trans ?_)
    show _ = Layout.meshLin [1, 1, 2] (ReduceBwd.Value.other c).val [2] * 8 + (ReduceBwd.Value.order (i 0) + (1 - (ReduceBwd.Value.other c).val))
    rw [lin]; rfl
  | ⟨1, _⟩ => exact e1
  | ⟨2, _⟩ => exact e2

end Blocks

set_option maxHeartbeats 1600000 in
/-- The reference's result, at the place of an entry of device `c`'s result. -/
theorem joined (x : (⟨ReduceRefIdeal.S16x1184x1024, .f32⟩ : BufTy).Contents (Elt Ideal)) (c : Dev ReduceBwd.nD) (i : ReduceBwd.S4x1184x1024.Idx) :
    ReduceRefIdeal.Read.val_main_v10 (F := Ideal) x (whole c i) = sent x c i := by
  unfold ReduceRefIdeal.Read.val_main_v10
  refine concatenate_unit_eq _ _ _ _ _ rfl ?_
  let at0 := ReduceRefIdeal.Read.val_main_v0_apply (F := Ideal) x
  let at1 := ReduceRefIdeal.Read.val_main_v1_apply (F := Ideal) x
  refine concatAt_cons _ _ _ _ (piece x c i _ _ (fun z => (ReduceRefIdeal.Read.val_main_v2_apply x z).trans (at1 _)) _ 8 (fun _ => rfl) (fun _ => rfl) (fun _ => rfl) (by decide)) ?_
  refine concatAt_cons _ _ _ _ (piece x c i _ _ (fun z => (ReduceRefIdeal.Read.val_main_v3_apply x z).trans (at1 _)) _ 12 (fun z => show 8 + (4 + (z 0).val) = 12 + (z 0).val by omega) (fun _ => rfl) (fun _ => rfl) (by decide)) ?_
  refine concatAt_cons _ _ _ _ (piece x c i _ _ (fun z => (ReduceRefIdeal.Read.val_main_v4_apply x z).trans (at1 _)) _ 10 (fun z => show 8 + (2 + (z 0).val) = 10 + (z 0).val by omega) (fun _ => rfl) (fun _ => rfl) (by decide)) ?_
  refine concatAt_cons _ _ _ _ (piece x c i _ _ (fun z => (ReduceRefIdeal.Read.val_main_v5_apply x z).trans (at1 _)) _ 14 (fun z => show 8 + (6 + (z 0).val) = 14 + (z 0).val by omega) (fun _ => rfl) (fun _ => rfl) (by decide)) ?_
  refine concatAt_cons _ _ _ _ (piece x c i _ _ (fun z => (ReduceRefIdeal.Read.val_main_v6_apply x z).trans (at0 _)) _ 1 (fun _ => rfl) (fun _ => rfl) (fun _ => rfl) (by decide)) ?_
  refine concatAt_cons _ _ _ _ (piece x c i _ _ (fun z => (ReduceRefIdeal.Read.val_main_v7_apply x z).trans (at0 _)) _ 5 (fun _ => rfl) (fun _ => rfl) (fun _ => rfl) (by decide)) ?_
  refine concatAt_cons _ _ _ _ (piece x c i _ _ (fun z => (ReduceRefIdeal.Read.val_main_v8_apply x z).trans (at0 _)) _ 3 (fun _ => rfl) (fun _ => rfl) (fun _ => rfl) (by decide)) ?_
  refine concatAt_cons _ _ _ _ (piece x c i _ _ (fun z => (ReduceRefIdeal.Read.val_main_v9_apply x z).trans (at0 _)) _ 7 (fun _ => rfl) (fun _ => rfl) (fun _ => rfl) (by decide)) ?_
  exact concatAt_nil ..

set_option maxHeartbeats 1600000 in
/-- Each device's result is its half of the reference's. -/
theorem reduce_value : Cert.algebraic_ReduceBwdIdeal_ReduceRefIdeal := by
  intro m g m' g' _ hagree
  refine ⟨ReduceRefIdeal.Read.val_main_v10 (F := Ideal) (m' (((0 : Dev ReduceRefIdeal.nD).tc : Thread ReduceRefIdeal.nD ReduceRefIdeal.τ).loc ReduceRefIdeal.main_arg0)),
    (θ_run _ _ _).mono (fun r h c => ⟨((h.1 c).2).trans ?_, (h.1 c).1⟩) (reduce_ideal m g),
    (θ_run _ _ _).mono (fun r h => ⟨(h 0).1.trans (ReduceRefIdeal.Read.val_main_v10_eq _), (h 0).2⟩) (ReduceRefIdeal.Value.run m' g')⟩
  refine funext fun i => Eq.trans ?_ (joined _ c i).symm
  exact congrFun (hagree (ReduceBwd.Value.other c)) _

end Cert.Proof

end
-- ==== Proof.Gather.Setup.lean ====
module

public import proofs.«01_k».proof.Proof.Gen.GatherBwd
public import proofs.«01_k».proof.Proof.Gen.GatherBwd.Skeleton
public import proofs.«01_k».proof.Proof.Gen.GatherBwd.Launch
public import proofs.«01_k».proof.Proof.Exchange
public import Idealize.ShloMosaic.Lib.ValueLayout

/-! The gathering of the packed gradients: on each of the eight devices, the eight blocks of the result and the
fifteen counters. A device copies its array into its own block of its own result, and into the same block of
the result of every other device. The device reached by hop `k` differs in the bits of `k`. -/

@[expose] public section

set_option maxRecDepth 16384

noncomputable section

namespace Cert.GatherBwd.Value

open Cert.GatherBwd Cert.GatherBwd.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the launch's part, which stays unused, and one copy counted on each counter. -/
abbrev UG : Type := UR sig nD τ × URounds (GSem nD τ sig) Unit

/-- The place of the launch's part. -/
abbrev EL : Emb (UR sig nD τ) (MT nD τ sig Unit (Elt F) ℕ UG ℕ) := embL
/-- The place of the copies' part. -/
abbrev EG : Emb (URounds (GSem nD τ sig) Unit) (MT nD τ sig Unit (Elt F) ℕ UG ℕ) := embR

variable (m : (ℓ : Loc nD τ sig) → Buf (Elt F) ℓ)

/-! ### Hops -/

/-- The device that hop `k` reaches from device `d`. -/
def peer (k : Fin 8) (d : Dev nD) : Dev nD := ⟨d.val ^^^ k.val, Nat.xor_lt_two_pow (n := 3) d.isLt k.isLt⟩

/-- A hop taken twice leads back. -/
theorem peer_peer : ∀ (k : Fin 8) (d : Dev nD), peer k (peer k d) = d := by decide
/-- Hop zero stays. -/
theorem peer_zero : ∀ d : Dev nD, peer 0 d = d := by decide
/-- Different hops lead to different devices. -/
theorem hop_unique : ∀ d : Dev nD, Function.Injective fun k : Fin 8 => peer k d := by decide

/-- A hop as a permutation of the devices. -/
def hop (k : Fin 8) : Dev nD ≃ Dev nD := ⟨peer k, peer k, peer_peer k, peer_peer k⟩
/-- All devices, by the hops that lead to them from device `d`. -/
def round (d : Dev nD) : Fin 8 ≃ Dev nD := Equiv.ofBijective (fun k => peer k d) ((Fintype.bijective_iff_injective_and_card _).mpr ⟨hop_unique d, rfl⟩)

/-- The first copy to another device goes by hop 1. -/
theorem to1 : ∀ d : Dev nD, (⟨k0_dev1 d, k0_dev1_lt d⟩ : Dev nD) = peer 1 d := by decide +kernel
/-- The second goes by hop 2. -/
theorem to2 : ∀ d : Dev nD, (⟨k0_dev2 d, k0_dev2_lt d⟩ : Dev nD) = peer 2 d := by decide +kernel
/-- The third goes by hop 3. -/
theorem to3 : ∀ d : Dev nD, (⟨k0_dev3 d, k0_dev3_lt d⟩ : Dev nD) = peer 3 d := by decide +kernel
/-- The fourth goes by hop 4. -/
theorem to4 : ∀ d : Dev nD, (⟨k0_dev4 d, k0_dev4_lt d⟩ : Dev nD) = peer 4 d := by decide +kernel
/-- The fifth goes by hop 5. -/
theorem to5 : ∀ d : Dev nD, (⟨k0_dev5 d, k0_dev5_lt d⟩ : Dev nD) = peer 5 d := by decide +kernel
/-- The sixth goes by hop 6. -/
theorem to6 : ∀ d : Dev nD, (⟨k0_dev6 d, k0_dev6_lt d⟩ : Dev nD) = peer 6 d := by decide +kernel
/-- The last goes by hop 7. -/
theorem to7 : ∀ d : Dev nD, (⟨k0_dev7 d, k0_dev7_lt d⟩ : Dev nD) = peer 7 d := by decide +kernel

/-! ### Blocks -/

/-- The block of a device's array begins at the device's number. -/
theorem off_eq : ∀ d : Dev nD, k0_off1 d = ![d.val, 0, 0] := by decide +kernel

/-- The block that holds device `b`'s array. -/
abbrev blk (b : Dev nD) : Memref sig .tc .hbm S32x1024 .f32 :=
  ((Memref.whole main_v1).slice (Rect.unit (s := S8x32x1024) (k0_off1 b) S1x32x1024.size (k0_off1_inb b)) (fun _ => rfl)).squeeze
    S32x1024 squeezes_S1x32x1024_S32x1024

/-- The array that a device copies from. -/
abbrev src : Memref sig .tc .hbm S32x1024 .f32 := Memref.whole main_arg0

/-- The entry of a device's array that ends at entry `i` of the result. -/
def within (i : S8x32x1024.Idx) : S32x1024.Idx := fun a => match a with
  | ⟨0, _⟩ => ⟨(i 1).val, (i 1).isLt⟩
  | ⟨1, _⟩ => ⟨(i 2).val, (i 2).isLt⟩

/-- What every device ends holding: block `b` is device `b`'s array. -/
def landed (c : Dev nD) : Buf (Elt F) ((c : Thread nD τ).loc main_v1) :=
  fun i => m (((show Dev nD from i 0) : Thread nD τ).loc main_arg0) (within i)

/-- Entries of one device's array are equal when the devices and the places are. -/
theorem same_entry {b b' : Dev nD} {y y' : S32x1024.Idx} (hb : b = b') (hy : y = y') :
    m ((b : Thread nD τ).loc main_arg0) y = m ((b' : Thread nD τ).loc main_arg0) y' := by
  subst hb hy; rfl

/-- A copy from device `b` puts into block `b` what the result is to hold there. -/
theorem copied (b c : Dev nD) (fd : Buf (Elt F) ((c : Thread nD τ).loc main_v1)) (i : Idx ((c : Thread nD τ).loc main_v1))
    (hi : i ∈ (blk b).view.set) :
    (blk b).view.write (Elt F) fd (src.view.read (Elt F) (m ((b : Thread nD τ).loc main_arg0))) Finset.univ i = landed m c i := by
  obtain ⟨y, -, rfl⟩ := Finset.mem_map.mp hi
  refine (View.write_emb_of_mem (v := (blk b).view) _ _ (Finset.mem_univ y)).trans ?_
  have hz : Shape.reshapeEquiv squeezes_S1x32x1024_S32x1024.numel_eq y = (ix3 0 (y 0) (y 1) : S1x32x1024.Idx) := by
    conv_lhs => rw [show y = (ix2 (y 0) (y 1) : S32x1024.Idx) from funext fun a => by match a with | 0 => rfl | 1 => rfl]
    exact reshapeEquiv_ix2_1ab _ _ _
  have e : (blk b).view.emb y = (Rect.unit (s := S8x32x1024) (k0_off1 b) S1x32x1024.size (k0_off1_inb b)).emb (ix3 0 (y 0) (y 1)) := by
    rw [← hz]; rfl
  have r : ∀ a, ((blk b).view.emb y a).val = k0_off1 b a + 1 * ((ix3 0 (y 0) (y 1) : S1x32x1024.Idx) a).val := fun a => by rw [e]; rfl
  rw [off_eq] at r
  refine same_entry m (Fin.ext ?_) (funext fun a => Fin.ext ?_)
  · exact (show b.val = b.val + 1 * 0 by omega).trans (r 0).symm
  · match a with
    | ⟨0, _⟩ => exact (show (y 0).val = 0 + 1 * (y 0).val by omega).trans (r 1).symm
    | ⟨1, _⟩ => exact (show (y 1).val = 0 + 1 * (y 1).val by omega).trans (r 2).symm

/-- The entries of block `b`. -/
theorem blk_set (b : Dev nD) : (blk b).view.set = (Rect.unit (s := S8x32x1024) (k0_off1 b) S1x32x1024.size (k0_off1_inb b)).set :=
  (View.set_reshape (v := ((Memref.whole main_v1).slice (Rect.unit (s := S8x32x1024) (k0_off1 b) S1x32x1024.size (k0_off1_inb b)) (fun _ => rfl)).view)
    squeezes_S1x32x1024_S32x1024.numel_eq).trans (View.set_slice_whole _ _)

/-- A block's first entry along the devices. -/
theorem off_lead (b : Fin 8) : k0_off1 b 0 = 1 * b.val := by rw [off_eq]; exact (Nat.one_mul _).symm

/-- The entries of the result that block `b` takes. -/
abbrev part (b : Fin 8) : Finset S8x32x1024.Idx := (blk b).view.set

/-- Blocks of different devices lie apart. -/
theorem parts_apart (a b : Fin 8) (h : a ≠ b) : Disjoint (part a) (part b) := by
  unfold part; rw [blk_set, blk_set]
  exact Ring.lead_disjoint (s := S8x32x1024) 0 1 k0_off1 S1x32x1024.size k0_off1_inb off_lead rfl a b h

/-- The blocks make up the result. -/
theorem parts_all : Finset.univ.biUnion part = Finset.univ :=
  (congrArg (Finset.univ.biUnion ·) (funext blk_set)).trans
    (Ring.lead_cover (s := S8x32x1024) 0 1 k0_off1 S1x32x1024.size k0_off1_inb off_lead
      (fun b a ha => by rw [off_eq]; match a with | 0 => exact absurd rfl ha | 1 => rfl | 2 => rfl) rfl (by decide) rfl)

end Cert.GatherBwd.Value

end
-- ==== Proof.Gather.Protocol.lean ====
module

public import proofs.«01_k».proof.Proof.Gather.Setup

/-! The protocol of the gathering. Each of a device's fifteen counters counts one copy: seven count its own copies
to the others as they leave, seven count a copy from each of the others, and the last counts the copy that the
device makes within itself. A copy that arrives brings the block that it has filled. -/

@[expose] public section

set_option maxRecDepth 16384

noncomputable section

namespace Cert.GatherBwd.Value

open Cert.GatherBwd Cert.GatherBwd.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.Exchange

variable {F : FTy → Type} [FloatOps F]

local notation "𝕄" => MT nD τ sig Unit (Elt F) ℕ UG ℕ

variable (m : (ℓ : Loc nD τ sig) → Buf (Elt F) ℓ)

/-! ### The counters -/

/-- Counter `s` of device `c`. -/
abbrev C (s : DmaSem sig) (c : Dev nD) : GSem nD τ sig := ((c : Thread nD τ), .dma s)

/-- The counter of the copy that arrives by hop `k`; by hop zero it is the copy within the device. -/
def inS (k : Fin 8) : DmaSem sig := ⟨7 + (k.val + 7) % 8, by change _ < 15; omega⟩
/-- The counter of the copy that leaves by hop `k`. -/
def outS (k : Fin 8) : DmaSem sig := ⟨(k.val + 7) % 8 % 7, by change _ < 15; omega⟩
/-- The hop whose arrival a counter counts. -/
def hopOf (s : DmaSem sig) : Fin 8 := ⟨(s.val + 2) % 8, by omega⟩

/-- The hops to other devices. -/
abbrev hops : List (Fin 8) := [1, 2, 3, 4, 5, 6, 7]

/-- A counter of an arrival tells its hop. -/
theorem hopOf_in : ∀ k : Fin 8, hopOf (inS k) = k := by decide
/-- No counter of a departure counts an arrival. -/
theorem out_low : ∀ k ∈ hops, (outS k).val < 7 := by decide
/-- Counters of arrivals come after those of departures. -/
theorem in_high : ∀ k : Fin 8, ¬(inS k).val < 7 := by decide
/-- The fifteen counters: the one for the device itself, the arrivals, the departures. -/
theorem all_counters : (Finset.univ : Finset (DmaSem sig)) = ([inS 0] ++ hops.map inS ++ hops.map outS).toFinset := by decide
/-- They are fifteen different ones. -/
theorem counters_differ : ([inS 0] ++ hops.map inS ++ hops.map outS).Nodup := by decide

/-- One thing for each counter. -/
theorem over_counters (Φ : DmaSem sig → sProp 𝕄) : bigSep Finset.univ Φ
    = iprop((Φ (inS 0) ∗ bigSepL hops fun k => Φ (inS k)) ∗ bigSepL hops fun k => Φ (outS k)) := by
  rw [bigSep_univ_eq_bigSepL _ all_counters counters_differ, bigSepL_append, bigSepL_append, bigSepL_map, bigSepL_map, bigSepL_singleton]

/-- One thing for each hop. -/
theorem over_hops (Φ : Fin 8 → sProp 𝕄) : bigSep Finset.univ Φ = iprop(Φ 0 ∗ bigSepL hops Φ) :=
  bigSep_univ_eq_bigSepL [0, 1, 2, 3, 4, 5, 6, 7] (by decide) (by decide) Φ

/-- What goes by each hop from each device may be counted where it arrives. -/
theorem by_hops (Φ : Fin 8 → Dev nD → sProp 𝕄) : bigSep Finset.univ (fun c => bigSep Finset.univ fun k => Φ k c)
    = bigSep Finset.univ fun c => bigSep Finset.univ fun k => Φ k (peer k c) := by
  rw [bigSep_univ_comm, bigSep_univ_comm (fun c k => Φ k (peer k c))]
  exact bigSep_congr fun k _ => bigSep_univ_equiv (hop k) (Φ k)

/-- What one copy adds to a counter. -/
abbrev N : ℕ := (blk 0).view.dmaCredit
/-- A block is not empty. -/
theorem N_pos : 0 < N := View.dmaCredit_pos _ (by decide)
/-- All blocks count alike. -/
theorem N_eq (b : Dev nD) : (blk b).view.dmaCredit = N := rfl
/-- The array copied counts like a block. -/
theorem N_src : src.view.dmaCredit = N := by decide +kernel

/-! ### What the counters give -/

/-- On device `c`, the block of the device that hop `k` reaches, filled. -/
def filled (c : Dev nD) (k : Fin 8) : sProp 𝕄 :=
  (blk (peer k c)).view.loc (c : Thread nD τ) ↦[(blk (peer k c)).view.set]{fullShare} landed m c

/-- What counter `s` of device `c` gives: a departure nothing, an arrival the block filled. -/
def brings (c : Dev nD) (s : DmaSem sig) : sProp 𝕄 := if s.val < 7 then iprop(emp) else filled m c (hopOf s)

/-- It may be kept in an invariant. -/
instance brings_storable (c : Dev nD) (s : DmaSem sig) : BI.Storable (upEmb : UEmb _ 𝕄) (brings m c s) := by
  unfold brings filled; split <;> infer_instance

/-- One copy on each counter. -/
def plan : Rounds.Schedule (GSem nD τ sig) Unit 𝕄 where
  duties _ r := if r = 0 then Finset.univ else ∅
  amount _ _ _ := N
  payload g _ _ := match g.2 with
    | .dma s => brings m g.1.1 s
    | .reg _ => iprop(emp)
  amount_pos _ _ _ _ := N_pos

/-- So may whatever the plan gives. -/
instance plan_storable (g : GSem nD τ sig) (r : ℕ) (k : Unit) : BI.Storable (upEmb : UEmb _ 𝕄) ((plan m).payload g r k) := by
  show BI.Storable upEmb (match g.2 with | .dma s => brings m g.1.1 s | .reg _ => iprop(emp))
  split <;> infer_instance

/-- One copy is to be counted. -/
theorem duties_one (g : GSem nD τ sig) : (plan m).duties g 0 = Finset.univ := by dsimp only [plan]; exact if_pos rfl
/-- After it there is no other. -/
theorem duties_none (g : GSem nD τ sig) (r : ℕ) (h : 1 ≤ r) : (plan m).duties g r = ∅ := by
  dsimp only [plan]; exact if_neg fun e => by omega
/-- Each copy counts for one block. -/
theorem amount_eq (g : GSem nD τ sig) (r : ℕ) (k : Unit) : (plan m).amount g r k = N := by dsimp only [plan]
/-- A counter rises by one block. -/
theorem expect_eq (g : GSem nD τ sig) : (plan m).expect g 0 = N := by
  unfold Schedule.expect Schedule.amountOf; rw [duties_one]; exact (Finset.sum_const N).trans (by rw [smul_eq_mul]; exact Nat.one_mul _)
/-- What the plan gives on a counter. -/
theorem payload_eq (c : Dev nD) (s : DmaSem sig) (u : Unit) : (plan m).payload (C s c) 0 u = brings m c s := rfl
/-- All that a counter gives. -/
theorem all_given (c : Dev nD) (s : DmaSem sig) :
    bigSep ((plan m).duties (C s c) 0 \ ∅) (fun u => (plan m).payload (C s c) 0 u) = (brings m c s : sProp 𝕄) := by
  rw [Finset.sdiff_empty, duties_one]; exact bigSep_univ_eq_bigSepL [()] (by decide) (by decide) _
/-- A departure gives nothing. -/
theorem brings_out (c : Dev nD) (k : Fin 8) (hk : k ∈ hops) : brings m c (outS k) = iprop(emp) := by unfold brings; rw [if_pos (out_low k hk)]
/-- An arrival gives its block. -/
theorem brings_in (c : Dev nD) (k : Fin 8) : brings m c (inS k) = filled m c k := by unfold brings; rw [if_neg (in_high k), hopOf_in]

/-! ### What a device owes, and what it may claim -/

/-- A device owes a copy to each device that it reaches by the hops left. -/
def owed (c : Dev nD) : List (Fin 8) → CellTallies nD τ sig Unit
  | [] => 0
  | k :: l => owed c l + tallyAt (C (inS k) (peer k c)) () N

/-- At the start it owes all seven. -/
abbrev debt (c : Dev nD) : CellTallies nD τ sig Unit := owed c hops

/-- Two counters of arrivals are the same only for one hop and one device. -/
theorem same_counter {k l : Fin 8} {a b : Dev nD} : C (inS k) a = C (inS l) b ↔ k = l ∧ a = b := by
  constructor
  · intro h
    have h1 : a = b := congrArg (fun g : GSem nD τ sig => g.1.1) h
    have h2 : inS k = inS l := by
      have := congrArg Prod.snd h
      exact SemLoc.dma.inj this
    exact ⟨by rw [← hopOf_in k, h2, hopOf_in], h1⟩
  · rintro ⟨rfl, rfl⟩; rfl

/-- What one device owes on one counter of another. -/
theorem owed_at (d c : Dev nD) (k : Fin 8) (l : List (Fin 8)) :
    owed d l (C (inS k) c) () = if d = peer k c then l.count k * N else 0 := by
  induction l with
  | nil => rw [List.count_nil, Nat.zero_mul, ite_self]; rfl
  | cons j l ih =>
    have h : owed d (j :: l) (C (inS k) c) () = owed d l (C (inS k) c) () + tallyAt (C (inS j) (peer j d)) () N (C (inS k) c) () := rfl
    rw [h, ih, tallyAt_apply]
    by_cases e : d = peer k c
    · rw [if_pos e, if_pos e]
      by_cases hj : k = j
      · subst hj
        rw [if_pos ⟨same_counter.mpr ⟨rfl, by rw [e, peer_peer]⟩, rfl⟩, List.count_cons_self, Nat.succ_mul]
      · rw [if_neg fun h' => hj (same_counter.mp h'.1).1, List.count_cons_of_ne (Ne.symm hj), Nat.add_zero]
    · rw [if_neg e, if_neg e, if_neg]
      rintro ⟨h', -⟩
      obtain ⟨rfl, h2⟩ := same_counter.mp h'
      exact e (by rw [h2, peer_peer])

/-- On each counter of an arrival from outside one block is owed. -/
theorem debts (c : Dev nD) (k : Fin 8) (hk : k ∈ hops) : ∑ d : Dev nD, debt d (C (inS k) c) () = N := by
  rw [Finset.sum_congr rfl fun d _ => owed_at d c k hops, Finset.sum_ite_eq' Finset.univ (peer k c) fun _ => hops.count k * N,
    if_pos (Finset.mem_univ _), List.count_eq_one_of_mem (by decide) hk, Nat.one_mul]

/-- So a device may claim one copy on each. -/
theorem claim (c : Dev nD) : (Pipeline.launchCred debt c : sProp 𝕄) ⊢ bigSepL hops fun k => cred (tallyAt (C (inS k) c) () N) := by
  have h (k : Fin 8) (hk : k ∈ hops) : tallyOn (C (inS k) c) (launchCredit (Pipeline.owing debt) 0 (C (inS k) c)) = (tallyAt (C (inS k) c) () N : CellTallies nD τ sig Unit) := by
    unfold tallyAt
    refine congrArg _ (Finsupp.ext fun u => ?_)
    cases u
    rw [Pipeline.launchCredit_owing, Finsupp.single_eq_same, debts c k hk]
  unfold Pipeline.launchCred
  have hi : Function.Injective fun k : Fin 8 => (SemLoc.dma (inS k) : SemLoc sig) := fun k l e => by
    rw [← hopOf_in k, SemLoc.dma.inj e, hopOf_in]
  refine (bigSep_subset (Finset.subset_univ (hops.toFinset.map ⟨_, hi⟩))).trans ?_
  rw [bigSep_map]
  refine (bigSep_mono fun k hk => ?_).trans (Entails.of_eq (bigSep_eq_bigSepL hops (by decide) _))
  exact Entails.of_eq (congrArg cred (h k (List.mem_toFinset.mp hk)))

/-! ### What a device takes into the kernel -/

/-- Its own block in the result of the device that hop `k` reaches. -/
def slot (c : Dev nD) (k : Fin 8) : sProp 𝕄 :=
  (blk c).view.loc (peer k c : Thread nD τ) ↦[(blk c).view.set]{fullShare} m ((peer k c : Thread nD τ).loc main_v1)

/-- A result is its eight blocks, by the hops that lead to their devices. -/
theorem by_blocks (c : Dev nD) (f : Buf (Elt F) ((c : Thread nD τ).loc main_v1)) :
    (((c : Thread nD τ).loc main_v1) ↦{fullShare} f : sProp 𝕄)
      = bigSep Finset.univ fun k : Fin 8 => ((c : Thread nD τ).loc main_v1) ↦[part (peer k c)]{fullShare} f := by
  rw [Ring.pointsTo_blocks (ℓ := (c : Thread nD τ).loc main_v1) part parts_apart parts_all]
  exact bigSep_univ_equiv (round c) _

/-- All results are all slots. -/
theorem all_slots : (bigSep Finset.univ fun c : Dev nD => (((c : Thread nD τ).loc main_v1) ↦{fullShare} m ((c : Thread nD τ).loc main_v1)) : sProp 𝕄)
    = bigSep Finset.univ fun c : Dev nD => bigSep Finset.univ (slot m c) := by
  rw [bigSep_congr fun c _ => by_blocks (F := F) c (m ((c : Thread nD τ).loc main_v1)),
    by_hops (F := F) fun k c => ((c : Thread nD τ).loc main_v1) ↦[part (peer k c)]{fullShare} m ((c : Thread nD τ).loc main_v1)]
  refine bigSep_congr fun c _ => bigSep_congr fun k _ => ?_
  rw [peer_peer]; rfl

/-- The rights to make copies, by the devices that make them. -/
theorem all_rights : (bigSep Finset.univ fun x : Name nD sig => (dutyTok EG (counter x) 0 () : sProp 𝕄))
    = iprop((bigSep Finset.univ fun c : Dev nD => bigSep Finset.univ fun k : Fin 8 => dutyTok EG (C (inS k) (peer k c)) 0 ())
      ∗ bigSep Finset.univ fun c : Dev nD => bigSepL hops fun k => dutyTok EG (C (outS k) c) 0 ()) := by
  rw [← by_hops (F := F) fun k c => dutyTok EG (C (inS k) c) 0 (), ← bigSep_sep', bigSep_univ_prod]
  refine bigSep_congr fun c _ => ?_
  rw [over_counters, over_hops]

/-- Device `c` knows of all counters; it has its places on its own, its array, its slots, and the rights to its copies. -/
def share (c : Dev nD) : sProp 𝕄 :=
  iprop(known (plan m) ∗ (bigSep Finset.univ fun s => atPos EG (C s c) 0 ∅ 0)
    ∗ (((c : Thread nD τ).loc main_arg0) ↦{fullShare} m ((c : Thread nD τ).loc main_arg0))
    ∗ bigSep Finset.univ (slot m c)
    ∗ (bigSep Finset.univ fun k : Fin 8 => dutyTok EG (C (inS k) (peer k c)) 0 ())
    ∗ bigSepL hops fun k => dutyTok EG (C (outS k) c) 0 ())

/-- What a device has of its own before: its counters at zero and its two arrays. -/
def own (c : Dev nD) : sProp 𝕄 :=
  iprop((bigSep Finset.univ fun s => semVal (C s c) 0)
    ∗ (((c : Thread nD τ).loc main_arg0) ↦{fullShare} m ((c : Thread nD τ).loc main_arg0))
    ∗ (((c : Thread nD τ).loc main_v1) ↦{fullShare} m ((c : Thread nD τ).loc main_v1)))

/-- The devices put together what they have, and each takes what it needs. -/
theorem dealt : iprop(ownU seed ∗ bigSep Finset.univ fun c : Dev nD => own m c) ⊢ (|={Set.univ}=> bigSep Finset.univ fun c : Dev nD => share m c : sProp 𝕄) := by
  unfold own
  rw [bigSep_sep', bigSep_sep', all_slots, ← bigSep_univ_prod (fun x : Name nD sig => (semVal (counter x) 0 : sProp 𝕄))]
  iintro ⟨Hu, Hz, Ha, Hb⟩
  imod (seeded (plan m)) $$ Hu with Hf
  imod (all_open (plan m) (plan_storable m)) $$ [Hz Hf] with ⟨#K, Hp, Ht⟩
  · isplitl [Hz] <;> iassumption
  imodintro
  unfold share
  rw [bigSep_sep', bigSep_sep', bigSep_sep', bigSep_sep', bigSep_sep', ← all_rights, ← bigSep_univ_prod (fun x : Name nD sig => (atPos EG (counter x) 0 ∅ 0 : sProp 𝕄))]
  isplitr; · iapply (told (known (plan m)) Finset.univ); iexact K
  isplitl [Hp]; · iexact Hp
  isplitl [Ha]; · iexact Ha
  isplitl [Hb] <;> iassumption

end Cert.GatherBwd.Value

end
-- ==== Proof.Gather.Body.lean ====
module

public import proofs.«01_k».proof.Proof.Gather.Protocol

/-! The kernel on one device: the copy within the device, the seven copies to the others, the waits for those to leave
and for the others' copies to arrive, and the wait for the first copy. -/

@[expose] public section

set_option maxRecDepth 16384

noncomputable section

namespace Cert.GatherBwd.Value

open Cert.GatherBwd Cert.GatherBwd.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.Exchange

variable {F : FTy → Type} [FloatOps F]

local notation "𝕄" => MT nD τ sig Unit (Elt F) ℕ UG ℕ

variable (m : (ℓ : Loc nD τ sig) → Buf (Elt F) ℓ)

/-- The body has no loop to count down. -/
abbrev 𝒱₀ : Variants := Variants.none

/-! ### Shares of the array that is copied -/

/-- What is left of an array after `n` loans. -/
def left : ℕ → PosShare TreeShare
  | 0 => fullShare
  | n + 1 => (left n).right

/-- A share of device `c`'s array. -/
def held (c : Dev nD) (q : PosShare TreeShare) : sProp 𝕄 :=
  ((c : Thread nD τ).loc main_arg0) ↦{q} m ((c : Thread nD τ).loc main_arg0)

/-- What a device lends to the copy that goes by hop `k`. -/
def loan (c : Dev nD) (k : Fin 8) : sProp 𝕄 :=
  src.view.loc (c : Thread nD τ) ↦[src.view.set]{(left k.val).left} m ((c : Thread nD τ).loc main_arg0)

/-- One loan more. -/
theorem lend_one (c : Dev nD) (k : Fin 8) (n : ℕ) (hn : k.val = n) : held m c (left n) ⊢ iprop(loan m c k ∗ held m c (left (n + 1))) := by
  subst hn
  unfold held loan
  iintro H
  ihave H := ((pointsTo_share (PosShare.mem_left_op_right (left k.val))).1) $$ H
  icases H with ⟨Hl, Hr⟩
  isplitl [Hl]
  · ihave Hl := ((pointsTo_split_subset (Finset.subset_univ src.view.set)).1) $$ Hl
    icases Hl with ⟨Hl, -⟩
    iexact Hl
  iexact Hr

/-- A loan for each of eight copies, and something kept. -/
theorem lend (c : Dev nD) : held m c (left 0) ⊢ iprop(held m c (left 8) ∗ loan m c 0 ∗ bigSepL hops (loan m c)) := by
  iintro H
  ihave H := (lend_one m c 0 0 rfl) $$ H
  icases H with ⟨L0, H⟩
  ihave H := (lend_one m c 1 1 rfl) $$ H
  icases H with ⟨L1, H⟩
  ihave H := (lend_one m c 2 2 rfl) $$ H
  icases H with ⟨L2, H⟩
  ihave H := (lend_one m c 3 3 rfl) $$ H
  icases H with ⟨L3, H⟩
  ihave H := (lend_one m c 4 4 rfl) $$ H
  icases H with ⟨L4, H⟩
  ihave H := (lend_one m c 5 5 rfl) $$ H
  icases H with ⟨L5, H⟩
  ihave H := (lend_one m c 6 6 rfl) $$ H
  icases H with ⟨L6, H⟩
  ihave H := (lend_one m c 7 7 rfl) $$ H
  icases H with ⟨L7, H⟩
  isplitl [H]; · iexact H
  isplitl [L0]; · iexact L0
  iapply (show iprop(loan m c 1 ∗ loan m c 2 ∗ loan m c 3 ∗ loan m c 4 ∗ loan m c 5 ∗ loan m c 6 ∗ loan m c 7) ⊢ bigSepL hops (loan m c) from BI.Entails.refl _)
  isplitl [L1]; · iexact L1
  isplitl [L2]; · iexact L2
  isplitl [L3]; · iexact L3
  isplitl [L4]; · iexact L4
  isplitl [L5]; · iexact L5
  isplitl [L6] <;> iassumption

/-! ### One copy -/

/-- A device while it still has to copy by the hops in `l` and has copied by those in `d`. -/
def sending (c : Dev nD) (W : Waits sig Unit) (l d : List (Fin 8)) : sProp 𝕄 :=
  iprop(bigSepL l (loan m c) ∗ bigSepL l (slot m c) ∗ (bigSepL l fun k => dutyTok EG (C (inS k) (peer k c)) 0 ())
    ∗ (bigSepL l fun k => dutyTok EG (C (outS k) c) 0 ()) ∗ owes (c : Thread nD τ) (owed c l) W
    ∗ bigSepL d fun k => cred (tallyAt (C (outS k) c) () N))

/-- A copy by hop `k` to another device. -/
theorem wp_copy (c n : Dev nD) (k : Fin 8) (hn : n = peer k c) (hk : k ∈ hops) (W : Waits sig Unit) (l d : List (Fin 8))
    {hsc : (blk c).view.ref.isScScratch = false} {hsrc : src.view.WordExact} {hdst : (blk c).view.WordExact}
    {hsem : DmaTarget.Typed .hbm (.dma (inS k)) (.remote (Dev.tc n : Thread nD τ) (blk c) (.dma (outS k)) hsc)}
    {α : Type} {Q : α → sProp 𝕄} {rest : PUnit → Prog (TpuEff nD τ sig (Elt F) Λ₀ .tc) α} :
    iprop(known (plan m) ∗ sending m c W (k :: l) d)
      ⊢ iprop((sending m c W l (k :: d) -∗ wp frame (wpE (defs₀ (F := F)) 𝒱₀ (c : Thread nD τ) none) Set.univ (rest ⟨⟩) Q)
          -∗ wp frame (wpE (defs₀ (F := F)) 𝒱₀ (c : Thread nD τ) none) Set.univ
              (.op (.enqueueDma src (.remote (Dev.tc n : Thread nD τ) (blk c) (.dma (outS k)) hsc) (.dma (inS k)) hsrc hdst hsem) rest) Q) := by
  subst hn
  have h₁ : loan m c k ⊢ (plan m).payload (C (outS k) c) 0 () := by rw [payload_eq, brings_out m c k hk]; iintro -; iempintro
  have h₂ : ((blk c).view.loc (peer k c : Thread nD τ) ↦[(blk c).view.set]{fullShare}
      ((blk c).view.write (Elt F) (m ((peer k c : Thread nD τ).loc main_v1)) (src.view.read (Elt F) (m ((c : Thread nD τ).loc main_arg0))) Finset.univ)
      : sProp 𝕄) ⊢ (plan m).payload (C (inS k) (peer k c)) 0 () := by
    rw [payload_eq, brings_in]; unfold filled; rw [peer_peer]
    exact Entails.of_eq (pointsTo_congr fun i hi => copied m c (peer k c) _ i hi)
  have go (κ₁ κ₂ : ℕ) := Rounds.wp_send_pointsTo (src := src) (dst := blk c) (hsc := hsc) (hsrc := hsrc) (hdst := hdst) (hsem := hsem)
    (defs := defs₀ (F := F)) (Γ := .empty) (k := rest) (Q := Q) (Es := Set.univ) 𝒱₀ EG (plan m) (c : Thread nD τ) none
    (c' := (peer k c : Thread nD τ)) (sS := .dma (outS k)) (sem := .dma (inS k)) (κ₁ := κ₁) (κ₂ := κ₂) (q := (left k.val).left) (fs := m ((c : Thread nD τ).loc main_arg0))
    (r₁ := 0) (r₂ := 0) (d₁ := ()) (d₂ := ()) (fd := m ((peer k c : Thread nD τ).loc main_v1))
    (by rw [duties_one]; exact Finset.mem_univ _) (by rw [duties_one]; exact Finset.mem_univ _)
    () () N (N_eq c) (amount_eq m _ _ _) (amount_eq m _ _ _) (owed c l) (show owed c (k :: l) = _ from rfl) (W := W) h₁ h₂
  unfold sending
  rw [bigSepL_cons', bigSepL_cons', bigSepL_cons', bigSepL_cons', bigSepL_cons']
  iintro ⟨#K, ⟨L, Ls⟩, ⟨S, Ss⟩, ⟨T, Ts⟩, ⟨O, Os⟩, HO, Cs⟩ Hk
  ihave Kout := (known_one (plan m) (outS k) c) $$ K
  ihave Kin := (known_one (plan m) (inS k) (peer k c)) $$ K
  unfold opened
  icases Kout with ⟨⟨%κ₁, I1⟩, R1⟩
  icases Kin with ⟨⟨%κ₂, I2⟩, R2⟩
  iapply (go κ₁ κ₂) $$ [I1 I2 L S HO O R1 T R2]
  · isplitl [I1]; · iexact I1
    isplitl [I2]; · iexact I2
    isplitl [L]; · unfold loan; iexact L
    isplitl [S]; · unfold slot; iexact S
    isplitl [HO]; · iexact HO
    isplitl [O]; · iexact O
    isplitl [R1]; · iexact R1
    isplitl [T] <;> iassumption
  iintro ⟨Cr, HO⟩
  iapply Hk
  isplitl [Ls]; · iexact Ls
  isplitl [Ss]; · iexact Ss
  isplitl [Ts]; · iexact Ts
  isplitl [Os]; · iexact Os
  isplitl [HO]; · iexact HO
  isplitl [Cr] <;> iassumption

/-- The copy within the device. -/
theorem wp_self (c : Dev nD) {hsrc : src.view.WordExact} {hdst : (blk c).view.WordExact}
    {hsem : DmaTarget.Typed (nD := nD) .hbm (.dma (inS 0)) (DmaTarget.here (τ := τ) (p := .tc) (blk c))}
    {α : Type} {Q : α → sProp 𝕄} {rest : PUnit → Prog (TpuEff nD τ sig (Elt F) Λ₀ .tc) α} :
    iprop(known (plan m) ∗ loan m c 0 ∗ slot m c 0 ∗ dutyTok EG (C (inS 0) (peer 0 c)) 0 ())
      ⊢ iprop((cred (tallyAt (C (inS 0) c) () N) -∗ wp frame (wpE (defs₀ (F := F)) 𝒱₀ (c : Thread nD τ) none) Set.univ (rest ⟨⟩) Q)
          -∗ wp frame (wpE (defs₀ (F := F)) 𝒱₀ (c : Thread nD τ) none) Set.univ
              (.op (.enqueueDma src (.here (blk c)) (.dma (inS 0)) hsrc hdst hsem) rest) Q) := by
  have h : iprop(((blk c).view.loc (c : Thread nD τ) ↦[(blk c).view.set]{fullShare}
      ((blk c).view.write (Elt F) (m ((c : Thread nD τ).loc main_v1)) (src.view.read (Elt F) (m ((c : Thread nD τ).loc main_arg0))) Finset.univ))
        ∗ (src.view.loc (c : Thread nD τ) ↦[src.view.set]{(left 0).left} m ((c : Thread nD τ).loc main_arg0)))
      ⊢ ((plan m).payload (C (inS 0) c) 0 () : sProp 𝕄) := by
    rw [payload_eq, brings_in]; unfold filled; rw [peer_zero]
    iintro ⟨H, -⟩
    iapply (Entails.of_eq (pointsTo_congr fun i hi => copied m c c (m ((c : Thread nD τ).loc main_v1)) i hi)); iexact H
  have go (κ : ℕ) := Rounds.wp_copy_pointsTo (src := src) (dst := blk c) (hsrc := hsrc) (hdst := hdst) (hsem := hsem)
    (defs := defs₀ (F := F)) (Γ := .empty) (k := rest) (Q := Q) (Es := Set.univ) 𝒱₀ EG (plan m) (c : Thread nD τ) none
    (sem := .dma (inS 0)) (κ := κ) (q := (left 0).left) (fs := m ((c : Thread nD τ).loc main_arg0)) (fd := m ((c : Thread nD τ).loc main_v1))
    (r := 0) (d := ()) (by rw [duties_one]; exact Finset.mem_univ _) () N (N_eq c) (amount_eq m _ _ _) h
  unfold slot
  rw [peer_zero]
  iintro ⟨#K, L, S, T⟩ Hk
  ihave Kin := (known_one (plan m) (inS 0) c) $$ K
  unfold opened
  icases Kin with ⟨⟨%κ, I⟩, R⟩
  iapply (go κ) $$ [I L S T R]
  · isplitl [I]; · iexact I
    isplitl [L]; · unfold loan; iexact L
    isplitl [S]; · iexact S
    isplitl [T] <;> iassumption
  iintro Cr
  iapply Hk; iexact Cr

/-! ### The waits -/

/-- A wait for one copy on a counter: it gives what the counter brings and closes the counter at zero. -/
theorem wp_wait (c : Dev nD) (s : DmaSem sig) {a b : Memref sig .tc .hbm S32x1024 .f32} (hb : b.view.dmaCredit = N)
    {ha : a.view.WordExact} {hb' : b.view.WordExact} {α : Type} {Q : α → sProp 𝕄} {rest : PUnit → Prog (TpuEff nD τ sig (Elt F) Λ₀ .tc) α} :
    iprop(known (plan m) ∗ atPos EG (C s c) 0 ∅ 0 ∗ cred (tallyAt (C s c) () N) ∗ ∃ W, owes (c : Thread nD τ) 0 W)
      ⊢ iprop((((∃ W, owes (c : Thread nD τ) 0 W) ∗ brings m c s ∗ semVal (C s c) 0)
            -∗ wp frame (wpE (defs₀ (F := F)) 𝒱₀ (c : Thread nD τ) none) Set.univ (rest ⟨⟩) Q)
          -∗ wp frame (wpE (defs₀ (F := F)) 𝒱₀ (c : Thread nD τ) none) Set.univ (.op (.waitDma2 s a b ha hb') rest) Q) := by
  iintro ⟨#K, A, Cr, ⟨%W, HO⟩⟩ Hk
  ihave Ks := (known_one (plan m) s c) $$ K
  unfold opened
  icases Ks with ⟨⟨%κ, #I⟩, -⟩
  iapply (Rounds.wp_wait_rest_token 𝒱₀ EG (plan m) (c : Thread nD τ) none (κ := κ) (k' := b.view.dmaCredit)
      (wpE_waitDma2_eq 𝒱₀ (c : Thread nD τ) none Set.univ) (Set.mem_univ _) () (O := 0) (W := W) (R := 0) (m := 0) (T := ∅)
      ((Nat.zero_add _).trans (hb.trans (expect_eq m _).symm))) $$ [Cr HO A]
  · isplitr; · iexact I
    isplitl [Cr]; · rw [hb]; iexact Cr
    isplitl [HO]; · iexact HO
    isplitr; · rw [MayWait_zero]; iempintro
    iexact A
  iintro ⟨HO, A, -, Hp⟩
  imod (Rounds.cell_close EG (plan m) (Set.mem_univ κ) (fun h => h) (R := 0 + 1) (duties_none m (C s c))) $$ [A] with Z
  · isplitr; · iexact I
    iexact A
  iapply Hk
  isplitl [HO]; · iexists _; iexact HO
  isplitl [Hp]; · iapply (Entails.of_eq (all_given m c s)); iexact Hp
  iexact Z

/-- A device while it still has to wait for the hops in `l`, and those in `d` have been waited for. -/
def waiting (c : Dev nD) (l d : List (Fin 8)) : sProp 𝕄 :=
  iprop((bigSepL l fun k => atPos EG (C (inS k) c) 0 ∅ 0) ∗ (bigSepL l fun k => atPos EG (C (outS k) c) 0 ∅ 0)
    ∗ (bigSepL l fun k => cred (tallyAt (C (inS k) c) () N)) ∗ (bigSepL l fun k => cred (tallyAt (C (outS k) c) () N))
    ∗ (∃ W, owes (c : Thread nD τ) 0 W)
    ∗ bigSepL d (filled m c) ∗ (bigSepL d fun k => semVal (C (inS k) c) 0) ∗ bigSepL d fun k => semVal (C (outS k) c) 0)

/-- The two waits for hop `k`. -/
theorem wp_waits (c : Dev nD) (k : Fin 8) (hk : k ∈ hops) (l d : List (Fin 8))
    {h₁ h₄ : src.view.WordExact} {h₂ h₃ : (blk c).view.WordExact} {α : Type} {Q : α → sProp 𝕄} {rest : PUnit → Prog (TpuEff nD τ sig (Elt F) Λ₀ .tc) α} :
    iprop(known (plan m) ∗ waiting m c (k :: l) d)
      ⊢ iprop((waiting m c l (k :: d) -∗ wp frame (wpE (defs₀ (F := F)) 𝒱₀ (c : Thread nD τ) none) Set.univ (rest ⟨⟩) Q)
          -∗ wp frame (wpE (defs₀ (F := F)) 𝒱₀ (c : Thread nD τ) none) Set.univ
              (.op (.waitDma2 (outS k) (blk c) src h₂ h₁) fun _ => .op (.waitDma2 (inS k) src (blk c) h₄ h₃) rest) Q) := by
  unfold waiting
  rw [bigSepL_cons', bigSepL_cons', bigSepL_cons', bigSepL_cons', bigSepL_cons', bigSepL_cons', bigSepL_cons']
  iintro ⟨#K, ⟨Ai, Ais⟩, ⟨Ao, Aos⟩, ⟨Ci, Cis⟩, ⟨Co, Cos⟩, HO, Fs, Is, Os⟩ Hk
  iapply (wp_wait m c (outS k) N_src) $$ [Ao Co HO]
  · isplitr; · iexact K
    isplitl [Ao]; · iexact Ao
    isplitl [Co] <;> iassumption
  iintro ⟨HO, -, Zo⟩
  iapply (wp_wait m c (inS k) (N_eq c)) $$ [Ai Ci HO]
  · isplitr; · iexact K
    isplitl [Ai]; · iexact Ai
    isplitl [Ci] <;> iassumption
  rw [brings_in]
  iintro ⟨HO, Hf, Zi⟩
  iapply Hk
  isplitl [Ais]; · iexact Ais
  isplitl [Aos]; · iexact Aos
  isplitl [Cis]; · iexact Cis
  isplitl [Cos]; · iexact Cos
  isplitl [HO]; · iexact HO
  isplitl [Hf Fs]
  · isplitl [Hf] <;> iassumption
  isplitl [Zi Is]
  · isplitl [Zi] <;> iassumption
  isplitl [Zo] <;> iassumption

/-- The hops from the last to the first. -/
abbrev back : List (Fin 8) := [7, 6, 5, 4, 3, 2, 1]

/-- The order of the hops does not matter. -/
theorem turned (Φ : Fin 8 → sProp 𝕄) : bigSepL back Φ = bigSepL hops Φ := by
  rw [← bigSep_eq_bigSepL back (by decide), ← bigSep_eq_bigSepL hops (by decide), show back.toFinset = hops.toFinset by decide]

end Cert.GatherBwd.Value

end
-- ==== Proof.Gather.Kernel.lean ====
module

public import proofs.«01_k».proof.Proof.Gather.Body

/-! The whole kernel on one device, put together from its copies and its waits. -/

@[expose] public section

set_option maxRecDepth 16384

noncomputable section

namespace Cert.GatherBwd.Value

open Cert.GatherBwd Cert.GatherBwd.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.Exchange

variable {F : FTy → Type} [FloatOps F]

local notation "𝕄" => MT nD τ sig Unit (Elt F) ℕ UG ℕ

variable (m : (ℓ : Loc nD τ sig) → Buf (Elt F) ℓ)

/-- What a device ends with: what it kept of its array, its result, its counters at zero. -/
def kept (c : Dev nD) : sProp 𝕄 :=
  iprop(held m c (left 8) ∗ (((c : Thread nD τ).loc main_v1) ↦{fullShare} landed m c) ∗ bigSep Finset.univ fun s => semVal (C s c) 0)

/-- Eight filled blocks are the result. -/
theorem whole_result (c : Dev nD) : iprop(filled m c 0 ∗ bigSepL back (filled m c))
    ⊢ (((c : Thread nD τ).loc main_v1) ↦{fullShare} landed m c : sProp 𝕄) := by
  rw [turned, ← over_hops, by_blocks]
  exact BI.Entails.refl _

/-- What a device holds when it has made all its copies lets it wait for all. -/
theorem all_sent (c : Dev nD) (W : Waits sig Unit) : iprop(sending m c W [] back
      ∗ (bigSepL hops fun k => atPos EG (C (inS k) c) 0 ∅ 0) ∗ (bigSepL hops fun k => atPos EG (C (outS k) c) 0 ∅ 0)
      ∗ bigSepL hops fun k => cred (tallyAt (C (inS k) c) () N)) ⊢ waiting m c hops [] := by
  unfold sending waiting
  rw [turned]
  iintro ⟨⟨-, -, -, -, HO, Co⟩, Ai, Ao, Ci⟩
  isplitl [Ai]; · iexact Ai
  isplitl [Ao]; · iexact Ao
  isplitl [Ci]; · iexact Ci
  isplitl [Co]; · iexact Co
  isplitl [HO]; · iexists W; iexact HO
  isplitr; · iempintro
  isplitr <;> iempintro

/-- What it holds after the last wait is what it ends with. -/
theorem all_come (c : Dev nD) : iprop(held m c (left 8) ∗ filled m c 0 ∗ semVal (C (inS 0) c) 0
      ∗ bigSepL back (filled m c) ∗ (bigSepL back fun k => semVal (C (inS k) c) 0) ∗ bigSepL back fun k => semVal (C (outS k) c) 0)
    ⊢ kept m c := by
  unfold kept
  rw [over_counters, turned (fun k => semVal (C (inS k) c) 0), turned (fun k => semVal (C (outS k) c) 0)]
  iintro ⟨Ha, F0, Z0, Fs, Zi, Zo⟩
  isplitl [Ha]; · iexact Ha
  isplitl [F0 Fs]
  · iapply (whole_result m c)
    isplitl [F0] <;> iassumption
  isplitl [Z0 Zi]
  · isplitl [Z0] <;> iassumption
  iexact Zo

set_option maxHeartbeats 3200000 in
/-- The kernel on device `c`. -/
theorem sound (c : Dev nD) (W : Waits sig Unit) (K : PUnit → sProp 𝕄) :
    iprop((share m c ∗ (bigSepL hops fun k => cred (tallyAt (C (inS k) c) () N)) ∗ owes (c : Thread nD τ) (debt c) W)
        ∗ ((kept m c ∗ ∃ W', owes (c : Thread nD τ) 0 W') -∗ K ⟨⟩))
      ⊢ wp frame (wpE (defs₀ (F := F)) 𝒱₀ (c : Thread nD τ) none) Set.univ
          (cc0_gather_small_grads (Memref.whole main_arg0) (Memref.isWhole_whole _) (Memref.whole main_v1) (Memref.isWhole_whole _)
            cc0_scratch0 cc0_scratch1 cc0_scratch2) K := by
  rw [cc0_gather_small_grads_eq_skeleton]; unfold cc0_gather_small_grads_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret, wp_deviceId]
  unfold share
  rw [over_counters, over_hops, over_hops]
  iintro ⟨⟨⟨#Kn, ⟨⟨A0, Ai⟩, Ao⟩, Ha, ⟨S0, Ss⟩, ⟨T0, Ts⟩, To⟩, Ci, HO⟩, Hk⟩
  ihave Ha := (lend m c) $$ [Ha]
  · unfold held left; iexact Ha
  icases Ha with ⟨Ha, L0, Ls⟩
  iapply (wp_self m c) $$ [L0 S0 T0]
  · isplitr; · iexact Kn
    isplitl [L0]; · iexact L0
    isplitl [S0] <;> iassumption
  iintro C0
  ihave St := (show iprop(bigSepL hops (loan m c) ∗ bigSepL hops (slot m c) ∗ (bigSepL hops fun k => dutyTok EG (C (inS k) (peer k c)) 0 ())
    ∗ (bigSepL hops fun k => dutyTok EG (C (outS k) c) 0 ()) ∗ owes (c : Thread nD τ) (debt c) W ∗ emp) ⊢ sending m c W hops [] from BI.Entails.refl _) $$ [Ls Ss Ts To HO]
  · isplitl [Ls]; · iexact Ls
    isplitl [Ss]; · iexact Ss
    isplitl [Ts]; · iexact Ts
    isplitl [To]; · iexact To
    isplitl [HO]; · iexact HO
    iempintro
  iapply (wp_copy m c _ 1 (to1 c) (by decide) W [2, 3, 4, 5, 6, 7] []) $$ [St]
  · isplitr <;> iassumption
  iintro St
  iapply (wp_copy m c _ 2 (to2 c) (by decide) W [3, 4, 5, 6, 7] [1]) $$ [St]
  · isplitr <;> iassumption
  iintro St
  iapply (wp_copy m c _ 3 (to3 c) (by decide) W [4, 5, 6, 7] [2, 1]) $$ [St]
  · isplitr <;> iassumption
  iintro St
  iapply (wp_copy m c _ 4 (to4 c) (by decide) W [5, 6, 7] [3, 2, 1]) $$ [St]
  · isplitr <;> iassumption
  iintro St
  iapply (wp_copy m c _ 5 (to5 c) (by decide) W [6, 7] [4, 3, 2, 1]) $$ [St]
  · isplitr <;> iassumption
  iintro St
  iapply (wp_copy m c _ 6 (to6 c) (by decide) W [7] [5, 4, 3, 2, 1]) $$ [St]
  · isplitr <;> iassumption
  iintro St
  iapply (wp_copy m c _ 7 (to7 c) (by decide) W [] [6, 5, 4, 3, 2, 1]) $$ [St]
  · isplitr <;> iassumption
  iintro St
  ihave St := (all_sent m c W) $$ [St Ai Ao Ci]
  · isplitl [St]; · iexact St
    isplitl [Ai]; · iexact Ai
    isplitl [Ao] <;> iassumption
  iapply (wp_waits m c 1 (by decide) [2, 3, 4, 5, 6, 7] []) $$ [St]
  · isplitr <;> iassumption
  iintro St
  iapply (wp_waits m c 2 (by decide) [3, 4, 5, 6, 7] [1]) $$ [St]
  · isplitr <;> iassumption
  iintro St
  iapply (wp_waits m c 3 (by decide) [4, 5, 6, 7] [2, 1]) $$ [St]
  · isplitr <;> iassumption
  iintro St
  iapply (wp_waits m c 4 (by decide) [5, 6, 7] [3, 2, 1]) $$ [St]
  · isplitr <;> iassumption
  iintro St
  iapply (wp_waits m c 5 (by decide) [6, 7] [4, 3, 2, 1]) $$ [St]
  · isplitr <;> iassumption
  iintro St
  iapply (wp_waits m c 6 (by decide) [7] [5, 4, 3, 2, 1]) $$ [St]
  · isplitr <;> iassumption
  iintro St
  iapply (wp_waits m c 7 (by decide) [] [6, 5, 4, 3, 2, 1]) $$ [St]
  · isplitr <;> iassumption
  unfold waiting
  iintro ⟨-, -, -, -, HO, Fs, Zi, Zo⟩
  iapply (wp_wait m c (inS 0) (N_eq c)) $$ [A0 C0 HO]
  · isplitr; · iexact Kn
    isplitl [A0]; · iexact A0
    isplitl [C0] <;> iassumption
  rw [brings_in]
  iintro ⟨HO, F0, Z0⟩
  rw [wp_ret]; imodintro
  iapply Hk
  isplitr [HO]
  · iapply (all_come m c)
    isplitl [Ha]; · iexact Ha
    isplitl [F0]; · iexact F0
    isplitl [Z0]; · iexact Z0
    isplitl [Fs]; · iexact Fs
    isplitl [Zi] <;> iassumption
  iexact HO

end Cert.GatherBwd.Value

end
-- ==== Proof.Gather.Run.lean ====
module

public import proofs.«01_k».proof.Proof.Gather.Kernel

/-! All eight devices run: the start deals the slots and the rights, the end reads the results. -/

@[expose] public section

set_option maxRecDepth 16384

noncomputable section

namespace Cert.GatherBwd.Value

open Cert.GatherBwd Cert.GatherBwd.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UG ℕ

variable (m : (ℓ : Loc nD τ sig) → Buf (Elt F) ℓ) (ρ : Dev nD → PrngReg)

/-! ### The call -/

/-- What the kernel starts from on device `c`. -/
def ready (c : Dev nD) : sProp 𝕄 := iprop(share m c ∗ bigSepL hops fun k => cred (tallyAt (C (inS k) c) () N))

/-- The call's proof data: nothing is staged, the debt is there before the one step and gone after it. -/
def data (_ : Fin 1) (c : Dev nD) : Dat τ (Elt F) Unit ℕ UG ℕ cfg0 c where
  A w := m ((cfg0.win w).arr.view.loc (c : Thread nD τ))
  after w _ := Fin.elim0 (show Fin 0 from w)
  Φ t := if t.val = 0 then ready m c else kept m c
  q _ := fullShare
  owed t := if t.val = 0 then debt c else 0

/-- Nothing is staged, so there is nothing to hold for it. -/
theorem unstaged (Φ : Fin cfg0.W → sProp 𝕄) : (iprop(emp) : sProp 𝕄) = bigSep Finset.univ Φ := (bigSep_univ_eq_bigSepL [] (by decide) (by decide) Φ).symm

/-- The kernel does what the call's data say. -/
theorem body (c : Dev nD) : BodyObligation (data m 0 c) (defs₀ (F := F)) 𝒱₀ () Set.univ := fun t => by
  rw [fin_N0 t]
  show iprop(ready m c ∗ (data m 0 c).owesAt () t0_0.castSucc ∗ _) ⊢ wp frame (wpE defs₀ 𝒱₀ c none) Set.univ
    (cc0_gather_small_grads (Memref.whole main_arg0) (Memref.isWhole_whole _) (Memref.whole main_v1) (Memref.isWhole_whole _)
      cc0_scratch0 cc0_scratch1 cc0_scratch2)
    (fun _ => iprop(kept m c ∗ (data m 0 c).owesAt () t0_0.succ ∗ _))
  rw [← unstaged, ← unstaged]
  unfold ready Dat.owesAt Pipeline.owesWithin
  rw [show (data m 0 c).owed t0_0.castSucc = debt c from rfl, show (data m 0 c).owed t0_0.succ = 0 from rfl]
  iintro ⟨⟨Hs, Hc⟩, ⟨%W, -, HO⟩, -⟩
  iapply (sound m c W)
  isplitl [Hs Hc HO]
  · isplitl [Hs]; · iexact Hs
    isplitl [Hc] <;> iassumption
  iintro ⟨Hk, ⟨%W', HO⟩⟩
  isplitl [Hk]; · iexact Hk
  isplitl [HO]
  · iexists W'
    isplitr; · ipureintro; exact fun _ _ => Or.inl trivial
    iexact HO
  iempintro

/-! ### What a device holds around its call -/

/-- The counters that belong to the call are all there are. -/
theorem counters_eq (c : Dev nD) : (scopedSems0 (c : Thread nD τ) : sProp 𝕄) = bigSep Finset.univ fun s => semVal (C s c) 0 := by
  have e : (Finset.univ.filter fun s : SemLoc sig => s.isScoped .tc = true)
      = Finset.univ.map ⟨fun s : DmaSem sig => SemLoc.dma s, fun _ _ => SemLoc.dma.inj⟩ := by decide
  rw [show (scopedSems0 (c : Thread nD τ) : sProp 𝕄) = _ from scopedSems0_tc c]
  refine (congrArg (fun S => bigSep S fun s : SemLoc sig => (semVal ((c : Thread nD τ), s) 0 : sProp 𝕄)) e).trans ?_
  rw [bigSep_map]
  rfl

/-- A device's two arrays, of all that it holds outside the call. -/
theorem arrays_of (c : Dev nD) : (unscopedBufs c (fun b => m ((c : Thread nD τ).loc b)) : sProp 𝕄)
    ⊢ iprop((((c : Thread nD τ).loc main_arg0) ↦{fullShare} m ((c : Thread nD τ).loc main_arg0))
      ∗ (((c : Thread nD τ).loc main_v1) ↦{fullShare} m ((c : Thread nD τ).loc main_v1))) := by
  rw [Pipeline.unscopedBufs_split cfgs 0 winFacts0.arr_unscoped winFacts0.arr_inj c, unscopedRest0_eq]
  iintro ⟨-, H⟩
  iexact H

/-- The two arrays at the end: the one copied, of which something was kept, and the result. -/
def result (c : Dev nD) : sProp 𝕄 := iprop(held m c (left 8) ∗ (((c : Thread nD τ).loc main_v1) ↦{fullShare} landed m c))

/-- What the memory at the start gives to one device. -/
theorem start_one (c : Dev nD) : coreInit (Ix := Unit) (Name := ℕ) (U := UG) (Lvl := ℕ) (Pipeline.owing debt) 0
      (⟨m, fun _ => 0, ρ⟩ : MemSt nD τ sig (Elt F)) (c : Thread nD τ)
    ⊢ iprop(own m c ∗ scopedBufs (c : Thread nD τ) ∗ owes (c : Thread nD τ) (debt c) ∅ ∗ bigSepL hops fun k => cred (tallyAt (C (inS k) c) () N)) := by
  refine (Pipeline.coreInit_boundary_owing debt m ρ c).trans ?_
  unfold boundary own
  rw [counters_eq]
  iintro ⟨⟨Hb, Hz, -⟩, Ha, -, HO, -, -, Hc⟩
  isplitl [Hz Ha]
  · isplitl [Hz]; · iexact Hz
    iapply (arrays_of m c); iexact Ha
  isplitl [Hb]; · iexact Hb
  isplitl [HO]; · iexact HO
  iapply (claim (F := F) c); iexact Hc

/-! ### The run -/

/-- The call's buffers are none. -/
theorem buffers (c : Dev nD) : (scopedBufs (c : Thread nD τ) : sProp 𝕄) = iprop(Dat.staging cfg0 c ∗ emp) := by
  rw [Pipeline.scopedBufs_split cfgs 0 winFacts0.stage_scoped winFacts0.stage_inj stage_whole0 c, scopedRest0_eq]
  rfl

/-- The kernel keeps the result and gives back the counters. -/
theorem ended (c : Dev nD) : iprop(kept m c ∗ Pipeline.cellsSems0 cfgs 0 c ∗ Dat.staging cfg0 c)
      ⊢ iprop(result m c ∗ scopedSems0 (c : Thread nD τ) ∗ scopedBufs (c : Thread nD τ)) := by
  rw [counters_eq, buffers]
  unfold kept result
  iintro ⟨⟨Ha, Hv, Hz⟩, -, Hst⟩
  isplitl [Ha Hv]
  · isplitl [Ha] <;> iassumption
  isplitl [Hz]; · iexact Hz
  isplitl [Hst]; · iexact Hst
  iempintro

/-- The run: every device keeps its array and ends with all eight, and every counter ends at zero. -/
theorem run : θ_run (defs (F := F)) (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = landed m c) ∧ r.2.sem = fun _ => 0) :=
  haveI : IsEmpty (Fin (cfgs 0).W) := Fin.isEmpty
  Exchange.run m ρ (defs (F := F)) (main (F := F)) (Variants.lift 𝒱₀) debt Exchange.seed
    (fun c => iprop(scopedBufs (c : Thread nD τ) ∗ owes (c : Thread nD τ) (debt c) ∅ ∗ ready m c))
    (fun c => iprop(result m c ∗ scopedSems0 (c : Thread nD τ)))
    (fun c f => f ((c : Thread nD τ).loc main_arg0) = m ((c : Thread nD τ).loc main_arg0) ∧ f ((c : Thread nD τ).loc main_v1) = landed m c) (by decide)
    (Exchange.start m ρ debt Exchange.seed (own m) (share m) _ (start_one m ρ) (dealt m))
    (fun c => Exchange.device cfgs (data m) EL defs₀ 𝒱₀ cellOf_inj c (result m) (body m c) rfl (buffers c) (ended m c))
    (fun c s => Exchange.read c _ _ (left 8) fullShare _ _ s)

end Cert.GatherBwd.Value

end
-- ==== Proof.Gather.Claims.lean ====
module

public import proofs.«01_k».proof.Defs
public import proofs.«01_k».proof.Proof.Gen.GatherBwdIdeal
public import proofs.«01_k».proof.Proof.Gen.GatherRefIdeal.Run
public import proofs.«01_k».proof.Proof.Gen.GatherRefIdeal.Read
public import proofs.«01_k».proof.Proof.Gather.Run

/-! The claims about the gathering of the packed gradients from the eight devices. -/

@[expose] public section

set_option maxRecDepth 16384

noncomputable section

namespace Cert.Proof

open Idealize.ShloMosaic Idealize.SL.Sem

open Cert

/-- The gathering ends, leaves every device's array, and leaves every counter at zero. -/
theorem gather_frame : Cert.quiescent_GatherBwd := fun m ρ _ =>
  (θ_run _ _ _).mono (fun _ h => ⟨fun c => (h.1 c).1, h.2⟩) (GatherBwd.Value.run m ρ)

/-- Idealizing changes nothing in the kernel's body. -/
theorem gather_bodies : GatherBwd.defs₀ (F := Ideal) = GatherBwdIdeal.defs₀ (F := Ideal) :=
  congrArg Defs.onTc (funext fun l => match l with | ⟨0, _⟩ => rfl)

/-- Nor in what the devices run with. -/
theorem gather_defs : GatherBwd.defs (F := Ideal) = GatherBwdIdeal.defs (F := Ideal) := congrArg (Pipeline.defs GatherBwd.pcfgs) gather_bodies

/-- So the idealized gathering ends as the gathering does. -/
theorem gather_ideal (m : (ℓ : Loc GatherBwd.nD GatherBwd.τ GatherBwd.sig) → Buf (Elt Ideal) ℓ) (ρ : Dev GatherBwd.nD → PrngReg) :
    θ_run (GatherBwdIdeal.defs (F := Ideal)) (onTc (τ := GatherBwdIdeal.τ) (GatherBwdIdeal.main (F := Ideal))) ⟨m, fun _ => 0, ρ⟩ (fun r =>
      (∀ c : Dev GatherBwd.nD, r.2.mem ((c.tc : Thread GatherBwd.nD GatherBwd.τ).loc GatherBwd.main_arg0) = m ((c.tc : Thread GatherBwd.nD GatherBwd.τ).loc GatherBwd.main_arg0)
        ∧ r.2.mem ((c.tc : Thread GatherBwd.nD GatherBwd.τ).loc GatherBwd.main_v1) = GatherBwd.Value.landed m c) ∧ r.2.sem = fun _ => 0) :=
  gather_defs ▸ GatherBwd.Value.run (F := Ideal) m ρ

/-- The idealized gathering ends, too, with the arrays and the counters in order. -/
theorem gather_frame_ideal : Cert.quiescent_GatherBwdIdeal := fun m ρ _ =>
  (θ_run _ _ _).mono (fun _ h => ⟨fun c => (h.1 c).1, h.2⟩) (gather_ideal m ρ)

/-- The reference ends and leaves its argument. -/
theorem gather_frame_ref : Cert.quiescent_GatherRefIdeal := by
  intro m ρ _
  exact (θ_run _ _ _).mono (fun r h => ⟨fun c => (h c).2, sem_eq_zero_of_no_sems (by decide) r.2⟩)
    (Cert.GatherRefIdeal.Value.run m ρ)

/-- Where the reference finds entry `i` of its result: in row `i 1` of the block of device `i 0`. -/
theorem gather_place (i : GatherRefIdeal.S8x32x1024.Idx) :
    Layout.Tiles.idx (S := ⟨2, ![32, 1024]⟩) (T := ⟨2, ![256, 1024]⟩) (a := 0) (k := 8) (by decide) (i 0) (GatherBwd.Value.within i)
      = GatherRefIdeal.Read.idx_main_v0 i := by
  have h1 : (i 1).val < 32 := (i 1).isLt
  have h2 : (i 2).val < 1024 := (i 2).isLt
  refine funext fun a => Fin.ext ?_
  match a with
  | ⟨0, _⟩ =>
    show (i 0).val * 32 + (i 1).val = (((i 0).val * 32 + (i 1).val) * 1024 + (i 2).val) / 1024
    omega
  | ⟨1, _⟩ =>
    show (i 2).val = (((i 0).val * 32 + (i 1).val) * 1024 + (i 2).val) % 1024
    omega

/-- Every device ends with the reference's result. -/
theorem gather_value : Cert.algebraic_GatherBwdIdeal_GatherRefIdeal := by
  intro m g m' g' _ hagree
  refine ⟨GatherRefIdeal.Read.val_main_v0 (F := Ideal) (m' (((0 : Dev GatherRefIdeal.nD).tc : Thread GatherRefIdeal.nD GatherRefIdeal.τ).loc GatherRefIdeal.main_arg0)),
    (θ_run _ _ _).mono (fun r h c => ⟨((h.1 c).2).trans ?_, (h.1 c).1⟩) (gather_ideal m g),
    (θ_run _ _ _).mono (fun r h => ⟨(h 0).1.trans (GatherRefIdeal.Read.val_main_v0_eq _), (h 0).2⟩) (GatherRefIdeal.Value.run m' g')⟩
  refine funext fun i => Eq.trans ?_ (GatherRefIdeal.Read.val_main_v0_apply _ i).symm
  refine (congrFun (hagree (show Dev GatherBwd.nD from i 0)) (GatherBwd.Value.within i)).trans ?_
  exact congrArg (m' (((0 : Dev GatherRefIdeal.nD).tc : Thread GatherRefIdeal.nD GatherRefIdeal.τ).loc GatherRefIdeal.main_arg0)) (gather_place i)

end Cert.Proof

end
-- ==== Proof.Weights.Setup.lean ====
module

public import proofs.«01_k».proof.Proof.Gen.WeightsFwd
public import proofs.«01_k».proof.Proof.Gen.WeightsFwd.Skeleton
public import proofs.«01_k».proof.Proof.Gen.WeightsFwd.Launch
public import proofs.«01_k».proof.Proof.Exchange
public import Idealize.ShloMosaic.Lib.ValueLayout

/-! The gathering of the weights. A device sends its block to three others only; the rest it passes on when it has
come. Copies are numbered as their counters are: 0, 1, 2 carry the device's own block, 3 and 4 one half each of a
block that has come, 5, 6 and 7 a whole block that has come; copy 8 stays within the device. -/

@[expose] public section

set_option maxRecDepth 16384

noncomputable section

namespace Cert.WeightsFwd.Value

open Cert.WeightsFwd Cert.WeightsFwd.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the launch's part, which stays unused, and one copy counted on each counter. -/
abbrev UW : Type := UR sig nD τ × URounds (GSem nD τ sig) Unit

/-- The launch's part of it. -/
abbrev EL : Emb (UR sig nD τ) (MT nD τ sig Unit (Elt F) ℕ UW ℕ) := embL
/-- The copies' part of it. -/
abbrev EW : Emb (URounds (GSem nD τ sig) Unit) (MT nD τ sig Unit (Elt F) ℕ UW ℕ) := embR

variable (m : (ℓ : Loc nD τ sig) → Buf (Elt F) ℓ)

/-! ### Who sends which block to whom -/

/-- The bits of a device's number that differ between the two ends of copy `k`. -/
def hopBits : Fin 9 → Fin 8 := ![1, 4, 2, 2, 4, 1, 1, 1, 0]
/-- The bits that differ between the sender and the device whose block copy `k` carries. -/
def blockBits : Fin 9 → Fin 8 := ![0, 0, 0, 4, 2, 4, 2, 6, 0]

/-- Device `d` with some bits of its number changed. -/
def flip (b : Fin 8) (d : Dev nD) : Dev nD := ⟨d.val ^^^ b.val, Nat.xor_lt_two_pow (n := 3) d.isLt b.isLt⟩

/-- The device at the other end of copy `k`. -/
abbrev peer (k : Fin 9) (d : Dev nD) : Dev nD := flip (hopBits k) d
/-- The device whose block copy `k` carries away from `d`. -/
abbrev sent (k : Fin 9) (d : Dev nD) : Dev nD := flip (blockBits k) d
/-- The device whose block copy `k` brings to `d`. -/
abbrev got (k : Fin 9) (d : Dev nD) : Dev nD := sent k (peer k d)

/-- The other end of the other end is the device itself. -/
theorem peer_peer : ∀ (k : Fin 9) (d : Dev nD), peer k (peer k d) = d := by decide
/-- Copy 8 stays. -/
theorem peer_self : ∀ d : Dev nD, peer 8 d = d := by decide
/-- What goes by copy `k` is what comes at its other end. -/
theorem got_peer (k : Fin 9) (d : Dev nD) : got k (peer k d) = sent k d := by unfold got; rw [peer_peer]

/-- The two ends of a copy change places. -/
def swap (k : Fin 9) : Dev nD ≃ Dev nD := ⟨peer k, peer k, peer_peer k, peer_peer k⟩

/-- The targets of the eight copies to other devices, in the kernel's words. -/
theorem targets : ∀ d : Dev nD, (⟨k0_dev1 d, k0_dev1_lt d⟩ : Dev nD) = peer 0 d ∧ (⟨k0_dev2 d, k0_dev2_lt d⟩ : Dev nD) = peer 1 d
    ∧ (⟨k0_dev3 d, k0_dev3_lt d⟩ : Dev nD) = peer 2 d ∧ (⟨k0_dev4 d, k0_dev4_lt d⟩ : Dev nD) = peer 3 d
    ∧ (⟨k0_dev5 d, k0_dev5_lt d⟩ : Dev nD) = peer 5 d ∧ (⟨k0_dev6 d, k0_dev6_lt d⟩ : Dev nD) = peer 4 d
    ∧ (⟨k0_dev7 d, k0_dev7_lt d⟩ : Dev nD) = peer 6 d ∧ (⟨k0_dev8 d, k0_dev8_lt d⟩ : Dev nD) = peer 7 d := by decide +kernel

/-! ### Areas of the result -/

/-- The first row, within a block, of what copy `k` carries. -/
def lo (k : Fin 9) : ℕ := if k = 4 then 592 else 0
/-- The row after the last. -/
def hi (k : Fin 9) : ℕ := if k = 3 then 592 else 1184

/-- The entries of the result that copy `k` fills with device `b`'s block. -/
def area (k : Fin 9) (b : Dev nD) : Finset S8x1184x1024.Idx :=
  Finset.univ.filter fun i => (i 0).val = b.val ∧ lo k ≤ (i 1).val ∧ (i 1).val < hi k

/-- Where an entry lies that is in an area. -/
theorem mem_area {k : Fin 9} {b : Dev nD} {i : S8x1184x1024.Idx} :
    i ∈ area k b ↔ (i 0).val = b.val ∧ lo k ≤ (i 1).val ∧ (i 1).val < hi k := by
  unfold area; rw [Finset.mem_filter, and_iff_right (Finset.mem_univ i)]

/-- What arrives by copy `k` at device `d` goes here. -/
abbrev part (d : Dev nD) (k : Fin 9) : Finset S8x1184x1024.Idx := area k (got k d)

/-- Two different copies to one device fill different blocks, or the two halves of one. -/
theorem fill_differ : ∀ (d : Dev nD) (k l : Fin 9), k ≠ l → got k d ≠ got l d ∨ hi k ≤ lo l ∨ hi l ≤ lo k := by decide +kernel
/-- Every block comes whole by one copy, or in halves by copies 3 and 4. -/
theorem fill_all : ∀ d b : Dev nD, (∃ k : Fin 9, got k d = b ∧ lo k = 0 ∧ hi k = 1184) ∨ got 3 d = b ∧ got 4 d = b := by decide +kernel

/-- So the areas lie apart. -/
theorem parts_apart (d : Dev nD) (k l : Fin 9) (h : k ≠ l) : Disjoint (part d k) (part d l) := by
  rw [Finset.disjoint_left]
  intro i hk hl
  obtain ⟨ek, h1, h2⟩ := mem_area.mp hk
  obtain ⟨el, h3, h4⟩ := mem_area.mp hl
  rcases fill_differ d k l h with h | h | h
  · exact h (Fin.ext (ek.symm.trans el))
  · omega
  · omega

/-- And they make up the result. -/
theorem parts_all (d : Dev nD) : Finset.univ.biUnion (part d) = Finset.univ := by
  refine Finset.eq_univ_iff_forall.mpr fun i => Finset.mem_biUnion.mpr ?_
  have hr : (i 1).val < 1184 := (i 1).isLt
  rcases fill_all d ⟨(i 0).val, (i 0).isLt⟩ with ⟨k, hk, hl, hh⟩ | ⟨h3, h4⟩
  · refine ⟨k, Finset.mem_univ k, mem_area.mpr ⟨by rw [hk], ?_, ?_⟩⟩ <;> omega
  · by_cases h : (i 1).val < 592
    · exact ⟨3, Finset.mem_univ _, mem_area.mpr ⟨by rw [h3], Nat.zero_le _, h⟩⟩
    · exact ⟨4, Finset.mem_univ _, mem_area.mpr ⟨by rw [h4], Nat.le_of_not_lt h, hr⟩⟩

/-! ### Blocks and halves, as the kernel names them -/

/-- Where copy `k`'s part of device `b`'s block begins. -/
def start (k : Fin 9) (b : Dev nD) : Fin 3 → ℕ := ![b.val, lo k, 0]

/-- A block of the result, by where it begins. -/
abbrev blk (o : Fin 3 → ℕ) (h : ∀ a, o a + S1x1184x1024.size a ≤ S8x1184x1024.size a) : Memref sig .tc .hbm S1184x1024 .bf16 :=
  ((Memref.whole main_v1).slice (Rect.unit (s := S8x1184x1024) o S1x1184x1024.size h) (fun _ => rfl)).squeeze
    S1184x1024 squeezes_S1x1184x1024_S1184x1024

/-- Half a block of the result, by where it begins. -/
abbrev half (o : Fin 3 → ℕ) (h : ∀ a, o a + S1x592x1024.size a ≤ S8x1184x1024.size a) : Memref sig .tc .hbm S592x1024 .bf16 :=
  ((Memref.whole main_v1).slice (Rect.unit (s := S8x1184x1024) o S1x592x1024.size h) (fun _ => rfl)).squeeze
    S592x1024 squeezes_S1x592x1024_S592x1024

/-- The blocks that the kernel sends begin where they should. -/
theorem begins : ∀ d : Dev nD, (k0_off1 d = start 0 (sent 0 d) ∧ k0_off3 d = start 3 (sent 3 d) ∧ k0_off5 d = start 4 (sent 4 d))
    ∧ k0_off2 d = start 5 (sent 5 d) ∧ k0_off4 d = start 6 (sent 6 d) ∧ k0_off8 d = start 7 (sent 7 d) := by decide +kernel

/-- The entries of a whole block. -/
theorem blk_set {k : Fin 9} (h3 : k ≠ 3) (h4 : k ≠ 4) (b : Dev nD) (h : ∀ a, start k b a + S1x1184x1024.size a ≤ S8x1184x1024.size a) :
    (blk (start k b) h).view.set = area k b := by
  refine ((View.set_reshape (v := ((Memref.whole main_v1).slice (Rect.unit (s := S8x1184x1024) (start k b) S1x1184x1024.size h) (fun _ => rfl)).view)
    squeezes_S1x1184x1024_S1184x1024.numel_eq).trans (View.set_slice_whole _ _)).trans (Finset.ext fun i => ?_)
  rw [mem_area]
  refine Rect.mem_set_unit.trans ⟨fun e => ?_, fun e a => ?_⟩
  · have e0 : b.val ≤ (i 0).val ∧ (i 0).val < b.val + 1 := e 0
    have e1 : lo k ≤ (i 1).val ∧ (i 1).val < lo k + 1184 := e 1
    unfold lo hi at *
    rw [if_neg h4] at *
    rw [if_neg h3]
    omega
  · have e2 : (i 2).val < 1024 := (i 2).isLt
    unfold lo hi at e
    rw [if_neg h4, if_neg h3] at e
    match a with
    | 0 => show b.val ≤ (i 0).val ∧ (i 0).val < b.val + 1; omega
    | 1 => show lo k ≤ (i 1).val ∧ (i 1).val < lo k + 1184; unfold lo; rw [if_neg h4]; omega
    | 2 => show 0 ≤ (i 2).val ∧ (i 2).val < 0 + 1024; omega

/-- The entries of half a block. -/
theorem half_set {k : Fin 9} (hk : k = 3 ∨ k = 4) (b : Dev nD) (h : ∀ a, start k b a + S1x592x1024.size a ≤ S8x1184x1024.size a) :
    (half (start k b) h).view.set = area k b := by
  refine ((View.set_reshape (v := ((Memref.whole main_v1).slice (Rect.unit (s := S8x1184x1024) (start k b) S1x592x1024.size h) (fun _ => rfl)).view)
    squeezes_S1x592x1024_S592x1024.numel_eq).trans (View.set_slice_whole _ _)).trans (Finset.ext fun i => ?_)
  rw [mem_area]
  have hh : hi k = lo k + 592 := by rcases hk with rfl | rfl <;> rfl
  refine Rect.mem_set_unit.trans ⟨fun e => ?_, fun e a => ?_⟩
  · have e0 : b.val ≤ (i 0).val ∧ (i 0).val < b.val + 1 := e 0
    have e1 : lo k ≤ (i 1).val ∧ (i 1).val < lo k + 592 := e 1
    omega
  · have e2 : (i 2).val < 1024 := (i 2).isLt
    match a with
    | 0 => show b.val ≤ (i 0).val ∧ (i 0).val < b.val + 1; omega
    | 1 => show lo k ≤ (i 1).val ∧ (i 1).val < lo k + 592; omega
    | 2 => show 0 ≤ (i 2).val ∧ (i 2).val < 0 + 1024; omega

/-! ### What the copies write -/

/-- The array that a device copies from. -/
abbrev src : Memref sig .tc .hbm S1184x1024 .bf16 := Memref.whole main_arg0

/-- The entry of a device's array that ends at entry `i` of the result. -/
def within (i : S8x1184x1024.Idx) : S1184x1024.Idx := fun a => match a with
  | ⟨0, _⟩ => ⟨(i 1).val, (i 1).isLt⟩
  | ⟨1, _⟩ => ⟨(i 2).val, (i 2).isLt⟩

/-- What every device ends holding: block `b` is device `b`'s array. -/
def landed (c : Dev nD) : Buf (Elt F) ((c : Thread nD τ).loc main_v1) :=
  fun i => m (((show Dev nD from i 0) : Thread nD τ).loc main_arg0) (within i)

/-- Entries of one device's array are equal when the devices and the places are. -/
theorem same_entry {b b' : Dev nD} {y y' : S1184x1024.Idx} (hb : b = b') (hy : y = y') :
    m ((b : Thread nD τ).loc main_arg0) y = m ((b' : Thread nD τ).loc main_arg0) y' := by
  subst hb hy; rfl

/-- A copy of device `b`'s array puts into block `b` what the result is to hold there. -/
theorem copied (b c : Dev nD) (h : ∀ a, start 0 b a + S1x1184x1024.size a ≤ S8x1184x1024.size a) (fd : Buf (Elt F) ((c : Thread nD τ).loc main_v1))
    (i : Idx ((c : Thread nD τ).loc main_v1)) (hi : i ∈ (blk (start 0 b) h).view.set) :
    (blk (start 0 b) h).view.write (Elt F) fd (src.view.read (Elt F) (m ((b : Thread nD τ).loc main_arg0))) Finset.univ i = landed m c i := by
  obtain ⟨y, -, rfl⟩ := Finset.mem_map.mp hi
  refine (View.write_emb_of_mem (v := (blk (start 0 b) h).view) _ _ (Finset.mem_univ y)).trans ?_
  have hz : Shape.reshapeEquiv squeezes_S1x1184x1024_S1184x1024.numel_eq y = (ix3 0 (y 0) (y 1) : S1x1184x1024.Idx) := by
    conv_lhs => rw [show y = (ix2 (y 0) (y 1) : S1184x1024.Idx) from funext fun a => by match a with | 0 => rfl | 1 => rfl]
    exact reshapeEquiv_ix2_1ab _ _ _
  have e : (blk (start 0 b) h).view.emb y = (Rect.unit (s := S8x1184x1024) (start 0 b) S1x1184x1024.size h).emb (ix3 0 (y 0) (y 1)) := by
    rw [← hz]; rfl
  have r : ∀ a, ((blk (start 0 b) h).view.emb y a).val = start 0 b a + 1 * ((ix3 0 (y 0) (y 1) : S1x1184x1024.Idx) a).val := fun a => by rw [e]; rfl
  refine same_entry m (Fin.ext ?_) (funext fun a => Fin.ext ?_)
  · exact (show b.val = b.val + 1 * 0 by omega).trans (r 0).symm
  · match a with
    | ⟨0, _⟩ => exact (show (y 0).val = 0 + 1 * (y 0).val by omega).trans (r 1).symm
    | ⟨1, _⟩ => exact (show (y 1).val = 0 + 1 * (y 1).val by omega).trans (r 2).symm

/-- A block of a finished result, copied to the same place elsewhere, is finished there. -/
theorem passed_blk (o : Fin 3 → ℕ) (h : ∀ a, o a + S1x1184x1024.size a ≤ S8x1184x1024.size a) (b c : Dev nD) (fd : Buf (Elt F) ((c : Thread nD τ).loc main_v1))
    (i : Idx ((c : Thread nD τ).loc main_v1)) (hi : i ∈ (blk o h).view.set) :
    (blk o h).view.write (Elt F) fd ((blk o h).view.read (Elt F) (landed m b)) Finset.univ i = landed m c i := by
  obtain ⟨y, -, rfl⟩ := Finset.mem_map.mp hi
  exact View.write_emb_of_mem (v := (blk o h).view) _ _ (Finset.mem_univ y)

/-- So is half a block. -/
theorem passed_half (o : Fin 3 → ℕ) (h : ∀ a, o a + S1x592x1024.size a ≤ S8x1184x1024.size a) (b c : Dev nD) (fd : Buf (Elt F) ((c : Thread nD τ).loc main_v1))
    (i : Idx ((c : Thread nD τ).loc main_v1)) (hi : i ∈ (half o h).view.set) :
    (half o h).view.write (Elt F) fd ((half o h).view.read (Elt F) (landed m b)) Finset.univ i = landed m c i := by
  obtain ⟨y, -, rfl⟩ := Finset.mem_map.mp hi
  exact View.write_emb_of_mem (v := (half o h).view) _ _ (Finset.mem_univ y)

end Cert.WeightsFwd.Value

end
-- ==== Proof.Weights.Protocol.lean ====
module

public import proofs.«01_k».proof.Proof.Weights.Setup

/-! The protocol of the gathering of the weights. Each of a device's seventeen counters counts one copy. A copy that
arrives brings what it has filled, and what a device lends to a copy that leaves it does not get back. A device waits
while it still owes copies, so the counters have ranks: what is owed ranks above what is waited for. -/

@[expose] public section

set_option maxRecDepth 16384

noncomputable section

namespace Cert.WeightsFwd.Value

open Cert.WeightsFwd Cert.WeightsFwd.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UW ℕ

variable (m : (ℓ : Loc nD τ sig) → Buf (Elt F) ℓ)

/-! ### The counters -/

/-- Counter `s` of device `c`. -/
abbrev C (s : DmaSem sig) (c : Dev nD) : GSem nD τ sig := ((c : Thread nD τ), .dma s)

/-- The counter of copy `k` where it arrives. -/
def inS (k : Fin 9) : DmaSem sig := ⟨8 + k.val, by change _ < 17; omega⟩
/-- The counter of copy `k` where it leaves. -/
def outS (k : Fin 9) : DmaSem sig := ⟨k.val % 8, by change _ < 17; omega⟩
/-- The copy whose arrival a counter counts. -/
def copyOf (s : DmaSem sig) : Fin 9 := ⟨(s.val + 1) % 9, by omega⟩

/-- The copies to other devices, in the order in which they start. -/
abbrev order : List (Fin 9) := [0, 1, 2, 3, 5, 4, 6, 7]

/-- A counter of an arrival tells its copy. -/
theorem copyOf_in : ∀ k : Fin 9, copyOf (inS k) = k := by decide
/-- The counters of departures are the first eight. -/
theorem out_low : ∀ k : Fin 9, (outS k).val < 8 := by decide
/-- Those of arrivals are the others. -/
theorem in_high : ∀ k : Fin 9, ¬(inS k).val < 8 := by decide

/-- One thing for each counter. -/
theorem over_counters (Φ : DmaSem sig → sProp 𝕄) : bigSep Finset.univ Φ
    = iprop((Φ (inS 8) ∗ bigSepL order fun k => Φ (inS k)) ∗ bigSepL order fun k => Φ (outS k)) := by
  rw [bigSep_univ_eq_bigSepL ([inS 8] ++ order.map inS ++ order.map outS) (by decide) (by decide), bigSepL_append, bigSepL_append, bigSepL_map,
    bigSepL_map, bigSepL_singleton]

/-- One thing for each copy. -/
theorem over_copies (Φ : Fin 9 → sProp 𝕄) : bigSep Finset.univ Φ = iprop(Φ 8 ∗ bigSepL order Φ) :=
  bigSep_univ_eq_bigSepL [8, 0, 1, 2, 3, 5, 4, 6, 7] (by decide) (by decide) Φ

/-- What there is of each copy at each device may be dealt to the other end. -/
theorem by_ends (Φ : Fin 9 → Dev nD → sProp 𝕄) : bigSep Finset.univ (fun c => bigSep Finset.univ fun k => Φ k c)
    = bigSep Finset.univ fun c => bigSep Finset.univ fun k => Φ k (peer k c) := by
  rw [bigSep_univ_comm, bigSep_univ_comm (fun c k => Φ k (peer k c))]
  exact bigSep_congr fun k _ => bigSep_univ_equiv (swap k) (Φ k)

/-- A block lies inside the result. -/
theorem fits (b : Dev nD) : ∀ a, start 0 b a + S1x1184x1024.size a ≤ S8x1184x1024.size a := by revert b; decide
/-- So does half a block. -/
theorem fits_half (b : Dev nD) : ∀ a, start 3 b a + S1x592x1024.size a ≤ S8x1184x1024.size a := by revert b; decide

/-- What a whole block counts for. -/
abbrev NB : ℕ := (blk (start 0 0) (fits 0)).view.dmaCredit
/-- What half a block counts for. -/
abbrev NH : ℕ := (half (start 3 0) (fits_half 0)).view.dmaCredit

/-- What the copy counts for that a counter counts. -/
def amt (s : DmaSem sig) : ℕ := if s.val % 8 = 3 ∨ s.val % 8 = 4 then NH else NB
/-- It is not nothing. -/
theorem amt_pos (s : DmaSem sig) : 0 < amt s := by
  unfold amt; split
  · exact View.dmaCredit_pos _ (by decide)
  · exact View.dmaCredit_pos _ (by decide)
/-- A copy counts the same at both ends. -/
theorem amt_ends : ∀ k ∈ order, amt (outS k) = amt (inS k) := by
  intro k hk; unfold amt
  exact if_congr (by revert k; decide) rfl rfl

/-! ### What the counters give -/

/-- On device `c`, the part that comes by copy `k`, finished, in a share. -/
def filled (c : Dev nD) (q : PosShare TreeShare) (k : Fin 9) : sProp 𝕄 := ((c : Thread nD τ).loc main_v1) ↦[part c k]{q} landed m c

/-- What counter `s` of device `c` gives: a departure nothing, an arrival what it has filled. -/
def brings (c : Dev nD) (s : DmaSem sig) : sProp 𝕄 := if s.val < 8 then iprop(emp) else filled m c fullShare (copyOf s)

/-- It may be kept in an invariant. -/
instance brings_storable (c : Dev nD) (s : DmaSem sig) : BI.Storable (upEmb : UEmb _ 𝕄) (brings m c s) := by
  unfold brings filled; split <;> infer_instance

/-- One copy on each counter. -/
def plan : Rounds.Schedule (GSem nD τ sig) Unit 𝕄 where
  duties _ r := if r = 0 then Finset.univ else ∅
  amount g _ _ := match g.2 with
    | .dma s => amt s
    | .reg _ => 1
  payload g _ _ := match g.2 with
    | .dma s => brings m g.1.1 s
    | .reg _ => iprop(emp)
  amount_pos g _ _ _ := by
    show 0 < (match g.2 with | .dma s => amt s | .reg _ => 1)
    split
    · exact amt_pos _
    · exact Nat.one_pos

/-- So may whatever the plan gives. -/
instance plan_storable (g : GSem nD τ sig) (r : ℕ) (k : Unit) : BI.Storable (upEmb : UEmb _ 𝕄) ((plan m).payload g r k) := by
  show BI.Storable upEmb (match g.2 with | .dma s => brings m g.1.1 s | .reg _ => iprop(emp))
  split <;> infer_instance

/-- One copy is to be counted. -/
theorem duties_one (g : GSem nD τ sig) : (plan m).duties g 0 = Finset.univ := by dsimp only [plan]; exact if_pos rfl
/-- After it there is no other. -/
theorem duties_none (g : GSem nD τ sig) (r : ℕ) (h : 1 ≤ r) : (plan m).duties g r = ∅ := by
  dsimp only [plan]; exact if_neg fun e => by omega
/-- What the plan's copy counts for. -/
theorem amount_eq (c : Dev nD) (s : DmaSem sig) (r : ℕ) (k : Unit) : (plan m).amount (C s c) r k = amt s := rfl
/-- A counter rises by that. -/
theorem expect_eq (c : Dev nD) (s : DmaSem sig) : (plan m).expect (C s c) 0 = amt s := by
  unfold Schedule.expect Schedule.amountOf; rw [duties_one]
  exact (Finset.sum_const (amt s)).trans (by rw [smul_eq_mul]; exact Nat.one_mul _)
/-- What the plan gives on a counter. -/
theorem payload_eq (c : Dev nD) (s : DmaSem sig) (u : Unit) : (plan m).payload (C s c) 0 u = brings m c s := rfl
/-- All that a counter gives. -/
theorem all_given (c : Dev nD) (s : DmaSem sig) :
    bigSep ((plan m).duties (C s c) 0 \ ∅) (fun u => (plan m).payload (C s c) 0 u) = (brings m c s : sProp 𝕄) := by
  rw [Finset.sdiff_empty, duties_one]; exact bigSep_univ_eq_bigSepL [()] (by decide) (by decide) _
/-- A departure gives nothing. -/
theorem brings_out (c : Dev nD) (k : Fin 9) : brings m c (outS k) = iprop(emp) := by unfold brings; rw [if_pos (out_low k)]
/-- An arrival gives its part. -/
theorem brings_in (c : Dev nD) (k : Fin 9) : brings m c (inS k) = filled m c fullShare k := by unfold brings; rw [if_neg (in_high k), copyOf_in]

/-! ### What a device owes, and what it may claim -/

/-- A device owes the copies that are left. -/
def owed (c : Dev nD) : List (Fin 9) → CellTallies nD τ sig Unit
  | [] => 0
  | k :: l => owed c l + tallyAt (C (inS k) (peer k c)) () (amt (inS k))

/-- At the start it owes all eight. -/
abbrev debt (c : Dev nD) : CellTallies nD τ sig Unit := owed c order

/-- Two counters of arrivals are the same only for one copy and one device. -/
theorem same_counter {k l : Fin 9} {a b : Dev nD} : C (inS k) a = C (inS l) b ↔ k = l ∧ a = b := by
  constructor
  · intro h
    have h1 : a = b := congrArg (fun g : GSem nD τ sig => g.1.1) h
    have h2 : inS k = inS l := SemLoc.dma.inj (show SemLoc.dma (inS k) = SemLoc.dma (inS l) from congrArg Prod.snd h)
    exact ⟨by rw [← copyOf_in k, h2, copyOf_in], h1⟩
  · rintro ⟨rfl, rfl⟩; rfl

/-- What one device owes on one counter of another. -/
theorem owed_at (d c : Dev nD) (k : Fin 9) (l : List (Fin 9)) :
    owed d l (C (inS k) c) () = if d = peer k c then l.count k * amt (inS k) else 0 := by
  induction l with
  | nil => rw [List.count_nil, Nat.zero_mul, ite_self]; rfl
  | cons j l ih =>
    have h : owed d (j :: l) (C (inS k) c) () = owed d l (C (inS k) c) () + tallyAt (C (inS j) (peer j d)) () (amt (inS j)) (C (inS k) c) () := rfl
    rw [h, ih, tallyAt_apply]
    by_cases e : d = peer k c
    · rw [if_pos e, if_pos e]
      by_cases hj : k = j
      · subst hj
        rw [if_pos ⟨same_counter.mpr ⟨rfl, by rw [e, peer_peer]⟩, rfl⟩, List.count_cons_self, Nat.succ_mul]
      · rw [if_neg fun h' => hj (same_counter.mp h'.1).1, List.count_cons_of_ne (Ne.symm hj), Nat.add_zero]
    · rw [if_neg e, if_neg e, if_neg]
      rintro ⟨h', -⟩
      obtain ⟨rfl, h2⟩ := same_counter.mp h'
      exact e (by rw [h2, peer_peer])

/-- Whatever is owed is one of the copies left. -/
theorem owed_where {c : Dev nD} {l : List (Fin 9)} {g : GSem nD τ sig} {i : Unit} (h : 0 < owed c l g i) : ∃ k ∈ l, g = C (inS k) (peer k c) := by
  induction l with
  | nil => exact absurd h (Nat.lt_irrefl 0)
  | cons j l ih =>
    rcases Pipeline.add_pos_cases (show 0 < (owed c l + tallyAt (C (inS j) (peer j c)) () (amt (inS j))) g i from h) with h | h
    · obtain ⟨k, hk, e⟩ := ih h
      exact ⟨k, List.mem_cons_of_mem _ hk, e⟩
    · rw [tallyAt_apply] at h
      by_cases e : g = C (inS j) (peer j c)
      · exact ⟨j, List.mem_cons_self, e⟩
      · rw [if_neg fun h' => e h'.1] at h; exact absurd h (Nat.lt_irrefl 0)

/-- On each counter of an arrival from outside one copy is owed. -/
theorem debts (c : Dev nD) (k : Fin 9) (hk : k ∈ order) : ∑ d : Dev nD, debt d (C (inS k) c) () = amt (inS k) := by
  rw [Finset.sum_congr rfl fun d _ => owed_at d c k order, Finset.sum_ite_eq' Finset.univ (peer k c) fun _ => order.count k * amt (inS k),
    if_pos (Finset.mem_univ _), List.count_eq_one_of_mem (by decide) hk, Nat.one_mul]

/-- So a device may claim one copy on each. -/
theorem claim (c : Dev nD) : (Pipeline.launchCred debt c : sProp 𝕄) ⊢ bigSepL order fun k => cred (tallyAt (C (inS k) c) () (amt (inS k))) := by
  have h (k : Fin 9) (hk : k ∈ order) : tallyOn (C (inS k) c) (launchCredit (Pipeline.owing debt) 0 (C (inS k) c))
      = (tallyAt (C (inS k) c) () (amt (inS k)) : CellTallies nD τ sig Unit) := by
    unfold tallyAt
    refine congrArg _ (Finsupp.ext fun u => ?_)
    cases u
    rw [Pipeline.launchCredit_owing, Finsupp.single_eq_same, debts c k hk]
  unfold Pipeline.launchCred
  have hi : Function.Injective fun k : Fin 9 => (SemLoc.dma (inS k) : SemLoc sig) := fun k l e => by
    rw [← copyOf_in k, SemLoc.dma.inj e, copyOf_in]
  refine (bigSep_subset (Finset.subset_univ (order.toFinset.map ⟨_, hi⟩))).trans ?_
  rw [bigSep_map]
  refine (bigSep_mono fun k hk => ?_).trans (Entails.of_eq (bigSep_eq_bigSepL order (by decide) _))
  exact Entails.of_eq (congrArg cred (h k (List.mem_toFinset.mp hk)))

/-! ### Ranks -/

/-- The rank of a counter: first what carries a neighbour's own block, then what has been passed on once, then twice. -/
def rank (g : GSem nD τ sig) (_ : Unit) : ℕ := match g.2 with
  | .dma s => if s.val < 11 then 0 else if s.val < 15 then 1 else 2
  | .reg _ => 0

/-- Every counter has one. -/
def ranked (g : GSem nD τ sig) : Finset Unit := if g.1.2 = .tc then Finset.univ else ∅

/-- All ranks, told to everyone. -/
def ranks : sProp 𝕄 := levAts ranked rank

/-- This may be told to many. -/
instance ranks_persistent : BI.Persistent (ranks : sProp 𝕄) := by unfold ranks; infer_instance

/-- A device may wait on a counter that ranks below all that it owes. -/
theorem may_wait (c : Dev nD) (s : DmaSem sig) (l : List (Fin 9)) (h : ∀ k ∈ l, rank (C s 0) () < rank (C (inS k) 0) ()) :
    (ranks : sProp 𝕄) ⊢ MayWait (c : Thread nD τ) (.dma s) () (owed c l) :=
  Pipeline.mayWait_of_levAts (show () ∈ ranked (C s c) by unfold ranked; rw [if_pos rfl]; exact Finset.mem_univ _) fun g i hg => by
    obtain ⟨k, hk, rfl⟩ := owed_where hg
    exact ⟨by unfold ranked; rw [if_pos rfl]; exact Finset.mem_univ _, h k hk⟩

end Cert.WeightsFwd.Value

end
-- ==== Proof.Weights.Start.lean ====
module

public import proofs.«01_k».proof.Proof.Weights.Protocol

/-! How the gathering of the weights starts: every device opens its counters and tells their ranks, and lends to the others
the parts of its result that they are to fill. -/

@[expose] public section

set_option maxRecDepth 16384

noncomputable section

namespace Cert.WeightsFwd.Value

open Cert.WeightsFwd Cert.WeightsFwd.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.Exchange

variable {F : FTy → Type} [FloatOps F]

local notation "𝕄" => MT nD τ sig Unit (Elt F) ℕ UW ℕ

variable (m : (ℓ : Loc nD τ sig) → Buf (Elt F) ℓ)

/-- What every device knows: the open counters, and the ranks. -/
def common : sProp 𝕄 := iprop(known (plan m) ∗ ranks)

/-- This may be told to many. -/
instance common_persistent : BI.Persistent (common m : sProp 𝕄) := by unfold common; infer_instance

/-! ### What a device takes into the kernel -/

/-- The part of copy `k` in the result at its other end. -/
def slot (c : Dev nD) (k : Fin 9) : sProp 𝕄 :=
  ((peer k c : Thread nD τ).loc main_v1) ↦[area k (sent k c)]{fullShare} m ((peer k c : Thread nD τ).loc main_v1)

/-- A result, in any share, is its nine parts. -/
theorem by_parts (c : Dev nD) (q : PosShare TreeShare) (f : Buf (Elt F) ((c : Thread nD τ).loc main_v1)) :
    (((c : Thread nD τ).loc main_v1) ↦{q} f : sProp 𝕄) = bigSep Finset.univ fun k : Fin 9 => ((c : Thread nD τ).loc main_v1) ↦[part c k]{q} f :=
  Ring.pointsTo_blocks (ℓ := (c : Thread nD τ).loc main_v1) (part c) (parts_apart c) (parts_all c) f

/-- The parts of all results, held by those who are to fill them. -/
theorem all_slots : (bigSep Finset.univ fun c : Dev nD => (((c : Thread nD τ).loc main_v1) ↦{fullShare} m ((c : Thread nD τ).loc main_v1)) : sProp 𝕄)
    = bigSep Finset.univ fun c : Dev nD => bigSep Finset.univ (slot m c) := by
  rw [bigSep_congr fun c _ => by_parts (F := F) c fullShare (m ((c : Thread nD τ).loc main_v1)),
    by_ends (F := F) fun k c => ((c : Thread nD τ).loc main_v1) ↦[part c k]{fullShare} m ((c : Thread nD τ).loc main_v1)]
  refine bigSep_congr fun c _ => bigSep_congr fun k _ => ?_
  show (((peer k c : Thread nD τ).loc main_v1) ↦[area k (got k (peer k c))]{fullShare} m ((peer k c : Thread nD τ).loc main_v1) : sProp 𝕄) = slot m c k
  rw [got_peer]; rfl

/-- The rights to count, by the devices that make the copies. -/
theorem all_rights : (bigSep Finset.univ fun x : Name nD sig => (dutyTok EW (counter x) 0 () : sProp 𝕄))
    = iprop((bigSep Finset.univ fun c : Dev nD => bigSep Finset.univ fun k : Fin 9 => dutyTok EW (C (inS k) (peer k c)) 0 ())
      ∗ bigSep Finset.univ fun c : Dev nD => bigSepL order fun k => dutyTok EW (C (outS k) c) 0 ()) := by
  rw [← by_ends (F := F) fun k c => dutyTok EW (C (inS k) c) 0 (), ← bigSep_sep', bigSep_univ_prod]
  refine bigSep_congr fun c _ => ?_
  rw [over_counters, over_copies]

/-- What device `c` starts the kernel with: knowledge of all counters and ranks, its places on its own counters, its array, the
parts that it is to fill, and the rights to its copies. -/
def share (c : Dev nD) : sProp 𝕄 :=
  iprop(common m ∗ (bigSep Finset.univ fun s => atPos EW (C s c) 0 ∅ 0)
    ∗ (((c : Thread nD τ).loc main_arg0) ↦{fullShare} m ((c : Thread nD τ).loc main_arg0))
    ∗ bigSep Finset.univ (slot m c)
    ∗ (bigSep Finset.univ fun k : Fin 9 => dutyTok EW (C (inS k) (peer k c)) 0 ())
    ∗ bigSepL order fun k => dutyTok EW (C (outS k) c) 0 ())

/-- What a device has of its own before: counters at zero and without ranks, and two arrays. -/
def own (c : Dev nD) : sProp 𝕄 :=
  iprop(levels0 c ∗ (bigSep Finset.univ fun s => semVal (C s c) 0)
    ∗ (((c : Thread nD τ).loc main_arg0) ↦{fullShare} m ((c : Thread nD τ).loc main_arg0))
    ∗ (((c : Thread nD τ).loc main_v1) ↦{fullShare} m ((c : Thread nD τ).loc main_v1)))

/-- The counters get their ranks. -/
theorem ranking : (bigSep Finset.univ fun c : Dev nD => (levels0 c : sProp 𝕄)) ⊢ |==> ranks := by
  unfold levels0
  have h := Smoke.lev_assign_devs (nD := nD) (τ := τ) (sig := sig) (Val := Elt F) (Name := ℕ) (U := UW) (fun _ => Finset.univ) rank
  iintro H
  imod (show BIBase.Entails _ _ from h) $$ H with ⟨-, H⟩
  imodintro
  unfold ranks ranked
  iexact H

/-- The devices put together what they have, and each takes what it needs. -/
theorem dealt : iprop(ownU seed ∗ bigSep Finset.univ fun c : Dev nD => own m c) ⊢ (|={Set.univ}=> bigSep Finset.univ fun c : Dev nD => share m c : sProp 𝕄) := by
  unfold own
  rw [bigSep_sep', bigSep_sep', bigSep_sep', all_slots, ← bigSep_univ_prod (fun x : Name nD sig => (semVal (counter x) 0 : sProp 𝕄))]
  iintro ⟨Hu, Hl, Hz, Ha, Hb⟩
  imod (seeded (plan m)) $$ Hu with Hf
  imod (ranking (F := F)) $$ Hl with #Hr
  imod (all_open (plan m) (plan_storable m)) $$ [Hz Hf] with ⟨#K, Hp, Ht⟩
  · isplitl [Hz] <;> iassumption
  imodintro
  unfold share
  rw [bigSep_sep', bigSep_sep', bigSep_sep', bigSep_sep', bigSep_sep', ← all_rights, ← bigSep_univ_prod (fun x : Name nD sig => (atPos EW (counter x) 0 ∅ 0 : sProp 𝕄))]
  isplitr
  · iapply (told (common m) Finset.univ)
    unfold common
    isplitr; · iexact K
    iexact Hr
  isplitl [Hp]; · iexact Hp
  isplitl [Ha]; · iexact Ha
  isplitl [Hb] <;> iassumption

end Cert.WeightsFwd.Value

end
-- ==== Proof.Weights.Body.lean ====
module

public import proofs.«01_k».proof.Proof.Weights.Start

/-! The steps of the kernel on one device: copying its own array, passing on what has come, and waiting. -/

@[expose] public section

set_option maxRecDepth 16384

noncomputable section

namespace Cert.WeightsFwd.Value

open Cert.WeightsFwd Cert.WeightsFwd.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.Exchange

variable {F : FTy → Type} [FloatOps F]

local notation "𝕄" => MT nD τ sig Unit (Elt F) ℕ UW ℕ

variable (m : (ℓ : Loc nD τ sig) → Buf (Elt F) ℓ)

/-- The body has no loop to count down. -/
abbrev 𝒱₀ : Variants := Variants.none

/-! ### What is lent to the copies -/

/-- What is left of an array after `n` loans. -/
def left : ℕ → PosShare TreeShare
  | 0 => fullShare
  | n + 1 => (left n).right

/-- A share of device `c`'s array. -/
def held (c : Dev nD) (q : PosShare TreeShare) : sProp 𝕄 :=
  ((c : Thread nD τ).loc main_arg0) ↦{q} m ((c : Thread nD τ).loc main_arg0)

/-- A share of the array, as a copy reads it. -/
def loan (c : Dev nD) (q : PosShare TreeShare) : sProp 𝕄 :=
  src.view.loc (c : Thread nD τ) ↦[src.view.set]{q} m ((c : Thread nD τ).loc main_arg0)

/-- A share of what copy `k` is to pass on. -/
def onward (c : Dev nD) (q : PosShare TreeShare) (k : Fin 9) : sProp 𝕄 := ((c : Thread nD τ).loc main_v1) ↦[area k (sent k c)]{q} landed m c

/-- One loan more. -/
theorem lend (c : Dev nD) (n : ℕ) : held m c (left n) ⊢ iprop(loan m c (left n).left ∗ held m c (left (n + 1))) := by
  unfold held loan
  iintro H
  ihave H := ((pointsTo_share (PosShare.mem_left_op_right (left n))).1) $$ H
  icases H with ⟨Hl, Hr⟩
  isplitl [Hl]
  · ihave Hl := ((pointsTo_split_subset (Finset.subset_univ src.view.set)).1) $$ Hl
    icases Hl with ⟨Hl, -⟩
    iexact Hl
  iexact Hr

/-- Of what has come, half is kept and half may be passed on. -/
theorem halve (c : Dev nD) (q : PosShare TreeShare) (k : Fin 9) : filled m c q k ⊢ iprop(filled m c q.left k ∗ filled m c q.right k) := by
  unfold filled
  exact (pointsTo_share (PosShare.mem_left_op_right q)).1

/-- What has come by copy `j` holds what goes by copy `k`. -/
theorem pass (c : Dev nD) (q : PosShare TreeShare) (j k : Fin 9) (hb : got j c = sent k c) (h : lo j ≤ lo k ∧ hi k ≤ hi j) :
    filled m c q j ⊢ onward m c q k := by
  unfold filled onward
  have hs : area k (sent k c) ⊆ part c j := fun i hi => by
    obtain ⟨h1, h2, h3⟩ := mem_area.mp hi
    exact mem_area.mpr ⟨by rw [hb]; exact h1, by omega, by omega⟩
  iintro H
  ihave H := ((pointsTo_split_subset hs).1) $$ H
  icases H with ⟨H, -⟩
  iexact H

/-- The same blocks come by copies 1, 2 and 3, 4 as go by those that pass them on. -/
theorem passing : ∀ c : Dev nD, (got 1 c = sent 3 c ∧ got 1 c = sent 5 c) ∧ (got 2 c = sent 4 c ∧ got 2 c = sent 6 c)
    ∧ got 3 c = sent 7 c ∧ got 4 c = sent 7 c := by decide +kernel

/-- Two halves of a block make a block to pass on. -/
theorem pass_both (c : Dev nD) (q : PosShare TreeShare) : iprop(filled m c q 3 ∗ filled m c q 4) ⊢ onward m c q 7 := by
  obtain ⟨-, -, h3, h4⟩ := passing c
  have hu : area 7 (sent 7 c) = part c 3 ∪ part c 4 := Finset.ext fun i => by
    rw [Finset.mem_union, mem_area, mem_area, mem_area, h3, h4, show lo 7 = 0 from rfl, show hi 7 = 1184 from rfl, show lo 3 = 0 from rfl,
      show hi 3 = 592 from rfl, show lo 4 = 592 from rfl, show hi 4 = 1184 from rfl]
    omega
  unfold filled onward
  rw [hu]
  exact (pointsTo_union (parts_apart c 3 4 (by decide))).2

/-! ### Copies -/

/-- A device that has still to make the copies in `l` and has made those in `d`. -/
def sending (c : Dev nD) (l d : List (Fin 9)) : sProp 𝕄 :=
  iprop(bigSepL l (slot m c) ∗ (bigSepL l fun k => dutyTok EW (C (inS k) (peer k c)) 0 ())
    ∗ (bigSepL l fun k => dutyTok EW (C (outS k) c) 0 ()) ∗ (∃ W, owes (c : Thread nD τ) (owed c l) W)
    ∗ bigSepL d fun k => cred (tallyAt (C (outS k) c) () (amt (outS k))))

/-- A copy to another device, of whatever size. -/
theorem wp_copy (c n : Dev nD) (k : Fin 9) (hn : n = peer k c) (hk : k ∈ order) (l d : List (Fin 9)) {S : Shape}
    (a b : Memref sig .tc .hbm S .bf16) (hc : b.view.dmaCredit = amt (inS k)) (q : PosShare TreeShare) (fs : Buf (Elt F) (a.view.loc (c : Thread nD τ)))
    (fd : Buf (Elt F) (b.view.loc (peer k c : Thread nD τ)))
    (hs : slot m c k ⊢ b.view.loc (peer k c : Thread nD τ) ↦[b.view.set]{fullShare} fd)
    (hw : (b.view.loc (peer k c : Thread nD τ) ↦[b.view.set]{fullShare} (b.view.write (Elt F) fd (a.view.read (Elt F) fs) Finset.univ) : sProp 𝕄)
      ⊢ filled m (peer k c) fullShare k)
    {hsc : b.view.ref.isScScratch = false} {hsrc : a.view.WordExact} {hdst : b.view.WordExact}
    {hsem : DmaTarget.Typed .hbm (.dma (inS k)) (.remote (Dev.tc n : Thread nD τ) b (.dma (outS k)) hsc)}
    {α : Type} {Q : α → sProp 𝕄} {rest : PUnit → Prog (TpuEff nD τ sig (Elt F) Λ₀ .tc) α} :
    iprop(known (plan m) ∗ (a.view.loc (c : Thread nD τ) ↦[a.view.set]{q} fs) ∗ sending m c (k :: l) d)
      ⊢ iprop((sending m c l (k :: d) -∗ wp frame (wpE (defs₀ (F := F)) 𝒱₀ (c : Thread nD τ) none) Set.univ (rest ⟨⟩) Q)
          -∗ wp frame (wpE (defs₀ (F := F)) 𝒱₀ (c : Thread nD τ) none) Set.univ
              (.op (.enqueueDma a (.remote (Dev.tc n : Thread nD τ) b (.dma (outS k)) hsc) (.dma (inS k)) hsrc hdst hsem) rest) Q) := by
  subst hn
  have h₁ : (a.view.loc (c : Thread nD τ) ↦[a.view.set]{q} fs : sProp 𝕄) ⊢ (plan m).payload (C (outS k) c) 0 () := by
    rw [payload_eq, brings_out]; iintro -; iempintro
  have h₂ : (b.view.loc (peer k c : Thread nD τ) ↦[b.view.set]{fullShare} (b.view.write (Elt F) fd (a.view.read (Elt F) fs) Finset.univ) : sProp 𝕄)
      ⊢ (plan m).payload (C (inS k) (peer k c)) 0 () := by
    rw [payload_eq, brings_in]; exact hw
  have go (κ₁ κ₂ : ℕ) (W : Waits sig Unit) := Rounds.wp_send_pointsTo (src := a) (dst := b) (hsc := hsc) (hsrc := hsrc) (hdst := hdst) (hsem := hsem)
    (defs := defs₀ (F := F)) (Γ := .empty) (k := rest) (Q := Q) (Es := Set.univ) 𝒱₀ EW (plan m) (c : Thread nD τ) none
    (c' := (peer k c : Thread nD τ)) (sS := .dma (outS k)) (sem := .dma (inS k)) (κ₁ := κ₁) (κ₂ := κ₂) (q := q) (fs := fs)
    (r₁ := 0) (r₂ := 0) (d₁ := ()) (d₂ := ()) (fd := fd)
    (by rw [duties_one]; exact Finset.mem_univ _) (by rw [duties_one]; exact Finset.mem_univ _)
    () () (amt (inS k)) hc ((amount_eq m _ _ _ _).trans (amt_ends k hk)) (amount_eq m _ _ _ _) (owed c l) (show owed c (k :: l) = _ from rfl) (W := W) h₁ h₂
  unfold sending
  rw [bigSepL_cons', bigSepL_cons', bigSepL_cons', bigSepL_cons', amt_ends k hk]
  iintro ⟨#K, L, ⟨S, Ss⟩, ⟨T, Ts⟩, ⟨O, Os⟩, ⟨%W, HO⟩, Cs⟩ Hk
  ihave Kout := (known_one (plan m) (outS k) c) $$ K
  ihave Kin := (known_one (plan m) (inS k) (peer k c)) $$ K
  unfold opened
  icases Kout with ⟨⟨%κ₁, I1⟩, R1⟩
  icases Kin with ⟨⟨%κ₂, I2⟩, R2⟩
  ihave S := hs $$ S
  iapply (go κ₁ κ₂ W) $$ [I1 I2 L S HO O R1 T R2]
  · isplitl [I1]; · iexact I1
    isplitl [I2]; · iexact I2
    isplitl [L]; · iexact L
    isplitl [S]; · iexact S
    isplitl [HO]; · iexact HO
    isplitl [O]; · iexact O
    isplitl [R1]; · iexact R1
    isplitl [T] <;> iassumption
  iintro ⟨Cr, HO⟩
  iapply Hk
  isplitl [Ss]; · iexact Ss
  isplitl [Ts]; · iexact Ts
  isplitl [Os]; · iexact Os
  isplitl [HO]; · iexists W; iexact HO
  isplitl [Cr] <;> iassumption

/-- The part of a copy that carries a whole block, as the kernel names it. -/
theorem whole_area {k : Fin 9} (h3 : k ≠ 3) (h4 : k ≠ 4) (b : Dev nD) (h : ∀ a, start 0 b a + S1x1184x1024.size a ≤ S8x1184x1024.size a) :
    (blk (start 0 b) h).view.set = area k b := by
  rw [blk_set (by decide) (by decide)]
  unfold area lo hi
  rw [if_neg h3, if_neg h4]; rfl

/-- What the kernel copies whole counts as a whole block. -/
theorem blk_amt (o : Fin 3 → ℕ) (h : ∀ a, o a + S1x1184x1024.size a ≤ S8x1184x1024.size a) : (blk o h).view.dmaCredit = NB := rfl
/-- Half a block counts as half. -/
theorem half_amt (o : Fin 3 → ℕ) (h : ∀ a, o a + S1x592x1024.size a ≤ S8x1184x1024.size a) : (half o h).view.dmaCredit = NH := rfl
/-- The array counts as a block. -/
theorem src_amt : src.view.dmaCredit = NB := by decide +kernel
/-- Copies of whole blocks. -/
theorem wholes : ∀ k : Fin 9, k ∈ [0, 1, 2] ∨ k ∈ [5, 6, 7] → (k ≠ 3 ∧ k ≠ 4) ∧ k ∈ order ∧ ¬((inS k).val % 8 = 3 ∨ (inS k).val % 8 = 4) := by decide
/-- The first three carry the device's own block. -/
theorem direct : ∀ k : Fin 9, k ∈ [0, 1, 2] → ∀ c : Dev nD, sent k c = c := by decide
/-- What their counters count. -/
theorem whole_amt {k : Fin 9} (hk : k ∈ [0, 1, 2] ∨ k ∈ [5, 6, 7]) : amt (inS k) = NB := by unfold amt; exact if_neg (wholes k hk).2.2

/-- A copy of a device's own array to another device. -/
theorem wp_own (c n : Dev nD) (k : Fin 9) (hn : n = peer k c) (hk : k ∈ [0, 1, 2]) (l d : List (Fin 9)) (o : Fin 3 → ℕ)
    (h : ∀ a, o a + S1x1184x1024.size a ≤ S8x1184x1024.size a) (ho : o = start 0 (sent 0 c)) (q : PosShare TreeShare)
    {hsc : (blk o h).view.ref.isScScratch = false} {hsrc : src.view.WordExact} {hdst : (blk o h).view.WordExact}
    {hsem : DmaTarget.Typed .hbm (.dma (inS k)) (.remote (Dev.tc n : Thread nD τ) (blk o h) (.dma (outS k)) hsc)}
    {α : Type} {Q : α → sProp 𝕄} {rest : PUnit → Prog (TpuEff nD τ sig (Elt F) Λ₀ .tc) α} :
    iprop(known (plan m) ∗ loan m c q ∗ sending m c (k :: l) d)
      ⊢ iprop((sending m c l (k :: d) -∗ wp frame (wpE (defs₀ (F := F)) 𝒱₀ (c : Thread nD τ) none) Set.univ (rest ⟨⟩) Q)
          -∗ wp frame (wpE (defs₀ (F := F)) 𝒱₀ (c : Thread nD τ) none) Set.univ
              (.op (.enqueueDma src (.remote (Dev.tc n : Thread nD τ) (blk o h) (.dma (outS k)) hsc) (.dma (inS k)) hsrc hdst hsem) rest) Q) := by
  have h0 : ∀ c : Dev nD, sent 0 c = c := by decide
  rw [h0] at ho
  subst ho
  have hs : sent k c = c := direct k hk c
  have hi := wholes k (Or.inl hk)
  have ha : (blk (start 0 c) h).view.set = area k c := whole_area hi.1.1 hi.1.2 c h
  refine wp_copy m c n k hn hi.2.1 l d src (blk (start 0 c) h) (whole_amt (Or.inl hk)).symm q (m ((c : Thread nD τ).loc main_arg0))
    (m ((peer k c : Thread nD τ).loc main_v1)) ?_ ?_
  · unfold slot; rw [hs, ha]
  · unfold filled part; rw [got_peer, hs, ← ha]
    exact Entails.of_eq (pointsTo_congr fun i hi => copied m c (peer k c) h _ i hi)

/-- A copy that passes on a block. -/
theorem wp_onward (c n : Dev nD) (k : Fin 9) (hn : n = peer k c) (hk : k ∈ [5, 6, 7]) (l d : List (Fin 9)) (o : Fin 3 → ℕ)
    (h : ∀ a, o a + S1x1184x1024.size a ≤ S8x1184x1024.size a) (ho : o = start 0 (sent k c)) (q : PosShare TreeShare)
    {hsc : (blk o h).view.ref.isScScratch = false} {hsrc hdst : (blk o h).view.WordExact}
    {hsem : DmaTarget.Typed .hbm (.dma (inS k)) (.remote (Dev.tc n : Thread nD τ) (blk o h) (.dma (outS k)) hsc)}
    {α : Type} {Q : α → sProp 𝕄} {rest : PUnit → Prog (TpuEff nD τ sig (Elt F) Λ₀ .tc) α} :
    iprop(known (plan m) ∗ onward m c q k ∗ sending m c (k :: l) d)
      ⊢ iprop((sending m c l (k :: d) -∗ wp frame (wpE (defs₀ (F := F)) 𝒱₀ (c : Thread nD τ) none) Set.univ (rest ⟨⟩) Q)
          -∗ wp frame (wpE (defs₀ (F := F)) 𝒱₀ (c : Thread nD τ) none) Set.univ
              (.op (.enqueueDma (blk o h) (.remote (Dev.tc n : Thread nD τ) (blk o h) (.dma (outS k)) hsc) (.dma (inS k)) hsrc hdst hsem) rest) Q) := by
  subst ho
  have hi := wholes k (Or.inr hk)
  have ha : (blk (start 0 (sent k c)) h).view.set = area k (sent k c) := whole_area hi.1.1 hi.1.2 _ h
  unfold onward; rw [← ha]
  refine wp_copy m c n k hn hi.2.1 l d (blk (start 0 (sent k c)) h) (blk (start 0 (sent k c)) h) (whole_amt (Or.inr hk)).symm q (landed m c)
    (m ((peer k c : Thread nD τ).loc main_v1)) ?_ ?_
  · unfold slot; rw [ha]
  · unfold filled part; rw [got_peer, ← ha]
    exact Entails.of_eq (pointsTo_congr fun i hi => passed_blk m _ h c (peer k c) _ i hi)

/-- A copy that passes on half a block. -/
theorem wp_half (c n : Dev nD) (k : Fin 9) (hn : n = peer k c) (hk : k = 3 ∨ k = 4) (l d : List (Fin 9)) (o : Fin 3 → ℕ)
    (h : ∀ a, o a + S1x592x1024.size a ≤ S8x1184x1024.size a) (ho : o = start k (sent k c)) (q : PosShare TreeShare)
    {hsc : (half o h).view.ref.isScScratch = false} {hsrc hdst : (half o h).view.WordExact}
    {hsem : DmaTarget.Typed .hbm (.dma (inS k)) (.remote (Dev.tc n : Thread nD τ) (half o h) (.dma (outS k)) hsc)}
    {α : Type} {Q : α → sProp 𝕄} {rest : PUnit → Prog (TpuEff nD τ sig (Elt F) Λ₀ .tc) α} :
    iprop(known (plan m) ∗ onward m c q k ∗ sending m c (k :: l) d)
      ⊢ iprop((sending m c l (k :: d) -∗ wp frame (wpE (defs₀ (F := F)) 𝒱₀ (c : Thread nD τ) none) Set.univ (rest ⟨⟩) Q)
          -∗ wp frame (wpE (defs₀ (F := F)) 𝒱₀ (c : Thread nD τ) none) Set.univ
              (.op (.enqueueDma (half o h) (.remote (Dev.tc n : Thread nD τ) (half o h) (.dma (outS k)) hsc) (.dma (inS k)) hsrc hdst hsem) rest) Q) := by
  subst ho
  have ha := half_set hk (sent k c) h
  unfold onward; rw [← ha]
  refine wp_copy m c n k hn (by rcases hk with rfl | rfl <;> decide) l d (half (start k (sent k c)) h) (half (start k (sent k c)) h)
    (by rcases hk with rfl | rfl <;> rfl) q (landed m c) (m ((peer k c : Thread nD τ).loc main_v1)) ?_ ?_
  · unfold slot; rw [ha]
  · unfold filled part; rw [got_peer, ← ha]
    exact Entails.of_eq (pointsTo_congr fun i hi => passed_half m _ h c (peer k c) _ i hi)

/-- The copy within the device. -/
theorem wp_self (c : Dev nD) (o : Fin 3 → ℕ) (h : ∀ a, o a + S1x1184x1024.size a ≤ S8x1184x1024.size a) (ho : o = start 0 (sent 0 c)) (q : PosShare TreeShare)
    {hsrc : src.view.WordExact} {hdst : (blk o h).view.WordExact}
    {hsem : DmaTarget.Typed (nD := nD) .hbm (.dma (inS 8)) (DmaTarget.here (τ := τ) (p := .tc) (blk o h))}
    {α : Type} {Q : α → sProp 𝕄} {rest : PUnit → Prog (TpuEff nD τ sig (Elt F) Λ₀ .tc) α} :
    iprop(known (plan m) ∗ loan m c q ∗ slot m c 8 ∗ dutyTok EW (C (inS 8) (peer 8 c)) 0 ())
      ⊢ iprop((cred (tallyAt (C (inS 8) c) () (amt (inS 8))) -∗ wp frame (wpE (defs₀ (F := F)) 𝒱₀ (c : Thread nD τ) none) Set.univ (rest ⟨⟩) Q)
          -∗ wp frame (wpE (defs₀ (F := F)) 𝒱₀ (c : Thread nD τ) none) Set.univ
              (.op (.enqueueDma src (.here (blk o h)) (.dma (inS 8)) hsrc hdst hsem) rest) Q) := by
  have h0 : ∀ c : Dev nD, sent 0 c = c ∧ sent 8 c = c := by decide
  rw [(h0 c).1] at ho
  subst ho
  have ha : (blk (start 0 c) h).view.set = area 8 c := whole_area (by decide) (by decide) c h
  have hf : iprop(((blk (start 0 c) h).view.loc (c : Thread nD τ) ↦[(blk (start 0 c) h).view.set]{fullShare}
      ((blk (start 0 c) h).view.write (Elt F) (m ((c : Thread nD τ).loc main_v1)) (src.view.read (Elt F) (m ((c : Thread nD τ).loc main_arg0))) Finset.univ))
        ∗ (src.view.loc (c : Thread nD τ) ↦[src.view.set]{q} m ((c : Thread nD τ).loc main_arg0)))
      ⊢ ((plan m).payload (C (inS 8) c) 0 () : sProp 𝕄) := by
    rw [payload_eq, brings_in]; unfold filled part got; rw [peer_self, (h0 c).2, ← ha]
    iintro ⟨H, -⟩
    iapply (Entails.of_eq (pointsTo_congr fun i hi => copied m c c h (m ((c : Thread nD τ).loc main_v1)) i hi)); iexact H
  have go (κ : ℕ) := Rounds.wp_copy_pointsTo (src := src) (dst := blk (start 0 c) h) (hsrc := hsrc) (hdst := hdst) (hsem := hsem)
    (defs := defs₀ (F := F)) (Γ := .empty) (k := rest) (Q := Q) (Es := Set.univ) 𝒱₀ EW (plan m) (c : Thread nD τ) none
    (sem := .dma (inS 8)) (κ := κ) (q := q) (fs := m ((c : Thread nD τ).loc main_arg0)) (fd := m ((c : Thread nD τ).loc main_v1))
    (r := 0) (d := ()) (by rw [duties_one]; exact Finset.mem_univ _) () (amt (inS 8)) rfl (amount_eq m _ _ _ _) hf
  unfold slot
  rw [peer_self, (h0 c).2, ← ha]
  iintro ⟨#K, L, S, T⟩ Hk
  ihave Kin := (known_one (plan m) (inS 8) c) $$ K
  unfold opened
  icases Kin with ⟨⟨%κ, I⟩, R⟩
  iapply (go κ) $$ [I L S T R]
  · isplitl [I]; · iexact I
    isplitl [L]; · unfold loan; iexact L
    isplitl [S]; · iexact S
    isplitl [T] <;> iassumption
  iintro Cr
  iapply Hk; iexact Cr

/-! ### Waits -/

/-- What a wait on a counter needs: the place on it, and a claim to its copy. -/
def due (c : Dev nD) (s : DmaSem sig) : sProp 𝕄 := iprop(atPos EW (C s c) 0 ∅ 0 ∗ cred (tallyAt (C s c) () (amt s)))

/-- A wait on a counter that ranks below all that is owed: it gives what the counter brings and leaves it at zero. -/
theorem wp_wait (c : Dev nD) (s : DmaSem sig) (l d : List (Fin 9)) (h : ∀ k ∈ l, rank (C s 0) () < rank (C (inS k) 0) ()) {S : Shape}
    {a b : Memref sig .tc .hbm S .bf16} (hb : b.view.dmaCredit = amt s)
    {ha : a.view.WordExact} {hb' : b.view.WordExact} {α : Type} {Q : α → sProp 𝕄} {rest : PUnit → Prog (TpuEff nD τ sig (Elt F) Λ₀ .tc) α} :
    iprop(common m ∗ due c s ∗ sending m c l d)
      ⊢ iprop(((sending m c l d ∗ brings m c s ∗ semVal (C s c) 0)
            -∗ wp frame (wpE (defs₀ (F := F)) 𝒱₀ (c : Thread nD τ) none) Set.univ (rest ⟨⟩) Q)
          -∗ wp frame (wpE (defs₀ (F := F)) 𝒱₀ (c : Thread nD τ) none) Set.univ (.op (.waitDma2 s a b ha hb') rest) Q) := by
  unfold common due sending
  iintro ⟨⟨#K, #R⟩, ⟨A, Cr⟩, Ss, Ts, Os, ⟨%W, HO⟩, Cs⟩ Hk
  ihave Ks := (known_one (plan m) s c) $$ K
  unfold opened
  icases Ks with ⟨⟨%κ, #I⟩, -⟩
  iapply (Rounds.wp_wait_rest_token 𝒱₀ EW (plan m) (c : Thread nD τ) none (κ := κ) (k' := b.view.dmaCredit)
      (wpE_waitDma2_eq 𝒱₀ (c : Thread nD τ) none Set.univ) (Set.mem_univ _) () (O := owed c l) (W := W) (R := 0) (m := 0) (T := ∅)
      ((Nat.zero_add _).trans (hb.trans (expect_eq m _ _).symm))) $$ [Cr HO A]
  · isplitr; · iexact I
    isplitl [Cr]; · rw [hb]; iexact Cr
    isplitl [HO]; · iexact HO
    isplitr; · iapply (may_wait c s l h); iexact R
    iexact A
  iintro ⟨HO, A, -, Hp⟩
  imod (Rounds.cell_close EW (plan m) (Set.mem_univ κ) (fun h => h) (R := 0 + 1) (duties_none m (C s c))) $$ [A] with Z
  · isplitr; · iexact I
    iexact A
  iapply Hk
  isplitr [Hp Z]
  · isplitl [Ss]; · iexact Ss
    isplitl [Ts]; · iexact Ts
    isplitl [Os]; · iexact Os
    isplitl [HO]; · iexists _; iexact HO
    iexact Cs
  isplitl [Hp]; · iapply (Entails.of_eq (all_given m c s)); iexact Hp
  iexact Z

/-- What a whole copy's counter counts. -/
theorem amt_whole (s : DmaSem sig) (h : ¬(s.val % 8 = 3 ∨ s.val % 8 = 4)) : amt s = NB := if_neg h
/-- What a half's counter counts. -/
theorem amt_half (s : DmaSem sig) (h : s.val % 8 = 3 ∨ s.val % 8 = 4) : amt s = NH := if_pos h

/-- The wait for copy `k` to come. Half of the part is kept, and half may be passed on. -/
theorem wp_come (c : Dev nD) (k : Fin 9) (l d : List (Fin 9)) (h : ∀ j ∈ l, rank (C (inS k) 0) () < rank (C (inS j) 0) ()) {S : Shape}
    {a b : Memref sig .tc .hbm S .bf16} {N : ℕ} (hb : b.view.dmaCredit = N) (hN : amt (inS k) = N)
    {ha : a.view.WordExact} {hb' : b.view.WordExact} {α : Type} {Q : α → sProp 𝕄} {rest : PUnit → Prog (TpuEff nD τ sig (Elt F) Λ₀ .tc) α} :
    iprop(common m ∗ due c (inS k) ∗ sending m c l d)
      ⊢ iprop(((sending m c l d ∗ (filled m c fullShare.left k ∗ filled m c fullShare.right k) ∗ semVal (C (inS k) c) 0)
            -∗ wp frame (wpE (defs₀ (F := F)) 𝒱₀ (c : Thread nD τ) none) Set.univ (rest ⟨⟩) Q)
          -∗ wp frame (wpE (defs₀ (F := F)) 𝒱₀ (c : Thread nD τ) none) Set.univ (.op (.waitDma2 (inS k) a b ha hb') rest) Q) := by
  iintro H Hk
  iapply (wp_wait m c (inS k) l d h (hb.trans hN.symm)) $$ H
  rw [brings_in]
  iintro ⟨St, Hf, Z⟩
  iapply Hk
  isplitl [St]; · iexact St
  isplitl [Hf]; · iapply (halve m c fullShare k); iexact Hf
  iexact Z

/-- The wait for copy `k` to have left, when nothing is owed any more. -/
theorem wp_gone (c : Dev nD) (k : Fin 9) {S : Shape} {a b : Memref sig .tc .hbm S .bf16} {N : ℕ} (hb : b.view.dmaCredit = N) (hN : amt (outS k) = N)
    {ha : a.view.WordExact} {hb' : b.view.WordExact} {α : Type} {Q : α → sProp 𝕄} {rest : PUnit → Prog (TpuEff nD τ sig (Elt F) Λ₀ .tc) α} :
    iprop(common m ∗ due c (outS k) ∗ sending m c [] [])
      ⊢ iprop(((sending m c [] [] ∗ semVal (C (outS k) c) 0) -∗ wp frame (wpE (defs₀ (F := F)) 𝒱₀ (c : Thread nD τ) none) Set.univ (rest ⟨⟩) Q)
          -∗ wp frame (wpE (defs₀ (F := F)) 𝒱₀ (c : Thread nD τ) none) Set.univ (.op (.waitDma2 (outS k) a b ha hb') rest) Q) := by
  iintro H Hk
  iapply (wp_wait m c (outS k) [] [] (fun _ h => nomatch h) (hb.trans hN.symm)) $$ H
  iintro ⟨St, -, Z⟩
  iapply Hk
  isplitl [St] <;> iassumption

end Cert.WeightsFwd.Value

end
-- ==== Proof.Weights.Kernel.lean ====
module

public import proofs.«01_k».proof.Proof.Weights.Body

/-! The whole kernel on one device: every step, one after the other. -/

@[expose] public section

set_option maxRecDepth 16384

noncomputable section

namespace Cert.WeightsFwd.Value

open Cert.WeightsFwd Cert.WeightsFwd.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.Exchange

variable {F : FTy → Type} [FloatOps F]

local notation "𝕄" => MT nD τ sig Unit (Elt F) ℕ UW ℕ

variable (m : (ℓ : Loc nD τ sig) → Buf (Elt F) ℓ)

/-- What a device ends with: what it kept of its array, half of its result, and its counters at zero. -/
def kept (c : Dev nD) : sProp 𝕄 :=
  iprop(held m c (left 4) ∗ (((c : Thread nD τ).loc main_v1) ↦{fullShare.left} landed m c) ∗ bigSep Finset.univ fun s => semVal (C s c) 0)

/-- Two things for each copy are two times one thing. -/
theorem paired (Φ Ψ : Fin 9 → sProp 𝕄) : (bigSepL order fun k => iprop(Φ k ∗ Ψ k)) = iprop(bigSepL order Φ ∗ bigSepL order Ψ) := by
  rw [← bigSep_eq_bigSepL order (by decide), ← bigSep_eq_bigSepL order (by decide), ← bigSep_eq_bigSepL order (by decide), bigSep_sep']

/-- One thing for each copy to another device, copy by copy. -/
theorem each (Φ : Fin 9 → sProp 𝕄) : bigSepL order Φ = iprop(Φ 0 ∗ Φ 1 ∗ Φ 2 ∗ Φ 3 ∗ Φ 5 ∗ Φ 4 ∗ Φ 6 ∗ Φ 7) := rfl

/-- The places and the claims of the arrivals, counter by counter. -/
theorem arrivals (c : Dev nD) : iprop((bigSepL order fun k => atPos EW (C (inS k) c) 0 ∅ 0) ∗ bigSepL order fun k => cred (tallyAt (C (inS k) c) () (amt (inS k))))
    ⊢ (iprop(due c (inS 0) ∗ due c (inS 1) ∗ due c (inS 2) ∗ due c (inS 3) ∗ due c (inS 5) ∗ due c (inS 4) ∗ due c (inS 6) ∗ due c (inS 7)) : sProp 𝕄) := by
  rw [← each (F := F) fun k => due c (inS k)]; unfold due; rw [paired]

/-- When all copies have been made, all may be waited for. -/
theorem all_sent (c : Dev nD) : iprop(sending m c [] [7, 6, 4, 5, 3, 2, 1, 0] ∗ bigSepL order fun k => atPos EW (C (outS k) c) 0 ∅ 0)
    ⊢ iprop(sending m c [] [] ∗ due c (outS 0) ∗ due c (outS 1) ∗ due c (outS 2) ∗ due c (outS 3) ∗ due c (outS 5) ∗ due c (outS 4) ∗ due c (outS 6) ∗ due c (outS 7)) := by
  rw [← each (F := F) fun k => due c (outS k)]
  have ht (Φ : Fin 9 → sProp 𝕄) : bigSepL [7, 6, 4, 5, 3, 2, 1, 0] Φ = bigSepL order Φ := by
    rw [← bigSep_eq_bigSepL [7, 6, 4, 5, 3, 2, 1, 0] (by decide), ← bigSep_eq_bigSepL order (by decide), show ([7, 6, 4, 5, 3, 2, 1, 0] : List (Fin 9)).toFinset = order.toFinset by decide]
  unfold sending due
  rw [ht, paired]
  iintro ⟨⟨S, T, O, HO, Cs⟩, A⟩
  isplitl [S T O HO]
  · isplitl [S]; · iexact S
    isplitl [T]; · iexact T
    isplitl [O]; · iexact O
    isplitl [HO]; · iexact HO
    iempintro
  isplitl [A] <;> iassumption

/-- All parts make up the result, and all counters are at zero. -/
theorem all_come (c : Dev nD) : iprop(held m c (left 4) ∗ (filled m c fullShare.left 8 ∗ bigSepL order (filled m c fullShare.left))
      ∗ (semVal (C (inS 8) c) 0 ∗ bigSepL order fun k => semVal (C (inS k) c) 0) ∗ bigSepL order fun k => semVal (C (outS k) c) 0)
    ⊢ kept m c := by
  unfold kept
  rw [by_parts, over_copies, over_counters]
  exact BI.Entails.refl _

set_option maxHeartbeats 6400000 in
/-- The kernel on device `c`. -/
theorem sound (c : Dev nD) (W : Waits sig Unit) (K : PUnit → sProp 𝕄) :
    iprop((share m c ∗ (bigSepL order fun k => cred (tallyAt (C (inS k) c) () (amt (inS k)))) ∗ owes (c : Thread nD τ) (debt c) W)
        ∗ ((kept m c ∗ ∃ W', owes (c : Thread nD τ) 0 W') -∗ K ⟨⟩))
      ⊢ wp frame (wpE (defs₀ (F := F)) 𝒱₀ (c : Thread nD τ) none) Set.univ
          (cc0_gather_weights (Memref.whole main_arg0) (Memref.isWhole_whole _) (Memref.whole main_v1) (Memref.isWhole_whole _)
            cc0_scratch0 cc0_scratch1 cc0_scratch2) K := by
  rw [cc0_gather_weights_eq_skeleton]; unfold cc0_gather_weights_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  unfold share
  rw [over_counters, over_copies, over_copies]
  iintro ⟨⟨⟨#Km, ⟨⟨A8, Ai⟩, Ao⟩, Ha, ⟨S8, Ss⟩, ⟨T8, Ts⟩, To⟩, Ci, HO⟩, Hk⟩
  ihave #Kn := (show common m ⊢ known (plan m) by unfold common; iintro ⟨H, -⟩; iexact H) $$ Km
  ihave Ha := (lend m c 0) $$ [Ha]
  · unfold held left; iexact Ha
  icases Ha with ⟨L8, Ha⟩
  ihave Ha := (lend m c 1) $$ Ha
  icases Ha with ⟨L0, Ha⟩
  ihave Ha := (lend m c 2) $$ Ha
  icases Ha with ⟨L1, Ha⟩
  ihave Ha := (lend m c 3) $$ Ha
  icases Ha with ⟨L2, Ha⟩
  ihave Ds := (arrivals (F := F) c) $$ [Ai Ci]
  · isplitl [Ai] <;> iassumption
  icases Ds with ⟨D0, D1, D2, D3, D5, D4, D6, D7⟩
  ihave St := (show iprop(bigSepL order (slot m c) ∗ (bigSepL order fun k => dutyTok EW (C (inS k) (peer k c)) 0 ())
    ∗ (bigSepL order fun k => dutyTok EW (C (outS k) c) 0 ()) ∗ (∃ W, owes (c : Thread nD τ) (debt c) W) ∗ emp) ⊢ sending m c order [] from BI.Entails.refl _) $$ [Ss Ts To HO]
  · isplitl [Ss]; · iexact Ss
    isplitl [Ts]; · iexact Ts
    isplitl [To]; · iexact To
    isplitl [HO]; · iexists W; iexact HO
    iempintro
  iapply (wp_self m c (k0_off1 c) (k0_off1_inb c) (begins c).1.1 (left 0).left) $$ [L8 S8 T8]
  · isplitr; · iexact Kn
    isplitl [L8]; · iexact L8
    isplitl [S8] <;> iassumption
  iintro C8
  iapply (wp_own m c _ 0 (targets c).1 (by decide) [1, 2, 3, 5, 4, 6, 7] [] (k0_off1 c) (k0_off1_inb c) (begins c).1.1 ((left 1).left)) $$ [L0 St]
  · isplitr; · iexact Kn
    isplitl [L0] <;> iassumption
  iintro St
  iapply (wp_own m c _ 1 (targets c).2.1 (by decide) [2, 3, 5, 4, 6, 7] [0] (k0_off1 c) (k0_off1_inb c) (begins c).1.1 ((left 2).left)) $$ [L1 St]
  · isplitr; · iexact Kn
    isplitl [L1] <;> iassumption
  iintro St
  iapply (wp_own m c _ 2 (targets c).2.2.1 (by decide) [3, 5, 4, 6, 7] [1, 0] (k0_off1 c) (k0_off1_inb c) (begins c).1.1 ((left 3).left)) $$ [L2 St]
  · isplitr; · iexact Kn
    isplitl [L2] <;> iassumption
  iintro St
  iapply (wp_come m c 1 [3, 5, 4, 6, 7] [2, 1, 0] (by decide) (blk_amt (k0_off2 c) (k0_off2_inb c)) (amt_whole _ (by decide))) $$ [D1 St]
  · isplitr; · iexact Km
    isplitl [D1] <;> iassumption
  iintro ⟨St, ⟨F1, G1⟩, Z1⟩
  ihave G1 := (halve m c fullShare.right 1) $$ G1
  icases G1 with ⟨G5, G3⟩
  ihave G5 := (pass m c _ 1 5 (passing c).1.2 (by decide)) $$ G5
  ihave G3 := (pass m c _ 1 3 (passing c).1.1 (by decide)) $$ G3
  iapply (wp_half m c _ 3 (targets c).2.2.2.1 (by decide) [5, 4, 6, 7] [2, 1, 0] (k0_off3 c) (k0_off3_inb c) (begins c).1.2.1 (fullShare.right.right)) $$ [G3 St]
  · isplitr; · iexact Kn
    isplitl [G3] <;> iassumption
  iintro St
  iapply (wp_onward m c _ 5 (targets c).2.2.2.2.1 (by decide) [4, 6, 7] [3, 2, 1, 0] (k0_off2 c) (k0_off2_inb c) (begins c).2.1 (fullShare.right.left)) $$ [G5 St]
  · isplitr; · iexact Kn
    isplitl [G5] <;> iassumption
  iintro St
  iapply (wp_come m c 2 [4, 6, 7] [5, 3, 2, 1, 0] (by decide) (blk_amt (k0_off4 c) (k0_off4_inb c)) (amt_whole _ (by decide))) $$ [D2 St]
  · isplitr; · iexact Km
    isplitl [D2] <;> iassumption
  iintro ⟨St, ⟨F2, G2⟩, Z2⟩
  ihave G2 := (halve m c fullShare.right 2) $$ G2
  icases G2 with ⟨G6, G4⟩
  ihave G6 := (pass m c _ 2 6 (passing c).2.1.2 (by decide)) $$ G6
  ihave G4 := (pass m c _ 2 4 (passing c).2.1.1 (by decide)) $$ G4
  iapply (wp_half m c _ 4 (targets c).2.2.2.2.2.1 (by decide) [6, 7] [5, 3, 2, 1, 0] (k0_off5 c) (k0_off5_inb c) (begins c).1.2.2 (fullShare.right.right)) $$ [G4 St]
  · isplitr; · iexact Kn
    isplitl [G4] <;> iassumption
  iintro St
  iapply (wp_onward m c _ 6 (targets c).2.2.2.2.2.2.1 (by decide) [7] [4, 5, 3, 2, 1, 0] (k0_off4 c) (k0_off4_inb c) (begins c).2.2.1 (fullShare.right.left)) $$ [G6 St]
  · isplitr; · iexact Kn
    isplitl [G6] <;> iassumption
  iintro St
  iapply (wp_come m c 3 [7] [6, 4, 5, 3, 2, 1, 0] (by decide) (half_amt (k0_off6 c) (k0_off6_inb c)) (amt_half _ (by decide))) $$ [D3 St]
  · isplitr; · iexact Km
    isplitl [D3] <;> iassumption
  iintro ⟨St, ⟨F3, G3⟩, Z3⟩
  iapply (wp_come m c 4 [7] [6, 4, 5, 3, 2, 1, 0] (by decide) (half_amt (k0_off7 c) (k0_off7_inb c)) (amt_half _ (by decide))) $$ [D4 St]
  · isplitr; · iexact Km
    isplitl [D4] <;> iassumption
  iintro ⟨St, ⟨F4, G4⟩, Z4⟩
  ihave G7 := (pass_both m c fullShare.right) $$ [G3 G4]
  · isplitl [G3] <;> iassumption
  iapply (wp_onward m c _ 7 (targets c).2.2.2.2.2.2.2 (by decide) [] [6, 4, 5, 3, 2, 1, 0] (k0_off8 c) (k0_off8_inb c) (begins c).2.2.2 (fullShare.right)) $$ [G7 St]
  · isplitr; · iexact Kn
    isplitl [G7] <;> iassumption
  iintro St
  ihave St := (all_sent m c) $$ [St Ao]
  · isplitl [St] <;> iassumption
  icases St with ⟨St, E0, E1, E2, E3, E5, E4, E6, E7⟩
  iapply (wp_come m c 0 [] [] (by decide) (blk_amt (k0_off9 c) (k0_off9_inb c)) (amt_whole _ (by decide))) $$ [D0 St]
  · isplitr; · iexact Km
    isplitl [D0] <;> iassumption
  iintro ⟨St, ⟨F0, G0⟩, Z0⟩
  iapply (wp_come m c 5 [] [] (by decide) (blk_amt (k0_off10 c) (k0_off10_inb c)) (amt_whole _ (by decide))) $$ [D5 St]
  · isplitr; · iexact Km
    isplitl [D5] <;> iassumption
  iintro ⟨St, ⟨F5, G5⟩, Z5⟩
  iapply (wp_come m c 6 [] [] (by decide) (blk_amt (k0_off11 c) (k0_off11_inb c)) (amt_whole _ (by decide))) $$ [D6 St]
  · isplitr; · iexact Km
    isplitl [D6] <;> iassumption
  iintro ⟨St, ⟨F6, G6⟩, Z6⟩
  iapply (wp_come m c 7 [] [] (by decide) (blk_amt (k0_off12 c) (k0_off12_inb c)) (amt_whole _ (by decide))) $$ [D7 St]
  · isplitr; · iexact Km
    isplitl [D7] <;> iassumption
  iintro ⟨St, ⟨F7, G7⟩, Z7⟩
  iapply (wp_gone m c 0 src_amt (amt_whole _ (by decide))) $$ [E0 St]
  · isplitr; · iexact Km
    isplitl [E0] <;> iassumption
  iintro ⟨St, O0⟩
  iapply (wp_gone m c 1 src_amt (amt_whole _ (by decide))) $$ [E1 St]
  · isplitr; · iexact Km
    isplitl [E1] <;> iassumption
  iintro ⟨St, O1⟩
  iapply (wp_gone m c 2 src_amt (amt_whole _ (by decide))) $$ [E2 St]
  · isplitr; · iexact Km
    isplitl [E2] <;> iassumption
  iintro ⟨St, O2⟩
  iapply (wp_gone m c 3 (half_amt (k0_off3 c) (k0_off3_inb c)) (amt_half _ (by decide))) $$ [E3 St]
  · isplitr; · iexact Km
    isplitl [E3] <;> iassumption
  iintro ⟨St, O3⟩
  iapply (wp_gone m c 5 (blk_amt (k0_off2 c) (k0_off2_inb c)) (amt_whole _ (by decide))) $$ [E5 St]
  · isplitr; · iexact Km
    isplitl [E5] <;> iassumption
  iintro ⟨St, O5⟩
  iapply (wp_gone m c 4 (half_amt (k0_off5 c) (k0_off5_inb c)) (amt_half _ (by decide))) $$ [E4 St]
  · isplitr; · iexact Km
    isplitl [E4] <;> iassumption
  iintro ⟨St, O4⟩
  iapply (wp_gone m c 6 (blk_amt (k0_off4 c) (k0_off4_inb c)) (amt_whole _ (by decide))) $$ [E6 St]
  · isplitr; · iexact Km
    isplitl [E6] <;> iassumption
  iintro ⟨St, O6⟩
  iapply (wp_gone m c 7 (blk_amt (k0_off8 c) (k0_off8_inb c)) (amt_whole _ (by decide))) $$ [E7 St]
  · isplitr; · iexact Km
    isplitl [E7] <;> iassumption
  iintro ⟨St, O7⟩
  iapply (wp_come m c 8 [] [] (by decide) (blk_amt (k0_off1 c) (k0_off1_inb c)) (amt_whole _ (by decide))) $$ [A8 C8 St]
  · isplitr; · iexact Km
    isplitr [St]
    · unfold due
      isplitl [A8] <;> iassumption
    iexact St
  iintro ⟨St, ⟨F8, -⟩, Z8⟩
  rw [wp_ret]; imodintro
  iapply Hk
  isplitr [St]
  · iapply (all_come m c)
    isplitl [Ha]; · iexact Ha
    isplitl [F8 F0 F1 F2 F3 F5 F4 F6 F7]
    · isplitl [F8]; · iexact F8
      iapply (show iprop(filled m c fullShare.left 0 ∗ filled m c fullShare.left 1 ∗ filled m c fullShare.left 2 ∗ filled m c fullShare.left 3 ∗ filled m c fullShare.left 5 ∗ filled m c fullShare.left 4 ∗ filled m c fullShare.left 6 ∗ filled m c fullShare.left 7) ⊢ bigSepL order (filled m c fullShare.left) from BI.Entails.refl _)
      isplitl [F0]; · iexact F0
      isplitl [F1]; · iexact F1
      isplitl [F2]; · iexact F2
      isplitl [F3]; · iexact F3
      isplitl [F5]; · iexact F5
      isplitl [F4]; · iexact F4
      isplitl [F6]; · iexact F6
      iexact F7
    isplitl [Z8 Z0 Z1 Z2 Z3 Z5 Z4 Z6 Z7]
    · isplitl [Z8]; · iexact Z8
      iapply (show iprop(semVal (C (inS 0) c) 0 ∗ semVal (C (inS 1) c) 0 ∗ semVal (C (inS 2) c) 0 ∗ semVal (C (inS 3) c) 0 ∗ semVal (C (inS 5) c) 0 ∗ semVal (C (inS 4) c) 0 ∗ semVal (C (inS 6) c) 0 ∗ semVal (C (inS 7) c) 0) ⊢ (bigSepL order fun k => semVal (C (inS k) c) 0 : sProp 𝕄) from BI.Entails.refl _)
      isplitl [Z0]; · iexact Z0
      isplitl [Z1]; · iexact Z1
      isplitl [Z2]; · iexact Z2
      isplitl [Z3]; · iexact Z3
      isplitl [Z5]; · iexact Z5
      isplitl [Z4]; · iexact Z4
      isplitl [Z6]; · iexact Z6
      iexact Z7
    iapply (show iprop(semVal (C (outS 0) c) 0 ∗ semVal (C (outS 1) c) 0 ∗ semVal (C (outS 2) c) 0 ∗ semVal (C (outS 3) c) 0 ∗ semVal (C (outS 5) c) 0 ∗ semVal (C (outS 4) c) 0 ∗ semVal (C (outS 6) c) 0 ∗ semVal (C (outS 7) c) 0) ⊢ (bigSepL order fun k => semVal (C (outS k) c) 0 : sProp 𝕄) from BI.Entails.refl _)
    isplitl [O0]; · iexact O0
    isplitl [O1]; · iexact O1
    isplitl [O2]; · iexact O2
    isplitl [O3]; · iexact O3
    isplitl [O5]; · iexact O5
    isplitl [O4]; · iexact O4
    isplitl [O6]; · iexact O6
    iexact O7
  unfold sending
  icases St with ⟨-, -, -, HO, -⟩
  iexact HO

end Cert.WeightsFwd.Value

end
-- ==== Proof.Weights.Run.lean ====
module

public import proofs.«01_k».proof.Proof.Weights.Kernel

/-! The weights are gathered on all eight devices: what each starts from, its one call, and what the memory holds at the end. -/

@[expose] public section

set_option maxRecDepth 16384

noncomputable section

namespace Cert.WeightsFwd.Value

open Cert.WeightsFwd Cert.WeightsFwd.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UW ℕ

variable (m : (ℓ : Loc nD τ sig) → Buf (Elt F) ℓ) (ρ : Dev nD → PrngReg)

/-! ### The call -/

/-- What the kernel starts from on device `c`. -/
def ready (c : Dev nD) : sProp 𝕄 := iprop(share m c ∗ bigSepL order fun k => cred (tallyAt (C (inS k) c) () (amt (inS k))))

/-- The call's proof data: nothing is staged, the debt is there before the one step and gone after it. -/
def data (_ : Fin 1) (c : Dev nD) : Dat τ (Elt F) Unit ℕ UW ℕ cfg0 c where
  A w := m ((cfg0.win w).arr.view.loc (c : Thread nD τ))
  after w _ := Fin.elim0 (show Fin 0 from w)
  Φ t := if t.val = 0 then ready m c else kept m c
  q _ := fullShare
  owed t := if t.val = 0 then debt c else 0

/-- Nothing is staged, so there is nothing to hold for it. -/
theorem unstaged (Φ : Fin cfg0.W → sProp 𝕄) : (iprop(emp) : sProp 𝕄) = bigSep Finset.univ Φ := (bigSep_univ_eq_bigSepL [] (by decide) (by decide) Φ).symm

/-- The kernel does what the call's data say. -/
theorem body (c : Dev nD) : BodyObligation (data m 0 c) (defs₀ (F := F)) 𝒱₀ () Set.univ := fun t => by
  rw [fin_N0 t]
  show iprop(ready m c ∗ (data m 0 c).owesAt () t0_0.castSucc ∗ _) ⊢ wp frame (wpE defs₀ 𝒱₀ c none) Set.univ
    (cc0_gather_weights (Memref.whole main_arg0) (Memref.isWhole_whole _) (Memref.whole main_v1) (Memref.isWhole_whole _)
      cc0_scratch0 cc0_scratch1 cc0_scratch2)
    (fun _ => iprop(kept m c ∗ (data m 0 c).owesAt () t0_0.succ ∗ _))
  rw [← unstaged, ← unstaged]
  unfold ready Dat.owesAt Pipeline.owesWithin
  rw [show (data m 0 c).owed t0_0.castSucc = debt c from rfl, show (data m 0 c).owed t0_0.succ = 0 from rfl]
  iintro ⟨⟨Hs, Hc⟩, ⟨%W, -, HO⟩, -⟩
  iapply (sound m c W)
  isplitl [Hs Hc HO]
  · isplitl [Hs]; · iexact Hs
    isplitl [Hc] <;> iassumption
  iintro ⟨Hk, ⟨%W', HO⟩⟩
  isplitl [Hk]; · iexact Hk
  isplitl [HO]
  · iexists W'
    isplitr; · ipureintro; exact fun _ _ => Or.inl trivial
    iexact HO
  iempintro

/-! ### What a device holds around its call -/

/-- The counters that belong to the call are all there are. -/
theorem counters_eq (c : Dev nD) : (scopedSems0 (c : Thread nD τ) : sProp 𝕄) = bigSep Finset.univ fun s => semVal (C s c) 0 := by
  have e : (Finset.univ.filter fun s : SemLoc sig => s.isScoped .tc = true)
      = Finset.univ.map ⟨fun s : DmaSem sig => SemLoc.dma s, fun _ _ => SemLoc.dma.inj⟩ := by decide
  rw [show (scopedSems0 (c : Thread nD τ) : sProp 𝕄) = _ from scopedSems0_tc c]
  refine (congrArg (fun S => bigSep S fun s : SemLoc sig => (semVal ((c : Thread nD τ), s) 0 : sProp 𝕄)) e).trans ?_
  rw [bigSep_map]
  rfl

/-- A device's two arrays, of all that it holds outside the call. -/
theorem arrays_of (c : Dev nD) : (unscopedBufs c (fun b => m ((c : Thread nD τ).loc b)) : sProp 𝕄)
    ⊢ iprop((((c : Thread nD τ).loc main_arg0) ↦{fullShare} m ((c : Thread nD τ).loc main_arg0))
      ∗ (((c : Thread nD τ).loc main_v1) ↦{fullShare} m ((c : Thread nD τ).loc main_v1))) := by
  rw [Pipeline.unscopedBufs_split cfgs 0 winFacts0.arr_unscoped winFacts0.arr_inj c, unscopedRest0_eq]
  iintro ⟨-, H⟩
  iexact H

/-- The two arrays at the end: the one copied, of which something was kept, and the result. -/
def result (c : Dev nD) : sProp 𝕄 := iprop(held m c (left 4) ∗ (((c : Thread nD τ).loc main_v1) ↦{fullShare.left} landed m c))

/-- What the memory at the start gives to one device. -/
theorem start_one (c : Dev nD) : coreInit (Ix := Unit) (Name := ℕ) (U := UW) (Lvl := ℕ) (Pipeline.owing debt) 0
      (⟨m, fun _ => 0, ρ⟩ : MemSt nD τ sig (Elt F)) (c : Thread nD τ)
    ⊢ iprop(own m c ∗ scopedBufs (c : Thread nD τ) ∗ owes (c : Thread nD τ) (debt c) ∅ ∗ bigSepL order fun k => cred (tallyAt (C (inS k) c) () (amt (inS k)))) := by
  refine (Pipeline.coreInit_boundary_owing debt m ρ c).trans ?_
  unfold boundary own
  rw [counters_eq]
  iintro ⟨⟨Hb, Hz, -⟩, Ha, -, HO, Hl, -, Hc⟩
  isplitl [Hl Hz Ha]
  · isplitl [Hl]; · iexact Hl
    isplitl [Hz]; · iexact Hz
    iapply (arrays_of m c); iexact Ha
  isplitl [Hb]; · iexact Hb
  isplitl [HO]; · iexact HO
  iapply (claim (F := F) c); iexact Hc

/-! ### The run -/

/-- The call's buffers are none. -/
theorem buffers (c : Dev nD) : (scopedBufs (c : Thread nD τ) : sProp 𝕄) = iprop(Dat.staging cfg0 c ∗ emp) := by
  rw [Pipeline.scopedBufs_split cfgs 0 winFacts0.stage_scoped winFacts0.stage_inj stage_whole0 c, scopedRest0_eq]
  rfl

/-- The kernel keeps the result and gives back the counters. -/
theorem ended (c : Dev nD) : iprop(kept m c ∗ Pipeline.cellsSems0 cfgs 0 c ∗ Dat.staging cfg0 c)
      ⊢ iprop(result m c ∗ scopedSems0 (c : Thread nD τ) ∗ scopedBufs (c : Thread nD τ)) := by
  rw [counters_eq, buffers]
  unfold kept result
  iintro ⟨⟨Ha, Hv, Hz⟩, -, Hst⟩
  isplitl [Ha Hv]
  · isplitl [Ha] <;> iassumption
  isplitl [Hz]; · iexact Hz
  isplitl [Hst]; · iexact Hst
  iempintro

/-- The run: every device keeps its array and ends with all eight, and every counter ends at zero. -/
theorem run : θ_run (defs (F := F)) (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = landed m c) ∧ r.2.sem = fun _ => 0) :=
  haveI : IsEmpty (Fin (cfgs 0).W) := Fin.isEmpty
  Exchange.run m ρ (defs (F := F)) (main (F := F)) (Variants.lift 𝒱₀) debt Exchange.seed
    (fun c => iprop(scopedBufs (c : Thread nD τ) ∗ owes (c : Thread nD τ) (debt c) ∅ ∗ ready m c))
    (fun c => iprop(result m c ∗ scopedSems0 (c : Thread nD τ)))
    (fun c f => f ((c : Thread nD τ).loc main_arg0) = m ((c : Thread nD τ).loc main_arg0) ∧ f ((c : Thread nD τ).loc main_v1) = landed m c) (by decide)
    (Exchange.start m ρ debt Exchange.seed (own m) (share m) _ (start_one m ρ) (dealt m))
    (fun c => Exchange.device cfgs (data m) EL defs₀ 𝒱₀ cellOf_inj c (result m) (body m c) rfl (buffers c) (ended m c))
    (fun c s => Exchange.read c _ _ (left 4) fullShare.left _ _ s)

end Cert.WeightsFwd.Value

end
-- ==== Proof.Weights.Claims.lean ====
module

public import proofs.«01_k».proof.Defs
public import proofs.«01_k».proof.Proof.Gen.WeightsFwdIdeal
public import proofs.«01_k».proof.Proof.Gen.WeightsRefIdeal.Run
public import proofs.«01_k».proof.Proof.Gen.WeightsRefIdeal.Read
public import proofs.«01_k».proof.Proof.Weights.Run

/-! The claims about the gathering of the weights from the eight devices. -/

@[expose] public section

set_option maxRecDepth 16384

noncomputable section

namespace Cert.Proof

open Idealize.ShloMosaic Idealize.SL.Sem

open Cert

/-- The gathering ends, leaves every device's array, and leaves every counter at zero. -/
theorem weights_frame : Cert.quiescent_WeightsFwd := fun m ρ _ =>
  (θ_run _ _ _).mono (fun _ h => ⟨fun c => (h.1 c).1, h.2⟩) (WeightsFwd.Value.run m ρ)

/-- Idealizing changes nothing in the kernel's body. -/
theorem weights_bodies : WeightsFwd.defs₀ (F := Ideal) = WeightsFwdIdeal.defs₀ (F := Ideal) :=
  congrArg Defs.onTc (funext fun l => match l with | ⟨0, _⟩ => rfl)

/-- Nor in what the devices run with. -/
theorem weights_defs : WeightsFwd.defs (F := Ideal) = WeightsFwdIdeal.defs (F := Ideal) := congrArg (Pipeline.defs WeightsFwd.pcfgs) weights_bodies

/-- So the idealized gathering ends as the gathering does. -/
theorem weights_ideal (m : (ℓ : Loc WeightsFwd.nD WeightsFwd.τ WeightsFwd.sig) → Buf (Elt Ideal) ℓ) (ρ : Dev WeightsFwd.nD → PrngReg) :
    θ_run (WeightsFwdIdeal.defs (F := Ideal)) (onTc (τ := WeightsFwdIdeal.τ) (WeightsFwdIdeal.main (F := Ideal))) ⟨m, fun _ => 0, ρ⟩ (fun r =>
      (∀ c : Dev WeightsFwd.nD, r.2.mem ((c.tc : Thread WeightsFwd.nD WeightsFwd.τ).loc WeightsFwd.main_arg0) = m ((c.tc : Thread WeightsFwd.nD WeightsFwd.τ).loc WeightsFwd.main_arg0)
        ∧ r.2.mem ((c.tc : Thread WeightsFwd.nD WeightsFwd.τ).loc WeightsFwd.main_v1) = WeightsFwd.Value.landed m c) ∧ r.2.sem = fun _ => 0) :=
  weights_defs ▸ WeightsFwd.Value.run (F := Ideal) m ρ

/-- The idealized gathering ends, too, with the arrays and the counters in order. -/
theorem weights_frame_ideal : Cert.quiescent_WeightsFwdIdeal := fun m ρ _ =>
  (θ_run _ _ _).mono (fun _ h => ⟨fun c => (h.1 c).1, h.2⟩) (weights_ideal m ρ)

/-- The reference ends and leaves its argument. -/
theorem weights_frame_ref : Cert.quiescent_WeightsRefIdeal := by
  intro m ρ _
  exact (θ_run _ _ _).mono (fun r h => ⟨fun c => (h c).2, sem_eq_zero_of_no_sems (by decide) r.2⟩)
    (Cert.WeightsRefIdeal.Value.run m ρ)

/-- Where the reference finds entry `i` of its result: in row `i 1` of the block of device `i 0`. -/
theorem weights_place (i : WeightsRefIdeal.S8x1184x1024.Idx) :
    Layout.Tiles.idx (S := ⟨2, ![1184, 1024]⟩) (T := ⟨2, ![9472, 1024]⟩) (a := 0) (k := 8) (by decide) (i 0) (WeightsFwd.Value.within i)
      = WeightsRefIdeal.Read.idx_main_v0 i := by
  have h1 : (i 1).val < 1184 := (i 1).isLt
  have h2 : (i 2).val < 1024 := (i 2).isLt
  refine funext fun a => Fin.ext ?_
  match a with
  | ⟨0, _⟩ =>
    show (i 0).val * 1184 + (i 1).val = (((i 0).val * 1184 + (i 1).val) * 1024 + (i 2).val) / 1024
    omega
  | ⟨1, _⟩ =>
    show (i 2).val = (((i 0).val * 1184 + (i 1).val) * 1024 + (i 2).val) % 1024
    omega

/-- Every device ends with the reference's result. -/
theorem weights_value : Cert.algebraic_WeightsFwdIdeal_WeightsRefIdeal := by
  intro m g m' g' _ hagree
  refine ⟨WeightsRefIdeal.Read.val_main_v0 (F := Ideal) (m' (((0 : Dev WeightsRefIdeal.nD).tc : Thread WeightsRefIdeal.nD WeightsRefIdeal.τ).loc WeightsRefIdeal.main_arg0)),
    (θ_run _ _ _).mono (fun r h c => ⟨((h.1 c).2).trans ?_, (h.1 c).1⟩) (weights_ideal m g),
    (θ_run _ _ _).mono (fun r h => ⟨(h 0).1.trans (WeightsRefIdeal.Read.val_main_v0_eq _), (h 0).2⟩) (WeightsRefIdeal.Value.run m' g')⟩
  refine funext fun i => Eq.trans ?_ (WeightsRefIdeal.Read.val_main_v0_apply _ i).symm
  refine (congrFun (hagree (show Dev WeightsFwd.nD from i 0)) (WeightsFwd.Value.within i)).trans ?_
  exact congrArg (m' (((0 : Dev WeightsRefIdeal.nD).tc : Thread WeightsRefIdeal.nD WeightsRefIdeal.τ).loc WeightsRefIdeal.main_arg0)) (weights_place i)

end Cert.Proof

end
-- ==== Proof.lean ====
/- The claims of the calls together. Each call has a directory of modules of its own, of which the last,
   `Claims`, proves the call's frames and its value claim. -/
module

public import proofs.«01_k».proof.Defs
public import proofs.«01_k».proof.Proof.Gen.PreBwd
public import proofs.«01_k».proof.Proof.Gen.PreBwdIdeal
public import proofs.«01_k».proof.Proof.Gen.PreRefIdeal
public import proofs.«01_k».proof.Proof.Gen.PreBwdIdeal.Value
public import proofs.«01_k».proof.Proof.Gen.PreRefIdeal.Run
public import proofs.«01_k».proof.Proof.Gen.PreRefIdeal.Read
public import proofs.«01_k».proof.Proof.Pre.Claims
public import proofs.«01_k».proof.Proof.Gen.PostBwd
public import proofs.«01_k».proof.Proof.Gen.PostBwdIdeal
public import proofs.«01_k».proof.Proof.Gen.PostRefIdeal
public import proofs.«01_k».proof.Proof.Gen.PostBwdIdeal.Value
public import proofs.«01_k».proof.Proof.Gen.PostRefIdeal.Run
public import proofs.«01_k».proof.Proof.Gen.PostRefIdeal.Read
public import proofs.«01_k».proof.Proof.Post.Claims
public import proofs.«01_k».proof.Proof.Gen.LossBwd
public import proofs.«01_k».proof.Proof.Gen.LossBwdIdeal
public import proofs.«01_k».proof.Proof.Gen.LossRefIdeal
public import proofs.«01_k».proof.Proof.Gen.LossBwdIdeal.Value
public import proofs.«01_k».proof.Proof.Gen.LossRefIdeal.Run
public import proofs.«01_k».proof.Proof.Gen.LossRefIdeal.Read
public import proofs.«01_k».proof.Proof.Loss.Claims
public import proofs.«01_k».proof.Proof.Gen.MergeBwd
public import proofs.«01_k».proof.Proof.Gen.MergeBwdIdeal
public import proofs.«01_k».proof.Proof.Gen.MergeRefIdeal
public import proofs.«01_k».proof.Proof.Gen.MergeBwdIdeal.Value
public import proofs.«01_k».proof.Proof.Gen.MergeRefIdeal.Run
public import proofs.«01_k».proof.Proof.Gen.MergeRefIdeal.Read
public import proofs.«01_k».proof.Proof.Merge.Claims
public import proofs.«01_k».proof.Proof.Gen.ConvBwd
public import proofs.«01_k».proof.Proof.Gen.ConvBwdIdeal
public import proofs.«01_k».proof.Proof.Gen.ConvRefIdeal
public import proofs.«01_k».proof.Proof.Gen.ConvBwdIdeal.Value
public import proofs.«01_k».proof.Proof.Gen.ConvRefIdeal.Run
public import proofs.«01_k».proof.Proof.Gen.ConvRefIdeal.Read
public import proofs.«01_k».proof.Proof.Conv.Claims
public import proofs.«01_k».proof.Proof.Gen.InFwd
public import proofs.«01_k».proof.Proof.Gen.InFwdIdeal
public import proofs.«01_k».proof.Proof.Gen.InRefIdeal
public import proofs.«01_k».proof.Proof.Gen.InFwdIdeal.Value
public import proofs.«01_k».proof.Proof.Gen.InRefIdeal.Run
public import proofs.«01_k».proof.Proof.Gen.InRefIdeal.Read
public import proofs.«01_k».proof.Proof.In.Claims
public import proofs.«01_k».proof.Proof.Gen.OutFwd
public import proofs.«01_k».proof.Proof.Gen.OutFwdIdeal
public import proofs.«01_k».proof.Proof.Gen.OutRefIdeal
public import proofs.«01_k».proof.Proof.Gen.OutFwdIdeal.Value
public import proofs.«01_k».proof.Proof.Gen.OutRefIdeal.Run
public import proofs.«01_k».proof.Proof.Gen.OutRefIdeal.Read
public import proofs.«01_k».proof.Proof.Out.Claims
public import proofs.«01_k».proof.Proof.Gen.UpFwd
public import proofs.«01_k».proof.Proof.Gen.UpFwdIdeal
public import proofs.«01_k».proof.Proof.Gen.UpRefIdeal
public import proofs.«01_k».proof.Proof.Gen.UpFwdIdeal.Value
public import proofs.«01_k».proof.Proof.Gen.UpRefIdeal.Run
public import proofs.«01_k».proof.Proof.Gen.UpRefIdeal.Read
public import proofs.«01_k».proof.Proof.Up.Claims
public import proofs.«01_k».proof.Proof.Gen.MixFwd
public import proofs.«01_k».proof.Proof.Gen.MixFwdIdeal
public import proofs.«01_k».proof.Proof.Gen.MixRefIdeal
public import proofs.«01_k».proof.Proof.Gen.MixFwdIdeal.Value
public import proofs.«01_k».proof.Proof.Gen.MixRefIdeal.Run
public import proofs.«01_k».proof.Proof.Mix.Claims
public import proofs.«01_k».proof.Proof.Gen.MmBwd
public import proofs.«01_k».proof.Proof.Gen.MmBwdIdeal
public import proofs.«01_k».proof.Proof.Gen.MmRefIdeal
public import proofs.«01_k».proof.Proof.Gen.MmBwdIdeal.Value
public import proofs.«01_k».proof.Proof.Gen.MmRefIdeal.Run
public import proofs.«01_k».proof.Proof.Gen.MmRefIdeal.Read
public import proofs.«01_k».proof.Proof.Mm.Claims
public import proofs.«01_k».proof.Proof.Gen.MultiBwd
public import proofs.«01_k».proof.Proof.Gen.MultiBwdIdeal
public import proofs.«01_k».proof.Proof.Gen.MultiRefIdeal
public import proofs.«01_k».proof.Proof.Gen.MultiBwdIdeal.Value
public import proofs.«01_k».proof.Proof.Gen.MultiRefIdeal.Run
public import proofs.«01_k».proof.Proof.Gen.MultiRefIdeal.Read
public import proofs.«01_k».proof.Proof.Multi.Claims
public import proofs.«01_k».proof.Proof.Gen.ColsBwd
public import proofs.«01_k».proof.Proof.Gen.ColsBwdIdeal
public import proofs.«01_k».proof.Proof.Gen.ColsRefIdeal
public import proofs.«01_k».proof.Proof.Gen.ColsBwdIdeal.Value
public import proofs.«01_k».proof.Proof.Gen.ColsRefIdeal.Run
public import proofs.«01_k».proof.Proof.Gen.ColsRefIdeal.Read
public import proofs.«01_k».proof.Proof.Cols.Claims
public import proofs.«01_k».proof.Proof.Gen.AdamBwd
public import proofs.«01_k».proof.Proof.Gen.AdamBwdIdeal
public import proofs.«01_k».proof.Proof.Gen.AdamRefIdeal
public import proofs.«01_k».proof.Proof.Gen.AdamRefIdeal.Run
public import proofs.«01_k».proof.Proof.Gen.AdamRefIdeal.Read
public import proofs.«01_k».proof.Proof.Adam.Claims
public import proofs.«01_k».proof.Proof.Gen.PackBwd
public import proofs.«01_k».proof.Proof.Gen.PackBwdIdeal
public import proofs.«01_k».proof.Proof.Gen.PackRefIdeal
public import proofs.«01_k».proof.Proof.Gen.PackBwdIdeal.Value
public import proofs.«01_k».proof.Proof.Gen.PackRefIdeal.Run
public import proofs.«01_k».proof.Proof.Gen.PackRefIdeal.Read
public import proofs.«01_k».proof.Proof.Pack.Claims
public import proofs.«01_k».proof.Proof.Gen.PairBwd
public import proofs.«01_k».proof.Proof.Gen.PairBwdIdeal
public import proofs.«01_k».proof.Proof.Gen.PairRefIdeal
public import proofs.«01_k».proof.Proof.Gen.PairRefIdeal.Run
public import proofs.«01_k».proof.Proof.Gen.PairRefIdeal.Read
public import proofs.«01_k».proof.Proof.Pair.Claims
public import proofs.«01_k».proof.Proof.Gen.ReduceBwd
public import proofs.«01_k».proof.Proof.Gen.ReduceBwdIdeal
public import proofs.«01_k».proof.Proof.Gen.ReduceRefIdeal
public import proofs.«01_k».proof.Proof.Gen.ReduceRefIdeal.Run
public import proofs.«01_k».proof.Proof.Gen.ReduceRefIdeal.Read
public import proofs.«01_k».proof.Proof.Reduce.Claims
public import proofs.«01_k».proof.Proof.Gen.GatherBwd
public import proofs.«01_k».proof.Proof.Gen.GatherBwdIdeal
public import proofs.«01_k».proof.Proof.Gen.GatherRefIdeal
public import proofs.«01_k».proof.Proof.Gen.GatherRefIdeal.Run
public import proofs.«01_k».proof.Proof.Gen.GatherRefIdeal.Read
public import proofs.«01_k».proof.Proof.Gather.Claims
public import proofs.«01_k».proof.Proof.Gen.WeightsFwd
public import proofs.«01_k».proof.Proof.Gen.WeightsFwdIdeal
public import proofs.«01_k».proof.Proof.Gen.WeightsRefIdeal
public import proofs.«01_k».proof.Proof.Gen.WeightsRefIdeal.Run
public import proofs.«01_k».proof.Proof.Gen.WeightsRefIdeal.Read
public import proofs.«01_k».proof.Proof.Weights.Claims
public import proofs.«01_k».proof.Proof.Gen.Pre_conv_finite

@[expose] public section

noncomputable section

namespace Cert.Proof

/-- Every claim of the certificate. No rule rewrites any program, so what the idealization preserves is plain. -/
theorem claim : Cert.Claim := ⟨Cert.PreBwd.Gen.facts, Cert.PreBwdIdeal.Gen.facts, Cert.PreRefIdeal.Gen.facts, Cert.PostBwd.Gen.facts, Cert.PostBwdIdeal.Gen.facts, Cert.PostRefIdeal.Gen.facts, Cert.LossBwd.Gen.facts, Cert.LossBwdIdeal.Gen.facts, Cert.LossRefIdeal.Gen.facts, Cert.MergeBwd.Gen.facts, Cert.MergeBwdIdeal.Gen.facts, Cert.MergeRefIdeal.Gen.facts, Cert.ConvBwd.Gen.facts, Cert.ConvBwdIdeal.Gen.facts, Cert.ConvRefIdeal.Gen.facts, Cert.InFwd.Gen.facts, Cert.InFwdIdeal.Gen.facts, Cert.InRefIdeal.Gen.facts, Cert.OutFwd.Gen.facts, Cert.OutFwdIdeal.Gen.facts, Cert.OutRefIdeal.Gen.facts, Cert.UpFwd.Gen.facts, Cert.UpFwdIdeal.Gen.facts, Cert.UpRefIdeal.Gen.facts, Cert.MixFwd.Gen.facts, Cert.MixFwdIdeal.Gen.facts, Cert.MixRefIdeal.Gen.facts, Cert.MmBwd.Gen.facts, Cert.MmBwdIdeal.Gen.facts, Cert.MmRefIdeal.Gen.facts, Cert.MultiBwd.Gen.facts, Cert.MultiBwdIdeal.Gen.facts, Cert.MultiRefIdeal.Gen.facts, Cert.ColsBwd.Gen.facts, Cert.ColsBwdIdeal.Gen.facts, Cert.ColsRefIdeal.Gen.facts, Cert.AdamBwd.Gen.facts, Cert.AdamBwdIdeal.Gen.facts, Cert.AdamRefIdeal.Gen.facts, Cert.PackBwd.Gen.facts, Cert.PackBwdIdeal.Gen.facts, Cert.PackRefIdeal.Gen.facts, Cert.PairBwd.Gen.facts, Cert.PairBwdIdeal.Gen.facts, Cert.PairRefIdeal.Gen.facts, Cert.ReduceBwd.Gen.facts, Cert.ReduceBwdIdeal.Gen.facts, Cert.ReduceRefIdeal.Gen.facts, Cert.GatherBwd.Gen.facts, Cert.GatherBwdIdeal.Gen.facts, Cert.GatherRefIdeal.Gen.facts, Cert.WeightsFwd.Gen.facts, Cert.WeightsFwdIdeal.Gen.facts, Cert.WeightsRefIdeal.Gen.facts, Cert.Pre_conv_finite.Gen.facts,
  pre_frame, pre_frame_ideal, pre_frame_ref,
  post_frame, post_frame_ideal, post_frame_ref,
  loss_frame, loss_frame_ideal, loss_frame_ref,
  merge_frame, merge_frame_ideal, merge_frame_ref,
  conv_frame, conv_frame_ideal, conv_frame_ideal_pre, conv_frame_ref, conv_frame_ref_pre,
  in_frame, in_frame_ideal, in_frame_ref,
  out_frame, out_frame_ideal, out_frame_ref,
  up_frame, up_frame_ideal, up_frame_ref,
  mix_frame, mix_frame_ideal, mix_frame_ref,
  mm_frame, mm_frame_ideal, mm_frame_ref,
  multi_frame, multi_frame_ideal, multi_frame_ref,
  cols_frame, cols_frame_ideal, cols_frame_ref,
  adam_frame, adam_frame_ideal, adam_frame_ref,
  pack_frame, pack_frame_ideal, pack_frame_ref,
  pair_frame, pair_frame_ideal, pair_frame_ref,
  reduce_frame, reduce_frame_ideal, reduce_frame_ref,
  gather_frame, gather_frame_ideal, gather_frame_ref,
  weights_frame, weights_frame_ideal, weights_frame_ref,
  trivial, pre_value, trivial, post_value, trivial, loss_value, trivial, merge_value, trivial, conv_value, trivial, in_value, trivial, out_value, trivial, up_value, trivial, mix_value, trivial, mm_value, trivial, multi_value, trivial, cols_value, trivial, adam_value, trivial, pack_value, trivial, pair_value, trivial, reduce_value, trivial, gather_value, trivial, weights_value⟩

end Cert.Proof

end
